-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsRefIdeal (m : (ℓ : Loc Cert.WeightsRefIdeal.nD Cert.WeightsRefIdeal.τ Cert.WeightsRefIdeal.sig) → Buf (Elt Ideal) ℓ) : Prop :=
  True

def Pre_WeightsRef (m : (ℓ : Loc Cert.WeightsRef.nD Cert.WeightsRef.τ Cert.WeightsRef.sig) → Buf (Elt Bits) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInRefIdeal (m : (ℓ : Loc Cert.UpdateInRefIdeal.nD Cert.UpdateInRefIdeal.τ Cert.UpdateInRefIdeal.sig) → Buf (Elt Ideal) ℓ) : Prop :=
  True

def Pre_UpdateSquare (m : (ℓ : Loc Cert.UpdateSquare.nD Cert.UpdateSquare.τ Cert.UpdateSquare.sig) → Buf (Elt Bits) ℓ) : Prop :=
  True

def Pre_UpdateSquareIdeal (m : (ℓ : Loc Cert.UpdateSquareIdeal.nD Cert.UpdateSquareIdeal.τ Cert.UpdateSquareIdeal.sig) → Buf (Elt Ideal) ℓ) : Prop :=
  True

def Pre_UpdateSquareRefIdeal (m : (ℓ : Loc Cert.UpdateSquareRefIdeal.nD Cert.UpdateSquareRefIdeal.τ Cert.UpdateSquareRefIdeal.sig) → Buf (Elt Ideal) ℓ) : Prop :=
  True

def Pre_UpdateUp (m : (ℓ : Loc Cert.UpdateUp.nD Cert.UpdateUp.τ Cert.UpdateUp.sig) → Buf (Elt Bits) ℓ) : Prop :=
  True

def Pre_UpdateUpIdeal (m : (ℓ : Loc Cert.UpdateUpIdeal.nD Cert.UpdateUpIdeal.τ Cert.UpdateUpIdeal.sig) → Buf (Elt Ideal) ℓ) : Prop :=
  True

def Pre_UpdateUpRefIdeal (m : (ℓ : Loc Cert.UpdateUpRefIdeal.nD Cert.UpdateUpRefIdeal.τ Cert.UpdateUpRefIdeal.sig) → Buf (Elt Ideal) ℓ) : Prop :=
  True

def Pre_UpdateDown (m : (ℓ : Loc Cert.UpdateDown.nD Cert.UpdateDown.τ Cert.UpdateDown.sig) → Buf (Elt Bits) ℓ) : Prop :=
  True

def Pre_UpdateDownIdeal (m : (ℓ : Loc Cert.UpdateDownIdeal.nD Cert.UpdateDownIdeal.τ Cert.UpdateDownIdeal.sig) → Buf (Elt Ideal) ℓ) : Prop :=
  True

def Pre_UpdateDownRefIdeal (m : (ℓ : Loc Cert.UpdateDownRefIdeal.nD Cert.UpdateDownRefIdeal.τ Cert.UpdateDownRefIdeal.sig) → Buf (Elt Ideal) ℓ) : Prop :=
  True

def Pre_UpdateSmall (m : (ℓ : Loc Cert.UpdateSmall.nD Cert.UpdateSmall.τ Cert.UpdateSmall.sig) → Buf (Elt Bits) ℓ) : Prop :=
  True

def Pre_UpdateSmallIdeal (m : (ℓ : Loc Cert.UpdateSmallIdeal.nD Cert.UpdateSmallIdeal.τ Cert.UpdateSmallIdeal.sig) → Buf (Elt Ideal) ℓ) : Prop :=
  True

def Pre_UpdateSmallRefIdeal (m : (ℓ : Loc Cert.UpdateSmallRefIdeal.nD Cert.UpdateSmallRefIdeal.τ Cert.UpdateSmallRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Key (m : (ℓ : Loc Cert.Key.nD Cert.Key.τ Cert.Key.sig) → Buf (Elt Bits) ℓ) : Prop :=
  True

def Pre_KeyIdeal (m : (ℓ : Loc Cert.KeyIdeal.nD Cert.KeyIdeal.τ Cert.KeyIdeal.sig) → Buf (Elt Ideal) ℓ) : Prop :=
  True

def Pre_KeyRefIdeal (m : (ℓ : Loc Cert.KeyRefIdeal.nD Cert.KeyRefIdeal.τ Cert.KeyRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_BackDown (m : (ℓ : Loc Cert.BackDown.nD Cert.BackDown.τ Cert.BackDown.sig) → Buf (Elt Bits) ℓ) : Prop :=
  True

def Pre_BackDownIdeal (m : (ℓ : Loc Cert.BackDownIdeal.nD Cert.BackDownIdeal.τ Cert.BackDownIdeal.sig) → Buf (Elt Ideal) ℓ) : Prop :=
  True

def Pre_BackDownRefIdeal (m : (ℓ : Loc Cert.BackDownRefIdeal.nD Cert.BackDownRefIdeal.τ Cert.BackDownRefIdeal.sig) → Buf (Elt Ideal) ℓ) : Prop :=
  True

def Pre_BackSquare (m : (ℓ : Loc Cert.BackSquare.nD Cert.BackSquare.τ Cert.BackSquare.sig) → Buf (Elt Bits) ℓ) : Prop :=
  True

def Pre_BackSquareIdeal (m : (ℓ : Loc Cert.BackSquareIdeal.nD Cert.BackSquareIdeal.τ Cert.BackSquareIdeal.sig) → Buf (Elt Ideal) ℓ) : Prop :=
  True

def Pre_BackSquareRefIdeal (m : (ℓ : Loc Cert.BackSquareRefIdeal.nD Cert.BackSquareRefIdeal.τ Cert.BackSquareRefIdeal.sig) → Buf (Elt Ideal) ℓ) : Prop :=
  True

def Pre_BackHeads (m : (ℓ : Loc Cert.BackHeads.nD Cert.BackHeads.τ Cert.BackHeads.sig) → Buf (Elt Bits) ℓ) : Prop :=
  True

def Pre_BackHeadsIdeal (m : (ℓ : Loc Cert.BackHeadsIdeal.nD Cert.BackHeadsIdeal.τ Cert.BackHeadsIdeal.sig) → Buf (Elt Ideal) ℓ) : Prop :=
  True

def Pre_BackHeadsRefIdeal (m : (ℓ : Loc Cert.BackHeadsRefIdeal.nD Cert.BackHeadsRefIdeal.τ Cert.BackHeadsRefIdeal.sig) → Buf (Elt Ideal) ℓ) : Prop :=
  True

def Pre_BackKey (m : (ℓ : Loc Cert.BackKey.nD Cert.BackKey.τ Cert.BackKey.sig) → Buf (Elt Bits) ℓ) : Prop :=
  True

def Pre_BackKeyIdeal (m : (ℓ : Loc Cert.BackKeyIdeal.nD Cert.BackKeyIdeal.τ Cert.BackKeyIdeal.sig) → Buf (Elt Ideal) ℓ) : Prop :=
  True

def Pre_BackKeyRefIdeal (m : (ℓ : Loc Cert.BackKeyRefIdeal.nD Cert.BackKeyRefIdeal.τ Cert.BackKeyRefIdeal.sig) → Buf (Elt Ideal) ℓ) : Prop :=
  True

def Pre_BackValue (m : (ℓ : Loc Cert.BackValue.nD Cert.BackValue.τ Cert.BackValue.sig) → Buf (Elt Bits) ℓ) : Prop :=
  True

def Pre_BackValueIdeal (m : (ℓ : Loc Cert.BackValueIdeal.nD Cert.BackValueIdeal.τ Cert.BackValueIdeal.sig) → Buf (Elt Ideal) ℓ) : Prop :=
  True

def Pre_BackValueRefIdeal (m : (ℓ : Loc Cert.BackValueRefIdeal.nD Cert.BackValueRefIdeal.τ Cert.BackValueRefIdeal.sig) → Buf (Elt Ideal) ℓ) : Prop :=
  True

def Pre_BackIn (m : (ℓ : Loc Cert.BackIn.nD Cert.BackIn.τ Cert.BackIn.sig) → Buf (Elt Bits) ℓ) : Prop :=
  True

def Pre_BackInIdeal (m : (ℓ : Loc Cert.BackInIdeal.nD Cert.BackInIdeal.τ Cert.BackInIdeal.sig) → Buf (Elt Ideal) ℓ) : Prop :=
  True

def Pre_BackInRefIdeal (m : (ℓ : Loc Cert.BackInRefIdeal.nD Cert.BackInRefIdeal.τ Cert.BackInRefIdeal.sig) → Buf (Elt Ideal) ℓ) : Prop :=
  True

def Pre_BackUpLeft (m : (ℓ : Loc Cert.BackUpLeft.nD Cert.BackUpLeft.τ Cert.BackUpLeft.sig) → Buf (Elt Bits) ℓ) : Prop :=
  True

def Pre_BackUpLeftIdeal (m : (ℓ : Loc Cert.BackUpLeftIdeal.nD Cert.BackUpLeftIdeal.τ Cert.BackUpLeftIdeal.sig) → Buf (Elt Ideal) ℓ) : Prop :=
  True

def Pre_BackUpLeftRefIdeal (m : (ℓ : Loc Cert.BackUpLeftRefIdeal.nD Cert.BackUpLeftRefIdeal.τ Cert.BackUpLeftRefIdeal.sig) → Buf (Elt Ideal) ℓ) : Prop :=
  True

def Pre_BackUpRight (m : (ℓ : Loc Cert.BackUpRight.nD Cert.BackUpRight.τ Cert.BackUpRight.sig) → Buf (Elt Bits) ℓ) : Prop :=
  True

def Pre_BackUpRightIdeal (m : (ℓ : Loc Cert.BackUpRightIdeal.nD Cert.BackUpRightIdeal.τ Cert.BackUpRightIdeal.sig) → Buf (Elt Ideal) ℓ) : Prop :=
  True

def Pre_BackUpRightRefIdeal (m : (ℓ : Loc Cert.BackUpRightRefIdeal.nD Cert.BackUpRightRefIdeal.τ Cert.BackUpRightRefIdeal.sig) → Buf (Elt Ideal) ℓ) : Prop :=
  True

def Pre_GradSquare (m : (ℓ : Loc Cert.GradSquare.nD Cert.GradSquare.τ Cert.GradSquare.sig) → Buf (Elt Bits) ℓ) : Prop :=
  True

def Pre_GradSquareIdeal (m : (ℓ : Loc Cert.GradSquareIdeal.nD Cert.GradSquareIdeal.τ Cert.GradSquareIdeal.sig) → Buf (Elt Ideal) ℓ) : Prop :=
  True

def Pre_GradSquareRefIdeal (m : (ℓ : Loc Cert.GradSquareRefIdeal.nD Cert.GradSquareRefIdeal.τ Cert.GradSquareRefIdeal.sig) → Buf (Elt Ideal) ℓ) : Prop :=
  True

def Pre_GradKey (m : (ℓ : Loc Cert.GradKey.nD Cert.GradKey.τ Cert.GradKey.sig) → Buf (Elt Bits) ℓ) : Prop :=
  True

def Pre_GradKeyIdeal (m : (ℓ : Loc Cert.GradKeyIdeal.nD Cert.GradKeyIdeal.τ Cert.GradKeyIdeal.sig) → Buf (Elt Ideal) ℓ) : Prop :=
  True

def Pre_GradKeyRefIdeal (m : (ℓ : Loc Cert.GradKeyRefIdeal.nD Cert.GradKeyRefIdeal.τ Cert.GradKeyRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradUpLeft (m : (ℓ : Loc Cert.GradUpLeft.nD Cert.GradUpLeft.τ Cert.GradUpLeft.sig) → Buf (Elt Bits) ℓ) : Prop :=
  True

def Pre_GradUpLeftIdeal (m : (ℓ : Loc Cert.GradUpLeftIdeal.nD Cert.GradUpLeftIdeal.τ Cert.GradUpLeftIdeal.sig) → Buf (Elt Ideal) ℓ) : Prop :=
  True

def Pre_GradUpLeftRefIdeal (m : (ℓ : Loc Cert.GradUpLeftRefIdeal.nD Cert.GradUpLeftRefIdeal.τ Cert.GradUpLeftRefIdeal.sig) → Buf (Elt Ideal) ℓ) : Prop :=
  True

def Pre_GradUpRight (m : (ℓ : Loc Cert.GradUpRight.nD Cert.GradUpRight.τ Cert.GradUpRight.sig) → Buf (Elt Bits) ℓ) : Prop :=
  True

def Pre_GradUpRightIdeal (m : (ℓ : Loc Cert.GradUpRightIdeal.nD Cert.GradUpRightIdeal.τ Cert.GradUpRightIdeal.sig) → Buf (Elt Ideal) ℓ) : Prop :=
  True

def Pre_GradUpRightRefIdeal (m : (ℓ : Loc Cert.GradUpRightRefIdeal.nD Cert.GradUpRightRefIdeal.τ Cert.GradUpRightRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendRefIdeal (m : (ℓ : Loc Cert.AttendRefIdeal.nD Cert.AttendRefIdeal.τ Cert.AttendRefIdeal.sig) → Buf (Elt Ideal) ℓ) : Prop :=
  True

def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormBackRefIdeal (m : (ℓ : Loc Cert.NormBackRefIdeal.nD Cert.NormBackRefIdeal.τ Cert.NormBackRefIdeal.sig) → Buf (Elt Ideal) ℓ) : Prop :=
  True

def Pre_NormBackIn (m : (ℓ : Loc Cert.NormBackIn.nD Cert.NormBackIn.τ Cert.NormBackIn.sig) → Buf (Elt Bits) ℓ) : Prop :=
  True

def Pre_NormBackInIdeal (m : (ℓ : Loc Cert.NormBackInIdeal.nD Cert.NormBackInIdeal.τ Cert.NormBackInIdeal.sig) → Buf (Elt Ideal) ℓ) : Prop :=
  True

def Pre_NormBackInRefIdeal (m : (ℓ : Loc Cert.NormBackInRefIdeal.nD Cert.NormBackInRefIdeal.τ Cert.NormBackInRefIdeal.sig) → Buf (Elt Ideal) ℓ) : Prop :=
  True

def Pre_NormBackMem (m : (ℓ : Loc Cert.NormBackMem.nD Cert.NormBackMem.τ Cert.NormBackMem.sig) → Buf (Elt Bits) ℓ) : Prop :=
  True

def Pre_NormBackMemIdeal (m : (ℓ : Loc Cert.NormBackMemIdeal.nD Cert.NormBackMemIdeal.τ Cert.NormBackMemIdeal.sig) → Buf (Elt Ideal) ℓ) : Prop :=
  True

def Pre_NormBackMemRefIdeal (m : (ℓ : Loc Cert.NormBackMemRefIdeal.nD Cert.NormBackMemRefIdeal.τ Cert.NormBackMemRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4)
      ∧ r.2.mem ((c.tc : Thread Cert.Weights.nD Cert.Weights.τ).loc Cert.Weights.main_arg5) = m ((c.tc : Thread Cert.Weights.nD Cert.Weights.τ).loc Cert.Weights.main_arg5)
      ∧ r.2.mem ((c.tc : Thread Cert.Weights.nD Cert.Weights.τ).loc Cert.Weights.main_arg6) = m ((c.tc : Thread Cert.Weights.nD Cert.Weights.τ).loc Cert.Weights.main_arg6)
      ∧ r.2.mem ((c.tc : Thread Cert.Weights.nD Cert.Weights.τ).loc Cert.Weights.main_arg7) = m ((c.tc : Thread Cert.Weights.nD Cert.Weights.τ).loc Cert.Weights.main_arg7)
      ∧ r.2.mem ((c.tc : Thread Cert.Weights.nD Cert.Weights.τ).loc Cert.Weights.main_arg8) = m ((c.tc : Thread Cert.Weights.nD Cert.Weights.τ).loc Cert.Weights.main_arg8)
      ∧ r.2.mem ((c.tc : Thread Cert.Weights.nD Cert.Weights.τ).loc Cert.Weights.main_arg9) = m ((c.tc : Thread Cert.Weights.nD Cert.Weights.τ).loc Cert.Weights.main_arg9))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
      ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6)
      ∧ r.2.mem ((c.tc : Thread Cert.WeightsIdeal.nD Cert.WeightsIdeal.τ).loc Cert.WeightsIdeal.main_arg7) = m ((c.tc : Thread Cert.WeightsIdeal.nD Cert.WeightsIdeal.τ).loc Cert.WeightsIdeal.main_arg7)
      ∧ r.2.mem ((c.tc : Thread Cert.WeightsIdeal.nD Cert.WeightsIdeal.τ).loc Cert.WeightsIdeal.main_arg8) = m ((c.tc : Thread Cert.WeightsIdeal.nD Cert.WeightsIdeal.τ).loc Cert.WeightsIdeal.main_arg8)
      ∧ r.2.mem ((c.tc : Thread Cert.WeightsIdeal.nD Cert.WeightsIdeal.τ).loc Cert.WeightsIdeal.main_arg9) = m ((c.tc : Thread Cert.WeightsIdeal.nD Cert.WeightsIdeal.τ).loc Cert.WeightsIdeal.main_arg9))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0)
      ∧ r.2.mem ((c.tc : Thread Cert.WeightsRefIdeal.nD Cert.WeightsRefIdeal.τ).loc Cert.WeightsRefIdeal.main_arg1) = m ((c.tc : Thread Cert.WeightsRefIdeal.nD Cert.WeightsRefIdeal.τ).loc Cert.WeightsRefIdeal.main_arg1)
      ∧ r.2.mem ((c.tc : Thread Cert.WeightsRefIdeal.nD Cert.WeightsRefIdeal.τ).loc Cert.WeightsRefIdeal.main_arg2) = m ((c.tc : Thread Cert.WeightsRefIdeal.nD Cert.WeightsRefIdeal.τ).loc Cert.WeightsRefIdeal.main_arg2)
      ∧ r.2.mem ((c.tc : Thread Cert.WeightsRefIdeal.nD Cert.WeightsRefIdeal.τ).loc Cert.WeightsRefIdeal.main_arg3) = m ((c.tc : Thread Cert.WeightsRefIdeal.nD Cert.WeightsRefIdeal.τ).loc Cert.WeightsRefIdeal.main_arg3)
      ∧ r.2.mem ((c.tc : Thread Cert.WeightsRefIdeal.nD Cert.WeightsRefIdeal.τ).loc Cert.WeightsRefIdeal.main_arg4) = m ((c.tc : Thread Cert.WeightsRefIdeal.nD Cert.WeightsRefIdeal.τ).loc Cert.WeightsRefIdeal.main_arg4)
      ∧ r.2.mem ((c.tc : Thread Cert.WeightsRefIdeal.nD Cert.WeightsRefIdeal.τ).loc Cert.WeightsRefIdeal.main_arg5) = m ((c.tc : Thread Cert.WeightsRefIdeal.nD Cert.WeightsRefIdeal.τ).loc Cert.WeightsRefIdeal.main_arg5)
      ∧ r.2.mem ((c.tc : Thread Cert.WeightsRefIdeal.nD Cert.WeightsRefIdeal.τ).loc Cert.WeightsRefIdeal.main_arg6) = m ((c.tc : Thread Cert.WeightsRefIdeal.nD Cert.WeightsRefIdeal.τ).loc Cert.WeightsRefIdeal.main_arg6)
      ∧ r.2.mem ((c.tc : Thread Cert.WeightsRefIdeal.nD Cert.WeightsRefIdeal.τ).loc Cert.WeightsRefIdeal.main_arg7) = m ((c.tc : Thread Cert.WeightsRefIdeal.nD Cert.WeightsRefIdeal.τ).loc Cert.WeightsRefIdeal.main_arg7)
      ∧ r.2.mem ((c.tc : Thread Cert.WeightsRefIdeal.nD Cert.WeightsRefIdeal.τ).loc Cert.WeightsRefIdeal.main_arg8) = m ((c.tc : Thread Cert.WeightsRefIdeal.nD Cert.WeightsRefIdeal.τ).loc Cert.WeightsRefIdeal.main_arg8)
      ∧ r.2.mem ((c.tc : Thread Cert.WeightsRefIdeal.nD Cert.WeightsRefIdeal.τ).loc Cert.WeightsRefIdeal.main_arg9) = m ((c.tc : Thread Cert.WeightsRefIdeal.nD Cert.WeightsRefIdeal.τ).loc Cert.WeightsRefIdeal.main_arg9))
      ∧ r.2.sem = fun _ => 0)

def quiescent_WeightsRef [hWeightsRef : Cert.WeightsRef.Facts] : Prop :=
  ∀ (m : (ℓ : Loc Cert.WeightsRef.nD Cert.WeightsRef.τ Cert.WeightsRef.sig) → Buf (Elt Bits) ℓ) (g : Dev Cert.WeightsRef.nD → PrngReg), Pre_WeightsRef m →
    θ_run (Cert.WeightsRef.defs (F := Bits)) (onTc (τ := Cert.WeightsRef.τ) (Cert.WeightsRef.main (F := Bits))) ⟨m, fun _ => 0, g⟩ (fun r => (∀ c : Dev Cert.WeightsRef.nD,
      r.2.mem ((c.tc : Thread Cert.WeightsRef.nD Cert.WeightsRef.τ).loc Cert.WeightsRef.main_arg0) = m ((c.tc : Thread Cert.WeightsRef.nD Cert.WeightsRef.τ).loc Cert.WeightsRef.main_arg0)
      ∧ r.2.mem ((c.tc : Thread Cert.WeightsRef.nD Cert.WeightsRef.τ).loc Cert.WeightsRef.main_arg1) = m ((c.tc : Thread Cert.WeightsRef.nD Cert.WeightsRef.τ).loc Cert.WeightsRef.main_arg1)
      ∧ r.2.mem ((c.tc : Thread Cert.WeightsRef.nD Cert.WeightsRef.τ).loc Cert.WeightsRef.main_arg2) = m ((c.tc : Thread Cert.WeightsRef.nD Cert.WeightsRef.τ).loc Cert.WeightsRef.main_arg2)
      ∧ r.2.mem ((c.tc : Thread Cert.WeightsRef.nD Cert.WeightsRef.τ).loc Cert.WeightsRef.main_arg3) = m ((c.tc : Thread Cert.WeightsRef.nD Cert.WeightsRef.τ).loc Cert.WeightsRef.main_arg3)
      ∧ r.2.mem ((c.tc : Thread Cert.WeightsRef.nD Cert.WeightsRef.τ).loc Cert.WeightsRef.main_arg4) = m ((c.tc : Thread Cert.WeightsRef.nD Cert.WeightsRef.τ).loc Cert.WeightsRef.main_arg4)
      ∧ r.2.mem ((c.tc : Thread Cert.WeightsRef.nD Cert.WeightsRef.τ).loc Cert.WeightsRef.main_arg5) = m ((c.tc : Thread Cert.WeightsRef.nD Cert.WeightsRef.τ).loc Cert.WeightsRef.main_arg5)
      ∧ r.2.mem ((c.tc : Thread Cert.WeightsRef.nD Cert.WeightsRef.τ).loc Cert.WeightsRef.main_arg6) = m ((c.tc : Thread Cert.WeightsRef.nD Cert.WeightsRef.τ).loc Cert.WeightsRef.main_arg6)
      ∧ r.2.mem ((c.tc : Thread Cert.WeightsRef.nD Cert.WeightsRef.τ).loc Cert.WeightsRef.main_arg7) = m ((c.tc : Thread Cert.WeightsRef.nD Cert.WeightsRef.τ).loc Cert.WeightsRef.main_arg7)
      ∧ r.2.mem ((c.tc : Thread Cert.WeightsRef.nD Cert.WeightsRef.τ).loc Cert.WeightsRef.main_arg8) = m ((c.tc : Thread Cert.WeightsRef.nD Cert.WeightsRef.τ).loc Cert.WeightsRef.main_arg8)
      ∧ r.2.mem ((c.tc : Thread Cert.WeightsRef.nD Cert.WeightsRef.τ).loc Cert.WeightsRef.main_arg9) = m ((c.tc : Thread Cert.WeightsRef.nD Cert.WeightsRef.τ).loc Cert.WeightsRef.main_arg9))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ r.2.sem = fun _ => 0)

def quiescent_UpdateInRefIdeal [hUpdateInRefIdeal : Cert.UpdateInRefIdeal.Facts] : Prop :=
  ∀ (m : (ℓ : Loc Cert.UpdateInRefIdeal.nD Cert.UpdateInRefIdeal.τ Cert.UpdateInRefIdeal.sig) → Buf (Elt Ideal) ℓ) (g : Dev Cert.UpdateInRefIdeal.nD → PrngReg), Pre_UpdateInRefIdeal m →
    θ_run (Cert.UpdateInRefIdeal.defs (F := Ideal)) (onTc (τ := Cert.UpdateInRefIdeal.τ) (Cert.UpdateInRefIdeal.main (F := Ideal))) ⟨m, fun _ => 0, g⟩ (fun r => (∀ c : Dev Cert.UpdateInRefIdeal.nD,
      r.2.mem ((c.tc : Thread Cert.UpdateInRefIdeal.nD Cert.UpdateInRefIdeal.τ).loc Cert.UpdateInRefIdeal.main_arg0) = m ((c.tc : Thread Cert.UpdateInRefIdeal.nD Cert.UpdateInRefIdeal.τ).loc Cert.UpdateInRefIdeal.main_arg0)
      ∧ r.2.mem ((c.tc : Thread Cert.UpdateInRefIdeal.nD Cert.UpdateInRefIdeal.τ).loc Cert.UpdateInRefIdeal.main_arg1) = m ((c.tc : Thread Cert.UpdateInRefIdeal.nD Cert.UpdateInRefIdeal.τ).loc Cert.UpdateInRefIdeal.main_arg1)
      ∧ r.2.mem ((c.tc : Thread Cert.UpdateInRefIdeal.nD Cert.UpdateInRefIdeal.τ).loc Cert.UpdateInRefIdeal.main_arg2) = m ((c.tc : Thread Cert.UpdateInRefIdeal.nD Cert.UpdateInRefIdeal.τ).loc Cert.UpdateInRefIdeal.main_arg2)
      ∧ r.2.mem ((c.tc : Thread Cert.UpdateInRefIdeal.nD Cert.UpdateInRefIdeal.τ).loc Cert.UpdateInRefIdeal.main_arg3) = m ((c.tc : Thread Cert.UpdateInRefIdeal.nD Cert.UpdateInRefIdeal.τ).loc Cert.UpdateInRefIdeal.main_arg3))
      ∧ r.2.sem = fun _ => 0)

def quiescent_UpdateSquare [hUpdateSquare : Cert.UpdateSquare.Facts] : Prop :=
  ∀ (m : (ℓ : Loc Cert.UpdateSquare.nD Cert.UpdateSquare.τ Cert.UpdateSquare.sig) → Buf (Elt Bits) ℓ) (g : Dev Cert.UpdateSquare.nD → PrngReg), Pre_UpdateSquare m →
    θ_run (Cert.UpdateSquare.defs (F := Bits)) (onTc (τ := Cert.UpdateSquare.τ) (Cert.UpdateSquare.main (F := Bits))) ⟨m, fun _ => 0, g⟩ (fun r => (∀ c : Dev Cert.UpdateSquare.nD,
      r.2.mem ((c.tc : Thread Cert.UpdateSquare.nD Cert.UpdateSquare.τ).loc Cert.UpdateSquare.main_arg0) = m ((c.tc : Thread Cert.UpdateSquare.nD Cert.UpdateSquare.τ).loc Cert.UpdateSquare.main_arg0)
      ∧ r.2.mem ((c.tc : Thread Cert.UpdateSquare.nD Cert.UpdateSquare.τ).loc Cert.UpdateSquare.main_arg1) = m ((c.tc : Thread Cert.UpdateSquare.nD Cert.UpdateSquare.τ).loc Cert.UpdateSquare.main_arg1)
      ∧ r.2.mem ((c.tc : Thread Cert.UpdateSquare.nD Cert.UpdateSquare.τ).loc Cert.UpdateSquare.main_arg2) = m ((c.tc : Thread Cert.UpdateSquare.nD Cert.UpdateSquare.τ).loc Cert.UpdateSquare.main_arg2)
      ∧ r.2.mem ((c.tc : Thread Cert.UpdateSquare.nD Cert.UpdateSquare.τ).loc Cert.UpdateSquare.main_arg3) = m ((c.tc : Thread Cert.UpdateSquare.nD Cert.UpdateSquare.τ).loc Cert.UpdateSquare.main_arg3))
      ∧ r.2.sem = fun _ => 0)

def quiescent_UpdateSquareIdeal [hUpdateSquareIdeal : Cert.UpdateSquareIdeal.Facts] : Prop :=
  ∀ (m : (ℓ : Loc Cert.UpdateSquareIdeal.nD Cert.UpdateSquareIdeal.τ Cert.UpdateSquareIdeal.sig) → Buf (Elt Ideal) ℓ) (g : Dev Cert.UpdateSquareIdeal.nD → PrngReg), Pre_UpdateSquareIdeal m →
    θ_run (Cert.UpdateSquareIdeal.defs (F := Ideal)) (onTc (τ := Cert.UpdateSquareIdeal.τ) (Cert.UpdateSquareIdeal.main (F := Ideal))) ⟨m, fun _ => 0, g⟩ (fun r => (∀ c : Dev Cert.UpdateSquareIdeal.nD,
      r.2.mem ((c.tc : Thread Cert.UpdateSquareIdeal.nD Cert.UpdateSquareIdeal.τ).loc Cert.UpdateSquareIdeal.main_arg0) = m ((c.tc : Thread Cert.UpdateSquareIdeal.nD Cert.UpdateSquareIdeal.τ).loc Cert.UpdateSquareIdeal.main_arg0)
      ∧ r.2.mem ((c.tc : Thread Cert.UpdateSquareIdeal.nD Cert.UpdateSquareIdeal.τ).loc Cert.UpdateSquareIdeal.main_arg1) = m ((c.tc : Thread Cert.UpdateSquareIdeal.nD Cert.UpdateSquareIdeal.τ).loc Cert.UpdateSquareIdeal.main_arg1)
      ∧ r.2.mem ((c.tc : Thread Cert.UpdateSquareIdeal.nD Cert.UpdateSquareIdeal.τ).loc Cert.UpdateSquareIdeal.main_arg2) = m ((c.tc : Thread Cert.UpdateSquareIdeal.nD Cert.UpdateSquareIdeal.τ).loc Cert.UpdateSquareIdeal.main_arg2)
      ∧ r.2.mem ((c.tc : Thread Cert.UpdateSquareIdeal.nD Cert.UpdateSquareIdeal.τ).loc Cert.UpdateSquareIdeal.main_arg3) = m ((c.tc : Thread Cert.UpdateSquareIdeal.nD Cert.UpdateSquareIdeal.τ).loc Cert.UpdateSquareIdeal.main_arg3))
      ∧ r.2.sem = fun _ => 0)

def quiescent_UpdateSquareRefIdeal [hUpdateSquareRefIdeal : Cert.UpdateSquareRefIdeal.Facts] : Prop :=
  ∀ (m : (ℓ : Loc Cert.UpdateSquareRefIdeal.nD Cert.UpdateSquareRefIdeal.τ Cert.UpdateSquareRefIdeal.sig) → Buf (Elt Ideal) ℓ) (g : Dev Cert.UpdateSquareRefIdeal.nD → PrngReg), Pre_UpdateSquareRefIdeal m →
    θ_run (Cert.UpdateSquareRefIdeal.defs (F := Ideal)) (onTc (τ := Cert.UpdateSquareRefIdeal.τ) (Cert.UpdateSquareRefIdeal.main (F := Ideal))) ⟨m, fun _ => 0, g⟩ (fun r => (∀ c : Dev Cert.UpdateSquareRefIdeal.nD,
      r.2.mem ((c.tc : Thread Cert.UpdateSquareRefIdeal.nD Cert.UpdateSquareRefIdeal.τ).loc Cert.UpdateSquareRefIdeal.main_arg0) = m ((c.tc : Thread Cert.UpdateSquareRefIdeal.nD Cert.UpdateSquareRefIdeal.τ).loc Cert.UpdateSquareRefIdeal.main_arg0)
      ∧ r.2.mem ((c.tc : Thread Cert.UpdateSquareRefIdeal.nD Cert.UpdateSquareRefIdeal.τ).loc Cert.UpdateSquareRefIdeal.main_arg1) = m ((c.tc : Thread Cert.UpdateSquareRefIdeal.nD Cert.UpdateSquareRefIdeal.τ).loc Cert.UpdateSquareRefIdeal.main_arg1)
      ∧ r.2.mem ((c.tc : Thread Cert.UpdateSquareRefIdeal.nD Cert.UpdateSquareRefIdeal.τ).loc Cert.UpdateSquareRefIdeal.main_arg2) = m ((c.tc : Thread Cert.UpdateSquareRefIdeal.nD Cert.UpdateSquareRefIdeal.τ).loc Cert.UpdateSquareRefIdeal.main_arg2)
      ∧ r.2.mem ((c.tc : Thread Cert.UpdateSquareRefIdeal.nD Cert.UpdateSquareRefIdeal.τ).loc Cert.UpdateSquareRefIdeal.main_arg3) = m ((c.tc : Thread Cert.UpdateSquareRefIdeal.nD Cert.UpdateSquareRefIdeal.τ).loc Cert.UpdateSquareRefIdeal.main_arg3))
      ∧ r.2.sem = fun _ => 0)

def quiescent_UpdateUp [hUpdateUp : Cert.UpdateUp.Facts] : Prop :=
  ∀ (m : (ℓ : Loc Cert.UpdateUp.nD Cert.UpdateUp.τ Cert.UpdateUp.sig) → Buf (Elt Bits) ℓ) (g : Dev Cert.UpdateUp.nD → PrngReg), Pre_UpdateUp m →
    θ_run (Cert.UpdateUp.defs (F := Bits)) (onTc (τ := Cert.UpdateUp.τ) (Cert.UpdateUp.main (F := Bits))) ⟨m, fun _ => 0, g⟩ (fun r => (∀ c : Dev Cert.UpdateUp.nD,
      r.2.mem ((c.tc : Thread Cert.UpdateUp.nD Cert.UpdateUp.τ).loc Cert.UpdateUp.main_arg0) = m ((c.tc : Thread Cert.UpdateUp.nD Cert.UpdateUp.τ).loc Cert.UpdateUp.main_arg0)
      ∧ r.2.mem ((c.tc : Thread Cert.UpdateUp.nD Cert.UpdateUp.τ).loc Cert.UpdateUp.main_arg1) = m ((c.tc : Thread Cert.UpdateUp.nD Cert.UpdateUp.τ).loc Cert.UpdateUp.main_arg1)
      ∧ r.2.mem ((c.tc : Thread Cert.UpdateUp.nD Cert.UpdateUp.τ).loc Cert.UpdateUp.main_arg2) = m ((c.tc : Thread Cert.UpdateUp.nD Cert.UpdateUp.τ).loc Cert.UpdateUp.main_arg2)
      ∧ r.2.mem ((c.tc : Thread Cert.UpdateUp.nD Cert.UpdateUp.τ).loc Cert.UpdateUp.main_arg3) = m ((c.tc : Thread Cert.UpdateUp.nD Cert.UpdateUp.τ).loc Cert.UpdateUp.main_arg3))
      ∧ r.2.sem = fun _ => 0)

def quiescent_UpdateUpIdeal [hUpdateUpIdeal : Cert.UpdateUpIdeal.Facts] : Prop :=
  ∀ (m : (ℓ : Loc Cert.UpdateUpIdeal.nD Cert.UpdateUpIdeal.τ Cert.UpdateUpIdeal.sig) → Buf (Elt Ideal) ℓ) (g : Dev Cert.UpdateUpIdeal.nD → PrngReg), Pre_UpdateUpIdeal m →
    θ_run (Cert.UpdateUpIdeal.defs (F := Ideal)) (onTc (τ := Cert.UpdateUpIdeal.τ) (Cert.UpdateUpIdeal.main (F := Ideal))) ⟨m, fun _ => 0, g⟩ (fun r => (∀ c : Dev Cert.UpdateUpIdeal.nD,
      r.2.mem ((c.tc : Thread Cert.UpdateUpIdeal.nD Cert.UpdateUpIdeal.τ).loc Cert.UpdateUpIdeal.main_arg0) = m ((c.tc : Thread Cert.UpdateUpIdeal.nD Cert.UpdateUpIdeal.τ).loc Cert.UpdateUpIdeal.main_arg0)
      ∧ r.2.mem ((c.tc : Thread Cert.UpdateUpIdeal.nD Cert.UpdateUpIdeal.τ).loc Cert.UpdateUpIdeal.main_arg1) = m ((c.tc : Thread Cert.UpdateUpIdeal.nD Cert.UpdateUpIdeal.τ).loc Cert.UpdateUpIdeal.main_arg1)
      ∧ r.2.mem ((c.tc : Thread Cert.UpdateUpIdeal.nD Cert.UpdateUpIdeal.τ).loc Cert.UpdateUpIdeal.main_arg2) = m ((c.tc : Thread Cert.UpdateUpIdeal.nD Cert.UpdateUpIdeal.τ).loc Cert.UpdateUpIdeal.main_arg2)
      ∧ r.2.mem ((c.tc : Thread Cert.UpdateUpIdeal.nD Cert.UpdateUpIdeal.τ).loc Cert.UpdateUpIdeal.main_arg3) = m ((c.tc : Thread Cert.UpdateUpIdeal.nD Cert.UpdateUpIdeal.τ).loc Cert.UpdateUpIdeal.main_arg3))
      ∧ r.2.sem = fun _ => 0)

def quiescent_UpdateUpRefIdeal [hUpdateUpRefIdeal : Cert.UpdateUpRefIdeal.Facts] : Prop :=
  ∀ (m : (ℓ : Loc Cert.UpdateUpRefIdeal.nD Cert.UpdateUpRefIdeal.τ Cert.UpdateUpRefIdeal.sig) → Buf (Elt Ideal) ℓ) (g : Dev Cert.UpdateUpRefIdeal.nD → PrngReg), Pre_UpdateUpRefIdeal m →
    θ_run (Cert.UpdateUpRefIdeal.defs (F := Ideal)) (onTc (τ := Cert.UpdateUpRefIdeal.τ) (Cert.UpdateUpRefIdeal.main (F := Ideal))) ⟨m, fun _ => 0, g⟩ (fun r => (∀ c : Dev Cert.UpdateUpRefIdeal.nD,
      r.2.mem ((c.tc : Thread Cert.UpdateUpRefIdeal.nD Cert.UpdateUpRefIdeal.τ).loc Cert.UpdateUpRefIdeal.main_arg0) = m ((c.tc : Thread Cert.UpdateUpRefIdeal.nD Cert.UpdateUpRefIdeal.τ).loc Cert.UpdateUpRefIdeal.main_arg0)
      ∧ r.2.mem ((c.tc : Thread Cert.UpdateUpRefIdeal.nD Cert.UpdateUpRefIdeal.τ).loc Cert.UpdateUpRefIdeal.main_arg1) = m ((c.tc : Thread Cert.UpdateUpRefIdeal.nD Cert.UpdateUpRefIdeal.τ).loc Cert.UpdateUpRefIdeal.main_arg1)
      ∧ r.2.mem ((c.tc : Thread Cert.UpdateUpRefIdeal.nD Cert.UpdateUpRefIdeal.τ).loc Cert.UpdateUpRefIdeal.main_arg2) = m ((c.tc : Thread Cert.UpdateUpRefIdeal.nD Cert.UpdateUpRefIdeal.τ).loc Cert.UpdateUpRefIdeal.main_arg2)
      ∧ r.2.mem ((c.tc : Thread Cert.UpdateUpRefIdeal.nD Cert.UpdateUpRefIdeal.τ).loc Cert.UpdateUpRefIdeal.main_arg3) = m ((c.tc : Thread Cert.UpdateUpRefIdeal.nD Cert.UpdateUpRefIdeal.τ).loc Cert.UpdateUpRefIdeal.main_arg3))
      ∧ r.2.sem = fun _ => 0)

def quiescent_UpdateDown [hUpdateDown : Cert.UpdateDown.Facts] : Prop :=
  ∀ (m : (ℓ : Loc Cert.UpdateDown.nD Cert.UpdateDown.τ Cert.UpdateDown.sig) → Buf (Elt Bits) ℓ) (g : Dev Cert.UpdateDown.nD → PrngReg), Pre_UpdateDown m →
    θ_run (Cert.UpdateDown.defs (F := Bits)) (onTc (τ := Cert.UpdateDown.τ) (Cert.UpdateDown.main (F := Bits))) ⟨m, fun _ => 0, g⟩ (fun r => (∀ c : Dev Cert.UpdateDown.nD,
      r.2.mem ((c.tc : Thread Cert.UpdateDown.nD Cert.UpdateDown.τ).loc Cert.UpdateDown.main_arg0) = m ((c.tc : Thread Cert.UpdateDown.nD Cert.UpdateDown.τ).loc Cert.UpdateDown.main_arg0)
      ∧ r.2.mem ((c.tc : Thread Cert.UpdateDown.nD Cert.UpdateDown.τ).loc Cert.UpdateDown.main_arg1) = m ((c.tc : Thread Cert.UpdateDown.nD Cert.UpdateDown.τ).loc Cert.UpdateDown.main_arg1)
      ∧ r.2.mem ((c.tc : Thread Cert.UpdateDown.nD Cert.UpdateDown.τ).loc Cert.UpdateDown.main_arg2) = m ((c.tc : Thread Cert.UpdateDown.nD Cert.UpdateDown.τ).loc Cert.UpdateDown.main_arg2)
      ∧ r.2.mem ((c.tc : Thread Cert.UpdateDown.nD Cert.UpdateDown.τ).loc Cert.UpdateDown.main_arg3) = m ((c.tc : Thread Cert.UpdateDown.nD Cert.UpdateDown.τ).loc Cert.UpdateDown.main_arg3))
      ∧ r.2.sem = fun _ => 0)

def quiescent_UpdateDownIdeal [hUpdateDownIdeal : Cert.UpdateDownIdeal.Facts] : Prop :=
  ∀ (m : (ℓ : Loc Cert.UpdateDownIdeal.nD Cert.UpdateDownIdeal.τ Cert.UpdateDownIdeal.sig) → Buf (Elt Ideal) ℓ) (g : Dev Cert.UpdateDownIdeal.nD → PrngReg), Pre_UpdateDownIdeal m →
    θ_run (Cert.UpdateDownIdeal.defs (F := Ideal)) (onTc (τ := Cert.UpdateDownIdeal.τ) (Cert.UpdateDownIdeal.main (F := Ideal))) ⟨m, fun _ => 0, g⟩ (fun r => (∀ c : Dev Cert.UpdateDownIdeal.nD,
      r.2.mem ((c.tc : Thread Cert.UpdateDownIdeal.nD Cert.UpdateDownIdeal.τ).loc Cert.UpdateDownIdeal.main_arg0) = m ((c.tc : Thread Cert.UpdateDownIdeal.nD Cert.UpdateDownIdeal.τ).loc Cert.UpdateDownIdeal.main_arg0)
      ∧ r.2.mem ((c.tc : Thread Cert.UpdateDownIdeal.nD Cert.UpdateDownIdeal.τ).loc Cert.UpdateDownIdeal.main_arg1) = m ((c.tc : Thread Cert.UpdateDownIdeal.nD Cert.UpdateDownIdeal.τ).loc Cert.UpdateDownIdeal.main_arg1)
      ∧ r.2.mem ((c.tc : Thread Cert.UpdateDownIdeal.nD Cert.UpdateDownIdeal.τ).loc Cert.UpdateDownIdeal.main_arg2) = m ((c.tc : Thread Cert.UpdateDownIdeal.nD Cert.UpdateDownIdeal.τ).loc Cert.UpdateDownIdeal.main_arg2)
      ∧ r.2.mem ((c.tc : Thread Cert.UpdateDownIdeal.nD Cert.UpdateDownIdeal.τ).loc Cert.UpdateDownIdeal.main_arg3) = m ((c.tc : Thread Cert.UpdateDownIdeal.nD Cert.UpdateDownIdeal.τ).loc Cert.UpdateDownIdeal.main_arg3))
      ∧ r.2.sem = fun _ => 0)

def quiescent_UpdateDownRefIdeal [hUpdateDownRefIdeal : Cert.UpdateDownRefIdeal.Facts] : Prop :=
  ∀ (m : (ℓ : Loc Cert.UpdateDownRefIdeal.nD Cert.UpdateDownRefIdeal.τ Cert.UpdateDownRefIdeal.sig) → Buf (Elt Ideal) ℓ) (g : Dev Cert.UpdateDownRefIdeal.nD → PrngReg), Pre_UpdateDownRefIdeal m →
    θ_run (Cert.UpdateDownRefIdeal.defs (F := Ideal)) (onTc (τ := Cert.UpdateDownRefIdeal.τ) (Cert.UpdateDownRefIdeal.main (F := Ideal))) ⟨m, fun _ => 0, g⟩ (fun r => (∀ c : Dev Cert.UpdateDownRefIdeal.nD,
      r.2.mem ((c.tc : Thread Cert.UpdateDownRefIdeal.nD Cert.UpdateDownRefIdeal.τ).loc Cert.UpdateDownRefIdeal.main_arg0) = m ((c.tc : Thread Cert.UpdateDownRefIdeal.nD Cert.UpdateDownRefIdeal.τ).loc Cert.UpdateDownRefIdeal.main_arg0)
      ∧ r.2.mem ((c.tc : Thread Cert.UpdateDownRefIdeal.nD Cert.UpdateDownRefIdeal.τ).loc Cert.UpdateDownRefIdeal.main_arg1) = m ((c.tc : Thread Cert.UpdateDownRefIdeal.nD Cert.UpdateDownRefIdeal.τ).loc Cert.UpdateDownRefIdeal.main_arg1)
      ∧ r.2.mem ((c.tc : Thread Cert.UpdateDownRefIdeal.nD Cert.UpdateDownRefIdeal.τ).loc Cert.UpdateDownRefIdeal.main_arg2) = m ((c.tc : Thread Cert.UpdateDownRefIdeal.nD Cert.UpdateDownRefIdeal.τ).loc Cert.UpdateDownRefIdeal.main_arg2)
      ∧ r.2.mem ((c.tc : Thread Cert.UpdateDownRefIdeal.nD Cert.UpdateDownRefIdeal.τ).loc Cert.UpdateDownRefIdeal.main_arg3) = m ((c.tc : Thread Cert.UpdateDownRefIdeal.nD Cert.UpdateDownRefIdeal.τ).loc Cert.UpdateDownRefIdeal.main_arg3))
      ∧ r.2.sem = fun _ => 0)

def quiescent_UpdateSmall [hUpdateSmall : Cert.UpdateSmall.Facts] : Prop :=
  ∀ (m : (ℓ : Loc Cert.UpdateSmall.nD Cert.UpdateSmall.τ Cert.UpdateSmall.sig) → Buf (Elt Bits) ℓ) (g : Dev Cert.UpdateSmall.nD → PrngReg), Pre_UpdateSmall m →
    θ_run (Cert.UpdateSmall.defs (F := Bits)) (onTc (τ := Cert.UpdateSmall.τ) (Cert.UpdateSmall.main (F := Bits))) ⟨m, fun _ => 0, g⟩ (fun r => (∀ c : Dev Cert.UpdateSmall.nD,
      r.2.mem ((c.tc : Thread Cert.UpdateSmall.nD Cert.UpdateSmall.τ).loc Cert.UpdateSmall.main_arg0) = m ((c.tc : Thread Cert.UpdateSmall.nD Cert.UpdateSmall.τ).loc Cert.UpdateSmall.main_arg0)
      ∧ r.2.mem ((c.tc : Thread Cert.UpdateSmall.nD Cert.UpdateSmall.τ).loc Cert.UpdateSmall.main_arg1) = m ((c.tc : Thread Cert.UpdateSmall.nD Cert.UpdateSmall.τ).loc Cert.UpdateSmall.main_arg1)
      ∧ r.2.mem ((c.tc : Thread Cert.UpdateSmall.nD Cert.UpdateSmall.τ).loc Cert.UpdateSmall.main_arg2) = m ((c.tc : Thread Cert.UpdateSmall.nD Cert.UpdateSmall.τ).loc Cert.UpdateSmall.main_arg2)
      ∧ r.2.mem ((c.tc : Thread Cert.UpdateSmall.nD Cert.UpdateSmall.τ).loc Cert.UpdateSmall.main_arg3) = m ((c.tc : Thread Cert.UpdateSmall.nD Cert.UpdateSmall.τ).loc Cert.UpdateSmall.main_arg3))
      ∧ r.2.sem = fun _ => 0)

def quiescent_UpdateSmallIdeal [hUpdateSmallIdeal : Cert.UpdateSmallIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg), Pre_UpdateSmallIdeal m →
    θ_run (Cert.UpdateSmallIdeal.defs (F := Ideal)) (onTc (τ := Cert.UpdateSmallIdeal.τ) (Cert.UpdateSmallIdeal.main (F := Ideal))) ⟨m, fun _ => 0, g⟩ (fun r => (∀ c : Dev Cert.UpdateSmallIdeal.nD,
      r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
      ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
      ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
      ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ r.2.sem = fun _ => 0)

def quiescent_UpdateSmallRefIdeal [hUpdateSmallRefIdeal : Cert.UpdateSmallRefIdeal.Facts] : Prop :=
  ∀ (m : (ℓ : Loc Cert.UpdateSmallRefIdeal.nD Cert.UpdateSmallRefIdeal.τ Cert.UpdateSmallRefIdeal.sig) → Buf (Elt Ideal) ℓ) (g : Dev Cert.UpdateSmallRefIdeal.nD → PrngReg), Pre_UpdateSmallRefIdeal m →
    θ_run (Cert.UpdateSmallRefIdeal.defs (F := Ideal)) (onTc (τ := Cert.UpdateSmallRefIdeal.τ) (Cert.UpdateSmallRefIdeal.main (F := Ideal))) ⟨m, fun _ => 0, g⟩ (fun r => (∀ c : Dev Cert.UpdateSmallRefIdeal.nD,
      r.2.mem ((c.tc : Thread Cert.UpdateSmallRefIdeal.nD Cert.UpdateSmallRefIdeal.τ).loc Cert.UpdateSmallRefIdeal.main_arg0) = m ((c.tc : Thread Cert.UpdateSmallRefIdeal.nD Cert.UpdateSmallRefIdeal.τ).loc Cert.UpdateSmallRefIdeal.main_arg0)
      ∧ r.2.mem ((c.tc : Thread Cert.UpdateSmallRefIdeal.nD Cert.UpdateSmallRefIdeal.τ).loc Cert.UpdateSmallRefIdeal.main_arg1) = m ((c.tc : Thread Cert.UpdateSmallRefIdeal.nD Cert.UpdateSmallRefIdeal.τ).loc Cert.UpdateSmallRefIdeal.main_arg1)
      ∧ r.2.mem ((c.tc : Thread Cert.UpdateSmallRefIdeal.nD Cert.UpdateSmallRefIdeal.τ).loc Cert.UpdateSmallRefIdeal.main_arg2) = m ((c.tc : Thread Cert.UpdateSmallRefIdeal.nD Cert.UpdateSmallRefIdeal.τ).loc Cert.UpdateSmallRefIdeal.main_arg2)
      ∧ r.2.mem ((c.tc : Thread Cert.UpdateSmallRefIdeal.nD Cert.UpdateSmallRefIdeal.τ).loc Cert.UpdateSmallRefIdeal.main_arg3) = m ((c.tc : Thread Cert.UpdateSmallRefIdeal.nD Cert.UpdateSmallRefIdeal.τ).loc Cert.UpdateSmallRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Key [hKey : Cert.Key.Facts] : Prop :=
  ∀ (m : (ℓ : Loc Cert.Key.nD Cert.Key.τ Cert.Key.sig) → Buf (Elt Bits) ℓ) (g : Dev Cert.Key.nD → PrngReg), Pre_Key m →
    θ_run (Cert.Key.defs (F := Bits)) (onTc (τ := Cert.Key.τ) (Cert.Key.main (F := Bits))) ⟨m, fun _ => 0, g⟩ (fun r => (∀ c : Dev Cert.Key.nD,
      r.2.mem ((c.tc : Thread Cert.Key.nD Cert.Key.τ).loc Cert.Key.main_arg0) = m ((c.tc : Thread Cert.Key.nD Cert.Key.τ).loc Cert.Key.main_arg0)
      ∧ r.2.mem ((c.tc : Thread Cert.Key.nD Cert.Key.τ).loc Cert.Key.main_arg1) = m ((c.tc : Thread Cert.Key.nD Cert.Key.τ).loc Cert.Key.main_arg1))
      ∧ r.2.sem = fun _ => 0)

def quiescent_KeyIdeal [hKeyIdeal : Cert.KeyIdeal.Facts] : Prop :=
  ∀ (m : (ℓ : Loc Cert.KeyIdeal.nD Cert.KeyIdeal.τ Cert.KeyIdeal.sig) → Buf (Elt Ideal) ℓ) (g : Dev Cert.KeyIdeal.nD → PrngReg), Pre_KeyIdeal m →
    θ_run (Cert.KeyIdeal.defs (F := Ideal)) (onTc (τ := Cert.KeyIdeal.τ) (Cert.KeyIdeal.main (F := Ideal))) ⟨m, fun _ => 0, g⟩ (fun r => (∀ c : Dev Cert.KeyIdeal.nD,
      r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
      ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ r.2.sem = fun _ => 0)

def quiescent_KeyRefIdeal [hKeyRefIdeal : Cert.KeyRefIdeal.Facts] : Prop :=
  ∀ (m : (ℓ : Loc Cert.KeyRefIdeal.nD Cert.KeyRefIdeal.τ Cert.KeyRefIdeal.sig) → Buf (Elt Ideal) ℓ) (g : Dev Cert.KeyRefIdeal.nD → PrngReg), Pre_KeyRefIdeal m →
    θ_run (Cert.KeyRefIdeal.defs (F := Ideal)) (onTc (τ := Cert.KeyRefIdeal.τ) (Cert.KeyRefIdeal.main (F := Ideal))) ⟨m, fun _ => 0, g⟩ (fun r => (∀ c : Dev Cert.KeyRefIdeal.nD,
      r.2.mem ((c.tc : Thread Cert.KeyRefIdeal.nD Cert.KeyRefIdeal.τ).loc Cert.KeyRefIdeal.main_arg0) = m ((c.tc : Thread Cert.KeyRefIdeal.nD Cert.KeyRefIdeal.τ).loc Cert.KeyRefIdeal.main_arg0)
      ∧ r.2.mem ((c.tc : Thread Cert.KeyRefIdeal.nD Cert.KeyRefIdeal.τ).loc Cert.KeyRefIdeal.main_arg1) = m ((c.tc : Thread Cert.KeyRefIdeal.nD Cert.KeyRefIdeal.τ).loc Cert.KeyRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_BackDown [hBackDown : Cert.BackDown.Facts] : Prop :=
  ∀ (m : (ℓ : Loc Cert.BackDown.nD Cert.BackDown.τ Cert.BackDown.sig) → Buf (Elt Bits) ℓ) (g : Dev Cert.BackDown.nD → PrngReg), Pre_BackDown m →
    θ_run (Cert.BackDown.defs (F := Bits)) (onTc (τ := Cert.BackDown.τ) (Cert.BackDown.main (F := Bits))) ⟨m, fun _ => 0, g⟩ (fun r => (∀ c : Dev Cert.BackDown.nD,
      r.2.mem ((c.tc : Thread Cert.BackDown.nD Cert.BackDown.τ).loc Cert.BackDown.main_arg0) = m ((c.tc : Thread Cert.BackDown.nD Cert.BackDown.τ).loc Cert.BackDown.main_arg0)
      ∧ r.2.mem ((c.tc : Thread Cert.BackDown.nD Cert.BackDown.τ).loc Cert.BackDown.main_arg1) = m ((c.tc : Thread Cert.BackDown.nD Cert.BackDown.τ).loc Cert.BackDown.main_arg1))
      ∧ r.2.sem = fun _ => 0)

def quiescent_BackDownIdeal [hBackDownIdeal : Cert.BackDownIdeal.Facts] : Prop :=
  ∀ (m : (ℓ : Loc Cert.BackDownIdeal.nD Cert.BackDownIdeal.τ Cert.BackDownIdeal.sig) → Buf (Elt Ideal) ℓ) (g : Dev Cert.BackDownIdeal.nD → PrngReg), Pre_BackDownIdeal m →
    θ_run (Cert.BackDownIdeal.defs (F := Ideal)) (onTc (τ := Cert.BackDownIdeal.τ) (Cert.BackDownIdeal.main (F := Ideal))) ⟨m, fun _ => 0, g⟩ (fun r => (∀ c : Dev Cert.BackDownIdeal.nD,
      r.2.mem ((c.tc : Thread Cert.BackDownIdeal.nD Cert.BackDownIdeal.τ).loc Cert.BackDownIdeal.main_arg0) = m ((c.tc : Thread Cert.BackDownIdeal.nD Cert.BackDownIdeal.τ).loc Cert.BackDownIdeal.main_arg0)
      ∧ r.2.mem ((c.tc : Thread Cert.BackDownIdeal.nD Cert.BackDownIdeal.τ).loc Cert.BackDownIdeal.main_arg1) = m ((c.tc : Thread Cert.BackDownIdeal.nD Cert.BackDownIdeal.τ).loc Cert.BackDownIdeal.main_arg1))
      ∧ r.2.sem = fun _ => 0)

def quiescent_BackDownRefIdeal [hBackDownRefIdeal : Cert.BackDownRefIdeal.Facts] : Prop :=
  ∀ (m : (ℓ : Loc Cert.BackDownRefIdeal.nD Cert.BackDownRefIdeal.τ Cert.BackDownRefIdeal.sig) → Buf (Elt Ideal) ℓ) (g : Dev Cert.BackDownRefIdeal.nD → PrngReg), Pre_BackDownRefIdeal m →
    θ_run (Cert.BackDownRefIdeal.defs (F := Ideal)) (onTc (τ := Cert.BackDownRefIdeal.τ) (Cert.BackDownRefIdeal.main (F := Ideal))) ⟨m, fun _ => 0, g⟩ (fun r => (∀ c : Dev Cert.BackDownRefIdeal.nD,
      r.2.mem ((c.tc : Thread Cert.BackDownRefIdeal.nD Cert.BackDownRefIdeal.τ).loc Cert.BackDownRefIdeal.main_arg0) = m ((c.tc : Thread Cert.BackDownRefIdeal.nD Cert.BackDownRefIdeal.τ).loc Cert.BackDownRefIdeal.main_arg0)
      ∧ r.2.mem ((c.tc : Thread Cert.BackDownRefIdeal.nD Cert.BackDownRefIdeal.τ).loc Cert.BackDownRefIdeal.main_arg1) = m ((c.tc : Thread Cert.BackDownRefIdeal.nD Cert.BackDownRefIdeal.τ).loc Cert.BackDownRefIdeal.main_arg1))
      ∧ r.2.sem = fun _ => 0)

def quiescent_BackSquare [hBackSquare : Cert.BackSquare.Facts] : Prop :=
  ∀ (m : (ℓ : Loc Cert.BackSquare.nD Cert.BackSquare.τ Cert.BackSquare.sig) → Buf (Elt Bits) ℓ) (g : Dev Cert.BackSquare.nD → PrngReg), Pre_BackSquare m →
    θ_run (Cert.BackSquare.defs (F := Bits)) (onTc (τ := Cert.BackSquare.τ) (Cert.BackSquare.main (F := Bits))) ⟨m, fun _ => 0, g⟩ (fun r => (∀ c : Dev Cert.BackSquare.nD,
      r.2.mem ((c.tc : Thread Cert.BackSquare.nD Cert.BackSquare.τ).loc Cert.BackSquare.main_arg0) = m ((c.tc : Thread Cert.BackSquare.nD Cert.BackSquare.τ).loc Cert.BackSquare.main_arg0)
      ∧ r.2.mem ((c.tc : Thread Cert.BackSquare.nD Cert.BackSquare.τ).loc Cert.BackSquare.main_arg1) = m ((c.tc : Thread Cert.BackSquare.nD Cert.BackSquare.τ).loc Cert.BackSquare.main_arg1))
      ∧ r.2.sem = fun _ => 0)

def quiescent_BackSquareIdeal [hBackSquareIdeal : Cert.BackSquareIdeal.Facts] : Prop :=
  ∀ (m : (ℓ : Loc Cert.BackSquareIdeal.nD Cert.BackSquareIdeal.τ Cert.BackSquareIdeal.sig) → Buf (Elt Ideal) ℓ) (g : Dev Cert.BackSquareIdeal.nD → PrngReg), Pre_BackSquareIdeal m →
    θ_run (Cert.BackSquareIdeal.defs (F := Ideal)) (onTc (τ := Cert.BackSquareIdeal.τ) (Cert.BackSquareIdeal.main (F := Ideal))) ⟨m, fun _ => 0, g⟩ (fun r => (∀ c : Dev Cert.BackSquareIdeal.nD,
      r.2.mem ((c.tc : Thread Cert.BackSquareIdeal.nD Cert.BackSquareIdeal.τ).loc Cert.BackSquareIdeal.main_arg0) = m ((c.tc : Thread Cert.BackSquareIdeal.nD Cert.BackSquareIdeal.τ).loc Cert.BackSquareIdeal.main_arg0)
      ∧ r.2.mem ((c.tc : Thread Cert.BackSquareIdeal.nD Cert.BackSquareIdeal.τ).loc Cert.BackSquareIdeal.main_arg1) = m ((c.tc : Thread Cert.BackSquareIdeal.nD Cert.BackSquareIdeal.τ).loc Cert.BackSquareIdeal.main_arg1))
      ∧ r.2.sem = fun _ => 0)

def quiescent_BackSquareRefIdeal [hBackSquareRefIdeal : Cert.BackSquareRefIdeal.Facts] : Prop :=
  ∀ (m : (ℓ : Loc Cert.BackSquareRefIdeal.nD Cert.BackSquareRefIdeal.τ Cert.BackSquareRefIdeal.sig) → Buf (Elt Ideal) ℓ) (g : Dev Cert.BackSquareRefIdeal.nD → PrngReg), Pre_BackSquareRefIdeal m →
    θ_run (Cert.BackSquareRefIdeal.defs (F := Ideal)) (onTc (τ := Cert.BackSquareRefIdeal.τ) (Cert.BackSquareRefIdeal.main (F := Ideal))) ⟨m, fun _ => 0, g⟩ (fun r => (∀ c : Dev Cert.BackSquareRefIdeal.nD,
      r.2.mem ((c.tc : Thread Cert.BackSquareRefIdeal.nD Cert.BackSquareRefIdeal.τ).loc Cert.BackSquareRefIdeal.main_arg0) = m ((c.tc : Thread Cert.BackSquareRefIdeal.nD Cert.BackSquareRefIdeal.τ).loc Cert.BackSquareRefIdeal.main_arg0)
      ∧ r.2.mem ((c.tc : Thread Cert.BackSquareRefIdeal.nD Cert.BackSquareRefIdeal.τ).loc Cert.BackSquareRefIdeal.main_arg1) = m ((c.tc : Thread Cert.BackSquareRefIdeal.nD Cert.BackSquareRefIdeal.τ).loc Cert.BackSquareRefIdeal.main_arg1))
      ∧ r.2.sem = fun _ => 0)

def quiescent_BackHeads [hBackHeads : Cert.BackHeads.Facts] : Prop :=
  ∀ (m : (ℓ : Loc Cert.BackHeads.nD Cert.BackHeads.τ Cert.BackHeads.sig) → Buf (Elt Bits) ℓ) (g : Dev Cert.BackHeads.nD → PrngReg), Pre_BackHeads m →
    θ_run (Cert.BackHeads.defs (F := Bits)) (onTc (τ := Cert.BackHeads.τ) (Cert.BackHeads.main (F := Bits))) ⟨m, fun _ => 0, g⟩ (fun r => (∀ c : Dev Cert.BackHeads.nD,
      r.2.mem ((c.tc : Thread Cert.BackHeads.nD Cert.BackHeads.τ).loc Cert.BackHeads.main_arg0) = m ((c.tc : Thread Cert.BackHeads.nD Cert.BackHeads.τ).loc Cert.BackHeads.main_arg0)
      ∧ r.2.mem ((c.tc : Thread Cert.BackHeads.nD Cert.BackHeads.τ).loc Cert.BackHeads.main_arg1) = m ((c.tc : Thread Cert.BackHeads.nD Cert.BackHeads.τ).loc Cert.BackHeads.main_arg1))
      ∧ r.2.sem = fun _ => 0)

def quiescent_BackHeadsIdeal [hBackHeadsIdeal : Cert.BackHeadsIdeal.Facts] : Prop :=
  ∀ (m : (ℓ : Loc Cert.BackHeadsIdeal.nD Cert.BackHeadsIdeal.τ Cert.BackHeadsIdeal.sig) → Buf (Elt Ideal) ℓ) (g : Dev Cert.BackHeadsIdeal.nD → PrngReg), Pre_BackHeadsIdeal m →
    θ_run (Cert.BackHeadsIdeal.defs (F := Ideal)) (onTc (τ := Cert.BackHeadsIdeal.τ) (Cert.BackHeadsIdeal.main (F := Ideal))) ⟨m, fun _ => 0, g⟩ (fun r => (∀ c : Dev Cert.BackHeadsIdeal.nD,
      r.2.mem ((c.tc : Thread Cert.BackHeadsIdeal.nD Cert.BackHeadsIdeal.τ).loc Cert.BackHeadsIdeal.main_arg0) = m ((c.tc : Thread Cert.BackHeadsIdeal.nD Cert.BackHeadsIdeal.τ).loc Cert.BackHeadsIdeal.main_arg0)
      ∧ r.2.mem ((c.tc : Thread Cert.BackHeadsIdeal.nD Cert.BackHeadsIdeal.τ).loc Cert.BackHeadsIdeal.main_arg1) = m ((c.tc : Thread Cert.BackHeadsIdeal.nD Cert.BackHeadsIdeal.τ).loc Cert.BackHeadsIdeal.main_arg1))
      ∧ r.2.sem = fun _ => 0)

def quiescent_BackHeadsRefIdeal [hBackHeadsRefIdeal : Cert.BackHeadsRefIdeal.Facts] : Prop :=
  ∀ (m : (ℓ : Loc Cert.BackHeadsRefIdeal.nD Cert.BackHeadsRefIdeal.τ Cert.BackHeadsRefIdeal.sig) → Buf (Elt Ideal) ℓ) (g : Dev Cert.BackHeadsRefIdeal.nD → PrngReg), Pre_BackHeadsRefIdeal m →
    θ_run (Cert.BackHeadsRefIdeal.defs (F := Ideal)) (onTc (τ := Cert.BackHeadsRefIdeal.τ) (Cert.BackHeadsRefIdeal.main (F := Ideal))) ⟨m, fun _ => 0, g⟩ (fun r => (∀ c : Dev Cert.BackHeadsRefIdeal.nD,
      r.2.mem ((c.tc : Thread Cert.BackHeadsRefIdeal.nD Cert.BackHeadsRefIdeal.τ).loc Cert.BackHeadsRefIdeal.main_arg0) = m ((c.tc : Thread Cert.BackHeadsRefIdeal.nD Cert.BackHeadsRefIdeal.τ).loc Cert.BackHeadsRefIdeal.main_arg0)
      ∧ r.2.mem ((c.tc : Thread Cert.BackHeadsRefIdeal.nD Cert.BackHeadsRefIdeal.τ).loc Cert.BackHeadsRefIdeal.main_arg1) = m ((c.tc : Thread Cert.BackHeadsRefIdeal.nD Cert.BackHeadsRefIdeal.τ).loc Cert.BackHeadsRefIdeal.main_arg1))
      ∧ r.2.sem = fun _ => 0)

def quiescent_BackKey [hBackKey : Cert.BackKey.Facts] : Prop :=
  ∀ (m : (ℓ : Loc Cert.BackKey.nD Cert.BackKey.τ Cert.BackKey.sig) → Buf (Elt Bits) ℓ) (g : Dev Cert.BackKey.nD → PrngReg), Pre_BackKey m →
    θ_run (Cert.BackKey.defs (F := Bits)) (onTc (τ := Cert.BackKey.τ) (Cert.BackKey.main (F := Bits))) ⟨m, fun _ => 0, g⟩ (fun r => (∀ c : Dev Cert.BackKey.nD,
      r.2.mem ((c.tc : Thread Cert.BackKey.nD Cert.BackKey.τ).loc Cert.BackKey.main_arg0) = m ((c.tc : Thread Cert.BackKey.nD Cert.BackKey.τ).loc Cert.BackKey.main_arg0)
      ∧ r.2.mem ((c.tc : Thread Cert.BackKey.nD Cert.BackKey.τ).loc Cert.BackKey.main_arg1) = m ((c.tc : Thread Cert.BackKey.nD Cert.BackKey.τ).loc Cert.BackKey.main_arg1))
      ∧ r.2.sem = fun _ => 0)

def quiescent_BackKeyIdeal [hBackKeyIdeal : Cert.BackKeyIdeal.Facts] : Prop :=
  ∀ (m : (ℓ : Loc Cert.BackKeyIdeal.nD Cert.BackKeyIdeal.τ Cert.BackKeyIdeal.sig) → Buf (Elt Ideal) ℓ) (g : Dev Cert.BackKeyIdeal.nD → PrngReg), Pre_BackKeyIdeal m →
    θ_run (Cert.BackKeyIdeal.defs (F := Ideal)) (onTc (τ := Cert.BackKeyIdeal.τ) (Cert.BackKeyIdeal.main (F := Ideal))) ⟨m, fun _ => 0, g⟩ (fun r => (∀ c : Dev Cert.BackKeyIdeal.nD,
      r.2.mem ((c.tc : Thread Cert.BackKeyIdeal.nD Cert.BackKeyIdeal.τ).loc Cert.BackKeyIdeal.main_arg0) = m ((c.tc : Thread Cert.BackKeyIdeal.nD Cert.BackKeyIdeal.τ).loc Cert.BackKeyIdeal.main_arg0)
      ∧ r.2.mem ((c.tc : Thread Cert.BackKeyIdeal.nD Cert.BackKeyIdeal.τ).loc Cert.BackKeyIdeal.main_arg1) = m ((c.tc : Thread Cert.BackKeyIdeal.nD Cert.BackKeyIdeal.τ).loc Cert.BackKeyIdeal.main_arg1))
      ∧ r.2.sem = fun _ => 0)

def quiescent_BackKeyRefIdeal [hBackKeyRefIdeal : Cert.BackKeyRefIdeal.Facts] : Prop :=
  ∀ (m : (ℓ : Loc Cert.BackKeyRefIdeal.nD Cert.BackKeyRefIdeal.τ Cert.BackKeyRefIdeal.sig) → Buf (Elt Ideal) ℓ) (g : Dev Cert.BackKeyRefIdeal.nD → PrngReg), Pre_BackKeyRefIdeal m →
    θ_run (Cert.BackKeyRefIdeal.defs (F := Ideal)) (onTc (τ := Cert.BackKeyRefIdeal.τ) (Cert.BackKeyRefIdeal.main (F := Ideal))) ⟨m, fun _ => 0, g⟩ (fun r => (∀ c : Dev Cert.BackKeyRefIdeal.nD,
      r.2.mem ((c.tc : Thread Cert.BackKeyRefIdeal.nD Cert.BackKeyRefIdeal.τ).loc Cert.BackKeyRefIdeal.main_arg0) = m ((c.tc : Thread Cert.BackKeyRefIdeal.nD Cert.BackKeyRefIdeal.τ).loc Cert.BackKeyRefIdeal.main_arg0)
      ∧ r.2.mem ((c.tc : Thread Cert.BackKeyRefIdeal.nD Cert.BackKeyRefIdeal.τ).loc Cert.BackKeyRefIdeal.main_arg1) = m ((c.tc : Thread Cert.BackKeyRefIdeal.nD Cert.BackKeyRefIdeal.τ).loc Cert.BackKeyRefIdeal.main_arg1))
      ∧ r.2.sem = fun _ => 0)

def quiescent_BackValue [hBackValue : Cert.BackValue.Facts] : Prop :=
  ∀ (m : (ℓ : Loc Cert.BackValue.nD Cert.BackValue.τ Cert.BackValue.sig) → Buf (Elt Bits) ℓ) (g : Dev Cert.BackValue.nD → PrngReg), Pre_BackValue m →
    θ_run (Cert.BackValue.defs (F := Bits)) (onTc (τ := Cert.BackValue.τ) (Cert.BackValue.main (F := Bits))) ⟨m, fun _ => 0, g⟩ (fun r => (∀ c : Dev Cert.BackValue.nD,
      r.2.mem ((c.tc : Thread Cert.BackValue.nD Cert.BackValue.τ).loc Cert.BackValue.main_arg0) = m ((c.tc : Thread Cert.BackValue.nD Cert.BackValue.τ).loc Cert.BackValue.main_arg0)
      ∧ r.2.mem ((c.tc : Thread Cert.BackValue.nD Cert.BackValue.τ).loc Cert.BackValue.main_arg1) = m ((c.tc : Thread Cert.BackValue.nD Cert.BackValue.τ).loc Cert.BackValue.main_arg1)
      ∧ r.2.mem ((c.tc : Thread Cert.BackValue.nD Cert.BackValue.τ).loc Cert.BackValue.main_arg2) = m ((c.tc : Thread Cert.BackValue.nD Cert.BackValue.τ).loc Cert.BackValue.main_arg2))
      ∧ r.2.sem = fun _ => 0)

def quiescent_BackValueIdeal [hBackValueIdeal : Cert.BackValueIdeal.Facts] : Prop :=
  ∀ (m : (ℓ : Loc Cert.BackValueIdeal.nD Cert.BackValueIdeal.τ Cert.BackValueIdeal.sig) → Buf (Elt Ideal) ℓ) (g : Dev Cert.BackValueIdeal.nD → PrngReg), Pre_BackValueIdeal m →
    θ_run (Cert.BackValueIdeal.defs (F := Ideal)) (onTc (τ := Cert.BackValueIdeal.τ) (Cert.BackValueIdeal.main (F := Ideal))) ⟨m, fun _ => 0, g⟩ (fun r => (∀ c : Dev Cert.BackValueIdeal.nD,
      r.2.mem ((c.tc : Thread Cert.BackValueIdeal.nD Cert.BackValueIdeal.τ).loc Cert.BackValueIdeal.main_arg0) = m ((c.tc : Thread Cert.BackValueIdeal.nD Cert.BackValueIdeal.τ).loc Cert.BackValueIdeal.main_arg0)
      ∧ r.2.mem ((c.tc : Thread Cert.BackValueIdeal.nD Cert.BackValueIdeal.τ).loc Cert.BackValueIdeal.main_arg1) = m ((c.tc : Thread Cert.BackValueIdeal.nD Cert.BackValueIdeal.τ).loc Cert.BackValueIdeal.main_arg1)
      ∧ r.2.mem ((c.tc : Thread Cert.BackValueIdeal.nD Cert.BackValueIdeal.τ).loc Cert.BackValueIdeal.main_arg2) = m ((c.tc : Thread Cert.BackValueIdeal.nD Cert.BackValueIdeal.τ).loc Cert.BackValueIdeal.main_arg2))
      ∧ r.2.sem = fun _ => 0)

def quiescent_BackValueRefIdeal [hBackValueRefIdeal : Cert.BackValueRefIdeal.Facts] : Prop :=
  ∀ (m : (ℓ : Loc Cert.BackValueRefIdeal.nD Cert.BackValueRefIdeal.τ Cert.BackValueRefIdeal.sig) → Buf (Elt Ideal) ℓ) (g : Dev Cert.BackValueRefIdeal.nD → PrngReg), Pre_BackValueRefIdeal m →
    θ_run (Cert.BackValueRefIdeal.defs (F := Ideal)) (onTc (τ := Cert.BackValueRefIdeal.τ) (Cert.BackValueRefIdeal.main (F := Ideal))) ⟨m, fun _ => 0, g⟩ (fun r => (∀ c : Dev Cert.BackValueRefIdeal.nD,
      r.2.mem ((c.tc : Thread Cert.BackValueRefIdeal.nD Cert.BackValueRefIdeal.τ).loc Cert.BackValueRefIdeal.main_arg0) = m ((c.tc : Thread Cert.BackValueRefIdeal.nD Cert.BackValueRefIdeal.τ).loc Cert.BackValueRefIdeal.main_arg0)
      ∧ r.2.mem ((c.tc : Thread Cert.BackValueRefIdeal.nD Cert.BackValueRefIdeal.τ).loc Cert.BackValueRefIdeal.main_arg1) = m ((c.tc : Thread Cert.BackValueRefIdeal.nD Cert.BackValueRefIdeal.τ).loc Cert.BackValueRefIdeal.main_arg1)
      ∧ r.2.mem ((c.tc : Thread Cert.BackValueRefIdeal.nD Cert.BackValueRefIdeal.τ).loc Cert.BackValueRefIdeal.main_arg2) = m ((c.tc : Thread Cert.BackValueRefIdeal.nD Cert.BackValueRefIdeal.τ).loc Cert.BackValueRefIdeal.main_arg2))
      ∧ r.2.sem = fun _ => 0)

def quiescent_BackIn [hBackIn : Cert.BackIn.Facts] : Prop :=
  ∀ (m : (ℓ : Loc Cert.BackIn.nD Cert.BackIn.τ Cert.BackIn.sig) → Buf (Elt Bits) ℓ) (g : Dev Cert.BackIn.nD → PrngReg), Pre_BackIn m →
    θ_run (Cert.BackIn.defs (F := Bits)) (onTc (τ := Cert.BackIn.τ) (Cert.BackIn.main (F := Bits))) ⟨m, fun _ => 0, g⟩ (fun r => (∀ c : Dev Cert.BackIn.nD,
      r.2.mem ((c.tc : Thread Cert.BackIn.nD Cert.BackIn.τ).loc Cert.BackIn.main_arg0) = m ((c.tc : Thread Cert.BackIn.nD Cert.BackIn.τ).loc Cert.BackIn.main_arg0)
      ∧ r.2.mem ((c.tc : Thread Cert.BackIn.nD Cert.BackIn.τ).loc Cert.BackIn.main_arg1) = m ((c.tc : Thread Cert.BackIn.nD Cert.BackIn.τ).loc Cert.BackIn.main_arg1))
      ∧ r.2.sem = fun _ => 0)

def quiescent_BackInIdeal [hBackInIdeal : Cert.BackInIdeal.Facts] : Prop :=
  ∀ (m : (ℓ : Loc Cert.BackInIdeal.nD Cert.BackInIdeal.τ Cert.BackInIdeal.sig) → Buf (Elt Ideal) ℓ) (g : Dev Cert.BackInIdeal.nD → PrngReg), Pre_BackInIdeal m →
    θ_run (Cert.BackInIdeal.defs (F := Ideal)) (onTc (τ := Cert.BackInIdeal.τ) (Cert.BackInIdeal.main (F := Ideal))) ⟨m, fun _ => 0, g⟩ (fun r => (∀ c : Dev Cert.BackInIdeal.nD,
      r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
      ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1))
      ∧ r.2.sem = fun _ => 0)

def quiescent_BackInRefIdeal [hBackInRefIdeal : Cert.BackInRefIdeal.Facts] : Prop :=
  ∀ (m : (ℓ : Loc Cert.BackInRefIdeal.nD Cert.BackInRefIdeal.τ Cert.BackInRefIdeal.sig) → Buf (Elt Ideal) ℓ) (g : Dev Cert.BackInRefIdeal.nD → PrngReg), Pre_BackInRefIdeal m →
    θ_run (Cert.BackInRefIdeal.defs (F := Ideal)) (onTc (τ := Cert.BackInRefIdeal.τ) (Cert.BackInRefIdeal.main (F := Ideal))) ⟨m, fun _ => 0, g⟩ (fun r => (∀ c : Dev Cert.BackInRefIdeal.nD,
      r.2.mem ((c.tc : Thread Cert.BackInRefIdeal.nD Cert.BackInRefIdeal.τ).loc Cert.BackInRefIdeal.main_arg0) = m ((c.tc : Thread Cert.BackInRefIdeal.nD Cert.BackInRefIdeal.τ).loc Cert.BackInRefIdeal.main_arg0)
      ∧ r.2.mem ((c.tc : Thread Cert.BackInRefIdeal.nD Cert.BackInRefIdeal.τ).loc Cert.BackInRefIdeal.main_arg1) = m ((c.tc : Thread Cert.BackInRefIdeal.nD Cert.BackInRefIdeal.τ).loc Cert.BackInRefIdeal.main_arg1))
      ∧ r.2.sem = fun _ => 0)

def quiescent_BackUpLeft [hBackUpLeft : Cert.BackUpLeft.Facts] : Prop :=
  ∀ (m : (ℓ : Loc Cert.BackUpLeft.nD Cert.BackUpLeft.τ Cert.BackUpLeft.sig) → Buf (Elt Bits) ℓ) (g : Dev Cert.BackUpLeft.nD → PrngReg), Pre_BackUpLeft m →
    θ_run (Cert.BackUpLeft.defs (F := Bits)) (onTc (τ := Cert.BackUpLeft.τ) (Cert.BackUpLeft.main (F := Bits))) ⟨m, fun _ => 0, g⟩ (fun r => (∀ c : Dev Cert.BackUpLeft.nD,
      r.2.mem ((c.tc : Thread Cert.BackUpLeft.nD Cert.BackUpLeft.τ).loc Cert.BackUpLeft.main_arg0) = m ((c.tc : Thread Cert.BackUpLeft.nD Cert.BackUpLeft.τ).loc Cert.BackUpLeft.main_arg0)
      ∧ r.2.mem ((c.tc : Thread Cert.BackUpLeft.nD Cert.BackUpLeft.τ).loc Cert.BackUpLeft.main_arg1) = m ((c.tc : Thread Cert.BackUpLeft.nD Cert.BackUpLeft.τ).loc Cert.BackUpLeft.main_arg1))
      ∧ r.2.sem = fun _ => 0)

def quiescent_BackUpLeftIdeal [hBackUpLeftIdeal : Cert.BackUpLeftIdeal.Facts] : Prop :=
  ∀ (m : (ℓ : Loc Cert.BackUpLeftIdeal.nD Cert.BackUpLeftIdeal.τ Cert.BackUpLeftIdeal.sig) → Buf (Elt Ideal) ℓ) (g : Dev Cert.BackUpLeftIdeal.nD → PrngReg), Pre_BackUpLeftIdeal m →
    θ_run (Cert.BackUpLeftIdeal.defs (F := Ideal)) (onTc (τ := Cert.BackUpLeftIdeal.τ) (Cert.BackUpLeftIdeal.main (F := Ideal))) ⟨m, fun _ => 0, g⟩ (fun r => (∀ c : Dev Cert.BackUpLeftIdeal.nD,
      r.2.mem ((c.tc : Thread Cert.BackUpLeftIdeal.nD Cert.BackUpLeftIdeal.τ).loc Cert.BackUpLeftIdeal.main_arg0) = m ((c.tc : Thread Cert.BackUpLeftIdeal.nD Cert.BackUpLeftIdeal.τ).loc Cert.BackUpLeftIdeal.main_arg0)
      ∧ r.2.mem ((c.tc : Thread Cert.BackUpLeftIdeal.nD Cert.BackUpLeftIdeal.τ).loc Cert.BackUpLeftIdeal.main_arg1) = m ((c.tc : Thread Cert.BackUpLeftIdeal.nD Cert.BackUpLeftIdeal.τ).loc Cert.BackUpLeftIdeal.main_arg1))
      ∧ r.2.sem = fun _ => 0)

def quiescent_BackUpLeftRefIdeal [hBackUpLeftRefIdeal : Cert.BackUpLeftRefIdeal.Facts] : Prop :=
  ∀ (m : (ℓ : Loc Cert.BackUpLeftRefIdeal.nD Cert.BackUpLeftRefIdeal.τ Cert.BackUpLeftRefIdeal.sig) → Buf (Elt Ideal) ℓ) (g : Dev Cert.BackUpLeftRefIdeal.nD → PrngReg), Pre_BackUpLeftRefIdeal m →
    θ_run (Cert.BackUpLeftRefIdeal.defs (F := Ideal)) (onTc (τ := Cert.BackUpLeftRefIdeal.τ) (Cert.BackUpLeftRefIdeal.main (F := Ideal))) ⟨m, fun _ => 0, g⟩ (fun r => (∀ c : Dev Cert.BackUpLeftRefIdeal.nD,
      r.2.mem ((c.tc : Thread Cert.BackUpLeftRefIdeal.nD Cert.BackUpLeftRefIdeal.τ).loc Cert.BackUpLeftRefIdeal.main_arg0) = m ((c.tc : Thread Cert.BackUpLeftRefIdeal.nD Cert.BackUpLeftRefIdeal.τ).loc Cert.BackUpLeftRefIdeal.main_arg0)
      ∧ r.2.mem ((c.tc : Thread Cert.BackUpLeftRefIdeal.nD Cert.BackUpLeftRefIdeal.τ).loc Cert.BackUpLeftRefIdeal.main_arg1) = m ((c.tc : Thread Cert.BackUpLeftRefIdeal.nD Cert.BackUpLeftRefIdeal.τ).loc Cert.BackUpLeftRefIdeal.main_arg1))
      ∧ r.2.sem = fun _ => 0)

def quiescent_BackUpRight [hBackUpRight : Cert.BackUpRight.Facts] : Prop :=
  ∀ (m : (ℓ : Loc Cert.BackUpRight.nD Cert.BackUpRight.τ Cert.BackUpRight.sig) → Buf (Elt Bits) ℓ) (g : Dev Cert.BackUpRight.nD → PrngReg), Pre_BackUpRight m →
    θ_run (Cert.BackUpRight.defs (F := Bits)) (onTc (τ := Cert.BackUpRight.τ) (Cert.BackUpRight.main (F := Bits))) ⟨m, fun _ => 0, g⟩ (fun r => (∀ c : Dev Cert.BackUpRight.nD,
      r.2.mem ((c.tc : Thread Cert.BackUpRight.nD Cert.BackUpRight.τ).loc Cert.BackUpRight.main_arg0) = m ((c.tc : Thread Cert.BackUpRight.nD Cert.BackUpRight.τ).loc Cert.BackUpRight.main_arg0)
      ∧ r.2.mem ((c.tc : Thread Cert.BackUpRight.nD Cert.BackUpRight.τ).loc Cert.BackUpRight.main_arg1) = m ((c.tc : Thread Cert.BackUpRight.nD Cert.BackUpRight.τ).loc Cert.BackUpRight.main_arg1)
      ∧ r.2.mem ((c.tc : Thread Cert.BackUpRight.nD Cert.BackUpRight.τ).loc Cert.BackUpRight.main_arg2) = m ((c.tc : Thread Cert.BackUpRight.nD Cert.BackUpRight.τ).loc Cert.BackUpRight.main_arg2))
      ∧ r.2.sem = fun _ => 0)

def quiescent_BackUpRightIdeal [hBackUpRightIdeal : Cert.BackUpRightIdeal.Facts] : Prop :=
  ∀ (m : (ℓ : Loc Cert.BackUpRightIdeal.nD Cert.BackUpRightIdeal.τ Cert.BackUpRightIdeal.sig) → Buf (Elt Ideal) ℓ) (g : Dev Cert.BackUpRightIdeal.nD → PrngReg), Pre_BackUpRightIdeal m →
    θ_run (Cert.BackUpRightIdeal.defs (F := Ideal)) (onTc (τ := Cert.BackUpRightIdeal.τ) (Cert.BackUpRightIdeal.main (F := Ideal))) ⟨m, fun _ => 0, g⟩ (fun r => (∀ c : Dev Cert.BackUpRightIdeal.nD,
      r.2.mem ((c.tc : Thread Cert.BackUpRightIdeal.nD Cert.BackUpRightIdeal.τ).loc Cert.BackUpRightIdeal.main_arg0) = m ((c.tc : Thread Cert.BackUpRightIdeal.nD Cert.BackUpRightIdeal.τ).loc Cert.BackUpRightIdeal.main_arg0)
      ∧ r.2.mem ((c.tc : Thread Cert.BackUpRightIdeal.nD Cert.BackUpRightIdeal.τ).loc Cert.BackUpRightIdeal.main_arg1) = m ((c.tc : Thread Cert.BackUpRightIdeal.nD Cert.BackUpRightIdeal.τ).loc Cert.BackUpRightIdeal.main_arg1)
      ∧ r.2.mem ((c.tc : Thread Cert.BackUpRightIdeal.nD Cert.BackUpRightIdeal.τ).loc Cert.BackUpRightIdeal.main_arg2) = m ((c.tc : Thread Cert.BackUpRightIdeal.nD Cert.BackUpRightIdeal.τ).loc Cert.BackUpRightIdeal.main_arg2))
      ∧ r.2.sem = fun _ => 0)

def quiescent_BackUpRightRefIdeal [hBackUpRightRefIdeal : Cert.BackUpRightRefIdeal.Facts] : Prop :=
  ∀ (m : (ℓ : Loc Cert.BackUpRightRefIdeal.nD Cert.BackUpRightRefIdeal.τ Cert.BackUpRightRefIdeal.sig) → Buf (Elt Ideal) ℓ) (g : Dev Cert.BackUpRightRefIdeal.nD → PrngReg), Pre_BackUpRightRefIdeal m →
    θ_run (Cert.BackUpRightRefIdeal.defs (F := Ideal)) (onTc (τ := Cert.BackUpRightRefIdeal.τ) (Cert.BackUpRightRefIdeal.main (F := Ideal))) ⟨m, fun _ => 0, g⟩ (fun r => (∀ c : Dev Cert.BackUpRightRefIdeal.nD,
      r.2.mem ((c.tc : Thread Cert.BackUpRightRefIdeal.nD Cert.BackUpRightRefIdeal.τ).loc Cert.BackUpRightRefIdeal.main_arg0) = m ((c.tc : Thread Cert.BackUpRightRefIdeal.nD Cert.BackUpRightRefIdeal.τ).loc Cert.BackUpRightRefIdeal.main_arg0)
      ∧ r.2.mem ((c.tc : Thread Cert.BackUpRightRefIdeal.nD Cert.BackUpRightRefIdeal.τ).loc Cert.BackUpRightRefIdeal.main_arg1) = m ((c.tc : Thread Cert.BackUpRightRefIdeal.nD Cert.BackUpRightRefIdeal.τ).loc Cert.BackUpRightRefIdeal.main_arg1)
      ∧ r.2.mem ((c.tc : Thread Cert.BackUpRightRefIdeal.nD Cert.BackUpRightRefIdeal.τ).loc Cert.BackUpRightRefIdeal.main_arg2) = m ((c.tc : Thread Cert.BackUpRightRefIdeal.nD Cert.BackUpRightRefIdeal.τ).loc Cert.BackUpRightRefIdeal.main_arg2))
      ∧ r.2.sem = fun _ => 0)

def quiescent_GradSquare [hGradSquare : Cert.GradSquare.Facts] : Prop :=
  ∀ (m : (ℓ : Loc Cert.GradSquare.nD Cert.GradSquare.τ Cert.GradSquare.sig) → Buf (Elt Bits) ℓ) (g : Dev Cert.GradSquare.nD → PrngReg), Pre_GradSquare m →
    θ_run (Cert.GradSquare.defs (F := Bits)) (onTc (τ := Cert.GradSquare.τ) (Cert.GradSquare.main (F := Bits))) ⟨m, fun _ => 0, g⟩ (fun r => (∀ c : Dev Cert.GradSquare.nD,
      r.2.mem ((c.tc : Thread Cert.GradSquare.nD Cert.GradSquare.τ).loc Cert.GradSquare.main_arg0) = m ((c.tc : Thread Cert.GradSquare.nD Cert.GradSquare.τ).loc Cert.GradSquare.main_arg0)
      ∧ r.2.mem ((c.tc : Thread Cert.GradSquare.nD Cert.GradSquare.τ).loc Cert.GradSquare.main_arg1) = m ((c.tc : Thread Cert.GradSquare.nD Cert.GradSquare.τ).loc Cert.GradSquare.main_arg1))
      ∧ r.2.sem = fun _ => 0)

def quiescent_GradSquareIdeal [hGradSquareIdeal : Cert.GradSquareIdeal.Facts] : Prop :=
  ∀ (m : (ℓ : Loc Cert.GradSquareIdeal.nD Cert.GradSquareIdeal.τ Cert.GradSquareIdeal.sig) → Buf (Elt Ideal) ℓ) (g : Dev Cert.GradSquareIdeal.nD → PrngReg), Pre_GradSquareIdeal m →
    θ_run (Cert.GradSquareIdeal.defs (F := Ideal)) (onTc (τ := Cert.GradSquareIdeal.τ) (Cert.GradSquareIdeal.main (F := Ideal))) ⟨m, fun _ => 0, g⟩ (fun r => (∀ c : Dev Cert.GradSquareIdeal.nD,
      r.2.mem ((c.tc : Thread Cert.GradSquareIdeal.nD Cert.GradSquareIdeal.τ).loc Cert.GradSquareIdeal.main_arg0) = m ((c.tc : Thread Cert.GradSquareIdeal.nD Cert.GradSquareIdeal.τ).loc Cert.GradSquareIdeal.main_arg0)
      ∧ r.2.mem ((c.tc : Thread Cert.GradSquareIdeal.nD Cert.GradSquareIdeal.τ).loc Cert.GradSquareIdeal.main_arg1) = m ((c.tc : Thread Cert.GradSquareIdeal.nD Cert.GradSquareIdeal.τ).loc Cert.GradSquareIdeal.main_arg1))
      ∧ r.2.sem = fun _ => 0)

def quiescent_GradSquareRefIdeal [hGradSquareRefIdeal : Cert.GradSquareRefIdeal.Facts] : Prop :=
  ∀ (m : (ℓ : Loc Cert.GradSquareRefIdeal.nD Cert.GradSquareRefIdeal.τ Cert.GradSquareRefIdeal.sig) → Buf (Elt Ideal) ℓ) (g : Dev Cert.GradSquareRefIdeal.nD → PrngReg), Pre_GradSquareRefIdeal m →
    θ_run (Cert.GradSquareRefIdeal.defs (F := Ideal)) (onTc (τ := Cert.GradSquareRefIdeal.τ) (Cert.GradSquareRefIdeal.main (F := Ideal))) ⟨m, fun _ => 0, g⟩ (fun r => (∀ c : Dev Cert.GradSquareRefIdeal.nD,
      r.2.mem ((c.tc : Thread Cert.GradSquareRefIdeal.nD Cert.GradSquareRefIdeal.τ).loc Cert.GradSquareRefIdeal.main_arg0) = m ((c.tc : Thread Cert.GradSquareRefIdeal.nD Cert.GradSquareRefIdeal.τ).loc Cert.GradSquareRefIdeal.main_arg0)
      ∧ r.2.mem ((c.tc : Thread Cert.GradSquareRefIdeal.nD Cert.GradSquareRefIdeal.τ).loc Cert.GradSquareRefIdeal.main_arg1) = m ((c.tc : Thread Cert.GradSquareRefIdeal.nD Cert.GradSquareRefIdeal.τ).loc Cert.GradSquareRefIdeal.main_arg1))
      ∧ r.2.sem = fun _ => 0)

def quiescent_GradKey [hGradKey : Cert.GradKey.Facts] : Prop :=
  ∀ (m : (ℓ : Loc Cert.GradKey.nD Cert.GradKey.τ Cert.GradKey.sig) → Buf (Elt Bits) ℓ) (g : Dev Cert.GradKey.nD → PrngReg), Pre_GradKey m →
    θ_run (Cert.GradKey.defs (F := Bits)) (onTc (τ := Cert.GradKey.τ) (Cert.GradKey.main (F := Bits))) ⟨m, fun _ => 0, g⟩ (fun r => (∀ c : Dev Cert.GradKey.nD,
      r.2.mem ((c.tc : Thread Cert.GradKey.nD Cert.GradKey.τ).loc Cert.GradKey.main_arg0) = m ((c.tc : Thread Cert.GradKey.nD Cert.GradKey.τ).loc Cert.GradKey.main_arg0)
      ∧ r.2.mem ((c.tc : Thread Cert.GradKey.nD Cert.GradKey.τ).loc Cert.GradKey.main_arg1) = m ((c.tc : Thread Cert.GradKey.nD Cert.GradKey.τ).loc Cert.GradKey.main_arg1))
      ∧ r.2.sem = fun _ => 0)

def quiescent_GradKeyIdeal [hGradKeyIdeal : Cert.GradKeyIdeal.Facts] : Prop :=
  ∀ (m : (ℓ : Loc Cert.GradKeyIdeal.nD Cert.GradKeyIdeal.τ Cert.GradKeyIdeal.sig) → Buf (Elt Ideal) ℓ) (g : Dev Cert.GradKeyIdeal.nD → PrngReg), Pre_GradKeyIdeal m →
    θ_run (Cert.GradKeyIdeal.defs (F := Ideal)) (onTc (τ := Cert.GradKeyIdeal.τ) (Cert.GradKeyIdeal.main (F := Ideal))) ⟨m, fun _ => 0, g⟩ (fun r => (∀ c : Dev Cert.GradKeyIdeal.nD,
      r.2.mem ((c.tc : Thread Cert.GradKeyIdeal.nD Cert.GradKeyIdeal.τ).loc Cert.GradKeyIdeal.main_arg0) = m ((c.tc : Thread Cert.GradKeyIdeal.nD Cert.GradKeyIdeal.τ).loc Cert.GradKeyIdeal.main_arg0)
      ∧ r.2.mem ((c.tc : Thread Cert.GradKeyIdeal.nD Cert.GradKeyIdeal.τ).loc Cert.GradKeyIdeal.main_arg1) = m ((c.tc : Thread Cert.GradKeyIdeal.nD Cert.GradKeyIdeal.τ).loc Cert.GradKeyIdeal.main_arg1))
      ∧ r.2.sem = fun _ => 0)

def quiescent_GradKeyRefIdeal [hGradKeyRefIdeal : Cert.GradKeyRefIdeal.Facts] : Prop :=
  ∀ (m : (ℓ : Loc Cert.GradKeyRefIdeal.nD Cert.GradKeyRefIdeal.τ Cert.GradKeyRefIdeal.sig) → Buf (Elt Ideal) ℓ) (g : Dev Cert.GradKeyRefIdeal.nD → PrngReg), Pre_GradKeyRefIdeal m →
    θ_run (Cert.GradKeyRefIdeal.defs (F := Ideal)) (onTc (τ := Cert.GradKeyRefIdeal.τ) (Cert.GradKeyRefIdeal.main (F := Ideal))) ⟨m, fun _ => 0, g⟩ (fun r => (∀ c : Dev Cert.GradKeyRefIdeal.nD,
      r.2.mem ((c.tc : Thread Cert.GradKeyRefIdeal.nD Cert.GradKeyRefIdeal.τ).loc Cert.GradKeyRefIdeal.main_arg0) = m ((c.tc : Thread Cert.GradKeyRefIdeal.nD Cert.GradKeyRefIdeal.τ).loc Cert.GradKeyRefIdeal.main_arg0)
      ∧ r.2.mem ((c.tc : Thread Cert.GradKeyRefIdeal.nD Cert.GradKeyRefIdeal.τ).loc Cert.GradKeyRefIdeal.main_arg1) = m ((c.tc : Thread Cert.GradKeyRefIdeal.nD Cert.GradKeyRefIdeal.τ).loc Cert.GradKeyRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_GradUpLeft [hGradUpLeft : Cert.GradUpLeft.Facts] : Prop :=
  ∀ (m : (ℓ : Loc Cert.GradUpLeft.nD Cert.GradUpLeft.τ Cert.GradUpLeft.sig) → Buf (Elt Bits) ℓ) (g : Dev Cert.GradUpLeft.nD → PrngReg), Pre_GradUpLeft m →
    θ_run (Cert.GradUpLeft.defs (F := Bits)) (onTc (τ := Cert.GradUpLeft.τ) (Cert.GradUpLeft.main (F := Bits))) ⟨m, fun _ => 0, g⟩ (fun r => (∀ c : Dev Cert.GradUpLeft.nD,
      r.2.mem ((c.tc : Thread Cert.GradUpLeft.nD Cert.GradUpLeft.τ).loc Cert.GradUpLeft.main_arg0) = m ((c.tc : Thread Cert.GradUpLeft.nD Cert.GradUpLeft.τ).loc Cert.GradUpLeft.main_arg0)
      ∧ r.2.mem ((c.tc : Thread Cert.GradUpLeft.nD Cert.GradUpLeft.τ).loc Cert.GradUpLeft.main_arg1) = m ((c.tc : Thread Cert.GradUpLeft.nD Cert.GradUpLeft.τ).loc Cert.GradUpLeft.main_arg1))
      ∧ r.2.sem = fun _ => 0)

def quiescent_GradUpLeftIdeal [hGradUpLeftIdeal : Cert.GradUpLeftIdeal.Facts] : Prop :=
  ∀ (m : (ℓ : Loc Cert.GradUpLeftIdeal.nD Cert.GradUpLeftIdeal.τ Cert.GradUpLeftIdeal.sig) → Buf (Elt Ideal) ℓ) (g : Dev Cert.GradUpLeftIdeal.nD → PrngReg), Pre_GradUpLeftIdeal m →
    θ_run (Cert.GradUpLeftIdeal.defs (F := Ideal)) (onTc (τ := Cert.GradUpLeftIdeal.τ) (Cert.GradUpLeftIdeal.main (F := Ideal))) ⟨m, fun _ => 0, g⟩ (fun r => (∀ c : Dev Cert.GradUpLeftIdeal.nD,
      r.2.mem ((c.tc : Thread Cert.GradUpLeftIdeal.nD Cert.GradUpLeftIdeal.τ).loc Cert.GradUpLeftIdeal.main_arg0) = m ((c.tc : Thread Cert.GradUpLeftIdeal.nD Cert.GradUpLeftIdeal.τ).loc Cert.GradUpLeftIdeal.main_arg0)
      ∧ r.2.mem ((c.tc : Thread Cert.GradUpLeftIdeal.nD Cert.GradUpLeftIdeal.τ).loc Cert.GradUpLeftIdeal.main_arg1) = m ((c.tc : Thread Cert.GradUpLeftIdeal.nD Cert.GradUpLeftIdeal.τ).loc Cert.GradUpLeftIdeal.main_arg1))
      ∧ r.2.sem = fun _ => 0)

def quiescent_GradUpLeftRefIdeal [hGradUpLeftRefIdeal : Cert.GradUpLeftRefIdeal.Facts] : Prop :=
  ∀ (m : (ℓ : Loc Cert.GradUpLeftRefIdeal.nD Cert.GradUpLeftRefIdeal.τ Cert.GradUpLeftRefIdeal.sig) → Buf (Elt Ideal) ℓ) (g : Dev Cert.GradUpLeftRefIdeal.nD → PrngReg), Pre_GradUpLeftRefIdeal m →
    θ_run (Cert.GradUpLeftRefIdeal.defs (F := Ideal)) (onTc (τ := Cert.GradUpLeftRefIdeal.τ) (Cert.GradUpLeftRefIdeal.main (F := Ideal))) ⟨m, fun _ => 0, g⟩ (fun r => (∀ c : Dev Cert.GradUpLeftRefIdeal.nD,
      r.2.mem ((c.tc : Thread Cert.GradUpLeftRefIdeal.nD Cert.GradUpLeftRefIdeal.τ).loc Cert.GradUpLeftRefIdeal.main_arg0) = m ((c.tc : Thread Cert.GradUpLeftRefIdeal.nD Cert.GradUpLeftRefIdeal.τ).loc Cert.GradUpLeftRefIdeal.main_arg0)
      ∧ r.2.mem ((c.tc : Thread Cert.GradUpLeftRefIdeal.nD Cert.GradUpLeftRefIdeal.τ).loc Cert.GradUpLeftRefIdeal.main_arg1) = m ((c.tc : Thread Cert.GradUpLeftRefIdeal.nD Cert.GradUpLeftRefIdeal.τ).loc Cert.GradUpLeftRefIdeal.main_arg1))
      ∧ r.2.sem = fun _ => 0)

def quiescent_GradUpRight [hGradUpRight : Cert.GradUpRight.Facts] : Prop :=
  ∀ (m : (ℓ : Loc Cert.GradUpRight.nD Cert.GradUpRight.τ Cert.GradUpRight.sig) → Buf (Elt Bits) ℓ) (g : Dev Cert.GradUpRight.nD → PrngReg), Pre_GradUpRight m →
    θ_run (Cert.GradUpRight.defs (F := Bits)) (onTc (τ := Cert.GradUpRight.τ) (Cert.GradUpRight.main (F := Bits))) ⟨m, fun _ => 0, g⟩ (fun r => (∀ c : Dev Cert.GradUpRight.nD,
      r.2.mem ((c.tc : Thread Cert.GradUpRight.nD Cert.GradUpRight.τ).loc Cert.GradUpRight.main_arg0) = m ((c.tc : Thread Cert.GradUpRight.nD Cert.GradUpRight.τ).loc Cert.GradUpRight.main_arg0)
      ∧ r.2.mem ((c.tc : Thread Cert.GradUpRight.nD Cert.GradUpRight.τ).loc Cert.GradUpRight.main_arg1) = m ((c.tc : Thread Cert.GradUpRight.nD Cert.GradUpRight.τ).loc Cert.GradUpRight.main_arg1)
      ∧ r.2.mem ((c.tc : Thread Cert.GradUpRight.nD Cert.GradUpRight.τ).loc Cert.GradUpRight.main_arg2) = m ((c.tc : Thread Cert.GradUpRight.nD Cert.GradUpRight.τ).loc Cert.GradUpRight.main_arg2))
      ∧ r.2.sem = fun _ => 0)

def quiescent_GradUpRightIdeal [hGradUpRightIdeal : Cert.GradUpRightIdeal.Facts] : Prop :=
  ∀ (m : (ℓ : Loc Cert.GradUpRightIdeal.nD Cert.GradUpRightIdeal.τ Cert.GradUpRightIdeal.sig) → Buf (Elt Ideal) ℓ) (g : Dev Cert.GradUpRightIdeal.nD → PrngReg), Pre_GradUpRightIdeal m →
    θ_run (Cert.GradUpRightIdeal.defs (F := Ideal)) (onTc (τ := Cert.GradUpRightIdeal.τ) (Cert.GradUpRightIdeal.main (F := Ideal))) ⟨m, fun _ => 0, g⟩ (fun r => (∀ c : Dev Cert.GradUpRightIdeal.nD,
      r.2.mem ((c.tc : Thread Cert.GradUpRightIdeal.nD Cert.GradUpRightIdeal.τ).loc Cert.GradUpRightIdeal.main_arg0) = m ((c.tc : Thread Cert.GradUpRightIdeal.nD Cert.GradUpRightIdeal.τ).loc Cert.GradUpRightIdeal.main_arg0)
      ∧ r.2.mem ((c.tc : Thread Cert.GradUpRightIdeal.nD Cert.GradUpRightIdeal.τ).loc Cert.GradUpRightIdeal.main_arg1) = m ((c.tc : Thread Cert.GradUpRightIdeal.nD Cert.GradUpRightIdeal.τ).loc Cert.GradUpRightIdeal.main_arg1)
      ∧ r.2.mem ((c.tc : Thread Cert.GradUpRightIdeal.nD Cert.GradUpRightIdeal.τ).loc Cert.GradUpRightIdeal.main_arg2) = m ((c.tc : Thread Cert.GradUpRightIdeal.nD Cert.GradUpRightIdeal.τ).loc Cert.GradUpRightIdeal.main_arg2))
      ∧ r.2.sem = fun _ => 0)

def quiescent_GradUpRightRefIdeal [hGradUpRightRefIdeal : Cert.GradUpRightRefIdeal.Facts] : Prop :=
  ∀ (m : (ℓ : Loc Cert.GradUpRightRefIdeal.nD Cert.GradUpRightRefIdeal.τ Cert.GradUpRightRefIdeal.sig) → Buf (Elt Ideal) ℓ) (g : Dev Cert.GradUpRightRefIdeal.nD → PrngReg), Pre_GradUpRightRefIdeal m →
    θ_run (Cert.GradUpRightRefIdeal.defs (F := Ideal)) (onTc (τ := Cert.GradUpRightRefIdeal.τ) (Cert.GradUpRightRefIdeal.main (F := Ideal))) ⟨m, fun _ => 0, g⟩ (fun r => (∀ c : Dev Cert.GradUpRightRefIdeal.nD,
      r.2.mem ((c.tc : Thread Cert.GradUpRightRefIdeal.nD Cert.GradUpRightRefIdeal.τ).loc Cert.GradUpRightRefIdeal.main_arg0) = m ((c.tc : Thread Cert.GradUpRightRefIdeal.nD Cert.GradUpRightRefIdeal.τ).loc Cert.GradUpRightRefIdeal.main_arg0)
      ∧ r.2.mem ((c.tc : Thread Cert.GradUpRightRefIdeal.nD Cert.GradUpRightRefIdeal.τ).loc Cert.GradUpRightRefIdeal.main_arg1) = m ((c.tc : Thread Cert.GradUpRightRefIdeal.nD Cert.GradUpRightRefIdeal.τ).loc Cert.GradUpRightRefIdeal.main_arg1)
      ∧ r.2.mem ((c.tc : Thread Cert.GradUpRightRefIdeal.nD Cert.GradUpRightRefIdeal.τ).loc Cert.GradUpRightRefIdeal.main_arg2) = m ((c.tc : Thread Cert.GradUpRightRefIdeal.nD Cert.GradUpRightRefIdeal.τ).loc Cert.GradUpRightRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2))
      ∧ r.2.sem = fun _ => 0)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ r.2.sem = fun _ => 0)

def quiescent_NormBackRefIdeal [hNormBackRefIdeal : Cert.NormBackRefIdeal.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3))
      ∧ r.2.sem = fun _ => 0)

def quiescent_NormBackIn [hNormBackIn : Cert.NormBackIn.Facts] : Prop :=
  ∀ (m : (ℓ : Loc Cert.NormBackIn.nD Cert.NormBackIn.τ Cert.NormBackIn.sig) → Buf (Elt Bits) ℓ) (g : Dev Cert.NormBackIn.nD → PrngReg), Pre_NormBackIn m →
    θ_run (Cert.NormBackIn.defs (F := Bits)) (onTc (τ := Cert.NormBackIn.τ) (Cert.NormBackIn.main (F := Bits))) ⟨m, fun _ => 0, g⟩ (fun r => (∀ c : Dev Cert.NormBackIn.nD,
      r.2.mem ((c.tc : Thread Cert.NormBackIn.nD Cert.NormBackIn.τ).loc Cert.NormBackIn.main_arg0) = m ((c.tc : Thread Cert.NormBackIn.nD Cert.NormBackIn.τ).loc Cert.NormBackIn.main_arg0)
      ∧ r.2.mem ((c.tc : Thread Cert.NormBackIn.nD Cert.NormBackIn.τ).loc Cert.NormBackIn.main_arg1) = m ((c.tc : Thread Cert.NormBackIn.nD Cert.NormBackIn.τ).loc Cert.NormBackIn.main_arg1)
      ∧ r.2.mem ((c.tc : Thread Cert.NormBackIn.nD Cert.NormBackIn.τ).loc Cert.NormBackIn.main_arg2) = m ((c.tc : Thread Cert.NormBackIn.nD Cert.NormBackIn.τ).loc Cert.NormBackIn.main_arg2)
      ∧ r.2.mem ((c.tc : Thread Cert.NormBackIn.nD Cert.NormBackIn.τ).loc Cert.NormBackIn.main_arg3) = m ((c.tc : Thread Cert.NormBackIn.nD Cert.NormBackIn.τ).loc Cert.NormBackIn.main_arg3))
      ∧ r.2.sem = fun _ => 0)

def quiescent_NormBackInIdeal [hNormBackInIdeal : Cert.NormBackInIdeal.Facts] : Prop :=
  ∀ (m : (ℓ : Loc Cert.NormBackInIdeal.nD Cert.NormBackInIdeal.τ Cert.NormBackInIdeal.sig) → Buf (Elt Ideal) ℓ) (g : Dev Cert.NormBackInIdeal.nD → PrngReg), Pre_NormBackInIdeal m →
    θ_run (Cert.NormBackInIdeal.defs (F := Ideal)) (onTc (τ := Cert.NormBackInIdeal.τ) (Cert.NormBackInIdeal.main (F := Ideal))) ⟨m, fun _ => 0, g⟩ (fun r => (∀ c : Dev Cert.NormBackInIdeal.nD,
      r.2.mem ((c.tc : Thread Cert.NormBackInIdeal.nD Cert.NormBackInIdeal.τ).loc Cert.NormBackInIdeal.main_arg0) = m ((c.tc : Thread Cert.NormBackInIdeal.nD Cert.NormBackInIdeal.τ).loc Cert.NormBackInIdeal.main_arg0)
      ∧ r.2.mem ((c.tc : Thread Cert.NormBackInIdeal.nD Cert.NormBackInIdeal.τ).loc Cert.NormBackInIdeal.main_arg1) = m ((c.tc : Thread Cert.NormBackInIdeal.nD Cert.NormBackInIdeal.τ).loc Cert.NormBackInIdeal.main_arg1)
      ∧ r.2.mem ((c.tc : Thread Cert.NormBackInIdeal.nD Cert.NormBackInIdeal.τ).loc Cert.NormBackInIdeal.main_arg2) = m ((c.tc : Thread Cert.NormBackInIdeal.nD Cert.NormBackInIdeal.τ).loc Cert.NormBackInIdeal.main_arg2)
      ∧ r.2.mem ((c.tc : Thread Cert.NormBackInIdeal.nD Cert.NormBackInIdeal.τ).loc Cert.NormBackInIdeal.main_arg3) = m ((c.tc : Thread Cert.NormBackInIdeal.nD Cert.NormBackInIdeal.τ).loc Cert.NormBackInIdeal.main_arg3))
      ∧ r.2.sem = fun _ => 0)

def quiescent_NormBackInRefIdeal [hNormBackInRefIdeal : Cert.NormBackInRefIdeal.Facts] : Prop :=
  ∀ (m : (ℓ : Loc Cert.NormBackInRefIdeal.nD Cert.NormBackInRefIdeal.τ Cert.NormBackInRefIdeal.sig) → Buf (Elt Ideal) ℓ) (g : Dev Cert.NormBackInRefIdeal.nD → PrngReg), Pre_NormBackInRefIdeal m →
    θ_run (Cert.NormBackInRefIdeal.defs (F := Ideal)) (onTc (τ := Cert.NormBackInRefIdeal.τ) (Cert.NormBackInRefIdeal.main (F := Ideal))) ⟨m, fun _ => 0, g⟩ (fun r => (∀ c : Dev Cert.NormBackInRefIdeal.nD,
      r.2.mem ((c.tc : Thread Cert.NormBackInRefIdeal.nD Cert.NormBackInRefIdeal.τ).loc Cert.NormBackInRefIdeal.main_arg0) = m ((c.tc : Thread Cert.NormBackInRefIdeal.nD Cert.NormBackInRefIdeal.τ).loc Cert.NormBackInRefIdeal.main_arg0)
      ∧ r.2.mem ((c.tc : Thread Cert.NormBackInRefIdeal.nD Cert.NormBackInRefIdeal.τ).loc Cert.NormBackInRefIdeal.main_arg1) = m ((c.tc : Thread Cert.NormBackInRefIdeal.nD Cert.NormBackInRefIdeal.τ).loc Cert.NormBackInRefIdeal.main_arg1)
      ∧ r.2.mem ((c.tc : Thread Cert.NormBackInRefIdeal.nD Cert.NormBackInRefIdeal.τ).loc Cert.NormBackInRefIdeal.main_arg2) = m ((c.tc : Thread Cert.NormBackInRefIdeal.nD Cert.NormBackInRefIdeal.τ).loc Cert.NormBackInRefIdeal.main_arg2)
      ∧ r.2.mem ((c.tc : Thread Cert.NormBackInRefIdeal.nD Cert.NormBackInRefIdeal.τ).loc Cert.NormBackInRefIdeal.main_arg3) = m ((c.tc : Thread Cert.NormBackInRefIdeal.nD Cert.NormBackInRefIdeal.τ).loc Cert.NormBackInRefIdeal.main_arg3))
      ∧ r.2.sem = fun _ => 0)

def quiescent_NormBackMem [hNormBackMem : Cert.NormBackMem.Facts] : Prop :=
  ∀ (m : (ℓ : Loc Cert.NormBackMem.nD Cert.NormBackMem.τ Cert.NormBackMem.sig) → Buf (Elt Bits) ℓ) (g : Dev Cert.NormBackMem.nD → PrngReg), Pre_NormBackMem m →
    θ_run (Cert.NormBackMem.defs (F := Bits)) (onTc (τ := Cert.NormBackMem.τ) (Cert.NormBackMem.main (F := Bits))) ⟨m, fun _ => 0, g⟩ (fun r => (∀ c : Dev Cert.NormBackMem.nD,
      r.2.mem ((c.tc : Thread Cert.NormBackMem.nD Cert.NormBackMem.τ).loc Cert.NormBackMem.main_arg0) = m ((c.tc : Thread Cert.NormBackMem.nD Cert.NormBackMem.τ).loc Cert.NormBackMem.main_arg0)
      ∧ r.2.mem ((c.tc : Thread Cert.NormBackMem.nD Cert.NormBackMem.τ).loc Cert.NormBackMem.main_arg1) = m ((c.tc : Thread Cert.NormBackMem.nD Cert.NormBackMem.τ).loc Cert.NormBackMem.main_arg1)
      ∧ r.2.mem ((c.tc : Thread Cert.NormBackMem.nD Cert.NormBackMem.τ).loc Cert.NormBackMem.main_arg2) = m ((c.tc : Thread Cert.NormBackMem.nD Cert.NormBackMem.τ).loc Cert.NormBackMem.main_arg2))
      ∧ r.2.sem = fun _ => 0)

def quiescent_NormBackMemIdeal [hNormBackMemIdeal : Cert.NormBackMemIdeal.Facts] : Prop :=
  ∀ (m : (ℓ : Loc Cert.NormBackMemIdeal.nD Cert.NormBackMemIdeal.τ Cert.NormBackMemIdeal.sig) → Buf (Elt Ideal) ℓ) (g : Dev Cert.NormBackMemIdeal.nD → PrngReg), Pre_NormBackMemIdeal m →
    θ_run (Cert.NormBackMemIdeal.defs (F := Ideal)) (onTc (τ := Cert.NormBackMemIdeal.τ) (Cert.NormBackMemIdeal.main (F := Ideal))) ⟨m, fun _ => 0, g⟩ (fun r => (∀ c : Dev Cert.NormBackMemIdeal.nD,
      r.2.mem ((c.tc : Thread Cert.NormBackMemIdeal.nD Cert.NormBackMemIdeal.τ).loc Cert.NormBackMemIdeal.main_arg0) = m ((c.tc : Thread Cert.NormBackMemIdeal.nD Cert.NormBackMemIdeal.τ).loc Cert.NormBackMemIdeal.main_arg0)
      ∧ r.2.mem ((c.tc : Thread Cert.NormBackMemIdeal.nD Cert.NormBackMemIdeal.τ).loc Cert.NormBackMemIdeal.main_arg1) = m ((c.tc : Thread Cert.NormBackMemIdeal.nD Cert.NormBackMemIdeal.τ).loc Cert.NormBackMemIdeal.main_arg1)
      ∧ r.2.mem ((c.tc : Thread Cert.NormBackMemIdeal.nD Cert.NormBackMemIdeal.τ).loc Cert.NormBackMemIdeal.main_arg2) = m ((c.tc : Thread Cert.NormBackMemIdeal.nD Cert.NormBackMemIdeal.τ).loc Cert.NormBackMemIdeal.main_arg2))
      ∧ r.2.sem = fun _ => 0)

def quiescent_NormBackMemRefIdeal [hNormBackMemRefIdeal : Cert.NormBackMemRefIdeal.Facts] : Prop :=
  ∀ (m : (ℓ : Loc Cert.NormBackMemRefIdeal.nD Cert.NormBackMemRefIdeal.τ Cert.NormBackMemRefIdeal.sig) → Buf (Elt Ideal) ℓ) (g : Dev Cert.NormBackMemRefIdeal.nD → PrngReg), Pre_NormBackMemRefIdeal m →
    θ_run (Cert.NormBackMemRefIdeal.defs (F := Ideal)) (onTc (τ := Cert.NormBackMemRefIdeal.τ) (Cert.NormBackMemRefIdeal.main (F := Ideal))) ⟨m, fun _ => 0, g⟩ (fun r => (∀ c : Dev Cert.NormBackMemRefIdeal.nD,
      r.2.mem ((c.tc : Thread Cert.NormBackMemRefIdeal.nD Cert.NormBackMemRefIdeal.τ).loc Cert.NormBackMemRefIdeal.main_arg0) = m ((c.tc : Thread Cert.NormBackMemRefIdeal.nD Cert.NormBackMemRefIdeal.τ).loc Cert.NormBackMemRefIdeal.main_arg0)
      ∧ r.2.mem ((c.tc : Thread Cert.NormBackMemRefIdeal.nD Cert.NormBackMemRefIdeal.τ).loc Cert.NormBackMemRefIdeal.main_arg1) = m ((c.tc : Thread Cert.NormBackMemRefIdeal.nD Cert.NormBackMemRefIdeal.τ).loc Cert.NormBackMemRefIdeal.main_arg1)
      ∧ r.2.mem ((c.tc : Thread Cert.NormBackMemRefIdeal.nD Cert.NormBackMemRefIdeal.τ).loc Cert.NormBackMemRefIdeal.main_arg2) = m ((c.tc : Thread Cert.NormBackMemRefIdeal.nD Cert.NormBackMemRefIdeal.τ).loc Cert.NormBackMemRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 6144]⟩ ⟨2, ![16384, 6144]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 2048]⟩ ⟨2, ![16384, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 2048]⟩ ⟨2, ![16384, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 2048]⟩ ⟨2, ![16384, 2048]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 2048]⟩ ⟨2, ![16384, 2048]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 2048]⟩ ⟨2, ![16384, 2048]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 11264]⟩ ⟨2, ![16384, 11264]⟩ 0 8 c (m' (((0 : Dev Cert.ReferenceIdeal.nD).tc : Thread Cert.ReferenceIdeal.nD Cert.ReferenceIdeal.τ).loc Cert.ReferenceIdeal.main_arg6))
      ∧ m ((c.tc : Thread Cert.KernelIdeal.nD Cert.KernelIdeal.τ).loc Cert.KernelIdeal.main_arg7) = Layout.block ⟨2, ![5632, 2048]⟩ ⟨2, ![45056, 2048]⟩ 0 8 c (m' (((0 : Dev Cert.ReferenceIdeal.nD).tc : Thread Cert.ReferenceIdeal.nD Cert.ReferenceIdeal.τ).loc Cert.ReferenceIdeal.main_arg7))) →
    ∃ (v0 : Buf (Elt Ideal) (((0 : Dev Cert.ReferenceIdeal.nD).tc : Thread Cert.ReferenceIdeal.nD Cert.ReferenceIdeal.τ).loc Cert.ReferenceIdeal.main_v0)) (v1 : Buf (Elt Ideal) (((0 : Dev Cert.ReferenceIdeal.nD).tc : Thread Cert.ReferenceIdeal.nD Cert.ReferenceIdeal.τ).loc Cert.ReferenceIdeal.main_v1)) (v2 : Buf (Elt Ideal) (((0 : Dev Cert.ReferenceIdeal.nD).tc : Thread Cert.ReferenceIdeal.nD Cert.ReferenceIdeal.τ).loc Cert.ReferenceIdeal.main_v2)) (v3 : Buf (Elt Ideal) (((0 : Dev Cert.ReferenceIdeal.nD).tc : Thread Cert.ReferenceIdeal.nD Cert.ReferenceIdeal.τ).loc Cert.ReferenceIdeal.main_v3)) (v4 : Buf (Elt Ideal) (((0 : Dev Cert.ReferenceIdeal.nD).tc : Thread Cert.ReferenceIdeal.nD Cert.ReferenceIdeal.τ).loc Cert.ReferenceIdeal.main_v4)) (v5 : Buf (Elt Ideal) (((0 : Dev Cert.ReferenceIdeal.nD).tc : Thread Cert.ReferenceIdeal.nD Cert.ReferenceIdeal.τ).loc Cert.ReferenceIdeal.main_v5)) (v6 : Buf (Elt Ideal) (((0 : Dev Cert.ReferenceIdeal.nD).tc : Thread Cert.ReferenceIdeal.nD Cert.ReferenceIdeal.τ).loc Cert.ReferenceIdeal.main_v6)) (v7 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨3, ![8, 2048, 1536]⟩ ⟨3, ![8, 2048, 6144]⟩ (Layout.meshBlock [2, 2, 2] ![[], [], [0, 1]] c) v0
          ∧ r.2.mem ((c.tc : Thread Cert.KernelIdeal.nD Cert.KernelIdeal.τ).loc Cert.KernelIdeal.main_v1_1) = Layout.blockN ⟨3, ![8, 512, 2048]⟩ ⟨3, ![8, 2048, 2048]⟩ (Layout.meshBlock [2, 2, 2] ![[], [0, 1], []] c) v1
          ∧ r.2.mem ((c.tc : Thread Cert.KernelIdeal.nD Cert.KernelIdeal.τ).loc Cert.KernelIdeal.main_v1_2) = Layout.blockN ⟨3, ![8, 512, 2048]⟩ ⟨3, ![8, 2048, 2048]⟩ (Layout.meshBlock [2, 2, 2] ![[], [0, 1], []] c) v2
          ∧ r.2.mem ((c.tc : Thread Cert.KernelIdeal.nD Cert.KernelIdeal.τ).loc Cert.KernelIdeal.main_v1_3) = Layout.blockN ⟨3, ![8, 512, 2048]⟩ ⟨3, ![8, 2048, 2048]⟩ (Layout.meshBlock [2, 2, 2] ![[], [0, 1], []] c) v3
          ∧ r.2.mem ((c.tc : Thread Cert.KernelIdeal.nD Cert.KernelIdeal.τ).loc Cert.KernelIdeal.main_v1_4) = Layout.blockN ⟨3, ![8, 512, 2048]⟩ ⟨3, ![8, 2048, 2048]⟩ (Layout.meshBlock [2, 2, 2] ![[], [0, 1], []] c) v4
          ∧ r.2.mem ((c.tc : Thread Cert.KernelIdeal.nD Cert.KernelIdeal.τ).loc Cert.KernelIdeal.main_v1_5) = Layout.blockN ⟨3, ![8, 512, 2048]⟩ ⟨3, ![8, 2048, 2048]⟩ (Layout.meshBlock [2, 2, 2] ![[], [0, 1], []] c) v5
          ∧ r.2.mem ((c.tc : Thread Cert.KernelIdeal.nD Cert.KernelIdeal.τ).loc Cert.KernelIdeal.main_v1_6) = Layout.blockN ⟨3, ![8, 2048, 2816]⟩ ⟨3, ![8, 2048, 11264]⟩ (Layout.meshBlock [2, 2, 2] ![[], [], [0, 1]] c) v6
          ∧ r.2.mem ((c.tc : Thread Cert.KernelIdeal.nD Cert.KernelIdeal.τ).loc Cert.KernelIdeal.main_v1_7) = Layout.blockN ⟨3, ![8, 1408, 2048]⟩ ⟨3, ![8, 5632, 2048]⟩ (Layout.meshBlock [2, 2, 2] ![[], [0, 1], []] c) v7
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_v1) = v1
          ∧ r.2.mem (((0 : Dev Cert.ReferenceIdeal.nD).tc : Thread Cert.ReferenceIdeal.nD Cert.ReferenceIdeal.τ).loc Cert.ReferenceIdeal.main_v2) = v2
          ∧ r.2.mem (((0 : Dev Cert.ReferenceIdeal.nD).tc : Thread Cert.ReferenceIdeal.nD Cert.ReferenceIdeal.τ).loc Cert.ReferenceIdeal.main_v3) = v3
          ∧ r.2.mem (((0 : Dev Cert.ReferenceIdeal.nD).tc : Thread Cert.ReferenceIdeal.nD Cert.ReferenceIdeal.τ).loc Cert.ReferenceIdeal.main_v4) = v4
          ∧ r.2.mem (((0 : Dev Cert.ReferenceIdeal.nD).tc : Thread Cert.ReferenceIdeal.nD Cert.ReferenceIdeal.τ).loc Cert.ReferenceIdeal.main_v5) = v5
          ∧ r.2.mem (((0 : Dev Cert.ReferenceIdeal.nD).tc : Thread Cert.ReferenceIdeal.nD Cert.ReferenceIdeal.τ).loc Cert.ReferenceIdeal.main_v6) = v6
          ∧ r.2.mem (((0 : Dev Cert.ReferenceIdeal.nD).tc : Thread Cert.ReferenceIdeal.nD Cert.ReferenceIdeal.τ).loc Cert.ReferenceIdeal.main_v7) = v7
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![2048, 6144]⟩ ⟨2, ![16384, 6144]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨2, ![2048, 2048]⟩ ⟨2, ![16384, 2048]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨2, ![2048, 2048]⟩ ⟨2, ![16384, 2048]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨2, ![2048, 2048]⟩ ⟨2, ![16384, 2048]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨2, ![2048, 2048]⟩ ⟨2, ![16384, 2048]⟩ 0 8 c (m' (((0 : Dev Cert.Reference.nD).tc : Thread Cert.Reference.nD Cert.Reference.τ).loc Cert.Reference.main_arg4))
      ∧ m ((c.tc : Thread Cert.Kernel.nD Cert.Kernel.τ).loc Cert.Kernel.main_arg5) = Layout.block ⟨2, ![2048, 2048]⟩ ⟨2, ![16384, 2048]⟩ 0 8 c (m' (((0 : Dev Cert.Reference.nD).tc : Thread Cert.Reference.nD Cert.Reference.τ).loc Cert.Reference.main_arg5))
      ∧ m ((c.tc : Thread Cert.Kernel.nD Cert.Kernel.τ).loc Cert.Kernel.main_arg6) = Layout.block ⟨2, ![2048, 11264]⟩ ⟨2, ![16384, 11264]⟩ 0 8 c (m' (((0 : Dev Cert.Reference.nD).tc : Thread Cert.Reference.nD Cert.Reference.τ).loc Cert.Reference.main_arg6))
      ∧ m ((c.tc : Thread Cert.Kernel.nD Cert.Kernel.τ).loc Cert.Kernel.main_arg7) = Layout.block ⟨2, ![5632, 2048]⟩ ⟨2, ![45056, 2048]⟩ 0 8 c (m' (((0 : Dev Cert.Reference.nD).tc : Thread Cert.Reference.nD Cert.Reference.τ).loc Cert.Reference.main_arg7))) →
    ∃ (v0 : Buf (Elt Bits) (((0 : Dev Cert.Reference.nD).tc : Thread Cert.Reference.nD Cert.Reference.τ).loc Cert.Reference.main_v0)) (v1 : Buf (Elt Bits) (((0 : Dev Cert.Reference.nD).tc : Thread Cert.Reference.nD Cert.Reference.τ).loc Cert.Reference.main_v1)) (v2 : Buf (Elt Bits) (((0 : Dev Cert.Reference.nD).tc : Thread Cert.Reference.nD Cert.Reference.τ).loc Cert.Reference.main_v2)) (v3 : Buf (Elt Bits) (((0 : Dev Cert.Reference.nD).tc : Thread Cert.Reference.nD Cert.Reference.τ).loc Cert.Reference.main_v3)) (v4 : Buf (Elt Bits) (((0 : Dev Cert.Reference.nD).tc : Thread Cert.Reference.nD Cert.Reference.τ).loc Cert.Reference.main_v4)) (v5 : Buf (Elt Bits) (((0 : Dev Cert.Reference.nD).tc : Thread Cert.Reference.nD Cert.Reference.τ).loc Cert.Reference.main_v5)) (v6 : Buf (Elt Bits) (((0 : Dev Cert.Reference.nD).tc : Thread Cert.Reference.nD Cert.Reference.τ).loc Cert.Reference.main_v6)) (v7 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.blockN ⟨3, ![8, 2048, 1536]⟩ ⟨3, ![8, 2048, 6144]⟩ (Layout.meshBlock [2, 2, 2] ![[], [], [0, 1]] c) v0
          ∧ r.2.mem ((c.tc : Thread Cert.Kernel.nD Cert.Kernel.τ).loc Cert.Kernel.main_v1_1) = Layout.blockN ⟨3, ![8, 512, 2048]⟩ ⟨3, ![8, 2048, 2048]⟩ (Layout.meshBlock [2, 2, 2] ![[], [0, 1], []] c) v1
          ∧ r.2.mem ((c.tc : Thread Cert.Kernel.nD Cert.Kernel.τ).loc Cert.Kernel.main_v1_2) = Layout.blockN ⟨3, ![8, 512, 2048]⟩ ⟨3, ![8, 2048, 2048]⟩ (Layout.meshBlock [2, 2, 2] ![[], [0, 1], []] c) v2
          ∧ r.2.mem ((c.tc : Thread Cert.Kernel.nD Cert.Kernel.τ).loc Cert.Kernel.main_v1_3) = Layout.blockN ⟨3, ![8, 512, 2048]⟩ ⟨3, ![8, 2048, 2048]⟩ (Layout.meshBlock [2, 2, 2] ![[], [0, 1], []] c) v3
          ∧ r.2.mem ((c.tc : Thread Cert.Kernel.nD Cert.Kernel.τ).loc Cert.Kernel.main_v1_4) = Layout.blockN ⟨3, ![8, 512, 2048]⟩ ⟨3, ![8, 2048, 2048]⟩ (Layout.meshBlock [2, 2, 2] ![[], [0, 1], []] c) v4
          ∧ r.2.mem ((c.tc : Thread Cert.Kernel.nD Cert.Kernel.τ).loc Cert.Kernel.main_v1_5) = Layout.blockN ⟨3, ![8, 512, 2048]⟩ ⟨3, ![8, 2048, 2048]⟩ (Layout.meshBlock [2, 2, 2] ![[], [0, 1], []] c) v5
          ∧ r.2.mem ((c.tc : Thread Cert.Kernel.nD Cert.Kernel.τ).loc Cert.Kernel.main_v1_6) = Layout.blockN ⟨3, ![8, 2048, 2816]⟩ ⟨3, ![8, 2048, 11264]⟩ (Layout.meshBlock [2, 2, 2] ![[], [], [0, 1]] c) v6
          ∧ r.2.mem ((c.tc : Thread Cert.Kernel.nD Cert.Kernel.τ).loc Cert.Kernel.main_v1_7) = Layout.blockN ⟨3, ![8, 1408, 2048]⟩ ⟨3, ![8, 5632, 2048]⟩ (Layout.meshBlock [2, 2, 2] ![[], [0, 1], []] c) v7
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_v1) = v1
          ∧ r.2.mem (((0 : Dev Cert.Reference.nD).tc : Thread Cert.Reference.nD Cert.Reference.τ).loc Cert.Reference.main_v2) = v2
          ∧ r.2.mem (((0 : Dev Cert.Reference.nD).tc : Thread Cert.Reference.nD Cert.Reference.τ).loc Cert.Reference.main_v3) = v3
          ∧ r.2.mem (((0 : Dev Cert.Reference.nD).tc : Thread Cert.Reference.nD Cert.Reference.τ).loc Cert.Reference.main_v4) = v4
          ∧ r.2.mem (((0 : Dev Cert.Reference.nD).tc : Thread Cert.Reference.nD Cert.Reference.τ).loc Cert.Reference.main_v5) = v5
          ∧ r.2.mem (((0 : Dev Cert.Reference.nD).tc : Thread Cert.Reference.nD Cert.Reference.τ).loc Cert.Reference.main_v6) = v6
          ∧ r.2.mem (((0 : Dev Cert.Reference.nD).tc : Thread Cert.Reference.nD Cert.Reference.τ).loc Cert.Reference.main_v7) = v7
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4)
          ∧ r.2.mem (((0 : Dev Cert.Reference.nD).tc : Thread Cert.Reference.nD Cert.Reference.τ).loc Cert.Reference.main_arg5) = m' (((0 : Dev Cert.Reference.nD).tc : Thread Cert.Reference.nD Cert.Reference.τ).loc Cert.Reference.main_arg5)
          ∧ r.2.mem (((0 : Dev Cert.Reference.nD).tc : Thread Cert.Reference.nD Cert.Reference.τ).loc Cert.Reference.main_arg6) = m' (((0 : Dev Cert.Reference.nD).tc : Thread Cert.Reference.nD Cert.Reference.τ).loc Cert.Reference.main_arg6)
          ∧ r.2.mem (((0 : Dev Cert.Reference.nD).tc : Thread Cert.Reference.nD Cert.Reference.τ).loc Cert.Reference.main_arg7) = m' (((0 : Dev Cert.Reference.nD).tc : Thread Cert.Reference.nD Cert.Reference.τ).loc Cert.Reference.main_arg7))

def preserves_Weights_WeightsIdeal : Prop :=
  True

def algebraic_WeightsIdeal_WeightsRefIdeal [hWeightsIdeal : Cert.WeightsIdeal.Facts] [hWeightsRefIdeal : Cert.WeightsRefIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsIdeal m →
    (∀ c : Dev Cert.WeightsIdeal.nD,
      m ((c.tc : Thread Cert.WeightsIdeal.nD Cert.WeightsIdeal.τ).loc Cert.WeightsIdeal.main_arg0) = Layout.blockN ⟨2, ![2048, 1536]⟩ ⟨2, ![2048, 6144]⟩ (Layout.meshBlock [2, 2, 2] ![[], [0, 1]] c) (m' (((0 : Dev Cert.WeightsRefIdeal.nD).tc : Thread Cert.WeightsRefIdeal.nD Cert.WeightsRefIdeal.τ).loc Cert.WeightsRefIdeal.main_arg0))
      ∧ m ((c.tc : Thread Cert.WeightsIdeal.nD Cert.WeightsIdeal.τ).loc Cert.WeightsIdeal.main_arg1) = Layout.blockN ⟨2, ![512, 2048]⟩ ⟨2, ![2048, 2048]⟩ (Layout.meshBlock [2, 2, 2] ![[0, 1], []] c) (m' (((0 : Dev Cert.WeightsRefIdeal.nD).tc : Thread Cert.WeightsRefIdeal.nD Cert.WeightsRefIdeal.τ).loc Cert.WeightsRefIdeal.main_arg1))
      ∧ m ((c.tc : Thread Cert.WeightsIdeal.nD Cert.WeightsIdeal.τ).loc Cert.WeightsIdeal.main_arg2) = Layout.blockN ⟨2, ![512, 2048]⟩ ⟨2, ![2048, 2048]⟩ (Layout.meshBlock [2, 2, 2] ![[0, 1], []] c) (m' (((0 : Dev Cert.WeightsRefIdeal.nD).tc : Thread Cert.WeightsRefIdeal.nD Cert.WeightsRefIdeal.τ).loc Cert.WeightsRefIdeal.main_arg2))
      ∧ m ((c.tc : Thread Cert.WeightsIdeal.nD Cert.WeightsIdeal.τ).loc Cert.WeightsIdeal.main_arg3) = Layout.blockN ⟨2, ![512, 2048]⟩ ⟨2, ![2048, 2048]⟩ (Layout.meshBlock [2, 2, 2] ![[0, 1], []] c) (m' (((0 : Dev Cert.WeightsRefIdeal.nD).tc : Thread Cert.WeightsRefIdeal.nD Cert.WeightsRefIdeal.τ).loc Cert.WeightsRefIdeal.main_arg3))
      ∧ m ((c.tc : Thread Cert.WeightsIdeal.nD Cert.WeightsIdeal.τ).loc Cert.WeightsIdeal.main_arg4) = Layout.blockN ⟨2, ![512, 2048]⟩ ⟨2, ![2048, 2048]⟩ (Layout.meshBlock [2, 2, 2] ![[0, 1], []] c) (m' (((0 : Dev Cert.WeightsRefIdeal.nD).tc : Thread Cert.WeightsRefIdeal.nD Cert.WeightsRefIdeal.τ).loc Cert.WeightsRefIdeal.main_arg4))
      ∧ m ((c.tc : Thread Cert.WeightsIdeal.nD Cert.WeightsIdeal.τ).loc Cert.WeightsIdeal.main_arg5) = Layout.blockN ⟨2, ![512, 2048]⟩ ⟨2, ![2048, 2048]⟩ (Layout.meshBlock [2, 2, 2] ![[0, 1], []] c) (m' (((0 : Dev Cert.WeightsRefIdeal.nD).tc : Thread Cert.WeightsRefIdeal.nD Cert.WeightsRefIdeal.τ).loc Cert.WeightsRefIdeal.main_arg5))
      ∧ m ((c.tc : Thread Cert.WeightsIdeal.nD Cert.WeightsIdeal.τ).loc Cert.WeightsIdeal.main_arg6) = Layout.blockN ⟨2, ![2048, 2816]⟩ ⟨2, ![2048, 11264]⟩ (Layout.meshBlock [2, 2, 2] ![[], [0, 1]] c) (m' (((0 : Dev Cert.WeightsRefIdeal.nD).tc : Thread Cert.WeightsRefIdeal.nD Cert.WeightsRefIdeal.τ).loc Cert.WeightsRefIdeal.main_arg6))
      ∧ m ((c.tc : Thread Cert.WeightsIdeal.nD Cert.WeightsIdeal.τ).loc Cert.WeightsIdeal.main_arg7) = Layout.blockN ⟨2, ![1408, 2048]⟩ ⟨2, ![5632, 2048]⟩ (Layout.meshBlock [2, 2, 2] ![[0, 1], []] c) (m' (((0 : Dev Cert.WeightsRefIdeal.nD).tc : Thread Cert.WeightsRefIdeal.nD Cert.WeightsRefIdeal.τ).loc Cert.WeightsRefIdeal.main_arg7))
      ∧ m ((c.tc : Thread Cert.WeightsIdeal.nD Cert.WeightsIdeal.τ).loc Cert.WeightsIdeal.main_arg8) = Layout.blockN ⟨2, ![4, 256]⟩ ⟨2, ![4, 1024]⟩ (Layout.meshBlock [2, 2, 2] ![[], [0, 1]] c) (m' (((0 : Dev Cert.WeightsRefIdeal.nD).tc : Thread Cert.WeightsRefIdeal.nD Cert.WeightsRefIdeal.τ).loc Cert.WeightsRefIdeal.main_arg8))
      ∧ m ((c.tc : Thread Cert.WeightsIdeal.nD Cert.WeightsIdeal.τ).loc Cert.WeightsIdeal.main_arg9) = Layout.blockN ⟨2, ![3, 2816]⟩ ⟨2, ![3, 11264]⟩ (Layout.meshBlock [2, 2, 2] ![[], [0, 1]] c) (m' (((0 : Dev Cert.WeightsRefIdeal.nD).tc : Thread Cert.WeightsRefIdeal.nD Cert.WeightsRefIdeal.τ).loc Cert.WeightsRefIdeal.main_arg9))) →
    ∃ (v0 : Buf (Elt Ideal) (((0 : Dev Cert.WeightsRefIdeal.nD).tc : Thread Cert.WeightsRefIdeal.nD Cert.WeightsRefIdeal.τ).loc Cert.WeightsRefIdeal.main_arg0)) (v1 : Buf (Elt Ideal) (((0 : Dev Cert.WeightsRefIdeal.nD).tc : Thread Cert.WeightsRefIdeal.nD Cert.WeightsRefIdeal.τ).loc Cert.WeightsRefIdeal.main_arg1)) (v2 : Buf (Elt Ideal) (((0 : Dev Cert.WeightsRefIdeal.nD).tc : Thread Cert.WeightsRefIdeal.nD Cert.WeightsRefIdeal.τ).loc Cert.WeightsRefIdeal.main_arg2)) (v3 : Buf (Elt Ideal) (((0 : Dev Cert.WeightsRefIdeal.nD).tc : Thread Cert.WeightsRefIdeal.nD Cert.WeightsRefIdeal.τ).loc Cert.WeightsRefIdeal.main_arg3)) (v4 : Buf (Elt Ideal) (((0 : Dev Cert.WeightsRefIdeal.nD).tc : Thread Cert.WeightsRefIdeal.nD Cert.WeightsRefIdeal.τ).loc Cert.WeightsRefIdeal.main_arg4)) (v5 : Buf (Elt Ideal) (((0 : Dev Cert.WeightsRefIdeal.nD).tc : Thread Cert.WeightsRefIdeal.nD Cert.WeightsRefIdeal.τ).loc Cert.WeightsRefIdeal.main_arg5)) (v6 : Buf (Elt Ideal) (((0 : Dev Cert.WeightsRefIdeal.nD).tc : Thread Cert.WeightsRefIdeal.nD Cert.WeightsRefIdeal.τ).loc Cert.WeightsRefIdeal.main_arg6)) (v7 : Buf (Elt Ideal) (((0 : Dev Cert.WeightsRefIdeal.nD).tc : Thread Cert.WeightsRefIdeal.nD Cert.WeightsRefIdeal.τ).loc Cert.WeightsRefIdeal.main_arg7)) (v8 : Buf (Elt Ideal) (((0 : Dev Cert.WeightsRefIdeal.nD).tc : Thread Cert.WeightsRefIdeal.nD Cert.WeightsRefIdeal.τ).loc Cert.WeightsRefIdeal.main_arg8)) (v9 : Buf (Elt Ideal) (((0 : Dev Cert.WeightsRefIdeal.nD).tc : Thread Cert.WeightsRefIdeal.nD Cert.WeightsRefIdeal.τ).loc Cert.WeightsRefIdeal.main_arg9)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1_0) = v0
          ∧ r.2.mem ((c.tc : Thread Cert.WeightsIdeal.nD Cert.WeightsIdeal.τ).loc Cert.WeightsIdeal.main_v1_1) = v1
          ∧ r.2.mem ((c.tc : Thread Cert.WeightsIdeal.nD Cert.WeightsIdeal.τ).loc Cert.WeightsIdeal.main_v1_2) = v2
          ∧ r.2.mem ((c.tc : Thread Cert.WeightsIdeal.nD Cert.WeightsIdeal.τ).loc Cert.WeightsIdeal.main_v1_3) = v3
          ∧ r.2.mem ((c.tc : Thread Cert.WeightsIdeal.nD Cert.WeightsIdeal.τ).loc Cert.WeightsIdeal.main_v1_4) = v4
          ∧ r.2.mem ((c.tc : Thread Cert.WeightsIdeal.nD Cert.WeightsIdeal.τ).loc Cert.WeightsIdeal.main_v1_5) = v5
          ∧ r.2.mem ((c.tc : Thread Cert.WeightsIdeal.nD Cert.WeightsIdeal.τ).loc Cert.WeightsIdeal.main_v1_6) = v6
          ∧ r.2.mem ((c.tc : Thread Cert.WeightsIdeal.nD Cert.WeightsIdeal.τ).loc Cert.WeightsIdeal.main_v1_7) = v7
          ∧ r.2.mem ((c.tc : Thread Cert.WeightsIdeal.nD Cert.WeightsIdeal.τ).loc Cert.WeightsIdeal.main_v1_8) = v8
          ∧ r.2.mem ((c.tc : Thread Cert.WeightsIdeal.nD Cert.WeightsIdeal.τ).loc Cert.WeightsIdeal.main_v1_9) = v9
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
          ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
          ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6)
          ∧ r.2.mem ((c.tc : Thread Cert.WeightsIdeal.nD Cert.WeightsIdeal.τ).loc Cert.WeightsIdeal.main_arg7) = m ((c.tc : Thread Cert.WeightsIdeal.nD Cert.WeightsIdeal.τ).loc Cert.WeightsIdeal.main_arg7)
          ∧ r.2.mem ((c.tc : Thread Cert.WeightsIdeal.nD Cert.WeightsIdeal.τ).loc Cert.WeightsIdeal.main_arg8) = m ((c.tc : Thread Cert.WeightsIdeal.nD Cert.WeightsIdeal.τ).loc Cert.WeightsIdeal.main_arg8)
          ∧ r.2.mem ((c.tc : Thread Cert.WeightsIdeal.nD Cert.WeightsIdeal.τ).loc Cert.WeightsIdeal.main_arg9) = m ((c.tc : Thread Cert.WeightsIdeal.nD Cert.WeightsIdeal.τ).loc Cert.WeightsIdeal.main_arg9))
      ∧ θ_run (Cert.WeightsRefIdeal.defs (F := Ideal)) (onTc (τ := Cert.WeightsRefIdeal.τ) (Cert.WeightsRefIdeal.main (F := Ideal))) ⟨m', fun _ => 0, g'⟩ (fun r =>
          r.2.mem (((0 : Dev Cert.WeightsRefIdeal.nD).tc : Thread Cert.WeightsRefIdeal.nD Cert.WeightsRefIdeal.τ).loc Cert.WeightsRefIdeal.main_arg0) = v0
          ∧ r.2.mem (((0 : Dev Cert.WeightsRefIdeal.nD).tc : Thread Cert.WeightsRefIdeal.nD Cert.WeightsRefIdeal.τ).loc Cert.WeightsRefIdeal.main_arg1) = v1
          ∧ r.2.mem (((0 : Dev Cert.WeightsRefIdeal.nD).tc : Thread Cert.WeightsRefIdeal.nD Cert.WeightsRefIdeal.τ).loc Cert.WeightsRefIdeal.main_arg2) = v2
          ∧ r.2.mem (((0 : Dev Cert.WeightsRefIdeal.nD).tc : Thread Cert.WeightsRefIdeal.nD Cert.WeightsRefIdeal.τ).loc Cert.WeightsRefIdeal.main_arg3) = v3
          ∧ r.2.mem (((0 : Dev Cert.WeightsRefIdeal.nD).tc : Thread Cert.WeightsRefIdeal.nD Cert.WeightsRefIdeal.τ).loc Cert.WeightsRefIdeal.main_arg4) = v4
          ∧ r.2.mem (((0 : Dev Cert.WeightsRefIdeal.nD).tc : Thread Cert.WeightsRefIdeal.nD Cert.WeightsRefIdeal.τ).loc Cert.WeightsRefIdeal.main_arg5) = v5
          ∧ r.2.mem (((0 : Dev Cert.WeightsRefIdeal.nD).tc : Thread Cert.WeightsRefIdeal.nD Cert.WeightsRefIdeal.τ).loc Cert.WeightsRefIdeal.main_arg6) = v6
          ∧ r.2.mem (((0 : Dev Cert.WeightsRefIdeal.nD).tc : Thread Cert.WeightsRefIdeal.nD Cert.WeightsRefIdeal.τ).loc Cert.WeightsRefIdeal.main_arg7) = v7
          ∧ r.2.mem (((0 : Dev Cert.WeightsRefIdeal.nD).tc : Thread Cert.WeightsRefIdeal.nD Cert.WeightsRefIdeal.τ).loc Cert.WeightsRefIdeal.main_arg8) = v8
          ∧ r.2.mem (((0 : Dev Cert.WeightsRefIdeal.nD).tc : Thread Cert.WeightsRefIdeal.nD Cert.WeightsRefIdeal.τ).loc Cert.WeightsRefIdeal.main_arg9) = v9
          ∧ r.2.mem (((0 : Dev Cert.WeightsRefIdeal.nD).tc : Thread Cert.WeightsRefIdeal.nD Cert.WeightsRefIdeal.τ).loc Cert.WeightsRefIdeal.main_arg0) = m' (((0 : Dev Cert.WeightsRefIdeal.nD).tc : Thread Cert.WeightsRefIdeal.nD Cert.WeightsRefIdeal.τ).loc Cert.WeightsRefIdeal.main_arg0)
          ∧ r.2.mem (((0 : Dev Cert.WeightsRefIdeal.nD).tc : Thread Cert.WeightsRefIdeal.nD Cert.WeightsRefIdeal.τ).loc Cert.WeightsRefIdeal.main_arg1) = m' (((0 : Dev Cert.WeightsRefIdeal.nD).tc : Thread Cert.WeightsRefIdeal.nD Cert.WeightsRefIdeal.τ).loc Cert.WeightsRefIdeal.main_arg1)
          ∧ r.2.mem (((0 : Dev Cert.WeightsRefIdeal.nD).tc : Thread Cert.WeightsRefIdeal.nD Cert.WeightsRefIdeal.τ).loc Cert.WeightsRefIdeal.main_arg2) = m' (((0 : Dev Cert.WeightsRefIdeal.nD).tc : Thread Cert.WeightsRefIdeal.nD Cert.WeightsRefIdeal.τ).loc Cert.WeightsRefIdeal.main_arg2)
          ∧ r.2.mem (((0 : Dev Cert.WeightsRefIdeal.nD).tc : Thread Cert.WeightsRefIdeal.nD Cert.WeightsRefIdeal.τ).loc Cert.WeightsRefIdeal.main_arg3) = m' (((0 : Dev Cert.WeightsRefIdeal.nD).tc : Thread Cert.WeightsRefIdeal.nD Cert.WeightsRefIdeal.τ).loc Cert.WeightsRefIdeal.main_arg3)
          ∧ r.2.mem (((0 : Dev Cert.WeightsRefIdeal.nD).tc : Thread Cert.WeightsRefIdeal.nD Cert.WeightsRefIdeal.τ).loc Cert.WeightsRefIdeal.main_arg4) = m' (((0 : Dev Cert.WeightsRefIdeal.nD).tc : Thread Cert.WeightsRefIdeal.nD Cert.WeightsRefIdeal.τ).loc Cert.WeightsRefIdeal.main_arg4)
          ∧ r.2.mem (((0 : Dev Cert.WeightsRefIdeal.nD).tc : Thread Cert.WeightsRefIdeal.nD Cert.WeightsRefIdeal.τ).loc Cert.WeightsRefIdeal.main_arg5) = m' (((0 : Dev Cert.WeightsRefIdeal.nD).tc : Thread Cert.WeightsRefIdeal.nD Cert.WeightsRefIdeal.τ).loc Cert.WeightsRefIdeal.main_arg5)
          ∧ r.2.mem (((0 : Dev Cert.WeightsRefIdeal.nD).tc : Thread Cert.WeightsRefIdeal.nD Cert.WeightsRefIdeal.τ).loc Cert.WeightsRefIdeal.main_arg6) = m' (((0 : Dev Cert.WeightsRefIdeal.nD).tc : Thread Cert.WeightsRefIdeal.nD Cert.WeightsRefIdeal.τ).loc Cert.WeightsRefIdeal.main_arg6)
          ∧ r.2.mem (((0 : Dev Cert.WeightsRefIdeal.nD).tc : Thread Cert.WeightsRefIdeal.nD Cert.WeightsRefIdeal.τ).loc Cert.WeightsRefIdeal.main_arg7) = m' (((0 : Dev Cert.WeightsRefIdeal.nD).tc : Thread Cert.WeightsRefIdeal.nD Cert.WeightsRefIdeal.τ).loc Cert.WeightsRefIdeal.main_arg7)
          ∧ r.2.mem (((0 : Dev Cert.WeightsRefIdeal.nD).tc : Thread Cert.WeightsRefIdeal.nD Cert.WeightsRefIdeal.τ).loc Cert.WeightsRefIdeal.main_arg8) = m' (((0 : Dev Cert.WeightsRefIdeal.nD).tc : Thread Cert.WeightsRefIdeal.nD Cert.WeightsRefIdeal.τ).loc Cert.WeightsRefIdeal.main_arg8)
          ∧ r.2.mem (((0 : Dev Cert.WeightsRefIdeal.nD).tc : Thread Cert.WeightsRefIdeal.nD Cert.WeightsRefIdeal.τ).loc Cert.WeightsRefIdeal.main_arg9) = m' (((0 : Dev Cert.WeightsRefIdeal.nD).tc : Thread Cert.WeightsRefIdeal.nD Cert.WeightsRefIdeal.τ).loc Cert.WeightsRefIdeal.main_arg9))

def bitexact_Weights_WeightsRef [hWeights : Cert.Weights.Facts] [hWeightsRef : Cert.WeightsRef.Facts] : Prop :=
  ∀ (m : (ℓ : Loc Cert.Weights.nD Cert.Weights.τ Cert.Weights.sig) → Buf (Elt Bits) ℓ) (g : Dev Cert.Weights.nD → PrngReg)
    (m' : (ℓ : Loc Cert.WeightsRef.nD Cert.WeightsRef.τ Cert.WeightsRef.sig) → Buf (Elt Bits) ℓ) (g' : Dev Cert.WeightsRef.nD → PrngReg), Pre_Weights m →
    (∀ c : Dev Cert.Weights.nD,
      m ((c.tc : Thread Cert.Weights.nD Cert.Weights.τ).loc Cert.Weights.main_arg0) = Layout.blockN ⟨2, ![2048, 1536]⟩ ⟨2, ![2048, 6144]⟩ (Layout.meshBlock [2, 2, 2] ![[], [0, 1]] c) (m' (((0 : Dev Cert.WeightsRef.nD).tc : Thread Cert.WeightsRef.nD Cert.WeightsRef.τ).loc Cert.WeightsRef.main_arg0))
      ∧ m ((c.tc : Thread Cert.Weights.nD Cert.Weights.τ).loc Cert.Weights.main_arg1) = Layout.blockN ⟨2, ![512, 2048]⟩ ⟨2, ![2048, 2048]⟩ (Layout.meshBlock [2, 2, 2] ![[0, 1], []] c) (m' (((0 : Dev Cert.WeightsRef.nD).tc : Thread Cert.WeightsRef.nD Cert.WeightsRef.τ).loc Cert.WeightsRef.main_arg1))
      ∧ m ((c.tc : Thread Cert.Weights.nD Cert.Weights.τ).loc Cert.Weights.main_arg2) = Layout.blockN ⟨2, ![512, 2048]⟩ ⟨2, ![2048, 2048]⟩ (Layout.meshBlock [2, 2, 2] ![[0, 1], []] c) (m' (((0 : Dev Cert.WeightsRef.nD).tc : Thread Cert.WeightsRef.nD Cert.WeightsRef.τ).loc Cert.WeightsRef.main_arg2))
      ∧ m ((c.tc : Thread Cert.Weights.nD Cert.Weights.τ).loc Cert.Weights.main_arg3) = Layout.blockN ⟨2, ![512, 2048]⟩ ⟨2, ![2048, 2048]⟩ (Layout.meshBlock [2, 2, 2] ![[0, 1], []] c) (m' (((0 : Dev Cert.WeightsRef.nD).tc : Thread Cert.WeightsRef.nD Cert.WeightsRef.τ).loc Cert.WeightsRef.main_arg3))
      ∧ m ((c.tc : Thread Cert.Weights.nD Cert.Weights.τ).loc Cert.Weights.main_arg4) = Layout.blockN ⟨2, ![512, 2048]⟩ ⟨2, ![2048, 2048]⟩ (Layout.meshBlock [2, 2, 2] ![[0, 1], []] c) (m' (((0 : Dev Cert.WeightsRef.nD).tc : Thread Cert.WeightsRef.nD Cert.WeightsRef.τ).loc Cert.WeightsRef.main_arg4))
      ∧ m ((c.tc : Thread Cert.Weights.nD Cert.Weights.τ).loc Cert.Weights.main_arg5) = Layout.blockN ⟨2, ![512, 2048]⟩ ⟨2, ![2048, 2048]⟩ (Layout.meshBlock [2, 2, 2] ![[0, 1], []] c) (m' (((0 : Dev Cert.WeightsRef.nD).tc : Thread Cert.WeightsRef.nD Cert.WeightsRef.τ).loc Cert.WeightsRef.main_arg5))
      ∧ m ((c.tc : Thread Cert.Weights.nD Cert.Weights.τ).loc Cert.Weights.main_arg6) = Layout.blockN ⟨2, ![2048, 2816]⟩ ⟨2, ![2048, 11264]⟩ (Layout.meshBlock [2, 2, 2] ![[], [0, 1]] c) (m' (((0 : Dev Cert.WeightsRef.nD).tc : Thread Cert.WeightsRef.nD Cert.WeightsRef.τ).loc Cert.WeightsRef.main_arg6))
      ∧ m ((c.tc : Thread Cert.Weights.nD Cert.Weights.τ).loc Cert.Weights.main_arg7) = Layout.blockN ⟨2, ![1408, 2048]⟩ ⟨2, ![5632, 2048]⟩ (Layout.meshBlock [2, 2, 2] ![[0, 1], []] c) (m' (((0 : Dev Cert.WeightsRef.nD).tc : Thread Cert.WeightsRef.nD Cert.WeightsRef.τ).loc Cert.WeightsRef.main_arg7))
      ∧ m ((c.tc : Thread Cert.Weights.nD Cert.Weights.τ).loc Cert.Weights.main_arg8) = Layout.blockN ⟨2, ![4, 256]⟩ ⟨2, ![4, 1024]⟩ (Layout.meshBlock [2, 2, 2] ![[], [0, 1]] c) (m' (((0 : Dev Cert.WeightsRef.nD).tc : Thread Cert.WeightsRef.nD Cert.WeightsRef.τ).loc Cert.WeightsRef.main_arg8))
      ∧ m ((c.tc : Thread Cert.Weights.nD Cert.Weights.τ).loc Cert.Weights.main_arg9) = Layout.blockN ⟨2, ![3, 2816]⟩ ⟨2, ![3, 11264]⟩ (Layout.meshBlock [2, 2, 2] ![[], [0, 1]] c) (m' (((0 : Dev Cert.WeightsRef.nD).tc : Thread Cert.WeightsRef.nD Cert.WeightsRef.τ).loc Cert.WeightsRef.main_arg9))) →
    ∃ (v0 : Buf (Elt Bits) (((0 : Dev Cert.WeightsRef.nD).tc : Thread Cert.WeightsRef.nD Cert.WeightsRef.τ).loc Cert.WeightsRef.main_arg0)) (v1 : Buf (Elt Bits) (((0 : Dev Cert.WeightsRef.nD).tc : Thread Cert.WeightsRef.nD Cert.WeightsRef.τ).loc Cert.WeightsRef.main_arg1)) (v2 : Buf (Elt Bits) (((0 : Dev Cert.WeightsRef.nD).tc : Thread Cert.WeightsRef.nD Cert.WeightsRef.τ).loc Cert.WeightsRef.main_arg2)) (v3 : Buf (Elt Bits) (((0 : Dev Cert.WeightsRef.nD).tc : Thread Cert.WeightsRef.nD Cert.WeightsRef.τ).loc Cert.WeightsRef.main_arg3)) (v4 : Buf (Elt Bits) (((0 : Dev Cert.WeightsRef.nD).tc : Thread Cert.WeightsRef.nD Cert.WeightsRef.τ).loc Cert.WeightsRef.main_arg4)) (v5 : Buf (Elt Bits) (((0 : Dev Cert.WeightsRef.nD).tc : Thread Cert.WeightsRef.nD Cert.WeightsRef.τ).loc Cert.WeightsRef.main_arg5)) (v6 : Buf (Elt Bits) (((0 : Dev Cert.WeightsRef.nD).tc : Thread Cert.WeightsRef.nD Cert.WeightsRef.τ).loc Cert.WeightsRef.main_arg6)) (v7 : Buf (Elt Bits) (((0 : Dev Cert.WeightsRef.nD).tc : Thread Cert.WeightsRef.nD Cert.WeightsRef.τ).loc Cert.WeightsRef.main_arg7)) (v8 : Buf (Elt Bits) (((0 : Dev Cert.WeightsRef.nD).tc : Thread Cert.WeightsRef.nD Cert.WeightsRef.τ).loc Cert.WeightsRef.main_arg8)) (v9 : Buf (Elt Bits) (((0 : Dev Cert.WeightsRef.nD).tc : Thread Cert.WeightsRef.nD Cert.WeightsRef.τ).loc Cert.WeightsRef.main_arg9)),
      θ_run (Cert.Weights.defs (F := Bits)) (onTc (τ := Cert.Weights.τ) (Cert.Weights.main (F := Bits))) ⟨m, fun _ => 0, g⟩ (fun r => ∀ c : Dev Cert.Weights.nD,
          r.2.mem ((c.tc : Thread Cert.Weights.nD Cert.Weights.τ).loc Cert.Weights.main_v1_0) = v0
          ∧ r.2.mem ((c.tc : Thread Cert.Weights.nD Cert.Weights.τ).loc Cert.Weights.main_v1_1) = v1
          ∧ r.2.mem ((c.tc : Thread Cert.Weights.nD Cert.Weights.τ).loc Cert.Weights.main_v1_2) = v2
          ∧ r.2.mem ((c.tc : Thread Cert.Weights.nD Cert.Weights.τ).loc Cert.Weights.main_v1_3) = v3
          ∧ r.2.mem ((c.tc : Thread Cert.Weights.nD Cert.Weights.τ).loc Cert.Weights.main_v1_4) = v4
          ∧ r.2.mem ((c.tc : Thread Cert.Weights.nD Cert.Weights.τ).loc Cert.Weights.main_v1_5) = v5
          ∧ r.2.mem ((c.tc : Thread Cert.Weights.nD Cert.Weights.τ).loc Cert.Weights.main_v1_6) = v6
          ∧ r.2.mem ((c.tc : Thread Cert.Weights.nD Cert.Weights.τ).loc Cert.Weights.main_v1_7) = v7
          ∧ r.2.mem ((c.tc : Thread Cert.Weights.nD Cert.Weights.τ).loc Cert.Weights.main_v1_8) = v8
          ∧ r.2.mem ((c.tc : Thread Cert.Weights.nD Cert.Weights.τ).loc Cert.Weights.main_v1_9) = v9
          ∧ r.2.mem ((c.tc : Thread Cert.Weights.nD Cert.Weights.τ).loc Cert.Weights.main_arg0) = m ((c.tc : Thread Cert.Weights.nD Cert.Weights.τ).loc Cert.Weights.main_arg0)
          ∧ r.2.mem ((c.tc : Thread Cert.Weights.nD Cert.Weights.τ).loc Cert.Weights.main_arg1) = m ((c.tc : Thread Cert.Weights.nD Cert.Weights.τ).loc Cert.Weights.main_arg1)
          ∧ r.2.mem ((c.tc : Thread Cert.Weights.nD Cert.Weights.τ).loc Cert.Weights.main_arg2) = m ((c.tc : Thread Cert.Weights.nD Cert.Weights.τ).loc Cert.Weights.main_arg2)
          ∧ r.2.mem ((c.tc : Thread Cert.Weights.nD Cert.Weights.τ).loc Cert.Weights.main_arg3) = m ((c.tc : Thread Cert.Weights.nD Cert.Weights.τ).loc Cert.Weights.main_arg3)
          ∧ r.2.mem ((c.tc : Thread Cert.Weights.nD Cert.Weights.τ).loc Cert.Weights.main_arg4) = m ((c.tc : Thread Cert.Weights.nD Cert.Weights.τ).loc Cert.Weights.main_arg4)
          ∧ r.2.mem ((c.tc : Thread Cert.Weights.nD Cert.Weights.τ).loc Cert.Weights.main_arg5) = m ((c.tc : Thread Cert.Weights.nD Cert.Weights.τ).loc Cert.Weights.main_arg5)
          ∧ r.2.mem ((c.tc : Thread Cert.Weights.nD Cert.Weights.τ).loc Cert.Weights.main_arg6) = m ((c.tc : Thread Cert.Weights.nD Cert.Weights.τ).loc Cert.Weights.main_arg6)
          ∧ r.2.mem ((c.tc : Thread Cert.Weights.nD Cert.Weights.τ).loc Cert.Weights.main_arg7) = m ((c.tc : Thread Cert.Weights.nD Cert.Weights.τ).loc Cert.Weights.main_arg7)
          ∧ r.2.mem ((c.tc : Thread Cert.Weights.nD Cert.Weights.τ).loc Cert.Weights.main_arg8) = m ((c.tc : Thread Cert.Weights.nD Cert.Weights.τ).loc Cert.Weights.main_arg8)
          ∧ r.2.mem ((c.tc : Thread Cert.Weights.nD Cert.Weights.τ).loc Cert.Weights.main_arg9) = m ((c.tc : Thread Cert.Weights.nD Cert.Weights.τ).loc Cert.Weights.main_arg9))
      ∧ θ_run (Cert.WeightsRef.defs (F := Bits)) (onTc (τ := Cert.WeightsRef.τ) (Cert.WeightsRef.main (F := Bits))) ⟨m', fun _ => 0, g'⟩ (fun r =>
          r.2.mem (((0 : Dev Cert.WeightsRef.nD).tc : Thread Cert.WeightsRef.nD Cert.WeightsRef.τ).loc Cert.WeightsRef.main_arg0) = v0
          ∧ r.2.mem (((0 : Dev Cert.WeightsRef.nD).tc : Thread Cert.WeightsRef.nD Cert.WeightsRef.τ).loc Cert.WeightsRef.main_arg1) = v1
          ∧ r.2.mem (((0 : Dev Cert.WeightsRef.nD).tc : Thread Cert.WeightsRef.nD Cert.WeightsRef.τ).loc Cert.WeightsRef.main_arg2) = v2
          ∧ r.2.mem (((0 : Dev Cert.WeightsRef.nD).tc : Thread Cert.WeightsRef.nD Cert.WeightsRef.τ).loc Cert.WeightsRef.main_arg3) = v3
          ∧ r.2.mem (((0 : Dev Cert.WeightsRef.nD).tc : Thread Cert.WeightsRef.nD Cert.WeightsRef.τ).loc Cert.WeightsRef.main_arg4) = v4
          ∧ r.2.mem (((0 : Dev Cert.WeightsRef.nD).tc : Thread Cert.WeightsRef.nD Cert.WeightsRef.τ).loc Cert.WeightsRef.main_arg5) = v5
          ∧ r.2.mem (((0 : Dev Cert.WeightsRef.nD).tc : Thread Cert.WeightsRef.nD Cert.WeightsRef.τ).loc Cert.WeightsRef.main_arg6) = v6
          ∧ r.2.mem (((0 : Dev Cert.WeightsRef.nD).tc : Thread Cert.WeightsRef.nD Cert.WeightsRef.τ).loc Cert.WeightsRef.main_arg7) = v7
          ∧ r.2.mem (((0 : Dev Cert.WeightsRef.nD).tc : Thread Cert.WeightsRef.nD Cert.WeightsRef.τ).loc Cert.WeightsRef.main_arg8) = v8
          ∧ r.2.mem (((0 : Dev Cert.WeightsRef.nD).tc : Thread Cert.WeightsRef.nD Cert.WeightsRef.τ).loc Cert.WeightsRef.main_arg9) = v9
          ∧ r.2.mem (((0 : Dev Cert.WeightsRef.nD).tc : Thread Cert.WeightsRef.nD Cert.WeightsRef.τ).loc Cert.WeightsRef.main_arg0) = m' (((0 : Dev Cert.WeightsRef.nD).tc : Thread Cert.WeightsRef.nD Cert.WeightsRef.τ).loc Cert.WeightsRef.main_arg0)
          ∧ r.2.mem (((0 : Dev Cert.WeightsRef.nD).tc : Thread Cert.WeightsRef.nD Cert.WeightsRef.τ).loc Cert.WeightsRef.main_arg1) = m' (((0 : Dev Cert.WeightsRef.nD).tc : Thread Cert.WeightsRef.nD Cert.WeightsRef.τ).loc Cert.WeightsRef.main_arg1)
          ∧ r.2.mem (((0 : Dev Cert.WeightsRef.nD).tc : Thread Cert.WeightsRef.nD Cert.WeightsRef.τ).loc Cert.WeightsRef.main_arg2) = m' (((0 : Dev Cert.WeightsRef.nD).tc : Thread Cert.WeightsRef.nD Cert.WeightsRef.τ).loc Cert.WeightsRef.main_arg2)
          ∧ r.2.mem (((0 : Dev Cert.WeightsRef.nD).tc : Thread Cert.WeightsRef.nD Cert.WeightsRef.τ).loc Cert.WeightsRef.main_arg3) = m' (((0 : Dev Cert.WeightsRef.nD).tc : Thread Cert.WeightsRef.nD Cert.WeightsRef.τ).loc Cert.WeightsRef.main_arg3)
          ∧ r.2.mem (((0 : Dev Cert.WeightsRef.nD).tc : Thread Cert.WeightsRef.nD Cert.WeightsRef.τ).loc Cert.WeightsRef.main_arg4) = m' (((0 : Dev Cert.WeightsRef.nD).tc : Thread Cert.WeightsRef.nD Cert.WeightsRef.τ).loc Cert.WeightsRef.main_arg4)
          ∧ r.2.mem (((0 : Dev Cert.WeightsRef.nD).tc : Thread Cert.WeightsRef.nD Cert.WeightsRef.τ).loc Cert.WeightsRef.main_arg5) = m' (((0 : Dev Cert.WeightsRef.nD).tc : Thread Cert.WeightsRef.nD Cert.WeightsRef.τ).loc Cert.WeightsRef.main_arg5)
          ∧ r.2.mem (((0 : Dev Cert.WeightsRef.nD).tc : Thread Cert.WeightsRef.nD Cert.WeightsRef.τ).loc Cert.WeightsRef.main_arg6) = m' (((0 : Dev Cert.WeightsRef.nD).tc : Thread Cert.WeightsRef.nD Cert.WeightsRef.τ).loc Cert.WeightsRef.main_arg6)
          ∧ r.2.mem (((0 : Dev Cert.WeightsRef.nD).tc : Thread Cert.WeightsRef.nD Cert.WeightsRef.τ).loc Cert.WeightsRef.main_arg7) = m' (((0 : Dev Cert.WeightsRef.nD).tc : Thread Cert.WeightsRef.nD Cert.WeightsRef.τ).loc Cert.WeightsRef.main_arg7)
          ∧ r.2.mem (((0 : Dev Cert.WeightsRef.nD).tc : Thread Cert.WeightsRef.nD Cert.WeightsRef.τ).loc Cert.WeightsRef.main_arg8) = m' (((0 : Dev Cert.WeightsRef.nD).tc : Thread Cert.WeightsRef.nD Cert.WeightsRef.τ).loc Cert.WeightsRef.main_arg8)
          ∧ r.2.mem (((0 : Dev Cert.WeightsRef.nD).tc : Thread Cert.WeightsRef.nD Cert.WeightsRef.τ).loc Cert.WeightsRef.main_arg9) = m' (((0 : Dev Cert.WeightsRef.nD).tc : Thread Cert.WeightsRef.nD Cert.WeightsRef.τ).loc Cert.WeightsRef.main_arg9))

def preserves_UpdateIn_UpdateInIdeal : Prop :=
  True

def algebraic_UpdateInIdeal_UpdateInRefIdeal [hUpdateInIdeal : Cert.UpdateInIdeal.Facts] [hUpdateInRefIdeal : Cert.UpdateInRefIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInRefIdeal.nD Cert.UpdateInRefIdeal.τ Cert.UpdateInRefIdeal.sig) → Buf (Elt Ideal) ℓ) (g' : Dev Cert.UpdateInRefIdeal.nD → PrngReg), Pre_UpdateInIdeal m →
    (∀ c : Dev Cert.UpdateInIdeal.nD,
      m' ((c.tc : Thread Cert.UpdateInRefIdeal.nD Cert.UpdateInRefIdeal.τ).loc Cert.UpdateInRefIdeal.main_arg0) = m ((c.tc : Thread Cert.UpdateInIdeal.nD Cert.UpdateInIdeal.τ).loc Cert.UpdateInIdeal.main_arg0)
      ∧ m' ((c.tc : Thread Cert.UpdateInRefIdeal.nD Cert.UpdateInRefIdeal.τ).loc Cert.UpdateInRefIdeal.main_arg1) = m ((c.tc : Thread Cert.UpdateInIdeal.nD Cert.UpdateInIdeal.τ).loc Cert.UpdateInIdeal.main_arg1)
      ∧ m' ((c.tc : Thread Cert.UpdateInRefIdeal.nD Cert.UpdateInRefIdeal.τ).loc Cert.UpdateInRefIdeal.main_arg2) = m ((c.tc : Thread Cert.UpdateInIdeal.nD Cert.UpdateInIdeal.τ).loc Cert.UpdateInIdeal.main_arg2)
      ∧ m' ((c.tc : Thread Cert.UpdateInRefIdeal.nD Cert.UpdateInRefIdeal.τ).loc Cert.UpdateInRefIdeal.main_arg3) = m ((c.tc : Thread Cert.UpdateInIdeal.nD Cert.UpdateInIdeal.τ).loc Cert.UpdateInIdeal.main_arg3)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)) (v3 : (c : Dev Cert.UpdateInIdeal.nD) → Buf (Elt Ideal) ((c.tc : Thread Cert.UpdateInIdeal.nD Cert.UpdateInIdeal.τ).loc Cert.UpdateInIdeal.main_v0_3)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_v0_3) = v3 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ θ_run (Cert.UpdateInRefIdeal.defs (F := Ideal)) (onTc (τ := Cert.UpdateInRefIdeal.τ) (Cert.UpdateInRefIdeal.main (F := Ideal))) ⟨m', fun _ => 0, g'⟩ (fun r => ∀ c : Dev Cert.UpdateInRefIdeal.nD,
          r.2.mem ((c.tc : Thread Cert.UpdateInRefIdeal.nD Cert.UpdateInRefIdeal.τ).loc Cert.UpdateInRefIdeal.main_v1) = v0 c
          ∧ r.2.mem ((c.tc : Thread Cert.UpdateInRefIdeal.nD Cert.UpdateInRefIdeal.τ).loc Cert.UpdateInRefIdeal.main_v25) = v1 c
          ∧ r.2.mem ((c.tc : Thread Cert.UpdateInRefIdeal.nD Cert.UpdateInRefIdeal.τ).loc Cert.UpdateInRefIdeal.main_v6) = v2 c
          ∧ r.2.mem ((c.tc : Thread Cert.UpdateInRefIdeal.nD Cert.UpdateInRefIdeal.τ).loc Cert.UpdateInRefIdeal.main_v12) = v3 c
          ∧ r.2.mem ((c.tc : Thread Cert.UpdateInRefIdeal.nD Cert.UpdateInRefIdeal.τ).loc Cert.UpdateInRefIdeal.main_arg0) = m' ((c.tc : Thread Cert.UpdateInRefIdeal.nD Cert.UpdateInRefIdeal.τ).loc Cert.UpdateInRefIdeal.main_arg0)
          ∧ r.2.mem ((c.tc : Thread Cert.UpdateInRefIdeal.nD Cert.UpdateInRefIdeal.τ).loc Cert.UpdateInRefIdeal.main_arg1) = m' ((c.tc : Thread Cert.UpdateInRefIdeal.nD Cert.UpdateInRefIdeal.τ).loc Cert.UpdateInRefIdeal.main_arg1)
          ∧ r.2.mem ((c.tc : Thread Cert.UpdateInRefIdeal.nD Cert.UpdateInRefIdeal.τ).loc Cert.UpdateInRefIdeal.main_arg2) = m' ((c.tc : Thread Cert.UpdateInRefIdeal.nD Cert.UpdateInRefIdeal.τ).loc Cert.UpdateInRefIdeal.main_arg2)
          ∧ r.2.mem ((c.tc : Thread Cert.UpdateInRefIdeal.nD Cert.UpdateInRefIdeal.τ).loc Cert.UpdateInRefIdeal.main_arg3) = m' ((c.tc : Thread Cert.UpdateInRefIdeal.nD Cert.UpdateInRefIdeal.τ).loc Cert.UpdateInRefIdeal.main_arg3))

def preserves_UpdateSquare_UpdateSquareIdeal : Prop :=
  True

def algebraic_UpdateSquareIdeal_UpdateSquareRefIdeal [hUpdateSquareIdeal : Cert.UpdateSquareIdeal.Facts] [hUpdateSquareRefIdeal : Cert.UpdateSquareRefIdeal.Facts] : Prop :=
  ∀ (m : (ℓ : Loc Cert.UpdateSquareIdeal.nD Cert.UpdateSquareIdeal.τ Cert.UpdateSquareIdeal.sig) → Buf (Elt Ideal) ℓ) (g : Dev Cert.UpdateSquareIdeal.nD → PrngReg)
    (m' : (ℓ : Loc Cert.UpdateSquareRefIdeal.nD Cert.UpdateSquareRefIdeal.τ Cert.UpdateSquareRefIdeal.sig) → Buf (Elt Ideal) ℓ) (g' : Dev Cert.UpdateSquareRefIdeal.nD → PrngReg), Pre_UpdateSquareIdeal m →
    (∀ c : Dev Cert.UpdateSquareIdeal.nD,
      m' ((c.tc : Thread Cert.UpdateSquareRefIdeal.nD Cert.UpdateSquareRefIdeal.τ).loc Cert.UpdateSquareRefIdeal.main_arg0) = m ((c.tc : Thread Cert.UpdateSquareIdeal.nD Cert.UpdateSquareIdeal.τ).loc Cert.UpdateSquareIdeal.main_arg0)
      ∧ m' ((c.tc : Thread Cert.UpdateSquareRefIdeal.nD Cert.UpdateSquareRefIdeal.τ).loc Cert.UpdateSquareRefIdeal.main_arg1) = m ((c.tc : Thread Cert.UpdateSquareIdeal.nD Cert.UpdateSquareIdeal.τ).loc Cert.UpdateSquareIdeal.main_arg1)
      ∧ m' ((c.tc : Thread Cert.UpdateSquareRefIdeal.nD Cert.UpdateSquareRefIdeal.τ).loc Cert.UpdateSquareRefIdeal.main_arg2) = m ((c.tc : Thread Cert.UpdateSquareIdeal.nD Cert.UpdateSquareIdeal.τ).loc Cert.UpdateSquareIdeal.main_arg2)
      ∧ m' ((c.tc : Thread Cert.UpdateSquareRefIdeal.nD Cert.UpdateSquareRefIdeal.τ).loc Cert.UpdateSquareRefIdeal.main_arg3) = m ((c.tc : Thread Cert.UpdateSquareIdeal.nD Cert.UpdateSquareIdeal.τ).loc Cert.UpdateSquareIdeal.main_arg3)) →
    ∃ (v0 : (c : Dev Cert.UpdateSquareIdeal.nD) → Buf (Elt Ideal) ((c.tc : Thread Cert.UpdateSquareIdeal.nD Cert.UpdateSquareIdeal.τ).loc Cert.UpdateSquareIdeal.main_v0_0)) (v1 : (c : Dev Cert.UpdateSquareIdeal.nD) → Buf (Elt Ideal) ((c.tc : Thread Cert.UpdateSquareIdeal.nD Cert.UpdateSquareIdeal.τ).loc Cert.UpdateSquareIdeal.main_v0_1)) (v2 : (c : Dev Cert.UpdateSquareIdeal.nD) → Buf (Elt Ideal) ((c.tc : Thread Cert.UpdateSquareIdeal.nD Cert.UpdateSquareIdeal.τ).loc Cert.UpdateSquareIdeal.main_v0_2)) (v3 : (c : Dev Cert.UpdateSquareIdeal.nD) → Buf (Elt Ideal) ((c.tc : Thread Cert.UpdateSquareIdeal.nD Cert.UpdateSquareIdeal.τ).loc Cert.UpdateSquareIdeal.main_v0_3)),
      θ_run (Cert.UpdateSquareIdeal.defs (F := Ideal)) (onTc (τ := Cert.UpdateSquareIdeal.τ) (Cert.UpdateSquareIdeal.main (F := Ideal))) ⟨m, fun _ => 0, g⟩ (fun r => ∀ c : Dev Cert.UpdateSquareIdeal.nD,
          r.2.mem ((c.tc : Thread Cert.UpdateSquareIdeal.nD Cert.UpdateSquareIdeal.τ).loc Cert.UpdateSquareIdeal.main_v0_0) = v0 c
          ∧ r.2.mem ((c.tc : Thread Cert.UpdateSquareIdeal.nD Cert.UpdateSquareIdeal.τ).loc Cert.UpdateSquareIdeal.main_v0_1) = v1 c
          ∧ r.2.mem ((c.tc : Thread Cert.UpdateSquareIdeal.nD Cert.UpdateSquareIdeal.τ).loc Cert.UpdateSquareIdeal.main_v0_2) = v2 c
          ∧ r.2.mem ((c.tc : Thread Cert.UpdateSquareIdeal.nD Cert.UpdateSquareIdeal.τ).loc Cert.UpdateSquareIdeal.main_v0_3) = v3 c
          ∧ r.2.mem ((c.tc : Thread Cert.UpdateSquareIdeal.nD Cert.UpdateSquareIdeal.τ).loc Cert.UpdateSquareIdeal.main_arg0) = m ((c.tc : Thread Cert.UpdateSquareIdeal.nD Cert.UpdateSquareIdeal.τ).loc Cert.UpdateSquareIdeal.main_arg0)
          ∧ r.2.mem ((c.tc : Thread Cert.UpdateSquareIdeal.nD Cert.UpdateSquareIdeal.τ).loc Cert.UpdateSquareIdeal.main_arg1) = m ((c.tc : Thread Cert.UpdateSquareIdeal.nD Cert.UpdateSquareIdeal.τ).loc Cert.UpdateSquareIdeal.main_arg1)
          ∧ r.2.mem ((c.tc : Thread Cert.UpdateSquareIdeal.nD Cert.UpdateSquareIdeal.τ).loc Cert.UpdateSquareIdeal.main_arg2) = m ((c.tc : Thread Cert.UpdateSquareIdeal.nD Cert.UpdateSquareIdeal.τ).loc Cert.UpdateSquareIdeal.main_arg2)
          ∧ r.2.mem ((c.tc : Thread Cert.UpdateSquareIdeal.nD Cert.UpdateSquareIdeal.τ).loc Cert.UpdateSquareIdeal.main_arg3) = m ((c.tc : Thread Cert.UpdateSquareIdeal.nD Cert.UpdateSquareIdeal.τ).loc Cert.UpdateSquareIdeal.main_arg3))
      ∧ θ_run (Cert.UpdateSquareRefIdeal.defs (F := Ideal)) (onTc (τ := Cert.UpdateSquareRefIdeal.τ) (Cert.UpdateSquareRefIdeal.main (F := Ideal))) ⟨m', fun _ => 0, g'⟩ (fun r => ∀ c : Dev Cert.UpdateSquareRefIdeal.nD,
          r.2.mem ((c.tc : Thread Cert.UpdateSquareRefIdeal.nD Cert.UpdateSquareRefIdeal.τ).loc Cert.UpdateSquareRefIdeal.main_v1) = v0 c
          ∧ r.2.mem ((c.tc : Thread Cert.UpdateSquareRefIdeal.nD Cert.UpdateSquareRefIdeal.τ).loc Cert.UpdateSquareRefIdeal.main_v25) = v1 c
          ∧ r.2.mem ((c.tc : Thread Cert.UpdateSquareRefIdeal.nD Cert.UpdateSquareRefIdeal.τ).loc Cert.UpdateSquareRefIdeal.main_v6) = v2 c
          ∧ r.2.mem ((c.tc : Thread Cert.UpdateSquareRefIdeal.nD Cert.UpdateSquareRefIdeal.τ).loc Cert.UpdateSquareRefIdeal.main_v12) = v3 c
          ∧ r.2.mem ((c.tc : Thread Cert.UpdateSquareRefIdeal.nD Cert.UpdateSquareRefIdeal.τ).loc Cert.UpdateSquareRefIdeal.main_arg0) = m' ((c.tc : Thread Cert.UpdateSquareRefIdeal.nD Cert.UpdateSquareRefIdeal.τ).loc Cert.UpdateSquareRefIdeal.main_arg0)
          ∧ r.2.mem ((c.tc : Thread Cert.UpdateSquareRefIdeal.nD Cert.UpdateSquareRefIdeal.τ).loc Cert.UpdateSquareRefIdeal.main_arg1) = m' ((c.tc : Thread Cert.UpdateSquareRefIdeal.nD Cert.UpdateSquareRefIdeal.τ).loc Cert.UpdateSquareRefIdeal.main_arg1)
          ∧ r.2.mem ((c.tc : Thread Cert.UpdateSquareRefIdeal.nD Cert.UpdateSquareRefIdeal.τ).loc Cert.UpdateSquareRefIdeal.main_arg2) = m' ((c.tc : Thread Cert.UpdateSquareRefIdeal.nD Cert.UpdateSquareRefIdeal.τ).loc Cert.UpdateSquareRefIdeal.main_arg2)
          ∧ r.2.mem ((c.tc : Thread Cert.UpdateSquareRefIdeal.nD Cert.UpdateSquareRefIdeal.τ).loc Cert.UpdateSquareRefIdeal.main_arg3) = m' ((c.tc : Thread Cert.UpdateSquareRefIdeal.nD Cert.UpdateSquareRefIdeal.τ).loc Cert.UpdateSquareRefIdeal.main_arg3))

def preserves_UpdateUp_UpdateUpIdeal : Prop :=
  True

def algebraic_UpdateUpIdeal_UpdateUpRefIdeal [hUpdateUpIdeal : Cert.UpdateUpIdeal.Facts] [hUpdateUpRefIdeal : Cert.UpdateUpRefIdeal.Facts] : Prop :=
  ∀ (m : (ℓ : Loc Cert.UpdateUpIdeal.nD Cert.UpdateUpIdeal.τ Cert.UpdateUpIdeal.sig) → Buf (Elt Ideal) ℓ) (g : Dev Cert.UpdateUpIdeal.nD → PrngReg)
    (m' : (ℓ : Loc Cert.UpdateUpRefIdeal.nD Cert.UpdateUpRefIdeal.τ Cert.UpdateUpRefIdeal.sig) → Buf (Elt Ideal) ℓ) (g' : Dev Cert.UpdateUpRefIdeal.nD → PrngReg), Pre_UpdateUpIdeal m →
    (∀ c : Dev Cert.UpdateUpIdeal.nD,
      m' ((c.tc : Thread Cert.UpdateUpRefIdeal.nD Cert.UpdateUpRefIdeal.τ).loc Cert.UpdateUpRefIdeal.main_arg0) = m ((c.tc : Thread Cert.UpdateUpIdeal.nD Cert.UpdateUpIdeal.τ).loc Cert.UpdateUpIdeal.main_arg0)
      ∧ m' ((c.tc : Thread Cert.UpdateUpRefIdeal.nD Cert.UpdateUpRefIdeal.τ).loc Cert.UpdateUpRefIdeal.main_arg1) = m ((c.tc : Thread Cert.UpdateUpIdeal.nD Cert.UpdateUpIdeal.τ).loc Cert.UpdateUpIdeal.main_arg1)
      ∧ m' ((c.tc : Thread Cert.UpdateUpRefIdeal.nD Cert.UpdateUpRefIdeal.τ).loc Cert.UpdateUpRefIdeal.main_arg2) = m ((c.tc : Thread Cert.UpdateUpIdeal.nD Cert.UpdateUpIdeal.τ).loc Cert.UpdateUpIdeal.main_arg2)
      ∧ m' ((c.tc : Thread Cert.UpdateUpRefIdeal.nD Cert.UpdateUpRefIdeal.τ).loc Cert.UpdateUpRefIdeal.main_arg3) = m ((c.tc : Thread Cert.UpdateUpIdeal.nD Cert.UpdateUpIdeal.τ).loc Cert.UpdateUpIdeal.main_arg3)) →
    ∃ (v0 : (c : Dev Cert.UpdateUpIdeal.nD) → Buf (Elt Ideal) ((c.tc : Thread Cert.UpdateUpIdeal.nD Cert.UpdateUpIdeal.τ).loc Cert.UpdateUpIdeal.main_v0_0)) (v1 : (c : Dev Cert.UpdateUpIdeal.nD) → Buf (Elt Ideal) ((c.tc : Thread Cert.UpdateUpIdeal.nD Cert.UpdateUpIdeal.τ).loc Cert.UpdateUpIdeal.main_v0_1)) (v2 : (c : Dev Cert.UpdateUpIdeal.nD) → Buf (Elt Ideal) ((c.tc : Thread Cert.UpdateUpIdeal.nD Cert.UpdateUpIdeal.τ).loc Cert.UpdateUpIdeal.main_v0_2)) (v3 : (c : Dev Cert.UpdateUpIdeal.nD) → Buf (Elt Ideal) ((c.tc : Thread Cert.UpdateUpIdeal.nD Cert.UpdateUpIdeal.τ).loc Cert.UpdateUpIdeal.main_v0_3)),
      θ_run (Cert.UpdateUpIdeal.defs (F := Ideal)) (onTc (τ := Cert.UpdateUpIdeal.τ) (Cert.UpdateUpIdeal.main (F := Ideal))) ⟨m, fun _ => 0, g⟩ (fun r => ∀ c : Dev Cert.UpdateUpIdeal.nD,
          r.2.mem ((c.tc : Thread Cert.UpdateUpIdeal.nD Cert.UpdateUpIdeal.τ).loc Cert.UpdateUpIdeal.main_v0_0) = v0 c
          ∧ r.2.mem ((c.tc : Thread Cert.UpdateUpIdeal.nD Cert.UpdateUpIdeal.τ).loc Cert.UpdateUpIdeal.main_v0_1) = v1 c
          ∧ r.2.mem ((c.tc : Thread Cert.UpdateUpIdeal.nD Cert.UpdateUpIdeal.τ).loc Cert.UpdateUpIdeal.main_v0_2) = v2 c
          ∧ r.2.mem ((c.tc : Thread Cert.UpdateUpIdeal.nD Cert.UpdateUpIdeal.τ).loc Cert.UpdateUpIdeal.main_v0_3) = v3 c
          ∧ r.2.mem ((c.tc : Thread Cert.UpdateUpIdeal.nD Cert.UpdateUpIdeal.τ).loc Cert.UpdateUpIdeal.main_arg0) = m ((c.tc : Thread Cert.UpdateUpIdeal.nD Cert.UpdateUpIdeal.τ).loc Cert.UpdateUpIdeal.main_arg0)
          ∧ r.2.mem ((c.tc : Thread Cert.UpdateUpIdeal.nD Cert.UpdateUpIdeal.τ).loc Cert.UpdateUpIdeal.main_arg1) = m ((c.tc : Thread Cert.UpdateUpIdeal.nD Cert.UpdateUpIdeal.τ).loc Cert.UpdateUpIdeal.main_arg1)
          ∧ r.2.mem ((c.tc : Thread Cert.UpdateUpIdeal.nD Cert.UpdateUpIdeal.τ).loc Cert.UpdateUpIdeal.main_arg2) = m ((c.tc : Thread Cert.UpdateUpIdeal.nD Cert.UpdateUpIdeal.τ).loc Cert.UpdateUpIdeal.main_arg2)
          ∧ r.2.mem ((c.tc : Thread Cert.UpdateUpIdeal.nD Cert.UpdateUpIdeal.τ).loc Cert.UpdateUpIdeal.main_arg3) = m ((c.tc : Thread Cert.UpdateUpIdeal.nD Cert.UpdateUpIdeal.τ).loc Cert.UpdateUpIdeal.main_arg3))
      ∧ θ_run (Cert.UpdateUpRefIdeal.defs (F := Ideal)) (onTc (τ := Cert.UpdateUpRefIdeal.τ) (Cert.UpdateUpRefIdeal.main (F := Ideal))) ⟨m', fun _ => 0, g'⟩ (fun r => ∀ c : Dev Cert.UpdateUpRefIdeal.nD,
          r.2.mem ((c.tc : Thread Cert.UpdateUpRefIdeal.nD Cert.UpdateUpRefIdeal.τ).loc Cert.UpdateUpRefIdeal.main_v1) = v0 c
          ∧ r.2.mem ((c.tc : Thread Cert.UpdateUpRefIdeal.nD Cert.UpdateUpRefIdeal.τ).loc Cert.UpdateUpRefIdeal.main_v25) = v1 c
          ∧ r.2.mem ((c.tc : Thread Cert.UpdateUpRefIdeal.nD Cert.UpdateUpRefIdeal.τ).loc Cert.UpdateUpRefIdeal.main_v6) = v2 c
          ∧ r.2.mem ((c.tc : Thread Cert.UpdateUpRefIdeal.nD Cert.UpdateUpRefIdeal.τ).loc Cert.UpdateUpRefIdeal.main_v12) = v3 c
          ∧ r.2.mem ((c.tc : Thread Cert.UpdateUpRefIdeal.nD Cert.UpdateUpRefIdeal.τ).loc Cert.UpdateUpRefIdeal.main_arg0) = m' ((c.tc : Thread Cert.UpdateUpRefIdeal.nD Cert.UpdateUpRefIdeal.τ).loc Cert.UpdateUpRefIdeal.main_arg0)
          ∧ r.2.mem ((c.tc : Thread Cert.UpdateUpRefIdeal.nD Cert.UpdateUpRefIdeal.τ).loc Cert.UpdateUpRefIdeal.main_arg1) = m' ((c.tc : Thread Cert.UpdateUpRefIdeal.nD Cert.UpdateUpRefIdeal.τ).loc Cert.UpdateUpRefIdeal.main_arg1)
          ∧ r.2.mem ((c.tc : Thread Cert.UpdateUpRefIdeal.nD Cert.UpdateUpRefIdeal.τ).loc Cert.UpdateUpRefIdeal.main_arg2) = m' ((c.tc : Thread Cert.UpdateUpRefIdeal.nD Cert.UpdateUpRefIdeal.τ).loc Cert.UpdateUpRefIdeal.main_arg2)
          ∧ r.2.mem ((c.tc : Thread Cert.UpdateUpRefIdeal.nD Cert.UpdateUpRefIdeal.τ).loc Cert.UpdateUpRefIdeal.main_arg3) = m' ((c.tc : Thread Cert.UpdateUpRefIdeal.nD Cert.UpdateUpRefIdeal.τ).loc Cert.UpdateUpRefIdeal.main_arg3))

def preserves_UpdateDown_UpdateDownIdeal : Prop :=
  True

def algebraic_UpdateDownIdeal_UpdateDownRefIdeal [hUpdateDownIdeal : Cert.UpdateDownIdeal.Facts] [hUpdateDownRefIdeal : Cert.UpdateDownRefIdeal.Facts] : Prop :=
  ∀ (m : (ℓ : Loc Cert.UpdateDownIdeal.nD Cert.UpdateDownIdeal.τ Cert.UpdateDownIdeal.sig) → Buf (Elt Ideal) ℓ) (g : Dev Cert.UpdateDownIdeal.nD → PrngReg)
    (m' : (ℓ : Loc Cert.UpdateDownRefIdeal.nD Cert.UpdateDownRefIdeal.τ Cert.UpdateDownRefIdeal.sig) → Buf (Elt Ideal) ℓ) (g' : Dev Cert.UpdateDownRefIdeal.nD → PrngReg), Pre_UpdateDownIdeal m →
    (∀ c : Dev Cert.UpdateDownIdeal.nD,
      m' ((c.tc : Thread Cert.UpdateDownRefIdeal.nD Cert.UpdateDownRefIdeal.τ).loc Cert.UpdateDownRefIdeal.main_arg0) = m ((c.tc : Thread Cert.UpdateDownIdeal.nD Cert.UpdateDownIdeal.τ).loc Cert.UpdateDownIdeal.main_arg0)
      ∧ m' ((c.tc : Thread Cert.UpdateDownRefIdeal.nD Cert.UpdateDownRefIdeal.τ).loc Cert.UpdateDownRefIdeal.main_arg1) = m ((c.tc : Thread Cert.UpdateDownIdeal.nD Cert.UpdateDownIdeal.τ).loc Cert.UpdateDownIdeal.main_arg1)
      ∧ m' ((c.tc : Thread Cert.UpdateDownRefIdeal.nD Cert.UpdateDownRefIdeal.τ).loc Cert.UpdateDownRefIdeal.main_arg2) = m ((c.tc : Thread Cert.UpdateDownIdeal.nD Cert.UpdateDownIdeal.τ).loc Cert.UpdateDownIdeal.main_arg2)
      ∧ m' ((c.tc : Thread Cert.UpdateDownRefIdeal.nD Cert.UpdateDownRefIdeal.τ).loc Cert.UpdateDownRefIdeal.main_arg3) = m ((c.tc : Thread Cert.UpdateDownIdeal.nD Cert.UpdateDownIdeal.τ).loc Cert.UpdateDownIdeal.main_arg3)) →
    ∃ (v0 : (c : Dev Cert.UpdateDownIdeal.nD) → Buf (Elt Ideal) ((c.tc : Thread Cert.UpdateDownIdeal.nD Cert.UpdateDownIdeal.τ).loc Cert.UpdateDownIdeal.main_v0_0)) (v1 : (c : Dev Cert.UpdateDownIdeal.nD) → Buf (Elt Ideal) ((c.tc : Thread Cert.UpdateDownIdeal.nD Cert.UpdateDownIdeal.τ).loc Cert.UpdateDownIdeal.main_v0_1)) (v2 : (c : Dev Cert.UpdateDownIdeal.nD) → Buf (Elt Ideal) ((c.tc : Thread Cert.UpdateDownIdeal.nD Cert.UpdateDownIdeal.τ).loc Cert.UpdateDownIdeal.main_v0_2)) (v3 : (c : Dev Cert.UpdateDownIdeal.nD) → Buf (Elt Ideal) ((c.tc : Thread Cert.UpdateDownIdeal.nD Cert.UpdateDownIdeal.τ).loc Cert.UpdateDownIdeal.main_v0_3)),
      θ_run (Cert.UpdateDownIdeal.defs (F := Ideal)) (onTc (τ := Cert.UpdateDownIdeal.τ) (Cert.UpdateDownIdeal.main (F := Ideal))) ⟨m, fun _ => 0, g⟩ (fun r => ∀ c : Dev Cert.UpdateDownIdeal.nD,
          r.2.mem ((c.tc : Thread Cert.UpdateDownIdeal.nD Cert.UpdateDownIdeal.τ).loc Cert.UpdateDownIdeal.main_v0_0) = v0 c
          ∧ r.2.mem ((c.tc : Thread Cert.UpdateDownIdeal.nD Cert.UpdateDownIdeal.τ).loc Cert.UpdateDownIdeal.main_v0_1) = v1 c
          ∧ r.2.mem ((c.tc : Thread Cert.UpdateDownIdeal.nD Cert.UpdateDownIdeal.τ).loc Cert.UpdateDownIdeal.main_v0_2) = v2 c
          ∧ r.2.mem ((c.tc : Thread Cert.UpdateDownIdeal.nD Cert.UpdateDownIdeal.τ).loc Cert.UpdateDownIdeal.main_v0_3) = v3 c
          ∧ r.2.mem ((c.tc : Thread Cert.UpdateDownIdeal.nD Cert.UpdateDownIdeal.τ).loc Cert.UpdateDownIdeal.main_arg0) = m ((c.tc : Thread Cert.UpdateDownIdeal.nD Cert.UpdateDownIdeal.τ).loc Cert.UpdateDownIdeal.main_arg0)
          ∧ r.2.mem ((c.tc : Thread Cert.UpdateDownIdeal.nD Cert.UpdateDownIdeal.τ).loc Cert.UpdateDownIdeal.main_arg1) = m ((c.tc : Thread Cert.UpdateDownIdeal.nD Cert.UpdateDownIdeal.τ).loc Cert.UpdateDownIdeal.main_arg1)
          ∧ r.2.mem ((c.tc : Thread Cert.UpdateDownIdeal.nD Cert.UpdateDownIdeal.τ).loc Cert.UpdateDownIdeal.main_arg2) = m ((c.tc : Thread Cert.UpdateDownIdeal.nD Cert.UpdateDownIdeal.τ).loc Cert.UpdateDownIdeal.main_arg2)
          ∧ r.2.mem ((c.tc : Thread Cert.UpdateDownIdeal.nD Cert.UpdateDownIdeal.τ).loc Cert.UpdateDownIdeal.main_arg3) = m ((c.tc : Thread Cert.UpdateDownIdeal.nD Cert.UpdateDownIdeal.τ).loc Cert.UpdateDownIdeal.main_arg3))
      ∧ θ_run (Cert.UpdateDownRefIdeal.defs (F := Ideal)) (onTc (τ := Cert.UpdateDownRefIdeal.τ) (Cert.UpdateDownRefIdeal.main (F := Ideal))) ⟨m', fun _ => 0, g'⟩ (fun r => ∀ c : Dev Cert.UpdateDownRefIdeal.nD,
          r.2.mem ((c.tc : Thread Cert.UpdateDownRefIdeal.nD Cert.UpdateDownRefIdeal.τ).loc Cert.UpdateDownRefIdeal.main_v1) = v0 c
          ∧ r.2.mem ((c.tc : Thread Cert.UpdateDownRefIdeal.nD Cert.UpdateDownRefIdeal.τ).loc Cert.UpdateDownRefIdeal.main_v25) = v1 c
          ∧ r.2.mem ((c.tc : Thread Cert.UpdateDownRefIdeal.nD Cert.UpdateDownRefIdeal.τ).loc Cert.UpdateDownRefIdeal.main_v6) = v2 c
          ∧ r.2.mem ((c.tc : Thread Cert.UpdateDownRefIdeal.nD Cert.UpdateDownRefIdeal.τ).loc Cert.UpdateDownRefIdeal.main_v12) = v3 c
          ∧ r.2.mem ((c.tc : Thread Cert.UpdateDownRefIdeal.nD Cert.UpdateDownRefIdeal.τ).loc Cert.UpdateDownRefIdeal.main_arg0) = m' ((c.tc : Thread Cert.UpdateDownRefIdeal.nD Cert.UpdateDownRefIdeal.τ).loc Cert.UpdateDownRefIdeal.main_arg0)
          ∧ r.2.mem ((c.tc : Thread Cert.UpdateDownRefIdeal.nD Cert.UpdateDownRefIdeal.τ).loc Cert.UpdateDownRefIdeal.main_arg1) = m' ((c.tc : Thread Cert.UpdateDownRefIdeal.nD Cert.UpdateDownRefIdeal.τ).loc Cert.UpdateDownRefIdeal.main_arg1)
          ∧ r.2.mem ((c.tc : Thread Cert.UpdateDownRefIdeal.nD Cert.UpdateDownRefIdeal.τ).loc Cert.UpdateDownRefIdeal.main_arg2) = m' ((c.tc : Thread Cert.UpdateDownRefIdeal.nD Cert.UpdateDownRefIdeal.τ).loc Cert.UpdateDownRefIdeal.main_arg2)
          ∧ r.2.mem ((c.tc : Thread Cert.UpdateDownRefIdeal.nD Cert.UpdateDownRefIdeal.τ).loc Cert.UpdateDownRefIdeal.main_arg3) = m' ((c.tc : Thread Cert.UpdateDownRefIdeal.nD Cert.UpdateDownRefIdeal.τ).loc Cert.UpdateDownRefIdeal.main_arg3))

def preserves_UpdateSmall_UpdateSmallIdeal : Prop :=
  True

def algebraic_UpdateSmallIdeal_UpdateSmallRefIdeal [hUpdateSmallIdeal : Cert.UpdateSmallIdeal.Facts] [hUpdateSmallRefIdeal : Cert.UpdateSmallRefIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg)
    (m' : (ℓ : Loc Cert.UpdateSmallRefIdeal.nD Cert.UpdateSmallRefIdeal.τ Cert.UpdateSmallRefIdeal.sig) → Buf (Elt Ideal) ℓ) (g' : Dev Cert.UpdateSmallRefIdeal.nD → PrngReg), Pre_UpdateSmallIdeal m →
    (∀ c : Dev Cert.UpdateSmallIdeal.nD,
      m' ((c.tc : Thread Cert.UpdateSmallRefIdeal.nD Cert.UpdateSmallRefIdeal.τ).loc Cert.UpdateSmallRefIdeal.main_arg0) = m ((c.tc : Thread Cert.UpdateSmallIdeal.nD Cert.UpdateSmallIdeal.τ).loc Cert.UpdateSmallIdeal.main_arg0)
      ∧ m' ((c.tc : Thread Cert.UpdateSmallRefIdeal.nD Cert.UpdateSmallRefIdeal.τ).loc Cert.UpdateSmallRefIdeal.main_arg1) = m ((c.tc : Thread Cert.UpdateSmallIdeal.nD Cert.UpdateSmallIdeal.τ).loc Cert.UpdateSmallIdeal.main_arg1)
      ∧ m' ((c.tc : Thread Cert.UpdateSmallRefIdeal.nD Cert.UpdateSmallRefIdeal.τ).loc Cert.UpdateSmallRefIdeal.main_arg2) = m ((c.tc : Thread Cert.UpdateSmallIdeal.nD Cert.UpdateSmallIdeal.τ).loc Cert.UpdateSmallIdeal.main_arg2)
      ∧ m' ((c.tc : Thread Cert.UpdateSmallRefIdeal.nD Cert.UpdateSmallRefIdeal.τ).loc Cert.UpdateSmallRefIdeal.main_arg3) = m ((c.tc : Thread Cert.UpdateSmallIdeal.nD Cert.UpdateSmallIdeal.τ).loc Cert.UpdateSmallIdeal.main_arg3)) →
    ∃ (v0 : (c : Dev Cert.UpdateSmallIdeal.nD) → Buf (Elt Ideal) ((c.tc : Thread Cert.UpdateSmallIdeal.nD Cert.UpdateSmallIdeal.τ).loc Cert.UpdateSmallIdeal.main_v0_0)) (v1 : (c : Dev Cert.UpdateSmallIdeal.nD) → Buf (Elt Ideal) ((c.tc : Thread Cert.UpdateSmallIdeal.nD Cert.UpdateSmallIdeal.τ).loc Cert.UpdateSmallIdeal.main_v0_1)) (v2 : (c : Dev Cert.UpdateSmallIdeal.nD) → Buf (Elt Ideal) ((c.tc : Thread Cert.UpdateSmallIdeal.nD Cert.UpdateSmallIdeal.τ).loc Cert.UpdateSmallIdeal.main_v0_2)) (v3 : (c : Dev Cert.UpdateSmallIdeal.nD) → Buf (Elt Ideal) ((c.tc : Thread Cert.UpdateSmallIdeal.nD Cert.UpdateSmallIdeal.τ).loc Cert.UpdateSmallIdeal.main_v0_3)),
      θ_run (Cert.UpdateSmallIdeal.defs (F := Ideal)) (onTc (τ := Cert.UpdateSmallIdeal.τ) (Cert.UpdateSmallIdeal.main (F := Ideal))) ⟨m, fun _ => 0, g⟩ (fun r => ∀ c : Dev Cert.UpdateSmallIdeal.nD,
          r.2.mem ((c.tc : Thread Cert.UpdateSmallIdeal.nD Cert.UpdateSmallIdeal.τ).loc Cert.UpdateSmallIdeal.main_v0_0) = v0 c
          ∧ r.2.mem ((c.tc : Thread Cert.UpdateSmallIdeal.nD Cert.UpdateSmallIdeal.τ).loc Cert.UpdateSmallIdeal.main_v0_1) = v1 c
          ∧ r.2.mem ((c.tc : Thread Cert.UpdateSmallIdeal.nD Cert.UpdateSmallIdeal.τ).loc Cert.UpdateSmallIdeal.main_v0_2) = v2 c
          ∧ r.2.mem ((c.tc : Thread Cert.UpdateSmallIdeal.nD Cert.UpdateSmallIdeal.τ).loc Cert.UpdateSmallIdeal.main_v0_3) = v3 c
          ∧ r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
          ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
          ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
          ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ θ_run (Cert.UpdateSmallRefIdeal.defs (F := Ideal)) (onTc (τ := Cert.UpdateSmallRefIdeal.τ) (Cert.UpdateSmallRefIdeal.main (F := Ideal))) ⟨m', fun _ => 0, g'⟩ (fun r => ∀ c : Dev Cert.UpdateSmallRefIdeal.nD,
          r.2.mem ((c.tc : Thread Cert.UpdateSmallRefIdeal.nD Cert.UpdateSmallRefIdeal.τ).loc Cert.UpdateSmallRefIdeal.main_v0) = v0 c
          ∧ r.2.mem ((c.tc : Thread Cert.UpdateSmallRefIdeal.nD Cert.UpdateSmallRefIdeal.τ).loc Cert.UpdateSmallRefIdeal.main_v24) = v1 c
          ∧ r.2.mem ((c.tc : Thread Cert.UpdateSmallRefIdeal.nD Cert.UpdateSmallRefIdeal.τ).loc Cert.UpdateSmallRefIdeal.main_v5) = v2 c
          ∧ r.2.mem ((c.tc : Thread Cert.UpdateSmallRefIdeal.nD Cert.UpdateSmallRefIdeal.τ).loc Cert.UpdateSmallRefIdeal.main_v11) = v3 c
          ∧ r.2.mem ((c.tc : Thread Cert.UpdateSmallRefIdeal.nD Cert.UpdateSmallRefIdeal.τ).loc Cert.UpdateSmallRefIdeal.main_arg0) = m' ((c.tc : Thread Cert.UpdateSmallRefIdeal.nD Cert.UpdateSmallRefIdeal.τ).loc Cert.UpdateSmallRefIdeal.main_arg0)
          ∧ r.2.mem ((c.tc : Thread Cert.UpdateSmallRefIdeal.nD Cert.UpdateSmallRefIdeal.τ).loc Cert.UpdateSmallRefIdeal.main_arg1) = m' ((c.tc : Thread Cert.UpdateSmallRefIdeal.nD Cert.UpdateSmallRefIdeal.τ).loc Cert.UpdateSmallRefIdeal.main_arg1)
          ∧ r.2.mem ((c.tc : Thread Cert.UpdateSmallRefIdeal.nD Cert.UpdateSmallRefIdeal.τ).loc Cert.UpdateSmallRefIdeal.main_arg2) = m' ((c.tc : Thread Cert.UpdateSmallRefIdeal.nD Cert.UpdateSmallRefIdeal.τ).loc Cert.UpdateSmallRefIdeal.main_arg2)
          ∧ r.2.mem ((c.tc : Thread Cert.UpdateSmallRefIdeal.nD Cert.UpdateSmallRefIdeal.τ).loc Cert.UpdateSmallRefIdeal.main_arg3) = m' ((c.tc : Thread Cert.UpdateSmallRefIdeal.nD Cert.UpdateSmallRefIdeal.τ).loc Cert.UpdateSmallRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v0)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v0) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v12) = v0 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v3) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Key_KeyIdeal : Prop :=
  True

def algebraic_KeyIdeal_KeyRefIdeal [hKeyIdeal : Cert.KeyIdeal.Facts] [hKeyRefIdeal : Cert.KeyRefIdeal.Facts] : Prop :=
  ∀ (m : (ℓ : Loc Cert.KeyIdeal.nD Cert.KeyIdeal.τ Cert.KeyIdeal.sig) → Buf (Elt Ideal) ℓ) (g : Dev Cert.KeyIdeal.nD → PrngReg)
    (m' : (ℓ : Loc Cert.KeyRefIdeal.nD Cert.KeyRefIdeal.τ Cert.KeyRefIdeal.sig) → Buf (Elt Ideal) ℓ) (g' : Dev Cert.KeyRefIdeal.nD → PrngReg), Pre_KeyIdeal m →
    (∀ c : Dev Cert.KeyIdeal.nD,
      m' ((c.tc : Thread Cert.KeyRefIdeal.nD Cert.KeyRefIdeal.τ).loc Cert.KeyRefIdeal.main_arg0) = m ((c.tc : Thread Cert.KeyIdeal.nD Cert.KeyIdeal.τ).loc Cert.KeyIdeal.main_arg0)
      ∧ m' ((c.tc : Thread Cert.KeyRefIdeal.nD Cert.KeyRefIdeal.τ).loc Cert.KeyRefIdeal.main_arg1) = m ((c.tc : Thread Cert.KeyIdeal.nD Cert.KeyIdeal.τ).loc Cert.KeyIdeal.main_arg1)) →
    ∃ (v0 : (c : Dev Cert.KeyIdeal.nD) → Buf (Elt Ideal) ((c.tc : Thread Cert.KeyIdeal.nD Cert.KeyIdeal.τ).loc Cert.KeyIdeal.main_v0)),
      θ_run (Cert.KeyIdeal.defs (F := Ideal)) (onTc (τ := Cert.KeyIdeal.τ) (Cert.KeyIdeal.main (F := Ideal))) ⟨m, fun _ => 0, g⟩ (fun r => ∀ c : Dev Cert.KeyIdeal.nD,
          r.2.mem ((c.tc : Thread Cert.KeyIdeal.nD Cert.KeyIdeal.τ).loc Cert.KeyIdeal.main_v0) = v0 c
          ∧ r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
          ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ θ_run (Cert.KeyRefIdeal.defs (F := Ideal)) (onTc (τ := Cert.KeyRefIdeal.τ) (Cert.KeyRefIdeal.main (F := Ideal))) ⟨m', fun _ => 0, g'⟩ (fun r => ∀ c : Dev Cert.KeyRefIdeal.nD,
          r.2.mem ((c.tc : Thread Cert.KeyRefIdeal.nD Cert.KeyRefIdeal.τ).loc Cert.KeyRefIdeal.main_v3) = v0 c
          ∧ r.2.mem ((c.tc : Thread Cert.KeyRefIdeal.nD Cert.KeyRefIdeal.τ).loc Cert.KeyRefIdeal.main_arg0) = m' ((c.tc : Thread Cert.KeyRefIdeal.nD Cert.KeyRefIdeal.τ).loc Cert.KeyRefIdeal.main_arg0)
          ∧ r.2.mem ((c.tc : Thread Cert.KeyRefIdeal.nD Cert.KeyRefIdeal.τ).loc Cert.KeyRefIdeal.main_arg1) = m' ((c.tc : Thread Cert.KeyRefIdeal.nD Cert.KeyRefIdeal.τ).loc Cert.KeyRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v16) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_BackDown_BackDownIdeal : Prop :=
  True

def algebraic_BackDownIdeal_BackDownRefIdeal [hBackDownIdeal : Cert.BackDownIdeal.Facts] [hBackDownRefIdeal : Cert.BackDownRefIdeal.Facts] : Prop :=
  ∀ (m : (ℓ : Loc Cert.BackDownIdeal.nD Cert.BackDownIdeal.τ Cert.BackDownIdeal.sig) → Buf (Elt Ideal) ℓ) (g : Dev Cert.BackDownIdeal.nD → PrngReg)
    (m' : (ℓ : Loc Cert.BackDownRefIdeal.nD Cert.BackDownRefIdeal.τ Cert.BackDownRefIdeal.sig) → Buf (Elt Ideal) ℓ) (g' : Dev Cert.BackDownRefIdeal.nD → PrngReg), Pre_BackDownIdeal m →
    (∀ c : Dev Cert.BackDownIdeal.nD,
      m' ((c.tc : Thread Cert.BackDownRefIdeal.nD Cert.BackDownRefIdeal.τ).loc Cert.BackDownRefIdeal.main_arg0) = m ((c.tc : Thread Cert.BackDownIdeal.nD Cert.BackDownIdeal.τ).loc Cert.BackDownIdeal.main_arg0)
      ∧ m' ((c.tc : Thread Cert.BackDownRefIdeal.nD Cert.BackDownRefIdeal.τ).loc Cert.BackDownRefIdeal.main_arg1) = m ((c.tc : Thread Cert.BackDownIdeal.nD Cert.BackDownIdeal.τ).loc Cert.BackDownIdeal.main_arg1)) →
    ∃ (v0 : (c : Dev Cert.BackDownIdeal.nD) → Buf (Elt Ideal) ((c.tc : Thread Cert.BackDownIdeal.nD Cert.BackDownIdeal.τ).loc Cert.BackDownIdeal.main_v0)),
      θ_run (Cert.BackDownIdeal.defs (F := Ideal)) (onTc (τ := Cert.BackDownIdeal.τ) (Cert.BackDownIdeal.main (F := Ideal))) ⟨m, fun _ => 0, g⟩ (fun r => ∀ c : Dev Cert.BackDownIdeal.nD,
          r.2.mem ((c.tc : Thread Cert.BackDownIdeal.nD Cert.BackDownIdeal.τ).loc Cert.BackDownIdeal.main_v0) = v0 c
          ∧ r.2.mem ((c.tc : Thread Cert.BackDownIdeal.nD Cert.BackDownIdeal.τ).loc Cert.BackDownIdeal.main_arg0) = m ((c.tc : Thread Cert.BackDownIdeal.nD Cert.BackDownIdeal.τ).loc Cert.BackDownIdeal.main_arg0)
          ∧ r.2.mem ((c.tc : Thread Cert.BackDownIdeal.nD Cert.BackDownIdeal.τ).loc Cert.BackDownIdeal.main_arg1) = m ((c.tc : Thread Cert.BackDownIdeal.nD Cert.BackDownIdeal.τ).loc Cert.BackDownIdeal.main_arg1))
      ∧ θ_run (Cert.BackDownRefIdeal.defs (F := Ideal)) (onTc (τ := Cert.BackDownRefIdeal.τ) (Cert.BackDownRefIdeal.main (F := Ideal))) ⟨m', fun _ => 0, g'⟩ (fun r => ∀ c : Dev Cert.BackDownRefIdeal.nD,
          r.2.mem ((c.tc : Thread Cert.BackDownRefIdeal.nD Cert.BackDownRefIdeal.τ).loc Cert.BackDownRefIdeal.main_v3) = v0 c
          ∧ r.2.mem ((c.tc : Thread Cert.BackDownRefIdeal.nD Cert.BackDownRefIdeal.τ).loc Cert.BackDownRefIdeal.main_arg0) = m' ((c.tc : Thread Cert.BackDownRefIdeal.nD Cert.BackDownRefIdeal.τ).loc Cert.BackDownRefIdeal.main_arg0)
          ∧ r.2.mem ((c.tc : Thread Cert.BackDownRefIdeal.nD Cert.BackDownRefIdeal.τ).loc Cert.BackDownRefIdeal.main_arg1) = m' ((c.tc : Thread Cert.BackDownRefIdeal.nD Cert.BackDownRefIdeal.τ).loc Cert.BackDownRefIdeal.main_arg1))

def preserves_BackSquare_BackSquareIdeal : Prop :=
  True

def algebraic_BackSquareIdeal_BackSquareRefIdeal [hBackSquareIdeal : Cert.BackSquareIdeal.Facts] [hBackSquareRefIdeal : Cert.BackSquareRefIdeal.Facts] : Prop :=
  ∀ (m : (ℓ : Loc Cert.BackSquareIdeal.nD Cert.BackSquareIdeal.τ Cert.BackSquareIdeal.sig) → Buf (Elt Ideal) ℓ) (g : Dev Cert.BackSquareIdeal.nD → PrngReg)
    (m' : (ℓ : Loc Cert.BackSquareRefIdeal.nD Cert.BackSquareRefIdeal.τ Cert.BackSquareRefIdeal.sig) → Buf (Elt Ideal) ℓ) (g' : Dev Cert.BackSquareRefIdeal.nD → PrngReg), Pre_BackSquareIdeal m →
    (∀ c : Dev Cert.BackSquareIdeal.nD,
      m' ((c.tc : Thread Cert.BackSquareRefIdeal.nD Cert.BackSquareRefIdeal.τ).loc Cert.BackSquareRefIdeal.main_arg0) = m ((c.tc : Thread Cert.BackSquareIdeal.nD Cert.BackSquareIdeal.τ).loc Cert.BackSquareIdeal.main_arg0)
      ∧ m' ((c.tc : Thread Cert.BackSquareRefIdeal.nD Cert.BackSquareRefIdeal.τ).loc Cert.BackSquareRefIdeal.main_arg1) = m ((c.tc : Thread Cert.BackSquareIdeal.nD Cert.BackSquareIdeal.τ).loc Cert.BackSquareIdeal.main_arg1)) →
    ∃ (v0 : (c : Dev Cert.BackSquareIdeal.nD) → Buf (Elt Ideal) ((c.tc : Thread Cert.BackSquareIdeal.nD Cert.BackSquareIdeal.τ).loc Cert.BackSquareIdeal.main_v0)),
      θ_run (Cert.BackSquareIdeal.defs (F := Ideal)) (onTc (τ := Cert.BackSquareIdeal.τ) (Cert.BackSquareIdeal.main (F := Ideal))) ⟨m, fun _ => 0, g⟩ (fun r => ∀ c : Dev Cert.BackSquareIdeal.nD,
          r.2.mem ((c.tc : Thread Cert.BackSquareIdeal.nD Cert.BackSquareIdeal.τ).loc Cert.BackSquareIdeal.main_v0) = v0 c
          ∧ r.2.mem ((c.tc : Thread Cert.BackSquareIdeal.nD Cert.BackSquareIdeal.τ).loc Cert.BackSquareIdeal.main_arg0) = m ((c.tc : Thread Cert.BackSquareIdeal.nD Cert.BackSquareIdeal.τ).loc Cert.BackSquareIdeal.main_arg0)
          ∧ r.2.mem ((c.tc : Thread Cert.BackSquareIdeal.nD Cert.BackSquareIdeal.τ).loc Cert.BackSquareIdeal.main_arg1) = m ((c.tc : Thread Cert.BackSquareIdeal.nD Cert.BackSquareIdeal.τ).loc Cert.BackSquareIdeal.main_arg1))
      ∧ θ_run (Cert.BackSquareRefIdeal.defs (F := Ideal)) (onTc (τ := Cert.BackSquareRefIdeal.τ) (Cert.BackSquareRefIdeal.main (F := Ideal))) ⟨m', fun _ => 0, g'⟩ (fun r => ∀ c : Dev Cert.BackSquareRefIdeal.nD,
          r.2.mem ((c.tc : Thread Cert.BackSquareRefIdeal.nD Cert.BackSquareRefIdeal.τ).loc Cert.BackSquareRefIdeal.main_v3) = v0 c
          ∧ r.2.mem ((c.tc : Thread Cert.BackSquareRefIdeal.nD Cert.BackSquareRefIdeal.τ).loc Cert.BackSquareRefIdeal.main_arg0) = m' ((c.tc : Thread Cert.BackSquareRefIdeal.nD Cert.BackSquareRefIdeal.τ).loc Cert.BackSquareRefIdeal.main_arg0)
          ∧ r.2.mem ((c.tc : Thread Cert.BackSquareRefIdeal.nD Cert.BackSquareRefIdeal.τ).loc Cert.BackSquareRefIdeal.main_arg1) = m' ((c.tc : Thread Cert.BackSquareRefIdeal.nD Cert.BackSquareRefIdeal.τ).loc Cert.BackSquareRefIdeal.main_arg1))

def preserves_BackHeads_BackHeadsIdeal : Prop :=
  True

def algebraic_BackHeadsIdeal_BackHeadsRefIdeal [hBackHeadsIdeal : Cert.BackHeadsIdeal.Facts] [hBackHeadsRefIdeal : Cert.BackHeadsRefIdeal.Facts] : Prop :=
  ∀ (m : (ℓ : Loc Cert.BackHeadsIdeal.nD Cert.BackHeadsIdeal.τ Cert.BackHeadsIdeal.sig) → Buf (Elt Ideal) ℓ) (g : Dev Cert.BackHeadsIdeal.nD → PrngReg)
    (m' : (ℓ : Loc Cert.BackHeadsRefIdeal.nD Cert.BackHeadsRefIdeal.τ Cert.BackHeadsRefIdeal.sig) → Buf (Elt Ideal) ℓ) (g' : Dev Cert.BackHeadsRefIdeal.nD → PrngReg), Pre_BackHeadsIdeal m →
    (∀ c : Dev Cert.BackHeadsIdeal.nD,
      m' ((c.tc : Thread Cert.BackHeadsRefIdeal.nD Cert.BackHeadsRefIdeal.τ).loc Cert.BackHeadsRefIdeal.main_arg0) = m ((c.tc : Thread Cert.BackHeadsIdeal.nD Cert.BackHeadsIdeal.τ).loc Cert.BackHeadsIdeal.main_arg0)
      ∧ m' ((c.tc : Thread Cert.BackHeadsRefIdeal.nD Cert.BackHeadsRefIdeal.τ).loc Cert.BackHeadsRefIdeal.main_arg1) = m ((c.tc : Thread Cert.BackHeadsIdeal.nD Cert.BackHeadsIdeal.τ).loc Cert.BackHeadsIdeal.main_arg1)) →
    ∃ (v0 : (c : Dev Cert.BackHeadsIdeal.nD) → Buf (Elt Ideal) ((c.tc : Thread Cert.BackHeadsIdeal.nD Cert.BackHeadsIdeal.τ).loc Cert.BackHeadsIdeal.main_v0)),
      θ_run (Cert.BackHeadsIdeal.defs (F := Ideal)) (onTc (τ := Cert.BackHeadsIdeal.τ) (Cert.BackHeadsIdeal.main (F := Ideal))) ⟨m, fun _ => 0, g⟩ (fun r => ∀ c : Dev Cert.BackHeadsIdeal.nD,
          r.2.mem ((c.tc : Thread Cert.BackHeadsIdeal.nD Cert.BackHeadsIdeal.τ).loc Cert.BackHeadsIdeal.main_v0) = v0 c
          ∧ r.2.mem ((c.tc : Thread Cert.BackHeadsIdeal.nD Cert.BackHeadsIdeal.τ).loc Cert.BackHeadsIdeal.main_arg0) = m ((c.tc : Thread Cert.BackHeadsIdeal.nD Cert.BackHeadsIdeal.τ).loc Cert.BackHeadsIdeal.main_arg0)
          ∧ r.2.mem ((c.tc : Thread Cert.BackHeadsIdeal.nD Cert.BackHeadsIdeal.τ).loc Cert.BackHeadsIdeal.main_arg1) = m ((c.tc : Thread Cert.BackHeadsIdeal.nD Cert.BackHeadsIdeal.τ).loc Cert.BackHeadsIdeal.main_arg1))
      ∧ θ_run (Cert.BackHeadsRefIdeal.defs (F := Ideal)) (onTc (τ := Cert.BackHeadsRefIdeal.τ) (Cert.BackHeadsRefIdeal.main (F := Ideal))) ⟨m', fun _ => 0, g'⟩ (fun r => ∀ c : Dev Cert.BackHeadsRefIdeal.nD,
          r.2.mem ((c.tc : Thread Cert.BackHeadsRefIdeal.nD Cert.BackHeadsRefIdeal.τ).loc Cert.BackHeadsRefIdeal.main_v4) = v0 c
          ∧ r.2.mem ((c.tc : Thread Cert.BackHeadsRefIdeal.nD Cert.BackHeadsRefIdeal.τ).loc Cert.BackHeadsRefIdeal.main_arg0) = m' ((c.tc : Thread Cert.BackHeadsRefIdeal.nD Cert.BackHeadsRefIdeal.τ).loc Cert.BackHeadsRefIdeal.main_arg0)
          ∧ r.2.mem ((c.tc : Thread Cert.BackHeadsRefIdeal.nD Cert.BackHeadsRefIdeal.τ).loc Cert.BackHeadsRefIdeal.main_arg1) = m' ((c.tc : Thread Cert.BackHeadsRefIdeal.nD Cert.BackHeadsRefIdeal.τ).loc Cert.BackHeadsRefIdeal.main_arg1))

def preserves_BackKey_BackKeyIdeal : Prop :=
  True

def algebraic_BackKeyIdeal_BackKeyRefIdeal [hBackKeyIdeal : Cert.BackKeyIdeal.Facts] [hBackKeyRefIdeal : Cert.BackKeyRefIdeal.Facts] : Prop :=
  ∀ (m : (ℓ : Loc Cert.BackKeyIdeal.nD Cert.BackKeyIdeal.τ Cert.BackKeyIdeal.sig) → Buf (Elt Ideal) ℓ) (g : Dev Cert.BackKeyIdeal.nD → PrngReg)
    (m' : (ℓ : Loc Cert.BackKeyRefIdeal.nD Cert.BackKeyRefIdeal.τ Cert.BackKeyRefIdeal.sig) → Buf (Elt Ideal) ℓ) (g' : Dev Cert.BackKeyRefIdeal.nD → PrngReg), Pre_BackKeyIdeal m →
    (∀ c : Dev Cert.BackKeyIdeal.nD,
      m' ((c.tc : Thread Cert.BackKeyRefIdeal.nD Cert.BackKeyRefIdeal.τ).loc Cert.BackKeyRefIdeal.main_arg0) = m ((c.tc : Thread Cert.BackKeyIdeal.nD Cert.BackKeyIdeal.τ).loc Cert.BackKeyIdeal.main_arg0)
      ∧ m' ((c.tc : Thread Cert.BackKeyRefIdeal.nD Cert.BackKeyRefIdeal.τ).loc Cert.BackKeyRefIdeal.main_arg1) = m ((c.tc : Thread Cert.BackKeyIdeal.nD Cert.BackKeyIdeal.τ).loc Cert.BackKeyIdeal.main_arg1)) →
    ∃ (v0 : (c : Dev Cert.BackKeyIdeal.nD) → Buf (Elt Ideal) ((c.tc : Thread Cert.BackKeyIdeal.nD Cert.BackKeyIdeal.τ).loc Cert.BackKeyIdeal.main_v0)),
      θ_run (Cert.BackKeyIdeal.defs (F := Ideal)) (onTc (τ := Cert.BackKeyIdeal.τ) (Cert.BackKeyIdeal.main (F := Ideal))) ⟨m, fun _ => 0, g⟩ (fun r => ∀ c : Dev Cert.BackKeyIdeal.nD,
          r.2.mem ((c.tc : Thread Cert.BackKeyIdeal.nD Cert.BackKeyIdeal.τ).loc Cert.BackKeyIdeal.main_v0) = v0 c
          ∧ r.2.mem ((c.tc : Thread Cert.BackKeyIdeal.nD Cert.BackKeyIdeal.τ).loc Cert.BackKeyIdeal.main_arg0) = m ((c.tc : Thread Cert.BackKeyIdeal.nD Cert.BackKeyIdeal.τ).loc Cert.BackKeyIdeal.main_arg0)
          ∧ r.2.mem ((c.tc : Thread Cert.BackKeyIdeal.nD Cert.BackKeyIdeal.τ).loc Cert.BackKeyIdeal.main_arg1) = m ((c.tc : Thread Cert.BackKeyIdeal.nD Cert.BackKeyIdeal.τ).loc Cert.BackKeyIdeal.main_arg1))
      ∧ θ_run (Cert.BackKeyRefIdeal.defs (F := Ideal)) (onTc (τ := Cert.BackKeyRefIdeal.τ) (Cert.BackKeyRefIdeal.main (F := Ideal))) ⟨m', fun _ => 0, g'⟩ (fun r => ∀ c : Dev Cert.BackKeyRefIdeal.nD,
          r.2.mem ((c.tc : Thread Cert.BackKeyRefIdeal.nD Cert.BackKeyRefIdeal.τ).loc Cert.BackKeyRefIdeal.main_v2) = v0 c
          ∧ r.2.mem ((c.tc : Thread Cert.BackKeyRefIdeal.nD Cert.BackKeyRefIdeal.τ).loc Cert.BackKeyRefIdeal.main_arg0) = m' ((c.tc : Thread Cert.BackKeyRefIdeal.nD Cert.BackKeyRefIdeal.τ).loc Cert.BackKeyRefIdeal.main_arg0)
          ∧ r.2.mem ((c.tc : Thread Cert.BackKeyRefIdeal.nD Cert.BackKeyRefIdeal.τ).loc Cert.BackKeyRefIdeal.main_arg1) = m' ((c.tc : Thread Cert.BackKeyRefIdeal.nD Cert.BackKeyRefIdeal.τ).loc Cert.BackKeyRefIdeal.main_arg1))

def preserves_BackValue_BackValueIdeal : Prop :=
  True

def algebraic_BackValueIdeal_BackValueRefIdeal [hBackValueIdeal : Cert.BackValueIdeal.Facts] [hBackValueRefIdeal : Cert.BackValueRefIdeal.Facts] : Prop :=
  ∀ (m : (ℓ : Loc Cert.BackValueIdeal.nD Cert.BackValueIdeal.τ Cert.BackValueIdeal.sig) → Buf (Elt Ideal) ℓ) (g : Dev Cert.BackValueIdeal.nD → PrngReg)
    (m' : (ℓ : Loc Cert.BackValueRefIdeal.nD Cert.BackValueRefIdeal.τ Cert.BackValueRefIdeal.sig) → Buf (Elt Ideal) ℓ) (g' : Dev Cert.BackValueRefIdeal.nD → PrngReg), Pre_BackValueIdeal m →
    (∀ c : Dev Cert.BackValueIdeal.nD,
      m' ((c.tc : Thread Cert.BackValueRefIdeal.nD Cert.BackValueRefIdeal.τ).loc Cert.BackValueRefIdeal.main_arg0) = m ((c.tc : Thread Cert.BackValueIdeal.nD Cert.BackValueIdeal.τ).loc Cert.BackValueIdeal.main_arg0)
      ∧ m' ((c.tc : Thread Cert.BackValueRefIdeal.nD Cert.BackValueRefIdeal.τ).loc Cert.BackValueRefIdeal.main_arg1) = m ((c.tc : Thread Cert.BackValueIdeal.nD Cert.BackValueIdeal.τ).loc Cert.BackValueIdeal.main_arg1)
      ∧ m' ((c.tc : Thread Cert.BackValueRefIdeal.nD Cert.BackValueRefIdeal.τ).loc Cert.BackValueRefIdeal.main_arg2) = m ((c.tc : Thread Cert.BackValueIdeal.nD Cert.BackValueIdeal.τ).loc Cert.BackValueIdeal.main_arg2)) →
    ∃ (v0 : (c : Dev Cert.BackValueIdeal.nD) → Buf (Elt Ideal) ((c.tc : Thread Cert.BackValueIdeal.nD Cert.BackValueIdeal.τ).loc Cert.BackValueIdeal.main_v0)),
      θ_run (Cert.BackValueIdeal.defs (F := Ideal)) (onTc (τ := Cert.BackValueIdeal.τ) (Cert.BackValueIdeal.main (F := Ideal))) ⟨m, fun _ => 0, g⟩ (fun r => ∀ c : Dev Cert.BackValueIdeal.nD,
          r.2.mem ((c.tc : Thread Cert.BackValueIdeal.nD Cert.BackValueIdeal.τ).loc Cert.BackValueIdeal.main_v0) = v0 c
          ∧ r.2.mem ((c.tc : Thread Cert.BackValueIdeal.nD Cert.BackValueIdeal.τ).loc Cert.BackValueIdeal.main_arg0) = m ((c.tc : Thread Cert.BackValueIdeal.nD Cert.BackValueIdeal.τ).loc Cert.BackValueIdeal.main_arg0)
          ∧ r.2.mem ((c.tc : Thread Cert.BackValueIdeal.nD Cert.BackValueIdeal.τ).loc Cert.BackValueIdeal.main_arg1) = m ((c.tc : Thread Cert.BackValueIdeal.nD Cert.BackValueIdeal.τ).loc Cert.BackValueIdeal.main_arg1)
          ∧ r.2.mem ((c.tc : Thread Cert.BackValueIdeal.nD Cert.BackValueIdeal.τ).loc Cert.BackValueIdeal.main_arg2) = m ((c.tc : Thread Cert.BackValueIdeal.nD Cert.BackValueIdeal.τ).loc Cert.BackValueIdeal.main_arg2))
      ∧ θ_run (Cert.BackValueRefIdeal.defs (F := Ideal)) (onTc (τ := Cert.BackValueRefIdeal.τ) (Cert.BackValueRefIdeal.main (F := Ideal))) ⟨m', fun _ => 0, g'⟩ (fun r => ∀ c : Dev Cert.BackValueRefIdeal.nD,
          r.2.mem ((c.tc : Thread Cert.BackValueRefIdeal.nD Cert.BackValueRefIdeal.τ).loc Cert.BackValueRefIdeal.main_v3) = v0 c
          ∧ r.2.mem ((c.tc : Thread Cert.BackValueRefIdeal.nD Cert.BackValueRefIdeal.τ).loc Cert.BackValueRefIdeal.main_arg0) = m' ((c.tc : Thread Cert.BackValueRefIdeal.nD Cert.BackValueRefIdeal.τ).loc Cert.BackValueRefIdeal.main_arg0)
          ∧ r.2.mem ((c.tc : Thread Cert.BackValueRefIdeal.nD Cert.BackValueRefIdeal.τ).loc Cert.BackValueRefIdeal.main_arg1) = m' ((c.tc : Thread Cert.BackValueRefIdeal.nD Cert.BackValueRefIdeal.τ).loc Cert.BackValueRefIdeal.main_arg1)
          ∧ r.2.mem ((c.tc : Thread Cert.BackValueRefIdeal.nD Cert.BackValueRefIdeal.τ).loc Cert.BackValueRefIdeal.main_arg2) = m' ((c.tc : Thread Cert.BackValueRefIdeal.nD Cert.BackValueRefIdeal.τ).loc Cert.BackValueRefIdeal.main_arg2))

def preserves_BackIn_BackInIdeal : Prop :=
  True

def algebraic_BackInIdeal_BackInRefIdeal [hBackInIdeal : Cert.BackInIdeal.Facts] [hBackInRefIdeal : Cert.BackInRefIdeal.Facts] : Prop :=
  ∀ (m : (ℓ : Loc Cert.BackInIdeal.nD Cert.BackInIdeal.τ Cert.BackInIdeal.sig) → Buf (Elt Ideal) ℓ) (g : Dev Cert.BackInIdeal.nD → PrngReg)
    (m' : (ℓ : Loc Cert.BackInRefIdeal.nD Cert.BackInRefIdeal.τ Cert.BackInRefIdeal.sig) → Buf (Elt Ideal) ℓ) (g' : Dev Cert.BackInRefIdeal.nD → PrngReg), Pre_BackInIdeal m →
    (∀ c : Dev Cert.BackInIdeal.nD,
      m' ((c.tc : Thread Cert.BackInRefIdeal.nD Cert.BackInRefIdeal.τ).loc Cert.BackInRefIdeal.main_arg0) = m ((c.tc : Thread Cert.BackInIdeal.nD Cert.BackInIdeal.τ).loc Cert.BackInIdeal.main_arg0)
      ∧ m' ((c.tc : Thread Cert.BackInRefIdeal.nD Cert.BackInRefIdeal.τ).loc Cert.BackInRefIdeal.main_arg1) = m ((c.tc : Thread Cert.BackInIdeal.nD Cert.BackInIdeal.τ).loc Cert.BackInIdeal.main_arg1)) →
    ∃ (v0 : (c : Dev Cert.BackInIdeal.nD) → Buf (Elt Ideal) ((c.tc : Thread Cert.BackInIdeal.nD Cert.BackInIdeal.τ).loc Cert.BackInIdeal.main_v0)),
      θ_run (Cert.BackInIdeal.defs (F := Ideal)) (onTc (τ := Cert.BackInIdeal.τ) (Cert.BackInIdeal.main (F := Ideal))) ⟨m, fun _ => 0, g⟩ (fun r => ∀ c : Dev Cert.BackInIdeal.nD,
          r.2.mem ((c.tc : Thread Cert.BackInIdeal.nD Cert.BackInIdeal.τ).loc Cert.BackInIdeal.main_v0) = v0 c
          ∧ r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
          ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1))
      ∧ θ_run (Cert.BackInRefIdeal.defs (F := Ideal)) (onTc (τ := Cert.BackInRefIdeal.τ) (Cert.BackInRefIdeal.main (F := Ideal))) ⟨m', fun _ => 0, g'⟩ (fun r => ∀ c : Dev Cert.BackInRefIdeal.nD,
          r.2.mem ((c.tc : Thread Cert.BackInRefIdeal.nD Cert.BackInRefIdeal.τ).loc Cert.BackInRefIdeal.main_v3) = v0 c
          ∧ r.2.mem ((c.tc : Thread Cert.BackInRefIdeal.nD Cert.BackInRefIdeal.τ).loc Cert.BackInRefIdeal.main_arg0) = m' ((c.tc : Thread Cert.BackInRefIdeal.nD Cert.BackInRefIdeal.τ).loc Cert.BackInRefIdeal.main_arg0)
          ∧ r.2.mem ((c.tc : Thread Cert.BackInRefIdeal.nD Cert.BackInRefIdeal.τ).loc Cert.BackInRefIdeal.main_arg1) = m' ((c.tc : Thread Cert.BackInRefIdeal.nD Cert.BackInRefIdeal.τ).loc Cert.BackInRefIdeal.main_arg1))

def preserves_BackUpLeft_BackUpLeftIdeal : Prop :=
  True

def algebraic_BackUpLeftIdeal_BackUpLeftRefIdeal [hBackUpLeftIdeal : Cert.BackUpLeftIdeal.Facts] [hBackUpLeftRefIdeal : Cert.BackUpLeftRefIdeal.Facts] : Prop :=
  ∀ (m : (ℓ : Loc Cert.BackUpLeftIdeal.nD Cert.BackUpLeftIdeal.τ Cert.BackUpLeftIdeal.sig) → Buf (Elt Ideal) ℓ) (g : Dev Cert.BackUpLeftIdeal.nD → PrngReg)
    (m' : (ℓ : Loc Cert.BackUpLeftRefIdeal.nD Cert.BackUpLeftRefIdeal.τ Cert.BackUpLeftRefIdeal.sig) → Buf (Elt Ideal) ℓ) (g' : Dev Cert.BackUpLeftRefIdeal.nD → PrngReg), Pre_BackUpLeftIdeal m →
    (∀ c : Dev Cert.BackUpLeftIdeal.nD,
      m' ((c.tc : Thread Cert.BackUpLeftRefIdeal.nD Cert.BackUpLeftRefIdeal.τ).loc Cert.BackUpLeftRefIdeal.main_arg0) = m ((c.tc : Thread Cert.BackUpLeftIdeal.nD Cert.BackUpLeftIdeal.τ).loc Cert.BackUpLeftIdeal.main_arg0)
      ∧ m' ((c.tc : Thread Cert.BackUpLeftRefIdeal.nD Cert.BackUpLeftRefIdeal.τ).loc Cert.BackUpLeftRefIdeal.main_arg1) = m ((c.tc : Thread Cert.BackUpLeftIdeal.nD Cert.BackUpLeftIdeal.τ).loc Cert.BackUpLeftIdeal.main_arg1)) →
    ∃ (v0 : (c : Dev Cert.BackUpLeftIdeal.nD) → Buf (Elt Ideal) ((c.tc : Thread Cert.BackUpLeftIdeal.nD Cert.BackUpLeftIdeal.τ).loc Cert.BackUpLeftIdeal.main_v0)),
      θ_run (Cert.BackUpLeftIdeal.defs (F := Ideal)) (onTc (τ := Cert.BackUpLeftIdeal.τ) (Cert.BackUpLeftIdeal.main (F := Ideal))) ⟨m, fun _ => 0, g⟩ (fun r => ∀ c : Dev Cert.BackUpLeftIdeal.nD,
          r.2.mem ((c.tc : Thread Cert.BackUpLeftIdeal.nD Cert.BackUpLeftIdeal.τ).loc Cert.BackUpLeftIdeal.main_v0) = v0 c
          ∧ r.2.mem ((c.tc : Thread Cert.BackUpLeftIdeal.nD Cert.BackUpLeftIdeal.τ).loc Cert.BackUpLeftIdeal.main_arg0) = m ((c.tc : Thread Cert.BackUpLeftIdeal.nD Cert.BackUpLeftIdeal.τ).loc Cert.BackUpLeftIdeal.main_arg0)
          ∧ r.2.mem ((c.tc : Thread Cert.BackUpLeftIdeal.nD Cert.BackUpLeftIdeal.τ).loc Cert.BackUpLeftIdeal.main_arg1) = m ((c.tc : Thread Cert.BackUpLeftIdeal.nD Cert.BackUpLeftIdeal.τ).loc Cert.BackUpLeftIdeal.main_arg1))
      ∧ θ_run (Cert.BackUpLeftRefIdeal.defs (F := Ideal)) (onTc (τ := Cert.BackUpLeftRefIdeal.τ) (Cert.BackUpLeftRefIdeal.main (F := Ideal))) ⟨m', fun _ => 0, g'⟩ (fun r => ∀ c : Dev Cert.BackUpLeftRefIdeal.nD,
          r.2.mem ((c.tc : Thread Cert.BackUpLeftRefIdeal.nD Cert.BackUpLeftRefIdeal.τ).loc Cert.BackUpLeftRefIdeal.main_v4) = v0 c
          ∧ r.2.mem ((c.tc : Thread Cert.BackUpLeftRefIdeal.nD Cert.BackUpLeftRefIdeal.τ).loc Cert.BackUpLeftRefIdeal.main_arg0) = m' ((c.tc : Thread Cert.BackUpLeftRefIdeal.nD Cert.BackUpLeftRefIdeal.τ).loc Cert.BackUpLeftRefIdeal.main_arg0)
          ∧ r.2.mem ((c.tc : Thread Cert.BackUpLeftRefIdeal.nD Cert.BackUpLeftRefIdeal.τ).loc Cert.BackUpLeftRefIdeal.main_arg1) = m' ((c.tc : Thread Cert.BackUpLeftRefIdeal.nD Cert.BackUpLeftRefIdeal.τ).loc Cert.BackUpLeftRefIdeal.main_arg1))

def preserves_BackUpRight_BackUpRightIdeal : Prop :=
  True

def algebraic_BackUpRightIdeal_BackUpRightRefIdeal [hBackUpRightIdeal : Cert.BackUpRightIdeal.Facts] [hBackUpRightRefIdeal : Cert.BackUpRightRefIdeal.Facts] : Prop :=
  ∀ (m : (ℓ : Loc Cert.BackUpRightIdeal.nD Cert.BackUpRightIdeal.τ Cert.BackUpRightIdeal.sig) → Buf (Elt Ideal) ℓ) (g : Dev Cert.BackUpRightIdeal.nD → PrngReg)
    (m' : (ℓ : Loc Cert.BackUpRightRefIdeal.nD Cert.BackUpRightRefIdeal.τ Cert.BackUpRightRefIdeal.sig) → Buf (Elt Ideal) ℓ) (g' : Dev Cert.BackUpRightRefIdeal.nD → PrngReg), Pre_BackUpRightIdeal m →
    (∀ c : Dev Cert.BackUpRightIdeal.nD,
      m' ((c.tc : Thread Cert.BackUpRightRefIdeal.nD Cert.BackUpRightRefIdeal.τ).loc Cert.BackUpRightRefIdeal.main_arg0) = m ((c.tc : Thread Cert.BackUpRightIdeal.nD Cert.BackUpRightIdeal.τ).loc Cert.BackUpRightIdeal.main_arg0)
      ∧ m' ((c.tc : Thread Cert.BackUpRightRefIdeal.nD Cert.BackUpRightRefIdeal.τ).loc Cert.BackUpRightRefIdeal.main_arg1) = m ((c.tc : Thread Cert.BackUpRightIdeal.nD Cert.BackUpRightIdeal.τ).loc Cert.BackUpRightIdeal.main_arg1)
      ∧ m' ((c.tc : Thread Cert.BackUpRightRefIdeal.nD Cert.BackUpRightRefIdeal.τ).loc Cert.BackUpRightRefIdeal.main_arg2) = m ((c.tc : Thread Cert.BackUpRightIdeal.nD Cert.BackUpRightIdeal.τ).loc Cert.BackUpRightIdeal.main_arg2)) →
    ∃ (v0 : (c : Dev Cert.BackUpRightIdeal.nD) → Buf (Elt Ideal) ((c.tc : Thread Cert.BackUpRightIdeal.nD Cert.BackUpRightIdeal.τ).loc Cert.BackUpRightIdeal.main_v0)),
      θ_run (Cert.BackUpRightIdeal.defs (F := Ideal)) (onTc (τ := Cert.BackUpRightIdeal.τ) (Cert.BackUpRightIdeal.main (F := Ideal))) ⟨m, fun _ => 0, g⟩ (fun r => ∀ c : Dev Cert.BackUpRightIdeal.nD,
          r.2.mem ((c.tc : Thread Cert.BackUpRightIdeal.nD Cert.BackUpRightIdeal.τ).loc Cert.BackUpRightIdeal.main_v0) = v0 c
          ∧ r.2.mem ((c.tc : Thread Cert.BackUpRightIdeal.nD Cert.BackUpRightIdeal.τ).loc Cert.BackUpRightIdeal.main_arg0) = m ((c.tc : Thread Cert.BackUpRightIdeal.nD Cert.BackUpRightIdeal.τ).loc Cert.BackUpRightIdeal.main_arg0)
          ∧ r.2.mem ((c.tc : Thread Cert.BackUpRightIdeal.nD Cert.BackUpRightIdeal.τ).loc Cert.BackUpRightIdeal.main_arg1) = m ((c.tc : Thread Cert.BackUpRightIdeal.nD Cert.BackUpRightIdeal.τ).loc Cert.BackUpRightIdeal.main_arg1)
          ∧ r.2.mem ((c.tc : Thread Cert.BackUpRightIdeal.nD Cert.BackUpRightIdeal.τ).loc Cert.BackUpRightIdeal.main_arg2) = m ((c.tc : Thread Cert.BackUpRightIdeal.nD Cert.BackUpRightIdeal.τ).loc Cert.BackUpRightIdeal.main_arg2))
      ∧ θ_run (Cert.BackUpRightRefIdeal.defs (F := Ideal)) (onTc (τ := Cert.BackUpRightRefIdeal.τ) (Cert.BackUpRightRefIdeal.main (F := Ideal))) ⟨m', fun _ => 0, g'⟩ (fun r => ∀ c : Dev Cert.BackUpRightRefIdeal.nD,
          r.2.mem ((c.tc : Thread Cert.BackUpRightRefIdeal.nD Cert.BackUpRightRefIdeal.τ).loc Cert.BackUpRightRefIdeal.main_v5) = v0 c
          ∧ r.2.mem ((c.tc : Thread Cert.BackUpRightRefIdeal.nD Cert.BackUpRightRefIdeal.τ).loc Cert.BackUpRightRefIdeal.main_arg0) = m' ((c.tc : Thread Cert.BackUpRightRefIdeal.nD Cert.BackUpRightRefIdeal.τ).loc Cert.BackUpRightRefIdeal.main_arg0)
          ∧ r.2.mem ((c.tc : Thread Cert.BackUpRightRefIdeal.nD Cert.BackUpRightRefIdeal.τ).loc Cert.BackUpRightRefIdeal.main_arg1) = m' ((c.tc : Thread Cert.BackUpRightRefIdeal.nD Cert.BackUpRightRefIdeal.τ).loc Cert.BackUpRightRefIdeal.main_arg1)
          ∧ r.2.mem ((c.tc : Thread Cert.BackUpRightRefIdeal.nD Cert.BackUpRightRefIdeal.τ).loc Cert.BackUpRightRefIdeal.main_arg2) = m' ((c.tc : Thread Cert.BackUpRightRefIdeal.nD Cert.BackUpRightRefIdeal.τ).loc Cert.BackUpRightRefIdeal.main_arg2))

def preserves_GradSquare_GradSquareIdeal : Prop :=
  True

def algebraic_GradSquareIdeal_GradSquareRefIdeal [hGradSquareIdeal : Cert.GradSquareIdeal.Facts] [hGradSquareRefIdeal : Cert.GradSquareRefIdeal.Facts] : Prop :=
  ∀ (m : (ℓ : Loc Cert.GradSquareIdeal.nD Cert.GradSquareIdeal.τ Cert.GradSquareIdeal.sig) → Buf (Elt Ideal) ℓ) (g : Dev Cert.GradSquareIdeal.nD → PrngReg)
    (m' : (ℓ : Loc Cert.GradSquareRefIdeal.nD Cert.GradSquareRefIdeal.τ Cert.GradSquareRefIdeal.sig) → Buf (Elt Ideal) ℓ) (g' : Dev Cert.GradSquareRefIdeal.nD → PrngReg), Pre_GradSquareIdeal m →
    (∀ c : Dev Cert.GradSquareIdeal.nD,
      m' ((c.tc : Thread Cert.GradSquareRefIdeal.nD Cert.GradSquareRefIdeal.τ).loc Cert.GradSquareRefIdeal.main_arg0) = m ((c.tc : Thread Cert.GradSquareIdeal.nD Cert.GradSquareIdeal.τ).loc Cert.GradSquareIdeal.main_arg0)
      ∧ m' ((c.tc : Thread Cert.GradSquareRefIdeal.nD Cert.GradSquareRefIdeal.τ).loc Cert.GradSquareRefIdeal.main_arg1) = m ((c.tc : Thread Cert.GradSquareIdeal.nD Cert.GradSquareIdeal.τ).loc Cert.GradSquareIdeal.main_arg1)) →
    ∃ (v0 : (c : Dev Cert.GradSquareIdeal.nD) → Buf (Elt Ideal) ((c.tc : Thread Cert.GradSquareIdeal.nD Cert.GradSquareIdeal.τ).loc Cert.GradSquareIdeal.main_v0)),
      θ_run (Cert.GradSquareIdeal.defs (F := Ideal)) (onTc (τ := Cert.GradSquareIdeal.τ) (Cert.GradSquareIdeal.main (F := Ideal))) ⟨m, fun _ => 0, g⟩ (fun r => ∀ c : Dev Cert.GradSquareIdeal.nD,
          r.2.mem ((c.tc : Thread Cert.GradSquareIdeal.nD Cert.GradSquareIdeal.τ).loc Cert.GradSquareIdeal.main_v0) = v0 c
          ∧ r.2.mem ((c.tc : Thread Cert.GradSquareIdeal.nD Cert.GradSquareIdeal.τ).loc Cert.GradSquareIdeal.main_arg0) = m ((c.tc : Thread Cert.GradSquareIdeal.nD Cert.GradSquareIdeal.τ).loc Cert.GradSquareIdeal.main_arg0)
          ∧ r.2.mem ((c.tc : Thread Cert.GradSquareIdeal.nD Cert.GradSquareIdeal.τ).loc Cert.GradSquareIdeal.main_arg1) = m ((c.tc : Thread Cert.GradSquareIdeal.nD Cert.GradSquareIdeal.τ).loc Cert.GradSquareIdeal.main_arg1))
      ∧ θ_run (Cert.GradSquareRefIdeal.defs (F := Ideal)) (onTc (τ := Cert.GradSquareRefIdeal.τ) (Cert.GradSquareRefIdeal.main (F := Ideal))) ⟨m', fun _ => 0, g'⟩ (fun r => ∀ c : Dev Cert.GradSquareRefIdeal.nD,
          r.2.mem ((c.tc : Thread Cert.GradSquareRefIdeal.nD Cert.GradSquareRefIdeal.τ).loc Cert.GradSquareRefIdeal.main_v4) = v0 c
          ∧ r.2.mem ((c.tc : Thread Cert.GradSquareRefIdeal.nD Cert.GradSquareRefIdeal.τ).loc Cert.GradSquareRefIdeal.main_arg0) = m' ((c.tc : Thread Cert.GradSquareRefIdeal.nD Cert.GradSquareRefIdeal.τ).loc Cert.GradSquareRefIdeal.main_arg0)
          ∧ r.2.mem ((c.tc : Thread Cert.GradSquareRefIdeal.nD Cert.GradSquareRefIdeal.τ).loc Cert.GradSquareRefIdeal.main_arg1) = m' ((c.tc : Thread Cert.GradSquareRefIdeal.nD Cert.GradSquareRefIdeal.τ).loc Cert.GradSquareRefIdeal.main_arg1))

def preserves_GradKey_GradKeyIdeal : Prop :=
  True

def algebraic_GradKeyIdeal_GradKeyRefIdeal [hGradKeyIdeal : Cert.GradKeyIdeal.Facts] [hGradKeyRefIdeal : Cert.GradKeyRefIdeal.Facts] : Prop :=
  ∀ (m : (ℓ : Loc Cert.GradKeyIdeal.nD Cert.GradKeyIdeal.τ Cert.GradKeyIdeal.sig) → Buf (Elt Ideal) ℓ) (g : Dev Cert.GradKeyIdeal.nD → PrngReg)
    (m' : (ℓ : Loc Cert.GradKeyRefIdeal.nD Cert.GradKeyRefIdeal.τ Cert.GradKeyRefIdeal.sig) → Buf (Elt Ideal) ℓ) (g' : Dev Cert.GradKeyRefIdeal.nD → PrngReg), Pre_GradKeyIdeal m →
    (∀ c : Dev Cert.GradKeyIdeal.nD,
      m' ((c.tc : Thread Cert.GradKeyRefIdeal.nD Cert.GradKeyRefIdeal.τ).loc Cert.GradKeyRefIdeal.main_arg0) = m ((c.tc : Thread Cert.GradKeyIdeal.nD Cert.GradKeyIdeal.τ).loc Cert.GradKeyIdeal.main_arg0)
      ∧ m' ((c.tc : Thread Cert.GradKeyRefIdeal.nD Cert.GradKeyRefIdeal.τ).loc Cert.GradKeyRefIdeal.main_arg1) = m ((c.tc : Thread Cert.GradKeyIdeal.nD Cert.GradKeyIdeal.τ).loc Cert.GradKeyIdeal.main_arg1)) →
    ∃ (v0 : (c : Dev Cert.GradKeyIdeal.nD) → Buf (Elt Ideal) ((c.tc : Thread Cert.GradKeyIdeal.nD Cert.GradKeyIdeal.τ).loc Cert.GradKeyIdeal.main_v0)),
      θ_run (Cert.GradKeyIdeal.defs (F := Ideal)) (onTc (τ := Cert.GradKeyIdeal.τ) (Cert.GradKeyIdeal.main (F := Ideal))) ⟨m, fun _ => 0, g⟩ (fun r => ∀ c : Dev Cert.GradKeyIdeal.nD,
          r.2.mem ((c.tc : Thread Cert.GradKeyIdeal.nD Cert.GradKeyIdeal.τ).loc Cert.GradKeyIdeal.main_v0) = v0 c
          ∧ r.2.mem ((c.tc : Thread Cert.GradKeyIdeal.nD Cert.GradKeyIdeal.τ).loc Cert.GradKeyIdeal.main_arg0) = m ((c.tc : Thread Cert.GradKeyIdeal.nD Cert.GradKeyIdeal.τ).loc Cert.GradKeyIdeal.main_arg0)
          ∧ r.2.mem ((c.tc : Thread Cert.GradKeyIdeal.nD Cert.GradKeyIdeal.τ).loc Cert.GradKeyIdeal.main_arg1) = m ((c.tc : Thread Cert.GradKeyIdeal.nD Cert.GradKeyIdeal.τ).loc Cert.GradKeyIdeal.main_arg1))
      ∧ θ_run (Cert.GradKeyRefIdeal.defs (F := Ideal)) (onTc (τ := Cert.GradKeyRefIdeal.τ) (Cert.GradKeyRefIdeal.main (F := Ideal))) ⟨m', fun _ => 0, g'⟩ (fun r => ∀ c : Dev Cert.GradKeyRefIdeal.nD,
          r.2.mem ((c.tc : Thread Cert.GradKeyRefIdeal.nD Cert.GradKeyRefIdeal.τ).loc Cert.GradKeyRefIdeal.main_v3) = v0 c
          ∧ r.2.mem ((c.tc : Thread Cert.GradKeyRefIdeal.nD Cert.GradKeyRefIdeal.τ).loc Cert.GradKeyRefIdeal.main_arg0) = m' ((c.tc : Thread Cert.GradKeyRefIdeal.nD Cert.GradKeyRefIdeal.τ).loc Cert.GradKeyRefIdeal.main_arg0)
          ∧ r.2.mem ((c.tc : Thread Cert.GradKeyRefIdeal.nD Cert.GradKeyRefIdeal.τ).loc Cert.GradKeyRefIdeal.main_arg1) = m' ((c.tc : Thread Cert.GradKeyRefIdeal.nD Cert.GradKeyRefIdeal.τ).loc Cert.GradKeyRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v4) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v4) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_GradUpLeft_GradUpLeftIdeal : Prop :=
  True

def algebraic_GradUpLeftIdeal_GradUpLeftRefIdeal [hGradUpLeftIdeal : Cert.GradUpLeftIdeal.Facts] [hGradUpLeftRefIdeal : Cert.GradUpLeftRefIdeal.Facts] : Prop :=
  ∀ (m : (ℓ : Loc Cert.GradUpLeftIdeal.nD Cert.GradUpLeftIdeal.τ Cert.GradUpLeftIdeal.sig) → Buf (Elt Ideal) ℓ) (g : Dev Cert.GradUpLeftIdeal.nD → PrngReg)
    (m' : (ℓ : Loc Cert.GradUpLeftRefIdeal.nD Cert.GradUpLeftRefIdeal.τ Cert.GradUpLeftRefIdeal.sig) → Buf (Elt Ideal) ℓ) (g' : Dev Cert.GradUpLeftRefIdeal.nD → PrngReg), Pre_GradUpLeftIdeal m →
    (∀ c : Dev Cert.GradUpLeftIdeal.nD,
      m' ((c.tc : Thread Cert.GradUpLeftRefIdeal.nD Cert.GradUpLeftRefIdeal.τ).loc Cert.GradUpLeftRefIdeal.main_arg0) = m ((c.tc : Thread Cert.GradUpLeftIdeal.nD Cert.GradUpLeftIdeal.τ).loc Cert.GradUpLeftIdeal.main_arg0)
      ∧ m' ((c.tc : Thread Cert.GradUpLeftRefIdeal.nD Cert.GradUpLeftRefIdeal.τ).loc Cert.GradUpLeftRefIdeal.main_arg1) = m ((c.tc : Thread Cert.GradUpLeftIdeal.nD Cert.GradUpLeftIdeal.τ).loc Cert.GradUpLeftIdeal.main_arg1)) →
    ∃ (v0 : (c : Dev Cert.GradUpLeftIdeal.nD) → Buf (Elt Ideal) ((c.tc : Thread Cert.GradUpLeftIdeal.nD Cert.GradUpLeftIdeal.τ).loc Cert.GradUpLeftIdeal.main_v0)),
      θ_run (Cert.GradUpLeftIdeal.defs (F := Ideal)) (onTc (τ := Cert.GradUpLeftIdeal.τ) (Cert.GradUpLeftIdeal.main (F := Ideal))) ⟨m, fun _ => 0, g⟩ (fun r => ∀ c : Dev Cert.GradUpLeftIdeal.nD,
          r.2.mem ((c.tc : Thread Cert.GradUpLeftIdeal.nD Cert.GradUpLeftIdeal.τ).loc Cert.GradUpLeftIdeal.main_v0) = v0 c
          ∧ r.2.mem ((c.tc : Thread Cert.GradUpLeftIdeal.nD Cert.GradUpLeftIdeal.τ).loc Cert.GradUpLeftIdeal.main_arg0) = m ((c.tc : Thread Cert.GradUpLeftIdeal.nD Cert.GradUpLeftIdeal.τ).loc Cert.GradUpLeftIdeal.main_arg0)
          ∧ r.2.mem ((c.tc : Thread Cert.GradUpLeftIdeal.nD Cert.GradUpLeftIdeal.τ).loc Cert.GradUpLeftIdeal.main_arg1) = m ((c.tc : Thread Cert.GradUpLeftIdeal.nD Cert.GradUpLeftIdeal.τ).loc Cert.GradUpLeftIdeal.main_arg1))
      ∧ θ_run (Cert.GradUpLeftRefIdeal.defs (F := Ideal)) (onTc (τ := Cert.GradUpLeftRefIdeal.τ) (Cert.GradUpLeftRefIdeal.main (F := Ideal))) ⟨m', fun _ => 0, g'⟩ (fun r => ∀ c : Dev Cert.GradUpLeftRefIdeal.nD,
          r.2.mem ((c.tc : Thread Cert.GradUpLeftRefIdeal.nD Cert.GradUpLeftRefIdeal.τ).loc Cert.GradUpLeftRefIdeal.main_v4) = v0 c
          ∧ r.2.mem ((c.tc : Thread Cert.GradUpLeftRefIdeal.nD Cert.GradUpLeftRefIdeal.τ).loc Cert.GradUpLeftRefIdeal.main_arg0) = m' ((c.tc : Thread Cert.GradUpLeftRefIdeal.nD Cert.GradUpLeftRefIdeal.τ).loc Cert.GradUpLeftRefIdeal.main_arg0)
          ∧ r.2.mem ((c.tc : Thread Cert.GradUpLeftRefIdeal.nD Cert.GradUpLeftRefIdeal.τ).loc Cert.GradUpLeftRefIdeal.main_arg1) = m' ((c.tc : Thread Cert.GradUpLeftRefIdeal.nD Cert.GradUpLeftRefIdeal.τ).loc Cert.GradUpLeftRefIdeal.main_arg1))

def preserves_GradUpRight_GradUpRightIdeal : Prop :=
  True

def algebraic_GradUpRightIdeal_GradUpRightRefIdeal [hGradUpRightIdeal : Cert.GradUpRightIdeal.Facts] [hGradUpRightRefIdeal : Cert.GradUpRightRefIdeal.Facts] : Prop :=
  ∀ (m : (ℓ : Loc Cert.GradUpRightIdeal.nD Cert.GradUpRightIdeal.τ Cert.GradUpRightIdeal.sig) → Buf (Elt Ideal) ℓ) (g : Dev Cert.GradUpRightIdeal.nD → PrngReg)
    (m' : (ℓ : Loc Cert.GradUpRightRefIdeal.nD Cert.GradUpRightRefIdeal.τ Cert.GradUpRightRefIdeal.sig) → Buf (Elt Ideal) ℓ) (g' : Dev Cert.GradUpRightRefIdeal.nD → PrngReg), Pre_GradUpRightIdeal m →
    (∀ c : Dev Cert.GradUpRightIdeal.nD,
      m' ((c.tc : Thread Cert.GradUpRightRefIdeal.nD Cert.GradUpRightRefIdeal.τ).loc Cert.GradUpRightRefIdeal.main_arg0) = m ((c.tc : Thread Cert.GradUpRightIdeal.nD Cert.GradUpRightIdeal.τ).loc Cert.GradUpRightIdeal.main_arg0)
      ∧ m' ((c.tc : Thread Cert.GradUpRightRefIdeal.nD Cert.GradUpRightRefIdeal.τ).loc Cert.GradUpRightRefIdeal.main_arg1) = m ((c.tc : Thread Cert.GradUpRightIdeal.nD Cert.GradUpRightIdeal.τ).loc Cert.GradUpRightIdeal.main_arg1)
      ∧ m' ((c.tc : Thread Cert.GradUpRightRefIdeal.nD Cert.GradUpRightRefIdeal.τ).loc Cert.GradUpRightRefIdeal.main_arg2) = m ((c.tc : Thread Cert.GradUpRightIdeal.nD Cert.GradUpRightIdeal.τ).loc Cert.GradUpRightIdeal.main_arg2)) →
    ∃ (v0 : (c : Dev Cert.GradUpRightIdeal.nD) → Buf (Elt Ideal) ((c.tc : Thread Cert.GradUpRightIdeal.nD Cert.GradUpRightIdeal.τ).loc Cert.GradUpRightIdeal.main_v0)),
      θ_run (Cert.GradUpRightIdeal.defs (F := Ideal)) (onTc (τ := Cert.GradUpRightIdeal.τ) (Cert.GradUpRightIdeal.main (F := Ideal))) ⟨m, fun _ => 0, g⟩ (fun r => ∀ c : Dev Cert.GradUpRightIdeal.nD,
          r.2.mem ((c.tc : Thread Cert.GradUpRightIdeal.nD Cert.GradUpRightIdeal.τ).loc Cert.GradUpRightIdeal.main_v0) = v0 c
          ∧ r.2.mem ((c.tc : Thread Cert.GradUpRightIdeal.nD Cert.GradUpRightIdeal.τ).loc Cert.GradUpRightIdeal.main_arg0) = m ((c.tc : Thread Cert.GradUpRightIdeal.nD Cert.GradUpRightIdeal.τ).loc Cert.GradUpRightIdeal.main_arg0)
          ∧ r.2.mem ((c.tc : Thread Cert.GradUpRightIdeal.nD Cert.GradUpRightIdeal.τ).loc Cert.GradUpRightIdeal.main_arg1) = m ((c.tc : Thread Cert.GradUpRightIdeal.nD Cert.GradUpRightIdeal.τ).loc Cert.GradUpRightIdeal.main_arg1)
          ∧ r.2.mem ((c.tc : Thread Cert.GradUpRightIdeal.nD Cert.GradUpRightIdeal.τ).loc Cert.GradUpRightIdeal.main_arg2) = m ((c.tc : Thread Cert.GradUpRightIdeal.nD Cert.GradUpRightIdeal.τ).loc Cert.GradUpRightIdeal.main_arg2))
      ∧ θ_run (Cert.GradUpRightRefIdeal.defs (F := Ideal)) (onTc (τ := Cert.GradUpRightRefIdeal.τ) (Cert.GradUpRightRefIdeal.main (F := Ideal))) ⟨m', fun _ => 0, g'⟩ (fun r => ∀ c : Dev Cert.GradUpRightRefIdeal.nD,
          r.2.mem ((c.tc : Thread Cert.GradUpRightRefIdeal.nD Cert.GradUpRightRefIdeal.τ).loc Cert.GradUpRightRefIdeal.main_v6) = v0 c
          ∧ r.2.mem ((c.tc : Thread Cert.GradUpRightRefIdeal.nD Cert.GradUpRightRefIdeal.τ).loc Cert.GradUpRightRefIdeal.main_arg0) = m' ((c.tc : Thread Cert.GradUpRightRefIdeal.nD Cert.GradUpRightRefIdeal.τ).loc Cert.GradUpRightRefIdeal.main_arg0)
          ∧ r.2.mem ((c.tc : Thread Cert.GradUpRightRefIdeal.nD Cert.GradUpRightRefIdeal.τ).loc Cert.GradUpRightRefIdeal.main_arg1) = m' ((c.tc : Thread Cert.GradUpRightRefIdeal.nD Cert.GradUpRightRefIdeal.τ).loc Cert.GradUpRightRefIdeal.main_arg1)
          ∧ r.2.mem ((c.tc : Thread Cert.GradUpRightRefIdeal.nD Cert.GradUpRightRefIdeal.τ).loc Cert.GradUpRightRefIdeal.main_arg2) = m' ((c.tc : Thread Cert.GradUpRightRefIdeal.nD Cert.GradUpRightRefIdeal.τ).loc Cert.GradUpRightRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)) →
    ∃ (v0 : (c : Dev Cert.RopeIdeal.nD) → Buf (Elt Ideal) ((c.tc : Thread Cert.RopeIdeal.nD Cert.RopeIdeal.τ).loc Cert.RopeIdeal.main_v0_0)) (v1 : (c : Dev Cert.RopeIdeal.nD) → Buf (Elt Ideal) ((c.tc : Thread Cert.RopeIdeal.nD Cert.RopeIdeal.τ).loc Cert.RopeIdeal.main_v0_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v0_0) = v0 c
          ∧ r.2.mem ((c.tc : Thread Cert.RopeIdeal.nD Cert.RopeIdeal.τ).loc Cert.RopeIdeal.main_v0_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v4) = v0 c
          ∧ r.2.mem ((c.tc : Thread Cert.RopeRefIdeal.nD Cert.RopeRefIdeal.τ).loc Cert.RopeRefIdeal.main_v5) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1))

def preserves_Attend_AttendIdeal : Prop :=
  True

def algebraic_AttendIdeal_AttendRefIdeal [hAttendIdeal : Cert.AttendIdeal.Facts] [hAttendRefIdeal : Cert.AttendRefIdeal.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)
      ∧ m' ((c.tc : Thread Cert.AttendRefIdeal.nD Cert.AttendRefIdeal.τ).loc Cert.AttendRefIdeal.main_arg1) = m ((c.tc : Thread Cert.AttendIdeal.nD Cert.AttendIdeal.τ).loc Cert.AttendIdeal.main_arg1)
      ∧ m' ((c.tc : Thread Cert.AttendRefIdeal.nD Cert.AttendRefIdeal.τ).loc Cert.AttendRefIdeal.main_arg2) = m ((c.tc : Thread Cert.AttendIdeal.nD Cert.AttendIdeal.τ).loc Cert.AttendIdeal.main_arg2)) →
    ∃ (v0 : (c : Dev Cert.AttendIdeal.nD) → Buf (Elt Ideal) ((c.tc : Thread Cert.AttendIdeal.nD Cert.AttendIdeal.τ).loc Cert.AttendIdeal.main_v0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v23) = v0 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0)
          ∧ r.2.mem ((c.tc : Thread Cert.AttendRefIdeal.nD Cert.AttendRefIdeal.τ).loc Cert.AttendRefIdeal.main_arg1) = m' ((c.tc : Thread Cert.AttendRefIdeal.nD Cert.AttendRefIdeal.τ).loc Cert.AttendRefIdeal.main_arg1)
          ∧ r.2.mem ((c.tc : Thread Cert.AttendRefIdeal.nD Cert.AttendRefIdeal.τ).loc Cert.AttendRefIdeal.main_arg2) = m' ((c.tc : Thread Cert.AttendRefIdeal.nD Cert.AttendRefIdeal.τ).loc Cert.AttendRefIdeal.main_arg2))

def preserves_NormBack_NormBackIdeal : Prop :=
  True

def algebraic_NormBackIdeal_NormBackRefIdeal [hNormBackIdeal : Cert.NormBackIdeal.Facts] [hNormBackRefIdeal : Cert.NormBackRefIdeal.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormBackRefIdeal.nD Cert.NormBackRefIdeal.τ Cert.NormBackRefIdeal.sig) → Buf (Elt Ideal) ℓ) (g' : Dev Cert.NormBackRefIdeal.nD → PrngReg), Pre_NormBackIdeal m →
    (∀ c : Dev Cert.NormBackIdeal.nD,
      m' ((c.tc : Thread Cert.NormBackRefIdeal.nD Cert.NormBackRefIdeal.τ).loc Cert.NormBackRefIdeal.main_arg0) = m ((c.tc : Thread Cert.NormBackIdeal.nD Cert.NormBackIdeal.τ).loc Cert.NormBackIdeal.main_arg0)
      ∧ m' ((c.tc : Thread Cert.NormBackRefIdeal.nD Cert.NormBackRefIdeal.τ).loc Cert.NormBackRefIdeal.main_arg1) = m ((c.tc : Thread Cert.NormBackIdeal.nD Cert.NormBackIdeal.τ).loc Cert.NormBackIdeal.main_arg1)
      ∧ m' ((c.tc : Thread Cert.NormBackRefIdeal.nD Cert.NormBackRefIdeal.τ).loc Cert.NormBackRefIdeal.main_arg2) = m ((c.tc : Thread Cert.NormBackIdeal.nD Cert.NormBackIdeal.τ).loc Cert.NormBackIdeal.main_arg2)
      ∧ m' ((c.tc : Thread Cert.NormBackRefIdeal.nD Cert.NormBackRefIdeal.τ).loc Cert.NormBackRefIdeal.main_arg3) = m ((c.tc : Thread Cert.NormBackIdeal.nD Cert.NormBackIdeal.τ).loc Cert.NormBackIdeal.main_arg3)) →
    ∃ (v0 : (c : Dev Cert.NormBackIdeal.nD) → Buf (Elt Ideal) ((c.tc : Thread Cert.NormBackIdeal.nD Cert.NormBackIdeal.τ).loc Cert.NormBackIdeal.main_v0_0)) (v1 : (c : Dev Cert.NormBackIdeal.nD) → Buf (Elt Ideal) ((c.tc : Thread Cert.NormBackIdeal.nD Cert.NormBackIdeal.τ).loc Cert.NormBackIdeal.main_v0_1)) (v2 : (c : Dev Cert.NormBackIdeal.nD) → Buf (Elt Ideal) ((c.tc : Thread Cert.NormBackIdeal.nD Cert.NormBackIdeal.τ).loc Cert.NormBackIdeal.main_v0_2)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v0_0) = v0 c
          ∧ r.2.mem ((c.tc : Thread Cert.NormBackIdeal.nD Cert.NormBackIdeal.τ).loc Cert.NormBackIdeal.main_v0_1) = v1 c
          ∧ r.2.mem ((c.tc : Thread Cert.NormBackIdeal.nD Cert.NormBackIdeal.τ).loc Cert.NormBackIdeal.main_v0_2) = v2 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ θ_run (Cert.NormBackRefIdeal.defs (F := Ideal)) (onTc (τ := Cert.NormBackRefIdeal.τ) (Cert.NormBackRefIdeal.main (F := Ideal))) ⟨m', fun _ => 0, g'⟩ (fun r => ∀ c : Dev Cert.NormBackRefIdeal.nD,
          r.2.mem ((c.tc : Thread Cert.NormBackRefIdeal.nD Cert.NormBackRefIdeal.τ).loc Cert.NormBackRefIdeal.main_v34) = v0 c
          ∧ r.2.mem ((c.tc : Thread Cert.NormBackRefIdeal.nD Cert.NormBackRefIdeal.τ).loc Cert.NormBackRefIdeal.main_v17) = v1 c
          ∧ r.2.mem ((c.tc : Thread Cert.NormBackRefIdeal.nD Cert.NormBackRefIdeal.τ).loc Cert.NormBackRefIdeal.main_v35) = v2 c
          ∧ r.2.mem ((c.tc : Thread Cert.NormBackRefIdeal.nD Cert.NormBackRefIdeal.τ).loc Cert.NormBackRefIdeal.main_arg0) = m' ((c.tc : Thread Cert.NormBackRefIdeal.nD Cert.NormBackRefIdeal.τ).loc Cert.NormBackRefIdeal.main_arg0)
          ∧ r.2.mem ((c.tc : Thread Cert.NormBackRefIdeal.nD Cert.NormBackRefIdeal.τ).loc Cert.NormBackRefIdeal.main_arg1) = m' ((c.tc : Thread Cert.NormBackRefIdeal.nD Cert.NormBackRefIdeal.τ).loc Cert.NormBackRefIdeal.main_arg1)
          ∧ r.2.mem ((c.tc : Thread Cert.NormBackRefIdeal.nD Cert.NormBackRefIdeal.τ).loc Cert.NormBackRefIdeal.main_arg2) = m' ((c.tc : Thread Cert.NormBackRefIdeal.nD Cert.NormBackRefIdeal.τ).loc Cert.NormBackRefIdeal.main_arg2)
          ∧ r.2.mem ((c.tc : Thread Cert.NormBackRefIdeal.nD Cert.NormBackRefIdeal.τ).loc Cert.NormBackRefIdeal.main_arg3) = m' ((c.tc : Thread Cert.NormBackRefIdeal.nD Cert.NormBackRefIdeal.τ).loc Cert.NormBackRefIdeal.main_arg3))

def preserves_NormBackIn_NormBackInIdeal : Prop :=
  True

def algebraic_NormBackInIdeal_NormBackInRefIdeal [hNormBackInIdeal : Cert.NormBackInIdeal.Facts] [hNormBackInRefIdeal : Cert.NormBackInRefIdeal.Facts] : Prop :=
  ∀ (m : (ℓ : Loc Cert.NormBackInIdeal.nD Cert.NormBackInIdeal.τ Cert.NormBackInIdeal.sig) → Buf (Elt Ideal) ℓ) (g : Dev Cert.NormBackInIdeal.nD → PrngReg)
    (m' : (ℓ : Loc Cert.NormBackInRefIdeal.nD Cert.NormBackInRefIdeal.τ Cert.NormBackInRefIdeal.sig) → Buf (Elt Ideal) ℓ) (g' : Dev Cert.NormBackInRefIdeal.nD → PrngReg), Pre_NormBackInIdeal m →
    (∀ c : Dev Cert.NormBackInIdeal.nD,
      m' ((c.tc : Thread Cert.NormBackInRefIdeal.nD Cert.NormBackInRefIdeal.τ).loc Cert.NormBackInRefIdeal.main_arg0) = m ((c.tc : Thread Cert.NormBackInIdeal.nD Cert.NormBackInIdeal.τ).loc Cert.NormBackInIdeal.main_arg0)
      ∧ m' ((c.tc : Thread Cert.NormBackInRefIdeal.nD Cert.NormBackInRefIdeal.τ).loc Cert.NormBackInRefIdeal.main_arg1) = m ((c.tc : Thread Cert.NormBackInIdeal.nD Cert.NormBackInIdeal.τ).loc Cert.NormBackInIdeal.main_arg1)
      ∧ m' ((c.tc : Thread Cert.NormBackInRefIdeal.nD Cert.NormBackInRefIdeal.τ).loc Cert.NormBackInRefIdeal.main_arg2) = m ((c.tc : Thread Cert.NormBackInIdeal.nD Cert.NormBackInIdeal.τ).loc Cert.NormBackInIdeal.main_arg2)
      ∧ m' ((c.tc : Thread Cert.NormBackInRefIdeal.nD Cert.NormBackInRefIdeal.τ).loc Cert.NormBackInRefIdeal.main_arg3) = m ((c.tc : Thread Cert.NormBackInIdeal.nD Cert.NormBackInIdeal.τ).loc Cert.NormBackInIdeal.main_arg3)) →
    ∃ (v0 : (c : Dev Cert.NormBackInIdeal.nD) → Buf (Elt Ideal) ((c.tc : Thread Cert.NormBackInIdeal.nD Cert.NormBackInIdeal.τ).loc Cert.NormBackInIdeal.main_v0_0)) (v1 : (c : Dev Cert.NormBackInIdeal.nD) → Buf (Elt Ideal) ((c.tc : Thread Cert.NormBackInIdeal.nD Cert.NormBackInIdeal.τ).loc Cert.NormBackInIdeal.main_v0_1)),
      θ_run (Cert.NormBackInIdeal.defs (F := Ideal)) (onTc (τ := Cert.NormBackInIdeal.τ) (Cert.NormBackInIdeal.main (F := Ideal))) ⟨m, fun _ => 0, g⟩ (fun r => ∀ c : Dev Cert.NormBackInIdeal.nD,
          r.2.mem ((c.tc : Thread Cert.NormBackInIdeal.nD Cert.NormBackInIdeal.τ).loc Cert.NormBackInIdeal.main_v0_0) = v0 c
          ∧ r.2.mem ((c.tc : Thread Cert.NormBackInIdeal.nD Cert.NormBackInIdeal.τ).loc Cert.NormBackInIdeal.main_v0_1) = v1 c
          ∧ r.2.mem ((c.tc : Thread Cert.NormBackInIdeal.nD Cert.NormBackInIdeal.τ).loc Cert.NormBackInIdeal.main_arg0) = m ((c.tc : Thread Cert.NormBackInIdeal.nD Cert.NormBackInIdeal.τ).loc Cert.NormBackInIdeal.main_arg0)
          ∧ r.2.mem ((c.tc : Thread Cert.NormBackInIdeal.nD Cert.NormBackInIdeal.τ).loc Cert.NormBackInIdeal.main_arg1) = m ((c.tc : Thread Cert.NormBackInIdeal.nD Cert.NormBackInIdeal.τ).loc Cert.NormBackInIdeal.main_arg1)
          ∧ r.2.mem ((c.tc : Thread Cert.NormBackInIdeal.nD Cert.NormBackInIdeal.τ).loc Cert.NormBackInIdeal.main_arg2) = m ((c.tc : Thread Cert.NormBackInIdeal.nD Cert.NormBackInIdeal.τ).loc Cert.NormBackInIdeal.main_arg2)
          ∧ r.2.mem ((c.tc : Thread Cert.NormBackInIdeal.nD Cert.NormBackInIdeal.τ).loc Cert.NormBackInIdeal.main_arg3) = m ((c.tc : Thread Cert.NormBackInIdeal.nD Cert.NormBackInIdeal.τ).loc Cert.NormBackInIdeal.main_arg3))
      ∧ θ_run (Cert.NormBackInRefIdeal.defs (F := Ideal)) (onTc (τ := Cert.NormBackInRefIdeal.τ) (Cert.NormBackInRefIdeal.main (F := Ideal))) ⟨m', fun _ => 0, g'⟩ (fun r => ∀ c : Dev Cert.NormBackInRefIdeal.nD,
          r.2.mem ((c.tc : Thread Cert.NormBackInRefIdeal.nD Cert.NormBackInRefIdeal.τ).loc Cert.NormBackInRefIdeal.main_v34) = v0 c
          ∧ r.2.mem ((c.tc : Thread Cert.NormBackInRefIdeal.nD Cert.NormBackInRefIdeal.τ).loc Cert.NormBackInRefIdeal.main_v17) = v1 c
          ∧ r.2.mem ((c.tc : Thread Cert.NormBackInRefIdeal.nD Cert.NormBackInRefIdeal.τ).loc Cert.NormBackInRefIdeal.main_arg0) = m' ((c.tc : Thread Cert.NormBackInRefIdeal.nD Cert.NormBackInRefIdeal.τ).loc Cert.NormBackInRefIdeal.main_arg0)
          ∧ r.2.mem ((c.tc : Thread Cert.NormBackInRefIdeal.nD Cert.NormBackInRefIdeal.τ).loc Cert.NormBackInRefIdeal.main_arg1) = m' ((c.tc : Thread Cert.NormBackInRefIdeal.nD Cert.NormBackInRefIdeal.τ).loc Cert.NormBackInRefIdeal.main_arg1)
          ∧ r.2.mem ((c.tc : Thread Cert.NormBackInRefIdeal.nD Cert.NormBackInRefIdeal.τ).loc Cert.NormBackInRefIdeal.main_arg2) = m' ((c.tc : Thread Cert.NormBackInRefIdeal.nD Cert.NormBackInRefIdeal.τ).loc Cert.NormBackInRefIdeal.main_arg2)
          ∧ r.2.mem ((c.tc : Thread Cert.NormBackInRefIdeal.nD Cert.NormBackInRefIdeal.τ).loc Cert.NormBackInRefIdeal.main_arg3) = m' ((c.tc : Thread Cert.NormBackInRefIdeal.nD Cert.NormBackInRefIdeal.τ).loc Cert.NormBackInRefIdeal.main_arg3))

def preserves_NormBackMem_NormBackMemIdeal : Prop :=
  True

def algebraic_NormBackMemIdeal_NormBackMemRefIdeal [hNormBackMemIdeal : Cert.NormBackMemIdeal.Facts] [hNormBackMemRefIdeal : Cert.NormBackMemRefIdeal.Facts] : Prop :=
  ∀ (m : (ℓ : Loc Cert.NormBackMemIdeal.nD Cert.NormBackMemIdeal.τ Cert.NormBackMemIdeal.sig) → Buf (Elt Ideal) ℓ) (g : Dev Cert.NormBackMemIdeal.nD → PrngReg)
    (m' : (ℓ : Loc Cert.NormBackMemRefIdeal.nD Cert.NormBackMemRefIdeal.τ Cert.NormBackMemRefIdeal.sig) → Buf (Elt Ideal) ℓ) (g' : Dev Cert.NormBackMemRefIdeal.nD → PrngReg), Pre_NormBackMemIdeal m →
    (∀ c : Dev Cert.NormBackMemIdeal.nD,
      m' ((c.tc : Thread Cert.NormBackMemRefIdeal.nD Cert.NormBackMemRefIdeal.τ).loc Cert.NormBackMemRefIdeal.main_arg0) = m ((c.tc : Thread Cert.NormBackMemIdeal.nD Cert.NormBackMemIdeal.τ).loc Cert.NormBackMemIdeal.main_arg0)
      ∧ m' ((c.tc : Thread Cert.NormBackMemRefIdeal.nD Cert.NormBackMemRefIdeal.τ).loc Cert.NormBackMemRefIdeal.main_arg1) = m ((c.tc : Thread Cert.NormBackMemIdeal.nD Cert.NormBackMemIdeal.τ).loc Cert.NormBackMemIdeal.main_arg1)
      ∧ m' ((c.tc : Thread Cert.NormBackMemRefIdeal.nD Cert.NormBackMemRefIdeal.τ).loc Cert.NormBackMemRefIdeal.main_arg2) = m ((c.tc : Thread Cert.NormBackMemIdeal.nD Cert.NormBackMemIdeal.τ).loc Cert.NormBackMemIdeal.main_arg2)) →
    ∃ (v0 : (c : Dev Cert.NormBackMemIdeal.nD) → Buf (Elt Ideal) ((c.tc : Thread Cert.NormBackMemIdeal.nD Cert.NormBackMemIdeal.τ).loc Cert.NormBackMemIdeal.main_v0_0)) (v1 : (c : Dev Cert.NormBackMemIdeal.nD) → Buf (Elt Ideal) ((c.tc : Thread Cert.NormBackMemIdeal.nD Cert.NormBackMemIdeal.τ).loc Cert.NormBackMemIdeal.main_v0_1)),
      θ_run (Cert.NormBackMemIdeal.defs (F := Ideal)) (onTc (τ := Cert.NormBackMemIdeal.τ) (Cert.NormBackMemIdeal.main (F := Ideal))) ⟨m, fun _ => 0, g⟩ (fun r => ∀ c : Dev Cert.NormBackMemIdeal.nD,
          r.2.mem ((c.tc : Thread Cert.NormBackMemIdeal.nD Cert.NormBackMemIdeal.τ).loc Cert.NormBackMemIdeal.main_v0_0) = v0 c
          ∧ r.2.mem ((c.tc : Thread Cert.NormBackMemIdeal.nD Cert.NormBackMemIdeal.τ).loc Cert.NormBackMemIdeal.main_v0_1) = v1 c
          ∧ r.2.mem ((c.tc : Thread Cert.NormBackMemIdeal.nD Cert.NormBackMemIdeal.τ).loc Cert.NormBackMemIdeal.main_arg0) = m ((c.tc : Thread Cert.NormBackMemIdeal.nD Cert.NormBackMemIdeal.τ).loc Cert.NormBackMemIdeal.main_arg0)
          ∧ r.2.mem ((c.tc : Thread Cert.NormBackMemIdeal.nD Cert.NormBackMemIdeal.τ).loc Cert.NormBackMemIdeal.main_arg1) = m ((c.tc : Thread Cert.NormBackMemIdeal.nD Cert.NormBackMemIdeal.τ).loc Cert.NormBackMemIdeal.main_arg1)
          ∧ r.2.mem ((c.tc : Thread Cert.NormBackMemIdeal.nD Cert.NormBackMemIdeal.τ).loc Cert.NormBackMemIdeal.main_arg2) = m ((c.tc : Thread Cert.NormBackMemIdeal.nD Cert.NormBackMemIdeal.τ).loc Cert.NormBackMemIdeal.main_arg2))
      ∧ θ_run (Cert.NormBackMemRefIdeal.defs (F := Ideal)) (onTc (τ := Cert.NormBackMemRefIdeal.τ) (Cert.NormBackMemRefIdeal.main (F := Ideal))) ⟨m', fun _ => 0, g'⟩ (fun r => ∀ c : Dev Cert.NormBackMemRefIdeal.nD,
          r.2.mem ((c.tc : Thread Cert.NormBackMemRefIdeal.nD Cert.NormBackMemRefIdeal.τ).loc Cert.NormBackMemRefIdeal.main_v33) = v0 c
          ∧ r.2.mem ((c.tc : Thread Cert.NormBackMemRefIdeal.nD Cert.NormBackMemRefIdeal.τ).loc Cert.NormBackMemRefIdeal.main_v17) = v1 c
          ∧ r.2.mem ((c.tc : Thread Cert.NormBackMemRefIdeal.nD Cert.NormBackMemRefIdeal.τ).loc Cert.NormBackMemRefIdeal.main_arg0) = m' ((c.tc : Thread Cert.NormBackMemRefIdeal.nD Cert.NormBackMemRefIdeal.τ).loc Cert.NormBackMemRefIdeal.main_arg0)
          ∧ r.2.mem ((c.tc : Thread Cert.NormBackMemRefIdeal.nD Cert.NormBackMemRefIdeal.τ).loc Cert.NormBackMemRefIdeal.main_arg1) = m' ((c.tc : Thread Cert.NormBackMemRefIdeal.nD Cert.NormBackMemRefIdeal.τ).loc Cert.NormBackMemRefIdeal.main_arg1)
          ∧ r.2.mem ((c.tc : Thread Cert.NormBackMemRefIdeal.nD Cert.NormBackMemRefIdeal.τ).loc Cert.NormBackMemRefIdeal.main_arg2) = m' ((c.tc : Thread Cert.NormBackMemRefIdeal.nD Cert.NormBackMemRefIdeal.τ).loc Cert.NormBackMemRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v48) = v0 c
          ∧ r.2.mem ((c.tc : Thread Cert.LossRefIdeal.nD Cert.LossRefIdeal.τ).loc Cert.LossRefIdeal.main_v32) = v1 c
          ∧ r.2.mem ((c.tc : Thread Cert.LossRefIdeal.nD Cert.LossRefIdeal.τ).loc Cert.LossRefIdeal.main_v49) = v2 c
          ∧ r.2.mem ((c.tc : Thread Cert.LossRefIdeal.nD Cert.LossRefIdeal.τ).loc Cert.LossRefIdeal.main_v50) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v31) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def Claim : Prop :=
  ∃ (hKernel : Cert.Kernel.Facts) (hKernelIdeal : Cert.KernelIdeal.Facts) (hReferenceIdeal : Cert.ReferenceIdeal.Facts) (hReference : Cert.Reference.Facts) (hWeights : Cert.Weights.Facts) (hWeightsIdeal : Cert.WeightsIdeal.Facts) (hWeightsRefIdeal : Cert.WeightsRefIdeal.Facts) (hWeightsRef : Cert.WeightsRef.Facts) (hUpdateIn : Cert.UpdateIn.Facts) (hUpdateInIdeal : Cert.UpdateInIdeal.Facts) (hUpdateInRefIdeal : Cert.UpdateInRefIdeal.Facts) (hUpdateSquare : Cert.UpdateSquare.Facts) (hUpdateSquareIdeal : Cert.UpdateSquareIdeal.Facts) (hUpdateSquareRefIdeal : Cert.UpdateSquareRefIdeal.Facts) (hUpdateUp : Cert.UpdateUp.Facts) (hUpdateUpIdeal : Cert.UpdateUpIdeal.Facts) (hUpdateUpRefIdeal : Cert.UpdateUpRefIdeal.Facts) (hUpdateDown : Cert.UpdateDown.Facts) (hUpdateDownIdeal : Cert.UpdateDownIdeal.Facts) (hUpdateDownRefIdeal : Cert.UpdateDownRefIdeal.Facts) (hUpdateSmall : Cert.UpdateSmall.Facts) (hUpdateSmallIdeal : Cert.UpdateSmallIdeal.Facts) (hUpdateSmallRefIdeal : Cert.UpdateSmallRefIdeal.Facts) (hNorm : Cert.Norm.Facts) (hNormIdeal : Cert.NormIdeal.Facts) (hNormRefIdeal : Cert.NormRefIdeal.Facts) (hNormMem : Cert.NormMem.Facts) (hNormMemIdeal : Cert.NormMemIdeal.Facts) (hNormMemRefIdeal : Cert.NormMemRefIdeal.Facts) (hIn : Cert.In.Facts) (hInIdeal : Cert.InIdeal.Facts) (hInRefIdeal : Cert.InRefIdeal.Facts) (hUp : Cert.Up.Facts) (hUpIdeal : Cert.UpIdeal.Facts) (hUpRefIdeal : Cert.UpRefIdeal.Facts) (hQuery : Cert.Query.Facts) (hQueryIdeal : Cert.QueryIdeal.Facts) (hQueryRefIdeal : Cert.QueryRefIdeal.Facts) (hKey : Cert.Key.Facts) (hKeyIdeal : Cert.KeyIdeal.Facts) (hKeyRefIdeal : Cert.KeyRefIdeal.Facts) (hOut : Cert.Out.Facts) (hOutIdeal : Cert.OutIdeal.Facts) (hOutRefIdeal : Cert.OutRefIdeal.Facts) (hDown : Cert.Down.Facts) (hDownIdeal : Cert.DownIdeal.Facts) (hDownRefIdeal : Cert.DownRefIdeal.Facts) (hBackDown : Cert.BackDown.Facts) (hBackDownIdeal : Cert.BackDownIdeal.Facts) (hBackDownRefIdeal : Cert.BackDownRefIdeal.Facts) (hBackSquare : Cert.BackSquare.Facts) (hBackSquareIdeal : Cert.BackSquareIdeal.Facts) (hBackSquareRefIdeal : Cert.BackSquareRefIdeal.Facts) (hBackHeads : Cert.BackHeads.Facts) (hBackHeadsIdeal : Cert.BackHeadsIdeal.Facts) (hBackHeadsRefIdeal : Cert.BackHeadsRefIdeal.Facts) (hBackKey : Cert.BackKey.Facts) (hBackKeyIdeal : Cert.BackKeyIdeal.Facts) (hBackKeyRefIdeal : Cert.BackKeyRefIdeal.Facts) (hBackValue : Cert.BackValue.Facts) (hBackValueIdeal : Cert.BackValueIdeal.Facts) (hBackValueRefIdeal : Cert.BackValueRefIdeal.Facts) (hBackIn : Cert.BackIn.Facts) (hBackInIdeal : Cert.BackInIdeal.Facts) (hBackInRefIdeal : Cert.BackInRefIdeal.Facts) (hBackUpLeft : Cert.BackUpLeft.Facts) (hBackUpLeftIdeal : Cert.BackUpLeftIdeal.Facts) (hBackUpLeftRefIdeal : Cert.BackUpLeftRefIdeal.Facts) (hBackUpRight : Cert.BackUpRight.Facts) (hBackUpRightIdeal : Cert.BackUpRightIdeal.Facts) (hBackUpRightRefIdeal : Cert.BackUpRightRefIdeal.Facts) (hGradSquare : Cert.GradSquare.Facts) (hGradSquareIdeal : Cert.GradSquareIdeal.Facts) (hGradSquareRefIdeal : Cert.GradSquareRefIdeal.Facts) (hGradKey : Cert.GradKey.Facts) (hGradKeyIdeal : Cert.GradKeyIdeal.Facts) (hGradKeyRefIdeal : Cert.GradKeyRefIdeal.Facts) (hGradIn : Cert.GradIn.Facts) (hGradInIdeal : Cert.GradInIdeal.Facts) (hGradInRefIdeal : Cert.GradInRefIdeal.Facts) (hGradDown : Cert.GradDown.Facts) (hGradDownIdeal : Cert.GradDownIdeal.Facts) (hGradDownRefIdeal : Cert.GradDownRefIdeal.Facts) (hGradUpLeft : Cert.GradUpLeft.Facts) (hGradUpLeftIdeal : Cert.GradUpLeftIdeal.Facts) (hGradUpLeftRefIdeal : Cert.GradUpLeftRefIdeal.Facts) (hGradUpRight : Cert.GradUpRight.Facts) (hGradUpRightIdeal : Cert.GradUpRightIdeal.Facts) (hGradUpRightRefIdeal : Cert.GradUpRightRefIdeal.Facts) (hRope : Cert.Rope.Facts) (hRopeIdeal : Cert.RopeIdeal.Facts) (hRopeRefIdeal : Cert.RopeRefIdeal.Facts) (hAttend : Cert.Attend.Facts) (hAttendIdeal : Cert.AttendIdeal.Facts) (hAttendRefIdeal : Cert.AttendRefIdeal.Facts) (hNormBack : Cert.NormBack.Facts) (hNormBackIdeal : Cert.NormBackIdeal.Facts) (hNormBackRefIdeal : Cert.NormBackRefIdeal.Facts) (hNormBackIn : Cert.NormBackIn.Facts) (hNormBackInIdeal : Cert.NormBackInIdeal.Facts) (hNormBackInRefIdeal : Cert.NormBackInRefIdeal.Facts) (hNormBackMem : Cert.NormBackMem.Facts) (hNormBackMemIdeal : Cert.NormBackMemIdeal.Facts) (hNormBackMemRefIdeal : Cert.NormBackMemRefIdeal.Facts) (hLoss : Cert.Loss.Facts) (hLossIdeal : Cert.LossIdeal.Facts) (hLossRefIdeal : Cert.LossRefIdeal.Facts) (hGate : Cert.Gate.Facts) (hGateIdeal : Cert.GateIdeal.Facts) (hGateRefIdeal : Cert.GateRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Weights (hWeights := hWeights)
    ∧ quiescent_WeightsIdeal (hWeightsIdeal := hWeightsIdeal)
    ∧ quiescent_WeightsRefIdeal (hWeightsRefIdeal := hWeightsRefIdeal)
    ∧ quiescent_WeightsRef (hWeightsRef := hWeightsRef)
    ∧ quiescent_UpdateIn (hUpdateIn := hUpdateIn)
    ∧ quiescent_UpdateInIdeal (hUpdateInIdeal := hUpdateInIdeal)
    ∧ quiescent_UpdateInRefIdeal (hUpdateInRefIdeal := hUpdateInRefIdeal)
    ∧ quiescent_UpdateSquare (hUpdateSquare := hUpdateSquare)
    ∧ quiescent_UpdateSquareIdeal (hUpdateSquareIdeal := hUpdateSquareIdeal)
    ∧ quiescent_UpdateSquareRefIdeal (hUpdateSquareRefIdeal := hUpdateSquareRefIdeal)
    ∧ quiescent_UpdateUp (hUpdateUp := hUpdateUp)
    ∧ quiescent_UpdateUpIdeal (hUpdateUpIdeal := hUpdateUpIdeal)
    ∧ quiescent_UpdateUpRefIdeal (hUpdateUpRefIdeal := hUpdateUpRefIdeal)
    ∧ quiescent_UpdateDown (hUpdateDown := hUpdateDown)
    ∧ quiescent_UpdateDownIdeal (hUpdateDownIdeal := hUpdateDownIdeal)
    ∧ quiescent_UpdateDownRefIdeal (hUpdateDownRefIdeal := hUpdateDownRefIdeal)
    ∧ quiescent_UpdateSmall (hUpdateSmall := hUpdateSmall)
    ∧ quiescent_UpdateSmallIdeal (hUpdateSmallIdeal := hUpdateSmallIdeal)
    ∧ quiescent_UpdateSmallRefIdeal (hUpdateSmallRefIdeal := hUpdateSmallRefIdeal)
    ∧ quiescent_Norm (hNorm := hNorm)
    ∧ quiescent_NormIdeal (hNormIdeal := hNormIdeal)
    ∧ quiescent_NormRefIdeal (hNormRefIdeal := hNormRefIdeal)
    ∧ quiescent_NormMem (hNormMem := hNormMem)
    ∧ quiescent_NormMemIdeal (hNormMemIdeal := hNormMemIdeal)
    ∧ quiescent_NormMemRefIdeal (hNormMemRefIdeal := hNormMemRefIdeal)
    ∧ quiescent_In (hIn := hIn)
    ∧ quiescent_InIdeal (hInIdeal := hInIdeal)
    ∧ quiescent_InRefIdeal (hInRefIdeal := hInRefIdeal)
    ∧ quiescent_Up (hUp := hUp)
    ∧ quiescent_UpIdeal (hUpIdeal := hUpIdeal)
    ∧ quiescent_UpRefIdeal (hUpRefIdeal := hUpRefIdeal)
    ∧ quiescent_Query (hQuery := hQuery)
    ∧ quiescent_QueryIdeal (hQueryIdeal := hQueryIdeal)
    ∧ quiescent_QueryRefIdeal (hQueryRefIdeal := hQueryRefIdeal)
    ∧ quiescent_Key (hKey := hKey)
    ∧ quiescent_KeyIdeal (hKeyIdeal := hKeyIdeal)
    ∧ quiescent_KeyRefIdeal (hKeyRefIdeal := hKeyRefIdeal)
    ∧ quiescent_Out (hOut := hOut)
    ∧ quiescent_OutIdeal (hOutIdeal := hOutIdeal)
    ∧ quiescent_OutRefIdeal (hOutRefIdeal := hOutRefIdeal)
    ∧ quiescent_Down (hDown := hDown)
    ∧ quiescent_DownIdeal (hDownIdeal := hDownIdeal)
    ∧ quiescent_DownRefIdeal (hDownRefIdeal := hDownRefIdeal)
    ∧ quiescent_BackDown (hBackDown := hBackDown)
    ∧ quiescent_BackDownIdeal (hBackDownIdeal := hBackDownIdeal)
    ∧ quiescent_BackDownRefIdeal (hBackDownRefIdeal := hBackDownRefIdeal)
    ∧ quiescent_BackSquare (hBackSquare := hBackSquare)
    ∧ quiescent_BackSquareIdeal (hBackSquareIdeal := hBackSquareIdeal)
    ∧ quiescent_BackSquareRefIdeal (hBackSquareRefIdeal := hBackSquareRefIdeal)
    ∧ quiescent_BackHeads (hBackHeads := hBackHeads)
    ∧ quiescent_BackHeadsIdeal (hBackHeadsIdeal := hBackHeadsIdeal)
    ∧ quiescent_BackHeadsRefIdeal (hBackHeadsRefIdeal := hBackHeadsRefIdeal)
    ∧ quiescent_BackKey (hBackKey := hBackKey)
    ∧ quiescent_BackKeyIdeal (hBackKeyIdeal := hBackKeyIdeal)
    ∧ quiescent_BackKeyRefIdeal (hBackKeyRefIdeal := hBackKeyRefIdeal)
    ∧ quiescent_BackValue (hBackValue := hBackValue)
    ∧ quiescent_BackValueIdeal (hBackValueIdeal := hBackValueIdeal)
    ∧ quiescent_BackValueRefIdeal (hBackValueRefIdeal := hBackValueRefIdeal)
    ∧ quiescent_BackIn (hBackIn := hBackIn)
    ∧ quiescent_BackInIdeal (hBackInIdeal := hBackInIdeal)
    ∧ quiescent_BackInRefIdeal (hBackInRefIdeal := hBackInRefIdeal)
    ∧ quiescent_BackUpLeft (hBackUpLeft := hBackUpLeft)
    ∧ quiescent_BackUpLeftIdeal (hBackUpLeftIdeal := hBackUpLeftIdeal)
    ∧ quiescent_BackUpLeftRefIdeal (hBackUpLeftRefIdeal := hBackUpLeftRefIdeal)
    ∧ quiescent_BackUpRight (hBackUpRight := hBackUpRight)
    ∧ quiescent_BackUpRightIdeal (hBackUpRightIdeal := hBackUpRightIdeal)
    ∧ quiescent_BackUpRightRefIdeal (hBackUpRightRefIdeal := hBackUpRightRefIdeal)
    ∧ quiescent_GradSquare (hGradSquare := hGradSquare)
    ∧ quiescent_GradSquareIdeal (hGradSquareIdeal := hGradSquareIdeal)
    ∧ quiescent_GradSquareRefIdeal (hGradSquareRefIdeal := hGradSquareRefIdeal)
    ∧ quiescent_GradKey (hGradKey := hGradKey)
    ∧ quiescent_GradKeyIdeal (hGradKeyIdeal := hGradKeyIdeal)
    ∧ quiescent_GradKeyRefIdeal (hGradKeyRefIdeal := hGradKeyRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradUpLeft (hGradUpLeft := hGradUpLeft)
    ∧ quiescent_GradUpLeftIdeal (hGradUpLeftIdeal := hGradUpLeftIdeal)
    ∧ quiescent_GradUpLeftRefIdeal (hGradUpLeftRefIdeal := hGradUpLeftRefIdeal)
    ∧ quiescent_GradUpRight (hGradUpRight := hGradUpRight)
    ∧ quiescent_GradUpRightIdeal (hGradUpRightIdeal := hGradUpRightIdeal)
    ∧ quiescent_GradUpRightRefIdeal (hGradUpRightRefIdeal := hGradUpRightRefIdeal)
    ∧ quiescent_Rope (hRope := hRope)
    ∧ quiescent_RopeIdeal (hRopeIdeal := hRopeIdeal)
    ∧ quiescent_RopeRefIdeal (hRopeRefIdeal := hRopeRefIdeal)
    ∧ quiescent_Attend (hAttend := hAttend)
    ∧ quiescent_AttendIdeal (hAttendIdeal := hAttendIdeal)
    ∧ quiescent_AttendRefIdeal (hAttendRefIdeal := hAttendRefIdeal)
    ∧ quiescent_NormBack (hNormBack := hNormBack)
    ∧ quiescent_NormBackIdeal (hNormBackIdeal := hNormBackIdeal)
    ∧ quiescent_NormBackRefIdeal (hNormBackRefIdeal := hNormBackRefIdeal)
    ∧ quiescent_NormBackIn (hNormBackIn := hNormBackIn)
    ∧ quiescent_NormBackInIdeal (hNormBackInIdeal := hNormBackInIdeal)
    ∧ quiescent_NormBackInRefIdeal (hNormBackInRefIdeal := hNormBackInRefIdeal)
    ∧ quiescent_NormBackMem (hNormBackMem := hNormBackMem)
    ∧ quiescent_NormBackMemIdeal (hNormBackMemIdeal := hNormBackMemIdeal)
    ∧ quiescent_NormBackMemRefIdeal (hNormBackMemRefIdeal := hNormBackMemRefIdeal)
    ∧ quiescent_Loss (hLoss := hLoss)
    ∧ quiescent_LossIdeal (hLossIdeal := hLossIdeal)
    ∧ quiescent_LossRefIdeal (hLossRefIdeal := hLossRefIdeal)
    ∧ quiescent_Gate (hGate := hGate)
    ∧ quiescent_GateIdeal (hGateIdeal := hGateIdeal)
    ∧ quiescent_GateRefIdeal (hGateRefIdeal := hGateRefIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Weights_WeightsIdeal
    ∧ algebraic_WeightsIdeal_WeightsRefIdeal (hWeightsIdeal := hWeightsIdeal) (hWeightsRefIdeal := hWeightsRefIdeal)
    ∧ bitexact_Weights_WeightsRef (hWeights := hWeights) (hWeightsRef := hWeightsRef)
    ∧ preserves_UpdateIn_UpdateInIdeal
    ∧ algebraic_UpdateInIdeal_UpdateInRefIdeal (hUpdateInIdeal := hUpdateInIdeal) (hUpdateInRefIdeal := hUpdateInRefIdeal)
    ∧ preserves_UpdateSquare_UpdateSquareIdeal
    ∧ algebraic_UpdateSquareIdeal_UpdateSquareRefIdeal (hUpdateSquareIdeal := hUpdateSquareIdeal) (hUpdateSquareRefIdeal := hUpdateSquareRefIdeal)
    ∧ preserves_UpdateUp_UpdateUpIdeal
    ∧ algebraic_UpdateUpIdeal_UpdateUpRefIdeal (hUpdateUpIdeal := hUpdateUpIdeal) (hUpdateUpRefIdeal := hUpdateUpRefIdeal)
    ∧ preserves_UpdateDown_UpdateDownIdeal
    ∧ algebraic_UpdateDownIdeal_UpdateDownRefIdeal (hUpdateDownIdeal := hUpdateDownIdeal) (hUpdateDownRefIdeal := hUpdateDownRefIdeal)
    ∧ preserves_UpdateSmall_UpdateSmallIdeal
    ∧ algebraic_UpdateSmallIdeal_UpdateSmallRefIdeal (hUpdateSmallIdeal := hUpdateSmallIdeal) (hUpdateSmallRefIdeal := hUpdateSmallRefIdeal)
    ∧ preserves_Norm_NormIdeal
    ∧ algebraic_NormIdeal_NormRefIdeal (hNormIdeal := hNormIdeal) (hNormRefIdeal := hNormRefIdeal)
    ∧ preserves_NormMem_NormMemIdeal
    ∧ algebraic_NormMemIdeal_NormMemRefIdeal (hNormMemIdeal := hNormMemIdeal) (hNormMemRefIdeal := hNormMemRefIdeal)
    ∧ preserves_In_InIdeal
    ∧ algebraic_InIdeal_InRefIdeal (hInIdeal := hInIdeal) (hInRefIdeal := hInRefIdeal)
    ∧ preserves_Up_UpIdeal
    ∧ algebraic_UpIdeal_UpRefIdeal (hUpIdeal := hUpIdeal) (hUpRefIdeal := hUpRefIdeal)
    ∧ preserves_Query_QueryIdeal
    ∧ algebraic_QueryIdeal_QueryRefIdeal (hQueryIdeal := hQueryIdeal) (hQueryRefIdeal := hQueryRefIdeal)
    ∧ preserves_Key_KeyIdeal
    ∧ algebraic_KeyIdeal_KeyRefIdeal (hKeyIdeal := hKeyIdeal) (hKeyRefIdeal := hKeyRefIdeal)
    ∧ preserves_Out_OutIdeal
    ∧ algebraic_OutIdeal_OutRefIdeal (hOutIdeal := hOutIdeal) (hOutRefIdeal := hOutRefIdeal)
    ∧ preserves_Down_DownIdeal
    ∧ algebraic_DownIdeal_DownRefIdeal (hDownIdeal := hDownIdeal) (hDownRefIdeal := hDownRefIdeal)
    ∧ preserves_BackDown_BackDownIdeal
    ∧ algebraic_BackDownIdeal_BackDownRefIdeal (hBackDownIdeal := hBackDownIdeal) (hBackDownRefIdeal := hBackDownRefIdeal)
    ∧ preserves_BackSquare_BackSquareIdeal
    ∧ algebraic_BackSquareIdeal_BackSquareRefIdeal (hBackSquareIdeal := hBackSquareIdeal) (hBackSquareRefIdeal := hBackSquareRefIdeal)
    ∧ preserves_BackHeads_BackHeadsIdeal
    ∧ algebraic_BackHeadsIdeal_BackHeadsRefIdeal (hBackHeadsIdeal := hBackHeadsIdeal) (hBackHeadsRefIdeal := hBackHeadsRefIdeal)
    ∧ preserves_BackKey_BackKeyIdeal
    ∧ algebraic_BackKeyIdeal_BackKeyRefIdeal (hBackKeyIdeal := hBackKeyIdeal) (hBackKeyRefIdeal := hBackKeyRefIdeal)
    ∧ preserves_BackValue_BackValueIdeal
    ∧ algebraic_BackValueIdeal_BackValueRefIdeal (hBackValueIdeal := hBackValueIdeal) (hBackValueRefIdeal := hBackValueRefIdeal)
    ∧ preserves_BackIn_BackInIdeal
    ∧ algebraic_BackInIdeal_BackInRefIdeal (hBackInIdeal := hBackInIdeal) (hBackInRefIdeal := hBackInRefIdeal)
    ∧ preserves_BackUpLeft_BackUpLeftIdeal
    ∧ algebraic_BackUpLeftIdeal_BackUpLeftRefIdeal (hBackUpLeftIdeal := hBackUpLeftIdeal) (hBackUpLeftRefIdeal := hBackUpLeftRefIdeal)
    ∧ preserves_BackUpRight_BackUpRightIdeal
    ∧ algebraic_BackUpRightIdeal_BackUpRightRefIdeal (hBackUpRightIdeal := hBackUpRightIdeal) (hBackUpRightRefIdeal := hBackUpRightRefIdeal)
    ∧ preserves_GradSquare_GradSquareIdeal
    ∧ algebraic_GradSquareIdeal_GradSquareRefIdeal (hGradSquareIdeal := hGradSquareIdeal) (hGradSquareRefIdeal := hGradSquareRefIdeal)
    ∧ preserves_GradKey_GradKeyIdeal
    ∧ algebraic_GradKeyIdeal_GradKeyRefIdeal (hGradKeyIdeal := hGradKeyIdeal) (hGradKeyRefIdeal := hGradKeyRefIdeal)
    ∧ preserves_GradIn_GradInIdeal
    ∧ algebraic_GradInIdeal_GradInRefIdeal (hGradInIdeal := hGradInIdeal) (hGradInRefIdeal := hGradInRefIdeal)
    ∧ preserves_GradDown_GradDownIdeal
    ∧ algebraic_GradDownIdeal_GradDownRefIdeal (hGradDownIdeal := hGradDownIdeal) (hGradDownRefIdeal := hGradDownRefIdeal)
    ∧ preserves_GradUpLeft_GradUpLeftIdeal
    ∧ algebraic_GradUpLeftIdeal_GradUpLeftRefIdeal (hGradUpLeftIdeal := hGradUpLeftIdeal) (hGradUpLeftRefIdeal := hGradUpLeftRefIdeal)
    ∧ preserves_GradUpRight_GradUpRightIdeal
    ∧ algebraic_GradUpRightIdeal_GradUpRightRefIdeal (hGradUpRightIdeal := hGradUpRightIdeal) (hGradUpRightRefIdeal := hGradUpRightRefIdeal)
    ∧ preserves_Rope_RopeIdeal
    ∧ algebraic_RopeIdeal_RopeRefIdeal (hRopeIdeal := hRopeIdeal) (hRopeRefIdeal := hRopeRefIdeal)
    ∧ preserves_Attend_AttendIdeal
    ∧ algebraic_AttendIdeal_AttendRefIdeal (hAttendIdeal := hAttendIdeal) (hAttendRefIdeal := hAttendRefIdeal)
    ∧ preserves_NormBack_NormBackIdeal
    ∧ algebraic_NormBackIdeal_NormBackRefIdeal (hNormBackIdeal := hNormBackIdeal) (hNormBackRefIdeal := hNormBackRefIdeal)
    ∧ preserves_NormBackIn_NormBackInIdeal
    ∧ algebraic_NormBackInIdeal_NormBackInRefIdeal (hNormBackInIdeal := hNormBackInIdeal) (hNormBackInRefIdeal := hNormBackInRefIdeal)
    ∧ preserves_NormBackMem_NormBackMemIdeal
    ∧ algebraic_NormBackMemIdeal_NormBackMemRefIdeal (hNormBackMemIdeal := hNormBackMemIdeal) (hNormBackMemRefIdeal := hNormBackMemRefIdeal)
    ∧ preserves_Loss_LossIdeal
    ∧ algebraic_LossIdeal_LossRefIdeal (hLossIdeal := hLossIdeal) (hLossRefIdeal := hLossRefIdeal)
    ∧ preserves_Gate_GateIdeal
    ∧ algebraic_GateIdeal_GateRefIdeal (hGateIdeal := hGateIdeal) (hGateRefIdeal := hGateRefIdeal)
-- ==== Kernel.lean ====
abbrev S2048x6144 : Shape := ⟨2, ![2048, 6144]⟩
abbrev S2048x2048 : Shape := ⟨2, ![2048, 2048]⟩
abbrev S2048x11264 : Shape := ⟨2, ![2048, 11264]⟩
abbrev S5632x2048 : Shape := ⟨2, ![5632, 2048]⟩
abbrev S8x2048x1536 : Shape := ⟨3, ![8, 2048, 1536]⟩
abbrev S8x512x2048 : Shape := ⟨3, ![8, 512, 2048]⟩
abbrev S8x2048x2816 : Shape := ⟨3, ![8, 2048, 2816]⟩
abbrev S8x1408x2048 : Shape := ⟨3, ![8, 1408, 2048]⟩
abbrev S24 : Shape := ⟨1, ![24]⟩
abbrev S8 : Shape := ⟨1, ![8]⟩
abbrev S1 : Shape := ⟨1, ![1]⟩
abbrev S_ : Shape := ⟨0, ![]⟩
abbrev S1x2048x1536 : Shape := ⟨3, ![1, 2048, 1536]⟩
abbrev S2048x1536 : Shape := ⟨2, ![2048, 1536]⟩
abbrev S1x512x2048 : Shape := ⟨3, ![1, 512, 2048]⟩
abbrev S512x2048 : Shape := ⟨2, ![512, 2048]⟩
abbrev S1x2048x2816 : Shape := ⟨3, ![1, 2048, 2816]⟩
abbrev S2048x2816 : Shape := ⟨2, ![2048, 2816]⟩
abbrev S1x1408x2048 : Shape := ⟨3, ![1, 1408, 2048]⟩
abbrev S1408x2048 : Shape := ⟨2, ![1408, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x11264, .bf16⟩
  | .hbm, ⟨7, _⟩ => ⟨S5632x2048, .bf16⟩
  | .hbm, ⟨8, _⟩ => ⟨S8x2048x1536, .bf16⟩
  | .hbm, ⟨9, _⟩ => ⟨S8x512x2048, .bf16⟩
  | .hbm, ⟨10, _⟩ => ⟨S8x512x2048, .bf16⟩
  | .hbm, ⟨11, _⟩ => ⟨S8x512x2048, .bf16⟩
  | .hbm, ⟨12, _⟩ => ⟨S8x512x2048, .bf16⟩
  | .hbm, ⟨13, _⟩ => ⟨S8x512x2048, .bf16⟩
  | .hbm, ⟨14, _⟩ => ⟨S8x2048x2816, .bf16⟩
  | .hbm, ⟨15, _⟩ => ⟨S8x1408x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_mult1 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32 : BitVec 32 := 1536#32
  let v18 : BitVec 32 := Scalar.muli v14 c1536_i32
  v18
def k0_mult2 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32 : BitVec 32 := 512#32
  let v20 : BitVec 32 := Scalar.muli v14 c512_i32
  v20
def k0_mult3 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_10 : BitVec 32 := 512#32
  let v22 : BitVec 32 := Scalar.muli v14 c512_i32_10
  v22
def k0_mult4 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_11 : BitVec 32 := 512#32
  let v24 : BitVec 32 := Scalar.muli v14 c512_i32_11
  v24
def k0_mult5 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_12 : BitVec 32 := 512#32
  let v26 : BitVec 32 := Scalar.muli v14 c512_i32_12
  v26
def k0_mult6 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_13 : BitVec 32 := 512#32
  let v28 : BitVec 32 := Scalar.muli v14 c512_i32_13
  v28
def k0_mult7 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32 : BitVec 32 := 2816#32
  let v30 : BitVec 32 := Scalar.muli v14 c2816_i32
  v30
def k0_mult8 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1408_i32 : BitVec 32 := 1408#32
  let v32 : BitVec 32 := Scalar.muli v14 c1408_i32
  v32
def k0_off1 (d0 : Dev nD) : Fin 3 → Nat :=
  let c2_i32_8 : BitVec 32 := 2#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c0_i32_14 : BitVec 32 := 0#32
  let c0_i32_15 : BitVec 32 := 0#32
  ![v16.toNat, 0, 0]
def k0_off2 (d0 : Dev nD) : Fin 2 → Nat :=
  let c0_i32_16 : BitVec 32 := 0#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32 : BitVec 32 := 1536#32
  let v18 : BitVec 32 := Scalar.muli v14 c1536_i32
  let v19 : BitVec 32 := v18
  ![0, v19.toNat]
def k0_mult9 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32_17 : BitVec 32 := 1536#32
  let v39 : BitVec 32 := Scalar.muli v14 c1536_i32_17
  v39
def k0_dev1 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v41 : BitVec 32 := Scalar.muli v2 c4_i32_20
  let v42 : BitVec 32 := Scalar.addi c0_i32_21 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v43 : BitVec 32 := Scalar.muli v5 c2_i32_22
  let v44 : BitVec 32 := Scalar.addi v42 v43
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_23 : BitVec 32 := 1#32
  let v45 : BitVec 32 := Scalar.muli v17 c1_i32_23
  let v46 : BitVec 32 := Scalar.addi v44 v45
  v46.toNat
def k0_mult10 (d0 : Dev nD) : BitVec 32 :=
  let c2_i32_27 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v54 : BitVec 32 := Scalar.muli c2_i32_27 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.addi v54 v5
  let c1536_i32_28 : BitVec 32 := 1536#32
  let v56 : BitVec 32 := Scalar.muli v55 c1536_i32_28
  v56
def k0_off3 (d0 : Dev nD) : Fin 2 → Nat :=
  let c0_i32_37 : BitVec 32 := 0#32
  let c2_i32_27 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v54 : BitVec 32 := Scalar.muli c2_i32_27 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.addi v54 v5
  let c1536_i32_28 : BitVec 32 := 1536#32
  let v56 : BitVec 32 := Scalar.muli v55 c1536_i32_28
  let v57 : BitVec 32 := v56
  ![0, v57.toNat]
def k0_dev2 (d0 : Dev nD) : Nat :=
  let c0_i32_32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_31 : BitVec 32 := 4#32
  let v58 : BitVec 32 := Scalar.muli v9 c4_i32_31
  let v59 : BitVec 32 := Scalar.addi c0_i32_32 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v60 : BitVec 32 := Scalar.muli v5 c2_i32_33
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v62 : BitVec 32 := Scalar.muli v8 c1_i32_34
  let v63 : BitVec 32 := Scalar.addi v61 v62
  v63.toNat
def k0_mult11 (d0 : Dev nD) : BitVec 32 :=
  let c2_i32_38 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v71 : BitVec 32 := Scalar.muli c2_i32_38 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v72 : BitVec 32 := Scalar.addi v71 v10
  let c1536_i32_39 : BitVec 32 := 1536#32
  let v73 : BitVec 32 := Scalar.muli v72 c1536_i32_39
  v73
def k0_off4 (d0 : Dev nD) : Fin 2 → Nat :=
  let c0_i32_48 : BitVec 32 := 0#32
  let c2_i32_38 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v71 : BitVec 32 := Scalar.muli c2_i32_38 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v72 : BitVec 32 := Scalar.addi v71 v10
  let c1536_i32_39 : BitVec 32 := 1536#32
  let v73 : BitVec 32 := Scalar.muli v72 c1536_i32_39
  let v74 : BitVec 32 := v73
  ![0, v74.toNat]
def k0_dev3 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v75 : BitVec 32 := Scalar.muli v2 c4_i32_42
  let v76 : BitVec 32 := Scalar.addi c0_i32_43 v75
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_44 : BitVec 32 := 2#32
  let v77 : BitVec 32 := Scalar.muli v10 c2_i32_44
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v79 : BitVec 32 := Scalar.muli v8 c1_i32_45
  let v80 : BitVec 32 := Scalar.addi v78 v79
  v80.toNat
def k0_mult12 (d0 : Dev nD) : BitVec 32 :=
  let c2_i32_49 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v88 : BitVec 32 := Scalar.muli c2_i32_49 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v89 : BitVec 32 := Scalar.addi v88 v12
  let c1536_i32_50 : BitVec 32 := 1536#32
  let v90 : BitVec 32 := Scalar.muli v89 c1536_i32_50
  v90
def k0_off5 (d0 : Dev nD) : Fin 2 → Nat :=
  let c0_i32_59 : BitVec 32 := 0#32
  let c2_i32_49 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v88 : BitVec 32 := Scalar.muli c2_i32_49 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v89 : BitVec 32 := Scalar.addi v88 v12
  let c1536_i32_50 : BitVec 32 := 1536#32
  let v90 : BitVec 32 := Scalar.muli v89 c1536_i32_50
  let v91 : BitVec 32 := v90
  ![0, v91.toNat]
def k0_dev4 (d0 : Dev nD) : Nat :=
  let c0_i32_54 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_53 : BitVec 32 := 4#32
  let v92 : BitVec 32 := Scalar.muli v11 c4_i32_53
  let v93 : BitVec 32 := Scalar.addi c0_i32_54 v92
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_55 : BitVec 32 := 2#32
  let v94 : BitVec 32 := Scalar.muli v12 c2_i32_55
  let v95 : BitVec 32 := Scalar.addi v93 v94
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v96 : BitVec 32 := Scalar.muli v8 c1_i32_56
  let v97 : BitVec 32 := Scalar.addi v95 v96
  v97.toNat
def k0_off6 (d0 : Dev nD) : Fin 3 → Nat :=
  let c2_i32_8 : BitVec 32 := 2#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c0_i32_61 : BitVec 32 := 0#32
  let c0_i32_62 : BitVec 32 := 0#32
  ![v16.toNat, 0, 0]
def k0_off7 (d0 : Dev nD) : Fin 2 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32 : BitVec 32 := 512#32
  let v20 : BitVec 32 := Scalar.muli v14 c512_i32
  let v21 : BitVec 32 := v20
  let c0_i32_63 : BitVec 32 := 0#32
  ![v21.toNat, 0]
def k0_mult13 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_64 : BitVec 32 := 512#32
  let v110 : BitVec 32 := Scalar.muli v14 c512_i32_64
  v110
def k0_dev5 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_67 : BitVec 32 := 4#32
  let v112 : BitVec 32 := Scalar.muli v2 c4_i32_67
  let v113 : BitVec 32 := Scalar.addi c0_i32_68 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v114 : BitVec 32 := Scalar.muli v5 c2_i32_69
  let v115 : BitVec 32 := Scalar.addi v113 v114
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_70 : BitVec 32 := 1#32
  let v116 : BitVec 32 := Scalar.muli v17 c1_i32_70
  let v117 : BitVec 32 := Scalar.addi v115 v116
  v117.toNat
def k0_mult14 (d0 : Dev nD) : BitVec 32 :=
  let c2_i32_74 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v125 : BitVec 32 := Scalar.muli c2_i32_74 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v126 : BitVec 32 := Scalar.addi v125 v5
  let c512_i32_75 : BitVec 32 := 512#32
  let v127 : BitVec 32 := Scalar.muli v126 c512_i32_75
  v127
def k0_off8 (d0 : Dev nD) : Fin 2 → Nat :=
  let c2_i32_74 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v125 : BitVec 32 := Scalar.muli c2_i32_74 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v126 : BitVec 32 := Scalar.addi v125 v5
  let c512_i32_75 : BitVec 32 := 512#32
  let v127 : BitVec 32 := Scalar.muli v126 c512_i32_75
  let v128 : BitVec 32 := v127
  let c0_i32_83 : BitVec 32 := 0#32
  ![v128.toNat, 0]
def k0_dev6 (d0 : Dev nD) : Nat :=
  let c0_i32_78 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_77 : BitVec 32 := 4#32
  let v129 : BitVec 32 := Scalar.muli v9 c4_i32_77
  let v130 : BitVec 32 := Scalar.addi c0_i32_78 v129
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v131 : BitVec 32 := Scalar.muli v5 c2_i32_79
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v133 : BitVec 32 := Scalar.muli v8 c1_i32_80
  let v134 : BitVec 32 := Scalar.addi v132 v133
  v134.toNat
def k0_mult15 (d0 : Dev nD) : BitVec 32 :=
  let c2_i32_84 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v142 : BitVec 32 := Scalar.muli c2_i32_84 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v143 : BitVec 32 := Scalar.addi v142 v10
  let c512_i32_85 : BitVec 32 := 512#32
  let v144 : BitVec 32 := Scalar.muli v143 c512_i32_85
  v144
def k0_off9 (d0 : Dev nD) : Fin 2 → Nat :=
  let c2_i32_84 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v142 : BitVec 32 := Scalar.muli c2_i32_84 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v143 : BitVec 32 := Scalar.addi v142 v10
  let c512_i32_85 : BitVec 32 := 512#32
  let v144 : BitVec 32 := Scalar.muli v143 c512_i32_85
  let v145 : BitVec 32 := v144
  let c0_i32_94 : BitVec 32 := 0#32
  ![v145.toNat, 0]
def k0_dev7 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v146 : BitVec 32 := Scalar.muli v2 c4_i32_88
  let v147 : BitVec 32 := Scalar.addi c0_i32_89 v146
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_90 : BitVec 32 := 2#32
  let v148 : BitVec 32 := Scalar.muli v10 c2_i32_90
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v150 : BitVec 32 := Scalar.muli v8 c1_i32_91
  let v151 : BitVec 32 := Scalar.addi v149 v150
  v151.toNat
def k0_mult16 (d0 : Dev nD) : BitVec 32 :=
  let c2_i32_95 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v159 : BitVec 32 := Scalar.muli c2_i32_95 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v160 : BitVec 32 := Scalar.addi v159 v12
  let c512_i32_96 : BitVec 32 := 512#32
  let v161 : BitVec 32 := Scalar.muli v160 c512_i32_96
  v161
def k0_off10 (d0 : Dev nD) : Fin 2 → Nat :=
  let c2_i32_95 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v159 : BitVec 32 := Scalar.muli c2_i32_95 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v160 : BitVec 32 := Scalar.addi v159 v12
  let c512_i32_96 : BitVec 32 := 512#32
  let v161 : BitVec 32 := Scalar.muli v160 c512_i32_96
  let v162 : BitVec 32 := v161
  let c0_i32_104 : BitVec 32 := 0#32
  ![v162.toNat, 0]
def k0_dev8 (d0 : Dev nD) : Nat :=
  let c0_i32_99 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_98 : BitVec 32 := 4#32
  let v163 : BitVec 32 := Scalar.muli v11 c4_i32_98
  let v164 : BitVec 32 := Scalar.addi c0_i32_99 v163
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_100 : BitVec 32 := 2#32
  let v165 : BitVec 32 := Scalar.muli v12 c2_i32_100
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v167 : BitVec 32 := Scalar.muli v8 c1_i32_101
  let v168 : BitVec 32 := Scalar.addi v166 v167
  v168.toNat
def k0_mult17 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_109 : BitVec 32 := 512#32
  let v181 : BitVec 32 := Scalar.muli v14 c512_i32_109
  v181
def k0_dev9 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v183 : BitVec 32 := Scalar.muli v2 c4_i32_112
  let v184 : BitVec 32 := Scalar.addi c0_i32_113 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v185 : BitVec 32 := Scalar.muli v5 c2_i32_114
  let v186 : BitVec 32 := Scalar.addi v184 v185
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_115 : BitVec 32 := 1#32
  let v187 : BitVec 32 := Scalar.muli v17 c1_i32_115
  let v188 : BitVec 32 := Scalar.addi v186 v187
  v188.toNat
def k0_mult18 (d0 : Dev nD) : BitVec 32 :=
  let c2_i32_119 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v196 : BitVec 32 := Scalar.muli c2_i32_119 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v197 : BitVec 32 := Scalar.addi v196 v5
  let c512_i32_120 : BitVec 32 := 512#32
  let v198 : BitVec 32 := Scalar.muli v197 c512_i32_120
  v198
def k0_dev10 (d0 : Dev nD) : Nat :=
  let c0_i32_123 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_122 : BitVec 32 := 4#32
  let v200 : BitVec 32 := Scalar.muli v9 c4_i32_122
  let v201 : BitVec 32 := Scalar.addi c0_i32_123 v200
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_124 : BitVec 32 := 2#32
  let v202 : BitVec 32 := Scalar.muli v5 c2_i32_124
  let v203 : BitVec 32 := Scalar.addi v201 v202
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v204 : BitVec 32 := Scalar.muli v8 c1_i32_125
  let v205 : BitVec 32 := Scalar.addi v203 v204
  v205.toNat
def k0_mult19 (d0 : Dev nD) : BitVec 32 :=
  let c2_i32_129 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v213 : BitVec 32 := Scalar.muli c2_i32_129 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v214 : BitVec 32 := Scalar.addi v213 v10
  let c512_i32_130 : BitVec 32 := 512#32
  let v215 : BitVec 32 := Scalar.muli v214 c512_i32_130
  v215
def k0_dev11 (d0 : Dev nD) : Nat :=
  let c0_i32_133 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_132 : BitVec 32 := 4#32
  let v217 : BitVec 32 := Scalar.muli v2 c4_i32_132
  let v218 : BitVec 32 := Scalar.addi c0_i32_133 v217
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_134 : BitVec 32 := 2#32
  let v219 : BitVec 32 := Scalar.muli v10 c2_i32_134
  let v220 : BitVec 32 := Scalar.addi v218 v219
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v221 : BitVec 32 := Scalar.muli v8 c1_i32_135
  let v222 : BitVec 32 := Scalar.addi v220 v221
  v222.toNat
def k0_mult20 (d0 : Dev nD) : BitVec 32 :=
  let c2_i32_139 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v230 : BitVec 32 := Scalar.muli c2_i32_139 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v231 : BitVec 32 := Scalar.addi v230 v12
  let c512_i32_140 : BitVec 32 := 512#32
  let v232 : BitVec 32 := Scalar.muli v231 c512_i32_140
  v232
def k0_dev12 (d0 : Dev nD) : Nat :=
  let c0_i32_143 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_142 : BitVec 32 := 4#32
  let v234 : BitVec 32 := Scalar.muli v11 c4_i32_142
  let v235 : BitVec 32 := Scalar.addi c0_i32_143 v234
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_144 : BitVec 32 := 2#32
  let v236 : BitVec 32 := Scalar.muli v12 c2_i32_144
  let v237 : BitVec 32 := Scalar.addi v235 v236
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v238 : BitVec 32 := Scalar.muli v8 c1_i32_145
  let v239 : BitVec 32 := Scalar.addi v237 v238
  v239.toNat
def k0_mult21 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_153 : BitVec 32 := 512#32
  let v252 : BitVec 32 := Scalar.muli v14 c512_i32_153
  v252
def k0_dev13 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_156 : BitVec 32 := 4#32
  let v254 : BitVec 32 := Scalar.muli v2 c4_i32_156
  let v255 : BitVec 32 := Scalar.addi c0_i32_157 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_158 : BitVec 32 := 2#32
  let v256 : BitVec 32 := Scalar.muli v5 c2_i32_158
  let v257 : BitVec 32 := Scalar.addi v255 v256
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_159 : BitVec 32 := 1#32
  let v258 : BitVec 32 := Scalar.muli v17 c1_i32_159
  let v259 : BitVec 32 := Scalar.addi v257 v258
  v259.toNat
def k0_mult22 (d0 : Dev nD) : BitVec 32 :=
  let c2_i32_163 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v267 : BitVec 32 := Scalar.muli c2_i32_163 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v268 : BitVec 32 := Scalar.addi v267 v5
  let c512_i32_164 : BitVec 32 := 512#32
  let v269 : BitVec 32 := Scalar.muli v268 c512_i32_164
  v269
def k0_dev14 (d0 : Dev nD) : Nat :=
  let c0_i32_167 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_166 : BitVec 32 := 4#32
  let v271 : BitVec 32 := Scalar.muli v9 c4_i32_166
  let v272 : BitVec 32 := Scalar.addi c0_i32_167 v271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v273 : BitVec 32 := Scalar.muli v5 c2_i32_168
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_169 : BitVec 32 := 1#32
  let v275 : BitVec 32 := Scalar.muli v8 c1_i32_169
  let v276 : BitVec 32 := Scalar.addi v274 v275
  v276.toNat
def k0_mult23 (d0 : Dev nD) : BitVec 32 :=
  let c2_i32_173 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v284 : BitVec 32 := Scalar.muli c2_i32_173 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v285 : BitVec 32 := Scalar.addi v284 v10
  let c512_i32_174 : BitVec 32 := 512#32
  let v286 : BitVec 32 := Scalar.muli v285 c512_i32_174
  v286
def k0_dev15 (d0 : Dev nD) : Nat :=
  let c0_i32_177 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_176 : BitVec 32 := 4#32
  let v288 : BitVec 32 := Scalar.muli v2 c4_i32_176
  let v289 : BitVec 32 := Scalar.addi c0_i32_177 v288
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_178 : BitVec 32 := 2#32
  let v290 : BitVec 32 := Scalar.muli v10 c2_i32_178
  let v291 : BitVec 32 := Scalar.addi v289 v290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v292 : BitVec 32 := Scalar.muli v8 c1_i32_179
  let v293 : BitVec 32 := Scalar.addi v291 v292
  v293.toNat
def k0_mult24 (d0 : Dev nD) : BitVec 32 :=
  let c2_i32_183 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v301 : BitVec 32 := Scalar.muli c2_i32_183 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v302 : BitVec 32 := Scalar.addi v301 v12
  let c512_i32_184 : BitVec 32 := 512#32
  let v303 : BitVec 32 := Scalar.muli v302 c512_i32_184
  v303
def k0_dev16 (d0 : Dev nD) : Nat :=
  let c0_i32_187 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_186 : BitVec 32 := 4#32
  let v305 : BitVec 32 := Scalar.muli v11 c4_i32_186
  let v306 : BitVec 32 := Scalar.addi c0_i32_187 v305
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_188 : BitVec 32 := 2#32
  let v307 : BitVec 32 := Scalar.muli v12 c2_i32_188
  let v308 : BitVec 32 := Scalar.addi v306 v307
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_189 : BitVec 32 := 1#32
  let v309 : BitVec 32 := Scalar.muli v8 c1_i32_189
  let v310 : BitVec 32 := Scalar.addi v308 v309
  v310.toNat
def k0_mult25 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_197 : BitVec 32 := 512#32
  let v323 : BitVec 32 := Scalar.muli v14 c512_i32_197
  v323
def k0_dev17 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_200 : BitVec 32 := 4#32
  let v325 : BitVec 32 := Scalar.muli v2 c4_i32_200
  let v326 : BitVec 32 := Scalar.addi c0_i32_201 v325
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_202 : BitVec 32 := 2#32
  let v327 : BitVec 32 := Scalar.muli v5 c2_i32_202
  let v328 : BitVec 32 := Scalar.addi v326 v327
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_203 : BitVec 32 := 1#32
  let v329 : BitVec 32 := Scalar.muli v17 c1_i32_203
  let v330 : BitVec 32 := Scalar.addi v328 v329
  v330.toNat
def k0_mult26 (d0 : Dev nD) : BitVec 32 :=
  let c2_i32_207 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v338 : BitVec 32 := Scalar.muli c2_i32_207 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v339 : BitVec 32 := Scalar.addi v338 v5
  let c512_i32_208 : BitVec 32 := 512#32
  let v340 : BitVec 32 := Scalar.muli v339 c512_i32_208
  v340
def k0_dev18 (d0 : Dev nD) : Nat :=
  let c0_i32_211 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_210 : BitVec 32 := 4#32
  let v342 : BitVec 32 := Scalar.muli v9 c4_i32_210
  let v343 : BitVec 32 := Scalar.addi c0_i32_211 v342
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_212 : BitVec 32 := 2#32
  let v344 : BitVec 32 := Scalar.muli v5 c2_i32_212
  let v345 : BitVec 32 := Scalar.addi v343 v344
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_213 : BitVec 32 := 1#32
  let v346 : BitVec 32 := Scalar.muli v8 c1_i32_213
  let v347 : BitVec 32 := Scalar.addi v345 v346
  v347.toNat
def k0_mult27 (d0 : Dev nD) : BitVec 32 :=
  let c2_i32_217 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v355 : BitVec 32 := Scalar.muli c2_i32_217 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v356 : BitVec 32 := Scalar.addi v355 v10
  let c512_i32_218 : BitVec 32 := 512#32
  let v357 : BitVec 32 := Scalar.muli v356 c512_i32_218
  v357
def k0_dev19 (d0 : Dev nD) : Nat :=
  let c0_i32_221 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_220 : BitVec 32 := 4#32
  let v359 : BitVec 32 := Scalar.muli v2 c4_i32_220
  let v360 : BitVec 32 := Scalar.addi c0_i32_221 v359
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_222 : BitVec 32 := 2#32
  let v361 : BitVec 32 := Scalar.muli v10 c2_i32_222
  let v362 : BitVec 32 := Scalar.addi v360 v361
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_223 : BitVec 32 := 1#32
  let v363 : BitVec 32 := Scalar.muli v8 c1_i32_223
  let v364 : BitVec 32 := Scalar.addi v362 v363
  v364.toNat
def k0_mult28 (d0 : Dev nD) : BitVec 32 :=
  let c2_i32_227 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v372 : BitVec 32 := Scalar.muli c2_i32_227 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v373 : BitVec 32 := Scalar.addi v372 v12
  let c512_i32_228 : BitVec 32 := 512#32
  let v374 : BitVec 32 := Scalar.muli v373 c512_i32_228
  v374
def k0_dev20 (d0 : Dev nD) : Nat :=
  let c0_i32_231 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_230 : BitVec 32 := 4#32
  let v376 : BitVec 32 := Scalar.muli v11 c4_i32_230
  let v377 : BitVec 32 := Scalar.addi c0_i32_231 v376
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_232 : BitVec 32 := 2#32
  let v378 : BitVec 32 := Scalar.muli v12 c2_i32_232
  let v379 : BitVec 32 := Scalar.addi v377 v378
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_233 : BitVec 32 := 1#32
  let v380 : BitVec 32 := Scalar.muli v8 c1_i32_233
  let v381 : BitVec 32 := Scalar.addi v379 v380
  v381.toNat
def k0_mult29 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_241 : BitVec 32 := 512#32
  let v394 : BitVec 32 := Scalar.muli v14 c512_i32_241
  v394
def k0_dev21 (d0 : Dev nD) : Nat :=
  let c0_i32_245 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_244 : BitVec 32 := 4#32
  let v396 : BitVec 32 := Scalar.muli v2 c4_i32_244
  let v397 : BitVec 32 := Scalar.addi c0_i32_245 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_246 : BitVec 32 := 2#32
  let v398 : BitVec 32 := Scalar.muli v5 c2_i32_246
  let v399 : BitVec 32 := Scalar.addi v397 v398
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_247 : BitVec 32 := 1#32
  let v400 : BitVec 32 := Scalar.muli v17 c1_i32_247
  let v401 : BitVec 32 := Scalar.addi v399 v400
  v401.toNat
def k0_mult30 (d0 : Dev nD) : BitVec 32 :=
  let c2_i32_251 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v409 : BitVec 32 := Scalar.muli c2_i32_251 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v410 : BitVec 32 := Scalar.addi v409 v5
  let c512_i32_252 : BitVec 32 := 512#32
  let v411 : BitVec 32 := Scalar.muli v410 c512_i32_252
  v411
def k0_dev22 (d0 : Dev nD) : Nat :=
  let c0_i32_255 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_254 : BitVec 32 := 4#32
  let v413 : BitVec 32 := Scalar.muli v9 c4_i32_254
  let v414 : BitVec 32 := Scalar.addi c0_i32_255 v413
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_256 : BitVec 32 := 2#32
  let v415 : BitVec 32 := Scalar.muli v5 c2_i32_256
  let v416 : BitVec 32 := Scalar.addi v414 v415
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v417 : BitVec 32 := Scalar.muli v8 c1_i32_257
  let v418 : BitVec 32 := Scalar.addi v416 v417
  v418.toNat
def k0_mult31 (d0 : Dev nD) : BitVec 32 :=
  let c2_i32_261 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v426 : BitVec 32 := Scalar.muli c2_i32_261 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v427 : BitVec 32 := Scalar.addi v426 v10
  let c512_i32_262 : BitVec 32 := 512#32
  let v428 : BitVec 32 := Scalar.muli v427 c512_i32_262
  v428
def k0_dev23 (d0 : Dev nD) : Nat :=
  let c0_i32_265 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_264 : BitVec 32 := 4#32
  let v430 : BitVec 32 := Scalar.muli v2 c4_i32_264
  let v431 : BitVec 32 := Scalar.addi c0_i32_265 v430
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_266 : BitVec 32 := 2#32
  let v432 : BitVec 32 := Scalar.muli v10 c2_i32_266
  let v433 : BitVec 32 := Scalar.addi v431 v432
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_267 : BitVec 32 := 1#32
  let v434 : BitVec 32 := Scalar.muli v8 c1_i32_267
  let v435 : BitVec 32 := Scalar.addi v433 v434
  v435.toNat
def k0_mult32 (d0 : Dev nD) : BitVec 32 :=
  let c2_i32_271 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v443 : BitVec 32 := Scalar.muli c2_i32_271 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v444 : BitVec 32 := Scalar.addi v443 v12
  let c512_i32_272 : BitVec 32 := 512#32
  let v445 : BitVec 32 := Scalar.muli v444 c512_i32_272
  v445
def k0_dev24 (d0 : Dev nD) : Nat :=
  let c0_i32_275 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_274 : BitVec 32 := 4#32
  let v447 : BitVec 32 := Scalar.muli v11 c4_i32_274
  let v448 : BitVec 32 := Scalar.addi c0_i32_275 v447
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_276 : BitVec 32 := 2#32
  let v449 : BitVec 32 := Scalar.muli v12 c2_i32_276
  let v450 : BitVec 32 := Scalar.addi v448 v449
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_277 : BitVec 32 := 1#32
  let v451 : BitVec 32 := Scalar.muli v8 c1_i32_277
  let v452 : BitVec 32 := Scalar.addi v450 v451
  v452.toNat
def k0_off11 (d0 : Dev nD) : Fin 3 → Nat :=
  let c2_i32_8 : BitVec 32 := 2#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c0_i32_282 : BitVec 32 := 0#32
  let c0_i32_283 : BitVec 32 := 0#32
  ![v16.toNat, 0, 0]
def k0_off12 (d0 : Dev nD) : Fin 2 → Nat :=
  let c0_i32_284 : BitVec 32 := 0#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32 : BitVec 32 := 2816#32
  let v30 : BitVec 32 := Scalar.muli v14 c2816_i32
  let v31 : BitVec 32 := v30
  ![0, v31.toNat]
def k0_mult33 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_285 : BitVec 32 := 2816#32
  let v465 : BitVec 32 := Scalar.muli v14 c2816_i32_285
  v465
def k0_dev25 (d0 : Dev nD) : Nat :=
  let c0_i32_289 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_288 : BitVec 32 := 4#32
  let v467 : BitVec 32 := Scalar.muli v2 c4_i32_288
  let v468 : BitVec 32 := Scalar.addi c0_i32_289 v467
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_290 : BitVec 32 := 2#32
  let v469 : BitVec 32 := Scalar.muli v5 c2_i32_290
  let v470 : BitVec 32 := Scalar.addi v468 v469
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_291 : BitVec 32 := 1#32
  let v471 : BitVec 32 := Scalar.muli v17 c1_i32_291
  let v472 : BitVec 32 := Scalar.addi v470 v471
  v472.toNat
def k0_mult34 (d0 : Dev nD) : BitVec 32 :=
  let c2_i32_295 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v480 : BitVec 32 := Scalar.muli c2_i32_295 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v481 : BitVec 32 := Scalar.addi v480 v5
  let c2816_i32_296 : BitVec 32 := 2816#32
  let v482 : BitVec 32 := Scalar.muli v481 c2816_i32_296
  v482
def k0_off13 (d0 : Dev nD) : Fin 2 → Nat :=
  let c0_i32_304 : BitVec 32 := 0#32
  let c2_i32_295 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v480 : BitVec 32 := Scalar.muli c2_i32_295 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v481 : BitVec 32 := Scalar.addi v480 v5
  let c2816_i32_296 : BitVec 32 := 2816#32
  let v482 : BitVec 32 := Scalar.muli v481 c2816_i32_296
  let v483 : BitVec 32 := v482
  ![0, v483.toNat]
def k0_dev26 (d0 : Dev nD) : Nat :=
  let c0_i32_299 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_298 : BitVec 32 := 4#32
  let v484 : BitVec 32 := Scalar.muli v9 c4_i32_298
  let v485 : BitVec 32 := Scalar.addi c0_i32_299 v484
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_300 : BitVec 32 := 2#32
  let v486 : BitVec 32 := Scalar.muli v5 c2_i32_300
  let v487 : BitVec 32 := Scalar.addi v485 v486
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_301 : BitVec 32 := 1#32
  let v488 : BitVec 32 := Scalar.muli v8 c1_i32_301
  let v489 : BitVec 32 := Scalar.addi v487 v488
  v489.toNat
def k0_mult35 (d0 : Dev nD) : BitVec 32 :=
  let c2_i32_305 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v497 : BitVec 32 := Scalar.muli c2_i32_305 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v498 : BitVec 32 := Scalar.addi v497 v10
  let c2816_i32_306 : BitVec 32 := 2816#32
  let v499 : BitVec 32 := Scalar.muli v498 c2816_i32_306
  v499
def k0_off14 (d0 : Dev nD) : Fin 2 → Nat :=
  let c0_i32_314 : BitVec 32 := 0#32
  let c2_i32_305 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v497 : BitVec 32 := Scalar.muli c2_i32_305 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v498 : BitVec 32 := Scalar.addi v497 v10
  let c2816_i32_306 : BitVec 32 := 2816#32
  let v499 : BitVec 32 := Scalar.muli v498 c2816_i32_306
  let v500 : BitVec 32 := v499
  ![0, v500.toNat]
def k0_dev27 (d0 : Dev nD) : Nat :=
  let c0_i32_309 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_308 : BitVec 32 := 4#32
  let v501 : BitVec 32 := Scalar.muli v2 c4_i32_308
  let v502 : BitVec 32 := Scalar.addi c0_i32_309 v501
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_310 : BitVec 32 := 2#32
  let v503 : BitVec 32 := Scalar.muli v10 c2_i32_310
  let v504 : BitVec 32 := Scalar.addi v502 v503
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_311 : BitVec 32 := 1#32
  let v505 : BitVec 32 := Scalar.muli v8 c1_i32_311
  let v506 : BitVec 32 := Scalar.addi v504 v505
  v506.toNat
def k0_mult36 (d0 : Dev nD) : BitVec 32 :=
  let c2_i32_315 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v514 : BitVec 32 := Scalar.muli c2_i32_315 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v515 : BitVec 32 := Scalar.addi v514 v12
  let c2816_i32_316 : BitVec 32 := 2816#32
  let v516 : BitVec 32 := Scalar.muli v515 c2816_i32_316
  v516
def k0_off15 (d0 : Dev nD) : Fin 2 → Nat :=
  let c0_i32_324 : BitVec 32 := 0#32
  let c2_i32_315 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v514 : BitVec 32 := Scalar.muli c2_i32_315 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v515 : BitVec 32 := Scalar.addi v514 v12
  let c2816_i32_316 : BitVec 32 := 2816#32
  let v516 : BitVec 32 := Scalar.muli v515 c2816_i32_316
  let v517 : BitVec 32 := v516
  ![0, v517.toNat]
def k0_dev28 (d0 : Dev nD) : Nat :=
  let c0_i32_319 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_318 : BitVec 32 := 4#32
  let v518 : BitVec 32 := Scalar.muli v11 c4_i32_318
  let v519 : BitVec 32 := Scalar.addi c0_i32_319 v518
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_320 : BitVec 32 := 2#32
  let v520 : BitVec 32 := Scalar.muli v12 c2_i32_320
  let v521 : BitVec 32 := Scalar.addi v519 v520
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_321 : BitVec 32 := 1#32
  let v522 : BitVec 32 := Scalar.muli v8 c1_i32_321
  let v523 : BitVec 32 := Scalar.addi v521 v522
  v523.toNat
def k0_off16 (d0 : Dev nD) : Fin 3 → Nat :=
  let c2_i32_8 : BitVec 32 := 2#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c0_i32_326 : BitVec 32 := 0#32
  let c0_i32_327 : BitVec 32 := 0#32
  ![v16.toNat, 0, 0]
def k0_off17 (d0 : Dev nD) : Fin 2 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1408_i32 : BitVec 32 := 1408#32
  let v32 : BitVec 32 := Scalar.muli v14 c1408_i32
  let v33 : BitVec 32 := v32
  let c0_i32_328 : BitVec 32 := 0#32
  ![v33.toNat, 0]
def k0_mult37 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1408_i32_329 : BitVec 32 := 1408#32
  let v536 : BitVec 32 := Scalar.muli v14 c1408_i32_329
  v536
def k0_dev29 (d0 : Dev nD) : Nat :=
  let c0_i32_333 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_332 : BitVec 32 := 4#32
  let v538 : BitVec 32 := Scalar.muli v2 c4_i32_332
  let v539 : BitVec 32 := Scalar.addi c0_i32_333 v538
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_334 : BitVec 32 := 2#32
  let v540 : BitVec 32 := Scalar.muli v5 c2_i32_334
  let v541 : BitVec 32 := Scalar.addi v539 v540
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_335 : BitVec 32 := 1#32
  let v542 : BitVec 32 := Scalar.muli v17 c1_i32_335
  let v543 : BitVec 32 := Scalar.addi v541 v542
  v543.toNat
def k0_mult38 (d0 : Dev nD) : BitVec 32 :=
  let c2_i32_339 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v551 : BitVec 32 := Scalar.muli c2_i32_339 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v552 : BitVec 32 := Scalar.addi v551 v5
  let c1408_i32_340 : BitVec 32 := 1408#32
  let v553 : BitVec 32 := Scalar.muli v552 c1408_i32_340
  v553
def k0_off18 (d0 : Dev nD) : Fin 2 → Nat :=
  let c2_i32_339 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v551 : BitVec 32 := Scalar.muli c2_i32_339 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v552 : BitVec 32 := Scalar.addi v551 v5
  let c1408_i32_340 : BitVec 32 := 1408#32
  let v553 : BitVec 32 := Scalar.muli v552 c1408_i32_340
  let v554 : BitVec 32 := v553
  let c0_i32_348 : BitVec 32 := 0#32
  ![v554.toNat, 0]
def k0_dev30 (d0 : Dev nD) : Nat :=
  let c0_i32_343 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_342 : BitVec 32 := 4#32
  let v555 : BitVec 32 := Scalar.muli v9 c4_i32_342
  let v556 : BitVec 32 := Scalar.addi c0_i32_343 v555
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_344 : BitVec 32 := 2#32
  let v557 : BitVec 32 := Scalar.muli v5 c2_i32_344
  let v558 : BitVec 32 := Scalar.addi v556 v557
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_345 : BitVec 32 := 1#32
  let v559 : BitVec 32 := Scalar.muli v8 c1_i32_345
  let v560 : BitVec 32 := Scalar.addi v558 v559
  v560.toNat
def k0_mult39 (d0 : Dev nD) : BitVec 32 :=
  let c2_i32_349 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v568 : BitVec 32 := Scalar.muli c2_i32_349 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v569 : BitVec 32 := Scalar.addi v568 v10
  let c1408_i32_350 : BitVec 32 := 1408#32
  let v570 : BitVec 32 := Scalar.muli v569 c1408_i32_350
  v570
def k0_off19 (d0 : Dev nD) : Fin 2 → Nat :=
  let c2_i32_349 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v568 : BitVec 32 := Scalar.muli c2_i32_349 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v569 : BitVec 32 := Scalar.addi v568 v10
  let c1408_i32_350 : BitVec 32 := 1408#32
  let v570 : BitVec 32 := Scalar.muli v569 c1408_i32_350
  let v571 : BitVec 32 := v570
  let c0_i32_358 : BitVec 32 := 0#32
  ![v571.toNat, 0]
def k0_dev31 (d0 : Dev nD) : Nat :=
  let c0_i32_353 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_352 : BitVec 32 := 4#32
  let v572 : BitVec 32 := Scalar.muli v2 c4_i32_352
  let v573 : BitVec 32 := Scalar.addi c0_i32_353 v572
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_354 : BitVec 32 := 2#32
  let v574 : BitVec 32 := Scalar.muli v10 c2_i32_354
  let v575 : BitVec 32 := Scalar.addi v573 v574
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_355 : BitVec 32 := 1#32
  let v576 : BitVec 32 := Scalar.muli v8 c1_i32_355
  let v577 : BitVec 32 := Scalar.addi v575 v576
  v577.toNat
def k0_mult40 (d0 : Dev nD) : BitVec 32 :=
  let c2_i32_359 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v585 : BitVec 32 := Scalar.muli c2_i32_359 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v586 : BitVec 32 := Scalar.addi v585 v12
  let c1408_i32_360 : BitVec 32 := 1408#32
  let v587 : BitVec 32 := Scalar.muli v586 c1408_i32_360
  v587
def k0_off20 (d0 : Dev nD) : Fin 2 → Nat :=
  let c2_i32_359 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v585 : BitVec 32 := Scalar.muli c2_i32_359 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v586 : BitVec 32 := Scalar.addi v585 v12
  let c1408_i32_360 : BitVec 32 := 1408#32
  let v587 : BitVec 32 := Scalar.muli v586 c1408_i32_360
  let v588 : BitVec 32 := v587
  let c0_i32_368 : BitVec 32 := 0#32
  ![v588.toNat, 0]
def k0_dev32 (d0 : Dev nD) : Nat :=
  let c0_i32_363 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_362 : BitVec 32 := 4#32
  let v589 : BitVec 32 := Scalar.muli v11 c4_i32_362
  let v590 : BitVec 32 := Scalar.addi c0_i32_363 v589
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_364 : BitVec 32 := 2#32
  let v591 : BitVec 32 := Scalar.muli v12 c2_i32_364
  let v592 : BitVec 32 := Scalar.addi v590 v591
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v593 : BitVec 32 := Scalar.muli v8 c1_i32_365
  let v594 : BitVec 32 := Scalar.addi v592 v593
  v594.toNat
def k0_mult41 (d0 : Dev nD) : BitVec 32 :=
  let c2_i32_371 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v606 : BitVec 32 := Scalar.muli c2_i32_371 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v607 : BitVec 32 := Scalar.addi v606 v5
  let c1536_i32_372 : BitVec 32 := 1536#32
  let v608 : BitVec 32 := Scalar.muli v607 c1536_i32_372
  v608
def k0_off21 (d0 : Dev nD) : Fin 3 → Nat :=
  let c2_i32_370 : BitVec 32 := 2#32
  let c2_i32_369 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v602 : BitVec 32 := Scalar.muli c2_i32_369 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v603 : BitVec 32 := Scalar.addi v602 v5
  let v604 : BitVec 32 := Scalar.muli c2_i32_370 v603
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v605 : BitVec 32 := Scalar.addi v604 v8
  let c0_i32_379 : BitVec 32 := 0#32
  let c0_i32_380 : BitVec 32 := 0#32
  ![v605.toNat, 0, 0]
def k0_dev33 (d0 : Dev nD) : Nat :=
  let c0_i32_385 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_384 : BitVec 32 := 4#32
  let v621 : BitVec 32 := Scalar.muli v2 c4_i32_384
  let v622 : BitVec 32 := Scalar.addi c0_i32_385 v621
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_386 : BitVec 32 := 2#32
  let v623 : BitVec 32 := Scalar.muli v5 c2_i32_386
  let v624 : BitVec 32 := Scalar.addi v622 v623
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_387 : BitVec 32 := 1#32
  let v625 : BitVec 32 := Scalar.muli v17 c1_i32_387
  let v626 : BitVec 32 := Scalar.addi v624 v625
  v626.toNat
def k0_mult42 (d0 : Dev nD) : BitVec 32 :=
  let c2_i32_394 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v639 : BitVec 32 := Scalar.muli c2_i32_394 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v640 : BitVec 32 := Scalar.addi v639 v10
  let c1536_i32_395 : BitVec 32 := 1536#32
  let v641 : BitVec 32 := Scalar.muli v640 c1536_i32_395
  v641
def k0_off22 (d0 : Dev nD) : Fin 3 → Nat :=
  let c2_i32_393 : BitVec 32 := 2#32
  let c2_i32_392 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v635 : BitVec 32 := Scalar.muli c2_i32_392 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v636 : BitVec 32 := Scalar.addi v635 v10
  let v637 : BitVec 32 := Scalar.muli c2_i32_393 v636
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v638 : BitVec 32 := Scalar.addi v637 v8
  let c0_i32_402 : BitVec 32 := 0#32
  let c0_i32_403 : BitVec 32 := 0#32
  ![v638.toNat, 0, 0]
def k0_dev34 (d0 : Dev nD) : Nat :=
  let c0_i32_408 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_407 : BitVec 32 := 4#32
  let v654 : BitVec 32 := Scalar.muli v2 c4_i32_407
  let v655 : BitVec 32 := Scalar.addi c0_i32_408 v654
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_409 : BitVec 32 := 2#32
  let v656 : BitVec 32 := Scalar.muli v5 c2_i32_409
  let v657 : BitVec 32 := Scalar.addi v655 v656
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_410 : BitVec 32 := 1#32
  let v658 : BitVec 32 := Scalar.muli v17 c1_i32_410
  let v659 : BitVec 32 := Scalar.addi v657 v658
  v659.toNat
def k0_mult43 (d0 : Dev nD) : BitVec 32 :=
  let c2_i32_417 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v672 : BitVec 32 := Scalar.muli c2_i32_417 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v673 : BitVec 32 := Scalar.addi v672 v12
  let c1536_i32_418 : BitVec 32 := 1536#32
  let v674 : BitVec 32 := Scalar.muli v673 c1536_i32_418
  v674
def k0_off23 (d0 : Dev nD) : Fin 3 → Nat :=
  let c2_i32_416 : BitVec 32 := 2#32
  let c2_i32_415 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v668 : BitVec 32 := Scalar.muli c2_i32_415 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v669 : BitVec 32 := Scalar.addi v668 v12
  let v670 : BitVec 32 := Scalar.muli c2_i32_416 v669
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v671 : BitVec 32 := Scalar.addi v670 v8
  let c0_i32_425 : BitVec 32 := 0#32
  let c0_i32_426 : BitVec 32 := 0#32
  ![v671.toNat, 0, 0]
def k0_dev35 (d0 : Dev nD) : Nat :=
  let c0_i32_431 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_430 : BitVec 32 := 4#32
  let v687 : BitVec 32 := Scalar.muli v2 c4_i32_430
  let v688 : BitVec 32 := Scalar.addi c0_i32_431 v687
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_432 : BitVec 32 := 2#32
  let v689 : BitVec 32 := Scalar.muli v5 c2_i32_432
  let v690 : BitVec 32 := Scalar.addi v688 v689
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_433 : BitVec 32 := 1#32
  let v691 : BitVec 32 := Scalar.muli v17 c1_i32_433
  let v692 : BitVec 32 := Scalar.addi v690 v691
  v692.toNat
def k0_mult44 (d0 : Dev nD) : BitVec 32 :=
  let c2_i32_440 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v705 : BitVec 32 := Scalar.muli c2_i32_440 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v706 : BitVec 32 := Scalar.addi v705 v5
  let c512_i32_441 : BitVec 32 := 512#32
  let v707 : BitVec 32 := Scalar.muli v706 c512_i32_441
  v707
def k0_off24 (d0 : Dev nD) : Fin 3 → Nat :=
  let c2_i32_439 : BitVec 32 := 2#32
  let c2_i32_438 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v701 : BitVec 32 := Scalar.muli c2_i32_438 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v702 : BitVec 32 := Scalar.addi v701 v5
  let v703 : BitVec 32 := Scalar.muli c2_i32_439 v702
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v704 : BitVec 32 := Scalar.addi v703 v8
  let c0_i32_448 : BitVec 32 := 0#32
  let c0_i32_449 : BitVec 32 := 0#32
  ![v704.toNat, 0, 0]
def k0_dev36 (d0 : Dev nD) : Nat :=
  let c0_i32_454 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_453 : BitVec 32 := 4#32
  let v720 : BitVec 32 := Scalar.muli v2 c4_i32_453
  let v721 : BitVec 32 := Scalar.addi c0_i32_454 v720
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_455 : BitVec 32 := 2#32
  let v722 : BitVec 32 := Scalar.muli v5 c2_i32_455
  let v723 : BitVec 32 := Scalar.addi v721 v722
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_456 : BitVec 32 := 1#32
  let v724 : BitVec 32 := Scalar.muli v17 c1_i32_456
  let v725 : BitVec 32 := Scalar.addi v723 v724
  v725.toNat
def k0_mult45 (d0 : Dev nD) : BitVec 32 :=
  let c2_i32_463 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v738 : BitVec 32 := Scalar.muli c2_i32_463 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v739 : BitVec 32 := Scalar.addi v738 v10
  let c512_i32_464 : BitVec 32 := 512#32
  let v740 : BitVec 32 := Scalar.muli v739 c512_i32_464
  v740
def k0_off25 (d0 : Dev nD) : Fin 3 → Nat :=
  let c2_i32_462 : BitVec 32 := 2#32
  let c2_i32_461 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v734 : BitVec 32 := Scalar.muli c2_i32_461 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v735 : BitVec 32 := Scalar.addi v734 v10
  let v736 : BitVec 32 := Scalar.muli c2_i32_462 v735
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v737 : BitVec 32 := Scalar.addi v736 v8
  let c0_i32_471 : BitVec 32 := 0#32
  let c0_i32_472 : BitVec 32 := 0#32
  ![v737.toNat, 0, 0]
def k0_dev37 (d0 : Dev nD) : Nat :=
  let c0_i32_477 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_476 : BitVec 32 := 4#32
  let v753 : BitVec 32 := Scalar.muli v2 c4_i32_476
  let v754 : BitVec 32 := Scalar.addi c0_i32_477 v753
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_478 : BitVec 32 := 2#32
  let v755 : BitVec 32 := Scalar.muli v5 c2_i32_478
  let v756 : BitVec 32 := Scalar.addi v754 v755
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_479 : BitVec 32 := 1#32
  let v757 : BitVec 32 := Scalar.muli v17 c1_i32_479
  let v758 : BitVec 32 := Scalar.addi v756 v757
  v758.toNat
def k0_mult46 (d0 : Dev nD) : BitVec 32 :=
  let c2_i32_486 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v771 : BitVec 32 := Scalar.muli c2_i32_486 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v772 : BitVec 32 := Scalar.addi v771 v12
  let c512_i32_487 : BitVec 32 := 512#32
  let v773 : BitVec 32 := Scalar.muli v772 c512_i32_487
  v773
def k0_off26 (d0 : Dev nD) : Fin 3 → Nat :=
  let c2_i32_485 : BitVec 32 := 2#32
  let c2_i32_484 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v767 : BitVec 32 := Scalar.muli c2_i32_484 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v768 : BitVec 32 := Scalar.addi v767 v12
  let v769 : BitVec 32 := Scalar.muli c2_i32_485 v768
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v770 : BitVec 32 := Scalar.addi v769 v8
  let c0_i32_494 : BitVec 32 := 0#32
  let c0_i32_495 : BitVec 32 := 0#32
  ![v770.toNat, 0, 0]
def k0_dev38 (d0 : Dev nD) : Nat :=
  let c0_i32_500 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_499 : BitVec 32 := 4#32
  let v786 : BitVec 32 := Scalar.muli v2 c4_i32_499
  let v787 : BitVec 32 := Scalar.addi c0_i32_500 v786
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_501 : BitVec 32 := 2#32
  let v788 : BitVec 32 := Scalar.muli v5 c2_i32_501
  let v789 : BitVec 32 := Scalar.addi v787 v788
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_502 : BitVec 32 := 1#32
  let v790 : BitVec 32 := Scalar.muli v17 c1_i32_502
  let v791 : BitVec 32 := Scalar.addi v789 v790
  v791.toNat
def k0_mult47 (d0 : Dev nD) : BitVec 32 :=
  let c2_i32_509 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v804 : BitVec 32 := Scalar.muli c2_i32_509 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v805 : BitVec 32 := Scalar.addi v804 v5
  let c512_i32_510 : BitVec 32 := 512#32
  let v806 : BitVec 32 := Scalar.muli v805 c512_i32_510
  v806
def k0_dev39 (d0 : Dev nD) : Nat :=
  let c0_i32_523 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_522 : BitVec 32 := 4#32
  let v819 : BitVec 32 := Scalar.muli v2 c4_i32_522
  let v820 : BitVec 32 := Scalar.addi c0_i32_523 v819
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_524 : BitVec 32 := 2#32
  let v821 : BitVec 32 := Scalar.muli v5 c2_i32_524
  let v822 : BitVec 32 := Scalar.addi v820 v821
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_525 : BitVec 32 := 1#32
  let v823 : BitVec 32 := Scalar.muli v17 c1_i32_525
  let v824 : BitVec 32 := Scalar.addi v822 v823
  v824.toNat
def k0_mult48 (d0 : Dev nD) : BitVec 32 :=
  let c2_i32_532 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v837 : BitVec 32 := Scalar.muli c2_i32_532 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v838 : BitVec 32 := Scalar.addi v837 v10
  let c512_i32_533 : BitVec 32 := 512#32
  let v839 : BitVec 32 := Scalar.muli v838 c512_i32_533
  v839
def k0_dev40 (d0 : Dev nD) : Nat :=
  let c0_i32_546 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_545 : BitVec 32 := 4#32
  let v852 : BitVec 32 := Scalar.muli v2 c4_i32_545
  let v853 : BitVec 32 := Scalar.addi c0_i32_546 v852
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_547 : BitVec 32 := 2#32
  let v854 : BitVec 32 := Scalar.muli v5 c2_i32_547
  let v855 : BitVec 32 := Scalar.addi v853 v854
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_548 : BitVec 32 := 1#32
  let v856 : BitVec 32 := Scalar.muli v17 c1_i32_548
  let v857 : BitVec 32 := Scalar.addi v855 v856
  v857.toNat
def k0_mult49 (d0 : Dev nD) : BitVec 32 :=
  let c2_i32_555 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v870 : BitVec 32 := Scalar.muli c2_i32_555 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v871 : BitVec 32 := Scalar.addi v870 v12
  let c512_i32_556 : BitVec 32 := 512#32
  let v872 : BitVec 32 := Scalar.muli v871 c512_i32_556
  v872
def k0_dev41 (d0 : Dev nD) : Nat :=
  let c0_i32_569 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_568 : BitVec 32 := 4#32
  let v885 : BitVec 32 := Scalar.muli v2 c4_i32_568
  let v886 : BitVec 32 := Scalar.addi c0_i32_569 v885
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_570 : BitVec 32 := 2#32
  let v887 : BitVec 32 := Scalar.muli v5 c2_i32_570
  let v888 : BitVec 32 := Scalar.addi v886 v887
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_571 : BitVec 32 := 1#32
  let v889 : BitVec 32 := Scalar.muli v17 c1_i32_571
  let v890 : BitVec 32 := Scalar.addi v888 v889
  v890.toNat
def k0_mult50 (d0 : Dev nD) : BitVec 32 :=
  let c2_i32_578 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v903 : BitVec 32 := Scalar.muli c2_i32_578 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v904 : BitVec 32 := Scalar.addi v903 v5
  let c512_i32_579 : BitVec 32 := 512#32
  let v905 : BitVec 32 := Scalar.muli v904 c512_i32_579
  v905
def k0_dev42 (d0 : Dev nD) : Nat :=
  let c0_i32_592 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_591 : BitVec 32 := 4#32
  let v918 : BitVec 32 := Scalar.muli v2 c4_i32_591
  let v919 : BitVec 32 := Scalar.addi c0_i32_592 v918
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_593 : BitVec 32 := 2#32
  let v920 : BitVec 32 := Scalar.muli v5 c2_i32_593
  let v921 : BitVec 32 := Scalar.addi v919 v920
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_594 : BitVec 32 := 1#32
  let v922 : BitVec 32 := Scalar.muli v17 c1_i32_594
  let v923 : BitVec 32 := Scalar.addi v921 v922
  v923.toNat
def k0_mult51 (d0 : Dev nD) : BitVec 32 :=
  let c2_i32_601 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v936 : BitVec 32 := Scalar.muli c2_i32_601 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v937 : BitVec 32 := Scalar.addi v936 v10
  let c512_i32_602 : BitVec 32 := 512#32
  let v938 : BitVec 32 := Scalar.muli v937 c512_i32_602
  v938
def k0_dev43 (d0 : Dev nD) : Nat :=
  let c0_i32_615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_614 : BitVec 32 := 4#32
  let v951 : BitVec 32 := Scalar.muli v2 c4_i32_614
  let v952 : BitVec 32 := Scalar.addi c0_i32_615 v951
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_616 : BitVec 32 := 2#32
  let v953 : BitVec 32 := Scalar.muli v5 c2_i32_616
  let v954 : BitVec 32 := Scalar.addi v952 v953
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_617 : BitVec 32 := 1#32
  let v955 : BitVec 32 := Scalar.muli v17 c1_i32_617
  let v956 : BitVec 32 := Scalar.addi v954 v955
  v956.toNat
def k0_mult52 (d0 : Dev nD) : BitVec 32 :=
  let c2_i32_624 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v969 : BitVec 32 := Scalar.muli c2_i32_624 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v970 : BitVec 32 := Scalar.addi v969 v12
  let c512_i32_625 : BitVec 32 := 512#32
  let v971 : BitVec 32 := Scalar.muli v970 c512_i32_625
  v971
def k0_dev44 (d0 : Dev nD) : Nat :=
  let c0_i32_638 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_637 : BitVec 32 := 4#32
  let v984 : BitVec 32 := Scalar.muli v2 c4_i32_637
  let v985 : BitVec 32 := Scalar.addi c0_i32_638 v984
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_639 : BitVec 32 := 2#32
  let v986 : BitVec 32 := Scalar.muli v5 c2_i32_639
  let v987 : BitVec 32 := Scalar.addi v985 v986
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_640 : BitVec 32 := 1#32
  let v988 : BitVec 32 := Scalar.muli v17 c1_i32_640
  let v989 : BitVec 32 := Scalar.addi v987 v988
  v989.toNat
def k0_mult53 (d0 : Dev nD) : BitVec 32 :=
  let c2_i32_647 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1002 : BitVec 32 := Scalar.muli c2_i32_647 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1003 : BitVec 32 := Scalar.addi v1002 v5
  let c512_i32_648 : BitVec 32 := 512#32
  let v1004 : BitVec 32 := Scalar.muli v1003 c512_i32_648
  v1004
def k0_dev45 (d0 : Dev nD) : Nat :=
  let c0_i32_661 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_660 : BitVec 32 := 4#32
  let v1017 : BitVec 32 := Scalar.muli v2 c4_i32_660
  let v1018 : BitVec 32 := Scalar.addi c0_i32_661 v1017
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_662 : BitVec 32 := 2#32
  let v1019 : BitVec 32 := Scalar.muli v5 c2_i32_662
  let v1020 : BitVec 32 := Scalar.addi v1018 v1019
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_663 : BitVec 32 := 1#32
  let v1021 : BitVec 32 := Scalar.muli v17 c1_i32_663
  let v1022 : BitVec 32 := Scalar.addi v1020 v1021
  v1022.toNat
def k0_mult54 (d0 : Dev nD) : BitVec 32 :=
  let c2_i32_670 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1035 : BitVec 32 := Scalar.muli c2_i32_670 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1036 : BitVec 32 := Scalar.addi v1035 v10
  let c512_i32_671 : BitVec 32 := 512#32
  let v1037 : BitVec 32 := Scalar.muli v1036 c512_i32_671
  v1037
def k0_dev46 (d0 : Dev nD) : Nat :=
  let c0_i32_684 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_683 : BitVec 32 := 4#32
  let v1050 : BitVec 32 := Scalar.muli v2 c4_i32_683
  let v1051 : BitVec 32 := Scalar.addi c0_i32_684 v1050
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_685 : BitVec 32 := 2#32
  let v1052 : BitVec 32 := Scalar.muli v5 c2_i32_685
  let v1053 : BitVec 32 := Scalar.addi v1051 v1052
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_686 : BitVec 32 := 1#32
  let v1054 : BitVec 32 := Scalar.muli v17 c1_i32_686
  let v1055 : BitVec 32 := Scalar.addi v1053 v1054
  v1055.toNat
def k0_mult55 (d0 : Dev nD) : BitVec 32 :=
  let c2_i32_693 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1068 : BitVec 32 := Scalar.muli c2_i32_693 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1069 : BitVec 32 := Scalar.addi v1068 v12
  let c512_i32_694 : BitVec 32 := 512#32
  let v1070 : BitVec 32 := Scalar.muli v1069 c512_i32_694
  v1070
def k0_dev47 (d0 : Dev nD) : Nat :=
  let c0_i32_707 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_706 : BitVec 32 := 4#32
  let v1083 : BitVec 32 := Scalar.muli v2 c4_i32_706
  let v1084 : BitVec 32 := Scalar.addi c0_i32_707 v1083
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_708 : BitVec 32 := 2#32
  let v1085 : BitVec 32 := Scalar.muli v5 c2_i32_708
  let v1086 : BitVec 32 := Scalar.addi v1084 v1085
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_709 : BitVec 32 := 1#32
  let v1087 : BitVec 32 := Scalar.muli v17 c1_i32_709
  let v1088 : BitVec 32 := Scalar.addi v1086 v1087
  v1088.toNat
def k0_mult56 (d0 : Dev nD) : BitVec 32 :=
  let c2_i32_716 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1101 : BitVec 32 := Scalar.muli c2_i32_716 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1102 : BitVec 32 := Scalar.addi v1101 v5
  let c512_i32_717 : BitVec 32 := 512#32
  let v1103 : BitVec 32 := Scalar.muli v1102 c512_i32_717
  v1103
def k0_dev48 (d0 : Dev nD) : Nat :=
  let c0_i32_730 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_729 : BitVec 32 := 4#32
  let v1116 : BitVec 32 := Scalar.muli v2 c4_i32_729
  let v1117 : BitVec 32 := Scalar.addi c0_i32_730 v1116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_731 : BitVec 32 := 2#32
  let v1118 : BitVec 32 := Scalar.muli v5 c2_i32_731
  let v1119 : BitVec 32 := Scalar.addi v1117 v1118
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_732 : BitVec 32 := 1#32
  let v1120 : BitVec 32 := Scalar.muli v17 c1_i32_732
  let v1121 : BitVec 32 := Scalar.addi v1119 v1120
  v1121.toNat
def k0_mult57 (d0 : Dev nD) : BitVec 32 :=
  let c2_i32_739 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1134 : BitVec 32 := Scalar.muli c2_i32_739 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1135 : BitVec 32 := Scalar.addi v1134 v10
  let c512_i32_740 : BitVec 32 := 512#32
  let v1136 : BitVec 32 := Scalar.muli v1135 c512_i32_740
  v1136
def k0_dev49 (d0 : Dev nD) : Nat :=
  let c0_i32_753 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_752 : BitVec 32 := 4#32
  let v1149 : BitVec 32 := Scalar.muli v2 c4_i32_752
  let v1150 : BitVec 32 := Scalar.addi c0_i32_753 v1149
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_754 : BitVec 32 := 2#32
  let v1151 : BitVec 32 := Scalar.muli v5 c2_i32_754
  let v1152 : BitVec 32 := Scalar.addi v1150 v1151
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_755 : BitVec 32 := 1#32
  let v1153 : BitVec 32 := Scalar.muli v17 c1_i32_755
  let v1154 : BitVec 32 := Scalar.addi v1152 v1153
  v1154.toNat
def k0_mult58 (d0 : Dev nD) : BitVec 32 :=
  let c2_i32_762 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1167 : BitVec 32 := Scalar.muli c2_i32_762 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1168 : BitVec 32 := Scalar.addi v1167 v12
  let c512_i32_763 : BitVec 32 := 512#32
  let v1169 : BitVec 32 := Scalar.muli v1168 c512_i32_763
  v1169
def k0_dev50 (d0 : Dev nD) : Nat :=
  let c0_i32_776 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_775 : BitVec 32 := 4#32
  let v1182 : BitVec 32 := Scalar.muli v2 c4_i32_775
  let v1183 : BitVec 32 := Scalar.addi c0_i32_776 v1182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_777 : BitVec 32 := 2#32
  let v1184 : BitVec 32 := Scalar.muli v5 c2_i32_777
  let v1185 : BitVec 32 := Scalar.addi v1183 v1184
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_778 : BitVec 32 := 1#32
  let v1186 : BitVec 32 := Scalar.muli v17 c1_i32_778
  let v1187 : BitVec 32 := Scalar.addi v1185 v1186
  v1187.toNat
def k0_mult59 (d0 : Dev nD) : BitVec 32 :=
  let c2_i32_785 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1200 : BitVec 32 := Scalar.muli c2_i32_785 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1201 : BitVec 32 := Scalar.addi v1200 v5
  let c2816_i32_786 : BitVec 32 := 2816#32
  let v1202 : BitVec 32 := Scalar.muli v1201 c2816_i32_786
  v1202
def k0_off27 (d0 : Dev nD) : Fin 3 → Nat :=
  let c2_i32_784 : BitVec 32 := 2#32
  let c2_i32_783 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1196 : BitVec 32 := Scalar.muli c2_i32_783 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1197 : BitVec 32 := Scalar.addi v1196 v5
  let v1198 : BitVec 32 := Scalar.muli c2_i32_784 v1197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1199 : BitVec 32 := Scalar.addi v1198 v8
  let c0_i32_793 : BitVec 32 := 0#32
  let c0_i32_794 : BitVec 32 := 0#32
  ![v1199.toNat, 0, 0]
def k0_dev51 (d0 : Dev nD) : Nat :=
  let c0_i32_799 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_798 : BitVec 32 := 4#32
  let v1215 : BitVec 32 := Scalar.muli v2 c4_i32_798
  let v1216 : BitVec 32 := Scalar.addi c0_i32_799 v1215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_800 : BitVec 32 := 2#32
  let v1217 : BitVec 32 := Scalar.muli v5 c2_i32_800
  let v1218 : BitVec 32 := Scalar.addi v1216 v1217
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_801 : BitVec 32 := 1#32
  let v1219 : BitVec 32 := Scalar.muli v17 c1_i32_801
  let v1220 : BitVec 32 := Scalar.addi v1218 v1219
  v1220.toNat
def k0_mult60 (d0 : Dev nD) : BitVec 32 :=
  let c2_i32_808 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1233 : BitVec 32 := Scalar.muli c2_i32_808 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1234 : BitVec 32 := Scalar.addi v1233 v10
  let c2816_i32_809 : BitVec 32 := 2816#32
  let v1235 : BitVec 32 := Scalar.muli v1234 c2816_i32_809
  v1235
def k0_off28 (d0 : Dev nD) : Fin 3 → Nat :=
  let c2_i32_807 : BitVec 32 := 2#32
  let c2_i32_806 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1229 : BitVec 32 := Scalar.muli c2_i32_806 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1230 : BitVec 32 := Scalar.addi v1229 v10
  let v1231 : BitVec 32 := Scalar.muli c2_i32_807 v1230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1232 : BitVec 32 := Scalar.addi v1231 v8
  let c0_i32_816 : BitVec 32 := 0#32
  let c0_i32_817 : BitVec 32 := 0#32
  ![v1232.toNat, 0, 0]
def k0_dev52 (d0 : Dev nD) : Nat :=
  let c0_i32_822 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_821 : BitVec 32 := 4#32
  let v1248 : BitVec 32 := Scalar.muli v2 c4_i32_821
  let v1249 : BitVec 32 := Scalar.addi c0_i32_822 v1248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_823 : BitVec 32 := 2#32
  let v1250 : BitVec 32 := Scalar.muli v5 c2_i32_823
  let v1251 : BitVec 32 := Scalar.addi v1249 v1250
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_824 : BitVec 32 := 1#32
  let v1252 : BitVec 32 := Scalar.muli v17 c1_i32_824
  let v1253 : BitVec 32 := Scalar.addi v1251 v1252
  v1253.toNat
def k0_mult61 (d0 : Dev nD) : BitVec 32 :=
  let c2_i32_831 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1266 : BitVec 32 := Scalar.muli c2_i32_831 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1267 : BitVec 32 := Scalar.addi v1266 v12
  let c2816_i32_832 : BitVec 32 := 2816#32
  let v1268 : BitVec 32 := Scalar.muli v1267 c2816_i32_832
  v1268
def k0_off29 (d0 : Dev nD) : Fin 3 → Nat :=
  let c2_i32_830 : BitVec 32 := 2#32
  let c2_i32_829 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1262 : BitVec 32 := Scalar.muli c2_i32_829 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1263 : BitVec 32 := Scalar.addi v1262 v12
  let v1264 : BitVec 32 := Scalar.muli c2_i32_830 v1263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1265 : BitVec 32 := Scalar.addi v1264 v8
  let c0_i32_839 : BitVec 32 := 0#32
  let c0_i32_840 : BitVec 32 := 0#32
  ![v1265.toNat, 0, 0]
def k0_dev53 (d0 : Dev nD) : Nat :=
  let c0_i32_845 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_844 : BitVec 32 := 4#32
  let v1281 : BitVec 32 := Scalar.muli v2 c4_i32_844
  let v1282 : BitVec 32 := Scalar.addi c0_i32_845 v1281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_846 : BitVec 32 := 2#32
  let v1283 : BitVec 32 := Scalar.muli v5 c2_i32_846
  let v1284 : BitVec 32 := Scalar.addi v1282 v1283
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_847 : BitVec 32 := 1#32
  let v1285 : BitVec 32 := Scalar.muli v17 c1_i32_847
  let v1286 : BitVec 32 := Scalar.addi v1284 v1285
  v1286.toNat
def k0_mult62 (d0 : Dev nD) : BitVec 32 :=
  let c2_i32_854 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1299 : BitVec 32 := Scalar.muli c2_i32_854 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1300 : BitVec 32 := Scalar.addi v1299 v5
  let c1408_i32_855 : BitVec 32 := 1408#32
  let v1301 : BitVec 32 := Scalar.muli v1300 c1408_i32_855
  v1301
def k0_off30 (d0 : Dev nD) : Fin 3 → Nat :=
  let c2_i32_853 : BitVec 32 := 2#32
  let c2_i32_852 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1295 : BitVec 32 := Scalar.muli c2_i32_852 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1296 : BitVec 32 := Scalar.addi v1295 v5
  let v1297 : BitVec 32 := Scalar.muli c2_i32_853 v1296
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1298 : BitVec 32 := Scalar.addi v1297 v8
  let c0_i32_862 : BitVec 32 := 0#32
  let c0_i32_863 : BitVec 32 := 0#32
  ![v1298.toNat, 0, 0]
def k0_dev54 (d0 : Dev nD) : Nat :=
  let c0_i32_868 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_867 : BitVec 32 := 4#32
  let v1314 : BitVec 32 := Scalar.muli v2 c4_i32_867
  let v1315 : BitVec 32 := Scalar.addi c0_i32_868 v1314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_869 : BitVec 32 := 2#32
  let v1316 : BitVec 32 := Scalar.muli v5 c2_i32_869
  let v1317 : BitVec 32 := Scalar.addi v1315 v1316
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_870 : BitVec 32 := 1#32
  let v1318 : BitVec 32 := Scalar.muli v17 c1_i32_870
  let v1319 : BitVec 32 := Scalar.addi v1317 v1318
  v1319.toNat
def k0_mult63 (d0 : Dev nD) : BitVec 32 :=
  let c2_i32_877 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1332 : BitVec 32 := Scalar.muli c2_i32_877 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1333 : BitVec 32 := Scalar.addi v1332 v10
  let c1408_i32_878 : BitVec 32 := 1408#32
  let v1334 : BitVec 32 := Scalar.muli v1333 c1408_i32_878
  v1334
def k0_off31 (d0 : Dev nD) : Fin 3 → Nat :=
  let c2_i32_876 : BitVec 32 := 2#32
  let c2_i32_875 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1328 : BitVec 32 := Scalar.muli c2_i32_875 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1329 : BitVec 32 := Scalar.addi v1328 v10
  let v1330 : BitVec 32 := Scalar.muli c2_i32_876 v1329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1331 : BitVec 32 := Scalar.addi v1330 v8
  let c0_i32_885 : BitVec 32 := 0#32
  let c0_i32_886 : BitVec 32 := 0#32
  ![v1331.toNat, 0, 0]
def k0_dev55 (d0 : Dev nD) : Nat :=
  let c0_i32_891 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_890 : BitVec 32 := 4#32
  let v1347 : BitVec 32 := Scalar.muli v2 c4_i32_890
  let v1348 : BitVec 32 := Scalar.addi c0_i32_891 v1347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_892 : BitVec 32 := 2#32
  let v1349 : BitVec 32 := Scalar.muli v5 c2_i32_892
  let v1350 : BitVec 32 := Scalar.addi v1348 v1349
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_893 : BitVec 32 := 1#32
  let v1351 : BitVec 32 := Scalar.muli v17 c1_i32_893
  let v1352 : BitVec 32 := Scalar.addi v1350 v1351
  v1352.toNat
def k0_mult64 (d0 : Dev nD) : BitVec 32 :=
  let c2_i32_900 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1365 : BitVec 32 := Scalar.muli c2_i32_900 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1366 : BitVec 32 := Scalar.addi v1365 v12
  let c1408_i32_901 : BitVec 32 := 1408#32
  let v1367 : BitVec 32 := Scalar.muli v1366 c1408_i32_901
  v1367
def k0_off32 (d0 : Dev nD) : Fin 3 → Nat :=
  let c2_i32_899 : BitVec 32 := 2#32
  let c2_i32_898 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1361 : BitVec 32 := Scalar.muli c2_i32_898 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1362 : BitVec 32 := Scalar.addi v1361 v12
  let v1363 : BitVec 32 := Scalar.muli c2_i32_899 v1362
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1364 : BitVec 32 := Scalar.addi v1363 v8
  let c0_i32_908 : BitVec 32 := 0#32
  let c0_i32_909 : BitVec 32 := 0#32
  ![v1364.toNat, 0, 0]
def k0_dev56 (d0 : Dev nD) : Nat :=
  let c0_i32_914 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_913 : BitVec 32 := 4#32
  let v1380 : BitVec 32 := Scalar.muli v2 c4_i32_913
  let v1381 : BitVec 32 := Scalar.addi c0_i32_914 v1380
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_915 : BitVec 32 := 2#32
  let v1382 : BitVec 32 := Scalar.muli v5 c2_i32_915
  let v1383 : BitVec 32 := Scalar.addi v1381 v1382
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_916 : BitVec 32 := 1#32
  let v1384 : BitVec 32 := Scalar.muli v17 c1_i32_916
  let v1385 : BitVec 32 := Scalar.addi v1383 v1384
  v1385.toNat
def k0_mult65 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32_923 : BitVec 32 := 1536#32
  let v1397 : BitVec 32 := Scalar.muli v14 c1536_i32_923
  v1397
def k0_off33 (d0 : Dev nD) : Fin 3 → Nat :=
  let c2_i32_921 : BitVec 32 := 2#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v1394 : BitVec 32 := Scalar.muli c2_i32_921 v14
  let c1_i32_922 : BitVec 32 := 1#32
  let v1395 : BitVec 32 := Scalar.addi v1394 c1_i32_922
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1396 : BitVec 32 := Scalar.subi v1395 v8
  let c0_i32_930 : BitVec 32 := 0#32
  let c0_i32_931 : BitVec 32 := 0#32
  ![v1396.toNat, 0, 0]
def k0_off34 (d0 : Dev nD) : Fin 3 → Nat :=
  let c2_i32_934 : BitVec 32 := 2#32
  let c2_i32_933 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1410 : BitVec 32 := Scalar.muli c2_i32_933 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1411 : BitVec 32 := Scalar.addi v1410 v5
  let v1412 : BitVec 32 := Scalar.muli c2_i32_934 v1411
  let c1_i32_935 : BitVec 32 := 1#32
  let v1413 : BitVec 32 := Scalar.addi v1412 c1_i32_935
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1414 : BitVec 32 := Scalar.subi v1413 v8
  let c0_i32_942 : BitVec 32 := 0#32
  let c0_i32_943 : BitVec 32 := 0#32
  ![v1414.toNat, 0, 0]
def k0_off35 (d0 : Dev nD) : Fin 3 → Nat :=
  let c2_i32_947 : BitVec 32 := 2#32
  let c2_i32_946 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1427 : BitVec 32 := Scalar.muli c2_i32_946 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1428 : BitVec 32 := Scalar.addi v1427 v10
  let v1429 : BitVec 32 := Scalar.muli c2_i32_947 v1428
  let c1_i32_948 : BitVec 32 := 1#32
  let v1430 : BitVec 32 := Scalar.addi v1429 c1_i32_948
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1431 : BitVec 32 := Scalar.subi v1430 v8
  let c0_i32_955 : BitVec 32 := 0#32
  let c0_i32_956 : BitVec 32 := 0#32
  ![v1431.toNat, 0, 0]
def k0_off36 (d0 : Dev nD) : Fin 3 → Nat :=
  let c2_i32_960 : BitVec 32 := 2#32
  let c2_i32_959 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1444 : BitVec 32 := Scalar.muli c2_i32_959 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1445 : BitVec 32 := Scalar.addi v1444 v12
  let v1446 : BitVec 32 := Scalar.muli c2_i32_960 v1445
  let c1_i32_961 : BitVec 32 := 1#32
  let v1447 : BitVec 32 := Scalar.addi v1446 c1_i32_961
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1448 : BitVec 32 := Scalar.subi v1447 v8
  let c0_i32_968 : BitVec 32 := 0#32
  let c0_i32_969 : BitVec 32 := 0#32
  ![v1448.toNat, 0, 0]
def k0_mult66 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_974 : BitVec 32 := 512#32
  let v1464 : BitVec 32 := Scalar.muli v14 c512_i32_974
  v1464
def k0_off37 (d0 : Dev nD) : Fin 3 → Nat :=
  let c2_i32_972 : BitVec 32 := 2#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v1461 : BitVec 32 := Scalar.muli c2_i32_972 v14
  let c1_i32_973 : BitVec 32 := 1#32
  let v1462 : BitVec 32 := Scalar.addi v1461 c1_i32_973
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1463 : BitVec 32 := Scalar.subi v1462 v8
  let c0_i32_981 : BitVec 32 := 0#32
  let c0_i32_982 : BitVec 32 := 0#32
  ![v1463.toNat, 0, 0]
def k0_off38 (d0 : Dev nD) : Fin 3 → Nat :=
  let c2_i32_985 : BitVec 32 := 2#32
  let c2_i32_984 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1477 : BitVec 32 := Scalar.muli c2_i32_984 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1478 : BitVec 32 := Scalar.addi v1477 v5
  let v1479 : BitVec 32 := Scalar.muli c2_i32_985 v1478
  let c1_i32_986 : BitVec 32 := 1#32
  let v1480 : BitVec 32 := Scalar.addi v1479 c1_i32_986
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1481 : BitVec 32 := Scalar.subi v1480 v8
  let c0_i32_993 : BitVec 32 := 0#32
  let c0_i32_994 : BitVec 32 := 0#32
  ![v1481.toNat, 0, 0]
def k0_off39 (d0 : Dev nD) : Fin 3 → Nat :=
  let c2_i32_998 : BitVec 32 := 2#32
  let c2_i32_997 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1494 : BitVec 32 := Scalar.muli c2_i32_997 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1495 : BitVec 32 := Scalar.addi v1494 v10
  let v1496 : BitVec 32 := Scalar.muli c2_i32_998 v1495
  let c1_i32_999 : BitVec 32 := 1#32
  let v1497 : BitVec 32 := Scalar.addi v1496 c1_i32_999
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1498 : BitVec 32 := Scalar.subi v1497 v8
  let c0_i32_1006 : BitVec 32 := 0#32
  let c0_i32_1007 : BitVec 32 := 0#32
  ![v1498.toNat, 0, 0]
def k0_off40 (d0 : Dev nD) : Fin 3 → Nat :=
  let c2_i32_1011 : BitVec 32 := 2#32
  let c2_i32_1010 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1511 : BitVec 32 := Scalar.muli c2_i32_1010 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1512 : BitVec 32 := Scalar.addi v1511 v12
  let v1513 : BitVec 32 := Scalar.muli c2_i32_1011 v1512
  let c1_i32_1012 : BitVec 32 := 1#32
  let v1514 : BitVec 32 := Scalar.addi v1513 c1_i32_1012
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1515 : BitVec 32 := Scalar.subi v1514 v8
  let c0_i32_1019 : BitVec 32 := 0#32
  let c0_i32_1020 : BitVec 32 := 0#32
  ![v1515.toNat, 0, 0]
def k0_mult67 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1025 : BitVec 32 := 512#32
  let v1531 : BitVec 32 := Scalar.muli v14 c512_i32_1025
  v1531
def k0_mult68 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1076 : BitVec 32 := 512#32
  let v1598 : BitVec 32 := Scalar.muli v14 c512_i32_1076
  v1598
def k0_mult69 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1127 : BitVec 32 := 512#32
  let v1665 : BitVec 32 := Scalar.muli v14 c512_i32_1127
  v1665
def k0_mult70 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1178 : BitVec 32 := 512#32
  let v1732 : BitVec 32 := Scalar.muli v14 c512_i32_1178
  v1732
def k0_mult71 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_1229 : BitVec 32 := 2816#32
  let v1799 : BitVec 32 := Scalar.muli v14 c2816_i32_1229
  v1799
def k0_off41 (d0 : Dev nD) : Fin 3 → Nat :=
  let c2_i32_1227 : BitVec 32 := 2#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v1796 : BitVec 32 := Scalar.muli c2_i32_1227 v14
  let c1_i32_1228 : BitVec 32 := 1#32
  let v1797 : BitVec 32 := Scalar.addi v1796 c1_i32_1228
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1798 : BitVec 32 := Scalar.subi v1797 v8
  let c0_i32_1236 : BitVec 32 := 0#32
  let c0_i32_1237 : BitVec 32 := 0#32
  ![v1798.toNat, 0, 0]
def k0_off42 (d0 : Dev nD) : Fin 3 → Nat :=
  let c2_i32_1240 : BitVec 32 := 2#32
  let c2_i32_1239 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1812 : BitVec 32 := Scalar.muli c2_i32_1239 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1813 : BitVec 32 := Scalar.addi v1812 v5
  let v1814 : BitVec 32 := Scalar.muli c2_i32_1240 v1813
  let c1_i32_1241 : BitVec 32 := 1#32
  let v1815 : BitVec 32 := Scalar.addi v1814 c1_i32_1241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1816 : BitVec 32 := Scalar.subi v1815 v8
  let c0_i32_1248 : BitVec 32 := 0#32
  let c0_i32_1249 : BitVec 32 := 0#32
  ![v1816.toNat, 0, 0]
def k0_off43 (d0 : Dev nD) : Fin 3 → Nat :=
  let c2_i32_1253 : BitVec 32 := 2#32
  let c2_i32_1252 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1829 : BitVec 32 := Scalar.muli c2_i32_1252 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1830 : BitVec 32 := Scalar.addi v1829 v10
  let v1831 : BitVec 32 := Scalar.muli c2_i32_1253 v1830
  let c1_i32_1254 : BitVec 32 := 1#32
  let v1832 : BitVec 32 := Scalar.addi v1831 c1_i32_1254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1833 : BitVec 32 := Scalar.subi v1832 v8
  let c0_i32_1261 : BitVec 32 := 0#32
  let c0_i32_1262 : BitVec 32 := 0#32
  ![v1833.toNat, 0, 0]
def k0_off44 (d0 : Dev nD) : Fin 3 → Nat :=
  let c2_i32_1266 : BitVec 32 := 2#32
  let c2_i32_1265 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1846 : BitVec 32 := Scalar.muli c2_i32_1265 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1847 : BitVec 32 := Scalar.addi v1846 v12
  let v1848 : BitVec 32 := Scalar.muli c2_i32_1266 v1847
  let c1_i32_1267 : BitVec 32 := 1#32
  let v1849 : BitVec 32 := Scalar.addi v1848 c1_i32_1267
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1850 : BitVec 32 := Scalar.subi v1849 v8
  let c0_i32_1274 : BitVec 32 := 0#32
  let c0_i32_1275 : BitVec 32 := 0#32
  ![v1850.toNat, 0, 0]
def k0_mult72 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1408_i32_1280 : BitVec 32 := 1408#32
  let v1866 : BitVec 32 := Scalar.muli v14 c1408_i32_1280
  v1866
def k0_off45 (d0 : Dev nD) : Fin 3 → Nat :=
  let c2_i32_1278 : BitVec 32 := 2#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v1863 : BitVec 32 := Scalar.muli c2_i32_1278 v14
  let c1_i32_1279 : BitVec 32 := 1#32
  let v1864 : BitVec 32 := Scalar.addi v1863 c1_i32_1279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1865 : BitVec 32 := Scalar.subi v1864 v8
  let c0_i32_1287 : BitVec 32 := 0#32
  let c0_i32_1288 : BitVec 32 := 0#32
  ![v1865.toNat, 0, 0]
def k0_off46 (d0 : Dev nD) : Fin 3 → Nat :=
  let c2_i32_1291 : BitVec 32 := 2#32
  let c2_i32_1290 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1879 : BitVec 32 := Scalar.muli c2_i32_1290 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1880 : BitVec 32 := Scalar.addi v1879 v5
  let v1881 : BitVec 32 := Scalar.muli c2_i32_1291 v1880
  let c1_i32_1292 : BitVec 32 := 1#32
  let v1882 : BitVec 32 := Scalar.addi v1881 c1_i32_1292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1883 : BitVec 32 := Scalar.subi v1882 v8
  let c0_i32_1299 : BitVec 32 := 0#32
  let c0_i32_1300 : BitVec 32 := 0#32
  ![v1883.toNat, 0, 0]
def k0_off47 (d0 : Dev nD) : Fin 3 → Nat :=
  let c2_i32_1304 : BitVec 32 := 2#32
  let c2_i32_1303 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1896 : BitVec 32 := Scalar.muli c2_i32_1303 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1897 : BitVec 32 := Scalar.addi v1896 v10
  let v1898 : BitVec 32 := Scalar.muli c2_i32_1304 v1897
  let c1_i32_1305 : BitVec 32 := 1#32
  let v1899 : BitVec 32 := Scalar.addi v1898 c1_i32_1305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1900 : BitVec 32 := Scalar.subi v1899 v8
  let c0_i32_1312 : BitVec 32 := 0#32
  let c0_i32_1313 : BitVec 32 := 0#32
  ![v1900.toNat, 0, 0]
def k0_off48 (d0 : Dev nD) : Fin 3 → Nat :=
  let c2_i32_1317 : BitVec 32 := 2#32
  let c2_i32_1316 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1913 : BitVec 32 := Scalar.muli c2_i32_1316 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1914 : BitVec 32 := Scalar.addi v1913 v12
  let v1915 : BitVec 32 := Scalar.muli c2_i32_1317 v1914
  let c1_i32_1318 : BitVec 32 := 1#32
  let v1916 : BitVec 32 := Scalar.addi v1915 c1_i32_1318
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1917 : BitVec 32 := Scalar.subi v1916 v8
  let c0_i32_1325 : BitVec 32 := 0#32
  let c0_i32_1326 : BitVec 32 := 0#32
  ![v1917.toNat, 0, 0]
def k0_mult73 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32_1329 : BitVec 32 := 1536#32
  let v1930 : BitVec 32 := Scalar.muli v14 c1536_i32_1329
  v1930
def k0_mult74 (d0 : Dev nD) : BitVec 32 :=
  let c2_i32_1336 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1937 : BitVec 32 := Scalar.muli c2_i32_1336 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1938 : BitVec 32 := Scalar.addi v1937 v5
  let c1536_i32_1337 : BitVec 32 := 1536#32
  let v1939 : BitVec 32 := Scalar.muli v1938 c1536_i32_1337
  v1939
def k0_mult75 (d0 : Dev nD) : BitVec 32 :=
  let c2_i32_1353 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1956 : BitVec 32 := Scalar.muli c2_i32_1353 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1957 : BitVec 32 := Scalar.addi v1956 v10
  let c1536_i32_1354 : BitVec 32 := 1536#32
  let v1958 : BitVec 32 := Scalar.muli v1957 c1536_i32_1354
  v1958
def k0_mult76 (d0 : Dev nD) : BitVec 32 :=
  let c2_i32_1370 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1975 : BitVec 32 := Scalar.muli c2_i32_1370 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1976 : BitVec 32 := Scalar.addi v1975 v12
  let c1536_i32_1371 : BitVec 32 := 1536#32
  let v1977 : BitVec 32 := Scalar.muli v1976 c1536_i32_1371
  v1977
def k0_mult77 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1391 : BitVec 32 := 512#32
  let v1999 : BitVec 32 := Scalar.muli v14 c512_i32_1391
  v1999
def k0_mult78 (d0 : Dev nD) : BitVec 32 :=
  let c2_i32_1398 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2006 : BitVec 32 := Scalar.muli c2_i32_1398 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2007 : BitVec 32 := Scalar.addi v2006 v5
  let c512_i32_1399 : BitVec 32 := 512#32
  let v2008 : BitVec 32 := Scalar.muli v2007 c512_i32_1399
  v2008
def k0_mult79 (d0 : Dev nD) : BitVec 32 :=
  let c2_i32_1415 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2025 : BitVec 32 := Scalar.muli c2_i32_1415 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2026 : BitVec 32 := Scalar.addi v2025 v10
  let c512_i32_1416 : BitVec 32 := 512#32
  let v2027 : BitVec 32 := Scalar.muli v2026 c512_i32_1416
  v2027
def k0_mult80 (d0 : Dev nD) : BitVec 32 :=
  let c2_i32_1432 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2044 : BitVec 32 := Scalar.muli c2_i32_1432 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2045 : BitVec 32 := Scalar.addi v2044 v12
  let c512_i32_1433 : BitVec 32 := 512#32
  let v2046 : BitVec 32 := Scalar.muli v2045 c512_i32_1433
  v2046
def k0_mult81 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1453 : BitVec 32 := 512#32
  let v2068 : BitVec 32 := Scalar.muli v14 c512_i32_1453
  v2068
def k0_mult82 (d0 : Dev nD) : BitVec 32 :=
  let c2_i32_1460 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2075 : BitVec 32 := Scalar.muli c2_i32_1460 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2076 : BitVec 32 := Scalar.addi v2075 v5
  let c512_i32_1461 : BitVec 32 := 512#32
  let v2077 : BitVec 32 := Scalar.muli v2076 c512_i32_1461
  v2077
def k0_mult83 (d0 : Dev nD) : BitVec 32 :=
  let c2_i32_1477 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2094 : BitVec 32 := Scalar.muli c2_i32_1477 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2095 : BitVec 32 := Scalar.addi v2094 v10
  let c512_i32_1478 : BitVec 32 := 512#32
  let v2096 : BitVec 32 := Scalar.muli v2095 c512_i32_1478
  v2096
def k0_mult84 (d0 : Dev nD) : BitVec 32 :=
  let c2_i32_1494 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2113 : BitVec 32 := Scalar.muli c2_i32_1494 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2114 : BitVec 32 := Scalar.addi v2113 v12
  let c512_i32_1495 : BitVec 32 := 512#32
  let v2115 : BitVec 32 := Scalar.muli v2114 c512_i32_1495
  v2115
def k0_mult85 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1515 : BitVec 32 := 512#32
  let v2137 : BitVec 32 := Scalar.muli v14 c512_i32_1515
  v2137
def k0_mult86 (d0 : Dev nD) : BitVec 32 :=
  let c2_i32_1522 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2144 : BitVec 32 := Scalar.muli c2_i32_1522 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2145 : BitVec 32 := Scalar.addi v2144 v5
  let c512_i32_1523 : BitVec 32 := 512#32
  let v2146 : BitVec 32 := Scalar.muli v2145 c512_i32_1523
  v2146
def k0_mult87 (d0 : Dev nD) : BitVec 32 :=
  let c2_i32_1539 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2163 : BitVec 32 := Scalar.muli c2_i32_1539 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2164 : BitVec 32 := Scalar.addi v2163 v10
  let c512_i32_1540 : BitVec 32 := 512#32
  let v2165 : BitVec 32 := Scalar.muli v2164 c512_i32_1540
  v2165
def k0_mult88 (d0 : Dev nD) : BitVec 32 :=
  let c2_i32_1556 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2182 : BitVec 32 := Scalar.muli c2_i32_1556 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2183 : BitVec 32 := Scalar.addi v2182 v12
  let c512_i32_1557 : BitVec 32 := 512#32
  let v2184 : BitVec 32 := Scalar.muli v2183 c512_i32_1557
  v2184
def k0_mult89 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1577 : BitVec 32 := 512#32
  let v2206 : BitVec 32 := Scalar.muli v14 c512_i32_1577
  v2206
def k0_mult90 (d0 : Dev nD) : BitVec 32 :=
  let c2_i32_1584 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2213 : BitVec 32 := Scalar.muli c2_i32_1584 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2214 : BitVec 32 := Scalar.addi v2213 v5
  let c512_i32_1585 : BitVec 32 := 512#32
  let v2215 : BitVec 32 := Scalar.muli v2214 c512_i32_1585
  v2215
def k0_mult91 (d0 : Dev nD) : BitVec 32 :=
  let c2_i32_1601 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2232 : BitVec 32 := Scalar.muli c2_i32_1601 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2233 : BitVec 32 := Scalar.addi v2232 v10
  let c512_i32_1602 : BitVec 32 := 512#32
  let v2234 : BitVec 32 := Scalar.muli v2233 c512_i32_1602
  v2234
def k0_mult92 (d0 : Dev nD) : BitVec 32 :=
  let c2_i32_1618 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2251 : BitVec 32 := Scalar.muli c2_i32_1618 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2252 : BitVec 32 := Scalar.addi v2251 v12
  let c512_i32_1619 : BitVec 32 := 512#32
  let v2253 : BitVec 32 := Scalar.muli v2252 c512_i32_1619
  v2253
def k0_mult93 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1639 : BitVec 32 := 512#32
  let v2275 : BitVec 32 := Scalar.muli v14 c512_i32_1639
  v2275
def k0_mult94 (d0 : Dev nD) : BitVec 32 :=
  let c2_i32_1646 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2282 : BitVec 32 := Scalar.muli c2_i32_1646 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2283 : BitVec 32 := Scalar.addi v2282 v5
  let c512_i32_1647 : BitVec 32 := 512#32
  let v2284 : BitVec 32 := Scalar.muli v2283 c512_i32_1647
  v2284
def k0_mult95 (d0 : Dev nD) : BitVec 32 :=
  let c2_i32_1663 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2301 : BitVec 32 := Scalar.muli c2_i32_1663 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2302 : BitVec 32 := Scalar.addi v2301 v10
  let c512_i32_1664 : BitVec 32 := 512#32
  let v2303 : BitVec 32 := Scalar.muli v2302 c512_i32_1664
  v2303
def k0_mult96 (d0 : Dev nD) : BitVec 32 :=
  let c2_i32_1680 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2320 : BitVec 32 := Scalar.muli c2_i32_1680 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2321 : BitVec 32 := Scalar.addi v2320 v12
  let c512_i32_1681 : BitVec 32 := 512#32
  let v2322 : BitVec 32 := Scalar.muli v2321 c512_i32_1681
  v2322
def k0_mult97 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_1701 : BitVec 32 := 2816#32
  let v2344 : BitVec 32 := Scalar.muli v14 c2816_i32_1701
  v2344
def k0_mult98 (d0 : Dev nD) : BitVec 32 :=
  let c2_i32_1708 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2351 : BitVec 32 := Scalar.muli c2_i32_1708 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2352 : BitVec 32 := Scalar.addi v2351 v5
  let c2816_i32_1709 : BitVec 32 := 2816#32
  let v2353 : BitVec 32 := Scalar.muli v2352 c2816_i32_1709
  v2353
def k0_mult99 (d0 : Dev nD) : BitVec 32 :=
  let c2_i32_1725 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2370 : BitVec 32 := Scalar.muli c2_i32_1725 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2371 : BitVec 32 := Scalar.addi v2370 v10
  let c2816_i32_1726 : BitVec 32 := 2816#32
  let v2372 : BitVec 32 := Scalar.muli v2371 c2816_i32_1726
  v2372
def k0_mult100 (d0 : Dev nD) : BitVec 32 :=
  let c2_i32_1742 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2389 : BitVec 32 := Scalar.muli c2_i32_1742 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2390 : BitVec 32 := Scalar.addi v2389 v12
  let c2816_i32_1743 : BitVec 32 := 2816#32
  let v2391 : BitVec 32 := Scalar.muli v2390 c2816_i32_1743
  v2391
def k0_mult101 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1408_i32_1763 : BitVec 32 := 1408#32
  let v2413 : BitVec 32 := Scalar.muli v14 c1408_i32_1763
  v2413
def k0_mult102 (d0 : Dev nD) : BitVec 32 :=
  let c2_i32_1770 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2420 : BitVec 32 := Scalar.muli c2_i32_1770 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2421 : BitVec 32 := Scalar.addi v2420 v5
  let c1408_i32_1771 : BitVec 32 := 1408#32
  let v2422 : BitVec 32 := Scalar.muli v2421 c1408_i32_1771
  v2422
def k0_mult103 (d0 : Dev nD) : BitVec 32 :=
  let c2_i32_1787 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2439 : BitVec 32 := Scalar.muli c2_i32_1787 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2440 : BitVec 32 := Scalar.addi v2439 v10
  let c1408_i32_1788 : BitVec 32 := 1408#32
  let v2441 : BitVec 32 := Scalar.muli v2440 c1408_i32_1788
  v2441
def k0_mult104 (d0 : Dev nD) : BitVec 32 :=
  let c2_i32_1804 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2458 : BitVec 32 := Scalar.muli c2_i32_1804 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2459 : BitVec 32 := Scalar.addi v2458 v12
  let c1408_i32_1805 : BitVec 32 := 1408#32
  let v2460 : BitVec 32 := Scalar.muli v2459 c1408_i32_1805
  v2460
-- ==== Reference.lean ====
abbrev S16384x6144 : Shape := ⟨2, ![16384, 6144]⟩
abbrev S16384x2048 : Shape := ⟨2, ![16384, 2048]⟩
abbrev S16384x11264 : Shape := ⟨2, ![16384, 11264]⟩
abbrev S45056x2048 : Shape := ⟨2, ![45056, 2048]⟩
abbrev S8x2048x6144 : Shape := ⟨3, ![8, 2048, 6144]⟩
abbrev S8x2048x2048 : Shape := ⟨3, ![8, 2048, 2048]⟩
abbrev S8x2048x11264 : Shape := ⟨3, ![8, 2048, 11264]⟩
abbrev S8x5632x2048 : Shape := ⟨3, ![8, 5632, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S16384x2048, .bf16⟩
  | .hbm, ⟨2, _⟩ => ⟨S16384x2048, .bf16⟩
  | .hbm, ⟨3, _⟩ => ⟨S16384x2048, .bf16⟩
  | .hbm, ⟨4, _⟩ => ⟨S16384x2048, .bf16⟩
  | .hbm, ⟨5, _⟩ => ⟨S16384x2048, .bf16⟩
  | .hbm, ⟨6, _⟩ => ⟨S16384x11264, .bf16⟩
  | .hbm, ⟨7, _⟩ => ⟨S45056x2048, .bf16⟩
  | .hbm, ⟨8, _⟩ => ⟨S8x2048x6144, .bf16⟩
  | .hbm, ⟨9, _⟩ => ⟨S8x2048x2048, .bf16⟩
  | .hbm, ⟨10, _⟩ => ⟨S8x2048x2048, .bf16⟩
  | .hbm, ⟨11, _⟩ => ⟨S8x2048x2048, .bf16⟩
  | .hbm, ⟨12, _⟩ => ⟨S8x2048x2048, .bf16⟩
  | .hbm, ⟨13, _⟩ => ⟨S8x2048x2048, .bf16⟩
  | .hbm, ⟨14, _⟩ => ⟨S8x2048x11264, .bf16⟩
  | .hbm, ⟨15, _⟩ => ⟨S8x5632x2048, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Weights.lean ====
abbrev S2048x1536 : Shape := ⟨2, ![2048, 1536]⟩
abbrev S512x2048 : Shape := ⟨2, ![512, 2048]⟩
abbrev S2048x2816 : Shape := ⟨2, ![2048, 2816]⟩
abbrev S1408x2048 : Shape := ⟨2, ![1408, 2048]⟩
abbrev S4x256 : Shape := ⟨2, ![4, 256]⟩
abbrev S3x2816 : Shape := ⟨2, ![3, 2816]⟩
abbrev S2048x6144 : Shape := ⟨2, ![2048, 6144]⟩
abbrev S2048x2048 : Shape := ⟨2, ![2048, 2048]⟩
abbrev S2048x11264 : Shape := ⟨2, ![2048, 11264]⟩
abbrev S5632x2048 : Shape := ⟨2, ![5632, 2048]⟩
abbrev S4x1024 : Shape := ⟨2, ![4, 1024]⟩
abbrev S3x11264 : Shape := ⟨2, ![3, 11264]⟩
abbrev S30 : Shape := ⟨1, ![30]⟩
abbrev S10 : Shape := ⟨1, ![10]⟩
abbrev S1 : Shape := ⟨1, ![1]⟩
abbrev S_ : Shape := ⟨0, ![]⟩
abbrev S1024x1536 : Shape := ⟨2, ![1024, 1536]⟩
abbrev S256x2048 : Shape := ⟨2, ![256, 2048]⟩
abbrev S1024x2816 : Shape := ⟨2, ![1024, 2816]⟩
abbrev S704x2048 : Shape := ⟨2, ![704, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S512x2048, .bf16⟩
  | .hbm, ⟨2, _⟩ => ⟨S512x2048, .bf16⟩
  | .hbm, ⟨3, _⟩ => ⟨S512x2048, .bf16⟩
  | .hbm, ⟨4, _⟩ => ⟨S512x2048, .bf16⟩
  | .hbm, ⟨5, _⟩ => ⟨S512x2048, .bf16⟩
  | .hbm, ⟨6, _⟩ => ⟨S2048x2816, .bf16⟩
  | .hbm, ⟨7, _⟩ => ⟨S1408x2048, .bf16⟩
  | .hbm, ⟨8, _⟩ => ⟨S4x256, .f32⟩
  | .hbm, ⟨9, _⟩ => ⟨S3x2816, .f32⟩
  | .hbm, ⟨10, _⟩ => ⟨S2048x6144, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S2048x11264, .bf16⟩
  | .hbm, ⟨17, _⟩ => ⟨S5632x2048, .bf16⟩
  | .hbm, ⟨18, _⟩ => ⟨S4x1024, .f32⟩
  | .hbm, ⟨19, _⟩ => ⟨S3x11264, .f32⟩
  | _, _ => ⟨S2048x1536, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 0 → Bool
  | ⟨_, h⟩ => absurd h (Nat.not_lt_zero _)

abbrev dmaSemScoped : Fin 130 → Bool
  | ⟨i, _⟩ => dmaSemScopedAt i

abbrev sig : RefSig :=
  ofTc nBuf bufTy 0 130 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev main_v1_9 : Ref sig .tc := ⟨.hbm, 19, rfl⟩

abbrev nD : Nat := 8
abbrev τ : Topo := Topo.v7x

variable {F : FTy → Type} [FloatOps F]

abbrev grid0 : Pipeline.Grid := .none

def k0_mult1 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32 : BitVec 32 := 1536#32
  let v16 : BitVec 32 := Scalar.muli v14 c1536_i32
  v16
def k0_mult2 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32 : BitVec 32 := 2816#32
  let v23 : BitVec 32 := Scalar.muli v14 c2816_i32
  v23
def k0_mult3 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c256_i32 : BitVec 32 := 256#32
  let v26 : BitVec 32 := Scalar.muli v14 c256_i32
  v26
def k0_mult4 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_13 : BitVec 32 := 2816#32
  let v28 : BitVec 32 := Scalar.muli v14 c2816_i32_13
  v28
def k0_off1 (d0 : Dev nD) : Fin 2 → Nat :=
  let c0_i32_14 : BitVec 32 := 0#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32 : BitVec 32 := 1536#32
  let v16 : BitVec 32 := Scalar.muli v14 c1536_i32
  let v17 : BitVec 32 := v16
  ![0, v17.toNat]
def k0_off2 (d0 : Dev nD) : Fin 2 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32 : BitVec 32 := 512#32
  let v18 : BitVec 32 := Scalar.muli v14 c512_i32
  let c0_i32_16 : BitVec 32 := 0#32
  ![v18.toNat, 0]
def k0_off3 (d0 : Dev nD) : Fin 2 → Nat :=
  let c0_i32_23 : BitVec 32 := 0#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32 : BitVec 32 := 2816#32
  let v23 : BitVec 32 := Scalar.muli v14 c2816_i32
  let v24 : BitVec 32 := v23
  ![0, v24.toNat]
def k0_off4 (d0 : Dev nD) : Fin 2 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1408_i32 : BitVec 32 := 1408#32
  let v25 : BitVec 32 := Scalar.muli v14 c1408_i32
  let c0_i32_24 : BitVec 32 := 0#32
  ![v25.toNat, 0]
def k0_off5 (d0 : Dev nD) : Fin 2 → Nat :=
  let c0_i32_25 : BitVec 32 := 0#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c256_i32 : BitVec 32 := 256#32
  let v26 : BitVec 32 := Scalar.muli v14 c256_i32
  let v27 : BitVec 32 := v26
  ![0, v27.toNat]
def k0_off6 (d0 : Dev nD) : Fin 2 → Nat :=
  let c0_i32_26 : BitVec 32 := 0#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_13 : BitVec 32 := 2816#32
  let v28 : BitVec 32 := Scalar.muli v14 c2816_i32_13
  let v29 : BitVec 32 := v28
  ![0, v29.toNat]
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v60 : BitVec 32 := Scalar.muli v8 c1024_i32
  v60
def k0_mult6 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_27 : BitVec 32 := 1024#32
  let v62 : BitVec 32 := Scalar.muli v8 c1024_i32_27
  let c0_i32_28 : BitVec 32 := 0#32
  let v63 : BitVec 32 := Scalar.addi v62 c0_i32_28
  v63
def k0_mult7 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32_29 : BitVec 32 := 1536#32
  let v65 : BitVec 32 := Scalar.muli v14 c1536_i32_29
  v65
def k0_off7 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_27 : BitVec 32 := 1024#32
  let v62 : BitVec 32 := Scalar.muli v8 c1024_i32_27
  let c0_i32_28 : BitVec 32 := 0#32
  let v63 : BitVec 32 := Scalar.addi v62 c0_i32_28
  let v64 : BitVec 32 := v63
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32_29 : BitVec 32 := 1536#32
  let v65 : BitVec 32 := Scalar.muli v14 c1536_i32_29
  let v66 : BitVec 32 := v65
  ![v64.toNat, v66.toNat]
def k0_off8 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v60 : BitVec 32 := Scalar.muli v8 c1024_i32
  let v61 : BitVec 32 := v60
  let c0_i32_36 : BitVec 32 := 0#32
  ![v61.toNat, 0]
def k0_dev1 (d0 : Dev nD) : Nat :=
  let c0_i32_33 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_32 : BitVec 32 := 4#32
  let v67 : BitVec 32 := Scalar.muli v9 c4_i32_32
  let v68 : BitVec 32 := Scalar.addi c0_i32_33 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v69 : BitVec 32 := Scalar.muli v5 c2_i32_34
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v71 : BitVec 32 := Scalar.muli v8 c1_i32_35
  let v72 : BitVec 32 := Scalar.addi v70 v71
  v72.toNat
def k0_mult8 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_37 : BitVec 32 := 1024#32
  let v79 : BitVec 32 := Scalar.muli v8 c1024_i32_37
  v79
def k0_mult9 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_38 : BitVec 32 := 1024#32
  let v81 : BitVec 32 := Scalar.muli v8 c1024_i32_38
  let c0_i32_39 : BitVec 32 := 0#32
  let v82 : BitVec 32 := Scalar.addi v81 c0_i32_39
  v82
def k0_mult10 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32_40 : BitVec 32 := 1536#32
  let v84 : BitVec 32 := Scalar.muli v14 c1536_i32_40
  v84
def k0_dev2 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v86 : BitVec 32 := Scalar.muli v2 c4_i32_43
  let v87 : BitVec 32 := Scalar.addi c0_i32_44 v86
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_45 : BitVec 32 := 2#32
  let v88 : BitVec 32 := Scalar.muli v10 c2_i32_45
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v90 : BitVec 32 := Scalar.muli v8 c1_i32_46
  let v91 : BitVec 32 := Scalar.addi v89 v90
  v91.toNat
def k0_mult11 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_48 : BitVec 32 := 1024#32
  let v98 : BitVec 32 := Scalar.muli v8 c1024_i32_48
  v98
def k0_mult12 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_49 : BitVec 32 := 1024#32
  let v100 : BitVec 32 := Scalar.muli v8 c1024_i32_49
  let c0_i32_50 : BitVec 32 := 0#32
  let v101 : BitVec 32 := Scalar.addi v100 c0_i32_50
  v101
def k0_mult13 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32_51 : BitVec 32 := 1536#32
  let v103 : BitVec 32 := Scalar.muli v14 c1536_i32_51
  v103
def k0_dev3 (d0 : Dev nD) : Nat :=
  let c0_i32_55 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_54 : BitVec 32 := 4#32
  let v105 : BitVec 32 := Scalar.muli v11 c4_i32_54
  let v106 : BitVec 32 := Scalar.addi c0_i32_55 v105
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_56 : BitVec 32 := 2#32
  let v107 : BitVec 32 := Scalar.muli v12 c2_i32_56
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v109 : BitVec 32 := Scalar.muli v8 c1_i32_57
  let v110 : BitVec 32 := Scalar.addi v108 v109
  v110.toNat
def k0_mult14 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_59 : BitVec 32 := 256#32
  let v117 : BitVec 32 := Scalar.muli v8 c256_i32_59
  v117
def k0_mult15 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_60 : BitVec 32 := 256#32
  let v119 : BitVec 32 := Scalar.muli v8 c256_i32_60
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_61 : BitVec 32 := 512#32
  let v120 : BitVec 32 := Scalar.muli v14 c512_i32_61
  let v121 : BitVec 32 := Scalar.addi v119 v120
  v121
def k0_off9 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_60 : BitVec 32 := 256#32
  let v119 : BitVec 32 := Scalar.muli v8 c256_i32_60
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_61 : BitVec 32 := 512#32
  let v120 : BitVec 32 := Scalar.muli v14 c512_i32_61
  let v121 : BitVec 32 := Scalar.addi v119 v120
  let v122 : BitVec 32 := v121
  let c0_i32_68 : BitVec 32 := 0#32
  ![v122.toNat, 0]
def k0_off10 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_59 : BitVec 32 := 256#32
  let v117 : BitVec 32 := Scalar.muli v8 c256_i32_59
  let v118 : BitVec 32 := v117
  let c0_i32_69 : BitVec 32 := 0#32
  ![v118.toNat, 0]
def k0_dev4 (d0 : Dev nD) : Nat :=
  let c0_i32_65 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_64 : BitVec 32 := 4#32
  let v123 : BitVec 32 := Scalar.muli v9 c4_i32_64
  let v124 : BitVec 32 := Scalar.addi c0_i32_65 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v125 : BitVec 32 := Scalar.muli v5 c2_i32_66
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v127 : BitVec 32 := Scalar.muli v8 c1_i32_67
  let v128 : BitVec 32 := Scalar.addi v126 v127
  v128.toNat
def k0_mult16 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_70 : BitVec 32 := 256#32
  let v135 : BitVec 32 := Scalar.muli v8 c256_i32_70
  v135
def k0_mult17 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_71 : BitVec 32 := 256#32
  let v137 : BitVec 32 := Scalar.muli v8 c256_i32_71
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_72 : BitVec 32 := 512#32
  let v138 : BitVec 32 := Scalar.muli v14 c512_i32_72
  let v139 : BitVec 32 := Scalar.addi v137 v138
  v139
def k0_dev5 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v141 : BitVec 32 := Scalar.muli v2 c4_i32_75
  let v142 : BitVec 32 := Scalar.addi c0_i32_76 v141
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_77 : BitVec 32 := 2#32
  let v143 : BitVec 32 := Scalar.muli v10 c2_i32_77
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v145 : BitVec 32 := Scalar.muli v8 c1_i32_78
  let v146 : BitVec 32 := Scalar.addi v144 v145
  v146.toNat
def k0_mult18 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_81 : BitVec 32 := 256#32
  let v153 : BitVec 32 := Scalar.muli v8 c256_i32_81
  v153
def k0_mult19 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_82 : BitVec 32 := 256#32
  let v155 : BitVec 32 := Scalar.muli v8 c256_i32_82
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_83 : BitVec 32 := 512#32
  let v156 : BitVec 32 := Scalar.muli v14 c512_i32_83
  let v157 : BitVec 32 := Scalar.addi v155 v156
  v157
def k0_dev6 (d0 : Dev nD) : Nat :=
  let c0_i32_87 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_86 : BitVec 32 := 4#32
  let v159 : BitVec 32 := Scalar.muli v11 c4_i32_86
  let v160 : BitVec 32 := Scalar.addi c0_i32_87 v159
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_88 : BitVec 32 := 2#32
  let v161 : BitVec 32 := Scalar.muli v12 c2_i32_88
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v163 : BitVec 32 := Scalar.muli v8 c1_i32_89
  let v164 : BitVec 32 := Scalar.addi v162 v163
  v164.toNat
def k0_mult20 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_92 : BitVec 32 := 256#32
  let v171 : BitVec 32 := Scalar.muli v8 c256_i32_92
  v171
def k0_mult21 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_93 : BitVec 32 := 256#32
  let v173 : BitVec 32 := Scalar.muli v8 c256_i32_93
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_94 : BitVec 32 := 512#32
  let v174 : BitVec 32 := Scalar.muli v14 c512_i32_94
  let v175 : BitVec 32 := Scalar.addi v173 v174
  v175
def k0_dev7 (d0 : Dev nD) : Nat :=
  let c0_i32_98 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_97 : BitVec 32 := 4#32
  let v177 : BitVec 32 := Scalar.muli v9 c4_i32_97
  let v178 : BitVec 32 := Scalar.addi c0_i32_98 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v179 : BitVec 32 := Scalar.muli v5 c2_i32_99
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v181 : BitVec 32 := Scalar.muli v8 c1_i32_100
  let v182 : BitVec 32 := Scalar.addi v180 v181
  v182.toNat
def k0_mult22 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_103 : BitVec 32 := 256#32
  let v189 : BitVec 32 := Scalar.muli v8 c256_i32_103
  v189
def k0_mult23 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_104 : BitVec 32 := 256#32
  let v191 : BitVec 32 := Scalar.muli v8 c256_i32_104
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_105 : BitVec 32 := 512#32
  let v192 : BitVec 32 := Scalar.muli v14 c512_i32_105
  let v193 : BitVec 32 := Scalar.addi v191 v192
  v193
def k0_dev8 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v195 : BitVec 32 := Scalar.muli v2 c4_i32_108
  let v196 : BitVec 32 := Scalar.addi c0_i32_109 v195
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_110 : BitVec 32 := 2#32
  let v197 : BitVec 32 := Scalar.muli v10 c2_i32_110
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v199 : BitVec 32 := Scalar.muli v8 c1_i32_111
  let v200 : BitVec 32 := Scalar.addi v198 v199
  v200.toNat
def k0_mult24 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_114 : BitVec 32 := 256#32
  let v207 : BitVec 32 := Scalar.muli v8 c256_i32_114
  v207
def k0_mult25 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_115 : BitVec 32 := 256#32
  let v209 : BitVec 32 := Scalar.muli v8 c256_i32_115
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_116 : BitVec 32 := 512#32
  let v210 : BitVec 32 := Scalar.muli v14 c512_i32_116
  let v211 : BitVec 32 := Scalar.addi v209 v210
  v211
def k0_dev9 (d0 : Dev nD) : Nat :=
  let c0_i32_120 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_119 : BitVec 32 := 4#32
  let v213 : BitVec 32 := Scalar.muli v11 c4_i32_119
  let v214 : BitVec 32 := Scalar.addi c0_i32_120 v213
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_121 : BitVec 32 := 2#32
  let v215 : BitVec 32 := Scalar.muli v12 c2_i32_121
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v217 : BitVec 32 := Scalar.muli v8 c1_i32_122
  let v218 : BitVec 32 := Scalar.addi v216 v217
  v218.toNat
def k0_mult26 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_125 : BitVec 32 := 256#32
  let v225 : BitVec 32 := Scalar.muli v8 c256_i32_125
  v225
def k0_mult27 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_126 : BitVec 32 := 256#32
  let v227 : BitVec 32 := Scalar.muli v8 c256_i32_126
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_127 : BitVec 32 := 512#32
  let v228 : BitVec 32 := Scalar.muli v14 c512_i32_127
  let v229 : BitVec 32 := Scalar.addi v227 v228
  v229
def k0_dev10 (d0 : Dev nD) : Nat :=
  let c0_i32_131 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_130 : BitVec 32 := 4#32
  let v231 : BitVec 32 := Scalar.muli v9 c4_i32_130
  let v232 : BitVec 32 := Scalar.addi c0_i32_131 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v233 : BitVec 32 := Scalar.muli v5 c2_i32_132
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v235 : BitVec 32 := Scalar.muli v8 c1_i32_133
  let v236 : BitVec 32 := Scalar.addi v234 v235
  v236.toNat
def k0_mult28 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_136 : BitVec 32 := 256#32
  let v243 : BitVec 32 := Scalar.muli v8 c256_i32_136
  v243
def k0_mult29 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_137 : BitVec 32 := 256#32
  let v245 : BitVec 32 := Scalar.muli v8 c256_i32_137
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_138 : BitVec 32 := 512#32
  let v246 : BitVec 32 := Scalar.muli v14 c512_i32_138
  let v247 : BitVec 32 := Scalar.addi v245 v246
  v247
def k0_dev11 (d0 : Dev nD) : Nat :=
  let c0_i32_141 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_140 : BitVec 32 := 4#32
  let v249 : BitVec 32 := Scalar.muli v2 c4_i32_140
  let v250 : BitVec 32 := Scalar.addi c0_i32_141 v249
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_142 : BitVec 32 := 2#32
  let v251 : BitVec 32 := Scalar.muli v10 c2_i32_142
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v253 : BitVec 32 := Scalar.muli v8 c1_i32_143
  let v254 : BitVec 32 := Scalar.addi v252 v253
  v254.toNat
def k0_mult30 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_146 : BitVec 32 := 256#32
  let v261 : BitVec 32 := Scalar.muli v8 c256_i32_146
  v261
def k0_mult31 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_147 : BitVec 32 := 256#32
  let v263 : BitVec 32 := Scalar.muli v8 c256_i32_147
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_148 : BitVec 32 := 512#32
  let v264 : BitVec 32 := Scalar.muli v14 c512_i32_148
  let v265 : BitVec 32 := Scalar.addi v263 v264
  v265
def k0_dev12 (d0 : Dev nD) : Nat :=
  let c0_i32_151 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_150 : BitVec 32 := 4#32
  let v267 : BitVec 32 := Scalar.muli v11 c4_i32_150
  let v268 : BitVec 32 := Scalar.addi c0_i32_151 v267
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_152 : BitVec 32 := 2#32
  let v269 : BitVec 32 := Scalar.muli v12 c2_i32_152
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v271 : BitVec 32 := Scalar.muli v8 c1_i32_153
  let v272 : BitVec 32 := Scalar.addi v270 v271
  v272.toNat
def k0_mult32 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_156 : BitVec 32 := 256#32
  let v279 : BitVec 32 := Scalar.muli v8 c256_i32_156
  v279
def k0_mult33 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_157 : BitVec 32 := 256#32
  let v281 : BitVec 32 := Scalar.muli v8 c256_i32_157
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_158 : BitVec 32 := 512#32
  let v282 : BitVec 32 := Scalar.muli v14 c512_i32_158
  let v283 : BitVec 32 := Scalar.addi v281 v282
  v283
def k0_dev13 (d0 : Dev nD) : Nat :=
  let c0_i32_161 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_160 : BitVec 32 := 4#32
  let v285 : BitVec 32 := Scalar.muli v9 c4_i32_160
  let v286 : BitVec 32 := Scalar.addi c0_i32_161 v285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_162 : BitVec 32 := 2#32
  let v287 : BitVec 32 := Scalar.muli v5 c2_i32_162
  let v288 : BitVec 32 := Scalar.addi v286 v287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v289 : BitVec 32 := Scalar.muli v8 c1_i32_163
  let v290 : BitVec 32 := Scalar.addi v288 v289
  v290.toNat
def k0_mult34 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_166 : BitVec 32 := 256#32
  let v297 : BitVec 32 := Scalar.muli v8 c256_i32_166
  v297
def k0_mult35 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_167 : BitVec 32 := 256#32
  let v299 : BitVec 32 := Scalar.muli v8 c256_i32_167
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_168 : BitVec 32 := 512#32
  let v300 : BitVec 32 := Scalar.muli v14 c512_i32_168
  let v301 : BitVec 32 := Scalar.addi v299 v300
  v301
def k0_dev14 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_170 : BitVec 32 := 4#32
  let v303 : BitVec 32 := Scalar.muli v2 c4_i32_170
  let v304 : BitVec 32 := Scalar.addi c0_i32_171 v303
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_172 : BitVec 32 := 2#32
  let v305 : BitVec 32 := Scalar.muli v10 c2_i32_172
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_173 : BitVec 32 := 1#32
  let v307 : BitVec 32 := Scalar.muli v8 c1_i32_173
  let v308 : BitVec 32 := Scalar.addi v306 v307
  v308.toNat
def k0_mult36 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_176 : BitVec 32 := 256#32
  let v315 : BitVec 32 := Scalar.muli v8 c256_i32_176
  v315
def k0_mult37 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_177 : BitVec 32 := 256#32
  let v317 : BitVec 32 := Scalar.muli v8 c256_i32_177
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_178 : BitVec 32 := 512#32
  let v318 : BitVec 32 := Scalar.muli v14 c512_i32_178
  let v319 : BitVec 32 := Scalar.addi v317 v318
  v319
def k0_dev15 (d0 : Dev nD) : Nat :=
  let c0_i32_181 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_180 : BitVec 32 := 4#32
  let v321 : BitVec 32 := Scalar.muli v11 c4_i32_180
  let v322 : BitVec 32 := Scalar.addi c0_i32_181 v321
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_182 : BitVec 32 := 2#32
  let v323 : BitVec 32 := Scalar.muli v12 c2_i32_182
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_183 : BitVec 32 := 1#32
  let v325 : BitVec 32 := Scalar.muli v8 c1_i32_183
  let v326 : BitVec 32 := Scalar.addi v324 v325
  v326.toNat
def k0_mult38 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_186 : BitVec 32 := 256#32
  let v333 : BitVec 32 := Scalar.muli v8 c256_i32_186
  v333
def k0_mult39 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_187 : BitVec 32 := 256#32
  let v335 : BitVec 32 := Scalar.muli v8 c256_i32_187
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_188 : BitVec 32 := 512#32
  let v336 : BitVec 32 := Scalar.muli v14 c512_i32_188
  let v337 : BitVec 32 := Scalar.addi v335 v336
  v337
def k0_dev16 (d0 : Dev nD) : Nat :=
  let c0_i32_191 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_190 : BitVec 32 := 4#32
  let v339 : BitVec 32 := Scalar.muli v9 c4_i32_190
  let v340 : BitVec 32 := Scalar.addi c0_i32_191 v339
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_192 : BitVec 32 := 2#32
  let v341 : BitVec 32 := Scalar.muli v5 c2_i32_192
  let v342 : BitVec 32 := Scalar.addi v340 v341
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_193 : BitVec 32 := 1#32
  let v343 : BitVec 32 := Scalar.muli v8 c1_i32_193
  let v344 : BitVec 32 := Scalar.addi v342 v343
  v344.toNat
def k0_mult40 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_196 : BitVec 32 := 256#32
  let v351 : BitVec 32 := Scalar.muli v8 c256_i32_196
  v351
def k0_mult41 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_197 : BitVec 32 := 256#32
  let v353 : BitVec 32 := Scalar.muli v8 c256_i32_197
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_198 : BitVec 32 := 512#32
  let v354 : BitVec 32 := Scalar.muli v14 c512_i32_198
  let v355 : BitVec 32 := Scalar.addi v353 v354
  v355
def k0_dev17 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_200 : BitVec 32 := 4#32
  let v357 : BitVec 32 := Scalar.muli v2 c4_i32_200
  let v358 : BitVec 32 := Scalar.addi c0_i32_201 v357
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_202 : BitVec 32 := 2#32
  let v359 : BitVec 32 := Scalar.muli v10 c2_i32_202
  let v360 : BitVec 32 := Scalar.addi v358 v359
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_203 : BitVec 32 := 1#32
  let v361 : BitVec 32 := Scalar.muli v8 c1_i32_203
  let v362 : BitVec 32 := Scalar.addi v360 v361
  v362.toNat
def k0_mult42 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_206 : BitVec 32 := 256#32
  let v369 : BitVec 32 := Scalar.muli v8 c256_i32_206
  v369
def k0_mult43 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_207 : BitVec 32 := 256#32
  let v371 : BitVec 32 := Scalar.muli v8 c256_i32_207
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_208 : BitVec 32 := 512#32
  let v372 : BitVec 32 := Scalar.muli v14 c512_i32_208
  let v373 : BitVec 32 := Scalar.addi v371 v372
  v373
def k0_dev18 (d0 : Dev nD) : Nat :=
  let c0_i32_211 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_210 : BitVec 32 := 4#32
  let v375 : BitVec 32 := Scalar.muli v11 c4_i32_210
  let v376 : BitVec 32 := Scalar.addi c0_i32_211 v375
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_212 : BitVec 32 := 2#32
  let v377 : BitVec 32 := Scalar.muli v12 c2_i32_212
  let v378 : BitVec 32 := Scalar.addi v376 v377
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_213 : BitVec 32 := 1#32
  let v379 : BitVec 32 := Scalar.muli v8 c1_i32_213
  let v380 : BitVec 32 := Scalar.addi v378 v379
  v380.toNat
def k0_mult44 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_216 : BitVec 32 := 1024#32
  let v387 : BitVec 32 := Scalar.muli v8 c1024_i32_216
  v387
def k0_mult45 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_217 : BitVec 32 := 1024#32
  let v389 : BitVec 32 := Scalar.muli v8 c1024_i32_217
  let c0_i32_218 : BitVec 32 := 0#32
  let v390 : BitVec 32 := Scalar.addi v389 c0_i32_218
  v390
def k0_mult46 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_219 : BitVec 32 := 2816#32
  let v392 : BitVec 32 := Scalar.muli v14 c2816_i32_219
  v392
def k0_off11 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_217 : BitVec 32 := 1024#32
  let v389 : BitVec 32 := Scalar.muli v8 c1024_i32_217
  let c0_i32_218 : BitVec 32 := 0#32
  let v390 : BitVec 32 := Scalar.addi v389 c0_i32_218
  let v391 : BitVec 32 := v390
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_219 : BitVec 32 := 2816#32
  let v392 : BitVec 32 := Scalar.muli v14 c2816_i32_219
  let v393 : BitVec 32 := v392
  ![v391.toNat, v393.toNat]
def k0_off12 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_216 : BitVec 32 := 1024#32
  let v387 : BitVec 32 := Scalar.muli v8 c1024_i32_216
  let v388 : BitVec 32 := v387
  let c0_i32_225 : BitVec 32 := 0#32
  ![v388.toNat, 0]
def k0_dev19 (d0 : Dev nD) : Nat :=
  let c0_i32_222 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_221 : BitVec 32 := 4#32
  let v394 : BitVec 32 := Scalar.muli v9 c4_i32_221
  let v395 : BitVec 32 := Scalar.addi c0_i32_222 v394
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_223 : BitVec 32 := 2#32
  let v396 : BitVec 32 := Scalar.muli v5 c2_i32_223
  let v397 : BitVec 32 := Scalar.addi v395 v396
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_224 : BitVec 32 := 1#32
  let v398 : BitVec 32 := Scalar.muli v8 c1_i32_224
  let v399 : BitVec 32 := Scalar.addi v397 v398
  v399.toNat
def k0_mult47 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_226 : BitVec 32 := 1024#32
  let v406 : BitVec 32 := Scalar.muli v8 c1024_i32_226
  v406
def k0_mult48 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_227 : BitVec 32 := 1024#32
  let v408 : BitVec 32 := Scalar.muli v8 c1024_i32_227
  let c0_i32_228 : BitVec 32 := 0#32
  let v409 : BitVec 32 := Scalar.addi v408 c0_i32_228
  v409
def k0_mult49 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_229 : BitVec 32 := 2816#32
  let v411 : BitVec 32 := Scalar.muli v14 c2816_i32_229
  v411
def k0_dev20 (d0 : Dev nD) : Nat :=
  let c0_i32_232 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_231 : BitVec 32 := 4#32
  let v413 : BitVec 32 := Scalar.muli v2 c4_i32_231
  let v414 : BitVec 32 := Scalar.addi c0_i32_232 v413
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_233 : BitVec 32 := 2#32
  let v415 : BitVec 32 := Scalar.muli v10 c2_i32_233
  let v416 : BitVec 32 := Scalar.addi v414 v415
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_234 : BitVec 32 := 1#32
  let v417 : BitVec 32 := Scalar.muli v8 c1_i32_234
  let v418 : BitVec 32 := Scalar.addi v416 v417
  v418.toNat
def k0_mult50 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_236 : BitVec 32 := 1024#32
  let v425 : BitVec 32 := Scalar.muli v8 c1024_i32_236
  v425
def k0_mult51 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_237 : BitVec 32 := 1024#32
  let v427 : BitVec 32 := Scalar.muli v8 c1024_i32_237
  let c0_i32_238 : BitVec 32 := 0#32
  let v428 : BitVec 32 := Scalar.addi v427 c0_i32_238
  v428
def k0_mult52 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_239 : BitVec 32 := 2816#32
  let v430 : BitVec 32 := Scalar.muli v14 c2816_i32_239
  v430
def k0_dev21 (d0 : Dev nD) : Nat :=
  let c0_i32_242 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_241 : BitVec 32 := 4#32
  let v432 : BitVec 32 := Scalar.muli v11 c4_i32_241
  let v433 : BitVec 32 := Scalar.addi c0_i32_242 v432
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_243 : BitVec 32 := 2#32
  let v434 : BitVec 32 := Scalar.muli v12 c2_i32_243
  let v435 : BitVec 32 := Scalar.addi v433 v434
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v436 : BitVec 32 := Scalar.muli v8 c1_i32_244
  let v437 : BitVec 32 := Scalar.addi v435 v436
  v437.toNat
def k0_mult53 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32 : BitVec 32 := 704#32
  let v444 : BitVec 32 := Scalar.muli v8 c704_i32
  v444
def k0_mult54 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_246 : BitVec 32 := 704#32
  let v446 : BitVec 32 := Scalar.muli v8 c704_i32_246
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1408_i32_247 : BitVec 32 := 1408#32
  let v447 : BitVec 32 := Scalar.muli v14 c1408_i32_247
  let v448 : BitVec 32 := Scalar.addi v446 v447
  v448
def k0_off13 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_246 : BitVec 32 := 704#32
  let v446 : BitVec 32 := Scalar.muli v8 c704_i32_246
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1408_i32_247 : BitVec 32 := 1408#32
  let v447 : BitVec 32 := Scalar.muli v14 c1408_i32_247
  let v448 : BitVec 32 := Scalar.addi v446 v447
  let v449 : BitVec 32 := v448
  let c0_i32_253 : BitVec 32 := 0#32
  ![v449.toNat, 0]
def k0_off14 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32 : BitVec 32 := 704#32
  let v444 : BitVec 32 := Scalar.muli v8 c704_i32
  let v445 : BitVec 32 := v444
  let c0_i32_254 : BitVec 32 := 0#32
  ![v445.toNat, 0]
def k0_dev22 (d0 : Dev nD) : Nat :=
  let c0_i32_250 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_249 : BitVec 32 := 4#32
  let v450 : BitVec 32 := Scalar.muli v9 c4_i32_249
  let v451 : BitVec 32 := Scalar.addi c0_i32_250 v450
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_251 : BitVec 32 := 2#32
  let v452 : BitVec 32 := Scalar.muli v5 c2_i32_251
  let v453 : BitVec 32 := Scalar.addi v451 v452
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v454 : BitVec 32 := Scalar.muli v8 c1_i32_252
  let v455 : BitVec 32 := Scalar.addi v453 v454
  v455.toNat
def k0_mult55 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_255 : BitVec 32 := 704#32
  let v462 : BitVec 32 := Scalar.muli v8 c704_i32_255
  v462
def k0_mult56 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_256 : BitVec 32 := 704#32
  let v464 : BitVec 32 := Scalar.muli v8 c704_i32_256
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1408_i32_257 : BitVec 32 := 1408#32
  let v465 : BitVec 32 := Scalar.muli v14 c1408_i32_257
  let v466 : BitVec 32 := Scalar.addi v464 v465
  v466
def k0_dev23 (d0 : Dev nD) : Nat :=
  let c0_i32_260 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_259 : BitVec 32 := 4#32
  let v468 : BitVec 32 := Scalar.muli v2 c4_i32_259
  let v469 : BitVec 32 := Scalar.addi c0_i32_260 v468
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_261 : BitVec 32 := 2#32
  let v470 : BitVec 32 := Scalar.muli v10 c2_i32_261
  let v471 : BitVec 32 := Scalar.addi v469 v470
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_262 : BitVec 32 := 1#32
  let v472 : BitVec 32 := Scalar.muli v8 c1_i32_262
  let v473 : BitVec 32 := Scalar.addi v471 v472
  v473.toNat
def k0_mult57 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_265 : BitVec 32 := 704#32
  let v480 : BitVec 32 := Scalar.muli v8 c704_i32_265
  v480
def k0_mult58 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_266 : BitVec 32 := 704#32
  let v482 : BitVec 32 := Scalar.muli v8 c704_i32_266
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1408_i32_267 : BitVec 32 := 1408#32
  let v483 : BitVec 32 := Scalar.muli v14 c1408_i32_267
  let v484 : BitVec 32 := Scalar.addi v482 v483
  v484
def k0_dev24 (d0 : Dev nD) : Nat :=
  let c0_i32_270 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_269 : BitVec 32 := 4#32
  let v486 : BitVec 32 := Scalar.muli v11 c4_i32_269
  let v487 : BitVec 32 := Scalar.addi c0_i32_270 v486
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_271 : BitVec 32 := 2#32
  let v488 : BitVec 32 := Scalar.muli v12 c2_i32_271
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v490 : BitVec 32 := Scalar.muli v8 c1_i32_272
  let v491 : BitVec 32 := Scalar.addi v489 v490
  v491.toNat
def k0_mult59 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c256_i32_275 : BitVec 32 := 256#32
  let v498 : BitVec 32 := Scalar.muli v14 c256_i32_275
  v498
def k0_dev25 (d0 : Dev nD) : Nat :=
  let c0_i32_278 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_277 : BitVec 32 := 4#32
  let v500 : BitVec 32 := Scalar.muli v9 c4_i32_277
  let v501 : BitVec 32 := Scalar.addi c0_i32_278 v500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_279 : BitVec 32 := 2#32
  let v502 : BitVec 32 := Scalar.muli v5 c2_i32_279
  let v503 : BitVec 32 := Scalar.addi v501 v502
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_280 : BitVec 32 := 1#32
  let v504 : BitVec 32 := Scalar.muli v8 c1_i32_280
  let v505 : BitVec 32 := Scalar.addi v503 v504
  v505.toNat
def k0_mult60 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c256_i32_282 : BitVec 32 := 256#32
  let v511 : BitVec 32 := Scalar.muli v14 c256_i32_282
  v511
def k0_dev26 (d0 : Dev nD) : Nat :=
  let c0_i32_285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_284 : BitVec 32 := 4#32
  let v513 : BitVec 32 := Scalar.muli v2 c4_i32_284
  let v514 : BitVec 32 := Scalar.addi c0_i32_285 v513
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_286 : BitVec 32 := 2#32
  let v515 : BitVec 32 := Scalar.muli v10 c2_i32_286
  let v516 : BitVec 32 := Scalar.addi v514 v515
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_287 : BitVec 32 := 1#32
  let v517 : BitVec 32 := Scalar.muli v8 c1_i32_287
  let v518 : BitVec 32 := Scalar.addi v516 v517
  v518.toNat
def k0_mult61 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c256_i32_289 : BitVec 32 := 256#32
  let v524 : BitVec 32 := Scalar.muli v14 c256_i32_289
  v524
def k0_dev27 (d0 : Dev nD) : Nat :=
  let c0_i32_292 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_291 : BitVec 32 := 4#32
  let v526 : BitVec 32 := Scalar.muli v11 c4_i32_291
  let v527 : BitVec 32 := Scalar.addi c0_i32_292 v526
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_293 : BitVec 32 := 2#32
  let v528 : BitVec 32 := Scalar.muli v12 c2_i32_293
  let v529 : BitVec 32 := Scalar.addi v527 v528
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_294 : BitVec 32 := 1#32
  let v530 : BitVec 32 := Scalar.muli v8 c1_i32_294
  let v531 : BitVec 32 := Scalar.addi v529 v530
  v531.toNat
def k0_mult62 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_296 : BitVec 32 := 2816#32
  let v537 : BitVec 32 := Scalar.muli v14 c2816_i32_296
  v537
def k0_dev28 (d0 : Dev nD) : Nat :=
  let c0_i32_299 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_298 : BitVec 32 := 4#32
  let v539 : BitVec 32 := Scalar.muli v9 c4_i32_298
  let v540 : BitVec 32 := Scalar.addi c0_i32_299 v539
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_300 : BitVec 32 := 2#32
  let v541 : BitVec 32 := Scalar.muli v5 c2_i32_300
  let v542 : BitVec 32 := Scalar.addi v540 v541
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_301 : BitVec 32 := 1#32
  let v543 : BitVec 32 := Scalar.muli v8 c1_i32_301
  let v544 : BitVec 32 := Scalar.addi v542 v543
  v544.toNat
def k0_mult63 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_303 : BitVec 32 := 2816#32
  let v550 : BitVec 32 := Scalar.muli v14 c2816_i32_303
  v550
def k0_dev29 (d0 : Dev nD) : Nat :=
  let c0_i32_306 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_305 : BitVec 32 := 4#32
  let v552 : BitVec 32 := Scalar.muli v2 c4_i32_305
  let v553 : BitVec 32 := Scalar.addi c0_i32_306 v552
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_307 : BitVec 32 := 2#32
  let v554 : BitVec 32 := Scalar.muli v10 c2_i32_307
  let v555 : BitVec 32 := Scalar.addi v553 v554
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_308 : BitVec 32 := 1#32
  let v556 : BitVec 32 := Scalar.muli v8 c1_i32_308
  let v557 : BitVec 32 := Scalar.addi v555 v556
  v557.toNat
def k0_mult64 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_310 : BitVec 32 := 2816#32
  let v563 : BitVec 32 := Scalar.muli v14 c2816_i32_310
  v563
def k0_dev30 (d0 : Dev nD) : Nat :=
  let c0_i32_313 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_312 : BitVec 32 := 4#32
  let v565 : BitVec 32 := Scalar.muli v11 c4_i32_312
  let v566 : BitVec 32 := Scalar.addi c0_i32_313 v565
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_314 : BitVec 32 := 2#32
  let v567 : BitVec 32 := Scalar.muli v12 c2_i32_314
  let v568 : BitVec 32 := Scalar.addi v566 v567
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_315 : BitVec 32 := 1#32
  let v569 : BitVec 32 := Scalar.muli v8 c1_i32_315
  let v570 : BitVec 32 := Scalar.addi v568 v569
  v570.toNat
def k0_mult65 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_318 : BitVec 32 := 1024#32
  let v578 : BitVec 32 := Scalar.muli v8 c1024_i32_318
  v578
def k0_mult66 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_319 : BitVec 32 := 1024#32
  let v580 : BitVec 32 := Scalar.muli v8 c1024_i32_319
  let c0_i32_320 : BitVec 32 := 0#32
  let v581 : BitVec 32 := Scalar.addi v580 c0_i32_320
  v581
def k0_mult67 (d0 : Dev nD) : BitVec 32 :=
  let c2_i32_317 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v576 : BitVec 32 := Scalar.muli c2_i32_317 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v577 : BitVec 32 := Scalar.addi v576 v5
  let c1536_i32_321 : BitVec 32 := 1536#32
  let v583 : BitVec 32 := Scalar.muli v577 c1536_i32_321
  v583
def k0_off15 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_319 : BitVec 32 := 1024#32
  let v580 : BitVec 32 := Scalar.muli v8 c1024_i32_319
  let c0_i32_320 : BitVec 32 := 0#32
  let v581 : BitVec 32 := Scalar.addi v580 c0_i32_320
  let v582 : BitVec 32 := v581
  let c2_i32_317 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v576 : BitVec 32 := Scalar.muli c2_i32_317 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v577 : BitVec 32 := Scalar.addi v576 v5
  let c1536_i32_321 : BitVec 32 := 1536#32
  let v583 : BitVec 32 := Scalar.muli v577 c1536_i32_321
  let v584 : BitVec 32 := v583
  ![v582.toNat, v584.toNat]
def k0_mult68 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_330 : BitVec 32 := 1024#32
  let v597 : BitVec 32 := Scalar.muli v8 c1024_i32_330
  let c0_i32_331 : BitVec 32 := 0#32
  let v598 : BitVec 32 := Scalar.addi v597 c0_i32_331
  v598
def k0_mult69 (d0 : Dev nD) : BitVec 32 :=
  let c2_i32_329 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v595 : BitVec 32 := Scalar.muli c2_i32_329 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v596 : BitVec 32 := Scalar.addi v595 v5
  let c1536_i32_332 : BitVec 32 := 1536#32
  let v600 : BitVec 32 := Scalar.muli v596 c1536_i32_332
  v600
def k0_mult70 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_333 : BitVec 32 := 1024#32
  let v602 : BitVec 32 := Scalar.muli v8 c1024_i32_333
  let c0_i32_334 : BitVec 32 := 0#32
  let v603 : BitVec 32 := Scalar.addi v602 c0_i32_334
  v603
def k0_mult71 (d0 : Dev nD) : BitVec 32 :=
  let c2_i32_329 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v595 : BitVec 32 := Scalar.muli c2_i32_329 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v596 : BitVec 32 := Scalar.addi v595 v5
  let c1536_i32_335 : BitVec 32 := 1536#32
  let v605 : BitVec 32 := Scalar.muli v596 c1536_i32_335
  v605
def k0_dev31 (d0 : Dev nD) : Nat :=
  let c0_i32_339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_338 : BitVec 32 := 4#32
  let v607 : BitVec 32 := Scalar.muli v2 c4_i32_338
  let v608 : BitVec 32 := Scalar.addi c0_i32_339 v607
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_340 : BitVec 32 := 2#32
  let v609 : BitVec 32 := Scalar.muli v5 c2_i32_340
  let v610 : BitVec 32 := Scalar.addi v608 v609
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_341 : BitVec 32 := 1#32
  let v611 : BitVec 32 := Scalar.muli v15 c1_i32_341
  let v612 : BitVec 32 := Scalar.addi v610 v611
  v612.toNat
def k0_mult72 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_343 : BitVec 32 := 1024#32
  let v621 : BitVec 32 := Scalar.muli v8 c1024_i32_343
  v621
def k0_mult73 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_344 : BitVec 32 := 1024#32
  let v623 : BitVec 32 := Scalar.muli v8 c1024_i32_344
  let c0_i32_345 : BitVec 32 := 0#32
  let v624 : BitVec 32 := Scalar.addi v623 c0_i32_345
  v624
def k0_mult74 (d0 : Dev nD) : BitVec 32 :=
  let c2_i32_342 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v619 : BitVec 32 := Scalar.muli c2_i32_342 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v620 : BitVec 32 := Scalar.addi v619 v10
  let c1536_i32_346 : BitVec 32 := 1536#32
  let v626 : BitVec 32 := Scalar.muli v620 c1536_i32_346
  v626
def k0_off16 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_344 : BitVec 32 := 1024#32
  let v623 : BitVec 32 := Scalar.muli v8 c1024_i32_344
  let c0_i32_345 : BitVec 32 := 0#32
  let v624 : BitVec 32 := Scalar.addi v623 c0_i32_345
  let v625 : BitVec 32 := v624
  let c2_i32_342 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v619 : BitVec 32 := Scalar.muli c2_i32_342 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v620 : BitVec 32 := Scalar.addi v619 v10
  let c1536_i32_346 : BitVec 32 := 1536#32
  let v626 : BitVec 32 := Scalar.muli v620 c1536_i32_346
  let v627 : BitVec 32 := v626
  ![v625.toNat, v627.toNat]
def k0_mult75 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_355 : BitVec 32 := 1024#32
  let v640 : BitVec 32 := Scalar.muli v8 c1024_i32_355
  let c0_i32_356 : BitVec 32 := 0#32
  let v641 : BitVec 32 := Scalar.addi v640 c0_i32_356
  v641
def k0_mult76 (d0 : Dev nD) : BitVec 32 :=
  let c2_i32_354 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v638 : BitVec 32 := Scalar.muli c2_i32_354 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v639 : BitVec 32 := Scalar.addi v638 v10
  let c1536_i32_357 : BitVec 32 := 1536#32
  let v643 : BitVec 32 := Scalar.muli v639 c1536_i32_357
  v643
def k0_mult77 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_358 : BitVec 32 := 1024#32
  let v645 : BitVec 32 := Scalar.muli v8 c1024_i32_358
  let c0_i32_359 : BitVec 32 := 0#32
  let v646 : BitVec 32 := Scalar.addi v645 c0_i32_359
  v646
def k0_mult78 (d0 : Dev nD) : BitVec 32 :=
  let c2_i32_354 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v638 : BitVec 32 := Scalar.muli c2_i32_354 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v639 : BitVec 32 := Scalar.addi v638 v10
  let c1536_i32_360 : BitVec 32 := 1536#32
  let v648 : BitVec 32 := Scalar.muli v639 c1536_i32_360
  v648
def k0_dev32 (d0 : Dev nD) : Nat :=
  let c0_i32_364 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_363 : BitVec 32 := 4#32
  let v650 : BitVec 32 := Scalar.muli v2 c4_i32_363
  let v651 : BitVec 32 := Scalar.addi c0_i32_364 v650
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_365 : BitVec 32 := 2#32
  let v652 : BitVec 32 := Scalar.muli v5 c2_i32_365
  let v653 : BitVec 32 := Scalar.addi v651 v652
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_366 : BitVec 32 := 1#32
  let v654 : BitVec 32 := Scalar.muli v15 c1_i32_366
  let v655 : BitVec 32 := Scalar.addi v653 v654
  v655.toNat
def k0_mult79 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_368 : BitVec 32 := 1024#32
  let v664 : BitVec 32 := Scalar.muli v8 c1024_i32_368
  v664
def k0_mult80 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_369 : BitVec 32 := 1024#32
  let v666 : BitVec 32 := Scalar.muli v8 c1024_i32_369
  let c0_i32_370 : BitVec 32 := 0#32
  let v667 : BitVec 32 := Scalar.addi v666 c0_i32_370
  v667
def k0_mult81 (d0 : Dev nD) : BitVec 32 :=
  let c2_i32_367 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v662 : BitVec 32 := Scalar.muli c2_i32_367 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v663 : BitVec 32 := Scalar.addi v662 v12
  let c1536_i32_371 : BitVec 32 := 1536#32
  let v669 : BitVec 32 := Scalar.muli v663 c1536_i32_371
  v669
def k0_off17 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_369 : BitVec 32 := 1024#32
  let v666 : BitVec 32 := Scalar.muli v8 c1024_i32_369
  let c0_i32_370 : BitVec 32 := 0#32
  let v667 : BitVec 32 := Scalar.addi v666 c0_i32_370
  let v668 : BitVec 32 := v667
  let c2_i32_367 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v662 : BitVec 32 := Scalar.muli c2_i32_367 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v663 : BitVec 32 := Scalar.addi v662 v12
  let c1536_i32_371 : BitVec 32 := 1536#32
  let v669 : BitVec 32 := Scalar.muli v663 c1536_i32_371
  let v670 : BitVec 32 := v669
  ![v668.toNat, v670.toNat]
def k0_mult82 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_380 : BitVec 32 := 1024#32
  let v683 : BitVec 32 := Scalar.muli v8 c1024_i32_380
  let c0_i32_381 : BitVec 32 := 0#32
  let v684 : BitVec 32 := Scalar.addi v683 c0_i32_381
  v684
def k0_mult83 (d0 : Dev nD) : BitVec 32 :=
  let c2_i32_379 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v681 : BitVec 32 := Scalar.muli c2_i32_379 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v682 : BitVec 32 := Scalar.addi v681 v12
  let c1536_i32_382 : BitVec 32 := 1536#32
  let v686 : BitVec 32 := Scalar.muli v682 c1536_i32_382
  v686
def k0_mult84 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_383 : BitVec 32 := 1024#32
  let v688 : BitVec 32 := Scalar.muli v8 c1024_i32_383
  let c0_i32_384 : BitVec 32 := 0#32
  let v689 : BitVec 32 := Scalar.addi v688 c0_i32_384
  v689
def k0_mult85 (d0 : Dev nD) : BitVec 32 :=
  let c2_i32_379 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v681 : BitVec 32 := Scalar.muli c2_i32_379 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v682 : BitVec 32 := Scalar.addi v681 v12
  let c1536_i32_385 : BitVec 32 := 1536#32
  let v691 : BitVec 32 := Scalar.muli v682 c1536_i32_385
  v691
def k0_dev33 (d0 : Dev nD) : Nat :=
  let c0_i32_389 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_388 : BitVec 32 := 4#32
  let v693 : BitVec 32 := Scalar.muli v2 c4_i32_388
  let v694 : BitVec 32 := Scalar.addi c0_i32_389 v693
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_390 : BitVec 32 := 2#32
  let v695 : BitVec 32 := Scalar.muli v5 c2_i32_390
  let v696 : BitVec 32 := Scalar.addi v694 v695
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_391 : BitVec 32 := 1#32
  let v697 : BitVec 32 := Scalar.muli v15 c1_i32_391
  let v698 : BitVec 32 := Scalar.addi v696 v697
  v698.toNat
def k0_mult86 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_393 : BitVec 32 := 256#32
  let v707 : BitVec 32 := Scalar.muli v8 c256_i32_393
  v707
def k0_mult87 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_394 : BitVec 32 := 256#32
  let v709 : BitVec 32 := Scalar.muli v8 c256_i32_394
  let c2_i32_392 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v705 : BitVec 32 := Scalar.muli c2_i32_392 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v706 : BitVec 32 := Scalar.addi v705 v5
  let c512_i32_395 : BitVec 32 := 512#32
  let v710 : BitVec 32 := Scalar.muli v706 c512_i32_395
  let v711 : BitVec 32 := Scalar.addi v709 v710
  v711
def k0_off18 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_394 : BitVec 32 := 256#32
  let v709 : BitVec 32 := Scalar.muli v8 c256_i32_394
  let c2_i32_392 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v705 : BitVec 32 := Scalar.muli c2_i32_392 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v706 : BitVec 32 := Scalar.addi v705 v5
  let c512_i32_395 : BitVec 32 := 512#32
  let v710 : BitVec 32 := Scalar.muli v706 c512_i32_395
  let v711 : BitVec 32 := Scalar.addi v709 v710
  let v712 : BitVec 32 := v711
  let c0_i32_402 : BitVec 32 := 0#32
  ![v712.toNat, 0]
def k0_mult88 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_405 : BitVec 32 := 256#32
  let v725 : BitVec 32 := Scalar.muli v8 c256_i32_405
  let c2_i32_404 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v723 : BitVec 32 := Scalar.muli c2_i32_404 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v724 : BitVec 32 := Scalar.addi v723 v5
  let c512_i32_406 : BitVec 32 := 512#32
  let v726 : BitVec 32 := Scalar.muli v724 c512_i32_406
  let v727 : BitVec 32 := Scalar.addi v725 v726
  v727
def k0_mult89 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_407 : BitVec 32 := 256#32
  let v729 : BitVec 32 := Scalar.muli v8 c256_i32_407
  let c2_i32_404 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v723 : BitVec 32 := Scalar.muli c2_i32_404 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v724 : BitVec 32 := Scalar.addi v723 v5
  let c512_i32_408 : BitVec 32 := 512#32
  let v730 : BitVec 32 := Scalar.muli v724 c512_i32_408
  let v731 : BitVec 32 := Scalar.addi v729 v730
  v731
def k0_dev34 (d0 : Dev nD) : Nat :=
  let c0_i32_412 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_411 : BitVec 32 := 4#32
  let v733 : BitVec 32 := Scalar.muli v2 c4_i32_411
  let v734 : BitVec 32 := Scalar.addi c0_i32_412 v733
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_413 : BitVec 32 := 2#32
  let v735 : BitVec 32 := Scalar.muli v5 c2_i32_413
  let v736 : BitVec 32 := Scalar.addi v734 v735
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_414 : BitVec 32 := 1#32
  let v737 : BitVec 32 := Scalar.muli v15 c1_i32_414
  let v738 : BitVec 32 := Scalar.addi v736 v737
  v738.toNat
def k0_mult90 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_418 : BitVec 32 := 256#32
  let v747 : BitVec 32 := Scalar.muli v8 c256_i32_418
  v747
def k0_mult91 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_419 : BitVec 32 := 256#32
  let v749 : BitVec 32 := Scalar.muli v8 c256_i32_419
  let c2_i32_417 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v745 : BitVec 32 := Scalar.muli c2_i32_417 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v746 : BitVec 32 := Scalar.addi v745 v10
  let c512_i32_420 : BitVec 32 := 512#32
  let v750 : BitVec 32 := Scalar.muli v746 c512_i32_420
  let v751 : BitVec 32 := Scalar.addi v749 v750
  v751
def k0_off19 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_419 : BitVec 32 := 256#32
  let v749 : BitVec 32 := Scalar.muli v8 c256_i32_419
  let c2_i32_417 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v745 : BitVec 32 := Scalar.muli c2_i32_417 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v746 : BitVec 32 := Scalar.addi v745 v10
  let c512_i32_420 : BitVec 32 := 512#32
  let v750 : BitVec 32 := Scalar.muli v746 c512_i32_420
  let v751 : BitVec 32 := Scalar.addi v749 v750
  let v752 : BitVec 32 := v751
  let c0_i32_427 : BitVec 32 := 0#32
  ![v752.toNat, 0]
def k0_mult92 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_430 : BitVec 32 := 256#32
  let v765 : BitVec 32 := Scalar.muli v8 c256_i32_430
  let c2_i32_429 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v763 : BitVec 32 := Scalar.muli c2_i32_429 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v764 : BitVec 32 := Scalar.addi v763 v10
  let c512_i32_431 : BitVec 32 := 512#32
  let v766 : BitVec 32 := Scalar.muli v764 c512_i32_431
  let v767 : BitVec 32 := Scalar.addi v765 v766
  v767
def k0_mult93 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_432 : BitVec 32 := 256#32
  let v769 : BitVec 32 := Scalar.muli v8 c256_i32_432
  let c2_i32_429 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v763 : BitVec 32 := Scalar.muli c2_i32_429 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v764 : BitVec 32 := Scalar.addi v763 v10
  let c512_i32_433 : BitVec 32 := 512#32
  let v770 : BitVec 32 := Scalar.muli v764 c512_i32_433
  let v771 : BitVec 32 := Scalar.addi v769 v770
  v771
def k0_dev35 (d0 : Dev nD) : Nat :=
  let c0_i32_437 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_436 : BitVec 32 := 4#32
  let v773 : BitVec 32 := Scalar.muli v2 c4_i32_436
  let v774 : BitVec 32 := Scalar.addi c0_i32_437 v773
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_438 : BitVec 32 := 2#32
  let v775 : BitVec 32 := Scalar.muli v5 c2_i32_438
  let v776 : BitVec 32 := Scalar.addi v774 v775
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_439 : BitVec 32 := 1#32
  let v777 : BitVec 32 := Scalar.muli v15 c1_i32_439
  let v778 : BitVec 32 := Scalar.addi v776 v777
  v778.toNat
def k0_mult94 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_443 : BitVec 32 := 256#32
  let v787 : BitVec 32 := Scalar.muli v8 c256_i32_443
  v787
def k0_mult95 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_444 : BitVec 32 := 256#32
  let v789 : BitVec 32 := Scalar.muli v8 c256_i32_444
  let c2_i32_442 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v785 : BitVec 32 := Scalar.muli c2_i32_442 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v786 : BitVec 32 := Scalar.addi v785 v12
  let c512_i32_445 : BitVec 32 := 512#32
  let v790 : BitVec 32 := Scalar.muli v786 c512_i32_445
  let v791 : BitVec 32 := Scalar.addi v789 v790
  v791
def k0_off20 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_444 : BitVec 32 := 256#32
  let v789 : BitVec 32 := Scalar.muli v8 c256_i32_444
  let c2_i32_442 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v785 : BitVec 32 := Scalar.muli c2_i32_442 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v786 : BitVec 32 := Scalar.addi v785 v12
  let c512_i32_445 : BitVec 32 := 512#32
  let v790 : BitVec 32 := Scalar.muli v786 c512_i32_445
  let v791 : BitVec 32 := Scalar.addi v789 v790
  let v792 : BitVec 32 := v791
  let c0_i32_452 : BitVec 32 := 0#32
  ![v792.toNat, 0]
def k0_mult96 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_455 : BitVec 32 := 256#32
  let v805 : BitVec 32 := Scalar.muli v8 c256_i32_455
  let c2_i32_454 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v803 : BitVec 32 := Scalar.muli c2_i32_454 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v804 : BitVec 32 := Scalar.addi v803 v12
  let c512_i32_456 : BitVec 32 := 512#32
  let v806 : BitVec 32 := Scalar.muli v804 c512_i32_456
  let v807 : BitVec 32 := Scalar.addi v805 v806
  v807
def k0_mult97 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_457 : BitVec 32 := 256#32
  let v809 : BitVec 32 := Scalar.muli v8 c256_i32_457
  let c2_i32_454 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v803 : BitVec 32 := Scalar.muli c2_i32_454 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v804 : BitVec 32 := Scalar.addi v803 v12
  let c512_i32_458 : BitVec 32 := 512#32
  let v810 : BitVec 32 := Scalar.muli v804 c512_i32_458
  let v811 : BitVec 32 := Scalar.addi v809 v810
  v811
def k0_dev36 (d0 : Dev nD) : Nat :=
  let c0_i32_462 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_461 : BitVec 32 := 4#32
  let v813 : BitVec 32 := Scalar.muli v2 c4_i32_461
  let v814 : BitVec 32 := Scalar.addi c0_i32_462 v813
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_463 : BitVec 32 := 2#32
  let v815 : BitVec 32 := Scalar.muli v5 c2_i32_463
  let v816 : BitVec 32 := Scalar.addi v814 v815
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_464 : BitVec 32 := 1#32
  let v817 : BitVec 32 := Scalar.muli v15 c1_i32_464
  let v818 : BitVec 32 := Scalar.addi v816 v817
  v818.toNat
def k0_mult98 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_468 : BitVec 32 := 256#32
  let v827 : BitVec 32 := Scalar.muli v8 c256_i32_468
  v827
def k0_mult99 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_469 : BitVec 32 := 256#32
  let v829 : BitVec 32 := Scalar.muli v8 c256_i32_469
  let c2_i32_467 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v825 : BitVec 32 := Scalar.muli c2_i32_467 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v826 : BitVec 32 := Scalar.addi v825 v5
  let c512_i32_470 : BitVec 32 := 512#32
  let v830 : BitVec 32 := Scalar.muli v826 c512_i32_470
  let v831 : BitVec 32 := Scalar.addi v829 v830
  v831
def k0_mult100 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_480 : BitVec 32 := 256#32
  let v845 : BitVec 32 := Scalar.muli v8 c256_i32_480
  let c2_i32_479 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v843 : BitVec 32 := Scalar.muli c2_i32_479 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v844 : BitVec 32 := Scalar.addi v843 v5
  let c512_i32_481 : BitVec 32 := 512#32
  let v846 : BitVec 32 := Scalar.muli v844 c512_i32_481
  let v847 : BitVec 32 := Scalar.addi v845 v846
  v847
def k0_mult101 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_482 : BitVec 32 := 256#32
  let v849 : BitVec 32 := Scalar.muli v8 c256_i32_482
  let c2_i32_479 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v843 : BitVec 32 := Scalar.muli c2_i32_479 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v844 : BitVec 32 := Scalar.addi v843 v5
  let c512_i32_483 : BitVec 32 := 512#32
  let v850 : BitVec 32 := Scalar.muli v844 c512_i32_483
  let v851 : BitVec 32 := Scalar.addi v849 v850
  v851
def k0_dev37 (d0 : Dev nD) : Nat :=
  let c0_i32_487 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_486 : BitVec 32 := 4#32
  let v853 : BitVec 32 := Scalar.muli v2 c4_i32_486
  let v854 : BitVec 32 := Scalar.addi c0_i32_487 v853
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_488 : BitVec 32 := 2#32
  let v855 : BitVec 32 := Scalar.muli v5 c2_i32_488
  let v856 : BitVec 32 := Scalar.addi v854 v855
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_489 : BitVec 32 := 1#32
  let v857 : BitVec 32 := Scalar.muli v15 c1_i32_489
  let v858 : BitVec 32 := Scalar.addi v856 v857
  v858.toNat
def k0_mult102 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_493 : BitVec 32 := 256#32
  let v867 : BitVec 32 := Scalar.muli v8 c256_i32_493
  v867
def k0_mult103 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_494 : BitVec 32 := 256#32
  let v869 : BitVec 32 := Scalar.muli v8 c256_i32_494
  let c2_i32_492 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v865 : BitVec 32 := Scalar.muli c2_i32_492 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v866 : BitVec 32 := Scalar.addi v865 v10
  let c512_i32_495 : BitVec 32 := 512#32
  let v870 : BitVec 32 := Scalar.muli v866 c512_i32_495
  let v871 : BitVec 32 := Scalar.addi v869 v870
  v871
def k0_mult104 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_505 : BitVec 32 := 256#32
  let v885 : BitVec 32 := Scalar.muli v8 c256_i32_505
  let c2_i32_504 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v883 : BitVec 32 := Scalar.muli c2_i32_504 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v884 : BitVec 32 := Scalar.addi v883 v10
  let c512_i32_506 : BitVec 32 := 512#32
  let v886 : BitVec 32 := Scalar.muli v884 c512_i32_506
  let v887 : BitVec 32 := Scalar.addi v885 v886
  v887
def k0_mult105 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_507 : BitVec 32 := 256#32
  let v889 : BitVec 32 := Scalar.muli v8 c256_i32_507
  let c2_i32_504 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v883 : BitVec 32 := Scalar.muli c2_i32_504 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v884 : BitVec 32 := Scalar.addi v883 v10
  let c512_i32_508 : BitVec 32 := 512#32
  let v890 : BitVec 32 := Scalar.muli v884 c512_i32_508
  let v891 : BitVec 32 := Scalar.addi v889 v890
  v891
def k0_dev38 (d0 : Dev nD) : Nat :=
  let c0_i32_512 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_511 : BitVec 32 := 4#32
  let v893 : BitVec 32 := Scalar.muli v2 c4_i32_511
  let v894 : BitVec 32 := Scalar.addi c0_i32_512 v893
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_513 : BitVec 32 := 2#32
  let v895 : BitVec 32 := Scalar.muli v5 c2_i32_513
  let v896 : BitVec 32 := Scalar.addi v894 v895
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_514 : BitVec 32 := 1#32
  let v897 : BitVec 32 := Scalar.muli v15 c1_i32_514
  let v898 : BitVec 32 := Scalar.addi v896 v897
  v898.toNat
def k0_mult106 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_518 : BitVec 32 := 256#32
  let v907 : BitVec 32 := Scalar.muli v8 c256_i32_518
  v907
def k0_mult107 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_519 : BitVec 32 := 256#32
  let v909 : BitVec 32 := Scalar.muli v8 c256_i32_519
  let c2_i32_517 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v905 : BitVec 32 := Scalar.muli c2_i32_517 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v906 : BitVec 32 := Scalar.addi v905 v12
  let c512_i32_520 : BitVec 32 := 512#32
  let v910 : BitVec 32 := Scalar.muli v906 c512_i32_520
  let v911 : BitVec 32 := Scalar.addi v909 v910
  v911
def k0_mult108 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_530 : BitVec 32 := 256#32
  let v925 : BitVec 32 := Scalar.muli v8 c256_i32_530
  let c2_i32_529 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v923 : BitVec 32 := Scalar.muli c2_i32_529 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v924 : BitVec 32 := Scalar.addi v923 v12
  let c512_i32_531 : BitVec 32 := 512#32
  let v926 : BitVec 32 := Scalar.muli v924 c512_i32_531
  let v927 : BitVec 32 := Scalar.addi v925 v926
  v927
def k0_mult109 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_532 : BitVec 32 := 256#32
  let v929 : BitVec 32 := Scalar.muli v8 c256_i32_532
  let c2_i32_529 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v923 : BitVec 32 := Scalar.muli c2_i32_529 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v924 : BitVec 32 := Scalar.addi v923 v12
  let c512_i32_533 : BitVec 32 := 512#32
  let v930 : BitVec 32 := Scalar.muli v924 c512_i32_533
  let v931 : BitVec 32 := Scalar.addi v929 v930
  v931
def k0_dev39 (d0 : Dev nD) : Nat :=
  let c0_i32_537 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_536 : BitVec 32 := 4#32
  let v933 : BitVec 32 := Scalar.muli v2 c4_i32_536
  let v934 : BitVec 32 := Scalar.addi c0_i32_537 v933
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_538 : BitVec 32 := 2#32
  let v935 : BitVec 32 := Scalar.muli v5 c2_i32_538
  let v936 : BitVec 32 := Scalar.addi v934 v935
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_539 : BitVec 32 := 1#32
  let v937 : BitVec 32 := Scalar.muli v15 c1_i32_539
  let v938 : BitVec 32 := Scalar.addi v936 v937
  v938.toNat
def k0_mult110 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_543 : BitVec 32 := 256#32
  let v947 : BitVec 32 := Scalar.muli v8 c256_i32_543
  v947
def k0_mult111 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_544 : BitVec 32 := 256#32
  let v949 : BitVec 32 := Scalar.muli v8 c256_i32_544
  let c2_i32_542 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v945 : BitVec 32 := Scalar.muli c2_i32_542 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v946 : BitVec 32 := Scalar.addi v945 v5
  let c512_i32_545 : BitVec 32 := 512#32
  let v950 : BitVec 32 := Scalar.muli v946 c512_i32_545
  let v951 : BitVec 32 := Scalar.addi v949 v950
  v951
def k0_mult112 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_555 : BitVec 32 := 256#32
  let v965 : BitVec 32 := Scalar.muli v8 c256_i32_555
  let c2_i32_554 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v963 : BitVec 32 := Scalar.muli c2_i32_554 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v964 : BitVec 32 := Scalar.addi v963 v5
  let c512_i32_556 : BitVec 32 := 512#32
  let v966 : BitVec 32 := Scalar.muli v964 c512_i32_556
  let v967 : BitVec 32 := Scalar.addi v965 v966
  v967
def k0_mult113 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_557 : BitVec 32 := 256#32
  let v969 : BitVec 32 := Scalar.muli v8 c256_i32_557
  let c2_i32_554 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v963 : BitVec 32 := Scalar.muli c2_i32_554 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v964 : BitVec 32 := Scalar.addi v963 v5
  let c512_i32_558 : BitVec 32 := 512#32
  let v970 : BitVec 32 := Scalar.muli v964 c512_i32_558
  let v971 : BitVec 32 := Scalar.addi v969 v970
  v971
def k0_dev40 (d0 : Dev nD) : Nat :=
  let c0_i32_562 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_561 : BitVec 32 := 4#32
  let v973 : BitVec 32 := Scalar.muli v2 c4_i32_561
  let v974 : BitVec 32 := Scalar.addi c0_i32_562 v973
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_563 : BitVec 32 := 2#32
  let v975 : BitVec 32 := Scalar.muli v5 c2_i32_563
  let v976 : BitVec 32 := Scalar.addi v974 v975
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_564 : BitVec 32 := 1#32
  let v977 : BitVec 32 := Scalar.muli v15 c1_i32_564
  let v978 : BitVec 32 := Scalar.addi v976 v977
  v978.toNat
def k0_mult114 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_568 : BitVec 32 := 256#32
  let v987 : BitVec 32 := Scalar.muli v8 c256_i32_568
  v987
def k0_mult115 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_569 : BitVec 32 := 256#32
  let v989 : BitVec 32 := Scalar.muli v8 c256_i32_569
  let c2_i32_567 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v985 : BitVec 32 := Scalar.muli c2_i32_567 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v986 : BitVec 32 := Scalar.addi v985 v10
  let c512_i32_570 : BitVec 32 := 512#32
  let v990 : BitVec 32 := Scalar.muli v986 c512_i32_570
  let v991 : BitVec 32 := Scalar.addi v989 v990
  v991
def k0_mult116 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_580 : BitVec 32 := 256#32
  let v1005 : BitVec 32 := Scalar.muli v8 c256_i32_580
  let c2_i32_579 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1003 : BitVec 32 := Scalar.muli c2_i32_579 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1004 : BitVec 32 := Scalar.addi v1003 v10
  let c512_i32_581 : BitVec 32 := 512#32
  let v1006 : BitVec 32 := Scalar.muli v1004 c512_i32_581
  let v1007 : BitVec 32 := Scalar.addi v1005 v1006
  v1007
def k0_mult117 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_582 : BitVec 32 := 256#32
  let v1009 : BitVec 32 := Scalar.muli v8 c256_i32_582
  let c2_i32_579 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1003 : BitVec 32 := Scalar.muli c2_i32_579 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1004 : BitVec 32 := Scalar.addi v1003 v10
  let c512_i32_583 : BitVec 32 := 512#32
  let v1010 : BitVec 32 := Scalar.muli v1004 c512_i32_583
  let v1011 : BitVec 32 := Scalar.addi v1009 v1010
  v1011
def k0_dev41 (d0 : Dev nD) : Nat :=
  let c0_i32_587 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_586 : BitVec 32 := 4#32
  let v1013 : BitVec 32 := Scalar.muli v2 c4_i32_586
  let v1014 : BitVec 32 := Scalar.addi c0_i32_587 v1013
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_588 : BitVec 32 := 2#32
  let v1015 : BitVec 32 := Scalar.muli v5 c2_i32_588
  let v1016 : BitVec 32 := Scalar.addi v1014 v1015
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_589 : BitVec 32 := 1#32
  let v1017 : BitVec 32 := Scalar.muli v15 c1_i32_589
  let v1018 : BitVec 32 := Scalar.addi v1016 v1017
  v1018.toNat
def k0_mult118 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_593 : BitVec 32 := 256#32
  let v1027 : BitVec 32 := Scalar.muli v8 c256_i32_593
  v1027
def k0_mult119 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_594 : BitVec 32 := 256#32
  let v1029 : BitVec 32 := Scalar.muli v8 c256_i32_594
  let c2_i32_592 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1025 : BitVec 32 := Scalar.muli c2_i32_592 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1026 : BitVec 32 := Scalar.addi v1025 v12
  let c512_i32_595 : BitVec 32 := 512#32
  let v1030 : BitVec 32 := Scalar.muli v1026 c512_i32_595
  let v1031 : BitVec 32 := Scalar.addi v1029 v1030
  v1031
def k0_mult120 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_605 : BitVec 32 := 256#32
  let v1045 : BitVec 32 := Scalar.muli v8 c256_i32_605
  let c2_i32_604 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1043 : BitVec 32 := Scalar.muli c2_i32_604 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1044 : BitVec 32 := Scalar.addi v1043 v12
  let c512_i32_606 : BitVec 32 := 512#32
  let v1046 : BitVec 32 := Scalar.muli v1044 c512_i32_606
  let v1047 : BitVec 32 := Scalar.addi v1045 v1046
  v1047
def k0_mult121 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_607 : BitVec 32 := 256#32
  let v1049 : BitVec 32 := Scalar.muli v8 c256_i32_607
  let c2_i32_604 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1043 : BitVec 32 := Scalar.muli c2_i32_604 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1044 : BitVec 32 := Scalar.addi v1043 v12
  let c512_i32_608 : BitVec 32 := 512#32
  let v1050 : BitVec 32 := Scalar.muli v1044 c512_i32_608
  let v1051 : BitVec 32 := Scalar.addi v1049 v1050
  v1051
def k0_dev42 (d0 : Dev nD) : Nat :=
  let c0_i32_612 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_611 : BitVec 32 := 4#32
  let v1053 : BitVec 32 := Scalar.muli v2 c4_i32_611
  let v1054 : BitVec 32 := Scalar.addi c0_i32_612 v1053
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_613 : BitVec 32 := 2#32
  let v1055 : BitVec 32 := Scalar.muli v5 c2_i32_613
  let v1056 : BitVec 32 := Scalar.addi v1054 v1055
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_614 : BitVec 32 := 1#32
  let v1057 : BitVec 32 := Scalar.muli v15 c1_i32_614
  let v1058 : BitVec 32 := Scalar.addi v1056 v1057
  v1058.toNat
def k0_mult122 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_618 : BitVec 32 := 256#32
  let v1067 : BitVec 32 := Scalar.muli v8 c256_i32_618
  v1067
def k0_mult123 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_619 : BitVec 32 := 256#32
  let v1069 : BitVec 32 := Scalar.muli v8 c256_i32_619
  let c2_i32_617 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1065 : BitVec 32 := Scalar.muli c2_i32_617 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1066 : BitVec 32 := Scalar.addi v1065 v5
  let c512_i32_620 : BitVec 32 := 512#32
  let v1070 : BitVec 32 := Scalar.muli v1066 c512_i32_620
  let v1071 : BitVec 32 := Scalar.addi v1069 v1070
  v1071
def k0_mult124 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_630 : BitVec 32 := 256#32
  let v1085 : BitVec 32 := Scalar.muli v8 c256_i32_630
  let c2_i32_629 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1083 : BitVec 32 := Scalar.muli c2_i32_629 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1084 : BitVec 32 := Scalar.addi v1083 v5
  let c512_i32_631 : BitVec 32 := 512#32
  let v1086 : BitVec 32 := Scalar.muli v1084 c512_i32_631
  let v1087 : BitVec 32 := Scalar.addi v1085 v1086
  v1087
def k0_mult125 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_632 : BitVec 32 := 256#32
  let v1089 : BitVec 32 := Scalar.muli v8 c256_i32_632
  let c2_i32_629 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1083 : BitVec 32 := Scalar.muli c2_i32_629 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1084 : BitVec 32 := Scalar.addi v1083 v5
  let c512_i32_633 : BitVec 32 := 512#32
  let v1090 : BitVec 32 := Scalar.muli v1084 c512_i32_633
  let v1091 : BitVec 32 := Scalar.addi v1089 v1090
  v1091
def k0_dev43 (d0 : Dev nD) : Nat :=
  let c0_i32_637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_636 : BitVec 32 := 4#32
  let v1093 : BitVec 32 := Scalar.muli v2 c4_i32_636
  let v1094 : BitVec 32 := Scalar.addi c0_i32_637 v1093
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_638 : BitVec 32 := 2#32
  let v1095 : BitVec 32 := Scalar.muli v5 c2_i32_638
  let v1096 : BitVec 32 := Scalar.addi v1094 v1095
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_639 : BitVec 32 := 1#32
  let v1097 : BitVec 32 := Scalar.muli v15 c1_i32_639
  let v1098 : BitVec 32 := Scalar.addi v1096 v1097
  v1098.toNat
def k0_mult126 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_643 : BitVec 32 := 256#32
  let v1107 : BitVec 32 := Scalar.muli v8 c256_i32_643
  v1107
def k0_mult127 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_644 : BitVec 32 := 256#32
  let v1109 : BitVec 32 := Scalar.muli v8 c256_i32_644
  let c2_i32_642 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1105 : BitVec 32 := Scalar.muli c2_i32_642 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1106 : BitVec 32 := Scalar.addi v1105 v10
  let c512_i32_645 : BitVec 32 := 512#32
  let v1110 : BitVec 32 := Scalar.muli v1106 c512_i32_645
  let v1111 : BitVec 32 := Scalar.addi v1109 v1110
  v1111
def k0_mult128 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_655 : BitVec 32 := 256#32
  let v1125 : BitVec 32 := Scalar.muli v8 c256_i32_655
  let c2_i32_654 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1123 : BitVec 32 := Scalar.muli c2_i32_654 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1124 : BitVec 32 := Scalar.addi v1123 v10
  let c512_i32_656 : BitVec 32 := 512#32
  let v1126 : BitVec 32 := Scalar.muli v1124 c512_i32_656
  let v1127 : BitVec 32 := Scalar.addi v1125 v1126
  v1127
def k0_mult129 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_657 : BitVec 32 := 256#32
  let v1129 : BitVec 32 := Scalar.muli v8 c256_i32_657
  let c2_i32_654 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1123 : BitVec 32 := Scalar.muli c2_i32_654 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1124 : BitVec 32 := Scalar.addi v1123 v10
  let c512_i32_658 : BitVec 32 := 512#32
  let v1130 : BitVec 32 := Scalar.muli v1124 c512_i32_658
  let v1131 : BitVec 32 := Scalar.addi v1129 v1130
  v1131
def k0_dev44 (d0 : Dev nD) : Nat :=
  let c0_i32_662 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_661 : BitVec 32 := 4#32
  let v1133 : BitVec 32 := Scalar.muli v2 c4_i32_661
  let v1134 : BitVec 32 := Scalar.addi c0_i32_662 v1133
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_663 : BitVec 32 := 2#32
  let v1135 : BitVec 32 := Scalar.muli v5 c2_i32_663
  let v1136 : BitVec 32 := Scalar.addi v1134 v1135
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_664 : BitVec 32 := 1#32
  let v1137 : BitVec 32 := Scalar.muli v15 c1_i32_664
  let v1138 : BitVec 32 := Scalar.addi v1136 v1137
  v1138.toNat
def k0_mult130 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_668 : BitVec 32 := 256#32
  let v1147 : BitVec 32 := Scalar.muli v8 c256_i32_668
  v1147
def k0_mult131 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_669 : BitVec 32 := 256#32
  let v1149 : BitVec 32 := Scalar.muli v8 c256_i32_669
  let c2_i32_667 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1145 : BitVec 32 := Scalar.muli c2_i32_667 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1146 : BitVec 32 := Scalar.addi v1145 v12
  let c512_i32_670 : BitVec 32 := 512#32
  let v1150 : BitVec 32 := Scalar.muli v1146 c512_i32_670
  let v1151 : BitVec 32 := Scalar.addi v1149 v1150
  v1151
def k0_mult132 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_680 : BitVec 32 := 256#32
  let v1165 : BitVec 32 := Scalar.muli v8 c256_i32_680
  let c2_i32_679 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1163 : BitVec 32 := Scalar.muli c2_i32_679 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1164 : BitVec 32 := Scalar.addi v1163 v12
  let c512_i32_681 : BitVec 32 := 512#32
  let v1166 : BitVec 32 := Scalar.muli v1164 c512_i32_681
  let v1167 : BitVec 32 := Scalar.addi v1165 v1166
  v1167
def k0_mult133 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_682 : BitVec 32 := 256#32
  let v1169 : BitVec 32 := Scalar.muli v8 c256_i32_682
  let c2_i32_679 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1163 : BitVec 32 := Scalar.muli c2_i32_679 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1164 : BitVec 32 := Scalar.addi v1163 v12
  let c512_i32_683 : BitVec 32 := 512#32
  let v1170 : BitVec 32 := Scalar.muli v1164 c512_i32_683
  let v1171 : BitVec 32 := Scalar.addi v1169 v1170
  v1171
def k0_dev45 (d0 : Dev nD) : Nat :=
  let c0_i32_687 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_686 : BitVec 32 := 4#32
  let v1173 : BitVec 32 := Scalar.muli v2 c4_i32_686
  let v1174 : BitVec 32 := Scalar.addi c0_i32_687 v1173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_688 : BitVec 32 := 2#32
  let v1175 : BitVec 32 := Scalar.muli v5 c2_i32_688
  let v1176 : BitVec 32 := Scalar.addi v1174 v1175
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_689 : BitVec 32 := 1#32
  let v1177 : BitVec 32 := Scalar.muli v15 c1_i32_689
  let v1178 : BitVec 32 := Scalar.addi v1176 v1177
  v1178.toNat
def k0_mult134 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_693 : BitVec 32 := 256#32
  let v1187 : BitVec 32 := Scalar.muli v8 c256_i32_693
  v1187
def k0_mult135 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_694 : BitVec 32 := 256#32
  let v1189 : BitVec 32 := Scalar.muli v8 c256_i32_694
  let c2_i32_692 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1185 : BitVec 32 := Scalar.muli c2_i32_692 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1186 : BitVec 32 := Scalar.addi v1185 v5
  let c512_i32_695 : BitVec 32 := 512#32
  let v1190 : BitVec 32 := Scalar.muli v1186 c512_i32_695
  let v1191 : BitVec 32 := Scalar.addi v1189 v1190
  v1191
def k0_mult136 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_705 : BitVec 32 := 256#32
  let v1205 : BitVec 32 := Scalar.muli v8 c256_i32_705
  let c2_i32_704 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1203 : BitVec 32 := Scalar.muli c2_i32_704 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1204 : BitVec 32 := Scalar.addi v1203 v5
  let c512_i32_706 : BitVec 32 := 512#32
  let v1206 : BitVec 32 := Scalar.muli v1204 c512_i32_706
  let v1207 : BitVec 32 := Scalar.addi v1205 v1206
  v1207
def k0_mult137 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_707 : BitVec 32 := 256#32
  let v1209 : BitVec 32 := Scalar.muli v8 c256_i32_707
  let c2_i32_704 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1203 : BitVec 32 := Scalar.muli c2_i32_704 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1204 : BitVec 32 := Scalar.addi v1203 v5
  let c512_i32_708 : BitVec 32 := 512#32
  let v1210 : BitVec 32 := Scalar.muli v1204 c512_i32_708
  let v1211 : BitVec 32 := Scalar.addi v1209 v1210
  v1211
def k0_dev46 (d0 : Dev nD) : Nat :=
  let c0_i32_712 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_711 : BitVec 32 := 4#32
  let v1213 : BitVec 32 := Scalar.muli v2 c4_i32_711
  let v1214 : BitVec 32 := Scalar.addi c0_i32_712 v1213
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_713 : BitVec 32 := 2#32
  let v1215 : BitVec 32 := Scalar.muli v5 c2_i32_713
  let v1216 : BitVec 32 := Scalar.addi v1214 v1215
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_714 : BitVec 32 := 1#32
  let v1217 : BitVec 32 := Scalar.muli v15 c1_i32_714
  let v1218 : BitVec 32 := Scalar.addi v1216 v1217
  v1218.toNat
def k0_mult138 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_718 : BitVec 32 := 256#32
  let v1227 : BitVec 32 := Scalar.muli v8 c256_i32_718
  v1227
def k0_mult139 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_719 : BitVec 32 := 256#32
  let v1229 : BitVec 32 := Scalar.muli v8 c256_i32_719
  let c2_i32_717 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1225 : BitVec 32 := Scalar.muli c2_i32_717 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1226 : BitVec 32 := Scalar.addi v1225 v10
  let c512_i32_720 : BitVec 32 := 512#32
  let v1230 : BitVec 32 := Scalar.muli v1226 c512_i32_720
  let v1231 : BitVec 32 := Scalar.addi v1229 v1230
  v1231
def k0_mult140 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_730 : BitVec 32 := 256#32
  let v1245 : BitVec 32 := Scalar.muli v8 c256_i32_730
  let c2_i32_729 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1243 : BitVec 32 := Scalar.muli c2_i32_729 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1244 : BitVec 32 := Scalar.addi v1243 v10
  let c512_i32_731 : BitVec 32 := 512#32
  let v1246 : BitVec 32 := Scalar.muli v1244 c512_i32_731
  let v1247 : BitVec 32 := Scalar.addi v1245 v1246
  v1247
def k0_mult141 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_732 : BitVec 32 := 256#32
  let v1249 : BitVec 32 := Scalar.muli v8 c256_i32_732
  let c2_i32_729 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1243 : BitVec 32 := Scalar.muli c2_i32_729 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1244 : BitVec 32 := Scalar.addi v1243 v10
  let c512_i32_733 : BitVec 32 := 512#32
  let v1250 : BitVec 32 := Scalar.muli v1244 c512_i32_733
  let v1251 : BitVec 32 := Scalar.addi v1249 v1250
  v1251
def k0_dev47 (d0 : Dev nD) : Nat :=
  let c0_i32_737 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_736 : BitVec 32 := 4#32
  let v1253 : BitVec 32 := Scalar.muli v2 c4_i32_736
  let v1254 : BitVec 32 := Scalar.addi c0_i32_737 v1253
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_738 : BitVec 32 := 2#32
  let v1255 : BitVec 32 := Scalar.muli v5 c2_i32_738
  let v1256 : BitVec 32 := Scalar.addi v1254 v1255
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_739 : BitVec 32 := 1#32
  let v1257 : BitVec 32 := Scalar.muli v15 c1_i32_739
  let v1258 : BitVec 32 := Scalar.addi v1256 v1257
  v1258.toNat
def k0_mult142 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_743 : BitVec 32 := 256#32
  let v1267 : BitVec 32 := Scalar.muli v8 c256_i32_743
  v1267
def k0_mult143 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_744 : BitVec 32 := 256#32
  let v1269 : BitVec 32 := Scalar.muli v8 c256_i32_744
  let c2_i32_742 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1265 : BitVec 32 := Scalar.muli c2_i32_742 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1266 : BitVec 32 := Scalar.addi v1265 v12
  let c512_i32_745 : BitVec 32 := 512#32
  let v1270 : BitVec 32 := Scalar.muli v1266 c512_i32_745
  let v1271 : BitVec 32 := Scalar.addi v1269 v1270
  v1271
def k0_mult144 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_755 : BitVec 32 := 256#32
  let v1285 : BitVec 32 := Scalar.muli v8 c256_i32_755
  let c2_i32_754 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1283 : BitVec 32 := Scalar.muli c2_i32_754 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1284 : BitVec 32 := Scalar.addi v1283 v12
  let c512_i32_756 : BitVec 32 := 512#32
  let v1286 : BitVec 32 := Scalar.muli v1284 c512_i32_756
  let v1287 : BitVec 32 := Scalar.addi v1285 v1286
  v1287
def k0_mult145 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_757 : BitVec 32 := 256#32
  let v1289 : BitVec 32 := Scalar.muli v8 c256_i32_757
  let c2_i32_754 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1283 : BitVec 32 := Scalar.muli c2_i32_754 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1284 : BitVec 32 := Scalar.addi v1283 v12
  let c512_i32_758 : BitVec 32 := 512#32
  let v1290 : BitVec 32 := Scalar.muli v1284 c512_i32_758
  let v1291 : BitVec 32 := Scalar.addi v1289 v1290
  v1291
def k0_dev48 (d0 : Dev nD) : Nat :=
  let c0_i32_762 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_761 : BitVec 32 := 4#32
  let v1293 : BitVec 32 := Scalar.muli v2 c4_i32_761
  let v1294 : BitVec 32 := Scalar.addi c0_i32_762 v1293
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_763 : BitVec 32 := 2#32
  let v1295 : BitVec 32 := Scalar.muli v5 c2_i32_763
  let v1296 : BitVec 32 := Scalar.addi v1294 v1295
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_764 : BitVec 32 := 1#32
  let v1297 : BitVec 32 := Scalar.muli v15 c1_i32_764
  let v1298 : BitVec 32 := Scalar.addi v1296 v1297
  v1298.toNat
def k0_mult146 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_768 : BitVec 32 := 1024#32
  let v1307 : BitVec 32 := Scalar.muli v8 c1024_i32_768
  v1307
def k0_mult147 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_769 : BitVec 32 := 1024#32
  let v1309 : BitVec 32 := Scalar.muli v8 c1024_i32_769
  let c0_i32_770 : BitVec 32 := 0#32
  let v1310 : BitVec 32 := Scalar.addi v1309 c0_i32_770
  v1310
def k0_mult148 (d0 : Dev nD) : BitVec 32 :=
  let c2_i32_767 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1305 : BitVec 32 := Scalar.muli c2_i32_767 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1306 : BitVec 32 := Scalar.addi v1305 v5
  let c2816_i32_771 : BitVec 32 := 2816#32
  let v1312 : BitVec 32 := Scalar.muli v1306 c2816_i32_771
  v1312
def k0_off21 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_769 : BitVec 32 := 1024#32
  let v1309 : BitVec 32 := Scalar.muli v8 c1024_i32_769
  let c0_i32_770 : BitVec 32 := 0#32
  let v1310 : BitVec 32 := Scalar.addi v1309 c0_i32_770
  let v1311 : BitVec 32 := v1310
  let c2_i32_767 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1305 : BitVec 32 := Scalar.muli c2_i32_767 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1306 : BitVec 32 := Scalar.addi v1305 v5
  let c2816_i32_771 : BitVec 32 := 2816#32
  let v1312 : BitVec 32 := Scalar.muli v1306 c2816_i32_771
  let v1313 : BitVec 32 := v1312
  ![v1311.toNat, v1313.toNat]
def k0_mult149 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_780 : BitVec 32 := 1024#32
  let v1326 : BitVec 32 := Scalar.muli v8 c1024_i32_780
  let c0_i32_781 : BitVec 32 := 0#32
  let v1327 : BitVec 32 := Scalar.addi v1326 c0_i32_781
  v1327
def k0_mult150 (d0 : Dev nD) : BitVec 32 :=
  let c2_i32_779 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1324 : BitVec 32 := Scalar.muli c2_i32_779 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1325 : BitVec 32 := Scalar.addi v1324 v5
  let c2816_i32_782 : BitVec 32 := 2816#32
  let v1329 : BitVec 32 := Scalar.muli v1325 c2816_i32_782
  v1329
def k0_mult151 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_783 : BitVec 32 := 1024#32
  let v1331 : BitVec 32 := Scalar.muli v8 c1024_i32_783
  let c0_i32_784 : BitVec 32 := 0#32
  let v1332 : BitVec 32 := Scalar.addi v1331 c0_i32_784
  v1332
def k0_mult152 (d0 : Dev nD) : BitVec 32 :=
  let c2_i32_779 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1324 : BitVec 32 := Scalar.muli c2_i32_779 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1325 : BitVec 32 := Scalar.addi v1324 v5
  let c2816_i32_785 : BitVec 32 := 2816#32
  let v1334 : BitVec 32 := Scalar.muli v1325 c2816_i32_785
  v1334
def k0_dev49 (d0 : Dev nD) : Nat :=
  let c0_i32_789 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_788 : BitVec 32 := 4#32
  let v1336 : BitVec 32 := Scalar.muli v2 c4_i32_788
  let v1337 : BitVec 32 := Scalar.addi c0_i32_789 v1336
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_790 : BitVec 32 := 2#32
  let v1338 : BitVec 32 := Scalar.muli v5 c2_i32_790
  let v1339 : BitVec 32 := Scalar.addi v1337 v1338
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_791 : BitVec 32 := 1#32
  let v1340 : BitVec 32 := Scalar.muli v15 c1_i32_791
  let v1341 : BitVec 32 := Scalar.addi v1339 v1340
  v1341.toNat
def k0_mult153 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_793 : BitVec 32 := 1024#32
  let v1350 : BitVec 32 := Scalar.muli v8 c1024_i32_793
  v1350
def k0_mult154 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_794 : BitVec 32 := 1024#32
  let v1352 : BitVec 32 := Scalar.muli v8 c1024_i32_794
  let c0_i32_795 : BitVec 32 := 0#32
  let v1353 : BitVec 32 := Scalar.addi v1352 c0_i32_795
  v1353
def k0_mult155 (d0 : Dev nD) : BitVec 32 :=
  let c2_i32_792 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1348 : BitVec 32 := Scalar.muli c2_i32_792 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1349 : BitVec 32 := Scalar.addi v1348 v10
  let c2816_i32_796 : BitVec 32 := 2816#32
  let v1355 : BitVec 32 := Scalar.muli v1349 c2816_i32_796
  v1355
def k0_off22 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_794 : BitVec 32 := 1024#32
  let v1352 : BitVec 32 := Scalar.muli v8 c1024_i32_794
  let c0_i32_795 : BitVec 32 := 0#32
  let v1353 : BitVec 32 := Scalar.addi v1352 c0_i32_795
  let v1354 : BitVec 32 := v1353
  let c2_i32_792 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1348 : BitVec 32 := Scalar.muli c2_i32_792 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1349 : BitVec 32 := Scalar.addi v1348 v10
  let c2816_i32_796 : BitVec 32 := 2816#32
  let v1355 : BitVec 32 := Scalar.muli v1349 c2816_i32_796
  let v1356 : BitVec 32 := v1355
  ![v1354.toNat, v1356.toNat]
def k0_mult156 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_805 : BitVec 32 := 1024#32
  let v1369 : BitVec 32 := Scalar.muli v8 c1024_i32_805
  let c0_i32_806 : BitVec 32 := 0#32
  let v1370 : BitVec 32 := Scalar.addi v1369 c0_i32_806
  v1370
def k0_mult157 (d0 : Dev nD) : BitVec 32 :=
  let c2_i32_804 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1367 : BitVec 32 := Scalar.muli c2_i32_804 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1368 : BitVec 32 := Scalar.addi v1367 v10
  let c2816_i32_807 : BitVec 32 := 2816#32
  let v1372 : BitVec 32 := Scalar.muli v1368 c2816_i32_807
  v1372
def k0_mult158 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_808 : BitVec 32 := 1024#32
  let v1374 : BitVec 32 := Scalar.muli v8 c1024_i32_808
  let c0_i32_809 : BitVec 32 := 0#32
  let v1375 : BitVec 32 := Scalar.addi v1374 c0_i32_809
  v1375
def k0_mult159 (d0 : Dev nD) : BitVec 32 :=
  let c2_i32_804 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1367 : BitVec 32 := Scalar.muli c2_i32_804 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1368 : BitVec 32 := Scalar.addi v1367 v10
  let c2816_i32_810 : BitVec 32 := 2816#32
  let v1377 : BitVec 32 := Scalar.muli v1368 c2816_i32_810
  v1377
def k0_dev50 (d0 : Dev nD) : Nat :=
  let c0_i32_814 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_813 : BitVec 32 := 4#32
  let v1379 : BitVec 32 := Scalar.muli v2 c4_i32_813
  let v1380 : BitVec 32 := Scalar.addi c0_i32_814 v1379
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_815 : BitVec 32 := 2#32
  let v1381 : BitVec 32 := Scalar.muli v5 c2_i32_815
  let v1382 : BitVec 32 := Scalar.addi v1380 v1381
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_816 : BitVec 32 := 1#32
  let v1383 : BitVec 32 := Scalar.muli v15 c1_i32_816
  let v1384 : BitVec 32 := Scalar.addi v1382 v1383
  v1384.toNat
def k0_mult160 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_818 : BitVec 32 := 1024#32
  let v1393 : BitVec 32 := Scalar.muli v8 c1024_i32_818
  v1393
def k0_mult161 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_819 : BitVec 32 := 1024#32
  let v1395 : BitVec 32 := Scalar.muli v8 c1024_i32_819
  let c0_i32_820 : BitVec 32 := 0#32
  let v1396 : BitVec 32 := Scalar.addi v1395 c0_i32_820
  v1396
def k0_mult162 (d0 : Dev nD) : BitVec 32 :=
  let c2_i32_817 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1391 : BitVec 32 := Scalar.muli c2_i32_817 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1392 : BitVec 32 := Scalar.addi v1391 v12
  let c2816_i32_821 : BitVec 32 := 2816#32
  let v1398 : BitVec 32 := Scalar.muli v1392 c2816_i32_821
  v1398
def k0_off23 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_819 : BitVec 32 := 1024#32
  let v1395 : BitVec 32 := Scalar.muli v8 c1024_i32_819
  let c0_i32_820 : BitVec 32 := 0#32
  let v1396 : BitVec 32 := Scalar.addi v1395 c0_i32_820
  let v1397 : BitVec 32 := v1396
  let c2_i32_817 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1391 : BitVec 32 := Scalar.muli c2_i32_817 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1392 : BitVec 32 := Scalar.addi v1391 v12
  let c2816_i32_821 : BitVec 32 := 2816#32
  let v1398 : BitVec 32 := Scalar.muli v1392 c2816_i32_821
  let v1399 : BitVec 32 := v1398
  ![v1397.toNat, v1399.toNat]
def k0_mult163 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_830 : BitVec 32 := 1024#32
  let v1412 : BitVec 32 := Scalar.muli v8 c1024_i32_830
  let c0_i32_831 : BitVec 32 := 0#32
  let v1413 : BitVec 32 := Scalar.addi v1412 c0_i32_831
  v1413
def k0_mult164 (d0 : Dev nD) : BitVec 32 :=
  let c2_i32_829 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1410 : BitVec 32 := Scalar.muli c2_i32_829 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1411 : BitVec 32 := Scalar.addi v1410 v12
  let c2816_i32_832 : BitVec 32 := 2816#32
  let v1415 : BitVec 32 := Scalar.muli v1411 c2816_i32_832
  v1415
def k0_mult165 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_833 : BitVec 32 := 1024#32
  let v1417 : BitVec 32 := Scalar.muli v8 c1024_i32_833
  let c0_i32_834 : BitVec 32 := 0#32
  let v1418 : BitVec 32 := Scalar.addi v1417 c0_i32_834
  v1418
def k0_mult166 (d0 : Dev nD) : BitVec 32 :=
  let c2_i32_829 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1410 : BitVec 32 := Scalar.muli c2_i32_829 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1411 : BitVec 32 := Scalar.addi v1410 v12
  let c2816_i32_835 : BitVec 32 := 2816#32
  let v1420 : BitVec 32 := Scalar.muli v1411 c2816_i32_835
  v1420
def k0_dev51 (d0 : Dev nD) : Nat :=
  let c0_i32_839 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_838 : BitVec 32 := 4#32
  let v1422 : BitVec 32 := Scalar.muli v2 c4_i32_838
  let v1423 : BitVec 32 := Scalar.addi c0_i32_839 v1422
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_840 : BitVec 32 := 2#32
  let v1424 : BitVec 32 := Scalar.muli v5 c2_i32_840
  let v1425 : BitVec 32 := Scalar.addi v1423 v1424
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_841 : BitVec 32 := 1#32
  let v1426 : BitVec 32 := Scalar.muli v15 c1_i32_841
  let v1427 : BitVec 32 := Scalar.addi v1425 v1426
  v1427.toNat
def k0_mult167 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_843 : BitVec 32 := 704#32
  let v1436 : BitVec 32 := Scalar.muli v8 c704_i32_843
  v1436
def k0_mult168 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_844 : BitVec 32 := 704#32
  let v1438 : BitVec 32 := Scalar.muli v8 c704_i32_844
  let c2_i32_842 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1434 : BitVec 32 := Scalar.muli c2_i32_842 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1435 : BitVec 32 := Scalar.addi v1434 v5
  let c1408_i32_845 : BitVec 32 := 1408#32
  let v1439 : BitVec 32 := Scalar.muli v1435 c1408_i32_845
  let v1440 : BitVec 32 := Scalar.addi v1438 v1439
  v1440
def k0_off24 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_844 : BitVec 32 := 704#32
  let v1438 : BitVec 32 := Scalar.muli v8 c704_i32_844
  let c2_i32_842 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1434 : BitVec 32 := Scalar.muli c2_i32_842 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1435 : BitVec 32 := Scalar.addi v1434 v5
  let c1408_i32_845 : BitVec 32 := 1408#32
  let v1439 : BitVec 32 := Scalar.muli v1435 c1408_i32_845
  let v1440 : BitVec 32 := Scalar.addi v1438 v1439
  let v1441 : BitVec 32 := v1440
  let c0_i32_852 : BitVec 32 := 0#32
  ![v1441.toNat, 0]
def k0_mult169 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_855 : BitVec 32 := 704#32
  let v1454 : BitVec 32 := Scalar.muli v8 c704_i32_855
  let c2_i32_854 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1452 : BitVec 32 := Scalar.muli c2_i32_854 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1453 : BitVec 32 := Scalar.addi v1452 v5
  let c1408_i32_856 : BitVec 32 := 1408#32
  let v1455 : BitVec 32 := Scalar.muli v1453 c1408_i32_856
  let v1456 : BitVec 32 := Scalar.addi v1454 v1455
  v1456
def k0_mult170 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_857 : BitVec 32 := 704#32
  let v1458 : BitVec 32 := Scalar.muli v8 c704_i32_857
  let c2_i32_854 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1452 : BitVec 32 := Scalar.muli c2_i32_854 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1453 : BitVec 32 := Scalar.addi v1452 v5
  let c1408_i32_858 : BitVec 32 := 1408#32
  let v1459 : BitVec 32 := Scalar.muli v1453 c1408_i32_858
  let v1460 : BitVec 32 := Scalar.addi v1458 v1459
  v1460
def k0_dev52 (d0 : Dev nD) : Nat :=
  let c0_i32_862 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_861 : BitVec 32 := 4#32
  let v1462 : BitVec 32 := Scalar.muli v2 c4_i32_861
  let v1463 : BitVec 32 := Scalar.addi c0_i32_862 v1462
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_863 : BitVec 32 := 2#32
  let v1464 : BitVec 32 := Scalar.muli v5 c2_i32_863
  let v1465 : BitVec 32 := Scalar.addi v1463 v1464
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_864 : BitVec 32 := 1#32
  let v1466 : BitVec 32 := Scalar.muli v15 c1_i32_864
  let v1467 : BitVec 32 := Scalar.addi v1465 v1466
  v1467.toNat
def k0_mult171 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_868 : BitVec 32 := 704#32
  let v1476 : BitVec 32 := Scalar.muli v8 c704_i32_868
  v1476
def k0_mult172 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_869 : BitVec 32 := 704#32
  let v1478 : BitVec 32 := Scalar.muli v8 c704_i32_869
  let c2_i32_867 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1474 : BitVec 32 := Scalar.muli c2_i32_867 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1475 : BitVec 32 := Scalar.addi v1474 v10
  let c1408_i32_870 : BitVec 32 := 1408#32
  let v1479 : BitVec 32 := Scalar.muli v1475 c1408_i32_870
  let v1480 : BitVec 32 := Scalar.addi v1478 v1479
  v1480
def k0_off25 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_869 : BitVec 32 := 704#32
  let v1478 : BitVec 32 := Scalar.muli v8 c704_i32_869
  let c2_i32_867 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1474 : BitVec 32 := Scalar.muli c2_i32_867 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1475 : BitVec 32 := Scalar.addi v1474 v10
  let c1408_i32_870 : BitVec 32 := 1408#32
  let v1479 : BitVec 32 := Scalar.muli v1475 c1408_i32_870
  let v1480 : BitVec 32 := Scalar.addi v1478 v1479
  let v1481 : BitVec 32 := v1480
  let c0_i32_877 : BitVec 32 := 0#32
  ![v1481.toNat, 0]
def k0_mult173 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_880 : BitVec 32 := 704#32
  let v1494 : BitVec 32 := Scalar.muli v8 c704_i32_880
  let c2_i32_879 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1492 : BitVec 32 := Scalar.muli c2_i32_879 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1493 : BitVec 32 := Scalar.addi v1492 v10
  let c1408_i32_881 : BitVec 32 := 1408#32
  let v1495 : BitVec 32 := Scalar.muli v1493 c1408_i32_881
  let v1496 : BitVec 32 := Scalar.addi v1494 v1495
  v1496
def k0_mult174 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_882 : BitVec 32 := 704#32
  let v1498 : BitVec 32 := Scalar.muli v8 c704_i32_882
  let c2_i32_879 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1492 : BitVec 32 := Scalar.muli c2_i32_879 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1493 : BitVec 32 := Scalar.addi v1492 v10
  let c1408_i32_883 : BitVec 32 := 1408#32
  let v1499 : BitVec 32 := Scalar.muli v1493 c1408_i32_883
  let v1500 : BitVec 32 := Scalar.addi v1498 v1499
  v1500
def k0_dev53 (d0 : Dev nD) : Nat :=
  let c0_i32_887 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_886 : BitVec 32 := 4#32
  let v1502 : BitVec 32 := Scalar.muli v2 c4_i32_886
  let v1503 : BitVec 32 := Scalar.addi c0_i32_887 v1502
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_888 : BitVec 32 := 2#32
  let v1504 : BitVec 32 := Scalar.muli v5 c2_i32_888
  let v1505 : BitVec 32 := Scalar.addi v1503 v1504
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_889 : BitVec 32 := 1#32
  let v1506 : BitVec 32 := Scalar.muli v15 c1_i32_889
  let v1507 : BitVec 32 := Scalar.addi v1505 v1506
  v1507.toNat
def k0_mult175 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_893 : BitVec 32 := 704#32
  let v1516 : BitVec 32 := Scalar.muli v8 c704_i32_893
  v1516
def k0_mult176 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_894 : BitVec 32 := 704#32
  let v1518 : BitVec 32 := Scalar.muli v8 c704_i32_894
  let c2_i32_892 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1514 : BitVec 32 := Scalar.muli c2_i32_892 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1515 : BitVec 32 := Scalar.addi v1514 v12
  let c1408_i32_895 : BitVec 32 := 1408#32
  let v1519 : BitVec 32 := Scalar.muli v1515 c1408_i32_895
  let v1520 : BitVec 32 := Scalar.addi v1518 v1519
  v1520
def k0_off26 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_894 : BitVec 32 := 704#32
  let v1518 : BitVec 32 := Scalar.muli v8 c704_i32_894
  let c2_i32_892 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1514 : BitVec 32 := Scalar.muli c2_i32_892 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1515 : BitVec 32 := Scalar.addi v1514 v12
  let c1408_i32_895 : BitVec 32 := 1408#32
  let v1519 : BitVec 32 := Scalar.muli v1515 c1408_i32_895
  let v1520 : BitVec 32 := Scalar.addi v1518 v1519
  let v1521 : BitVec 32 := v1520
  let c0_i32_902 : BitVec 32 := 0#32
  ![v1521.toNat, 0]
def k0_mult177 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_905 : BitVec 32 := 704#32
  let v1534 : BitVec 32 := Scalar.muli v8 c704_i32_905
  let c2_i32_904 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1532 : BitVec 32 := Scalar.muli c2_i32_904 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1533 : BitVec 32 := Scalar.addi v1532 v12
  let c1408_i32_906 : BitVec 32 := 1408#32
  let v1535 : BitVec 32 := Scalar.muli v1533 c1408_i32_906
  let v1536 : BitVec 32 := Scalar.addi v1534 v1535
  v1536
def k0_mult178 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_907 : BitVec 32 := 704#32
  let v1538 : BitVec 32 := Scalar.muli v8 c704_i32_907
  let c2_i32_904 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1532 : BitVec 32 := Scalar.muli c2_i32_904 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1533 : BitVec 32 := Scalar.addi v1532 v12
  let c1408_i32_908 : BitVec 32 := 1408#32
  let v1539 : BitVec 32 := Scalar.muli v1533 c1408_i32_908
  let v1540 : BitVec 32 := Scalar.addi v1538 v1539
  v1540
def k0_dev54 (d0 : Dev nD) : Nat :=
  let c0_i32_912 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_911 : BitVec 32 := 4#32
  let v1542 : BitVec 32 := Scalar.muli v2 c4_i32_911
  let v1543 : BitVec 32 := Scalar.addi c0_i32_912 v1542
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_913 : BitVec 32 := 2#32
  let v1544 : BitVec 32 := Scalar.muli v5 c2_i32_913
  let v1545 : BitVec 32 := Scalar.addi v1543 v1544
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_914 : BitVec 32 := 1#32
  let v1546 : BitVec 32 := Scalar.muli v15 c1_i32_914
  let v1547 : BitVec 32 := Scalar.addi v1545 v1546
  v1547.toNat
def k0_mult179 (d0 : Dev nD) : BitVec 32 :=
  let c2_i32_917 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1554 : BitVec 32 := Scalar.muli c2_i32_917 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1555 : BitVec 32 := Scalar.addi v1554 v5
  let c256_i32_918 : BitVec 32 := 256#32
  let v1556 : BitVec 32 := Scalar.muli v1555 c256_i32_918
  v1556
def k0_off27 (d0 : Dev nD) : Fin 2 → Nat :=
  let c0_i32_925 : BitVec 32 := 0#32
  let c2_i32_917 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1554 : BitVec 32 := Scalar.muli c2_i32_917 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1555 : BitVec 32 := Scalar.addi v1554 v5
  let c256_i32_918 : BitVec 32 := 256#32
  let v1556 : BitVec 32 := Scalar.muli v1555 c256_i32_918
  let v1557 : BitVec 32 := v1556
  ![0, v1557.toNat]
def k0_mult180 (d0 : Dev nD) : BitVec 32 :=
  let c2_i32_926 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1567 : BitVec 32 := Scalar.muli c2_i32_926 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1568 : BitVec 32 := Scalar.addi v1567 v10
  let c256_i32_927 : BitVec 32 := 256#32
  let v1569 : BitVec 32 := Scalar.muli v1568 c256_i32_927
  v1569
def k0_off28 (d0 : Dev nD) : Fin 2 → Nat :=
  let c0_i32_934 : BitVec 32 := 0#32
  let c2_i32_926 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1567 : BitVec 32 := Scalar.muli c2_i32_926 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1568 : BitVec 32 := Scalar.addi v1567 v10
  let c256_i32_927 : BitVec 32 := 256#32
  let v1569 : BitVec 32 := Scalar.muli v1568 c256_i32_927
  let v1570 : BitVec 32 := v1569
  ![0, v1570.toNat]
def k0_mult181 (d0 : Dev nD) : BitVec 32 :=
  let c2_i32_935 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1580 : BitVec 32 := Scalar.muli c2_i32_935 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1581 : BitVec 32 := Scalar.addi v1580 v12
  let c256_i32_936 : BitVec 32 := 256#32
  let v1582 : BitVec 32 := Scalar.muli v1581 c256_i32_936
  v1582
def k0_off29 (d0 : Dev nD) : Fin 2 → Nat :=
  let c0_i32_943 : BitVec 32 := 0#32
  let c2_i32_935 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1580 : BitVec 32 := Scalar.muli c2_i32_935 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1581 : BitVec 32 := Scalar.addi v1580 v12
  let c256_i32_936 : BitVec 32 := 256#32
  let v1582 : BitVec 32 := Scalar.muli v1581 c256_i32_936
  let v1583 : BitVec 32 := v1582
  ![0, v1583.toNat]
def k0_mult182 (d0 : Dev nD) : BitVec 32 :=
  let c2_i32_944 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1593 : BitVec 32 := Scalar.muli c2_i32_944 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1594 : BitVec 32 := Scalar.addi v1593 v5
  let c2816_i32_945 : BitVec 32 := 2816#32
  let v1595 : BitVec 32 := Scalar.muli v1594 c2816_i32_945
  v1595
def k0_off30 (d0 : Dev nD) : Fin 2 → Nat :=
  let c0_i32_952 : BitVec 32 := 0#32
  let c2_i32_944 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1593 : BitVec 32 := Scalar.muli c2_i32_944 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1594 : BitVec 32 := Scalar.addi v1593 v5
  let c2816_i32_945 : BitVec 32 := 2816#32
  let v1595 : BitVec 32 := Scalar.muli v1594 c2816_i32_945
  let v1596 : BitVec 32 := v1595
  ![0, v1596.toNat]
def k0_mult183 (d0 : Dev nD) : BitVec 32 :=
  let c2_i32_953 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1606 : BitVec 32 := Scalar.muli c2_i32_953 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1607 : BitVec 32 := Scalar.addi v1606 v10
  let c2816_i32_954 : BitVec 32 := 2816#32
  let v1608 : BitVec 32 := Scalar.muli v1607 c2816_i32_954
  v1608
def k0_off31 (d0 : Dev nD) : Fin 2 → Nat :=
  let c0_i32_961 : BitVec 32 := 0#32
  let c2_i32_953 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1606 : BitVec 32 := Scalar.muli c2_i32_953 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1607 : BitVec 32 := Scalar.addi v1606 v10
  let c2816_i32_954 : BitVec 32 := 2816#32
  let v1608 : BitVec 32 := Scalar.muli v1607 c2816_i32_954
  let v1609 : BitVec 32 := v1608
  ![0, v1609.toNat]
def k0_mult184 (d0 : Dev nD) : BitVec 32 :=
  let c2_i32_962 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1619 : BitVec 32 := Scalar.muli c2_i32_962 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1620 : BitVec 32 := Scalar.addi v1619 v12
  let c2816_i32_963 : BitVec 32 := 2816#32
  let v1621 : BitVec 32 := Scalar.muli v1620 c2816_i32_963
  v1621
def k0_off32 (d0 : Dev nD) : Fin 2 → Nat :=
  let c0_i32_970 : BitVec 32 := 0#32
  let c2_i32_962 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1619 : BitVec 32 := Scalar.muli c2_i32_962 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1620 : BitVec 32 := Scalar.addi v1619 v12
  let c2816_i32_963 : BitVec 32 := 2816#32
  let v1621 : BitVec 32 := Scalar.muli v1620 c2816_i32_963
  let v1622 : BitVec 32 := v1621
  ![0, v1622.toNat]
def k0_mult185 (d0 : Dev nD) : BitVec 32 :=
  let c1_i32_971 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1632 : BitVec 32 := Scalar.subi c1_i32_971 v8
  let c1024_i32_973 : BitVec 32 := 1024#32
  let v1635 : BitVec 32 := Scalar.muli v1632 c1024_i32_973
  let c0_i32_974 : BitVec 32 := 0#32
  let v1636 : BitVec 32 := Scalar.addi v1635 c0_i32_974
  v1636
def k0_mult186 (d0 : Dev nD) : BitVec 32 :=
  let c2_i32_972 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1633 : BitVec 32 := Scalar.muli c2_i32_972 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1634 : BitVec 32 := Scalar.addi v1633 v5
  let c1536_i32_975 : BitVec 32 := 1536#32
  let v1638 : BitVec 32 := Scalar.muli v1634 c1536_i32_975
  v1638
def k0_mult187 (d0 : Dev nD) : BitVec 32 :=
  let c1_i32_971 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1632 : BitVec 32 := Scalar.subi c1_i32_971 v8
  let c1024_i32_976 : BitVec 32 := 1024#32
  let v1640 : BitVec 32 := Scalar.muli v1632 c1024_i32_976
  let c0_i32_977 : BitVec 32 := 0#32
  let v1641 : BitVec 32 := Scalar.addi v1640 c0_i32_977
  v1641
def k0_mult188 (d0 : Dev nD) : BitVec 32 :=
  let c2_i32_972 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1633 : BitVec 32 := Scalar.muli c2_i32_972 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1634 : BitVec 32 := Scalar.addi v1633 v5
  let c1536_i32_978 : BitVec 32 := 1536#32
  let v1643 : BitVec 32 := Scalar.muli v1634 c1536_i32_978
  v1643
def k0_off33 (d0 : Dev nD) : Fin 2 → Nat :=
  let c1_i32_971 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1632 : BitVec 32 := Scalar.subi c1_i32_971 v8
  let c1024_i32_976 : BitVec 32 := 1024#32
  let v1640 : BitVec 32 := Scalar.muli v1632 c1024_i32_976
  let c0_i32_977 : BitVec 32 := 0#32
  let v1641 : BitVec 32 := Scalar.addi v1640 c0_i32_977
  let v1642 : BitVec 32 := v1641
  let c2_i32_972 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1633 : BitVec 32 := Scalar.muli c2_i32_972 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1634 : BitVec 32 := Scalar.addi v1633 v5
  let c1536_i32_978 : BitVec 32 := 1536#32
  let v1643 : BitVec 32 := Scalar.muli v1634 c1536_i32_978
  let v1644 : BitVec 32 := v1643
  ![v1642.toNat, v1644.toNat]
def k0_mult189 (d0 : Dev nD) : BitVec 32 :=
  let c1_i32_985 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1655 : BitVec 32 := Scalar.subi c1_i32_985 v8
  let c1024_i32_987 : BitVec 32 := 1024#32
  let v1658 : BitVec 32 := Scalar.muli v1655 c1024_i32_987
  let c0_i32_988 : BitVec 32 := 0#32
  let v1659 : BitVec 32 := Scalar.addi v1658 c0_i32_988
  v1659
def k0_mult190 (d0 : Dev nD) : BitVec 32 :=
  let c2_i32_986 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1656 : BitVec 32 := Scalar.muli c2_i32_986 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1657 : BitVec 32 := Scalar.addi v1656 v10
  let c1536_i32_989 : BitVec 32 := 1536#32
  let v1661 : BitVec 32 := Scalar.muli v1657 c1536_i32_989
  v1661
def k0_mult191 (d0 : Dev nD) : BitVec 32 :=
  let c1_i32_985 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1655 : BitVec 32 := Scalar.subi c1_i32_985 v8
  let c1024_i32_990 : BitVec 32 := 1024#32
  let v1663 : BitVec 32 := Scalar.muli v1655 c1024_i32_990
  let c0_i32_991 : BitVec 32 := 0#32
  let v1664 : BitVec 32 := Scalar.addi v1663 c0_i32_991
  v1664
def k0_mult192 (d0 : Dev nD) : BitVec 32 :=
  let c2_i32_986 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1656 : BitVec 32 := Scalar.muli c2_i32_986 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1657 : BitVec 32 := Scalar.addi v1656 v10
  let c1536_i32_992 : BitVec 32 := 1536#32
  let v1666 : BitVec 32 := Scalar.muli v1657 c1536_i32_992
  v1666
def k0_off34 (d0 : Dev nD) : Fin 2 → Nat :=
  let c1_i32_985 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1655 : BitVec 32 := Scalar.subi c1_i32_985 v8
  let c1024_i32_990 : BitVec 32 := 1024#32
  let v1663 : BitVec 32 := Scalar.muli v1655 c1024_i32_990
  let c0_i32_991 : BitVec 32 := 0#32
  let v1664 : BitVec 32 := Scalar.addi v1663 c0_i32_991
  let v1665 : BitVec 32 := v1664
  let c2_i32_986 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1656 : BitVec 32 := Scalar.muli c2_i32_986 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1657 : BitVec 32 := Scalar.addi v1656 v10
  let c1536_i32_992 : BitVec 32 := 1536#32
  let v1666 : BitVec 32 := Scalar.muli v1657 c1536_i32_992
  let v1667 : BitVec 32 := v1666
  ![v1665.toNat, v1667.toNat]
def k0_mult193 (d0 : Dev nD) : BitVec 32 :=
  let c1_i32_999 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1678 : BitVec 32 := Scalar.subi c1_i32_999 v8
  let c1024_i32_1001 : BitVec 32 := 1024#32
  let v1681 : BitVec 32 := Scalar.muli v1678 c1024_i32_1001
  let c0_i32_1002 : BitVec 32 := 0#32
  let v1682 : BitVec 32 := Scalar.addi v1681 c0_i32_1002
  v1682
def k0_mult194 (d0 : Dev nD) : BitVec 32 :=
  let c2_i32_1000 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1679 : BitVec 32 := Scalar.muli c2_i32_1000 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1680 : BitVec 32 := Scalar.addi v1679 v12
  let c1536_i32_1003 : BitVec 32 := 1536#32
  let v1684 : BitVec 32 := Scalar.muli v1680 c1536_i32_1003
  v1684
def k0_mult195 (d0 : Dev nD) : BitVec 32 :=
  let c1_i32_999 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1678 : BitVec 32 := Scalar.subi c1_i32_999 v8
  let c1024_i32_1004 : BitVec 32 := 1024#32
  let v1686 : BitVec 32 := Scalar.muli v1678 c1024_i32_1004
  let c0_i32_1005 : BitVec 32 := 0#32
  let v1687 : BitVec 32 := Scalar.addi v1686 c0_i32_1005
  v1687
def k0_mult196 (d0 : Dev nD) : BitVec 32 :=
  let c2_i32_1000 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1679 : BitVec 32 := Scalar.muli c2_i32_1000 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1680 : BitVec 32 := Scalar.addi v1679 v12
  let c1536_i32_1006 : BitVec 32 := 1536#32
  let v1689 : BitVec 32 := Scalar.muli v1680 c1536_i32_1006
  v1689
def k0_off35 (d0 : Dev nD) : Fin 2 → Nat :=
  let c1_i32_999 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1678 : BitVec 32 := Scalar.subi c1_i32_999 v8
  let c1024_i32_1004 : BitVec 32 := 1024#32
  let v1686 : BitVec 32 := Scalar.muli v1678 c1024_i32_1004
  let c0_i32_1005 : BitVec 32 := 0#32
  let v1687 : BitVec 32 := Scalar.addi v1686 c0_i32_1005
  let v1688 : BitVec 32 := v1687
  let c2_i32_1000 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1679 : BitVec 32 := Scalar.muli c2_i32_1000 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1680 : BitVec 32 := Scalar.addi v1679 v12
  let c1536_i32_1006 : BitVec 32 := 1536#32
  let v1689 : BitVec 32 := Scalar.muli v1680 c1536_i32_1006
  let v1690 : BitVec 32 := v1689
  ![v1688.toNat, v1690.toNat]
def k0_mult197 (d0 : Dev nD) : BitVec 32 :=
  let c1_i32_1013 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1701 : BitVec 32 := Scalar.subi c1_i32_1013 v8
  let c256_i32_1015 : BitVec 32 := 256#32
  let v1704 : BitVec 32 := Scalar.muli v1701 c256_i32_1015
  let c2_i32_1014 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1702 : BitVec 32 := Scalar.muli c2_i32_1014 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1703 : BitVec 32 := Scalar.addi v1702 v5
  let c512_i32_1016 : BitVec 32 := 512#32
  let v1705 : BitVec 32 := Scalar.muli v1703 c512_i32_1016
  let v1706 : BitVec 32 := Scalar.addi v1704 v1705
  v1706
def k0_mult198 (d0 : Dev nD) : BitVec 32 :=
  let c1_i32_1013 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1701 : BitVec 32 := Scalar.subi c1_i32_1013 v8
  let c256_i32_1017 : BitVec 32 := 256#32
  let v1708 : BitVec 32 := Scalar.muli v1701 c256_i32_1017
  let c2_i32_1014 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1702 : BitVec 32 := Scalar.muli c2_i32_1014 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1703 : BitVec 32 := Scalar.addi v1702 v5
  let c512_i32_1018 : BitVec 32 := 512#32
  let v1709 : BitVec 32 := Scalar.muli v1703 c512_i32_1018
  let v1710 : BitVec 32 := Scalar.addi v1708 v1709
  v1710
def k0_off36 (d0 : Dev nD) : Fin 2 → Nat :=
  let c1_i32_1013 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1701 : BitVec 32 := Scalar.subi c1_i32_1013 v8
  let c256_i32_1017 : BitVec 32 := 256#32
  let v1708 : BitVec 32 := Scalar.muli v1701 c256_i32_1017
  let c2_i32_1014 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1702 : BitVec 32 := Scalar.muli c2_i32_1014 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1703 : BitVec 32 := Scalar.addi v1702 v5
  let c512_i32_1018 : BitVec 32 := 512#32
  let v1709 : BitVec 32 := Scalar.muli v1703 c512_i32_1018
  let v1710 : BitVec 32 := Scalar.addi v1708 v1709
  let v1711 : BitVec 32 := v1710
  let c0_i32_1025 : BitVec 32 := 0#32
  ![v1711.toNat, 0]
def k0_mult199 (d0 : Dev nD) : BitVec 32 :=
  let c1_i32_1027 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1722 : BitVec 32 := Scalar.subi c1_i32_1027 v8
  let c256_i32_1029 : BitVec 32 := 256#32
  let v1725 : BitVec 32 := Scalar.muli v1722 c256_i32_1029
  let c2_i32_1028 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1723 : BitVec 32 := Scalar.muli c2_i32_1028 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1724 : BitVec 32 := Scalar.addi v1723 v10
  let c512_i32_1030 : BitVec 32 := 512#32
  let v1726 : BitVec 32 := Scalar.muli v1724 c512_i32_1030
  let v1727 : BitVec 32 := Scalar.addi v1725 v1726
  v1727
def k0_mult200 (d0 : Dev nD) : BitVec 32 :=
  let c1_i32_1027 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1722 : BitVec 32 := Scalar.subi c1_i32_1027 v8
  let c256_i32_1031 : BitVec 32 := 256#32
  let v1729 : BitVec 32 := Scalar.muli v1722 c256_i32_1031
  let c2_i32_1028 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1723 : BitVec 32 := Scalar.muli c2_i32_1028 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1724 : BitVec 32 := Scalar.addi v1723 v10
  let c512_i32_1032 : BitVec 32 := 512#32
  let v1730 : BitVec 32 := Scalar.muli v1724 c512_i32_1032
  let v1731 : BitVec 32 := Scalar.addi v1729 v1730
  v1731
def k0_off37 (d0 : Dev nD) : Fin 2 → Nat :=
  let c1_i32_1027 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1722 : BitVec 32 := Scalar.subi c1_i32_1027 v8
  let c256_i32_1031 : BitVec 32 := 256#32
  let v1729 : BitVec 32 := Scalar.muli v1722 c256_i32_1031
  let c2_i32_1028 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1723 : BitVec 32 := Scalar.muli c2_i32_1028 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1724 : BitVec 32 := Scalar.addi v1723 v10
  let c512_i32_1032 : BitVec 32 := 512#32
  let v1730 : BitVec 32 := Scalar.muli v1724 c512_i32_1032
  let v1731 : BitVec 32 := Scalar.addi v1729 v1730
  let v1732 : BitVec 32 := v1731
  let c0_i32_1039 : BitVec 32 := 0#32
  ![v1732.toNat, 0]
def k0_mult201 (d0 : Dev nD) : BitVec 32 :=
  let c1_i32_1041 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1743 : BitVec 32 := Scalar.subi c1_i32_1041 v8
  let c256_i32_1043 : BitVec 32 := 256#32
  let v1746 : BitVec 32 := Scalar.muli v1743 c256_i32_1043
  let c2_i32_1042 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1744 : BitVec 32 := Scalar.muli c2_i32_1042 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1745 : BitVec 32 := Scalar.addi v1744 v12
  let c512_i32_1044 : BitVec 32 := 512#32
  let v1747 : BitVec 32 := Scalar.muli v1745 c512_i32_1044
  let v1748 : BitVec 32 := Scalar.addi v1746 v1747
  v1748
def k0_mult202 (d0 : Dev nD) : BitVec 32 :=
  let c1_i32_1041 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1743 : BitVec 32 := Scalar.subi c1_i32_1041 v8
  let c256_i32_1045 : BitVec 32 := 256#32
  let v1750 : BitVec 32 := Scalar.muli v1743 c256_i32_1045
  let c2_i32_1042 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1744 : BitVec 32 := Scalar.muli c2_i32_1042 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1745 : BitVec 32 := Scalar.addi v1744 v12
  let c512_i32_1046 : BitVec 32 := 512#32
  let v1751 : BitVec 32 := Scalar.muli v1745 c512_i32_1046
  let v1752 : BitVec 32 := Scalar.addi v1750 v1751
  v1752
def k0_off38 (d0 : Dev nD) : Fin 2 → Nat :=
  let c1_i32_1041 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1743 : BitVec 32 := Scalar.subi c1_i32_1041 v8
  let c256_i32_1045 : BitVec 32 := 256#32
  let v1750 : BitVec 32 := Scalar.muli v1743 c256_i32_1045
  let c2_i32_1042 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1744 : BitVec 32 := Scalar.muli c2_i32_1042 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1745 : BitVec 32 := Scalar.addi v1744 v12
  let c512_i32_1046 : BitVec 32 := 512#32
  let v1751 : BitVec 32 := Scalar.muli v1745 c512_i32_1046
  let v1752 : BitVec 32 := Scalar.addi v1750 v1751
  let v1753 : BitVec 32 := v1752
  let c0_i32_1053 : BitVec 32 := 0#32
  ![v1753.toNat, 0]
def k0_mult203 (d0 : Dev nD) : BitVec 32 :=
  let c1_i32_1055 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1764 : BitVec 32 := Scalar.subi c1_i32_1055 v8
  let c256_i32_1057 : BitVec 32 := 256#32
  let v1767 : BitVec 32 := Scalar.muli v1764 c256_i32_1057
  let c2_i32_1056 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1765 : BitVec 32 := Scalar.muli c2_i32_1056 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1766 : BitVec 32 := Scalar.addi v1765 v5
  let c512_i32_1058 : BitVec 32 := 512#32
  let v1768 : BitVec 32 := Scalar.muli v1766 c512_i32_1058
  let v1769 : BitVec 32 := Scalar.addi v1767 v1768
  v1769
def k0_mult204 (d0 : Dev nD) : BitVec 32 :=
  let c1_i32_1055 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1764 : BitVec 32 := Scalar.subi c1_i32_1055 v8
  let c256_i32_1059 : BitVec 32 := 256#32
  let v1771 : BitVec 32 := Scalar.muli v1764 c256_i32_1059
  let c2_i32_1056 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1765 : BitVec 32 := Scalar.muli c2_i32_1056 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1766 : BitVec 32 := Scalar.addi v1765 v5
  let c512_i32_1060 : BitVec 32 := 512#32
  let v1772 : BitVec 32 := Scalar.muli v1766 c512_i32_1060
  let v1773 : BitVec 32 := Scalar.addi v1771 v1772
  v1773
def k0_mult205 (d0 : Dev nD) : BitVec 32 :=
  let c1_i32_1069 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1785 : BitVec 32 := Scalar.subi c1_i32_1069 v8
  let c256_i32_1071 : BitVec 32 := 256#32
  let v1788 : BitVec 32 := Scalar.muli v1785 c256_i32_1071
  let c2_i32_1070 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1786 : BitVec 32 := Scalar.muli c2_i32_1070 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1787 : BitVec 32 := Scalar.addi v1786 v10
  let c512_i32_1072 : BitVec 32 := 512#32
  let v1789 : BitVec 32 := Scalar.muli v1787 c512_i32_1072
  let v1790 : BitVec 32 := Scalar.addi v1788 v1789
  v1790
def k0_mult206 (d0 : Dev nD) : BitVec 32 :=
  let c1_i32_1069 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1785 : BitVec 32 := Scalar.subi c1_i32_1069 v8
  let c256_i32_1073 : BitVec 32 := 256#32
  let v1792 : BitVec 32 := Scalar.muli v1785 c256_i32_1073
  let c2_i32_1070 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1786 : BitVec 32 := Scalar.muli c2_i32_1070 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1787 : BitVec 32 := Scalar.addi v1786 v10
  let c512_i32_1074 : BitVec 32 := 512#32
  let v1793 : BitVec 32 := Scalar.muli v1787 c512_i32_1074
  let v1794 : BitVec 32 := Scalar.addi v1792 v1793
  v1794
def k0_mult207 (d0 : Dev nD) : BitVec 32 :=
  let c1_i32_1083 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1806 : BitVec 32 := Scalar.subi c1_i32_1083 v8
  let c256_i32_1085 : BitVec 32 := 256#32
  let v1809 : BitVec 32 := Scalar.muli v1806 c256_i32_1085
  let c2_i32_1084 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1807 : BitVec 32 := Scalar.muli c2_i32_1084 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1808 : BitVec 32 := Scalar.addi v1807 v12
  let c512_i32_1086 : BitVec 32 := 512#32
  let v1810 : BitVec 32 := Scalar.muli v1808 c512_i32_1086
  let v1811 : BitVec 32 := Scalar.addi v1809 v1810
  v1811
def k0_mult208 (d0 : Dev nD) : BitVec 32 :=
  let c1_i32_1083 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1806 : BitVec 32 := Scalar.subi c1_i32_1083 v8
  let c256_i32_1087 : BitVec 32 := 256#32
  let v1813 : BitVec 32 := Scalar.muli v1806 c256_i32_1087
  let c2_i32_1084 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1807 : BitVec 32 := Scalar.muli c2_i32_1084 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1808 : BitVec 32 := Scalar.addi v1807 v12
  let c512_i32_1088 : BitVec 32 := 512#32
  let v1814 : BitVec 32 := Scalar.muli v1808 c512_i32_1088
  let v1815 : BitVec 32 := Scalar.addi v1813 v1814
  v1815
def k0_mult209 (d0 : Dev nD) : BitVec 32 :=
  let c1_i32_1097 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1827 : BitVec 32 := Scalar.subi c1_i32_1097 v8
  let c256_i32_1099 : BitVec 32 := 256#32
  let v1830 : BitVec 32 := Scalar.muli v1827 c256_i32_1099
  let c2_i32_1098 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1828 : BitVec 32 := Scalar.muli c2_i32_1098 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1829 : BitVec 32 := Scalar.addi v1828 v5
  let c512_i32_1100 : BitVec 32 := 512#32
  let v1831 : BitVec 32 := Scalar.muli v1829 c512_i32_1100
  let v1832 : BitVec 32 := Scalar.addi v1830 v1831
  v1832
def k0_mult210 (d0 : Dev nD) : BitVec 32 :=
  let c1_i32_1097 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1827 : BitVec 32 := Scalar.subi c1_i32_1097 v8
  let c256_i32_1101 : BitVec 32 := 256#32
  let v1834 : BitVec 32 := Scalar.muli v1827 c256_i32_1101
  let c2_i32_1098 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1828 : BitVec 32 := Scalar.muli c2_i32_1098 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1829 : BitVec 32 := Scalar.addi v1828 v5
  let c512_i32_1102 : BitVec 32 := 512#32
  let v1835 : BitVec 32 := Scalar.muli v1829 c512_i32_1102
  let v1836 : BitVec 32 := Scalar.addi v1834 v1835
  v1836
def k0_mult211 (d0 : Dev nD) : BitVec 32 :=
  let c1_i32_1111 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1848 : BitVec 32 := Scalar.subi c1_i32_1111 v8
  let c256_i32_1113 : BitVec 32 := 256#32
  let v1851 : BitVec 32 := Scalar.muli v1848 c256_i32_1113
  let c2_i32_1112 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1849 : BitVec 32 := Scalar.muli c2_i32_1112 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1850 : BitVec 32 := Scalar.addi v1849 v10
  let c512_i32_1114 : BitVec 32 := 512#32
  let v1852 : BitVec 32 := Scalar.muli v1850 c512_i32_1114
  let v1853 : BitVec 32 := Scalar.addi v1851 v1852
  v1853
def k0_mult212 (d0 : Dev nD) : BitVec 32 :=
  let c1_i32_1111 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1848 : BitVec 32 := Scalar.subi c1_i32_1111 v8
  let c256_i32_1115 : BitVec 32 := 256#32
  let v1855 : BitVec 32 := Scalar.muli v1848 c256_i32_1115
  let c2_i32_1112 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1849 : BitVec 32 := Scalar.muli c2_i32_1112 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1850 : BitVec 32 := Scalar.addi v1849 v10
  let c512_i32_1116 : BitVec 32 := 512#32
  let v1856 : BitVec 32 := Scalar.muli v1850 c512_i32_1116
  let v1857 : BitVec 32 := Scalar.addi v1855 v1856
  v1857
def k0_mult213 (d0 : Dev nD) : BitVec 32 :=
  let c1_i32_1125 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1869 : BitVec 32 := Scalar.subi c1_i32_1125 v8
  let c256_i32_1127 : BitVec 32 := 256#32
  let v1872 : BitVec 32 := Scalar.muli v1869 c256_i32_1127
  let c2_i32_1126 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1870 : BitVec 32 := Scalar.muli c2_i32_1126 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1871 : BitVec 32 := Scalar.addi v1870 v12
  let c512_i32_1128 : BitVec 32 := 512#32
  let v1873 : BitVec 32 := Scalar.muli v1871 c512_i32_1128
  let v1874 : BitVec 32 := Scalar.addi v1872 v1873
  v1874
def k0_mult214 (d0 : Dev nD) : BitVec 32 :=
  let c1_i32_1125 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1869 : BitVec 32 := Scalar.subi c1_i32_1125 v8
  let c256_i32_1129 : BitVec 32 := 256#32
  let v1876 : BitVec 32 := Scalar.muli v1869 c256_i32_1129
  let c2_i32_1126 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1870 : BitVec 32 := Scalar.muli c2_i32_1126 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1871 : BitVec 32 := Scalar.addi v1870 v12
  let c512_i32_1130 : BitVec 32 := 512#32
  let v1877 : BitVec 32 := Scalar.muli v1871 c512_i32_1130
  let v1878 : BitVec 32 := Scalar.addi v1876 v1877
  v1878
def k0_mult215 (d0 : Dev nD) : BitVec 32 :=
  let c1_i32_1139 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1890 : BitVec 32 := Scalar.subi c1_i32_1139 v8
  let c256_i32_1141 : BitVec 32 := 256#32
  let v1893 : BitVec 32 := Scalar.muli v1890 c256_i32_1141
  let c2_i32_1140 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1891 : BitVec 32 := Scalar.muli c2_i32_1140 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1892 : BitVec 32 := Scalar.addi v1891 v5
  let c512_i32_1142 : BitVec 32 := 512#32
  let v1894 : BitVec 32 := Scalar.muli v1892 c512_i32_1142
  let v1895 : BitVec 32 := Scalar.addi v1893 v1894
  v1895
def k0_mult216 (d0 : Dev nD) : BitVec 32 :=
  let c1_i32_1139 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1890 : BitVec 32 := Scalar.subi c1_i32_1139 v8
  let c256_i32_1143 : BitVec 32 := 256#32
  let v1897 : BitVec 32 := Scalar.muli v1890 c256_i32_1143
  let c2_i32_1140 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1891 : BitVec 32 := Scalar.muli c2_i32_1140 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1892 : BitVec 32 := Scalar.addi v1891 v5
  let c512_i32_1144 : BitVec 32 := 512#32
  let v1898 : BitVec 32 := Scalar.muli v1892 c512_i32_1144
  let v1899 : BitVec 32 := Scalar.addi v1897 v1898
  v1899
def k0_mult217 (d0 : Dev nD) : BitVec 32 :=
  let c1_i32_1153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1911 : BitVec 32 := Scalar.subi c1_i32_1153 v8
  let c256_i32_1155 : BitVec 32 := 256#32
  let v1914 : BitVec 32 := Scalar.muli v1911 c256_i32_1155
  let c2_i32_1154 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1912 : BitVec 32 := Scalar.muli c2_i32_1154 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1913 : BitVec 32 := Scalar.addi v1912 v10
  let c512_i32_1156 : BitVec 32 := 512#32
  let v1915 : BitVec 32 := Scalar.muli v1913 c512_i32_1156
  let v1916 : BitVec 32 := Scalar.addi v1914 v1915
  v1916
def k0_mult218 (d0 : Dev nD) : BitVec 32 :=
  let c1_i32_1153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1911 : BitVec 32 := Scalar.subi c1_i32_1153 v8
  let c256_i32_1157 : BitVec 32 := 256#32
  let v1918 : BitVec 32 := Scalar.muli v1911 c256_i32_1157
  let c2_i32_1154 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1912 : BitVec 32 := Scalar.muli c2_i32_1154 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1913 : BitVec 32 := Scalar.addi v1912 v10
  let c512_i32_1158 : BitVec 32 := 512#32
  let v1919 : BitVec 32 := Scalar.muli v1913 c512_i32_1158
  let v1920 : BitVec 32 := Scalar.addi v1918 v1919
  v1920
def k0_mult219 (d0 : Dev nD) : BitVec 32 :=
  let c1_i32_1167 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1932 : BitVec 32 := Scalar.subi c1_i32_1167 v8
  let c256_i32_1169 : BitVec 32 := 256#32
  let v1935 : BitVec 32 := Scalar.muli v1932 c256_i32_1169
  let c2_i32_1168 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1933 : BitVec 32 := Scalar.muli c2_i32_1168 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1934 : BitVec 32 := Scalar.addi v1933 v12
  let c512_i32_1170 : BitVec 32 := 512#32
  let v1936 : BitVec 32 := Scalar.muli v1934 c512_i32_1170
  let v1937 : BitVec 32 := Scalar.addi v1935 v1936
  v1937
def k0_mult220 (d0 : Dev nD) : BitVec 32 :=
  let c1_i32_1167 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1932 : BitVec 32 := Scalar.subi c1_i32_1167 v8
  let c256_i32_1171 : BitVec 32 := 256#32
  let v1939 : BitVec 32 := Scalar.muli v1932 c256_i32_1171
  let c2_i32_1168 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1933 : BitVec 32 := Scalar.muli c2_i32_1168 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1934 : BitVec 32 := Scalar.addi v1933 v12
  let c512_i32_1172 : BitVec 32 := 512#32
  let v1940 : BitVec 32 := Scalar.muli v1934 c512_i32_1172
  let v1941 : BitVec 32 := Scalar.addi v1939 v1940
  v1941
def k0_mult221 (d0 : Dev nD) : BitVec 32 :=
  let c1_i32_1181 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1953 : BitVec 32 := Scalar.subi c1_i32_1181 v8
  let c256_i32_1183 : BitVec 32 := 256#32
  let v1956 : BitVec 32 := Scalar.muli v1953 c256_i32_1183
  let c2_i32_1182 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1954 : BitVec 32 := Scalar.muli c2_i32_1182 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1955 : BitVec 32 := Scalar.addi v1954 v5
  let c512_i32_1184 : BitVec 32 := 512#32
  let v1957 : BitVec 32 := Scalar.muli v1955 c512_i32_1184
  let v1958 : BitVec 32 := Scalar.addi v1956 v1957
  v1958
def k0_mult222 (d0 : Dev nD) : BitVec 32 :=
  let c1_i32_1181 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1953 : BitVec 32 := Scalar.subi c1_i32_1181 v8
  let c256_i32_1185 : BitVec 32 := 256#32
  let v1960 : BitVec 32 := Scalar.muli v1953 c256_i32_1185
  let c2_i32_1182 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1954 : BitVec 32 := Scalar.muli c2_i32_1182 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1955 : BitVec 32 := Scalar.addi v1954 v5
  let c512_i32_1186 : BitVec 32 := 512#32
  let v1961 : BitVec 32 := Scalar.muli v1955 c512_i32_1186
  let v1962 : BitVec 32 := Scalar.addi v1960 v1961
  v1962
def k0_mult223 (d0 : Dev nD) : BitVec 32 :=
  let c1_i32_1195 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1974 : BitVec 32 := Scalar.subi c1_i32_1195 v8
  let c256_i32_1197 : BitVec 32 := 256#32
  let v1977 : BitVec 32 := Scalar.muli v1974 c256_i32_1197
  let c2_i32_1196 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1975 : BitVec 32 := Scalar.muli c2_i32_1196 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1976 : BitVec 32 := Scalar.addi v1975 v10
  let c512_i32_1198 : BitVec 32 := 512#32
  let v1978 : BitVec 32 := Scalar.muli v1976 c512_i32_1198
  let v1979 : BitVec 32 := Scalar.addi v1977 v1978
  v1979
def k0_mult224 (d0 : Dev nD) : BitVec 32 :=
  let c1_i32_1195 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1974 : BitVec 32 := Scalar.subi c1_i32_1195 v8
  let c256_i32_1199 : BitVec 32 := 256#32
  let v1981 : BitVec 32 := Scalar.muli v1974 c256_i32_1199
  let c2_i32_1196 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1975 : BitVec 32 := Scalar.muli c2_i32_1196 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1976 : BitVec 32 := Scalar.addi v1975 v10
  let c512_i32_1200 : BitVec 32 := 512#32
  let v1982 : BitVec 32 := Scalar.muli v1976 c512_i32_1200
  let v1983 : BitVec 32 := Scalar.addi v1981 v1982
  v1983
def k0_mult225 (d0 : Dev nD) : BitVec 32 :=
  let c1_i32_1209 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1995 : BitVec 32 := Scalar.subi c1_i32_1209 v8
  let c256_i32_1211 : BitVec 32 := 256#32
  let v1998 : BitVec 32 := Scalar.muli v1995 c256_i32_1211
  let c2_i32_1210 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1996 : BitVec 32 := Scalar.muli c2_i32_1210 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1997 : BitVec 32 := Scalar.addi v1996 v12
  let c512_i32_1212 : BitVec 32 := 512#32
  let v1999 : BitVec 32 := Scalar.muli v1997 c512_i32_1212
  let v2000 : BitVec 32 := Scalar.addi v1998 v1999
  v2000
def k0_mult226 (d0 : Dev nD) : BitVec 32 :=
  let c1_i32_1209 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1995 : BitVec 32 := Scalar.subi c1_i32_1209 v8
  let c256_i32_1213 : BitVec 32 := 256#32
  let v2002 : BitVec 32 := Scalar.muli v1995 c256_i32_1213
  let c2_i32_1210 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1996 : BitVec 32 := Scalar.muli c2_i32_1210 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1997 : BitVec 32 := Scalar.addi v1996 v12
  let c512_i32_1214 : BitVec 32 := 512#32
  let v2003 : BitVec 32 := Scalar.muli v1997 c512_i32_1214
  let v2004 : BitVec 32 := Scalar.addi v2002 v2003
  v2004
def k0_mult227 (d0 : Dev nD) : BitVec 32 :=
  let c1_i32_1223 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2016 : BitVec 32 := Scalar.subi c1_i32_1223 v8
  let c1024_i32_1225 : BitVec 32 := 1024#32
  let v2019 : BitVec 32 := Scalar.muli v2016 c1024_i32_1225
  let c0_i32_1226 : BitVec 32 := 0#32
  let v2020 : BitVec 32 := Scalar.addi v2019 c0_i32_1226
  v2020
def k0_mult228 (d0 : Dev nD) : BitVec 32 :=
  let c2_i32_1224 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2017 : BitVec 32 := Scalar.muli c2_i32_1224 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2018 : BitVec 32 := Scalar.addi v2017 v5
  let c2816_i32_1227 : BitVec 32 := 2816#32
  let v2022 : BitVec 32 := Scalar.muli v2018 c2816_i32_1227
  v2022
def k0_mult229 (d0 : Dev nD) : BitVec 32 :=
  let c1_i32_1223 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2016 : BitVec 32 := Scalar.subi c1_i32_1223 v8
  let c1024_i32_1228 : BitVec 32 := 1024#32
  let v2024 : BitVec 32 := Scalar.muli v2016 c1024_i32_1228
  let c0_i32_1229 : BitVec 32 := 0#32
  let v2025 : BitVec 32 := Scalar.addi v2024 c0_i32_1229
  v2025
def k0_mult230 (d0 : Dev nD) : BitVec 32 :=
  let c2_i32_1224 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2017 : BitVec 32 := Scalar.muli c2_i32_1224 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2018 : BitVec 32 := Scalar.addi v2017 v5
  let c2816_i32_1230 : BitVec 32 := 2816#32
  let v2027 : BitVec 32 := Scalar.muli v2018 c2816_i32_1230
  v2027
def k0_off39 (d0 : Dev nD) : Fin 2 → Nat :=
  let c1_i32_1223 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2016 : BitVec 32 := Scalar.subi c1_i32_1223 v8
  let c1024_i32_1228 : BitVec 32 := 1024#32
  let v2024 : BitVec 32 := Scalar.muli v2016 c1024_i32_1228
  let c0_i32_1229 : BitVec 32 := 0#32
  let v2025 : BitVec 32 := Scalar.addi v2024 c0_i32_1229
  let v2026 : BitVec 32 := v2025
  let c2_i32_1224 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2017 : BitVec 32 := Scalar.muli c2_i32_1224 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2018 : BitVec 32 := Scalar.addi v2017 v5
  let c2816_i32_1230 : BitVec 32 := 2816#32
  let v2027 : BitVec 32 := Scalar.muli v2018 c2816_i32_1230
  let v2028 : BitVec 32 := v2027
  ![v2026.toNat, v2028.toNat]
def k0_mult231 (d0 : Dev nD) : BitVec 32 :=
  let c1_i32_1237 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2039 : BitVec 32 := Scalar.subi c1_i32_1237 v8
  let c1024_i32_1239 : BitVec 32 := 1024#32
  let v2042 : BitVec 32 := Scalar.muli v2039 c1024_i32_1239
  let c0_i32_1240 : BitVec 32 := 0#32
  let v2043 : BitVec 32 := Scalar.addi v2042 c0_i32_1240
  v2043
def k0_mult232 (d0 : Dev nD) : BitVec 32 :=
  let c2_i32_1238 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2040 : BitVec 32 := Scalar.muli c2_i32_1238 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2041 : BitVec 32 := Scalar.addi v2040 v10
  let c2816_i32_1241 : BitVec 32 := 2816#32
  let v2045 : BitVec 32 := Scalar.muli v2041 c2816_i32_1241
  v2045
def k0_mult233 (d0 : Dev nD) : BitVec 32 :=
  let c1_i32_1237 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2039 : BitVec 32 := Scalar.subi c1_i32_1237 v8
  let c1024_i32_1242 : BitVec 32 := 1024#32
  let v2047 : BitVec 32 := Scalar.muli v2039 c1024_i32_1242
  let c0_i32_1243 : BitVec 32 := 0#32
  let v2048 : BitVec 32 := Scalar.addi v2047 c0_i32_1243
  v2048
def k0_mult234 (d0 : Dev nD) : BitVec 32 :=
  let c2_i32_1238 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2040 : BitVec 32 := Scalar.muli c2_i32_1238 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2041 : BitVec 32 := Scalar.addi v2040 v10
  let c2816_i32_1244 : BitVec 32 := 2816#32
  let v2050 : BitVec 32 := Scalar.muli v2041 c2816_i32_1244
  v2050
def k0_off40 (d0 : Dev nD) : Fin 2 → Nat :=
  let c1_i32_1237 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2039 : BitVec 32 := Scalar.subi c1_i32_1237 v8
  let c1024_i32_1242 : BitVec 32 := 1024#32
  let v2047 : BitVec 32 := Scalar.muli v2039 c1024_i32_1242
  let c0_i32_1243 : BitVec 32 := 0#32
  let v2048 : BitVec 32 := Scalar.addi v2047 c0_i32_1243
  let v2049 : BitVec 32 := v2048
  let c2_i32_1238 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2040 : BitVec 32 := Scalar.muli c2_i32_1238 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2041 : BitVec 32 := Scalar.addi v2040 v10
  let c2816_i32_1244 : BitVec 32 := 2816#32
  let v2050 : BitVec 32 := Scalar.muli v2041 c2816_i32_1244
  let v2051 : BitVec 32 := v2050
  ![v2049.toNat, v2051.toNat]
def k0_mult235 (d0 : Dev nD) : BitVec 32 :=
  let c1_i32_1251 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2062 : BitVec 32 := Scalar.subi c1_i32_1251 v8
  let c1024_i32_1253 : BitVec 32 := 1024#32
  let v2065 : BitVec 32 := Scalar.muli v2062 c1024_i32_1253
  let c0_i32_1254 : BitVec 32 := 0#32
  let v2066 : BitVec 32 := Scalar.addi v2065 c0_i32_1254
  v2066
def k0_mult236 (d0 : Dev nD) : BitVec 32 :=
  let c2_i32_1252 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2063 : BitVec 32 := Scalar.muli c2_i32_1252 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2064 : BitVec 32 := Scalar.addi v2063 v12
  let c2816_i32_1255 : BitVec 32 := 2816#32
  let v2068 : BitVec 32 := Scalar.muli v2064 c2816_i32_1255
  v2068
def k0_mult237 (d0 : Dev nD) : BitVec 32 :=
  let c1_i32_1251 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2062 : BitVec 32 := Scalar.subi c1_i32_1251 v8
  let c1024_i32_1256 : BitVec 32 := 1024#32
  let v2070 : BitVec 32 := Scalar.muli v2062 c1024_i32_1256
  let c0_i32_1257 : BitVec 32 := 0#32
  let v2071 : BitVec 32 := Scalar.addi v2070 c0_i32_1257
  v2071
def k0_mult238 (d0 : Dev nD) : BitVec 32 :=
  let c2_i32_1252 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2063 : BitVec 32 := Scalar.muli c2_i32_1252 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2064 : BitVec 32 := Scalar.addi v2063 v12
  let c2816_i32_1258 : BitVec 32 := 2816#32
  let v2073 : BitVec 32 := Scalar.muli v2064 c2816_i32_1258
  v2073
def k0_off41 (d0 : Dev nD) : Fin 2 → Nat :=
  let c1_i32_1251 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2062 : BitVec 32 := Scalar.subi c1_i32_1251 v8
  let c1024_i32_1256 : BitVec 32 := 1024#32
  let v2070 : BitVec 32 := Scalar.muli v2062 c1024_i32_1256
  let c0_i32_1257 : BitVec 32 := 0#32
  let v2071 : BitVec 32 := Scalar.addi v2070 c0_i32_1257
  let v2072 : BitVec 32 := v2071
  let c2_i32_1252 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2063 : BitVec 32 := Scalar.muli c2_i32_1252 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2064 : BitVec 32 := Scalar.addi v2063 v12
  let c2816_i32_1258 : BitVec 32 := 2816#32
  let v2073 : BitVec 32 := Scalar.muli v2064 c2816_i32_1258
  let v2074 : BitVec 32 := v2073
  ![v2072.toNat, v2074.toNat]
def k0_mult239 (d0 : Dev nD) : BitVec 32 :=
  let c1_i32_1265 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2085 : BitVec 32 := Scalar.subi c1_i32_1265 v8
  let c704_i32_1267 : BitVec 32 := 704#32
  let v2088 : BitVec 32 := Scalar.muli v2085 c704_i32_1267
  let c2_i32_1266 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2086 : BitVec 32 := Scalar.muli c2_i32_1266 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2087 : BitVec 32 := Scalar.addi v2086 v5
  let c1408_i32_1268 : BitVec 32 := 1408#32
  let v2089 : BitVec 32 := Scalar.muli v2087 c1408_i32_1268
  let v2090 : BitVec 32 := Scalar.addi v2088 v2089
  v2090
def k0_mult240 (d0 : Dev nD) : BitVec 32 :=
  let c1_i32_1265 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2085 : BitVec 32 := Scalar.subi c1_i32_1265 v8
  let c704_i32_1269 : BitVec 32 := 704#32
  let v2092 : BitVec 32 := Scalar.muli v2085 c704_i32_1269
  let c2_i32_1266 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2086 : BitVec 32 := Scalar.muli c2_i32_1266 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2087 : BitVec 32 := Scalar.addi v2086 v5
  let c1408_i32_1270 : BitVec 32 := 1408#32
  let v2093 : BitVec 32 := Scalar.muli v2087 c1408_i32_1270
  let v2094 : BitVec 32 := Scalar.addi v2092 v2093
  v2094
def k0_off42 (d0 : Dev nD) : Fin 2 → Nat :=
  let c1_i32_1265 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2085 : BitVec 32 := Scalar.subi c1_i32_1265 v8
  let c704_i32_1269 : BitVec 32 := 704#32
  let v2092 : BitVec 32 := Scalar.muli v2085 c704_i32_1269
  let c2_i32_1266 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2086 : BitVec 32 := Scalar.muli c2_i32_1266 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2087 : BitVec 32 := Scalar.addi v2086 v5
  let c1408_i32_1270 : BitVec 32 := 1408#32
  let v2093 : BitVec 32 := Scalar.muli v2087 c1408_i32_1270
  let v2094 : BitVec 32 := Scalar.addi v2092 v2093
  let v2095 : BitVec 32 := v2094
  let c0_i32_1277 : BitVec 32 := 0#32
  ![v2095.toNat, 0]
def k0_mult241 (d0 : Dev nD) : BitVec 32 :=
  let c1_i32_1279 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2106 : BitVec 32 := Scalar.subi c1_i32_1279 v8
  let c704_i32_1281 : BitVec 32 := 704#32
  let v2109 : BitVec 32 := Scalar.muli v2106 c704_i32_1281
  let c2_i32_1280 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2107 : BitVec 32 := Scalar.muli c2_i32_1280 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2108 : BitVec 32 := Scalar.addi v2107 v10
  let c1408_i32_1282 : BitVec 32 := 1408#32
  let v2110 : BitVec 32 := Scalar.muli v2108 c1408_i32_1282
  let v2111 : BitVec 32 := Scalar.addi v2109 v2110
  v2111
def k0_mult242 (d0 : Dev nD) : BitVec 32 :=
  let c1_i32_1279 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2106 : BitVec 32 := Scalar.subi c1_i32_1279 v8
  let c704_i32_1283 : BitVec 32 := 704#32
  let v2113 : BitVec 32 := Scalar.muli v2106 c704_i32_1283
  let c2_i32_1280 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2107 : BitVec 32 := Scalar.muli c2_i32_1280 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2108 : BitVec 32 := Scalar.addi v2107 v10
  let c1408_i32_1284 : BitVec 32 := 1408#32
  let v2114 : BitVec 32 := Scalar.muli v2108 c1408_i32_1284
  let v2115 : BitVec 32 := Scalar.addi v2113 v2114
  v2115
def k0_off43 (d0 : Dev nD) : Fin 2 → Nat :=
  let c1_i32_1279 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2106 : BitVec 32 := Scalar.subi c1_i32_1279 v8
  let c704_i32_1283 : BitVec 32 := 704#32
  let v2113 : BitVec 32 := Scalar.muli v2106 c704_i32_1283
  let c2_i32_1280 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2107 : BitVec 32 := Scalar.muli c2_i32_1280 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2108 : BitVec 32 := Scalar.addi v2107 v10
  let c1408_i32_1284 : BitVec 32 := 1408#32
  let v2114 : BitVec 32 := Scalar.muli v2108 c1408_i32_1284
  let v2115 : BitVec 32 := Scalar.addi v2113 v2114
  let v2116 : BitVec 32 := v2115
  let c0_i32_1291 : BitVec 32 := 0#32
  ![v2116.toNat, 0]
def k0_mult243 (d0 : Dev nD) : BitVec 32 :=
  let c1_i32_1293 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2127 : BitVec 32 := Scalar.subi c1_i32_1293 v8
  let c704_i32_1295 : BitVec 32 := 704#32
  let v2130 : BitVec 32 := Scalar.muli v2127 c704_i32_1295
  let c2_i32_1294 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2128 : BitVec 32 := Scalar.muli c2_i32_1294 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2129 : BitVec 32 := Scalar.addi v2128 v12
  let c1408_i32_1296 : BitVec 32 := 1408#32
  let v2131 : BitVec 32 := Scalar.muli v2129 c1408_i32_1296
  let v2132 : BitVec 32 := Scalar.addi v2130 v2131
  v2132
def k0_mult244 (d0 : Dev nD) : BitVec 32 :=
  let c1_i32_1293 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2127 : BitVec 32 := Scalar.subi c1_i32_1293 v8
  let c704_i32_1297 : BitVec 32 := 704#32
  let v2134 : BitVec 32 := Scalar.muli v2127 c704_i32_1297
  let c2_i32_1294 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2128 : BitVec 32 := Scalar.muli c2_i32_1294 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2129 : BitVec 32 := Scalar.addi v2128 v12
  let c1408_i32_1298 : BitVec 32 := 1408#32
  let v2135 : BitVec 32 := Scalar.muli v2129 c1408_i32_1298
  let v2136 : BitVec 32 := Scalar.addi v2134 v2135
  v2136
def k0_off44 (d0 : Dev nD) : Fin 2 → Nat :=
  let c1_i32_1293 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2127 : BitVec 32 := Scalar.subi c1_i32_1293 v8
  let c704_i32_1297 : BitVec 32 := 704#32
  let v2134 : BitVec 32 := Scalar.muli v2127 c704_i32_1297
  let c2_i32_1294 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2128 : BitVec 32 := Scalar.muli c2_i32_1294 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2129 : BitVec 32 := Scalar.addi v2128 v12
  let c1408_i32_1298 : BitVec 32 := 1408#32
  let v2135 : BitVec 32 := Scalar.muli v2129 c1408_i32_1298
  let v2136 : BitVec 32 := Scalar.addi v2134 v2135
  let v2137 : BitVec 32 := v2136
  let c0_i32_1305 : BitVec 32 := 0#32
  ![v2137.toNat, 0]
def k0_mult245 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1307 : BitVec 32 := 1024#32
  let v2148 : BitVec 32 := Scalar.muli v8 c1024_i32_1307
  v2148
def k0_mult246 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1308 : BitVec 32 := 1024#32
  let v2150 : BitVec 32 := Scalar.muli v8 c1024_i32_1308
  let c0_i32_1309 : BitVec 32 := 0#32
  let v2151 : BitVec 32 := Scalar.addi v2150 c0_i32_1309
  v2151
def k0_mult247 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32_1310 : BitVec 32 := 1536#32
  let v2153 : BitVec 32 := Scalar.muli v14 c1536_i32_1310
  v2153
def k0_mult248 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1316 : BitVec 32 := 1024#32
  let v2161 : BitVec 32 := Scalar.muli v8 c1024_i32_1316
  let c0_i32_1317 : BitVec 32 := 0#32
  let v2162 : BitVec 32 := Scalar.addi v2161 c0_i32_1317
  v2162
def k0_mult249 (d0 : Dev nD) : BitVec 32 :=
  let c2_i32_1315 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2159 : BitVec 32 := Scalar.muli c2_i32_1315 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2160 : BitVec 32 := Scalar.addi v2159 v5
  let c1536_i32_1318 : BitVec 32 := 1536#32
  let v2164 : BitVec 32 := Scalar.muli v2160 c1536_i32_1318
  v2164
def k0_mult250 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1319 : BitVec 32 := 1024#32
  let v2166 : BitVec 32 := Scalar.muli v8 c1024_i32_1319
  let c0_i32_1320 : BitVec 32 := 0#32
  let v2167 : BitVec 32 := Scalar.addi v2166 c0_i32_1320
  v2167
def k0_mult251 (d0 : Dev nD) : BitVec 32 :=
  let c2_i32_1315 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2159 : BitVec 32 := Scalar.muli c2_i32_1315 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2160 : BitVec 32 := Scalar.addi v2159 v5
  let c1536_i32_1321 : BitVec 32 := 1536#32
  let v2169 : BitVec 32 := Scalar.muli v2160 c1536_i32_1321
  v2169
def k0_mult252 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1325 : BitVec 32 := 1024#32
  let v2175 : BitVec 32 := Scalar.muli v8 c1024_i32_1325
  v2175
def k0_mult253 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1326 : BitVec 32 := 1024#32
  let v2177 : BitVec 32 := Scalar.muli v8 c1024_i32_1326
  let c0_i32_1327 : BitVec 32 := 0#32
  let v2178 : BitVec 32 := Scalar.addi v2177 c0_i32_1327
  v2178
def k0_mult254 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32_1328 : BitVec 32 := 1536#32
  let v2180 : BitVec 32 := Scalar.muli v14 c1536_i32_1328
  v2180
def k0_mult255 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1334 : BitVec 32 := 1024#32
  let v2188 : BitVec 32 := Scalar.muli v8 c1024_i32_1334
  let c0_i32_1335 : BitVec 32 := 0#32
  let v2189 : BitVec 32 := Scalar.addi v2188 c0_i32_1335
  v2189
def k0_mult256 (d0 : Dev nD) : BitVec 32 :=
  let c2_i32_1333 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2186 : BitVec 32 := Scalar.muli c2_i32_1333 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2187 : BitVec 32 := Scalar.addi v2186 v10
  let c1536_i32_1336 : BitVec 32 := 1536#32
  let v2191 : BitVec 32 := Scalar.muli v2187 c1536_i32_1336
  v2191
def k0_mult257 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1337 : BitVec 32 := 1024#32
  let v2193 : BitVec 32 := Scalar.muli v8 c1024_i32_1337
  let c0_i32_1338 : BitVec 32 := 0#32
  let v2194 : BitVec 32 := Scalar.addi v2193 c0_i32_1338
  v2194
def k0_mult258 (d0 : Dev nD) : BitVec 32 :=
  let c2_i32_1333 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2186 : BitVec 32 := Scalar.muli c2_i32_1333 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2187 : BitVec 32 := Scalar.addi v2186 v10
  let c1536_i32_1339 : BitVec 32 := 1536#32
  let v2196 : BitVec 32 := Scalar.muli v2187 c1536_i32_1339
  v2196
def k0_mult259 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1343 : BitVec 32 := 1024#32
  let v2202 : BitVec 32 := Scalar.muli v8 c1024_i32_1343
  v2202
def k0_mult260 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1344 : BitVec 32 := 1024#32
  let v2204 : BitVec 32 := Scalar.muli v8 c1024_i32_1344
  let c0_i32_1345 : BitVec 32 := 0#32
  let v2205 : BitVec 32 := Scalar.addi v2204 c0_i32_1345
  v2205
def k0_mult261 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1536_i32_1346 : BitVec 32 := 1536#32
  let v2207 : BitVec 32 := Scalar.muli v14 c1536_i32_1346
  v2207
def k0_mult262 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1352 : BitVec 32 := 1024#32
  let v2215 : BitVec 32 := Scalar.muli v8 c1024_i32_1352
  let c0_i32_1353 : BitVec 32 := 0#32
  let v2216 : BitVec 32 := Scalar.addi v2215 c0_i32_1353
  v2216
def k0_mult263 (d0 : Dev nD) : BitVec 32 :=
  let c2_i32_1351 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2213 : BitVec 32 := Scalar.muli c2_i32_1351 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2214 : BitVec 32 := Scalar.addi v2213 v12
  let c1536_i32_1354 : BitVec 32 := 1536#32
  let v2218 : BitVec 32 := Scalar.muli v2214 c1536_i32_1354
  v2218
def k0_mult264 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1355 : BitVec 32 := 1024#32
  let v2220 : BitVec 32 := Scalar.muli v8 c1024_i32_1355
  let c0_i32_1356 : BitVec 32 := 0#32
  let v2221 : BitVec 32 := Scalar.addi v2220 c0_i32_1356
  v2221
def k0_mult265 (d0 : Dev nD) : BitVec 32 :=
  let c2_i32_1351 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2213 : BitVec 32 := Scalar.muli c2_i32_1351 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2214 : BitVec 32 := Scalar.addi v2213 v12
  let c1536_i32_1357 : BitVec 32 := 1536#32
  let v2223 : BitVec 32 := Scalar.muli v2214 c1536_i32_1357
  v2223
def k0_mult266 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1361 : BitVec 32 := 256#32
  let v2229 : BitVec 32 := Scalar.muli v8 c256_i32_1361
  v2229
def k0_mult267 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1362 : BitVec 32 := 256#32
  let v2231 : BitVec 32 := Scalar.muli v8 c256_i32_1362
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1363 : BitVec 32 := 512#32
  let v2232 : BitVec 32 := Scalar.muli v14 c512_i32_1363
  let v2233 : BitVec 32 := Scalar.addi v2231 v2232
  v2233
def k0_mult268 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1370 : BitVec 32 := 256#32
  let v2241 : BitVec 32 := Scalar.muli v8 c256_i32_1370
  let c2_i32_1369 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2239 : BitVec 32 := Scalar.muli c2_i32_1369 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2240 : BitVec 32 := Scalar.addi v2239 v5
  let c512_i32_1371 : BitVec 32 := 512#32
  let v2242 : BitVec 32 := Scalar.muli v2240 c512_i32_1371
  let v2243 : BitVec 32 := Scalar.addi v2241 v2242
  v2243
def k0_mult269 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1372 : BitVec 32 := 256#32
  let v2245 : BitVec 32 := Scalar.muli v8 c256_i32_1372
  let c2_i32_1369 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2239 : BitVec 32 := Scalar.muli c2_i32_1369 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2240 : BitVec 32 := Scalar.addi v2239 v5
  let c512_i32_1373 : BitVec 32 := 512#32
  let v2246 : BitVec 32 := Scalar.muli v2240 c512_i32_1373
  let v2247 : BitVec 32 := Scalar.addi v2245 v2246
  v2247
def k0_mult270 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1379 : BitVec 32 := 256#32
  let v2253 : BitVec 32 := Scalar.muli v8 c256_i32_1379
  v2253
def k0_mult271 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1380 : BitVec 32 := 256#32
  let v2255 : BitVec 32 := Scalar.muli v8 c256_i32_1380
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1381 : BitVec 32 := 512#32
  let v2256 : BitVec 32 := Scalar.muli v14 c512_i32_1381
  let v2257 : BitVec 32 := Scalar.addi v2255 v2256
  v2257
def k0_mult272 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1388 : BitVec 32 := 256#32
  let v2265 : BitVec 32 := Scalar.muli v8 c256_i32_1388
  let c2_i32_1387 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2263 : BitVec 32 := Scalar.muli c2_i32_1387 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2264 : BitVec 32 := Scalar.addi v2263 v10
  let c512_i32_1389 : BitVec 32 := 512#32
  let v2266 : BitVec 32 := Scalar.muli v2264 c512_i32_1389
  let v2267 : BitVec 32 := Scalar.addi v2265 v2266
  v2267
def k0_mult273 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1390 : BitVec 32 := 256#32
  let v2269 : BitVec 32 := Scalar.muli v8 c256_i32_1390
  let c2_i32_1387 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2263 : BitVec 32 := Scalar.muli c2_i32_1387 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2264 : BitVec 32 := Scalar.addi v2263 v10
  let c512_i32_1391 : BitVec 32 := 512#32
  let v2270 : BitVec 32 := Scalar.muli v2264 c512_i32_1391
  let v2271 : BitVec 32 := Scalar.addi v2269 v2270
  v2271
def k0_mult274 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1397 : BitVec 32 := 256#32
  let v2277 : BitVec 32 := Scalar.muli v8 c256_i32_1397
  v2277
def k0_mult275 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1398 : BitVec 32 := 256#32
  let v2279 : BitVec 32 := Scalar.muli v8 c256_i32_1398
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1399 : BitVec 32 := 512#32
  let v2280 : BitVec 32 := Scalar.muli v14 c512_i32_1399
  let v2281 : BitVec 32 := Scalar.addi v2279 v2280
  v2281
def k0_mult276 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1406 : BitVec 32 := 256#32
  let v2289 : BitVec 32 := Scalar.muli v8 c256_i32_1406
  let c2_i32_1405 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2287 : BitVec 32 := Scalar.muli c2_i32_1405 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2288 : BitVec 32 := Scalar.addi v2287 v12
  let c512_i32_1407 : BitVec 32 := 512#32
  let v2290 : BitVec 32 := Scalar.muli v2288 c512_i32_1407
  let v2291 : BitVec 32 := Scalar.addi v2289 v2290
  v2291
def k0_mult277 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1408 : BitVec 32 := 256#32
  let v2293 : BitVec 32 := Scalar.muli v8 c256_i32_1408
  let c2_i32_1405 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2287 : BitVec 32 := Scalar.muli c2_i32_1405 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2288 : BitVec 32 := Scalar.addi v2287 v12
  let c512_i32_1409 : BitVec 32 := 512#32
  let v2294 : BitVec 32 := Scalar.muli v2288 c512_i32_1409
  let v2295 : BitVec 32 := Scalar.addi v2293 v2294
  v2295
def k0_mult278 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1415 : BitVec 32 := 256#32
  let v2301 : BitVec 32 := Scalar.muli v8 c256_i32_1415
  v2301
def k0_mult279 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1416 : BitVec 32 := 256#32
  let v2303 : BitVec 32 := Scalar.muli v8 c256_i32_1416
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1417 : BitVec 32 := 512#32
  let v2304 : BitVec 32 := Scalar.muli v14 c512_i32_1417
  let v2305 : BitVec 32 := Scalar.addi v2303 v2304
  v2305
def k0_mult280 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1424 : BitVec 32 := 256#32
  let v2313 : BitVec 32 := Scalar.muli v8 c256_i32_1424
  let c2_i32_1423 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2311 : BitVec 32 := Scalar.muli c2_i32_1423 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2312 : BitVec 32 := Scalar.addi v2311 v5
  let c512_i32_1425 : BitVec 32 := 512#32
  let v2314 : BitVec 32 := Scalar.muli v2312 c512_i32_1425
  let v2315 : BitVec 32 := Scalar.addi v2313 v2314
  v2315
def k0_mult281 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1426 : BitVec 32 := 256#32
  let v2317 : BitVec 32 := Scalar.muli v8 c256_i32_1426
  let c2_i32_1423 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2311 : BitVec 32 := Scalar.muli c2_i32_1423 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2312 : BitVec 32 := Scalar.addi v2311 v5
  let c512_i32_1427 : BitVec 32 := 512#32
  let v2318 : BitVec 32 := Scalar.muli v2312 c512_i32_1427
  let v2319 : BitVec 32 := Scalar.addi v2317 v2318
  v2319
def k0_mult282 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1433 : BitVec 32 := 256#32
  let v2325 : BitVec 32 := Scalar.muli v8 c256_i32_1433
  v2325
def k0_mult283 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1434 : BitVec 32 := 256#32
  let v2327 : BitVec 32 := Scalar.muli v8 c256_i32_1434
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1435 : BitVec 32 := 512#32
  let v2328 : BitVec 32 := Scalar.muli v14 c512_i32_1435
  let v2329 : BitVec 32 := Scalar.addi v2327 v2328
  v2329
def k0_mult284 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1442 : BitVec 32 := 256#32
  let v2337 : BitVec 32 := Scalar.muli v8 c256_i32_1442
  let c2_i32_1441 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2335 : BitVec 32 := Scalar.muli c2_i32_1441 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2336 : BitVec 32 := Scalar.addi v2335 v10
  let c512_i32_1443 : BitVec 32 := 512#32
  let v2338 : BitVec 32 := Scalar.muli v2336 c512_i32_1443
  let v2339 : BitVec 32 := Scalar.addi v2337 v2338
  v2339
def k0_mult285 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1444 : BitVec 32 := 256#32
  let v2341 : BitVec 32 := Scalar.muli v8 c256_i32_1444
  let c2_i32_1441 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2335 : BitVec 32 := Scalar.muli c2_i32_1441 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2336 : BitVec 32 := Scalar.addi v2335 v10
  let c512_i32_1445 : BitVec 32 := 512#32
  let v2342 : BitVec 32 := Scalar.muli v2336 c512_i32_1445
  let v2343 : BitVec 32 := Scalar.addi v2341 v2342
  v2343
def k0_mult286 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1451 : BitVec 32 := 256#32
  let v2349 : BitVec 32 := Scalar.muli v8 c256_i32_1451
  v2349
def k0_mult287 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1452 : BitVec 32 := 256#32
  let v2351 : BitVec 32 := Scalar.muli v8 c256_i32_1452
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1453 : BitVec 32 := 512#32
  let v2352 : BitVec 32 := Scalar.muli v14 c512_i32_1453
  let v2353 : BitVec 32 := Scalar.addi v2351 v2352
  v2353
def k0_mult288 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1460 : BitVec 32 := 256#32
  let v2361 : BitVec 32 := Scalar.muli v8 c256_i32_1460
  let c2_i32_1459 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2359 : BitVec 32 := Scalar.muli c2_i32_1459 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2360 : BitVec 32 := Scalar.addi v2359 v12
  let c512_i32_1461 : BitVec 32 := 512#32
  let v2362 : BitVec 32 := Scalar.muli v2360 c512_i32_1461
  let v2363 : BitVec 32 := Scalar.addi v2361 v2362
  v2363
def k0_mult289 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1462 : BitVec 32 := 256#32
  let v2365 : BitVec 32 := Scalar.muli v8 c256_i32_1462
  let c2_i32_1459 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2359 : BitVec 32 := Scalar.muli c2_i32_1459 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2360 : BitVec 32 := Scalar.addi v2359 v12
  let c512_i32_1463 : BitVec 32 := 512#32
  let v2366 : BitVec 32 := Scalar.muli v2360 c512_i32_1463
  let v2367 : BitVec 32 := Scalar.addi v2365 v2366
  v2367
def k0_mult290 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1469 : BitVec 32 := 256#32
  let v2373 : BitVec 32 := Scalar.muli v8 c256_i32_1469
  v2373
def k0_mult291 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1470 : BitVec 32 := 256#32
  let v2375 : BitVec 32 := Scalar.muli v8 c256_i32_1470
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1471 : BitVec 32 := 512#32
  let v2376 : BitVec 32 := Scalar.muli v14 c512_i32_1471
  let v2377 : BitVec 32 := Scalar.addi v2375 v2376
  v2377
def k0_mult292 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1478 : BitVec 32 := 256#32
  let v2385 : BitVec 32 := Scalar.muli v8 c256_i32_1478
  let c2_i32_1477 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2383 : BitVec 32 := Scalar.muli c2_i32_1477 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2384 : BitVec 32 := Scalar.addi v2383 v5
  let c512_i32_1479 : BitVec 32 := 512#32
  let v2386 : BitVec 32 := Scalar.muli v2384 c512_i32_1479
  let v2387 : BitVec 32 := Scalar.addi v2385 v2386
  v2387
def k0_mult293 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1480 : BitVec 32 := 256#32
  let v2389 : BitVec 32 := Scalar.muli v8 c256_i32_1480
  let c2_i32_1477 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2383 : BitVec 32 := Scalar.muli c2_i32_1477 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2384 : BitVec 32 := Scalar.addi v2383 v5
  let c512_i32_1481 : BitVec 32 := 512#32
  let v2390 : BitVec 32 := Scalar.muli v2384 c512_i32_1481
  let v2391 : BitVec 32 := Scalar.addi v2389 v2390
  v2391
def k0_mult294 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1487 : BitVec 32 := 256#32
  let v2397 : BitVec 32 := Scalar.muli v8 c256_i32_1487
  v2397
def k0_mult295 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1488 : BitVec 32 := 256#32
  let v2399 : BitVec 32 := Scalar.muli v8 c256_i32_1488
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1489 : BitVec 32 := 512#32
  let v2400 : BitVec 32 := Scalar.muli v14 c512_i32_1489
  let v2401 : BitVec 32 := Scalar.addi v2399 v2400
  v2401
def k0_mult296 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1496 : BitVec 32 := 256#32
  let v2409 : BitVec 32 := Scalar.muli v8 c256_i32_1496
  let c2_i32_1495 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2407 : BitVec 32 := Scalar.muli c2_i32_1495 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2408 : BitVec 32 := Scalar.addi v2407 v10
  let c512_i32_1497 : BitVec 32 := 512#32
  let v2410 : BitVec 32 := Scalar.muli v2408 c512_i32_1497
  let v2411 : BitVec 32 := Scalar.addi v2409 v2410
  v2411
def k0_mult297 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1498 : BitVec 32 := 256#32
  let v2413 : BitVec 32 := Scalar.muli v8 c256_i32_1498
  let c2_i32_1495 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2407 : BitVec 32 := Scalar.muli c2_i32_1495 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2408 : BitVec 32 := Scalar.addi v2407 v10
  let c512_i32_1499 : BitVec 32 := 512#32
  let v2414 : BitVec 32 := Scalar.muli v2408 c512_i32_1499
  let v2415 : BitVec 32 := Scalar.addi v2413 v2414
  v2415
def k0_mult298 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1505 : BitVec 32 := 256#32
  let v2421 : BitVec 32 := Scalar.muli v8 c256_i32_1505
  v2421
def k0_mult299 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1506 : BitVec 32 := 256#32
  let v2423 : BitVec 32 := Scalar.muli v8 c256_i32_1506
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1507 : BitVec 32 := 512#32
  let v2424 : BitVec 32 := Scalar.muli v14 c512_i32_1507
  let v2425 : BitVec 32 := Scalar.addi v2423 v2424
  v2425
def k0_mult300 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1514 : BitVec 32 := 256#32
  let v2433 : BitVec 32 := Scalar.muli v8 c256_i32_1514
  let c2_i32_1513 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2431 : BitVec 32 := Scalar.muli c2_i32_1513 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2432 : BitVec 32 := Scalar.addi v2431 v12
  let c512_i32_1515 : BitVec 32 := 512#32
  let v2434 : BitVec 32 := Scalar.muli v2432 c512_i32_1515
  let v2435 : BitVec 32 := Scalar.addi v2433 v2434
  v2435
def k0_mult301 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1516 : BitVec 32 := 256#32
  let v2437 : BitVec 32 := Scalar.muli v8 c256_i32_1516
  let c2_i32_1513 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2431 : BitVec 32 := Scalar.muli c2_i32_1513 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2432 : BitVec 32 := Scalar.addi v2431 v12
  let c512_i32_1517 : BitVec 32 := 512#32
  let v2438 : BitVec 32 := Scalar.muli v2432 c512_i32_1517
  let v2439 : BitVec 32 := Scalar.addi v2437 v2438
  v2439
def k0_mult302 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1523 : BitVec 32 := 256#32
  let v2445 : BitVec 32 := Scalar.muli v8 c256_i32_1523
  v2445
def k0_mult303 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1524 : BitVec 32 := 256#32
  let v2447 : BitVec 32 := Scalar.muli v8 c256_i32_1524
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1525 : BitVec 32 := 512#32
  let v2448 : BitVec 32 := Scalar.muli v14 c512_i32_1525
  let v2449 : BitVec 32 := Scalar.addi v2447 v2448
  v2449
def k0_mult304 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1532 : BitVec 32 := 256#32
  let v2457 : BitVec 32 := Scalar.muli v8 c256_i32_1532
  let c2_i32_1531 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2455 : BitVec 32 := Scalar.muli c2_i32_1531 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2456 : BitVec 32 := Scalar.addi v2455 v5
  let c512_i32_1533 : BitVec 32 := 512#32
  let v2458 : BitVec 32 := Scalar.muli v2456 c512_i32_1533
  let v2459 : BitVec 32 := Scalar.addi v2457 v2458
  v2459
def k0_mult305 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1534 : BitVec 32 := 256#32
  let v2461 : BitVec 32 := Scalar.muli v8 c256_i32_1534
  let c2_i32_1531 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2455 : BitVec 32 := Scalar.muli c2_i32_1531 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2456 : BitVec 32 := Scalar.addi v2455 v5
  let c512_i32_1535 : BitVec 32 := 512#32
  let v2462 : BitVec 32 := Scalar.muli v2456 c512_i32_1535
  let v2463 : BitVec 32 := Scalar.addi v2461 v2462
  v2463
def k0_mult306 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1541 : BitVec 32 := 256#32
  let v2469 : BitVec 32 := Scalar.muli v8 c256_i32_1541
  v2469
def k0_mult307 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1542 : BitVec 32 := 256#32
  let v2471 : BitVec 32 := Scalar.muli v8 c256_i32_1542
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1543 : BitVec 32 := 512#32
  let v2472 : BitVec 32 := Scalar.muli v14 c512_i32_1543
  let v2473 : BitVec 32 := Scalar.addi v2471 v2472
  v2473
def k0_mult308 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1550 : BitVec 32 := 256#32
  let v2481 : BitVec 32 := Scalar.muli v8 c256_i32_1550
  let c2_i32_1549 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2479 : BitVec 32 := Scalar.muli c2_i32_1549 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2480 : BitVec 32 := Scalar.addi v2479 v10
  let c512_i32_1551 : BitVec 32 := 512#32
  let v2482 : BitVec 32 := Scalar.muli v2480 c512_i32_1551
  let v2483 : BitVec 32 := Scalar.addi v2481 v2482
  v2483
def k0_mult309 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1552 : BitVec 32 := 256#32
  let v2485 : BitVec 32 := Scalar.muli v8 c256_i32_1552
  let c2_i32_1549 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2479 : BitVec 32 := Scalar.muli c2_i32_1549 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2480 : BitVec 32 := Scalar.addi v2479 v10
  let c512_i32_1553 : BitVec 32 := 512#32
  let v2486 : BitVec 32 := Scalar.muli v2480 c512_i32_1553
  let v2487 : BitVec 32 := Scalar.addi v2485 v2486
  v2487
def k0_mult310 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1559 : BitVec 32 := 256#32
  let v2493 : BitVec 32 := Scalar.muli v8 c256_i32_1559
  v2493
def k0_mult311 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1560 : BitVec 32 := 256#32
  let v2495 : BitVec 32 := Scalar.muli v8 c256_i32_1560
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1561 : BitVec 32 := 512#32
  let v2496 : BitVec 32 := Scalar.muli v14 c512_i32_1561
  let v2497 : BitVec 32 := Scalar.addi v2495 v2496
  v2497
def k0_mult312 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1568 : BitVec 32 := 256#32
  let v2505 : BitVec 32 := Scalar.muli v8 c256_i32_1568
  let c2_i32_1567 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2503 : BitVec 32 := Scalar.muli c2_i32_1567 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2504 : BitVec 32 := Scalar.addi v2503 v12
  let c512_i32_1569 : BitVec 32 := 512#32
  let v2506 : BitVec 32 := Scalar.muli v2504 c512_i32_1569
  let v2507 : BitVec 32 := Scalar.addi v2505 v2506
  v2507
def k0_mult313 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1570 : BitVec 32 := 256#32
  let v2509 : BitVec 32 := Scalar.muli v8 c256_i32_1570
  let c2_i32_1567 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2503 : BitVec 32 := Scalar.muli c2_i32_1567 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2504 : BitVec 32 := Scalar.addi v2503 v12
  let c512_i32_1571 : BitVec 32 := 512#32
  let v2510 : BitVec 32 := Scalar.muli v2504 c512_i32_1571
  let v2511 : BitVec 32 := Scalar.addi v2509 v2510
  v2511
def k0_mult314 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1577 : BitVec 32 := 256#32
  let v2517 : BitVec 32 := Scalar.muli v8 c256_i32_1577
  v2517
def k0_mult315 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1578 : BitVec 32 := 256#32
  let v2519 : BitVec 32 := Scalar.muli v8 c256_i32_1578
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1579 : BitVec 32 := 512#32
  let v2520 : BitVec 32 := Scalar.muli v14 c512_i32_1579
  let v2521 : BitVec 32 := Scalar.addi v2519 v2520
  v2521
def k0_mult316 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1586 : BitVec 32 := 256#32
  let v2529 : BitVec 32 := Scalar.muli v8 c256_i32_1586
  let c2_i32_1585 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2527 : BitVec 32 := Scalar.muli c2_i32_1585 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2528 : BitVec 32 := Scalar.addi v2527 v5
  let c512_i32_1587 : BitVec 32 := 512#32
  let v2530 : BitVec 32 := Scalar.muli v2528 c512_i32_1587
  let v2531 : BitVec 32 := Scalar.addi v2529 v2530
  v2531
def k0_mult317 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1588 : BitVec 32 := 256#32
  let v2533 : BitVec 32 := Scalar.muli v8 c256_i32_1588
  let c2_i32_1585 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2527 : BitVec 32 := Scalar.muli c2_i32_1585 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2528 : BitVec 32 := Scalar.addi v2527 v5
  let c512_i32_1589 : BitVec 32 := 512#32
  let v2534 : BitVec 32 := Scalar.muli v2528 c512_i32_1589
  let v2535 : BitVec 32 := Scalar.addi v2533 v2534
  v2535
def k0_mult318 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1595 : BitVec 32 := 256#32
  let v2541 : BitVec 32 := Scalar.muli v8 c256_i32_1595
  v2541
def k0_mult319 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1596 : BitVec 32 := 256#32
  let v2543 : BitVec 32 := Scalar.muli v8 c256_i32_1596
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1597 : BitVec 32 := 512#32
  let v2544 : BitVec 32 := Scalar.muli v14 c512_i32_1597
  let v2545 : BitVec 32 := Scalar.addi v2543 v2544
  v2545
def k0_mult320 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1604 : BitVec 32 := 256#32
  let v2553 : BitVec 32 := Scalar.muli v8 c256_i32_1604
  let c2_i32_1603 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2551 : BitVec 32 := Scalar.muli c2_i32_1603 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2552 : BitVec 32 := Scalar.addi v2551 v10
  let c512_i32_1605 : BitVec 32 := 512#32
  let v2554 : BitVec 32 := Scalar.muli v2552 c512_i32_1605
  let v2555 : BitVec 32 := Scalar.addi v2553 v2554
  v2555
def k0_mult321 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1606 : BitVec 32 := 256#32
  let v2557 : BitVec 32 := Scalar.muli v8 c256_i32_1606
  let c2_i32_1603 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2551 : BitVec 32 := Scalar.muli c2_i32_1603 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2552 : BitVec 32 := Scalar.addi v2551 v10
  let c512_i32_1607 : BitVec 32 := 512#32
  let v2558 : BitVec 32 := Scalar.muli v2552 c512_i32_1607
  let v2559 : BitVec 32 := Scalar.addi v2557 v2558
  v2559
def k0_mult322 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1613 : BitVec 32 := 256#32
  let v2565 : BitVec 32 := Scalar.muli v8 c256_i32_1613
  v2565
def k0_mult323 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1614 : BitVec 32 := 256#32
  let v2567 : BitVec 32 := Scalar.muli v8 c256_i32_1614
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_1615 : BitVec 32 := 512#32
  let v2568 : BitVec 32 := Scalar.muli v14 c512_i32_1615
  let v2569 : BitVec 32 := Scalar.addi v2567 v2568
  v2569
def k0_mult324 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1622 : BitVec 32 := 256#32
  let v2577 : BitVec 32 := Scalar.muli v8 c256_i32_1622
  let c2_i32_1621 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2575 : BitVec 32 := Scalar.muli c2_i32_1621 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2576 : BitVec 32 := Scalar.addi v2575 v12
  let c512_i32_1623 : BitVec 32 := 512#32
  let v2578 : BitVec 32 := Scalar.muli v2576 c512_i32_1623
  let v2579 : BitVec 32 := Scalar.addi v2577 v2578
  v2579
def k0_mult325 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1624 : BitVec 32 := 256#32
  let v2581 : BitVec 32 := Scalar.muli v8 c256_i32_1624
  let c2_i32_1621 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2575 : BitVec 32 := Scalar.muli c2_i32_1621 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2576 : BitVec 32 := Scalar.addi v2575 v12
  let c512_i32_1625 : BitVec 32 := 512#32
  let v2582 : BitVec 32 := Scalar.muli v2576 c512_i32_1625
  let v2583 : BitVec 32 := Scalar.addi v2581 v2582
  v2583
def k0_mult326 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1631 : BitVec 32 := 1024#32
  let v2589 : BitVec 32 := Scalar.muli v8 c1024_i32_1631
  v2589
def k0_mult327 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1632 : BitVec 32 := 1024#32
  let v2591 : BitVec 32 := Scalar.muli v8 c1024_i32_1632
  let c0_i32_1633 : BitVec 32 := 0#32
  let v2592 : BitVec 32 := Scalar.addi v2591 c0_i32_1633
  v2592
def k0_mult328 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_1634 : BitVec 32 := 2816#32
  let v2594 : BitVec 32 := Scalar.muli v14 c2816_i32_1634
  v2594
def k0_mult329 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1640 : BitVec 32 := 1024#32
  let v2602 : BitVec 32 := Scalar.muli v8 c1024_i32_1640
  let c0_i32_1641 : BitVec 32 := 0#32
  let v2603 : BitVec 32 := Scalar.addi v2602 c0_i32_1641
  v2603
def k0_mult330 (d0 : Dev nD) : BitVec 32 :=
  let c2_i32_1639 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2600 : BitVec 32 := Scalar.muli c2_i32_1639 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2601 : BitVec 32 := Scalar.addi v2600 v5
  let c2816_i32_1642 : BitVec 32 := 2816#32
  let v2605 : BitVec 32 := Scalar.muli v2601 c2816_i32_1642
  v2605
def k0_mult331 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1643 : BitVec 32 := 1024#32
  let v2607 : BitVec 32 := Scalar.muli v8 c1024_i32_1643
  let c0_i32_1644 : BitVec 32 := 0#32
  let v2608 : BitVec 32 := Scalar.addi v2607 c0_i32_1644
  v2608
def k0_mult332 (d0 : Dev nD) : BitVec 32 :=
  let c2_i32_1639 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2600 : BitVec 32 := Scalar.muli c2_i32_1639 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2601 : BitVec 32 := Scalar.addi v2600 v5
  let c2816_i32_1645 : BitVec 32 := 2816#32
  let v2610 : BitVec 32 := Scalar.muli v2601 c2816_i32_1645
  v2610
def k0_mult333 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1649 : BitVec 32 := 1024#32
  let v2616 : BitVec 32 := Scalar.muli v8 c1024_i32_1649
  v2616
def k0_mult334 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1650 : BitVec 32 := 1024#32
  let v2618 : BitVec 32 := Scalar.muli v8 c1024_i32_1650
  let c0_i32_1651 : BitVec 32 := 0#32
  let v2619 : BitVec 32 := Scalar.addi v2618 c0_i32_1651
  v2619
def k0_mult335 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_1652 : BitVec 32 := 2816#32
  let v2621 : BitVec 32 := Scalar.muli v14 c2816_i32_1652
  v2621
def k0_mult336 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1658 : BitVec 32 := 1024#32
  let v2629 : BitVec 32 := Scalar.muli v8 c1024_i32_1658
  let c0_i32_1659 : BitVec 32 := 0#32
  let v2630 : BitVec 32 := Scalar.addi v2629 c0_i32_1659
  v2630
def k0_mult337 (d0 : Dev nD) : BitVec 32 :=
  let c2_i32_1657 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2627 : BitVec 32 := Scalar.muli c2_i32_1657 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2628 : BitVec 32 := Scalar.addi v2627 v10
  let c2816_i32_1660 : BitVec 32 := 2816#32
  let v2632 : BitVec 32 := Scalar.muli v2628 c2816_i32_1660
  v2632
def k0_mult338 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1661 : BitVec 32 := 1024#32
  let v2634 : BitVec 32 := Scalar.muli v8 c1024_i32_1661
  let c0_i32_1662 : BitVec 32 := 0#32
  let v2635 : BitVec 32 := Scalar.addi v2634 c0_i32_1662
  v2635
def k0_mult339 (d0 : Dev nD) : BitVec 32 :=
  let c2_i32_1657 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2627 : BitVec 32 := Scalar.muli c2_i32_1657 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2628 : BitVec 32 := Scalar.addi v2627 v10
  let c2816_i32_1663 : BitVec 32 := 2816#32
  let v2637 : BitVec 32 := Scalar.muli v2628 c2816_i32_1663
  v2637
def k0_mult340 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1667 : BitVec 32 := 1024#32
  let v2643 : BitVec 32 := Scalar.muli v8 c1024_i32_1667
  v2643
def k0_mult341 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1668 : BitVec 32 := 1024#32
  let v2645 : BitVec 32 := Scalar.muli v8 c1024_i32_1668
  let c0_i32_1669 : BitVec 32 := 0#32
  let v2646 : BitVec 32 := Scalar.addi v2645 c0_i32_1669
  v2646
def k0_mult342 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_1670 : BitVec 32 := 2816#32
  let v2648 : BitVec 32 := Scalar.muli v14 c2816_i32_1670
  v2648
def k0_mult343 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1676 : BitVec 32 := 1024#32
  let v2656 : BitVec 32 := Scalar.muli v8 c1024_i32_1676
  let c0_i32_1677 : BitVec 32 := 0#32
  let v2657 : BitVec 32 := Scalar.addi v2656 c0_i32_1677
  v2657
def k0_mult344 (d0 : Dev nD) : BitVec 32 :=
  let c2_i32_1675 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2654 : BitVec 32 := Scalar.muli c2_i32_1675 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2655 : BitVec 32 := Scalar.addi v2654 v12
  let c2816_i32_1678 : BitVec 32 := 2816#32
  let v2659 : BitVec 32 := Scalar.muli v2655 c2816_i32_1678
  v2659
def k0_mult345 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1679 : BitVec 32 := 1024#32
  let v2661 : BitVec 32 := Scalar.muli v8 c1024_i32_1679
  let c0_i32_1680 : BitVec 32 := 0#32
  let v2662 : BitVec 32 := Scalar.addi v2661 c0_i32_1680
  v2662
def k0_mult346 (d0 : Dev nD) : BitVec 32 :=
  let c2_i32_1675 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2654 : BitVec 32 := Scalar.muli c2_i32_1675 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2655 : BitVec 32 := Scalar.addi v2654 v12
  let c2816_i32_1681 : BitVec 32 := 2816#32
  let v2664 : BitVec 32 := Scalar.muli v2655 c2816_i32_1681
  v2664
def k0_mult347 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_1685 : BitVec 32 := 704#32
  let v2670 : BitVec 32 := Scalar.muli v8 c704_i32_1685
  v2670
def k0_mult348 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_1686 : BitVec 32 := 704#32
  let v2672 : BitVec 32 := Scalar.muli v8 c704_i32_1686
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1408_i32_1687 : BitVec 32 := 1408#32
  let v2673 : BitVec 32 := Scalar.muli v14 c1408_i32_1687
  let v2674 : BitVec 32 := Scalar.addi v2672 v2673
  v2674
def k0_mult349 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_1694 : BitVec 32 := 704#32
  let v2682 : BitVec 32 := Scalar.muli v8 c704_i32_1694
  let c2_i32_1693 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2680 : BitVec 32 := Scalar.muli c2_i32_1693 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2681 : BitVec 32 := Scalar.addi v2680 v5
  let c1408_i32_1695 : BitVec 32 := 1408#32
  let v2683 : BitVec 32 := Scalar.muli v2681 c1408_i32_1695
  let v2684 : BitVec 32 := Scalar.addi v2682 v2683
  v2684
def k0_mult350 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_1696 : BitVec 32 := 704#32
  let v2686 : BitVec 32 := Scalar.muli v8 c704_i32_1696
  let c2_i32_1693 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2680 : BitVec 32 := Scalar.muli c2_i32_1693 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2681 : BitVec 32 := Scalar.addi v2680 v5
  let c1408_i32_1697 : BitVec 32 := 1408#32
  let v2687 : BitVec 32 := Scalar.muli v2681 c1408_i32_1697
  let v2688 : BitVec 32 := Scalar.addi v2686 v2687
  v2688
def k0_mult351 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_1703 : BitVec 32 := 704#32
  let v2694 : BitVec 32 := Scalar.muli v8 c704_i32_1703
  v2694
def k0_mult352 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_1704 : BitVec 32 := 704#32
  let v2696 : BitVec 32 := Scalar.muli v8 c704_i32_1704
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1408_i32_1705 : BitVec 32 := 1408#32
  let v2697 : BitVec 32 := Scalar.muli v14 c1408_i32_1705
  let v2698 : BitVec 32 := Scalar.addi v2696 v2697
  v2698
def k0_mult353 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_1712 : BitVec 32 := 704#32
  let v2706 : BitVec 32 := Scalar.muli v8 c704_i32_1712
  let c2_i32_1711 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2704 : BitVec 32 := Scalar.muli c2_i32_1711 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2705 : BitVec 32 := Scalar.addi v2704 v10
  let c1408_i32_1713 : BitVec 32 := 1408#32
  let v2707 : BitVec 32 := Scalar.muli v2705 c1408_i32_1713
  let v2708 : BitVec 32 := Scalar.addi v2706 v2707
  v2708
def k0_mult354 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_1714 : BitVec 32 := 704#32
  let v2710 : BitVec 32 := Scalar.muli v8 c704_i32_1714
  let c2_i32_1711 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2704 : BitVec 32 := Scalar.muli c2_i32_1711 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2705 : BitVec 32 := Scalar.addi v2704 v10
  let c1408_i32_1715 : BitVec 32 := 1408#32
  let v2711 : BitVec 32 := Scalar.muli v2705 c1408_i32_1715
  let v2712 : BitVec 32 := Scalar.addi v2710 v2711
  v2712
def k0_mult355 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_1721 : BitVec 32 := 704#32
  let v2718 : BitVec 32 := Scalar.muli v8 c704_i32_1721
  v2718
def k0_mult356 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_1722 : BitVec 32 := 704#32
  let v2720 : BitVec 32 := Scalar.muli v8 c704_i32_1722
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c1408_i32_1723 : BitVec 32 := 1408#32
  let v2721 : BitVec 32 := Scalar.muli v14 c1408_i32_1723
  let v2722 : BitVec 32 := Scalar.addi v2720 v2721
  v2722
def k0_mult357 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_1730 : BitVec 32 := 704#32
  let v2730 : BitVec 32 := Scalar.muli v8 c704_i32_1730
  let c2_i32_1729 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2728 : BitVec 32 := Scalar.muli c2_i32_1729 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2729 : BitVec 32 := Scalar.addi v2728 v12
  let c1408_i32_1731 : BitVec 32 := 1408#32
  let v2731 : BitVec 32 := Scalar.muli v2729 c1408_i32_1731
  let v2732 : BitVec 32 := Scalar.addi v2730 v2731
  v2732
def k0_mult358 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_1732 : BitVec 32 := 704#32
  let v2734 : BitVec 32 := Scalar.muli v8 c704_i32_1732
  let c2_i32_1729 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2728 : BitVec 32 := Scalar.muli c2_i32_1729 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2729 : BitVec 32 := Scalar.addi v2728 v12
  let c1408_i32_1733 : BitVec 32 := 1408#32
  let v2735 : BitVec 32 := Scalar.muli v2729 c1408_i32_1733
  let v2736 : BitVec 32 := Scalar.addi v2734 v2735
  v2736
def k0_mult359 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c256_i32_1739 : BitVec 32 := 256#32
  let v2742 : BitVec 32 := Scalar.muli v14 c256_i32_1739
  v2742
def k0_mult360 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c256_i32_1744 : BitVec 32 := 256#32
  let v2747 : BitVec 32 := Scalar.muli v14 c256_i32_1744
  v2747
def k0_mult361 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c256_i32_1749 : BitVec 32 := 256#32
  let v2752 : BitVec 32 := Scalar.muli v14 c256_i32_1749
  v2752
def k0_mult362 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_1754 : BitVec 32 := 2816#32
  let v2757 : BitVec 32 := Scalar.muli v14 c2816_i32_1754
  v2757
def k0_mult363 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_1759 : BitVec 32 := 2816#32
  let v2762 : BitVec 32 := Scalar.muli v14 c2816_i32_1759
  v2762
def k0_mult364 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c2816_i32_1764 : BitVec 32 := 2816#32
  let v2767 : BitVec 32 := Scalar.muli v14 c2816_i32_1764
  v2767
-- ==== WeightsRef.lean ====
abbrev S2048x6144 : Shape := ⟨2, ![2048, 6144]⟩
abbrev S2048x2048 : Shape := ⟨2, ![2048, 2048]⟩
abbrev S2048x11264 : Shape := ⟨2, ![2048, 11264]⟩
abbrev S5632x2048 : Shape := ⟨2, ![5632, 2048]⟩
abbrev S4x1024 : Shape := ⟨2, ![4, 1024]⟩
abbrev S3x11264 : Shape := ⟨2, ![3, 11264]⟩

abbrev nBuf : Space → Nat
  | .hbm => 10
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x11264, .bf16⟩
  | .hbm, ⟨7, _⟩ => ⟨S5632x2048, .bf16⟩
  | .hbm, ⟨8, _⟩ => ⟨S4x1024, .f32⟩
  | .hbm, ⟨9, _⟩ => ⟨S3x11264, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩

abbrev nD : Nat := 1
abbrev τ : Topo := Topo.v7x

variable {F : FTy → Type} [FloatOps F]
-- ==== UpdateIn.lean ====
abbrev S2048x1536 : Shape := ⟨2, ![2048, 1536]⟩
abbrev S8x2048x1536 : Shape := ⟨3, ![8, 2048, 1536]⟩
abbrev S64x1536 : Shape := ⟨2, ![64, 1536]⟩
abbrev S8x64x1536 : Shape := ⟨3, ![8, 64, 1536]⟩
abbrev S1x64x1536 : Shape := ⟨3, ![1, 64, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S8x2048x1536, .bf16⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S64x1536, .f32⟩
  | .local _ .vmem, ⟨1, _⟩ => ⟨S64x1536, .f32⟩
  | .local _ .vmem, ⟨2, _⟩ => ⟨S64x1536, .f32⟩
  | .local _ .vmem, ⟨3, _⟩ => ⟨S64x1536, .f32⟩
  | .local _ .vmem, ⟨4, _⟩ => ⟨S64x1536, .f32⟩
  | .local _ .vmem, ⟨5, _⟩ => ⟨S64x1536, .f32⟩
  | .local _ .vmem, ⟨6, _⟩ => ⟨S8x64x1536, .bf16⟩
  | .local _ .vmem, ⟨7, _⟩ => ⟨S8x64x1536, .bf16⟩
  | .local _ .vmem, ⟨8, _⟩ => ⟨S64x1536, .f32⟩
  | .local _ .vmem, ⟨9, _⟩ => ⟨S64x1536, .f32⟩
  | .local _ .vmem, ⟨10, _⟩ => ⟨S64x1536, .f32⟩
  | .local _ .vmem, ⟨11, _⟩ => ⟨S64x1536, .f32⟩
  | .local _ .vmem, ⟨12, _⟩ => ⟨S64x1536, .f32⟩
  | .local _ .vmem, ⟨13, _⟩ => ⟨S64x1536, .f32⟩
  | .local _ .vmem, ⟨14, _⟩ => ⟨S64x1536, .f32⟩
  | .local _ .vmem, ⟨15, _⟩ => ⟨S64x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateInIdeal.lean ====
abbrev S2048x1536 : Shape := ⟨2, ![2048, 1536]⟩
abbrev S8x2048x1536 : Shape := ⟨3, ![8, 2048, 1536]⟩
abbrev S64x1536 : Shape := ⟨2, ![64, 1536]⟩
abbrev S8x64x1536 : Shape := ⟨3, ![8, 64, 1536]⟩
abbrev S1x64x1536 : Shape := ⟨3, ![1, 64, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S8x2048x1536, .bf16⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S64x1536, .f32⟩
  | .local _ .vmem, ⟨1, _⟩ => ⟨S64x1536, .f32⟩
  | .local _ .vmem, ⟨2, _⟩ => ⟨S64x1536, .f32⟩
  | .local _ .vmem, ⟨3, _⟩ => ⟨S64x1536, .f32⟩
  | .local _ .vmem, ⟨4, _⟩ => ⟨S64x1536, .f32⟩
  | .local _ .vmem, ⟨5, _⟩ => ⟨S64x1536, .f32⟩
  | .local _ .vmem, ⟨6, _⟩ => ⟨S8x64x1536, .bf16⟩
  | .local _ .vmem, ⟨7, _⟩ => ⟨S8x64x1536, .bf16⟩
  | .local _ .vmem, ⟨8, _⟩ => ⟨S64x1536, .f32⟩
  | .local _ .vmem, ⟨9, _⟩ => ⟨S64x1536, .f32⟩
  | .local _ .vmem, ⟨10, _⟩ => ⟨S64x1536, .f32⟩
  | .local _ .vmem, ⟨11, _⟩ => ⟨S64x1536, .f32⟩
  | .local _ .vmem, ⟨12, _⟩ => ⟨S64x1536, .f32⟩
  | .local _ .vmem, ⟨13, _⟩ => ⟨S64x1536, .f32⟩
  | .local _ .vmem, ⟨14, _⟩ => ⟨S64x1536, .f32⟩
  | .local _ .vmem, ⟨15, _⟩ => ⟨S64x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateInRefIdeal.lean ====
abbrev S2048x1536 : Shape := ⟨2, ![2048, 1536]⟩
abbrev S8x2048x1536 : Shape := ⟨3, ![8, 2048, 1536]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S8x2048x1536, .bf16⟩
  | .hbm, ⟨4, _⟩ => ⟨S8x2048x1536, .f32⟩
  | .hbm, ⟨5, _⟩ => ⟨S_, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S_, .f32⟩
  | .hbm, ⟨11, _⟩ => ⟨S2048x1536, .f32⟩
  | .hbm, ⟨12, _⟩ => ⟨S2048x1536, .f32⟩
  | .hbm, ⟨13, _⟩ => ⟨S2048x1536, .f32⟩
  | .hbm, ⟨14, _⟩ => ⟨S_, .f32⟩
  | .hbm, ⟨15, _⟩ => ⟨S2048x1536, .f32⟩
  | .hbm, ⟨16, _⟩ => ⟨S2048x1536, .f32⟩
  | .hbm, ⟨17, _⟩ => ⟨S2048x1536, .f32⟩
  | .hbm, ⟨18, _⟩ => ⟨S_, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S_, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S_, .f32⟩
  | .hbm, ⟨30, _⟩ => ⟨S2048x1536, .f32⟩
  | .hbm, ⟨31, _⟩ => ⟨S2048x1536, .f32⟩
  | .hbm, ⟨32, _⟩ => ⟨S2048x1536, .f32⟩
  | .hbm, ⟨33, _⟩ => ⟨S_, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S_, .f32⟩
  | .hbm, ⟨38, _⟩ => ⟨S2048x1536, .f32⟩
  | .hbm, ⟨39, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateSquare.lean ====
abbrev S512x2048 : Shape := ⟨2, ![512, 2048]⟩
abbrev S8x512x2048 : Shape := ⟨3, ![8, 512, 2048]⟩
abbrev S64x2048 : Shape := ⟨2, ![64, 2048]⟩
abbrev S8x64x2048 : Shape := ⟨3, ![8, 64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S8x512x2048, .bf16⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S8x64x2048, .bf16⟩
  | .local _ .vmem, ⟨7, _⟩ => ⟨S8x64x2048, .bf16⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateSquareIdeal.lean ====
abbrev S512x2048 : Shape := ⟨2, ![512, 2048]⟩
abbrev S8x512x2048 : Shape := ⟨3, ![8, 512, 2048]⟩
abbrev S64x2048 : Shape := ⟨2, ![64, 2048]⟩
abbrev S8x64x2048 : Shape := ⟨3, ![8, 64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S8x512x2048, .bf16⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S8x64x2048, .bf16⟩
  | .local _ .vmem, ⟨7, _⟩ => ⟨S8x64x2048, .bf16⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateSquareRefIdeal.lean ====
abbrev S512x2048 : Shape := ⟨2, ![512, 2048]⟩
abbrev S8x512x2048 : Shape := ⟨3, ![8, 512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S8x512x2048, .bf16⟩
  | .hbm, ⟨4, _⟩ => ⟨S8x512x2048, .f32⟩
  | .hbm, ⟨5, _⟩ => ⟨S_, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateUp.lean ====
abbrev S2048x2816 : Shape := ⟨2, ![2048, 2816]⟩
abbrev S8x2048x2816 : Shape := ⟨3, ![8, 2048, 2816]⟩
abbrev S32x2816 : Shape := ⟨2, ![32, 2816]⟩
abbrev S8x32x2816 : Shape := ⟨3, ![8, 32, 2816]⟩
abbrev S1x32x2816 : Shape := ⟨3, ![1, 32, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S8x2048x2816, .bf16⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S32x2816, .f32⟩
  | .local _ .vmem, ⟨1, _⟩ => ⟨S32x2816, .f32⟩
  | .local _ .vmem, ⟨2, _⟩ => ⟨S32x2816, .f32⟩
  | .local _ .vmem, ⟨3, _⟩ => ⟨S32x2816, .f32⟩
  | .local _ .vmem, ⟨4, _⟩ => ⟨S32x2816, .f32⟩
  | .local _ .vmem, ⟨5, _⟩ => ⟨S32x2816, .f32⟩
  | .local _ .vmem, ⟨6, _⟩ => ⟨S8x32x2816, .bf16⟩
  | .local _ .vmem, ⟨7, _⟩ => ⟨S8x32x2816, .bf16⟩
  | .local _ .vmem, ⟨8, _⟩ => ⟨S32x2816, .f32⟩
  | .local _ .vmem, ⟨9, _⟩ => ⟨S32x2816, .f32⟩
  | .local _ .vmem, ⟨10, _⟩ => ⟨S32x2816, .f32⟩
  | .local _ .vmem, ⟨11, _⟩ => ⟨S32x2816, .f32⟩
  | .local _ .vmem, ⟨12, _⟩ => ⟨S32x2816, .f32⟩
  | .local _ .vmem, ⟨13, _⟩ => ⟨S32x2816, .f32⟩
  | .local _ .vmem, ⟨14, _⟩ => ⟨S32x2816, .f32⟩
  | .local _ .vmem, ⟨15, _⟩ => ⟨S32x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateUpIdeal.lean ====
abbrev S2048x2816 : Shape := ⟨2, ![2048, 2816]⟩
abbrev S8x2048x2816 : Shape := ⟨3, ![8, 2048, 2816]⟩
abbrev S32x2816 : Shape := ⟨2, ![32, 2816]⟩
abbrev S8x32x2816 : Shape := ⟨3, ![8, 32, 2816]⟩
abbrev S1x32x2816 : Shape := ⟨3, ![1, 32, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S8x2048x2816, .bf16⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S32x2816, .f32⟩
  | .local _ .vmem, ⟨1, _⟩ => ⟨S32x2816, .f32⟩
  | .local _ .vmem, ⟨2, _⟩ => ⟨S32x2816, .f32⟩
  | .local _ .vmem, ⟨3, _⟩ => ⟨S32x2816, .f32⟩
  | .local _ .vmem, ⟨4, _⟩ => ⟨S32x2816, .f32⟩
  | .local _ .vmem, ⟨5, _⟩ => ⟨S32x2816, .f32⟩
  | .local _ .vmem, ⟨6, _⟩ => ⟨S8x32x2816, .bf16⟩
  | .local _ .vmem, ⟨7, _⟩ => ⟨S8x32x2816, .bf16⟩
  | .local _ .vmem, ⟨8, _⟩ => ⟨S32x2816, .f32⟩
  | .local _ .vmem, ⟨9, _⟩ => ⟨S32x2816, .f32⟩
  | .local _ .vmem, ⟨10, _⟩ => ⟨S32x2816, .f32⟩
  | .local _ .vmem, ⟨11, _⟩ => ⟨S32x2816, .f32⟩
  | .local _ .vmem, ⟨12, _⟩ => ⟨S32x2816, .f32⟩
  | .local _ .vmem, ⟨13, _⟩ => ⟨S32x2816, .f32⟩
  | .local _ .vmem, ⟨14, _⟩ => ⟨S32x2816, .f32⟩
  | .local _ .vmem, ⟨15, _⟩ => ⟨S32x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateUpRefIdeal.lean ====
abbrev S2048x2816 : Shape := ⟨2, ![2048, 2816]⟩
abbrev S8x2048x2816 : Shape := ⟨3, ![8, 2048, 2816]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S8x2048x2816, .bf16⟩
  | .hbm, ⟨4, _⟩ => ⟨S8x2048x2816, .f32⟩
  | .hbm, ⟨5, _⟩ => ⟨S_, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateDown.lean ====
abbrev S1408x2048 : Shape := ⟨2, ![1408, 2048]⟩
abbrev S8x1408x2048 : Shape := ⟨3, ![8, 1408, 2048]⟩
abbrev S64x2048 : Shape := ⟨2, ![64, 2048]⟩
abbrev S8x64x2048 : Shape := ⟨3, ![8, 64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S8x1408x2048, .bf16⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S8x64x2048, .bf16⟩
  | .local _ .vmem, ⟨7, _⟩ => ⟨S8x64x2048, .bf16⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateDownIdeal.lean ====
abbrev S1408x2048 : Shape := ⟨2, ![1408, 2048]⟩
abbrev S8x1408x2048 : Shape := ⟨3, ![8, 1408, 2048]⟩
abbrev S64x2048 : Shape := ⟨2, ![64, 2048]⟩
abbrev S8x64x2048 : Shape := ⟨3, ![8, 64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S8x1408x2048, .bf16⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S8x64x2048, .bf16⟩
  | .local _ .vmem, ⟨7, _⟩ => ⟨S8x64x2048, .bf16⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateDownRefIdeal.lean ====
abbrev S1408x2048 : Shape := ⟨2, ![1408, 2048]⟩
abbrev S8x1408x2048 : Shape := ⟨3, ![8, 1408, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S8x1408x2048, .bf16⟩
  | .hbm, ⟨4, _⟩ => ⟨S8x1408x2048, .f32⟩
  | .hbm, ⟨5, _⟩ => ⟨S_, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S_, .f32⟩
  | .hbm, ⟨11, _⟩ => ⟨S1408x2048, .f32⟩
  | .hbm, ⟨12, _⟩ => ⟨S1408x2048, .f32⟩
  | .hbm, ⟨13, _⟩ => ⟨S1408x2048, .f32⟩
  | .hbm, ⟨14, _⟩ => ⟨S_, .f32⟩
  | .hbm, ⟨15, _⟩ => ⟨S1408x2048, .f32⟩
  | .hbm, ⟨16, _⟩ => ⟨S1408x2048, .f32⟩
  | .hbm, ⟨17, _⟩ => ⟨S1408x2048, .f32⟩
  | .hbm, ⟨18, _⟩ => ⟨S_, .f32⟩
  | .hbm, ⟨19, _⟩ => ⟨S1408x2048, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S_, .f32⟩
  | .hbm, ⟨26, _⟩ => ⟨S1408x2048, .f32⟩
  | .hbm, ⟨27, _⟩ => ⟨S1408x2048, .f32⟩
  | .hbm, ⟨28, _⟩ => ⟨S1408x2048, .f32⟩
  | .hbm, ⟨29, _⟩ => ⟨S_, .f32⟩
  | .hbm, ⟨30, _⟩ => ⟨S1408x2048, .f32⟩
  | .hbm, ⟨31, _⟩ => ⟨S1408x2048, .f32⟩
  | .hbm, ⟨32, _⟩ => ⟨S1408x2048, .f32⟩
  | .hbm, ⟨33, _⟩ => ⟨S_, .f32⟩
  | .hbm, ⟨34, _⟩ => ⟨S1408x2048, .f32⟩
  | .hbm, ⟨35, _⟩ => ⟨S1408x2048, .f32⟩
  | .hbm, ⟨36, _⟩ => ⟨S1408x2048, .f32⟩
  | .hbm, ⟨37, _⟩ => ⟨S_, .f32⟩
  | .hbm, ⟨38, _⟩ => ⟨S1408x2048, .f32⟩
  | .hbm, ⟨39, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateSmall.lean ====
abbrev S2560x128 : Shape := ⟨2, ![2560, 128]⟩
abbrev S1x2560x128 : Shape := ⟨3, ![1, 2560, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S2560x128, .f32⟩
  | .hbm, ⟨1, _⟩ => ⟨S2560x128, .f32⟩
  | .hbm, ⟨2, _⟩ => ⟨S2560x128, .f32⟩
  | .hbm, ⟨3, _⟩ => ⟨S1x2560x128, .f32⟩
  | .hbm, ⟨4, _⟩ => ⟨S2560x128, .f32⟩
  | .hbm, ⟨5, _⟩ => ⟨S2560x128, .f32⟩
  | .hbm, ⟨6, _⟩ => ⟨S2560x128, .f32⟩
  | .hbm, ⟨7, _⟩ => ⟨S2560x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x512x128, .f32⟩
  | .local _ .vmem, ⟨7, _⟩ => ⟨S1x512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateSmallRefIdeal.lean ====
abbrev S2560x128 : Shape := ⟨2, ![2560, 128]⟩
abbrev S1x2560x128 : Shape := ⟨3, ![1, 2560, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2560x128, .f32⟩
  | .hbm, ⟨1, _⟩ => ⟨S2560x128, .f32⟩
  | .hbm, ⟨2, _⟩ => ⟨S2560x128, .f32⟩
  | .hbm, ⟨3, _⟩ => ⟨S1x2560x128, .f32⟩
  | .hbm, ⟨4, _⟩ => ⟨S_, .f32⟩
  | .hbm, ⟨5, _⟩ => ⟨S2560x128, .f32⟩
  | .hbm, ⟨6, _⟩ => ⟨S_, .f32⟩
  | .hbm, ⟨7, _⟩ => ⟨S2560x128, .f32⟩
  | .hbm, ⟨8, _⟩ => ⟨S2560x128, .f32⟩
  | .hbm, ⟨9, _⟩ => ⟨S_, .f32⟩
  | .hbm, ⟨10, _⟩ => ⟨S2560x128, .f32⟩
  | .hbm, ⟨11, _⟩ => ⟨S2560x128, .f32⟩
  | .hbm, ⟨12, _⟩ => ⟨S2560x128, .f32⟩
  | .hbm, ⟨13, _⟩ => ⟨S_, .f32⟩
  | .hbm, ⟨14, _⟩ => ⟨S2560x128, .f32⟩
  | .hbm, ⟨15, _⟩ => ⟨S2560x128, .f32⟩
  | .hbm, ⟨16, _⟩ => ⟨S2560x128, .f32⟩
  | .hbm, ⟨17, _⟩ => ⟨S_, .f32⟩
  | .hbm, ⟨18, _⟩ => ⟨S2560x128, .f32⟩
  | .hbm, ⟨19, _⟩ => ⟨S2560x128, .f32⟩
  | .hbm, ⟨20, _⟩ => ⟨S2560x128, .f32⟩
  | .hbm, ⟨21, _⟩ => ⟨S_, .f32⟩
  | .hbm, ⟨22, _⟩ => ⟨S2560x128, .f32⟩
  | .hbm, ⟨23, _⟩ => ⟨S2560x128, .f32⟩
  | .hbm, ⟨24, _⟩ => ⟨S_, .f32⟩
  | .hbm, ⟨25, _⟩ => ⟨S2560x128, .f32⟩
  | .hbm, ⟨26, _⟩ => ⟨S2560x128, .f32⟩
  | .hbm, ⟨27, _⟩ => ⟨S2560x128, .f32⟩
  | .hbm, ⟨28, _⟩ => ⟨S_, .f32⟩
  | .hbm, ⟨29, _⟩ => ⟨S2560x128, .f32⟩
  | .hbm, ⟨30, _⟩ => ⟨S2560x128, .f32⟩
  | .hbm, ⟨31, _⟩ => ⟨S2560x128, .f32⟩
  | .hbm, ⟨32, _⟩ => ⟨S_, .f32⟩
  | .hbm, ⟨33, _⟩ => ⟨S2560x128, .f32⟩
  | .hbm, ⟨34, _⟩ => ⟨S2560x128, .f32⟩
  | .hbm, ⟨35, _⟩ => ⟨S2560x128, .f32⟩
  | .hbm, ⟨36, _⟩ => ⟨S_, .f32⟩
  | .hbm, ⟨37, _⟩ => ⟨S2560x128, .f32⟩
  | .hbm, ⟨38, _⟩ => ⟨S2560x128, .f32⟩
  | _, _ => ⟨S2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMem.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMemRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== In.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InIdeal.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x6144, .f32⟩
  | .hbm, ⟨4, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Query.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryIdeal.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Key.lean ====
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .bf16⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyRefIdeal.lean ====
abbrev S256x2048 : Shape := ⟨2, ![256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | .hbm, ⟨5, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BackDown.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackDownIdeal.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackDownRefIdeal.lean ====
abbrev S8192x2048 : Shape := ⟨2, ![8192, 2048]⟩
abbrev S5632x2048 : Shape := ⟨2, ![5632, 2048]⟩
abbrev S2048x5632 : Shape := ⟨2, ![2048, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x2048, .f32⟩
  | .hbm, ⟨3, _⟩ => ⟨S5632x2048, .f32⟩
  | .hbm, ⟨4, _⟩ => ⟨S2048x5632, .f32⟩
  | .hbm, ⟨5, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackSquare.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackSquareIdeal.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackSquareRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S2048x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackHeads.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackHeadsRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S2048x2048, .f32⟩
  | .hbm, ⟨5, _⟩ => ⟨S8192x2048, .f32⟩
  | .hbm, ⟨6, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== BackKey.lean ====
abbrev S256x2048 : Shape := ⟨2, ![256, 2048]⟩
abbrev S2048x2048 : Shape := ⟨2, ![2048, 2048]⟩
abbrev S1024x2048 : Shape := ⟨2, ![1024, 2048]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x2048, .bf16⟩
  | .hbm, ⟨2, _⟩ => ⟨S256x2048, .f32⟩
  | .local _ .vmem, ⟨0, _⟩ => ⟨S256x2048, .f32⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackKeyIdeal.lean ====
abbrev S256x2048 : Shape := ⟨2, ![256, 2048]⟩
abbrev S2048x2048 : Shape := ⟨2, ![2048, 2048]⟩
abbrev S1024x2048 : Shape := ⟨2, ![1024, 2048]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x2048, .bf16⟩
  | .hbm, ⟨2, _⟩ => ⟨S256x2048, .f32⟩
  | .local _ .vmem, ⟨0, _⟩ => ⟨S256x2048, .f32⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackKeyRefIdeal.lean ====
abbrev S256x2048 : Shape := ⟨2, ![256, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BackValue.lean ====
abbrev S256x2048 : Shape := ⟨2, ![256, 2048]⟩
abbrev S2048x2048 : Shape := ⟨2, ![2048, 2048]⟩
abbrev S1024x2048 : Shape := ⟨2, ![1024, 2048]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S2048x2048, .bf16⟩
  | .hbm, ⟨2, _⟩ => ⟨S256x2048, .f32⟩
  | .hbm, ⟨3, _⟩ => ⟨S256x2048, .f32⟩
  | .local _ .vmem, ⟨0, _⟩ => ⟨S256x2048, .f32⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BackValueRefIdeal.lean ====
abbrev S256x2048 : Shape := ⟨2, ![256, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S2048x2048, .f32⟩
  | .hbm, ⟨5, _⟩ => ⟨S256x2048, .f32⟩
  | .hbm, ⟨6, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BackIn.lean ====
abbrev S8192x6144 : Shape := ⟨2, ![8192, 6144]⟩
abbrev S2048x6144 : Shape := ⟨2, ![2048, 6144]⟩
abbrev S8192x2048 : Shape := ⟨2, ![8192, 2048]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackInRefIdeal.lean ====
abbrev S8192x6144 : Shape := ⟨2, ![8192, 6144]⟩
abbrev S2048x6144 : Shape := ⟨2, ![2048, 6144]⟩
abbrev S6144x2048 : Shape := ⟨2, ![6144, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x6144, .f32⟩
  | .hbm, ⟨3, _⟩ => ⟨S2048x6144, .f32⟩
  | .hbm, ⟨4, _⟩ => ⟨S6144x2048, .f32⟩
  | .hbm, ⟨5, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackUpLeft.lean ====
abbrev S8192x5632 : Shape := ⟨2, ![8192, 5632]⟩
abbrev S2048x11264 : Shape := ⟨2, ![2048, 11264]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2048x11264, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackUpLeftRefIdeal.lean ====
abbrev S8192x5632 : Shape := ⟨2, ![8192, 5632]⟩
abbrev S2048x11264 : Shape := ⟨2, ![2048, 11264]⟩
abbrev S2048x5632 : Shape := ⟨2, ![2048, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x11264, .bf16⟩
  | .hbm, ⟨2, _⟩ => ⟨S2048x5632, .bf16⟩
  | .hbm, ⟨3, _⟩ => ⟨S8192x5632, .f32⟩
  | .hbm, ⟨4, _⟩ => ⟨S2048x5632, .f32⟩
  | .hbm, ⟨5, _⟩ => ⟨S5632x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== BackUpRight.lean ====
abbrev S8192x5632 : Shape := ⟨2, ![8192, 5632]⟩
abbrev S2048x11264 : Shape := ⟨2, ![2048, 11264]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2048x11264, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let v1 : BitVec 32 := Scalar.addi arg2 c2_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BackUpRightRefIdeal.lean ====
abbrev S8192x5632 : Shape := ⟨2, ![8192, 5632]⟩
abbrev S2048x11264 : Shape := ⟨2, ![2048, 11264]⟩
abbrev S8192x2048 : Shape := ⟨2, ![8192, 2048]⟩
abbrev S2048x5632 : Shape := ⟨2, ![2048, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x11264, .bf16⟩
  | .hbm, ⟨2, _⟩ => ⟨S8192x2048, .f32⟩
  | .hbm, ⟨3, _⟩ => ⟨S2048x5632, .bf16⟩
  | .hbm, ⟨4, _⟩ => ⟨S8192x5632, .f32⟩
  | .hbm, ⟨5, _⟩ => ⟨S2048x5632, .f32⟩
  | .hbm, ⟨6, _⟩ => ⟨S5632x2048, .f32⟩
  | .hbm, ⟨7, _⟩ => ⟨S8192x2048, .f32⟩
  | .hbm, ⟨8, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradSquare.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradSquareIdeal.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradSquareRefIdeal.lean ====
abbrev S8192x2048 : Shape := ⟨2, ![8192, 2048]⟩
abbrev S2048x8192 : Shape := ⟨2, ![2048, 8192]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradKey.lean ====
abbrev S256x2048 : Shape := ⟨2, ![256, 2048]⟩
abbrev S2048x2048 : Shape := ⟨2, ![2048, 2048]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradKeyIdeal.lean ====
abbrev S256x2048 : Shape := ⟨2, ![256, 2048]⟩
abbrev S2048x2048 : Shape := ⟨2, ![2048, 2048]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradKeyRefIdeal.lean ====
abbrev S256x2048 : Shape := ⟨2, ![256, 2048]⟩
abbrev S2048x256 : Shape := ⟨2, ![2048, 256]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x2048, .f32⟩
  | .hbm, ⟨3, _⟩ => ⟨S2048x256, .f32⟩
  | .hbm, ⟨4, _⟩ => ⟨S2048x2048, .f32⟩
  | .hbm, ⟨5, _⟩ => ⟨S2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradIn.lean ====
abbrev S8192x2048 : Shape := ⟨2, ![8192, 2048]⟩
abbrev S8192x6144 : Shape := ⟨2, ![8192, 6144]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInIdeal.lean ====
abbrev S8192x2048 : Shape := ⟨2, ![8192, 2048]⟩
abbrev S8192x6144 : Shape := ⟨2, ![8192, 6144]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInRefIdeal.lean ====
abbrev S8192x2048 : Shape := ⟨2, ![8192, 2048]⟩
abbrev S8192x6144 : Shape := ⟨2, ![8192, 6144]⟩
abbrev S2048x8192 : Shape := ⟨2, ![2048, 8192]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S8192x2048, .f32⟩
  | .hbm, ⟨3, _⟩ => ⟨S2048x8192, .f32⟩
  | .hbm, ⟨4, _⟩ => ⟨S8192x6144, .f32⟩
  | .hbm, ⟨5, _⟩ => ⟨S2048x6144, .f32⟩
  | .hbm, ⟨6, _⟩ => ⟨S2048x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradDown.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownIdeal.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownRefIdeal.lean ====
abbrev S8192x5632 : Shape := ⟨2, ![8192, 5632]⟩
abbrev S8192x2048 : Shape := ⟨2, ![8192, 2048]⟩
abbrev S5632x8192 : Shape := ⟨2, ![5632, 8192]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S5632x8192, .f32⟩
  | .hbm, ⟨4, _⟩ => ⟨S8192x2048, .f32⟩
  | .hbm, ⟨5, _⟩ => ⟨S5632x2048, .f32⟩
  | .hbm, ⟨6, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradUpLeft.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpLeftRefIdeal.lean ====
abbrev S8192x2048 : Shape := ⟨2, ![8192, 2048]⟩
abbrev S8192x5632 : Shape := ⟨2, ![8192, 5632]⟩
abbrev S2048x8192 : Shape := ⟨2, ![2048, 8192]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x2048, .f32⟩
  | .hbm, ⟨3, _⟩ => ⟨S2048x8192, .f32⟩
  | .hbm, ⟨4, _⟩ => ⟨S8192x5632, .f32⟩
  | .hbm, ⟨5, _⟩ => ⟨S2048x5632, .f32⟩
  | .hbm, ⟨6, _⟩ => ⟨S2048x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradUpRight.lean ====
abbrev S8192x2048 : Shape := ⟨2, ![8192, 2048]⟩
abbrev S8192x5632 : Shape := ⟨2, ![8192, 5632]⟩
abbrev S2048x11264 : Shape := ⟨2, ![2048, 11264]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x11264, .bf16⟩
  | .hbm, ⟨3, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c11_i32 : BitVec 32 := 11#32
  let v1 : BitVec 32 := Scalar.addi arg1 c11_i32
  let c0_i32_0 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpRightRefIdeal.lean ====
abbrev S8192x2048 : Shape := ⟨2, ![8192, 2048]⟩
abbrev S8192x5632 : Shape := ⟨2, ![8192, 5632]⟩
abbrev S2048x11264 : Shape := ⟨2, ![2048, 11264]⟩
abbrev S2048x5632 : Shape := ⟨2, ![2048, 5632]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x11264, .bf16⟩
  | .hbm, ⟨3, _⟩ => ⟨S2048x5632, .bf16⟩
  | .hbm, ⟨4, _⟩ => ⟨S8192x2048, .f32⟩
  | .hbm, ⟨5, _⟩ => ⟨S2048x8192, .f32⟩
  | .hbm, ⟨6, _⟩ => ⟨S8192x5632, .f32⟩
  | .hbm, ⟨7, _⟩ => ⟨S2048x5632, .f32⟩
  | .hbm, ⟨8, _⟩ => ⟨S2048x5632, .bf16⟩
  | .hbm, ⟨9, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Rope.lean ====
abbrev S8192x1 : Shape := ⟨2, ![8192, 1]⟩
abbrev S1x128 : Shape := ⟨2, ![1, 128]⟩
abbrev S8192x128 : Shape := ⟨2, ![8192, 128]⟩
abbrev S1024x1 : Shape := ⟨2, ![1024, 1]⟩
abbrev S1024x128 : Shape := ⟨2, ![1024, 128]⟩

abbrev nBuf : Space → Nat
  | .hbm => 4
  | .vmem => 7
  | .smem => 0
  | _ => 0

abbrev bufTy : (tb : Table) → Fin (tcTables nBuf tb) → BufTy
  | .hbm, ⟨0, _⟩ => ⟨S8192x1, .i32⟩
  | .hbm, ⟨1, _⟩ => ⟨S1x128, .f32⟩
  | .hbm, ⟨2, _⟩ => ⟨S8192x128, .f32⟩
  | .hbm, ⟨3, _⟩ => ⟨S8192x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8192x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S8192x1 : Shape := ⟨2, ![8192, 1]⟩
abbrev S1x128 : Shape := ⟨2, ![1, 128]⟩
abbrev S8192x128 : Shape := ⟨2, ![8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x1, .i32⟩
  | .hbm, ⟨1, _⟩ => ⟨S1x128, .f32⟩
  | .hbm, ⟨2, _⟩ => ⟨S8192x1, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x128, .f32⟩
  | _, _ => ⟨S8192x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Attend.lean ====
abbrev S8192x2048 : Shape := ⟨2, ![8192, 2048]⟩
abbrev S256x2048 : Shape := ⟨2, ![256, 2048]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S256x2048, .bf16⟩
  | .hbm, ⟨3, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S512x2048, .bf16⟩
  | .local _ .vmem, ⟨5, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttendRefIdeal.lean ====
abbrev S8192x2048 : Shape := ⟨2, ![8192, 2048]⟩
abbrev S256x2048 : Shape := ⟨2, ![256, 2048]⟩
abbrev S8192x4x512 : Shape := ⟨3, ![8192, 4, 512]⟩
abbrev S256x4x512 : Shape := ⟨3, ![256, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S256x2048, .bf16⟩
  | .hbm, ⟨3, _⟩ => ⟨S8192x2048, .f32⟩
  | .hbm, ⟨4, _⟩ => ⟨S8192x4x512, .f32⟩
  | .hbm, ⟨5, _⟩ => ⟨S256x2048, .f32⟩
  | .hbm, ⟨6, _⟩ => ⟨S256x4x512, .f32⟩
  | .hbm, ⟨7, _⟩ => ⟨S256x2048, .f32⟩
  | .hbm, ⟨8, _⟩ => ⟨S256x4x512, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x512x8192, .f32⟩
  | .hbm, ⟨28, _⟩ => ⟨S8192x4x512, .f32⟩
  | .hbm, ⟨29, _⟩ => ⟨S8192x2048, .f32⟩
  | .hbm, ⟨30, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== NormBack.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S1x2048, .f32⟩
  | .hbm, ⟨6, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_16 : BitVec 32 := 0#32
  let v39 : BitVec 1 := Scalar.cmpi .ne v38 c0_i32_16
  v39

def k0_cond2 (i : grid0.Coords) : BitVec 1 :=
  let arg0 : BitVec 32 := BitVec.ofNat 32 (i 0).val
  let c0_i32_17 : BitVec 32 := 0#32
  let v40 : BitVec 1 := Scalar.cmpi .sgt arg0 c0_i32_17
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormBackRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== NormBackIn.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32_15 : BitVec 32 := 0#32
  let v38 : BitVec 1 := Scalar.cmpi .sgt arg0 c0_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBackInRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== NormBackMem.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S256x2048, .f32⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_12 : BitVec 32 := 0#32
  let v35 : BitVec 1 := Scalar.cmpi .ne v34 c0_i32_12
  v35

def k0_cond2 (i : grid0.Coords) : BitVec 1 :=
  let arg0 : BitVec 32 := BitVec.ofNat 32 (i 0).val
  let c0_i32_13 : BitVec 32 := 0#32
  let v36 : BitVec 1 := Scalar.cmpi .sgt arg0 c0_i32_13
  let v37 : BitVec 32 := Scalar.extui v36
  let c0_i32_14 : BitVec 32 := 0#32
  let v38 : BitVec 1 := Scalar.cmpi .ne v37 c0_i32_14
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormBackMemRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x2048, .f32⟩
  | .hbm, ⟨33, _⟩ => ⟨S256x2048, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Loss.lean ====
abbrev S8192x2048 : Shape := ⟨2, ![8192, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S1x2048, .f32⟩
  | .hbm, ⟨5, _⟩ => ⟨S8x128, .f32⟩
  | .hbm, ⟨6, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S8x128, .f32⟩
  | .local _ .vmem, ⟨9, _⟩ => ⟨S256x2048, .bf16⟩
  | .local _ .vmem, ⟨10, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_19 : BitVec 32 := 0#32
  let v55 : BitVec 1 := Scalar.cmpi .ne v54 c0_i32_19
  v55

def k0_cond2 (i : grid0.Coords) : BitVec 1 :=
  let arg0 : BitVec 32 := BitVec.ofNat 32 (i 0).val
  let c0_i32_20 : BitVec 32 := 0#32
  let v56 : BitVec 1 := Scalar.cmpi .sgt arg0 c0_i32_20
  let v57 : BitVec 32 := Scalar.extui v56
  let c0_i32_21 : BitVec 32 := 0#32
  let v58 : BitVec 1 := Scalar.cmpi .ne v57 c0_i32_21
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8x128 : Shape := ⟨2, ![8, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8x128, .f32⟩
  | .hbm, ⟨69, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Gate.lean ====
abbrev S8192x11264 : Shape := ⟨2, ![8192, 11264]⟩
abbrev S3x11264 : Shape := ⟨2, ![3, 11264]⟩
abbrev S1x11264 : Shape := ⟨2, ![1, 11264]⟩
abbrev S8192x5632 : Shape := ⟨2, ![8192, 5632]⟩
abbrev S512x512 : Shape := ⟨2, ![512, 512]⟩
abbrev S3x512 : Shape := ⟨2, ![3, 512]⟩
abbrev S1x512 : Shape := ⟨2, ![1, 512]⟩
abbrev S8x512 : Shape := ⟨2, ![8, 512]⟩
abbrev S504x512 : Shape := ⟨2, ![504, 512]⟩

abbrev nBuf : Space → Nat
  | .hbm => 4
  | .vmem => 16
  | .smem => 0
  | _ => 0

abbrev bufTy : (tb : Table) → Fin (tcTables nBuf tb) → BufTy
  | .hbm, ⟨0, _⟩ => ⟨S8192x11264, .f32⟩
  | .hbm, ⟨1, _⟩ => ⟨S3x11264, .f32⟩
  | .hbm, ⟨2, _⟩ => ⟨S1x11264, .f32⟩
  | .hbm, ⟨3, _⟩ => ⟨S8192x5632, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S8x512, .f32⟩
  | .local _ .vmem, ⟨15, _⟩ => ⟨S8x512, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateRefIdeal.lean ====
abbrev S8192x11264 : Shape := ⟨2, ![8192, 11264]⟩
abbrev S3x11264 : Shape := ⟨2, ![3, 11264]⟩
abbrev S1x11264 : Shape := ⟨2, ![1, 11264]⟩
abbrev S11264 : Shape := ⟨1, ![11264]⟩
abbrev S_ : Shape := ⟨0, ![]⟩
abbrev S8194x11264 : Shape := ⟨2, ![8194, 11264]⟩
abbrev S8192x5632 : Shape := ⟨2, ![8192, 5632]⟩

abbrev nBuf : Space → Nat
  | .hbm => 50
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S3x11264, .f32⟩
  | .hbm, ⟨2, _⟩ => ⟨S1x11264, .f32⟩
  | .hbm, ⟨3, _⟩ => ⟨S1x11264, .f32⟩
  | .hbm, ⟨4, _⟩ => ⟨S11264, .f32⟩
  | .hbm, ⟨5, _⟩ => ⟨S_, .i32⟩
  | .hbm, ⟨6, _⟩ => ⟨S_, .f32⟩
  | .hbm, ⟨7, _⟩ => ⟨S8194x11264, .f32⟩
  | .hbm, ⟨8, _⟩ => ⟨S8192x11264, .f32⟩
  | .hbm, ⟨9, _⟩ => ⟨S1x11264, .f32⟩
  | .hbm, ⟨10, _⟩ => ⟨S8192x11264, .f32⟩
  | .hbm, ⟨11, _⟩ => ⟨S8192x11264, .f32⟩
  | .hbm, ⟨12, _⟩ => ⟨S_, .f32⟩
  | .hbm, ⟨13, _⟩ => ⟨S8192x11264, .f32⟩
  | .hbm, ⟨14, _⟩ => ⟨S8192x11264, .f32⟩
  | .hbm, ⟨15, _⟩ => ⟨S1x11264, .f32⟩
  | .hbm, ⟨16, _⟩ => ⟨S11264, .f32⟩
  | .hbm, ⟨17, _⟩ => ⟨S_, .i32⟩
  | .hbm, ⟨18, _⟩ => ⟨S_, .f32⟩
  | .hbm, ⟨19, _⟩ => ⟨S8194x11264, .f32⟩
  | .hbm, ⟨20, _⟩ => ⟨S8192x11264, .f32⟩
  | .hbm, ⟨21, _⟩ => ⟨S1x11264, .f32⟩
  | .hbm, ⟨22, _⟩ => ⟨S8192x11264, .f32⟩
  | .hbm, ⟨23, _⟩ => ⟨S8192x11264, .f32⟩
  | .hbm, ⟨24, _⟩ => ⟨S8192x11264, .f32⟩
  | .hbm, ⟨25, _⟩ => ⟨S1x11264, .f32⟩
  | .hbm, ⟨26, _⟩ => ⟨S11264, .f32⟩
  | .hbm, ⟨27, _⟩ => ⟨S_, .i32⟩
  | .hbm, ⟨28, _⟩ => ⟨S_, .f32⟩
  | .hbm, ⟨29, _⟩ => ⟨S8194x11264, .f32⟩
  | .hbm, ⟨30, _⟩ => ⟨S8192x11264, .f32⟩
  | .hbm, ⟨31, _⟩ => ⟨S1x11264, .f32⟩
  | .hbm, ⟨32, _⟩ => ⟨S8192x11264, .f32⟩
  | .hbm, ⟨33, _⟩ => ⟨S8192x11264, .f32⟩
  | .hbm, ⟨34, _⟩ => ⟨S8192x11264, .f32⟩
  | .hbm, ⟨35, _⟩ => ⟨S8192x11264, .f32⟩
  | .hbm, ⟨36, _⟩ => ⟨S8192x11264, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_call2_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call3_v0 : Ref sig .tc := ⟨.hbm, 39, rfl⟩
abbrev main_call3_v1 : Ref sig .tc := ⟨.hbm, 40, rfl⟩
abbrev main_call3_cst : Ref sig .tc := ⟨.hbm, 41, rfl⟩
abbrev main_call3_v2 : Ref sig .tc := ⟨.hbm, 42, rfl⟩
abbrev main_call3_v3 : Ref sig .tc := ⟨.hbm, 43, rfl⟩
abbrev main_call3_cst_0 : Ref sig .tc := ⟨.hbm, 44, rfl⟩
abbrev main_call3_v4 : Ref sig .tc := ⟨.hbm, 45, rfl⟩
abbrev main_call3_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Proof.Table.lean ====
/-
  The gather's arrays, views, devices and semaphores as TABLES over the eight arrays, and the kernel's body as four
  loops over them (`body_eq`). Array `i` is a block `src` of `R` rows and `W` columns on every device, cut in four
  pieces of `r` rows and `w` columns, one per chip, and a result `out` of eight slots of `r` rows and `w` columns, one
  per device. Device `d` names its three peers on other chips `d ^ 4`, `d ^ 2`, `d ^ 6` and its sibling, the other core
  of its chip, `d ^ 1`.
-/
module

public import proofs.«01_k».proof.Proof.Gen.KernelIdeal.Frame
public import proofs.«01_k».proof.Proof.Gen.KernelIdeal.Skeleton

@[expose] public section

set_option maxRecDepth 16384

noncomputable section

namespace Cert.KernelIdeal.Grads

open Cert.KernelIdeal.Gen
open Idealize.ShloMosaic Idealize.ShloMosaic.TcCoe
open Idealize.SL Idealize.SL.Sem

variable {F : FTy → Type} [FloatOps F]

/-! ## The arrays -/

abbrev sh2 (a b : ℕ) : Shape := ⟨2, ![a, b]⟩
abbrev sh3 (n a b : ℕ) : Shape := ⟨3, ![n, a, b]⟩

/-- One gathered array: the device's block, the result, and the extents of block and piece. -/
structure Item where
  R : ℕ
  W : ℕ
  r : ℕ
  w : ℕ
  src : Memref sig .tc .hbm (sh2 R W) .bf16
  out : Memref sig .tc .hbm (sh3 8 r w) .bf16
  hsrc : src.IsWhole
  hout : out.IsWhole
  sq : (sh3 1 r w).Squeezes (sh2 r w)

/-- The eight arrays. -/
def item : Fin 8 → Item
  | 0 => ⟨2048, 6144, 2048, 1536, Memref.whole main_arg0, Memref.whole main_v1_0, Memref.isWhole_whole _, Memref.isWhole_whole _, squeezes_S1x2048x1536_S2048x1536⟩
  | 1 => ⟨2048, 2048, 512, 2048, Memref.whole main_arg1, Memref.whole main_v1_1, Memref.isWhole_whole _, Memref.isWhole_whole _, squeezes_S1x512x2048_S512x2048⟩
  | 2 => ⟨2048, 2048, 512, 2048, Memref.whole main_arg2, Memref.whole main_v1_2, Memref.isWhole_whole _, Memref.isWhole_whole _, squeezes_S1x512x2048_S512x2048⟩
  | 3 => ⟨2048, 2048, 512, 2048, Memref.whole main_arg3, Memref.whole main_v1_3, Memref.isWhole_whole _, Memref.isWhole_whole _, squeezes_S1x512x2048_S512x2048⟩
  | 4 => ⟨2048, 2048, 512, 2048, Memref.whole main_arg4, Memref.whole main_v1_4, Memref.isWhole_whole _, Memref.isWhole_whole _, squeezes_S1x512x2048_S512x2048⟩
  | 5 => ⟨2048, 2048, 512, 2048, Memref.whole main_arg5, Memref.whole main_v1_5, Memref.isWhole_whole _, Memref.isWhole_whole _, squeezes_S1x512x2048_S512x2048⟩
  | 6 => ⟨2048, 11264, 2048, 2816, Memref.whole main_arg6, Memref.whole main_v1_6, Memref.isWhole_whole _, Memref.isWhole_whole _, squeezes_S1x2048x2816_S2048x2816⟩
  | 7 => ⟨5632, 2048, 1408, 2048, Memref.whole main_arg7, Memref.whole main_v1_7, Memref.isWhole_whole _, Memref.isWhole_whole _, squeezes_S1x1408x2048_S1408x2048⟩

/-- The piece of a block at offsets `o`. -/
abbrev pieceAt (I : Item) (o : Fin 2 → ℕ) (h : ∀ a, o a + (sh2 I.r I.w).size a ≤ (sh2 I.R I.W).size a) : Memref sig .tc .hbm (sh2 I.r I.w) .bf16 :=
  I.src.slice (Rect.unit (s := sh2 I.R I.W) o (sh2 I.r I.w).size h) (fun _ => rfl)

/-- The slot of a result at offsets `o`. -/
abbrev slotAt (I : Item) (o : Fin 3 → ℕ) (h : ∀ a, o a + (sh3 1 I.r I.w).size a ≤ (sh3 8 I.r I.w).size a) : Memref sig .tc .hbm (sh2 I.r I.w) .bf16 :=
  (I.out.slice (Rect.unit (s := sh3 8 I.r I.w) o (sh3 1 I.r I.w).size h) (fun _ => rfl)).squeeze (sh2 I.r I.w) I.sq

/-! ## Offsets and devices, as the kernel computes them -/

/-- Where array `i` is cut by columns (`true`) or by rows. -/
abbrev byCol : Fin 8 → Bool := ![true, false, false, false, false, false, true, false]

/-- The offsets of the piece device `d` sends to peer `k` (three chips, then its sibling), -/
def offP (i : Fin 8) (k : Fin 4) (d : Dev nD) : Fin 2 → ℕ :=
  match i, k with
  | 0, 0 => k0_off3 d | 0, 1 => k0_off4 d | 0, 2 => k0_off5 d | 0, 3 => k0_off2 d
  | 1, 0 => k0_off8 d | 1, 1 => k0_off9 d | 1, 2 => k0_off10 d | 1, 3 => k0_off7 d
  | 2, 0 => k0_off8 d | 2, 1 => k0_off9 d | 2, 2 => k0_off10 d | 2, 3 => k0_off7 d
  | 3, 0 => k0_off8 d | 3, 1 => k0_off9 d | 3, 2 => k0_off10 d | 3, 3 => k0_off7 d
  | 4, 0 => k0_off8 d | 4, 1 => k0_off9 d | 4, 2 => k0_off10 d | 4, 3 => k0_off7 d
  | 5, 0 => k0_off8 d | 5, 1 => k0_off9 d | 5, 2 => k0_off10 d | 5, 3 => k0_off7 d
  | 6, 0 => k0_off13 d | 6, 1 => k0_off14 d | 6, 2 => k0_off15 d | 6, 3 => k0_off12 d
  | 7, 0 => k0_off18 d | 7, 1 => k0_off19 d | 7, 2 => k0_off20 d | 7, 3 => k0_off17 d

/-- of its own slot, -/
def offM (i : Fin 8) (d : Dev nD) : Fin 3 → ℕ :=
  match i with
  | 0 => k0_off1 d | 1 => k0_off6 d | 2 => k0_off6 d | 3 => k0_off6 d | 4 => k0_off6 d | 5 => k0_off6 d | 6 => k0_off11 d | 7 => k0_off16 d

/-- of the slot of the peer on chip `j`, -/
def offF (i : Fin 8) (j : Fin 3) (d : Dev nD) : Fin 3 → ℕ :=
  match i, j with
  | 0, 0 => k0_off21 d | 0, 1 => k0_off22 d | 0, 2 => k0_off23 d
  | 1, 0 => k0_off24 d | 1, 1 => k0_off25 d | 1, 2 => k0_off26 d
  | 2, 0 => k0_off24 d | 2, 1 => k0_off25 d | 2, 2 => k0_off26 d
  | 3, 0 => k0_off24 d | 3, 1 => k0_off25 d | 3, 2 => k0_off26 d
  | 4, 0 => k0_off24 d | 4, 1 => k0_off25 d | 4, 2 => k0_off26 d
  | 5, 0 => k0_off24 d | 5, 1 => k0_off25 d | 5, 2 => k0_off26 d
  | 6, 0 => k0_off27 d | 6, 1 => k0_off28 d | 6, 2 => k0_off29 d
  | 7, 0 => k0_off30 d | 7, 1 => k0_off31 d | 7, 2 => k0_off32 d

/-- of its sibling's slot, -/
def offS (i : Fin 8) (d : Dev nD) : Fin 3 → ℕ :=
  match i with
  | 0 => k0_off33 d | 1 => k0_off37 d | 2 => k0_off37 d | 3 => k0_off37 d | 4 => k0_off37 d | 5 => k0_off37 d | 6 => k0_off41 d | 7 => k0_off45 d

/-- and of the slot of that peer's sibling. -/
def offG (i : Fin 8) (j : Fin 3) (d : Dev nD) : Fin 3 → ℕ :=
  match i, j with
  | 0, 0 => k0_off34 d | 0, 1 => k0_off35 d | 0, 2 => k0_off36 d
  | 1, 0 => k0_off38 d | 1, 1 => k0_off39 d | 1, 2 => k0_off40 d
  | 2, 0 => k0_off38 d | 2, 1 => k0_off39 d | 2, 2 => k0_off40 d
  | 3, 0 => k0_off38 d | 3, 1 => k0_off39 d | 3, 2 => k0_off40 d
  | 4, 0 => k0_off38 d | 4, 1 => k0_off39 d | 4, 2 => k0_off40 d
  | 5, 0 => k0_off38 d | 5, 1 => k0_off39 d | 5, 2 => k0_off40 d
  | 6, 0 => k0_off42 d | 6, 1 => k0_off43 d | 6, 2 => k0_off44 d
  | 7, 0 => k0_off46 d | 7, 1 => k0_off47 d | 7, 2 => k0_off48 d

/-- The device peer `k` of device `d` is (the kernel computes it anew for each array by the same words). -/
def dev (k : Fin 4) (d : Dev nD) : Dev nD :=
  match k with
  | 0 => ⟨k0_dev2 d, k0_dev2_lt d⟩ | 1 => ⟨k0_dev3 d, k0_dev3_lt d⟩ | 2 => ⟨k0_dev4 d, k0_dev4_lt d⟩ | 3 => ⟨k0_dev1 d, k0_dev1_lt d⟩

/-! ### Their closed forms -/

/-- Peer `k` of device `d`: the peers on the other three chips, then the sibling. -/
abbrev pxor : Fin 4 → ℕ := ![4, 2, 6, 1]

def peer (k : Fin 4) (d : Dev nD) : Dev nD := ⟨(d.val ^^^ pxor k) % 8, Nat.mod_lt _ (by decide)⟩

theorem peer_peer (k : Fin 4) (d : Dev nD) : peer k (peer k d) = d := by revert k d; decide
theorem peer_comm (k k' : Fin 4) (d : Dev nD) : peer k (peer k' d) = peer k' (peer k d) := by revert k k' d; decide

/-- The chip of device `d`. -/
def chip (d : Dev nD) : Fin 4 := ⟨d.val / 2, by have : d.val < 8 := d.isLt; omega⟩

theorem chip_sib (d : Dev nD) : chip (peer 3 d) = chip d := by revert d; decide

/-- The offsets of chip `x`'s piece. -/
abbrev pieceOff (i : Fin 8) (x : Fin 4) : Fin 2 → ℕ :=
  if byCol i then ![0, x.val * (item i).w] else ![x.val * (item i).r, 0]
/-- The offsets of device `s`'s slot. -/
abbrev slotOff (s : Dev nD) : Fin 3 → ℕ := ![s.val, 0, 0]

theorem dev_eq (k : Fin 4) (d : Dev nD) : dev k d = peer k d := by revert k d; decide +kernel
theorem offP_eq (i : Fin 8) (k : Fin 4) (d : Dev nD) : offP i k d = pieceOff i (chip (peer k d)) := by revert i k d; decide +kernel
theorem offM_eq (i : Fin 8) (d : Dev nD) : offM i d = slotOff d := by revert i d; decide +kernel
theorem offF_eq (i : Fin 8) (j : Fin 3) (d : Dev nD) : offF i j d = slotOff (peer j.castSucc d) := by revert i j d; decide +kernel
theorem offS_eq (i : Fin 8) (d : Dev nD) : offS i d = slotOff (peer 3 d) := by revert i d; decide +kernel
theorem offG_eq (i : Fin 8) (j : Fin 3) (d : Dev nD) : offG i j d = slotOff (peer 3 (peer j.castSucc d)) := by revert i j d; decide +kernel

theorem piece_inb (i : Fin 8) (x : Fin 4) : ∀ a, pieceOff i x a + (sh2 (item i).r (item i).w).size a ≤ (sh2 (item i).R (item i).W).size a := by
  revert i x; decide +kernel
theorem slot_inb (I : Item) (s : Dev nD) : ∀ a, slotOff s a + (sh3 1 I.r I.w).size a ≤ (sh3 8 I.r I.w).size a := by
  have : s.val < 8 := s.isLt
  intro a; fin_cases a <;> simp <;> omega

theorem piece_words (i : Fin 8) (x : Fin 4) :
    (Rect.unit (s := sh2 (item i).R (item i).W) (pieceOff i x) (sh2 (item i).r (item i).w).size (piece_inb i x)).WholeWords (EltTy.packing .bf16) := by
  revert i x; decide +kernel
theorem slot_words (i : Fin 8) (s : Dev nD) :
    (Rect.unit (s := sh3 8 (item i).r (item i).w) (slotOff s) (sh3 1 (item i).r (item i).w).size (slot_inb (item i) s)).WholeWords (EltTy.packing .bf16) := by
  revert i s; decide +kernel

end Cert.KernelIdeal.Grads

end
-- ==== Proof.Program.lean ====
/-
  The kernel's body is four loops over the eight arrays (`body_eq`): every transfer's start; each peer's arrival and
  its forwarding to the sibling; the arrivals from the sibling; the waits for the device's own sends.
-/
module

public import proofs.«01_k».proof.Proof.Table

@[expose] public section

set_option maxRecDepth 16384

noncomputable section

namespace Cert.KernelIdeal.Grads

open Cert.KernelIdeal.Gen
open Idealize.ShloMosaic Idealize.ShloMosaic.TcCoe Idealize.ShloMosaic.Tactic
open Idealize.SL Idealize.SL.Sem

variable {F : FTy → Type} [FloatOps F]

/-! ## Views -/

/-- Chip `x`'s piece of array `i`, -/
def pieceM (i : Fin 8) (x : Fin 4) : Memref sig .tc .hbm (sh2 (item i).r (item i).w) .bf16 := pieceAt (item i) (pieceOff i x) (piece_inb i x)
/-- and device `s`'s slot of result `i`. -/
def slotM (i : Fin 8) (s : Dev nD) : Memref sig .tc .hbm (sh2 (item i).r (item i).w) .bf16 := slotAt (item i) (slotOff s) (slot_inb (item i) s)

theorem pieceM_words (i : Fin 8) (x : Fin 4) : (pieceM i x).view.WordExact := (item i).hsrc.wordExact_slice rfl _ (piece_words i x)
theorem slotM_words (i : Fin 8) (s : Dev nD) : (slotM i s).view.WordExact := ((item i).hout.wordExact_slice rfl _ (slot_words i s)).reshape _ _

theorem offP_inb (i : Fin 8) (k : Fin 4) (d : Dev nD) : ∀ a, offP i k d a + (sh2 (item i).r (item i).w).size a ≤ (sh2 (item i).R (item i).W).size a := by
  rw [offP_eq]; exact piece_inb _ _
theorem offM_inb (i : Fin 8) (d : Dev nD) : ∀ a, offM i d a + (sh3 1 (item i).r (item i).w).size a ≤ (sh3 8 (item i).r (item i).w).size a := by
  rw [offM_eq]; exact slot_inb _ _
theorem offF_inb (i : Fin 8) (j : Fin 3) (d : Dev nD) : ∀ a, offF i j d a + (sh3 1 (item i).r (item i).w).size a ≤ (sh3 8 (item i).r (item i).w).size a := by
  rw [offF_eq]; exact slot_inb _ _
theorem offS_inb (i : Fin 8) (d : Dev nD) : ∀ a, offS i d a + (sh3 1 (item i).r (item i).w).size a ≤ (sh3 8 (item i).r (item i).w).size a := by
  rw [offS_eq]; exact slot_inb _ _
theorem offG_inb (i : Fin 8) (j : Fin 3) (d : Dev nD) : ∀ a, offG i j d a + (sh3 1 (item i).r (item i).w).size a ≤ (sh3 8 (item i).r (item i).w).size a := by
  rw [offG_eq]; exact slot_inb _ _

/-- The same views at the offsets as the kernel computes them. -/
def pieceT (i : Fin 8) (k : Fin 4) (d : Dev nD) : Memref sig .tc .hbm (sh2 (item i).r (item i).w) .bf16 := pieceAt (item i) (offP i k d) (offP_inb i k d)
def slotT (i : Fin 8) (o : Fin 3 → ℕ) (h : ∀ a, o a + (sh3 1 (item i).r (item i).w).size a ≤ (sh3 8 (item i).r (item i).w).size a) :
    Memref sig .tc .hbm (sh2 (item i).r (item i).w) .bf16 := slotAt (item i) o h

theorem pieceT_eq (i : Fin 8) (k : Fin 4) (d : Dev nD) : pieceT i k d = pieceM i (chip (peer k d)) :=
  Memref.slice_unit_congr _ (offP_eq i k d) _ _ (fun _ => rfl) (fun _ => rfl)
theorem slotT_eq (i : Fin 8) {o : Fin 3 → ℕ} (s : Dev nD) (e : o = slotOff s) (h) : slotT i o h = slotM i s := by subst e; rfl

theorem pieceT_words (i : Fin 8) (k : Fin 4) (d : Dev nD) : (pieceT i k d).view.WordExact := by rw [pieceT_eq]; exact pieceM_words _ _
theorem slotT_words (i : Fin 8) {o : Fin 3 → ℕ} (s : Dev nD) (e : o = slotOff s) (h) : (slotT i o h).view.WordExact := by
  rw [slotT_eq i s e]; exact slotM_words _ _

/-! ## Semaphores -/

/-- The seven transfers of an array to other devices: a push to each of the four peers, and the relay to the sibling of
    what each of the three peers on other chips sent. -/
abbrev T := Fin 4 ⊕ Fin 3

/-- What a semaphore counts: a transfer sent, its arrival, the copy on the device. -/
abbrev Kind := T ⊕ T ⊕ Unit

abbrev Kind.snd (t : T) : Kind := .inl t
abbrev Kind.rcv (t : T) : Kind := .inr (.inl t)
abbrev Kind.lcl : Kind := .inr (.inr ())

/-- The number of array `i`'s semaphore of a kind. -/
def semNo (i : Fin 8) : Kind → ℕ
  | .inl (.inl k) => if k.val = 3 then 96 + i.val else 3 * i.val + k.val
  | .inr (.inl (.inl k)) => if k.val = 3 then 104 + i.val else 24 + (3 * i.val + k.val)
  | .inl (.inr j) => 48 + (3 * i.val + j.val)
  | .inr (.inl (.inr j)) => 72 + (3 * i.val + j.val)
  | .inr (.inr _) => 112 + i.val

theorem semNo_lt (i : Fin 8) (κ : Kind) : semNo i κ < sig.nDmaSem := by revert i κ; decide +kernel

/-- Array `i`'s semaphore of a kind. -/
def sem (i : Fin 8) (κ : Kind) : DmaSem sig := ⟨semNo i κ, semNo_lt i κ⟩

set_option synthInstance.maxHeartbeats 400000 in
set_option synthInstance.maxSize 4096 in
theorem semNo_inj : ∀ a b : Fin 8 × Kind, semNo a.1 a.2 = semNo b.1 b.2 → a = b := by decide +kernel
theorem sem_inj {i i' : Fin 8} {κ κ' : Kind} (h : sem i κ = sem i' κ') : (i, κ) = (i', κ') := semNo_inj (i, κ) (i', κ') (congrArg Fin.val h)

/-! ## Steps -/

section Steps

variable (F)

/-- A program of the kernel. -/
abbrev KProg := Prog (TpuEff nD τ sig (Elt F) Λ₀ .tc) PUnit

variable {F}
variable {s : Shape} (src dst : Memref sig .tc .hbm s .bf16)

/-- Start a copy on the device. -/
def localS (q : DmaSem sig) (h₁ : src.view.WordExact) (h₂ : dst.view.WordExact) (k : KProg F) : KProg F :=
  .op (.enqueueDma src (.here dst) (.dma q) h₁ h₂ ⟨Or.inl rfl, trivial⟩) fun _ => k
/-- Start a copy to device `n`. -/
def sendS (n : Dev nD) (qS qR : DmaSem sig) (h₁ : src.view.WordExact) (h₂ : dst.view.WordExact) (k : KProg F) : KProg F :=
  .op (.enqueueDma src (.remote (Dev.tc n) dst (.dma qS)) (.dma qR) h₁ h₂ ⟨⟨rfl, Or.inl rfl⟩, trivial⟩) fun _ => k
/-- Wait for a copy. -/
def waitS (q : DmaSem sig) (h₁ : src.view.WordExact) (h₂ : dst.view.WordExact) (k : KProg F) : KProg F :=
  .op (.waitDma2 q src dst h₁ h₂) fun _ => k

end Steps

variable (d : Dev nD)

/-- The start of array `i`'s send to peer `p`, -/
def push (i : Fin 8) (p : Fin 4) : KProg F → KProg F :=
  sendS (pieceT i p d) (slotT i (offM i d) (offM_inb i d)) (dev p d) (sem i (.snd (.inl p))) (sem i (.rcv (.inl p))) (pieceT_words i p d) (slotT_words i d (offM_eq i d) _)
/-- its arrival from peer `j` and its forwarding, -/
def relay (i : Fin 8) (j : Fin 3) (k : KProg F) : KProg F :=
  waitS (pieceT i j.castSucc d) (slotT i (offF i j d) (offF_inb i j d)) (sem i (.rcv (.inl j.castSucc))) (pieceT_words _ _ d) (slotT_words i _ (offF_eq i j d) _) <|
  sendS (slotT i (offF i j d) (offF_inb i j d)) (slotT i (offF i j d) (offF_inb i j d)) (dev 3 d) (sem i (.snd (.inr j))) (sem i (.rcv (.inr j)))
    (slotT_words i _ (offF_eq i j d) _) (slotT_words i _ (offF_eq i j d) _) k
/-- the arrival of what the sibling forwards, -/
def arrive (i : Fin 8) (j : Fin 3) : KProg F → KProg F :=
  waitS (slotT i (offG i j d) (offG_inb i j d)) (slotT i (offG i j d) (offG_inb i j d)) (sem i (.rcv (.inr j))) (slotT_words i _ (offG_eq i j d) _) (slotT_words i _ (offG_eq i j d) _)
/-- and the waits for the sends to peer `j` and to the sibling. -/
def drain (i : Fin 8) (j : Fin 3) (k : KProg F) : KProg F :=
  waitS (slotT i (offM i d) (offM_inb i d)) (pieceT i j.castSucc d) (sem i (.snd (.inl j.castSucc))) (slotT_words i d (offM_eq i d) _) (pieceT_words _ _ d) <|
  waitS (slotT i (offF i j d) (offF_inb i j d)) (slotT i (offF i j d) (offF_inb i j d)) (sem i (.snd (.inr j))) (slotT_words i _ (offF_eq i j d) _) (slotT_words i _ (offF_eq i j d) _) k

abbrev items : List (Fin 8) := [0, 1, 2, 3, 4, 5, 6, 7]
abbrev chips : List (Fin 3) := [0, 1, 2]

/-- Array `i`'s part of each of the four loops. -/
def start (i : Fin 8) (k : KProg F) : KProg F :=
  localS (pieceT i 3 d) (slotT i (offM i d) (offM_inb i d)) (sem i .lcl) (pieceT_words i 3 d) (slotT_words i d (offM_eq i d) _) <|
  [3, 0, 1, 2].foldr (push d i) k
def relays (i : Fin 8) (k : KProg F) : KProg F := chips.foldr (relay d i) k
def arrivals (i : Fin 8) (k : KProg F) : KProg F :=
  waitS (pieceT i 3 d) (slotT i (offS i d) (offS_inb i d)) (sem i (.rcv (.inl 3))) (pieceT_words _ _ d) (slotT_words i _ (offS_eq i d) _) <|
  chips.foldr (arrive d i) k
def drains (i : Fin 8) (k : KProg F) : KProg F :=
  waitS (slotT i (offM i d) (offM_inb i d)) (pieceT i 3 d) (sem i (.snd (.inl 3))) (slotT_words i d (offM_eq i d) _) (pieceT_words _ _ d) <|
  chips.foldr (drain d i) <|
  waitS (pieceT i 3 d) (slotT i (offM i d) (offM_inb i d)) (sem i .lcl) (pieceT_words i 3 d) (slotT_words i d (offM_eq i d) _) k

variable (F) in
/-- The body. -/
def prog : KProg F :=
  .op .deviceId fun d => items.foldr (start d) <| items.foldr (relays d) <| items.foldr (arrivals d) <| items.foldr (drains d) (.ret ⟨⟩)

/-- The body the kernel runs is these four loops. -/
theorem body_eq :
    cc0_gather_grads (F := F) (Memref.whole main_arg0) (Memref.isWhole_whole _) (Memref.whole main_arg1) (Memref.isWhole_whole _)
      (Memref.whole main_arg2) (Memref.isWhole_whole _) (Memref.whole main_arg3) (Memref.isWhole_whole _) (Memref.whole main_arg4) (Memref.isWhole_whole _)
      (Memref.whole main_arg5) (Memref.isWhole_whole _) (Memref.whole main_arg6) (Memref.isWhole_whole _) (Memref.whole main_arg7) (Memref.isWhole_whole _)
      (Memref.whole main_v1_0) (Memref.isWhole_whole _) (Memref.whole main_v1_1) (Memref.isWhole_whole _) (Memref.whole main_v1_2) (Memref.isWhole_whole _)
      (Memref.whole main_v1_3) (Memref.isWhole_whole _) (Memref.whole main_v1_4) (Memref.isWhole_whole _) (Memref.whole main_v1_5) (Memref.isWhole_whole _)
      (Memref.whole main_v1_6) (Memref.isWhole_whole _) (Memref.whole main_v1_7) (Memref.isWhole_whole _)
      cc0_scratch0 cc0_scratch1 cc0_scratch2 cc0_scratch3 cc0_scratch4 cc0_scratch5 cc0_scratch6 = prog F := by
  chain_rfl

end Cert.KernelIdeal.Grads

end
-- ==== Proof.Schedule.lean ====
/-
  The protocol of the gather's 120 semaphores per device. Each is a cell of the rounds library with one round of one
  duty: its transfer's. An arrival hands its device the slot written, at the sender's piece; a sent transfer hands back
  nothing (a piece is read under a share that is not needed again, a relayed slot likewise). What each device owes at
  launch: its transfers' credits. Levels: the arrivals from the sibling's relays above everything else, since a device
  waits for its other arrivals while it owes its relays, and for everything else owing nothing.
-/
module

public import proofs.«01_k».proof.Proof.Program

@[expose] public section

set_option maxRecDepth 16384

noncomputable section

namespace Cert.KernelIdeal.Grads

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds and the kernel's -/

abbrev URn (nD : Nat) (τ : Topo) : Type := URounds (GSem nD τ sig) Unit
abbrev UU (nD : Nat) (τ : Topo) : Type := URn nD τ × URn nD τ

local notation "𝕄" => MT nD τ sig Unit (Elt F) ℕ (UU nD τ) ℕ

def EP : Emb (URn nD τ) (MT nD τ sig Unit (Elt F) ℕ (UU nD τ) ℕ) :=
  (Emb.inl : Emb (URn nD τ) (UU nD τ)).trans (uEmb (nD := nD) (sig := sig) (Ix := Unit) (Val := Elt F) (Name := ℕ) (U := UU nD τ) (Lvl := ℕ)).toEmb
def ER : Emb (URn nD τ) (MT nD τ sig Unit (Elt F) ℕ (UU nD τ) ℕ) :=
  (Emb.inr : Emb (URn nD τ) (UU nD τ)).trans (uEmb (nD := nD) (sig := sig) (Ix := Unit) (Val := Elt F) (Name := ℕ) (U := UU nD τ) (Lvl := ℕ)).toEmb

instance EP_landsIn : (EP : Emb (URn nD τ) 𝕄).LandsIn (upEmb : UEmb _ 𝕄) := by unfold EP; infer_instance
instance ER_landsIn : (ER : Emb (URn nD τ) 𝕄).LandsIn (upEmb : UEmb _ 𝕄) := by unfold ER; infer_instance

variable (m : (ℓ : Loc nD τ sig) → Buf (Elt F) ℓ)

/-! ## Transfers -/

/-- The peer a transfer goes to (and comes from: peers are mutual), -/
def T.to : T → Fin 4 := Sum.elim id fun _ => 3
/-- the slot device `c` writes with it, -/
def sslot (t : T) (c : Dev nD) : Dev nD := t.elim (fun _ => c) fun j => peer j.castSucc c
/-- and the slot device `c` receives with it. -/
def rslot (t : T) (c : Dev nD) : Dev nD := sslot t (peer t.to c)

theorem rslot_peer (t : T) (c : Dev nD) : rslot t (peer t.to c) = sslot t c := by unfold rslot; rw [peer_peer]

/-- The cell of a device's semaphore. -/
abbrev cell (c : Dev nD) (x : Fin 8 × Kind) : GSem nD τ sig := ((c : Thread nD τ), .dma (sem x.1 x.2))

/-- What a transfer of array `i` credits. -/
abbrev N (i : Fin 8) : ℕ := (slotM i 0).view.dmaCredit

theorem N_slot (i : Fin 8) (s : Dev nD) : (slotM i s).view.dmaCredit = N i := rfl
theorem N_piece (i : Fin 8) (x : Fin 4) : (pieceM i x).view.dmaCredit = N i := by fin_cases i <;> rfl
theorem N_pos (i : Fin 8) : 0 < N i := View.dmaCredit_pos _ (by fin_cases i <;> decide)

/-! ## Contents -/

/-- Chip `chip c`'s piece of array `i` on device `s`: what device `c`'s slot `s` ends holding. -/
def val (i : Fin 8) (s c : Dev nD) : (sh2 (item i).r (item i).w).Idx → Elt F .bf16 :=
  (pieceM i (chip c)).view.read (Elt F) (m ((pieceM i (chip c)).view.loc (s : Thread nD τ)))

/-- Some share of a piece at its launch contents. -/
def piece (i : Fin 8) (x : Fin 4) (c : Dev nD) : sProp 𝕄 :=
  iprop(∃ q, (pieceM i x).view.loc (c : Thread nD τ) ↦[(pieceM i x).view.set]{q} m ((pieceM i x).view.loc (c : Thread nD τ)))
/-- Device `c`'s slot `s` at anything, -/
def slotAny (i : Fin 8) (s c : Dev nD) : sProp 𝕄 :=
  iprop(∃ f, (slotM i s).view.loc (c : Thread nD τ) ↦[(slotM i s).view.set]{fullShare} f)
/-- and a share of it at the piece gathered. -/
def slotHas (q : PosShare TreeShare) (i : Fin 8) (s c : Dev nD) : sProp 𝕄 :=
  iprop(∃ f, ⌜(slotM i s).view.read (Elt F) f = val m i s c⌝ ∗ (slotM i s).view.loc (c : Thread nD τ) ↦[(slotM i s).view.set]{q} f)

omit [FloatOps F] in
theorem slotHas_split (i : Fin 8) (s c : Dev nD) :
    (slotHas m fullShare i s c : sProp 𝕄) ⊢ iprop(slotHas m fullShare.left i s c ∗ slotHas m fullShare.right i s c) := by
  unfold slotHas
  iintro ⟨%f, %hf, H⟩
  ihave H2 := (pointsTo_share (PosShare.mem_left_op_right fullShare)).1 $$ H
  icases H2 with ⟨H1, H2⟩
  isplitl [H1]
  · iexists f; isplitr; · (ipureintro; exact hf)
    iexact H1
  · iexists f; isplitr; · (ipureintro; exact hf)
    iexact H2

/-! ## The schedule -/

/-- What a cell's one duty hands its device. -/
def pay (c : Dev nD) : Fin 8 × Kind → sProp 𝕄
  | (_, .inl _) => iprop(emp)
  | (i, .inr (.inl t)) => slotHas m fullShare i (rslot t c) c
  | (i, .inr (.inr _)) => slotHas m fullShare i c c

instance pay_storable (c : Dev nD) (x : Fin 8 × Kind) : BI.Storable (upEmb : UEmb _ 𝕄) (pay (F := F) m c x) := by
  obtain ⟨i, (_ | _ | _)⟩ := x <;> unfold pay <;> (try unfold slotHas) <;> infer_instance

/-- The array and kind of a semaphore. -/
def dec (q : DmaSem sig) : Fin 8 × Kind := Function.invFun (fun x : Fin 8 × Kind => sem x.1 x.2) q

theorem dec_sem (x : Fin 8 × Kind) : dec (sem x.1 x.2) = x :=
  Function.leftInverse_invFun (f := fun x : Fin 8 × Kind => sem x.1 x.2) (fun _ _ h => sem_inj h) x

def amountAt : SemLoc sig → ℕ
  | .dma q => N (dec q).1
  | _ => 1
def payAt (c : Dev nD) : SemLoc sig → sProp 𝕄
  | .dma q => pay m c (dec q)
  | _ => iprop(emp)

instance payAt_storable (c : Dev nD) (l : SemLoc sig) : BI.Storable (upEmb : UEmb _ 𝕄) (payAt (F := F) m c l) := by
  unfold payAt; split <;> infer_instance

/-- The kernel's schedule: one round of one duty on every cell of a TensorCore. -/
def Rd : Rounds.Schedule (GSem nD τ sig) Unit 𝕄 where
  duties g r := if r = 0 ∧ g.1.2 = .tc then {()} else ∅
  unitless _ := False
  amount g _ _ := amountAt g.2
  payload g _ _ := payAt m g.1.1 g.2
  amount_pos g _ _ _ := by
    show 0 < amountAt g.2
    unfold amountAt; split
    · exact N_pos _
    · exact Nat.one_pos

instance Rd_storable (g : GSem nD τ sig) (r : ℕ) (d : Unit) : BI.Storable (upEmb : UEmb _ 𝕄) ((Rd (F := F) m).payload g r d) :=
  payAt_storable m g.1.1 g.2

section Sched
variable (c : Dev nD) (x : Fin 8 × Kind)

omit [FloatOps F] in
theorem duties_cell : (Rd (F := F) m).duties (cell c x) 0 = {()} := by dsimp only [Rd]; exact if_pos ⟨rfl, rfl⟩
omit [FloatOps F] in
theorem duties_later (g : GSem nD τ sig) : ∀ r, 1 ≤ r → (Rd (F := F) m).duties g r = ∅ :=
  fun r hr => by dsimp only [Rd]; exact if_neg fun h => by omega
omit [FloatOps F] in
theorem amount_cell (u : Unit) : (Rd (F := F) m).amount (cell c x) 0 u = N x.1 := by
  show N (dec (sem x.1 x.2)).1 = _; rw [dec_sem]
omit [FloatOps F] in
theorem payload_cell (u : Unit) : (Rd (F := F) m).payload (cell c x) 0 u = pay m c x := by
  show pay m c (dec (sem x.1 x.2)) = _; rw [dec_sem]
omit [FloatOps F] in
theorem expect_cell : (Rd (F := F) m).expect (cell c x) 0 = N x.1 := by
  unfold Schedule.expect Schedule.amountOf; rw [duties_cell, Finset.sum_singleton, amount_cell]
omit [FloatOps F] in
theorem rest_cell : bigSep ((Rd (F := F) m).duties (cell c x) 0 \ ∅) (fun u => (Rd (F := F) m).payload (cell c x) 0 u) = pay m c x := by
  rw [Finset.sdiff_empty, duties_cell, bigSep_singleton, payload_cell]

end Sched

/-! ## What each device owes, and the levels -/

/-- The cell the `t`-th transfer of array `i` from device `c` arrives at. -/
abbrev dcell (c : Dev nD) (x : Fin 8 × T) : GSem nD τ sig := cell (peer x.2.to c) (x.1, .rcv x.2)

/-- What device `c` owes while the transfers `l` are to come. -/
def owed (c : Dev nD) : List (Fin 8 × T) → CellTallies nD τ sig Unit
  | [] => 0
  | x :: l => owed c l + tallyAt (dcell c x) () (N x.1)

/-- The pushes of an array, the relays of an array, in the kernel's order. -/
abbrev pushes (i : Fin 8) : List (Fin 8 × T) := [3, 0, 1, 2].map fun p => (i, .inl p)
abbrev relaysOf (i : Fin 8) : List (Fin 8 × T) := chips.map fun j => (i, .inr j)

/-- What device `c` owes at launch. -/
abbrev O₀ (c : Dev nD) : CellTallies nD τ sig Unit := owed c (items.flatMap pushes ++ items.flatMap relaysOf)

/-- The relays' arrivals are above every other cell. -/
def high : SemLoc sig → Bool
  | .dma q => decide (72 ≤ q.val) && decide (q.val < 96)
  | _ => false

def L (g : GSem nD τ sig) : Finset Unit := if g.1.2 = .tc then {()} else ∅
def lv (g : GSem nD τ sig) (_ : Unit) : ℕ := if high g.2 then 1 else 0

theorem L_of_ne (g : GSem nD τ sig) (h : g.1.2 ≠ .tc) : L g = ∅ := if_neg h
theorem L_tc (c : Dev nD) (sm : SemLoc sig) : L ((c : Thread nD τ), sm) = {()} := if_pos rfl

theorem high_relay (i : Fin 8) (j : Fin 3) : high (.dma (sem i (.rcv (.inr j)))) = true := by revert i j; decide +kernel
theorem high_push (i : Fin 8) (p : Fin 4) : high (.dma (sem i (.rcv (.inl p)))) = false := by revert i p; decide +kernel

/-- What a device owes it owes to the cells its transfers arrive at. -/
theorem owed_pos (c : Dev nD) (l : List (Fin 8 × T)) {g : GSem nD τ sig} {u : Unit} (h : 0 < owed c l g u) : ∃ x ∈ l, g = dcell c x := by
  induction l with
  | nil => exact absurd h (Nat.lt_irrefl 0)
  | cons x l ih =>
    unfold owed at h
    rw [Pi.add_apply, Finsupp.add_apply, tallyAt_apply] at h
    by_cases hg : g = dcell c x ∧ u = ()
    · exact ⟨x, List.mem_cons_self, hg.1⟩
    · rw [if_neg hg, Nat.add_zero] at h
      obtain ⟨y, hy, e⟩ := ih h
      exact ⟨y, List.mem_cons_of_mem _ hy, e⟩

omit [FloatOps F] in
/-- A device may wait for an arrival that is no relay's while it owes relays only. -/
theorem mayWait_push (c : Dev nD) (i : Fin 8) (p : Fin 4) (l : List (Fin 8 × T)) (hl : ∀ x ∈ l, ∃ j, x.2 = .inr j) :
    (levAts L lv : sProp 𝕄) ⊢ MayWait (c : Thread nD τ) (.dma (sem i (.rcv (.inl p)))) () (owed c l) :=
  MayOwe.of_cut (L := L) (lev := lv) 0 (fun q hq => by rw [Finset.mem_singleton.mp hq, L_tc]; exact Finset.mem_singleton_self _)
    (fun g u hg => by obtain ⟨x, -, rfl⟩ := owed_pos c l hg; rw [L_tc]; exact Finset.mem_singleton_self _)
    (fun q hq => by rw [Finset.mem_singleton.mp hq]; dsimp only [lv]; rw [high_push]; decide)
    (fun g u hg => by
      obtain ⟨x, hx, rfl⟩ := owed_pos c l hg
      obtain ⟨j, hj⟩ := hl x hx
      have e : high (dcell c x).2 = true := by show high (.dma (sem x.1 (.rcv x.2))) = true; rw [hj]; exact high_relay _ _
      show 0 < if high (dcell c x).2 = true then 1 else 0
      rw [if_pos e]; exact Nat.one_pos)

end Cert.KernelIdeal.Grads

end
-- ==== Proof.Steps.lean ====
/-
  One rule per step of the body, at a device and an array that are variables: the copy on the device, a transfer to a peer,
  a wait. And the rule for a loop over a list.
-/
module

public import proofs.«01_k».proof.Proof.Schedule

@[expose] public section

set_option maxRecDepth 16384

noncomputable section

namespace Cert.KernelIdeal.Grads

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

/-! ## What is known throughout -/

/-- Every cell's invariant, and that it has reached round 0. -/
def records (K : Dev nD × (Fin 8 × Kind) → ℕ) : sProp 𝕄 :=
  iprop((bigSep Finset.univ fun y : Dev nD × (Fin 8 × Kind) => cellInv ER (Rd m) (K y) (cell y.1 y.2))
    ∗ bigSep Finset.univ fun y : Dev nD × (Fin 8 × Kind) => reached ER (cell y.1 y.2) 0)
/-- The same with the levels. -/
def recs (K : Dev nD × (Fin 8 × Kind) → ℕ) : sProp 𝕄 := iprop(records m K ∗ levAts L lv)

instance records_persistent (K : Dev nD × (Fin 8 × Kind) → ℕ) : BI.Persistent (records (F := F) m K) := by unfold records; infer_instance
instance recs_persistent (K : Dev nD × (Fin 8 × Kind) → ℕ) : BI.Persistent (recs (F := F) m K) := by unfold recs; infer_instance

theorem recs_inv (K : Dev nD × (Fin 8 × Kind) → ℕ) (c : Dev nD) (x : Fin 8 × Kind) :
    recs (F := F) m K ⊢ cellInv ER (Rd m) (K (c, x)) (cell c x) := by
  have e : (bigSep Finset.univ fun y : Dev nD × (Fin 8 × Kind) => (cellInv ER (Rd m) (K y) (cell y.1 y.2) : sProp 𝕄))
      ⊢ cellInv ER (Rd m) (K (c, x)) (cell c x) := bigSep_elim (Finset.mem_univ (c, x))
  unfold recs records
  iintro ⟨⟨H, -⟩, -⟩
  iapply e $$ H
theorem recs_reached (K : Dev nD × (Fin 8 × Kind) → ℕ) (c : Dev nD) (x : Fin 8 × Kind) :
    recs (F := F) m K ⊢ reached ER (cell c x) 0 := by
  have e : (bigSep Finset.univ fun y : Dev nD × (Fin 8 × Kind) => (reached ER (cell y.1 y.2) 0 : sProp 𝕄)) ⊢ reached ER (cell c x) 0 :=
    bigSep_elim (Finset.mem_univ (c, x))
  unfold recs records
  iintro ⟨⟨-, H⟩, -⟩
  iapply e $$ H
theorem recs_lev (K : Dev nD × (Fin 8 × Kind) → ℕ) : recs (F := F) m K ⊢ (levAts L lv : sProp 𝕄) := by
  unfold recs
  iintro ⟨-, H⟩
  iexact H

abbrev 𝒱₀ : Variants := Variants.none
/-- The weakest precondition of a program of device `c`'s TensorCore. -/
abbrev WP (c : Dev nD) (p : KProg F) (Q : PUnit.{1} → sProp 𝕄) : sProp 𝕄 :=
  wp frame (wpE (defs₀ (F := F)) 𝒱₀ (c : Thread nD τ) none) Set.univ p Q

/-! ## The steps -/

section Steps
variable (K : Dev nD × (Fin 8 × Kind) → ℕ) (c : Dev nD) (i : Fin 8) {k : KProg F}
  {src dst : Memref sig .tc .hbm (sh2 (item i).r (item i).w) .bf16} {h₁ : src.view.WordExact} {h₂ : dst.view.WordExact}

/-- What a wait takes and what it gives. -/
def waitIn (x : Fin 8 × Kind) : sProp 𝕄 := iprop(cred (tallyAt (cell c x) () (N x.1)) ∗ atPos ER (cell c x) 0 ∅ 0)
def waitOut (x : Fin 8 × Kind) : sProp 𝕄 := iprop(atPos ER (cell c x) 1 ∅ 0 ∗ pay m c x)

/-- A wait on a cell whose wait the levels allow. -/
theorem wp_waitS (κ : Kind) (hN : dst.view.dmaCredit = N i) (l : List (Fin 8 × T)) (W : Waits sig Unit)
    {Q : PUnit → sProp 𝕄} (hw : (levAts L lv : sProp 𝕄) ⊢ MayWait (c : Thread nD τ) (.dma (sem i κ)) () (owed c l)) :
    iprop(recs m K ∗ waitIn c (i, κ) ∗ owes (c : Thread nD τ) (owed c l) W
        ∗ (∀ W', waitOut m c (i, κ) ∗ owes (c : Thread nD τ) (owed c l) W' -∗ WP c k Q))
      ⊢ WP c (waitS src dst (sem i κ) h₁ h₂ k) Q := by
  unfold waitS waitIn waitOut
  iintro ⟨#HR, ⟨Hc, Hat⟩, HO, Hk⟩
  ihave #HI := (recs_inv m K c (i, κ)) $$ HR
  ihave #Hl := (recs_lev m K) $$ HR
  iapply (Rounds.wp_wait_rest_token 𝒱₀ ER (Rd m) (c : Thread nD τ) none (κ := K (c, (i, κ)))
      (wpE_waitDma2_eq 𝒱₀ (c : Thread nD τ) none Set.univ) (Set.mem_univ _) () (O := owed c l) (W := W) (R := 0) (m := 0) (T := ∅)
      (by rw [Nat.zero_add, hN]; exact (expect_cell m c (i, κ)).symm)) $$ [Hc HO Hat]
  · isplitr; · iexact HI
    isplitl [Hc]; · (rw [hN]; iexact Hc)
    isplitl [HO]; · iexact HO
    isplitr; · (iapply hw $$ Hl)
    iexact Hat
  iintro ⟨HO, Hat, -, Hpay⟩
  ihave Hp := (Entails.of_eq (rest_cell m c (i, κ))) $$ Hpay
  iapply Hk $$ %_ [Hat Hp HO]
  isplitl [Hat Hp]
  · isplitl [Hat]
    · iexact Hat
    · iexact Hp
  · iexact HO

/-- A transfer to a peer: the piece (or the relayed slot) read under a share that stays behind, the peer's slot written. -/
theorem wp_sendS {Q : PUnit → sProp 𝕄} (t : T) {n : Dev nD} (hn : n = peer t.to c) {src' : Memref sig .tc .hbm (sh2 (item i).r (item i).w) .bf16} (hs : src = src')
    (hd : dst = slotM i (sslot t c)) (q : PosShare TreeShare) (fs : Buf (Elt F) (src'.view.loc (c : Thread nD τ)))
    (hv : src'.view.read (Elt F) fs = val m i (sslot t c) (peer t.to c)) (l : List (Fin 8 × T)) (W : Waits sig Unit) :
    iprop(recs m K ∗ (src'.view.loc (c : Thread nD τ) ↦[src'.view.set]{q} fs) ∗ slotAny i (sslot t c) (peer t.to c)
        ∗ dutyTok ER (cell c (i, .snd t)) 0 () ∗ dutyTok ER (dcell c (i, t)) 0 ()
        ∗ owes (c : Thread nD τ) (owed c ((i, t) :: l)) W
        ∗ (cred (tallyAt (cell c (i, .snd t)) () (N i)) ∗ owes (c : Thread nD τ) (owed c l) W -∗ WP c k Q))
      ⊢ WP c (sendS src dst n (sem i (.snd t)) (sem i (.rcv t)) h₁ h₂ k) Q := by
  subst hn hs hd
  unfold sendS slotAny
  iintro ⟨#HR, Hs, ⟨%fd, Hd⟩, Ht, Ht', HO, Hk⟩
  ihave #HI := (recs_inv m K c (i, .snd t)) $$ HR
  ihave #HI' := (recs_inv m K (peer t.to c) (i, .rcv t)) $$ HR
  ihave #Hr := (recs_reached m K c (i, .snd t)) $$ HR
  ihave #Hr' := (recs_reached m K (peer t.to c) (i, .rcv t)) $$ HR
  iapply (Rounds.wp_send_pointsTo 𝒱₀ ER (Rd m) (c : Thread nD τ) none (κ₁ := K (c, (i, .snd t))) (κ₂ := K (peer t.to c, (i, .rcv t)))
    (r₁ := 0) (r₂ := 0) (d₁ := ()) (d₂ := ()) (fd := fd) (q := q) (fs := fs)
    (by rw [duties_cell m c (i, .snd t)]; exact Finset.mem_singleton_self _)
    (by rw [duties_cell m (peer t.to c) (i, .rcv t)]; exact Finset.mem_singleton_self _)
    () () (N i) rfl (amount_cell m c (i, .snd t) ()) (amount_cell m (peer t.to c) (i, .rcv t) ()) (owed c l) rfl (W := W)
    (by rw [payload_cell m c (i, .snd t)]; unfold pay; iintro -; iempintro)
    (by
      rw [payload_cell m (peer t.to c) (i, .rcv t)]
      show _ ⊢ slotHas m fullShare i (rslot t (peer t.to c)) (peer t.to c)
      rw [rslot_peer]
      unfold slotHas
      iintro H
      iexists ((slotM i (sslot t c)).view.write (Elt F) fd (src.view.read (Elt F) fs) Finset.univ)
      isplitr
      · ipureintro; rw [View.read_write_univ]; exact hv
      · iexact H)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iexact Hk

/-- The copy of a device's own piece to its own slot. -/
theorem wp_localS {Q : PUnit → sProp 𝕄} (hs : src = pieceM i (chip c)) (hd : dst = slotM i c) :
    iprop(recs m K ∗ piece m i (chip c) c ∗ slotAny i c c ∗ dutyTok ER (cell c (i, .lcl)) 0 ()
        ∗ (cred (tallyAt (cell c (i, .lcl)) () (N i)) -∗ WP c k Q))
      ⊢ WP c (localS src dst (sem i .lcl) h₁ h₂ k) Q := by
  subst hs hd
  unfold localS slotAny piece
  iintro ⟨#HR, ⟨%q, Hs⟩, ⟨%fd, Hd⟩, Ht, Hk⟩
  ihave #HI := (recs_inv m K c (i, .lcl)) $$ HR
  ihave #Hr := (recs_reached m K c (i, .lcl)) $$ HR
  iapply (Rounds.wp_copy_pointsTo 𝒱₀ ER (Rd m) (c : Thread nD τ) none (κ := K (c, (i, .lcl)))
    (r := 0) (d := ()) (fd := fd) (q := q)
    (by rw [duties_cell m c (i, .lcl)]; exact Finset.mem_singleton_self _)
    () (N i) rfl (amount_cell m c (i, .lcl) ())
    (by
      rw [payload_cell m c (i, .lcl)]
      unfold pay slotHas
      iintro ⟨H, -⟩
      iexists ((slotM i c).view.write (Elt F) fd (val m i c c) Finset.univ)
      isplitr
      · ipureintro; exact View.read_write_univ _ _
      · iexact H)) $$ [Hs Hd Ht]
  · isplitr; · iexact HI
    isplitl [Hs]; · iexact Hs
    isplitl [Hd]; · iexact Hd
    isplitl [Ht]; · iexact Ht
    iexact Hr
  iexact Hk

end Steps

/-! ## Loops -/

/-- The separating conjunction over a list. -/
def sepL {A : Type} (l : List A) (P : A → sProp 𝕄) : sProp 𝕄 := l.foldr (fun a r => iprop(P a ∗ r)) iprop(emp)

/-- A loop whose step at `a` turns `P a` into `R a` and the state `J (a :: l)` into `J l`. -/
theorem wp_loop {A : Type} (c : Dev nD) (s : A → KProg F → KProg F) (P R : A → sProp 𝕄) (J : List A → sProp 𝕄) {Q : PUnit → sProp 𝕄}
    (step : ∀ a l k, iprop(P a ∗ J (a :: l) ∗ (R a ∗ J l -∗ WP c k Q)) ⊢ WP c (s a k) Q) (l : List A) (k : KProg F) :
    iprop(sepL l P ∗ J l ∗ (sepL l R ∗ J [] -∗ WP c k Q)) ⊢ WP c (l.foldr s k) Q := by
  induction l with
  | nil =>
    iintro ⟨-, HJ, Hk⟩
    iapply Hk
    isplitr
    · (unfold sepL; iempintro)
    · iexact HJ
  | cons a l ih =>
    show iprop(iprop(P a ∗ sepL l P) ∗ J (a :: l) ∗ (iprop(R a ∗ sepL l R) ∗ J [] -∗ WP c k Q)) ⊢ WP c (s a (l.foldr s k)) Q
    iintro ⟨⟨Ha, Hl⟩, HJ, Hk⟩
    iapply (step a l _)
    isplitl [Ha]; · iexact Ha
    isplitl [HJ]; · iexact HJ
    iintro ⟨Hb, HJ⟩
    iapply ih
    isplitl [Hl]; · iexact Hl
    isplitl [HJ]; · iexact HJ
    iintro ⟨HR, HJ⟩
    iapply Hk
    isplitl [Hb HR]
    · isplitl [Hb]
      · iexact Hb
      · iexact HR
    · iexact HJ

omit [FloatOps F] in
theorem sepL_sep {A : Type} (l : List A) (P R : A → sProp 𝕄) : sepL l (fun a => iprop(P a ∗ R a)) ⊣⊢ iprop(sepL l P ∗ sepL l R) := by
  induction l with
  | nil => exact (sep_emp (PROP := sProp 𝕄)).symm
  | cons a l ih =>
    constructor
    · show iprop(iprop(P a ∗ R a) ∗ sepL l fun a => iprop(P a ∗ R a)) ⊢ iprop(iprop(P a ∗ sepL l P) ∗ iprop(R a ∗ sepL l R))
      iintro ⟨⟨H1, H2⟩, H⟩
      ihave H' := ih.1 $$ H
      icases H' with ⟨H3, H4⟩
      isplitl [H1 H3]
      · isplitl [H1]; · iexact H1
        iexact H3
      · isplitl [H2]; · iexact H2
        iexact H4
    · show iprop(iprop(P a ∗ sepL l P) ∗ iprop(R a ∗ sepL l R)) ⊢ iprop(iprop(P a ∗ R a) ∗ sepL l fun a => iprop(P a ∗ R a))
      iintro ⟨⟨H1, H3⟩, ⟨H2, H4⟩⟩
      isplitl [H1 H2]
      · isplitl [H1]; · iexact H1
        iexact H2
      · iapply ih.2
        isplitl [H3]; · iexact H3
        iexact H4

omit [FloatOps F] in
theorem sepL_mono {A : Type} (l : List A) {P R : A → sProp 𝕄} (h : ∀ a, P a ⊢ R a) : sepL l P ⊢ sepL l R := by
  induction l with
  | nil => exact BI.Entails.refl _
  | cons a l ih => exact BI.sep_mono (h a) ih

omit [FloatOps F] in
theorem bigSep_items (P : Fin 8 → sProp 𝕄) : bigSep Finset.univ P ⊣⊢ sepL items P := by
  rw [bigSep_univ_eq_bigSepL items (by decide) (by decide) P]
  constructor
  · show iprop(P 0 ∗ P 1 ∗ P 2 ∗ P 3 ∗ P 4 ∗ P 5 ∗ P 6 ∗ P 7) ⊢ iprop(P 0 ∗ P 1 ∗ P 2 ∗ P 3 ∗ P 4 ∗ P 5 ∗ P 6 ∗ P 7 ∗ emp)
    iintro ⟨H0, H1, H2, H3, H4, H5, H6, H7⟩
    iframe
  · show iprop(P 0 ∗ P 1 ∗ P 2 ∗ P 3 ∗ P 4 ∗ P 5 ∗ P 6 ∗ P 7 ∗ emp) ⊢ iprop(P 0 ∗ P 1 ∗ P 2 ∗ P 3 ∗ P 4 ∗ P 5 ∗ P 6 ∗ P 7)
    iintro ⟨H0, H1, H2, H3, H4, H5, H6, H7, -⟩
    iframe

end Cert.KernelIdeal.Grads

end
-- ==== Proof.Body.lean ====
/-
  The body of one device: its four loops from what the device starts with to every cell consumed and every slot of its
  results holding its piece.
-/
module

public import proofs.«01_k».proof.Proof.Steps

@[expose] public section

set_option maxRecDepth 16384

noncomputable section

namespace Cert.KernelIdeal.Grads

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

/-! ## What each part of a loop takes and gives -/

section Parts
variable (c : Dev nD) (i : Fin 8)

/-- The credit a transfer leaves with its device. -/
abbrev sndCred (κ : Kind) : sProp 𝕄 := cred (tallyAt (cell c (i, κ)) () (N i))
abbrev at0 (κ : Kind) : sProp 𝕄 := atPos ER (cell c (i, κ)) 0 ∅ 0
abbrev at1 (κ : Kind) : sProp 𝕄 := atPos ER (cell c (i, κ)) 1 ∅ 0

/-- A push: its piece, the peer's slot, its two tokens. -/
def pushIn (p : Fin 4) : sProp 𝕄 :=
  iprop(piece m i (chip (peer p c)) c ∗ slotAny i c (peer p c) ∗ dutyTok ER (cell c (i, .snd (.inl p))) 0 () ∗ dutyTok ER (dcell c (i, .inl p)) 0 ())
def startIn : sProp 𝕄 :=
  iprop((piece m i (chip c) c ∗ slotAny i c c ∗ dutyTok ER (cell c (i, .lcl)) 0 ()) ∗ sepL [3, 0, 1, 2] (pushIn m c i))
def startOut : sProp 𝕄 := iprop(sndCred c i .lcl ∗ sepL [3, 0, 1, 2] fun p => sndCred c i (.snd (.inl p)))

/-- A relay: its wait, the sibling's slot, its two tokens; the slot relayed comes of the wait. -/
def relayIn (j : Fin 3) : sProp 𝕄 :=
  iprop(waitIn c (i, .rcv (.inl j.castSucc)) ∗ slotAny i (peer j.castSucc c) (peer 3 c)
    ∗ dutyTok ER (cell c (i, .snd (.inr j))) 0 () ∗ dutyTok ER (dcell c (i, .inr j)) 0 ())
def relayOut (j : Fin 3) : sProp 𝕄 :=
  iprop(sndCred c i (.snd (.inr j)) ∗ at1 c i (.rcv (.inl j.castSucc)) ∗ slotHas m fullShare.left i (peer j.castSucc c) c)

def arriveIn : sProp 𝕄 := iprop(waitIn c (i, .rcv (.inl 3)) ∗ sepL chips fun j => waitIn c (i, .rcv (.inr j)))
def arriveOut : sProp 𝕄 := iprop(waitOut m c (i, .rcv (.inl 3)) ∗ sepL chips fun j => waitOut m c (i, .rcv (.inr j)))

def drainIn : sProp 𝕄 :=
  iprop(waitIn c (i, .snd (.inl 3)) ∗ (sepL chips fun j => iprop(waitIn c (i, .snd (.inl j.castSucc)) ∗ waitIn c (i, .snd (.inr j)))) ∗ waitIn c (i, .lcl))
def drainOut : sProp 𝕄 :=
  iprop(waitOut m c (i, .snd (.inl 3)) ∗ (sepL chips fun j => iprop(waitOut m c (i, .snd (.inl j.castSucc)) ∗ waitOut m c (i, .snd (.inr j)))) ∗ waitOut m c (i, .lcl))

end Parts

/-! ## The four loops -/

section Loops
variable (K : Dev nD × (Fin 8 × Kind) → ℕ) (c : Dev nD)

/-- What is known, and what the device still owes. -/
def St (l : List (Fin 8 × T)) : sProp 𝕄 := iprop(recs m K ∗ ∃ W, owes (c : Thread nD τ) (owed c l) W)

theorem wp_push {Q : PUnit → sProp 𝕄} (i : Fin 8) (l : List (Fin 8 × T)) (p : Fin 4) (k : KProg F) :
    iprop(pushIn m c i p ∗ St m K c ((i, .inl p) :: l) ∗ (sndCred c i (.snd (.inl p)) ∗ St m K c l -∗ WP c k Q)) ⊢ WP c (push c i p k) Q := by
  unfold pushIn St piece push
  iintro ⟨⟨⟨%q, Hp⟩, Hs, Ht, Ht'⟩, ⟨#HR, ⟨%W, HO⟩⟩, Hk⟩
  iapply (wp_sendS m K c i (.inl p) (dev_eq p c) (pieceT_eq i p c) (slotT_eq i c (offM_eq i c) _) q _ rfl l W)
  isplitr; · iexact HR
  isplitl [Hp]; · iexact Hp
  isplitl [Hs]; · iexact Hs
  isplitl [Ht]; · iexact Ht
  isplitl [Ht']; · iexact Ht'
  isplitl [HO]; · iexact HO
  iintro ⟨Hc, HO⟩
  iapply Hk
  isplitl [Hc]; · iexact Hc
  isplitr; · iexact HR
  iexists W; iexact HO

theorem wp_start {Q : PUnit → sProp 𝕄} (rest : List (Fin 8 × T)) (i : Fin 8) (l : List (Fin 8)) (k : KProg F) :
    iprop(startIn m c i ∗ St m K c ((i :: l).flatMap pushes ++ rest) ∗ (startOut c i ∗ St m K c (l.flatMap pushes ++ rest) -∗ WP c k Q))
      ⊢ WP c (start c i k) Q := by
  have e : ((i :: l).flatMap pushes ++ rest) = ([3, 0, 1, 2].map fun p => (i, (.inl p : T))) ++ (l.flatMap pushes ++ rest) := by
    rw [List.flatMap_cons, List.append_assoc]
  rw [e]
  unfold startIn startOut start
  iintro ⟨⟨⟨Hp, Hs, Ht⟩, Hl⟩, HJ, Hk⟩
  ihave #HR := (show St m K c (([3, 0, 1, 2].map fun p => (i, (.inl p : T))) ++ (l.flatMap pushes ++ rest)) ⊢ recs m K by
    unfold St; iintro ⟨H, -⟩; iexact H) $$ HJ
  iapply (wp_localS m K c i ((pieceT_eq i 3 c).trans (by rw [chip_sib])) (slotT_eq i c (offM_eq i c) _))
  isplitr; · iexact HR
  isplitl [Hp]; · iexact Hp
  isplitl [Hs]; · iexact Hs
  isplitl [Ht]; · iexact Ht
  iintro Hc
  iapply (wp_loop c (push c i) (pushIn m c i) (fun p => sndCred c i (.snd (.inl p)))
    (fun ps => St m K c ((ps.map fun p => (i, (.inl p : T))) ++ (l.flatMap pushes ++ rest))) (fun p ps k => wp_push m K c i _ p k))
  isplitl [Hl]; · iexact Hl
  isplitl [HJ]; · iexact HJ
  iintro ⟨Hs, HJ⟩
  iapply Hk
  isplitl [Hc Hs]
  · isplitl [Hc]; · iexact Hc
    iexact Hs
  · iexact HJ

theorem wp_relay {Q : PUnit → sProp 𝕄} (i : Fin 8) (l : List (Fin 8 × T)) (hl : ∀ x ∈ l, ∃ j, x.2 = .inr j) (j : Fin 3) (k : KProg F) :
    iprop(relayIn c i j ∗ St m K c ((i, .inr j) :: l) ∗ (relayOut m c i j ∗ St m K c l -∗ WP c k Q)) ⊢ WP c (relay c i j k) Q := by
  unfold relayIn relayOut St relay
  iintro ⟨⟨Hw, Hs, Ht, Ht'⟩, ⟨#HR, ⟨%W, HO⟩⟩, Hk⟩
  iapply (wp_waitS m K c i (.rcv (.inl j.castSucc)) (by rw [slotT_eq i _ (offF_eq i j c)]) ((i, .inr j) :: l) W
    (mayWait_push c i j.castSucc _ fun x hx => (List.mem_cons.mp hx).elim (fun h => ⟨j, by rw [h]⟩) (hl x)))
  isplitr; · iexact HR
  isplitl [Hw]; · iexact Hw
  isplitl [HO]; · iexact HO
  iintro %W' ⟨Hw, HO⟩
  ihave Hw := (show waitOut m c (i, .rcv (.inl j.castSucc)) ⊢
      iprop(at1 c i (.rcv (.inl j.castSucc)) ∗ slotHas m fullShare i (peer j.castSucc c) c) from BI.Entails.refl _) $$ Hw
  icases Hw with ⟨Hat, Hh⟩
  ihave Hh := (slotHas_split m i (peer j.castSucc c) c) $$ Hh
  icases Hh with ⟨Hl, Hr⟩
  ihave Hr := (show slotHas m fullShare.right i (peer j.castSucc c) c ⊢ iprop(∃ f,
      ⌜(slotM i (peer j.castSucc c)).view.read (Elt F) f = val m i (peer j.castSucc c) c⌝
        ∗ (slotM i (peer j.castSucc c)).view.loc (c : Thread nD τ) ↦[(slotM i (peer j.castSucc c)).view.set]{fullShare.right} f) from BI.Entails.refl _) $$ Hr
  icases Hr with ⟨%f, %hf, Hr⟩
  iapply (wp_sendS m K c i (.inr j) (dev_eq 3 c) (slotT_eq i _ (offF_eq i j c) _) (slotT_eq i _ (offF_eq i j c) _) fullShare.right f
    (hf.trans (by unfold val; show _ = (pieceM i (chip (peer 3 c))).view.read _ _; rw [chip_sib]; rfl)) l W')
  isplitr; · iexact HR
  isplitl [Hr]; · iexact Hr
  isplitl [Hs]; · iexact Hs
  isplitl [Ht]; · iexact Ht
  isplitl [Ht']; · iexact Ht'
  isplitl [HO]; · iexact HO
  iintro ⟨Hc, HO⟩
  iapply Hk
  isplitl [Hc Hat Hl]
  · isplitl [Hc]; · iexact Hc
    isplitl [Hat]; · iexact Hat
    iexact Hl
  isplitr; · iexact HR
  iexists W'; iexact HO

theorem wp_relays {Q : PUnit → sProp 𝕄} (i : Fin 8) (l : List (Fin 8)) (k : KProg F) :
    iprop(sepL chips (relayIn c i) ∗ St m K c ((i :: l).flatMap relaysOf) ∗ (sepL chips (relayOut m c i) ∗ St m K c (l.flatMap relaysOf) -∗ WP c k Q))
      ⊢ WP c (relays c i k) Q := by
  have e : (i :: l).flatMap relaysOf = (chips.map fun j => (i, (.inr j : T))) ++ l.flatMap relaysOf := List.flatMap_cons
  have hr : ∀ x ∈ l.flatMap relaysOf, ∃ j, x.2 = .inr j := fun x hx => by
    obtain ⟨a, -, ha⟩ := List.mem_flatMap.mp hx
    obtain ⟨j, -, rfl⟩ := List.mem_map.mp ha
    exact ⟨j, rfl⟩
  rw [e]
  unfold relays
  exact wp_loop c (relay c i) (relayIn c i) (relayOut m c i) (fun js => St m K c ((js.map fun j => (i, (.inr j : T))) ++ l.flatMap relaysOf))
    (fun j js k => wp_relay m K c i _ (fun x hx => (List.mem_append.mp hx).elim
      (fun h => by obtain ⟨j, -, rfl⟩ := List.mem_map.mp h; exact ⟨j, rfl⟩) (hr x)) j k) chips k

/-- A wait of a device that owes nothing. -/
theorem wp_waitS0 {Q : PUnit → sProp 𝕄} (i : Fin 8) (κ : Kind) {src dst : Memref sig .tc .hbm (sh2 (item i).r (item i).w) .bf16}
    {h₁ : src.view.WordExact} {h₂ : dst.view.WordExact} {k : KProg F} (hN : dst.view.dmaCredit = N i) :
    iprop(waitIn c (i, κ) ∗ St m K c [] ∗ (waitOut m c (i, κ) ∗ St m K c [] -∗ WP c k Q)) ⊢ WP c (waitS src dst (sem i κ) h₁ h₂ k) Q := by
  unfold St
  iintro ⟨Hw, ⟨#HR, ⟨%W, HO⟩⟩, Hk⟩
  iapply (wp_waitS m K c i κ hN [] W (by show _ ⊢ MayWait _ _ _ 0; rw [MayWait_zero]; iintro -; iempintro))
  isplitr; · iexact HR
  isplitl [Hw]; · iexact Hw
  isplitl [HO]; · iexact HO
  iintro %W' ⟨Hw, HO⟩
  iapply Hk
  isplitl [Hw]; · iexact Hw
  isplitr; · iexact HR
  iexists W'; iexact HO

theorem wp_arrivals {Q : PUnit → sProp 𝕄} (i : Fin 8) (k : KProg F) :
    iprop(arriveIn c i ∗ St m K c [] ∗ (arriveOut m c i ∗ St m K c [] -∗ WP c k Q)) ⊢ WP c (arrivals c i k) Q := by
  unfold arriveIn arriveOut arrivals
  iintro ⟨⟨Hw, Hl⟩, HJ, Hk⟩
  iapply (wp_waitS0 m K c i (.rcv (.inl 3)) (by rw [slotT_eq i _ (offS_eq i c)]))
  isplitl [Hw]; · iexact Hw
  isplitl [HJ]; · iexact HJ
  iintro ⟨Hw, HJ⟩
  iapply (wp_loop c (arrive c i) (fun j => waitIn c (i, .rcv (.inr j))) (fun j => waitOut m c (i, .rcv (.inr j)))
    (fun _ => St m K c []) (fun j js k => by
      unfold arrive
      exact wp_waitS0 m K c i (.rcv (.inr j)) (by rw [slotT_eq i _ (offG_eq i j c)])))
  isplitl [Hl]; · iexact Hl
  isplitl [HJ]; · iexact HJ
  iintro ⟨Hl, HJ⟩
  iapply Hk
  isplitl [Hw Hl]
  · isplitl [Hw]; · iexact Hw
    iexact Hl
  · iexact HJ

theorem wp_drain {Q : PUnit → sProp 𝕄} (i : Fin 8) (j : Fin 3) (k : KProg F) :
    iprop(iprop(waitIn c (i, .snd (.inl j.castSucc)) ∗ waitIn c (i, .snd (.inr j))) ∗ St m K c []
        ∗ (iprop(waitOut m c (i, .snd (.inl j.castSucc)) ∗ waitOut m c (i, .snd (.inr j))) ∗ St m K c [] -∗ WP c k Q))
      ⊢ WP c (drain c i j k) Q := by
  unfold drain
  iintro ⟨⟨Hw, Hw'⟩, HJ, Hk⟩
  iapply (wp_waitS0 m K c i (.snd (.inl j.castSucc)) (by rw [pieceT_eq]))
  isplitl [Hw]; · iexact Hw
  isplitl [HJ]; · iexact HJ
  iintro ⟨Hw, HJ⟩
  iapply (wp_waitS0 m K c i (.snd (.inr j)) (by rw [slotT_eq i _ (offF_eq i j c)]))
  isplitl [Hw']; · iexact Hw'
  isplitl [HJ]; · iexact HJ
  iintro ⟨Hw', HJ⟩
  iapply Hk
  isplitl [Hw Hw']
  · isplitl [Hw]; · iexact Hw
    iexact Hw'
  · iexact HJ

theorem wp_drains {Q : PUnit → sProp 𝕄} (i : Fin 8) (k : KProg F) :
    iprop(drainIn c i ∗ St m K c [] ∗ (drainOut m c i ∗ St m K c [] -∗ WP c k Q)) ⊢ WP c (drains c i k) Q := by
  unfold drainIn drainOut drains
  iintro ⟨⟨Hw, Hl, Hc⟩, HJ, Hk⟩
  iapply (wp_waitS0 m K c i (.snd (.inl 3)) (by rw [pieceT_eq]))
  isplitl [Hw]; · iexact Hw
  isplitl [HJ]; · iexact HJ
  iintro ⟨Hw, HJ⟩
  iapply (wp_loop c (drain c i) (fun j => iprop(waitIn c (i, .snd (.inl j.castSucc)) ∗ waitIn c (i, .snd (.inr j))))
    (fun j => iprop(waitOut m c (i, .snd (.inl j.castSucc)) ∗ waitOut m c (i, .snd (.inr j))))
    (fun _ => St m K c []) (fun j js k => wp_drain m K c i j k))
  isplitl [Hl]; · iexact Hl
  isplitl [HJ]; · iexact HJ
  iintro ⟨Hl, HJ⟩
  iapply (wp_waitS0 m K c i .lcl (by rw [slotT_eq i _ (offM_eq i c)]))
  isplitl [Hc]; · iexact Hc
  isplitl [HJ]; · iexact HJ
  iintro ⟨Hc, HJ⟩
  iapply Hk
  isplitl [Hw Hl Hc]
  · isplitl [Hw]; · iexact Hw
    isplitl [Hl]; · iexact Hl
    iexact Hc
  · iexact HJ

end Loops

/-! ## The whole body -/

section Whole
variable (c : Dev nD) (i : Fin 8)

omit [FloatOps F] in
theorem bigSep_fin4 (Φ : Fin 4 → sProp 𝕄) : bigSep Finset.univ Φ = iprop(Φ 3 ∗ Φ 0 ∗ Φ 1 ∗ Φ 2) :=
  bigSep_univ_eq_bigSepL [3, 0, 1, 2] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_T (Φ : T → sProp 𝕄) :
    bigSep Finset.univ Φ = iprop(Φ (.inl 3) ∗ Φ (.inl 0) ∗ Φ (.inl 1) ∗ Φ (.inl 2) ∗ Φ (.inr 0) ∗ Φ (.inr 1) ∗ Φ (.inr 2)) :=
  bigSep_univ_eq_bigSepL (I := T) [.inl 3, .inl 0, .inl 1, .inl 2, .inr 0, .inr 1, .inr 2] (by decide) (by decide) Φ
omit [FloatOps F] in
theorem bigSep_kind (Φ : Kind → sProp 𝕄) :
    bigSep Finset.univ Φ = iprop((bigSep Finset.univ fun t => Φ (.snd t)) ∗ (bigSep Finset.univ fun t => Φ (.rcv t)) ∗ Φ .lcl) := by
  rw [bigSep_univ_sum (α := T) (β := T ⊕ Unit), bigSep_univ_sum (α := T) (β := Unit) (fun b => Φ (.inr b)),
    bigSep_univ_eq_bigSepL (I := Unit) [()] (by decide) (by decide)]
  rfl
omit [FloatOps F] in
/-- Every slot of a device is its own, a peer's, or one the sibling relays. -/
theorem bigSep_slots (c : Dev nD) (Φ : Dev nD → sProp 𝕄) :
    bigSep Finset.univ Φ = iprop(Φ c ∗ Φ (peer 3 c) ∗ Φ (peer 0 c) ∗ Φ (peer 1 c) ∗ Φ (peer 2 c)
      ∗ Φ (peer 0 (peer 3 c)) ∗ Φ (peer 1 (peer 3 c)) ∗ Φ (peer 2 (peer 3 c))) :=
  bigSep_univ_eq_bigSepL [c, peer 3 c, peer 0 c, peer 1 c, peer 2 c, peer 0 (peer 3 c), peer 1 (peer 3 c), peer 2 (peer 3 c)]
    (by revert c; decide +kernel) (by revert c; decide +kernel) Φ

/-- What device `c` starts array `i` with. -/
def itemIn : sProp 𝕄 :=
  iprop((bigSep Finset.univ fun κ => at0 c i κ)
    ∗ (bigSep Finset.univ fun t => dutyTok ER (cell c (i, .snd t)) 0 ())
    ∗ (bigSep Finset.univ fun t => dutyTok ER (dcell c (i, t)) 0 ())
    ∗ dutyTok ER (cell c (i, .lcl)) 0 ()
    ∗ (bigSep Finset.univ fun t => sndCred c i (.rcv t))
    ∗ (bigSep Finset.univ fun t : T => slotAny i (sslot t c) (peer t.to c))
    ∗ slotAny i c c
    ∗ (bigSep Finset.univ fun p => piece m i (chip (peer p c)) c)
    ∗ piece m i (chip c) c)
/-- What it ends array `i` with: every cell consumed, every slot at its piece. -/
def itemOut : sProp 𝕄 :=
  iprop((bigSep Finset.univ fun κ => at1 c i κ) ∗ bigSep Finset.univ fun s => slotHas m fullShare.left i s c)

/-- The positions the last loop starts with. -/
def drainAt : sProp 𝕄 :=
  iprop(at0 c i (.snd (.inl 3)) ∗ (at0 c i (.snd (.inl 0)) ∗ at0 c i (.snd (.inl 1)) ∗ at0 c i (.snd (.inl 2)))
    ∗ (at0 c i (.snd (.inr 0)) ∗ at0 c i (.snd (.inr 1)) ∗ at0 c i (.snd (.inr 2))) ∗ at0 c i .lcl)

theorem itemIn_split : itemIn m c i ⊢ iprop(startIn m c i ∗ sepL chips (relayIn (F := F) c i) ∗ arriveIn c i ∗ drainAt c i) := by
  unfold itemIn startIn arriveIn drainAt
  rw [bigSep_kind, bigSep_T, bigSep_T, bigSep_T, bigSep_T, bigSep_T, bigSep_T, bigSep_fin4]
  iintro ⟨⟨⟨Is, I0, I1, I2, J0, J1, J2⟩, ⟨As, A0, A1, A2, B0, B1, B2⟩, Al⟩, ⟨Ts, T0, T1, T2, U0, U1, U2⟩,
    ⟨Vs, V0, V1, V2, X0, X1, X2⟩, Tl, ⟨Cs, C0, C1, C2, D0, D1, D2⟩, ⟨Ss, S0, S1, S2, R0, R1, R2⟩, Sl, ⟨Ps, P0, P1, P2⟩, Pl⟩
  unfold sepL chips pushIn relayIn waitIn
  dsimp only [List.foldr]
  isplitl [Ts T0 T1 T2 Vs V0 V1 V2 Tl Ss S0 S1 S2 Sl Ps P0 P1 P2 Pl]
  · isplitl [Tl Sl Pl]
    · isplitl [Pl]; · iexact Pl
      isplitl [Sl]; · iexact Sl
      iexact Tl
    isplitl [Ts Vs Ss Ps]
    · isplitl [Ps]; · iexact Ps
      isplitl [Ss]; · iexact Ss
      isplitl [Ts]; · iexact Ts
      iexact Vs
    isplitl [T0 V0 S0 P0]
    · isplitl [P0]; · iexact P0
      isplitl [S0]; · iexact S0
      isplitl [T0]; · iexact T0
      iexact V0
    isplitl [T1 V1 S1 P1]
    · isplitl [P1]; · iexact P1
      isplitl [S1]; · iexact S1
      isplitl [T1]; · iexact T1
      iexact V1
    isplitl [T2 V2 S2 P2]
    · isplitl [P2]; · iexact P2
      isplitl [S2]; · iexact S2
      isplitl [T2]; · iexact T2
      iexact V2
    iempintro
  isplitl [A0 A1 A2 C0 C1 C2 R0 R1 R2 U0 U1 U2 X0 X1 X2]
  · isplitl [A0 C0 R0 U0 X0]
    · isplitl [A0 C0]
      · isplitl [C0]; · iexact C0
        iexact A0
      isplitl [R0]; · iexact R0
      isplitl [U0]; · iexact U0
      iexact X0
    isplitl [A1 C1 R1 U1 X1]
    · isplitl [A1 C1]
      · isplitl [C1]; · iexact C1
        iexact A1
      isplitl [R1]; · iexact R1
      isplitl [U1]; · iexact U1
      iexact X1
    isplitl [A2 C2 R2 U2 X2]
    · isplitl [A2 C2]
      · isplitl [C2]; · iexact C2
        iexact A2
      isplitl [R2]; · iexact R2
      isplitl [U2]; · iexact U2
      iexact X2
    iempintro
  isplitl [As B0 B1 B2 Cs D0 D1 D2]
  · isplitl [As Cs]
    · isplitl [Cs]; · iexact Cs
      iexact As
    isplitl [B0 D0]
    · isplitl [D0]; · iexact D0
      iexact B0
    isplitl [B1 D1]
    · isplitl [D1]; · iexact D1
      iexact B1
    isplitl [B2 D2]
    · isplitl [D2]; · iexact D2
      iexact B2
    iempintro
  iframe

/-- With the credits of the device's own transfers the last loop's waits are had. -/
theorem drainIn_of : iprop(drainAt c i ∗ startOut c i ∗ sepL chips (relayOut m c i))
    ⊢ iprop(drainIn c i ∗ (at1 c i (.rcv (.inl 0)) ∗ at1 c i (.rcv (.inl 1)) ∗ at1 c i (.rcv (.inl 2)))
      ∗ slotHas m fullShare.left i (peer 0 c) c ∗ slotHas m fullShare.left i (peer 1 c) c ∗ slotHas m fullShare.left i (peer 2 c) c) := by
  unfold drainAt startOut drainIn sepL chips relayOut waitIn
  dsimp only [List.foldr]
  iintro ⟨⟨Is, ⟨I0, I1, I2⟩, ⟨J0, J1, J2⟩, Il⟩, ⟨Cl, Cs, C0, C1, C2, -⟩, ⟨D0, A0, H0⟩, ⟨D1, A1, H1⟩, ⟨D2, A2, H2⟩, -⟩
  isplitr [A0 A1 A2 H0 H1 H2]
  · isplitl [Is Cs]
    · isplitl [Cs]; · iexact Cs
      iexact Is
    isplitr [Il Cl]
    · isplitl [I0 C0 J0 D0]
      · isplitl [I0 C0]
        · isplitl [C0]; · iexact C0
          iexact I0
        · isplitl [D0]; · iexact D0
          iexact J0
      isplitl [I1 C1 J1 D1]
      · isplitl [I1 C1]
        · isplitl [C1]; · iexact C1
          iexact I1
        · isplitl [D1]; · iexact D1
          iexact J1
      isplitl [I2 C2 J2 D2]
      · isplitl [I2 C2]
        · isplitl [C2]; · iexact C2
          iexact I2
        · isplitl [D2]; · iexact D2
          iexact J2
      iempintro
    · isplitl [Cl]; · iexact Cl
      iexact Il
  isplitl [A0 A1 A2]
  · isplitl [A0]; · iexact A0
    isplitl [A1]; · iexact A1
    iexact A2
  isplitl [H0]; · iexact H0
  isplitl [H1]; · iexact H1
  iexact H2

theorem itemOut_of : iprop(((at1 c i (.rcv (.inl 0)) ∗ at1 c i (.rcv (.inl 1)) ∗ at1 c i (.rcv (.inl 2)))
      ∗ slotHas m fullShare.left i (peer 0 c) c ∗ slotHas m fullShare.left i (peer 1 c) c ∗ slotHas m fullShare.left i (peer 2 c) c)
    ∗ arriveOut m c i ∗ drainOut m c i) ⊢ itemOut m c i := by
  have hl : ∀ s, slotHas (F := F) m fullShare i s c ⊢ slotHas m fullShare.left i s c := fun s => by
    iintro H
    ihave H' := (slotHas_split m i s c) $$ H
    icases H' with ⟨H', -⟩
    iexact H'
  have h3 : slotHas (F := F) m fullShare i (rslot (.inl 3) c) c ⊢ slotHas m fullShare.left i (peer 3 c) c := hl (peer 3 c)
  have g0 : slotHas (F := F) m fullShare i (rslot (.inr 0) c) c ⊢ slotHas m fullShare.left i (peer 0 (peer 3 c)) c := hl _
  have g1 : slotHas (F := F) m fullShare i (rslot (.inr 1) c) c ⊢ slotHas m fullShare.left i (peer 1 (peer 3 c)) c := hl _
  have g2 : slotHas (F := F) m fullShare i (rslot (.inr 2) c) c ⊢ slotHas m fullShare.left i (peer 2 (peer 3 c)) c := hl _
  unfold arriveOut drainOut itemOut sepL chips waitOut pay
  dsimp only [List.foldr]
  rw [bigSep_kind, bigSep_T, bigSep_T, bigSep_slots c]
  iintro ⟨⟨⟨A0, A1, A2⟩, H0, H1, H2⟩, ⟨⟨As, Hs⟩, ⟨B0, G0⟩, ⟨B1, G1⟩, ⟨B2, G2⟩, -⟩, ⟨Is, -⟩, ⟨⟨⟨I0, -⟩, J0, -⟩, ⟨⟨I1, -⟩, J1, -⟩, ⟨⟨I2, -⟩, J2, -⟩, -⟩, Il, Hl⟩
  isplitr [H0 H1 H2 Hs G0 G1 G2 Hl]
  · isplitl [Is I0 I1 I2 J0 J1 J2]
    · isplitl [Is]; · iexact Is
      isplitl [I0]; · iexact I0
      isplitl [I1]; · iexact I1
      isplitl [I2]; · iexact I2
      iframe
    · isplitl [As A0 A1 A2 B0 B1 B2]
      · iframe
      · iexact Il
  isplitl [Hl]; · (iapply (hl c) $$ Hl)
  isplitl [Hs]; · (iapply h3 $$ Hs)
  isplitl [H0]; · iexact H0
  isplitl [H1]; · iexact H1
  isplitl [H2]; · iexact H2
  isplitl [G0]; · (iapply g0 $$ G0)
  isplitl [G1]; · (iapply g1 $$ G1)
  iapply g2 $$ G2

variable (K : Dev nD × (Fin 8 × Kind) → ℕ)

/-- The body of device `c`. -/
theorem wp_prog {Q : PUnit → sProp 𝕄} :
    iprop(St m K c (items.flatMap pushes ++ items.flatMap relaysOf) ∗ (bigSep Finset.univ fun i => itemIn m c i)
        ∗ (St m K c [] ∗ (bigSep Finset.univ fun i => itemOut m c i) -∗ Q ⟨⟩))
      ⊢ WP c (prog F) Q := by
  have hin : (bigSep Finset.univ fun i => itemIn m c i)
      ⊢ iprop(sepL items (startIn m c) ∗ (sepL items fun i => sepL chips (relayIn (F := F) c i)) ∗ sepL items (arriveIn c) ∗ sepL items (drainAt c)) :=
    (bigSep_items _).1.trans ((sepL_mono _ fun i => itemIn_split m c i).trans ((sepL_sep _ _ _).1.trans (sep_mono_right ((sepL_sep _ _ _).1.trans
      (sep_mono_right (sepL_sep _ _ _).1)))))
  unfold prog WP
  rw [wp_deviceId]
  iintro ⟨HJ, Hin, Hk⟩
  ihave Hin := hin $$ Hin
  icases Hin with ⟨H1, H2, H3, H4⟩
  iapply (wp_loop c (start c) (startIn m c) (startOut c) (fun l => St m K c (l.flatMap pushes ++ items.flatMap relaysOf))
    (fun i l k => wp_start m K c _ i l k))
  isplitl [H1]; · iexact H1
  isplitl [HJ]; · iexact HJ
  iintro ⟨H1, HJ⟩
  iapply (wp_loop c (relays c) (fun i => sepL chips (relayIn c i)) (fun i => sepL chips (relayOut m c i)) (fun l => St m K c (l.flatMap relaysOf))
    (fun i l k => wp_relays m K c i l k))
  isplitl [H2]; · iexact H2
  isplitl [HJ]; · iexact HJ
  iintro ⟨H2, HJ⟩
  iapply (wp_loop c (arrivals c) (arriveIn c) (arriveOut m c) (fun _ => St m K c []) (fun i _ k => wp_arrivals m K c i k))
  isplitl [H3]; · iexact H3
  isplitl [HJ]; · iexact HJ
  iintro ⟨H3, HJ⟩
  ihave H4 := ((sep_mono_right (sepL_sep items (startOut c) fun i => sepL chips (relayOut m c i)).2).trans ((sepL_sep items (drainAt c) _).2.trans
    ((sepL_mono items fun i => drainIn_of m c i).trans (sepL_sep _ _ _).1))) $$ [H4 H1 H2]
  · isplitl [H4]; · iexact H4
    isplitl [H1]; · iexact H1
    iexact H2
  icases H4 with ⟨H4, H5⟩
  iapply (wp_loop c (drains c) (drainIn c) (drainOut m c) (fun _ => St m K c []) (fun i _ k => wp_drains m K c i k))
  isplitl [H4]; · iexact H4
  isplitl [HJ]; · iexact HJ
  iintro ⟨H4, HJ⟩
  ihave Hout := ((sep_mono_right (sepL_sep items (arriveOut m c) (drainOut m c)).2).trans ((sepL_sep items _ _).2.trans
    ((sepL_mono items fun i => itemOut_of m c i).trans (bigSep_items _).2))) $$ [H5 H3 H4]
  · isplitl [H5]; · iexact H5
    isplitl [H3]; · iexact H3
    iexact H4
  unfold WP; rw [wp_ret]; imodintro
  iapply Hk
  isplitl [HJ]; · iexact HJ
  iexact Hout

end Whole

end Cert.KernelIdeal.Grads

end
-- ==== Proof.Launch.lean ====
/-
  The launch: from the machine at rest to every device at the start of its body, and from every device at the end of its
  body to what the final memory holds.

  A device writes into the results of its peers from its first instruction on, with no handshake before: its peers' slots
  are its own from the launch. The launch theorem here therefore hands ALL devices' buffers to one global step, beside the
  kernel's semaphores and its ghost state, and every device starts from what that step deals it.
-/
module

public import proofs.«01_k».proof.Proof.Body
public import proofs.«01_k».proof.Proof.Gen.KernelIdeal.Launch
public import Idealize.ShloMosaic.Lib.Pipeline.Launch

@[expose] public section

set_option maxRecDepth 16384
set_option Elab.async false

noncomputable section

namespace Cert.KernelIdeal.Grads

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf OwnSemFacts)

variable {F : FTy → Type} [FloatOps F]

local notation "𝕄" => MT nD τ sig Unit (Elt F) ℕ (UU nD τ) ℕ

/-- The kernel's own semaphores, by what they count. -/
def osem : Fin 8 × Kind → SemLoc sig := fun x => .dma (sem x.1 x.2)

theorem osem_inj : Function.Injective osem := fun x y h => by
  have h' : sem x.1 x.2 = sem y.1 y.2 := by unfold osem at h; exact SemLoc.dma.inj h
  exact sem_inj h'

/-- They are scoped and pairwise distinct; no window is staged, so none is a staging semaphore. -/
theorem ownSemFacts : OwnSemFacts cfg0.spec osem where
  isScoped := by decide +kernel
  inj := osem_inj
  disj := fun _ w => w.elim0

/-- No window: a separating product over the windows is nothing. -/
theorem no_windows (Φ : Fin 0 → sProp 𝕄) : bigSep Finset.univ Φ = (BI.emp : sProp 𝕄) := by
  rw [Finset.univ_eq_empty, BI.bigSep_empty]

section Launch
variable (m : (ℓ : Loc nD τ sig) → Buf (Elt F) ℓ) (ρ : Dev nD → PrngReg)
variable (O₀ : Dev nD → CellTallies nD τ sig Unit) (L : GSem nD τ sig → Finset Unit) (lv : GSem nD τ sig → Unit → ℕ)

/-- The levels of every cell, assigned once for the machine. -/
theorem levels_assign (hL : ∀ g : GSem nD τ sig, g.1.2 ≠ .tc → L g = ∅) :
    (bigSep Finset.univ fun c : Dev nD => levels0 (Ix := Unit) (Val := Elt F) (Name := ℕ) (U := UU nD τ) (Lvl := ℕ) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have hsc (d : Dev nD) : (bigSep (Finset.univ.erase Proc.tc) fun p => (coreLevAts ((d, p) : Thread nD τ) L lv : sProp 𝕄)) = BI.emp := by
    rw [bigSep_congr (Ψ := fun _ : Proc τ => (BI.emp : sProp 𝕄)) fun p hp => by
      unfold coreLevAts
      rw [bigSep_congr (Ψ := fun _ : SemLoc sig => (BI.emp : sProp 𝕄)) fun sm _ => by
        rw [hL (((d, p) : Thread nD τ), sm) (Finset.ne_of_mem_erase hp), BI.bigSep_empty], BI.bigSep_emp_const]]
    exact BI.bigSep_emp_const _
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv)]
  have hinner : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun p => (coreLevAts ((d, p) : Thread nD τ) L lv : sProp 𝕄)) := by
    rw [bigSep_congr (Ψ := fun _ : Dev nD => (BI.emp : sProp 𝕄)) fun d _ => hsc d, BI.bigSep_emp_const, bigSep_sep']
    iintro ⟨-, H⟩
    isplitl [H]; · iexact H
    iempintro
  exact hinner

/-- What a core keeps of its launch holdings through the dealing: its scoped buffers, the semaphores nothing uses, what it
    owes and the credits on its cells. -/
def kept (c : Dev nD) : sProp 𝕄 :=
  iprop(scopedBufs (c.tc : Thread nD τ) ∗ Pipeline.idleSems0 cfgs cellOf_inj (0 : Fin 1) ownSemFacts c ∗ owes (c.tc : Thread nD τ) (O₀ c) ∅ ∗ Pipeline.launchCred O₀ c)

/-- A core's holdings at launch: its scoped buffers, the kernel's semaphores, the semaphores nothing uses, its arrays, what
    it owes, the rights to its cells' levels and the credits on its cells. -/
theorem core_start (c : Dev nD) :
    coreInit (Ix := Unit) (Name := ℕ) (U := UU nD τ) (Lvl := ℕ) (Pipeline.owing O₀) 0 (⟨m, fun _ => 0, ρ⟩ : MemSt nD τ sig (Elt F)) (c.tc : Thread nD τ)
      ⊢ iprop(kept O₀ c ∗ (Pipeline.ownSems0 osem c ∗ unscopedBufs c (fun b => m ((c.tc : Thread nD τ).loc b))) ∗ levels0 c : sProp 𝕄) := by
  refine (Pipeline.coreInit_boundary_owing O₀ m ρ c).trans ?_
  unfold boundary kept
  rw [Pipeline.scopedSems0_split cfgs cellOf_inj (0 : Fin 1) winFacts0.to₀ ownSemFacts (Ix := Unit) (Val := Elt F) (Name := ℕ) (U := UU nD τ) (Lvl := ℕ) c]
  iintro ⟨⟨Hsc, ⟨⟨-, Hos⟩, Hidle⟩, -⟩, Hub, -, HL, Hlv, -, Hcr⟩
  isplitl [Hsc Hidle HL Hcr]
  · isplitl [Hsc]; · iexact Hsc
    isplitl [Hidle]; · iexact Hidle
    isplitl [HL] <;> iassumption
  isplitl [Hos Hub]
  · isplitl [Hos] <;> iassumption
  iexact Hlv

variable (dats : (p : Fin 1) → (c : Dev nD) → Dat τ (Elt F) Unit ℕ (UU nD τ) ℕ (cfgs p) c)

/-- A core's run of `main`: the call, from what the core keeps and what it is dealt, to what the body ends with. -/
theorem core_run (c : Dev nD)
    (hbody : BodyObligation (dats 0 c) (defs₀ (F := F)) 𝒱₀ () Set.univ)
    (howed₀ : (dats 0 c).owed 0 = O₀ c) (howedN : (dats 0 c).owed (Fin.last _) = 0)
    (G' : Dev nD → sProp 𝕄)
    (hin : iprop(levAts L lv ∗ Pipeline.launchCred O₀ c ∗ G' c) ⊢ (dats 0 c).Φ 0)
    (Y : Dev nD → sProp 𝕄)
    (hout : (dats 0 c).Φ (Fin.last _) ⊢ iprop(Y c ∗ Pipeline.ownSems0 osem c)) :
    iprop(kept O₀ c ∗ levAts L lv ∗ G' c)
      ⊢ wp frame (wpE (defs (F := F)) (Variants.lift 𝒱₀) (c.tc : Thread nD τ) none) Set.univ (main c)
          (fun _ => post (liftTc (fun c => iprop(Y c ∗ scopedSems0 (c.tc : Thread nD τ))) BI.emp) (c.tc : Thread nD τ)) := by
  have hsb := Pipeline.scopedBufs_split cfgs (0 : Fin 1) winFacts0.to₀.stage_scoped winFacts0.to₀.stage_inj stage_whole0
    (nD := nD) (τ := τ) (Ix := Unit) (Val := Elt F) (Name := ℕ) (U := UU nD τ) (Lvl := ℕ) c
  have hss := Pipeline.scopedSems0_split cfgs cellOf_inj (0 : Fin 1) winFacts0.to₀ ownSemFacts (Ix := Unit) (Val := Elt F) (Name := ℕ) (U := UU nD τ) (Lvl := ℕ) c
  have hsr := scopedRest0_eq (Ix := Unit) (Val := Elt F) (Name := ℕ) (U := UU nD τ) (Lvl := ℕ) c
  have hin' : iprop(iprop(levAts L lv ∗ Pipeline.launchCred O₀ c ∗ G' c) ∗ Pipeline.prefHeld (pcfgs (F := F) 0).pre c (fun _ => fullShare.right) ((cfgs 0).toPCfg_adm (Val := Elt F)).1
      ∗ Pipeline.scopedRest cfg0.spec c) ⊢ (dats 0 c).Φ 0 :=
    sep_elim_left.trans hin
  have hout' : iprop((dats 0 c).Φ (Fin.last _) ∗ Pipeline.cellsSems0 cfgs (0 : Fin 1) c ∗ Dat.staging cfg0 c ∗ Pipeline.idleSems0 cfgs cellOf_inj (0 : Fin 1) ownSemFacts c)
      ⊢ iprop(Y c ∗ scopedSems0 (c.tc : Thread nD τ) ∗ scopedBufs (c.tc : Thread nD τ)) := by
    rw [hss, hsb, hsr]
    iintro ⟨HΦ, Hcells, Hst, Hidle⟩
    ihave H := hout $$ HΦ
    icases H with ⟨HY, Hos⟩
    isplitl [HY]; · iexact HY
    isplitl [Hcells Hos Hidle]
    · isplitl [Hcells Hos]; · isplitl [Hcells] <;> iassumption
      iexact Hidle
    isplitl [Hst]; · iexact Hst
    iempintro
  have hpost : Pipeline.EntryPost cfgs dats () (0 : Fin 1) c
      ⊢ iprop(∃ W, owes (c.tc : Thread nD τ) (0 : CellTallies nD τ sig Unit) W) := by
    refine sep_elim_right.trans ?_
    show (dats 0 c).owesAt () (Fin.last _) ⊢ _
    unfold Dat.owesAt Pipeline.owesWithin
    rw [howedN]
    iintro ⟨%W, -, HW⟩
    iexists W; iexact HW
  have hpre : owes (c.tc : Thread nD τ) (O₀ c) ∅ ⊢ Pipeline.EntryPre cfgs dats () EP (fun _ => 0) (0 : Fin 1) c := by
    refine .trans ?_ (show iprop(BI.emp ∗ (dats 0 c).owesAt () 0 ∗ BI.emp ∗ BI.emp ∗ BI.emp) ⊢ Pipeline.EntryPre cfgs dats () EP (fun _ => 0) (0 : Fin 1) c from
      BI.sep_mono (Entails.of_eq (no_windows _).symm) (BI.sep_mono (BI.Entails.refl _) (BI.sep_mono (Entails.of_eq (no_windows _).symm)
        (BI.sep_mono (Entails.of_eq (no_windows _).symm) (Entails.of_eq (no_windows _).symm)))))
    unfold Dat.owesAt Pipeline.owesWithin
    rw [howed₀]
    iintro H
    isplitr; · iempintro
    isplitl [H]
    · iexists ∅
      isplitr; · ipureintro; rw [Finset.coe_empty]; exact Set.empty_subset _
      iexact H
    isplitr; · iempintro
    isplitr <;> iempintro
  have hpf : (BI.emp : sProp 𝕄) ⊢ Pipeline.prefHeld (pcfgs (F := F) 0).pre c (fun _ => fullShare.right) ((cfgs 0).toPCfg_adm (Val := Elt F)).1 :=
    Entails.of_eq (no_windows _).symm
  have key := Pipeline.wp_customCall_entry_frame (pcfgs (F := F)) (fun p => (cfgs p).toPCfg_adm) dats () EP (fun _ => 0) cellOf_inj (0 : Fin 1) (defs₀ (F := F)) 𝒱₀
      (fun _ => fullShare.right) c Set.univ (fun _ _ => Set.mem_univ _)
      hbody.loose (fun w => w.elim0) none (fun u h => nomatch h) (X := iprop(levAts L lv ∗ Pipeline.launchCred O₀ c ∗ G' c)) (Y := Y c)
      (R := Pipeline.scopedRest cfg0.spec c) (I := Pipeline.idleSems0 cfgs cellOf_inj (0 : Fin 1) ownSemFacts c)
      (Entails.of_eq hsb) hin' hout'
      (α := PUnit) (k := fun _ => .ret PUnit.unit) (Q := fun _ => post (liftTc (fun c => iprop(Y c ∗ scopedSems0 (c.tc : Thread nD τ))) BI.emp) (c.tc : Thread nD τ))
  refine .trans ?_ (show _ ⊢ wp frame (wpE (Pipeline.defs (pcfgs (F := F)) (defs₀ (F := F))) (Variants.lift 𝒱₀) (c.tc : Thread nD τ) none) Set.univ
    (.op (.customCall (Pipeline.entry 0) ()) fun _ => .ret PUnit.unit) _ from BI.Entails.refl _)
  unfold kept
  iintro ⟨⟨Hsc, Hidle, HL, Hcr⟩, Hla, HG⟩
  iapply key $$ [Hsc Hidle HL Hcr Hla HG]
  · isplitl [HL]; · iapply hpre; iexact HL
    isplitr; · iapply hpf; iempintro
    isplitl [Hla Hcr HG]
    · isplitl [Hla]; · iexact Hla
      isplitl [Hcr] <;> iassumption
    isplitl [Hidle]; · iexact Hidle
    iexact Hsc
  iintro ⟨Hpost, HY, Hss2, -⟩
  rw [wp_ret]; imodintro
  unfold post; simp only [liftTc_tc]
  ihave HW := hpost $$ Hpost
  isplitr [HW]
  · isplitl [HY] <;> iassumption
  · iexact HW

/-- THE LAUNCH. From per-device proof data of the one call: the machine's ghost state funded (`hu₀`), ONE global step over
    all devices' semaphores, buffers and ghost state (`hglob`), every device's body from what the step deals it, its
    levels and its credits (`hin`) to its final holdings and its semaphores at zero (`hout`), and the final holdings read
    against the final memory (`hY`): every run ends with what the reading says. -/
theorem θ_run_dealt
    (hbody : ∀ c, BodyObligation (dats 0 c) (defs₀ (F := F)) 𝒱₀ () Set.univ)
    (howed₀ : ∀ c, (dats 0 c).owed 0 = O₀ c) (howedN : ∀ c, (dats 0 c).owed (Fin.last _) = 0)
    (hL : ∀ g : GSem nD τ sig, g.1.2 ≠ .tc → L g = ∅)
    (G G' : Dev nD → sProp 𝕄) (u₀ : UU nD τ)
    (hu₀ : (ownU u₀ : sProp 𝕄) ⊢ |={Set.univ}=> bigSep Finset.univ G)
    (hglob : (bigSep Finset.univ fun c => iprop(Pipeline.ownSems0 osem c ∗ unscopedBufs c (fun b => m ((c.tc : Thread nD τ).loc b)) ∗ G c) : sProp 𝕄)
      ⊢ |={Set.univ}=> bigSep Finset.univ G')
    (hin : ∀ c, iprop(levAts L lv ∗ Pipeline.launchCred O₀ c ∗ G' c) ⊢ (dats 0 c).Φ 0)
    (Y : Dev nD → sProp 𝕄)
    (hout : ∀ c, (dats 0 c).Φ (Fin.last _) ⊢ iprop(Y c ∗ Pipeline.ownSems0 osem c))
    (QY : Dev nD → MemSt nD τ sig (Elt F) → Prop)
    (hY : ∀ c (s' : Phys nD τ sig (Elt F)), iprop(Y c ∗ SI s') ⊢ |={Set.univ}=> iprop(⌜QY c s'.mem⌝ ∗ SI s'))
    {Q : PUnit × MemSt nD τ sig (Elt F) → Prop}
    (hQ : ∀ s : MemSt nD τ sig (Elt F), (∀ c : Dev nD, QY c s) → s.sem = (fun _ => 0) → Q (⟨⟩, s)) :
    θ_run (defs (F := F)) (onTc (τ := τ) (main (F := F))) ⟨m, fun _ => 0, ρ⟩ Q := by
  classical
  let pre : Dev nD → sProp 𝕄 := fun c => iprop(kept O₀ c ∗ levAts L lv ∗ G' c)
  let fin : Dev nD → sProp 𝕄 := fun c => iprop(Y c ∗ scopedSems0 (c.tc : Thread nD τ))
  refine (θ_run (defs (F := F)) _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sem_eq_zero_of_scoped (by decide) (sems_of_reads (fun c => (hr.1 c).2) hr.2)))
    (adequate_tpu (defs (F := F)) _ _ _
    (reflect_intro_fupd_tc_sems (X := Unit) (Variants.lift 𝒱₀) (Pipeline.owing O₀) 0 (noBookings fun _ => le_rfl) (Pipeline.owing_of_ne O₀) u₀ (fun _ => pre) (fun _ => fin)
      (fun _ => iprop(emp)) Set.univ ?_ (fun _ c => ?_) fun _ => ?_))
  · -- the launch
    have hcores : (bigSep Finset.univ fun d : Dev nD =>
          coreInit (Ix := Unit) (Name := ℕ) (U := UU nD τ) (Lvl := ℕ) (Pipeline.owing O₀) 0 (⟨m, fun _ => 0, ρ⟩ : MemSt nD τ sig (Elt F)) (d.tc : Thread nD τ))
        ⊢ iprop((bigSep Finset.univ fun c : Dev nD => kept O₀ c)
          ∗ (bigSep Finset.univ fun c : Dev nD => iprop(Pipeline.ownSems0 osem c ∗ unscopedBufs c (fun b => m ((c.tc : Thread nD τ).loc b))))
          ∗ bigSep Finset.univ fun c : Dev nD => levels0 c : sProp 𝕄) := by
      rw [← bigSep_sep', ← bigSep_sep']
      exact bigSep_mono fun c _ => core_start m ρ O₀ c
    iintro ⟨Hcores, Hu⟩
    ihave Hc := hcores $$ Hcores
    icases Hc with ⟨Hcore, Hglob, Hlv⟩
    imod (levels_assign L lv hL) $$ Hlv with Hla
    imod hu₀ $$ Hu with HG
    imod hglob $$ [Hglob HG] with HG'
    · simp only [bigSep_sep']
      icases Hglob with ⟨H1, H2⟩
      isplitl [H1]; · iexact H1
      isplitl [H2] <;> iassumption
    imodintro
    iexists ()
    isplitr []
    · have hpre : iprop((bigSep Finset.univ fun c : Dev nD => kept O₀ c) ∗ (bigSep Finset.univ fun _ : Dev nD => (levAts L lv : sProp 𝕄)) ∗ bigSep Finset.univ G')
          ⊢ bigSep Finset.univ pre := by
        rw [← bigSep_sep', ← bigSep_sep']
      iapply hpre
      isplitl [Hcore]; · iexact Hcore
      isplitl [Hla]; · iapply (BI.bigSep_intro_persistent (S := Finset.univ) fun (c : Dev nD) _ => (BI.Entails.refl (levAts L lv : sProp 𝕄))); iexact Hla
      iexact HG'
    · iempintro
  · exact core_run O₀ L lv dats c (hbody c) (howed₀ c) (howedN c) G' (hin c) Y (hout c)
  · -- the final memory
    have hcore (c : Dev nD) (s' : Phys nD τ sig (Elt F)) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Launch

end Cert.KernelIdeal.Grads

end
-- ==== Proof.Buffers.lean ====
/-
  The buffers of a device: its arrays shared among the pieces it sends, its results cut into slots, and what its holdings at
  the end say of the memory.
-/
module

public import proofs.«01_k».proof.Proof.Launch
public import Idealize.ShloMosaic.Lib.Ring

@[expose] public section

set_option maxRecDepth 16384
set_option Elab.async false

noncomputable section

namespace Cert.KernelIdeal.Grads

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf OwnSemFacts)

variable {F : FTy → Type} [FloatOps F]

local notation "𝕄" => MT nD τ sig Unit (Elt F) ℕ (UU nD τ) ℕ

variable (m : (ℓ : Loc nD τ sig) → Buf (Elt F) ℓ)

/-! ## The arrays of a device -/

/-- Array `i` of device `c` at its launch contents, under a share; -/
def srcPts (q : PosShare TreeShare) (i : Fin 8) (c : Dev nD) : sProp 𝕄 :=
  (item i).src.view.loc (c : Thread nD τ) ↦{q} m ((item i).src.view.loc (c : Thread nD τ))
/-- result `i` of device `c` at its launch contents. -/
def outPts (i : Fin 8) (c : Dev nD) : sProp 𝕄 :=
  (item i).out.view.loc (c : Thread nD τ) ↦{fullShare} m ((item i).out.view.loc (c : Thread nD τ))

omit [FloatOps F] in
/-- A separating product over the arrays, listed. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- A device's buffers are its eight arrays and its eight results. -/
theorem bufs_split (c : Dev nD) :
    (unscopedBufs c (fun b => m ((c : Thread nD τ).loc b)) : sProp 𝕄)
      ⊢ iprop((bigSep Finset.univ fun i => srcPts m fullShare i c) ∗ bigSep Finset.univ fun i => outPts m i c) := by
  rw [Pipeline.unscopedBufs_split cfgs (0 : Fin 1) winFacts0.to₀.arr_unscoped winFacts0.arr_inj c, unscopedRest0_eq]
  refine sep_elim_right.trans ?_
  rw [bigSep_fin8, bigSep_fin8]
  unfold srcPts outPts
  iintro ⟨A0, A1, A2, A3, A4, A5, A6, A7, R⟩
  isplitr [R]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  · iexact R

/-! ## A result in slots -/

/-- The elements of a slot, within the result. -/
def slotSet (i : Fin 8) (s : Dev nD) : Finset (item i).out.view.ty.Idx := (slotM i s).view.set

theorem slotSet_eq (i : Fin 8) (s : Dev nD) :
    slotSet i s = (Rect.unit (s := sh3 8 (item i).r (item i).w) (slotOff s) (sh3 1 (item i).r (item i).w).size (slot_inb (item i) s)).set.map (item i).out.view.emb := by
  rw [← View.set_slice]
  exact View.set_reshape _ _

theorem slots_disjoint (i : Fin 8) (s s' : Dev nD) (h : s ≠ s') : Disjoint (slotSet i s) (slotSet i s') := by
  rw [slotSet_eq, slotSet_eq, Finset.disjoint_map]
  exact Ring.lead_disjoint (s := sh3 8 (item i).r (item i).w) (NB := nD) 0 1 (fun s : Dev nD => slotOff s) _ (slot_inb (item i))
    (fun b => (Nat.one_mul _).symm) rfl s s' h

theorem slots_cover (i : Fin 8) : Finset.univ.biUnion (slotSet i) = Finset.univ := by
  have h := Ring.lead_cover (s := sh3 8 (item i).r (item i).w) (NB := nD) 0 1 (fun s : Dev nD => slotOff s) (sh3 1 (item i).r (item i).w).size (slot_inb (item i))
    (fun b => (Nat.one_mul _).symm) (fun b a ha => by fin_cases a <;> simp_all) rfl (fun a ha => by fin_cases a <;> simp_all) rfl
  refine Finset.eq_univ_of_forall fun y => ?_
  have hy : y ∈ (item i).out.view.set := by rw [(item i).hout.set_eq_univ]; exact Finset.mem_univ _
  obtain ⟨x, -, rfl⟩ := Finset.mem_map.1 hy
  have hx : x ∈ Finset.univ.biUnion (fun s : Dev nD => (Rect.unit (s := sh3 8 (item i).r (item i).w) (slotOff s) (sh3 1 (item i).r (item i).w).size (slot_inb (item i) s)).set) := by
    rw [h]; exact Finset.mem_univ x
  obtain ⟨s, hs, hxs⟩ := Finset.mem_biUnion.1 hx
  refine Finset.mem_biUnion.2 ⟨s, hs, ?_⟩
  rw [slotSet_eq]
  exact Finset.mem_map_of_mem _ hxs

omit [FloatOps F] in
/-- A result held whole is its eight slots, each at anything. -/
theorem out_slots (i : Fin 8) (c : Dev nD) : outPts m i c ⊢ (bigSep Finset.univ fun s => slotAny (F := F) i s c) := by
  have e : outPts m i c = (bigSep Finset.univ fun s => (item i).out.view.loc (c : Thread nD τ) ↦[slotSet i s]{fullShare} m ((item i).out.view.loc (c : Thread nD τ)) : sProp 𝕄) := by
    rw [← pointsTo_biUnion (ℓ := (item i).out.view.loc (c : Thread nD τ)) Finset.univ (slotSet i) (fun s _ s' _ h => slots_disjoint i s s' h)]
    unfold outPts
    exact congrArg (fun S => ((item i).out.view.loc (c : Thread nD τ) ↦[S]{fullShare} m ((item i).out.view.loc (c : Thread nD τ)) : sProp 𝕄)) (slots_cover i).symm
  rw [e]
  refine bigSep_mono fun s _ => ?_
  show ((slotM i s).view.loc (c : Thread nD τ) ↦[(slotM i s).view.set]{fullShare} m ((slotM i s).view.loc (c : Thread nD τ)) : sProp 𝕄) ⊢ slotAny i s c
  unfold slotAny
  iintro H
  iexists _
  iexact H

/-! ## An array in shares -/

omit [FloatOps F] in
/-- A share of an array holds each of its pieces. -/
theorem src_piece (q : PosShare TreeShare) (i : Fin 8) (x : Fin 4) (c : Dev nD) : srcPts m q i c ⊢ piece m i x c := by
  unfold srcPts piece
  refine ((pointsTo_split_subset (Finset.subset_univ (pieceM i x).view.set)).1).trans ?_
  iintro ⟨H, -⟩
  iexists q
  iexact H

omit [FloatOps F] in
theorem src_share (q : PosShare TreeShare) (i : Fin 8) (c : Dev nD) : srcPts m q i c ⊢ iprop(srcPts m q.left i c ∗ srcPts m q.right i c) :=
  (pointsTo_share (PosShare.mem_left_op_right q)).1

omit [FloatOps F] in
/-- An array held whole: half of it kept to be read at the end, the other half shared among the pieces the device sends. -/
theorem src_pieces (i : Fin 8) (c : Dev nD) :
    srcPts m fullShare i c ⊢ iprop(srcPts m fullShare.left i c ∗ (bigSep Finset.univ fun p => piece m i (chip (peer p c)) c) ∗ piece m i (chip c) c) := by
  rw [bigSep_fin4]
  iintro H
  ihave H := (src_share m fullShare i c) $$ H
  icases H with ⟨H0, H⟩
  ihave H := (src_share m _ i c) $$ H
  icases H with ⟨H1, H⟩
  ihave H := (src_share m _ i c) $$ H
  icases H with ⟨H2, H⟩
  ihave H := (src_share m _ i c) $$ H
  icases H with ⟨H3, H⟩
  ihave H := (src_share m _ i c) $$ H
  icases H with ⟨H4, H5⟩
  isplitl [H0]; · iexact H0
  isplitr [H5]
  · isplitl [H1]; · (iapply (src_piece m _ i _ c) $$ H1)
    isplitl [H2]; · (iapply (src_piece m _ i _ c) $$ H2)
    isplitl [H3]; · (iapply (src_piece m _ i _ c) $$ H3)
    iapply (src_piece m _ i _ c) $$ H4
  · iapply (src_piece m _ i _ c) $$ H5

/-! ## Reading at the end -/

omit [FloatOps F] in
/-- A slot held at a piece is at it in memory. -/
theorem slot_read (i : Fin 8) (s c : Dev nD) (s' : Phys nD τ sig (Elt F)) :
    iprop(slotHas m fullShare.left i s c ∗ SI s')
      ⊢ iprop(⌜(slotM i s).view.read (Elt F) (s'.mem.mem ((slotM i s).view.loc (c : Thread nD τ))) = val m i s c⌝ ∗ SI s') := by
  unfold slotHas
  iintro ⟨⟨%f, %hf, H⟩, HSI⟩
  icombine HSI H gives %h
  isplitr
  · ipureintro
    rw [← hf]
    exact View.read_congr h
  · iexact HSI

omit [FloatOps F] in
/-- Every slot of every result of a device, read at once. -/
theorem slots_read (c : Dev nD) (s' : Phys nD τ sig (Elt F)) (S : Finset (Fin 8 × Dev nD)) :
    iprop((bigSep S fun x => slotHas m fullShare.left x.1 x.2 c) ∗ SI s')
      ⊢ iprop(⌜∀ x ∈ S, (slotM x.1 x.2).view.read (Elt F) (s'.mem.mem ((slotM x.1 x.2).view.loc (c : Thread nD τ))) = val m x.1 x.2 c⌝ ∗ SI s') := by
  classical
  induction S using Finset.induction_on with
  | empty =>
    iintro ⟨-, HSI⟩
    isplitr; · ipureintro; simp
    iexact HSI
  | insert x S hx ih =>
    rw [bigSep_insert hx]
    refine (show iprop((slotHas m fullShare.left x.1 x.2 c ∗ bigSep S fun x => slotHas m fullShare.left x.1 x.2 c) ∗ SI s') ⊢ _ from ?_)
    iintro ⟨⟨Hx, HS⟩, HSI⟩
    ihave H := (slot_read m x.1 x.2 c s') $$ [Hx HSI]
    · isplitl [Hx] <;> iassumption
    icases H with ⟨%hx', HSI⟩
    ihave H := ih $$ [HS HSI]
    · isplitl [HS] <;> iassumption
    icases H with ⟨%hS, HSI⟩
    isplitr
    · ipureintro
      intro y hy
      rcases Finset.mem_insert.mp hy with rfl | hy
      exacts [hx', hS y hy]
    · iexact HSI

/-- What device `c`'s part of a memory is at the end: every slot at its piece, the arrays as they were. -/
def QY (c : Dev nD) (s : MemSt nD τ sig (Elt F)) : Prop :=
  (∀ i e, (slotM i e).view.read (Elt F) (s.mem ((slotM i e).view.loc (c : Thread nD τ))) = val m i e c)
    ∧ ∀ i, s.mem ((item i).src.view.loc (c : Thread nD τ)) = m ((item i).src.view.loc (c : Thread nD τ))

/-- What device `c` ends with. -/
def YY (c : Dev nD) : sProp 𝕄 :=
  iprop((bigSep Finset.univ fun i => srcPts m fullShare.left i c) ∗ bigSep Finset.univ fun x : Fin 8 × Dev nD => slotHas m fullShare.left x.1 x.2 c)

omit [FloatOps F] in
/-- It says that of the memory. -/
theorem YY_read (c : Dev nD) (s' : Phys nD τ sig (Elt F)) : iprop(YY m c ∗ SI s') ⊢ |={Set.univ}=> iprop(⌜QY m c s'.mem⌝ ∗ SI s') := by
  unfold YY
  iintro ⟨⟨Ha, Hs⟩, HSI⟩
  ihave H := (slots_read m c s' Finset.univ) $$ [Hs HSI]
  · isplitl [Hs] <;> iassumption
  icases H with ⟨%hs, HSI⟩
  ihave H := (pointsTo_read_all Finset.univ (fun i : Fin 8 => (item i).src.view.loc (c : Thread nD τ)) (fun i => m ((item i).src.view.loc (c : Thread nD τ))) s' fullShare.left) $$ [Ha HSI]
  · isplitl [Ha]; · unfold srcPts; iexact Ha
    iexact HSI
  icases H with ⟨%ha, HSI⟩
  imodintro
  isplitr
  · ipureintro
    exact ⟨fun i e => hs (i, e) (Finset.mem_univ _), fun i => ha i (Finset.mem_univ _)⟩
  · iexact HSI

end Cert.KernelIdeal.Grads

end
-- ==== Proof.Deal.lean ====
/-
  The dealing at launch: the cells allocated on every device, then tokens and slots handed to the devices that use them,
  the pieces a device sends shared out of its arrays; and the credits a device waits for its arrivals with.
-/
module

public import proofs.«01_k».proof.Proof.Buffers

@[expose] public section

set_option maxRecDepth 16384
set_option Elab.async false

noncomputable section

namespace Cert.KernelIdeal.Grads

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf OwnSemFacts)

variable {F : FTy → Type} [FloatOps F]

local notation "𝕄" => MT nD τ sig Unit (Elt F) ℕ (UU nD τ) ℕ

variable (m : (ℓ : Loc nD τ sig) → Buf (Elt F) ℓ)

/-! ## Around the mesh

What a device holds of a transfer to it goes to the device the transfer comes from: peers are mutual. -/

/-- A device and its peer. -/
def peerE (k : Fin 4) : Dev nD ≃ Dev nD := ⟨peer k, peer k, peer_peer k, peer_peer k⟩

omit [FloatOps F] in
/-- A resource of every device and transfer, handed to the transfer's peer. -/
theorem around (Φ : T → Dev nD → sProp 𝕄) :
    (bigSep Finset.univ fun c : Dev nD => bigSep Finset.univ fun t : T => Φ t c)
      = bigSep Finset.univ fun c : Dev nD => bigSep Finset.univ fun t : T => Φ t (peer t.to c) := by
  rw [BI.bigSep_univ_comm (fun (c : Dev nD) (t : T) => Φ t c), BI.bigSep_univ_comm (fun (c : Dev nD) (t : T) => Φ t (peer t.to c))]
  exact bigSep_congr fun t _ => bigSep_univ_equiv (peerE t.to) (Φ t)

omit [FloatOps F] in
/-- The same for every array. -/
theorem around_items (Φ : Fin 8 → T → Dev nD → sProp 𝕄) :
    (bigSep Finset.univ fun c : Dev nD => bigSep Finset.univ fun i : Fin 8 => bigSep Finset.univ fun t : T => Φ i t c)
      = bigSep Finset.univ fun c : Dev nD => bigSep Finset.univ fun i : Fin 8 => bigSep Finset.univ fun t : T => Φ i t (peer t.to c) := by
  rw [BI.bigSep_univ_comm (fun (c : Dev nD) (i : Fin 8) => bigSep Finset.univ fun t : T => Φ i t c),
    BI.bigSep_univ_comm (fun (c : Dev nD) (i : Fin 8) => bigSep Finset.univ fun t : T => Φ i t (peer t.to c))]
  exact bigSep_congr fun i _ => around (Φ i)

/-! ## The duty tokens -/

/-- The duties on a device's cells: one on each, of round 0. -/
def duties (_ : Dev nD) : Finset ((Fin 8 × Kind) × ℕ × Unit) :=
  Finset.univ.map ⟨fun x : Fin 8 × Kind => (x, 0, ()), fun _ _ h => (Prod.mk.inj h).1⟩

/-- The tokens of the duties on a device's own cells, -/
def toks (c : Dev nD) : sProp 𝕄 := bigSep Finset.univ fun x : Fin 8 × Kind => dutyTok ER (cell c x) 0 ()
/-- and of the duties it pays for array `i`. -/
def pays (c : Dev nD) (i : Fin 8) : sProp 𝕄 :=
  iprop((bigSep Finset.univ fun t => dutyTok ER (cell c (i, .snd t)) 0 ())
    ∗ (bigSep Finset.univ fun t => dutyTok ER (dcell c (i, t)) 0 ())
    ∗ dutyTok ER (cell c (i, .lcl)) 0 ())

omit [FloatOps F] in
theorem toks_eq (c : Dev nD) :
    (bigSep (duties c) fun x => (dutyTok ER (((c : Dev nD) : Thread nD τ), osem x.1) x.2.1 x.2.2 : sProp 𝕄)) = toks c := by
  unfold duties toks; rw [bigSep_map]; rfl

omit [FloatOps F] in
/-- The tokens of a device's own cells, by array and kind. -/
theorem toks_items (c : Dev nD) : (toks c : sProp 𝕄) = iprop(
    (bigSep Finset.univ fun i : Fin 8 => bigSep Finset.univ fun t : T => dutyTok ER (cell c (i, .snd t)) 0 ())
    ∗ (bigSep Finset.univ fun i : Fin 8 => bigSep Finset.univ fun t : T => dutyTok ER (cell c (i, .rcv t)) 0 ())
    ∗ bigSep Finset.univ fun i : Fin 8 => dutyTok ER (cell c (i, .lcl)) 0 ()) := by
  unfold toks
  rw [bigSep_univ_prod, bigSep_congr (s := Finset.univ) fun (i : Fin 8) _ => bigSep_kind (F := F) (fun κ => dutyTok ER (cell c (i, κ)) 0 ()),
    bigSep_sep', bigSep_sep']

omit [FloatOps F] in
/-- Every device gets the tokens of the duties it pays. -/
theorem toks_around : (bigSep Finset.univ fun c : Dev nD => (toks c : sProp 𝕄))
    = bigSep Finset.univ fun c : Dev nD => bigSep Finset.univ fun i : Fin 8 => pays c i := by
  have e (c : Dev nD) : (bigSep Finset.univ fun i : Fin 8 => (pays c i : sProp 𝕄)) = iprop(
      (bigSep Finset.univ fun i : Fin 8 => bigSep Finset.univ fun t : T => dutyTok ER (cell c (i, .snd t)) 0 ())
      ∗ (bigSep Finset.univ fun i : Fin 8 => bigSep Finset.univ fun t : T => dutyTok ER (dcell c (i, t)) 0 ())
      ∗ bigSep Finset.univ fun i : Fin 8 => dutyTok ER (cell c (i, .lcl)) 0 ()) := by
    unfold pays; rw [bigSep_sep', bigSep_sep']
  rw [bigSep_congr (s := Finset.univ) fun (c : Dev nD) _ => toks_items (F := F) c, bigSep_congr (s := Finset.univ) fun (c : Dev nD) _ => e c,
    bigSep_sep', bigSep_sep', bigSep_sep', bigSep_sep',
    around_items (F := F) (fun i t c => dutyTok ER (cell c (i, .rcv t)) 0 ())]

/-! ## The slots -/

/-- The slots a device writes for array `i`: its peers' and its own. -/
def writes (c : Dev nD) (i : Fin 8) : sProp 𝕄 :=
  iprop((bigSep Finset.univ fun t : T => slotAny i (sslot t c) (peer t.to c)) ∗ slotAny i c c)

omit [FloatOps F] in
/-- A device's slots are those it receives with each transfer and its own. -/
theorem slots_eq (i : Fin 8) (c : Dev nD) : (bigSep Finset.univ fun s : Dev nD => (slotAny i s c : sProp 𝕄))
    ⊢ iprop((bigSep Finset.univ fun t : T => slotAny i (rslot t c) c) ∗ slotAny i c c) := by
  rw [bigSep_slots c, bigSep_T]
  iintro ⟨Ho, Hs, H0, H1, H2, G0, G1, G2⟩
  isplitr [Ho]
  · isplitl [Hs]; · iexact Hs
    isplitl [H0]; · iexact H0
    isplitl [H1]; · iexact H1
    isplitl [H2]; · iexact H2
    isplitl [G0]; · iexact G0
    isplitl [G1]; · iexact G1
    iexact G2
  · iexact Ho

omit [FloatOps F] in
/-- Every device gets the slots it writes. -/
theorem slots_around : (bigSep Finset.univ fun c : Dev nD => bigSep Finset.univ fun i : Fin 8 => bigSep Finset.univ fun s : Dev nD => (slotAny i s c : sProp 𝕄))
    ⊢ bigSep Finset.univ fun c : Dev nD => bigSep Finset.univ fun i : Fin 8 => writes c i := by
  refine (bigSep_mono fun c _ => bigSep_mono fun i _ => slots_eq i c).trans ?_
  have e (c : Dev nD) : (bigSep Finset.univ fun i : Fin 8 => iprop((bigSep Finset.univ fun t : T => (slotAny i (rslot t c) c : sProp 𝕄)) ∗ slotAny i c c))
      = iprop((bigSep Finset.univ fun i : Fin 8 => bigSep Finset.univ fun t : T => slotAny i (rslot t c) c) ∗ bigSep Finset.univ fun i : Fin 8 => slotAny i c c) :=
    bigSep_sep' _ _ _
  have e' (c : Dev nD) : (bigSep Finset.univ fun i : Fin 8 => (writes c i : sProp 𝕄))
      = iprop((bigSep Finset.univ fun i : Fin 8 => bigSep Finset.univ fun t : T => slotAny i (sslot t c) (peer t.to c)) ∗ bigSep Finset.univ fun i : Fin 8 => slotAny i c c) := by
    unfold writes; exact bigSep_sep' _ _ _
  rw [bigSep_congr (s := Finset.univ) fun (c : Dev nD) _ => e c, bigSep_congr (s := Finset.univ) fun (c : Dev nD) _ => e' c,
    bigSep_sep', bigSep_sep', around_items (F := F) (fun i t c => slotAny i (rslot t c) c)]
  simp only [rslot_peer]; exact BI.Entails.refl _

/-! ## The global step -/

/-- What the launch gives device `c` of the ghost state: its cells' round states, positions and marks, and their tokens. -/
def G (c : Dev nD) : sProp 𝕄 := iprop(Pipeline.ownGhost cfgs (0 : Fin 1) ownSemFacts ER (Rd m) c ∗ toks c)

/-- What a device is dealt, linear: its arrays' kept halves, its positions, the tokens it pays with, the pieces it sends, the
    slots it writes. -/
def mine (c : Dev nD) : sProp 𝕄 :=
  iprop((bigSep Finset.univ fun i => srcPts m fullShare.left i c)
    ∗ (bigSep Finset.univ fun i : Fin 8 => bigSep Finset.univ fun κ : Kind => at0 c i κ)
    ∗ (bigSep Finset.univ fun i => pays c i)
    ∗ (bigSep Finset.univ fun i => iprop((bigSep Finset.univ fun p => piece m i (chip (peer p c)) c) ∗ piece m i (chip c) c))
    ∗ bigSep Finset.univ fun i => writes c i)

/-- What a device is dealt: the records, at some names, and that. -/
def G' (c : Dev nD) : sProp 𝕄 := iprop(∃ K, records m K ∗ mine m c)

/-- One device's cells allocated. -/
def dealt (c : Dev nD) : sProp 𝕄 :=
  iprop((bigSep Finset.univ fun x : Fin 8 × Kind => iprop(∃ κ : ℕ, cellInv ER (Rd m) κ (cell c x)))
    ∗ (bigSep Finset.univ fun x : Fin 8 × Kind => atPos ER (cell c x) 0 ∅ 0)
    ∗ (bigSep Finset.univ fun x : Fin 8 × Kind => reached ER (cell c x) 0)
    ∗ toks c
    ∗ (bigSep Finset.univ fun i => srcPts m fullShare.left i c)
    ∗ (bigSep Finset.univ fun i => iprop((bigSep Finset.univ fun p => piece m i (chip (peer p c)) c) ∗ piece m i (chip c) c))
    ∗ bigSep Finset.univ fun i : Fin 8 => bigSep Finset.univ fun s : Dev nD => slotAny i s c)

omit [FloatOps F] in
/-- On one device: its cells' invariants from their counters at zero and round states; its arrays halved and shared out;
    its results cut into slots. -/
theorem core_alloc (c : Dev nD) :
    iprop(Pipeline.ownSems0 osem c ∗ unscopedBufs c (fun b => m ((c.tc : Thread nD τ).loc b)) ∗ G m c) ⊢ |={Set.univ}=> dealt m c := by
  have hsrc : (bigSep Finset.univ fun i => srcPts m fullShare i c)
      ⊢ iprop((bigSep Finset.univ fun i => srcPts m fullShare.left i c)
        ∗ bigSep Finset.univ fun i => iprop((bigSep Finset.univ fun p => piece m i (chip (peer p c)) c) ∗ piece m i (chip c) c)) := by
    rw [← bigSep_sep']; exact bigSep_mono fun i _ => src_pieces m i c
  have hout : (bigSep Finset.univ fun i => outPts m i c) ⊢ (bigSep Finset.univ fun i : Fin 8 => bigSep Finset.univ fun s : Dev nD => slotAny i s c : sProp 𝕄) :=
    bigSep_mono fun i _ => out_slots m i c
  have hat : (bigSep Finset.univ fun x : Fin 8 × Kind => iprop(atPos ER (Pipeline.ownCellOn cfgs (0 : Fin 1) ownSemFacts c x) 0 ∅ 0
        ∗ reached ER (Pipeline.ownCellOn cfgs (0 : Fin 1) ownSemFacts c x) 0) : sProp 𝕄)
      ⊢ iprop((bigSep Finset.univ fun x : Fin 8 × Kind => atPos ER (cell c x) 0 ∅ 0) ∗ bigSep Finset.univ fun x : Fin 8 × Kind => reached ER (cell c x) 0) :=
    Entails.of_eq (bigSep_sep' _ _ _)
  unfold G dealt
  rw [Pipeline.ownGhost_eq]
  iintro ⟨Hos, Hub, ⟨Hst, Hat⟩, Htok⟩
  imod (Pipeline.ownCells_alloc cfgs (0 : Fin 1) ownSemFacts ER (Rd m) c) $$ [Hos Hst] with Hinv
  · isplitl [Hos] <;> iassumption
  ihave Hb := (bufs_split m c) $$ Hub
  icases Hb with ⟨Hs, Ho⟩
  ihave Hs := hsrc $$ Hs
  icases Hs with ⟨Hl, Hp⟩
  ihave Ho := hout $$ Ho
  ihave Hat := hat $$ Hat
  icases Hat with ⟨Hat, Hr⟩
  imodintro
  isplitl [Hinv]; · iexact Hinv
  isplitl [Hat]; · iexact Hat
  isplitl [Hr]; · iexact Hr
  isplitl [Htok]; · iexact Htok
  isplitl [Hl]; · iexact Hl
  isplitl [Hp]; · iexact Hp
  iexact Ho

omit [FloatOps F] in
/-- A persistent assertion beside a separating product serves every factor. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- What all devices hold once their cells are allocated, by kind of resource. -/
theorem dealt_split : (bigSep Finset.univ fun c : Dev nD => dealt m c)
    ⊢ iprop((bigSep Finset.univ fun y : Dev nD × (Fin 8 × Kind) => iprop(∃ κ : ℕ, cellInv ER (Rd m) κ (cell y.1 y.2)))
      ∗ (bigSep Finset.univ fun c : Dev nD => bigSep Finset.univ fun i : Fin 8 => bigSep Finset.univ fun κ : Kind => at0 c i κ)
      ∗ (bigSep Finset.univ fun y : Dev nD × (Fin 8 × Kind) => reached ER (cell y.1 y.2) 0)
      ∗ (bigSep Finset.univ fun c : Dev nD => toks c)
      ∗ (bigSep Finset.univ fun c : Dev nD => bigSep Finset.univ fun i => srcPts m fullShare.left i c)
      ∗ (bigSep Finset.univ fun c : Dev nD => bigSep Finset.univ fun i => iprop((bigSep Finset.univ fun p => piece m i (chip (peer p c)) c) ∗ piece m i (chip c) c))
      ∗ bigSep Finset.univ fun c : Dev nD => bigSep Finset.univ fun i : Fin 8 => bigSep Finset.univ fun s : Dev nD => slotAny i s c) := by
  have e (c : Dev nD) : (bigSep Finset.univ fun i : Fin 8 => bigSep Finset.univ fun κ : Kind => at0 c i κ)
      = (bigSep Finset.univ fun x : Fin 8 × Kind => atPos ER (cell c x) 0 ∅ 0 : sProp 𝕄) :=
    (bigSep_univ_prod fun x : Fin 8 × Kind => (atPos ER (cell c x) 0 ∅ 0 : sProp 𝕄)).symm
  unfold dealt
  rw [bigSep_sep', bigSep_sep', bigSep_sep', bigSep_sep', bigSep_sep', bigSep_sep',
    bigSep_congr (s := Finset.univ) (fun (c : Dev nD) _ => e c),
    ← bigSep_univ_prod (fun y : Dev nD × (Fin 8 × Kind) => iprop(∃ κ : ℕ, cellInv ER (Rd m) κ (cell y.1 y.2))),
    ← bigSep_univ_prod (fun y : Dev nD × (Fin 8 × Kind) => (reached ER (cell y.1 y.2) 0 : sProp 𝕄))]

omit [FloatOps F] in
/-- All of it dealt: one map of names for the mesh, the records copied to every device, tokens and slots to the devices that
    use them. -/
theorem regroup : (bigSep Finset.univ fun c : Dev nD => dealt m c) ⊢ bigSep Finset.univ (G' m) := by
  have hmine : iprop((bigSep Finset.univ fun c : Dev nD => bigSep Finset.univ fun i => srcPts m fullShare.left i c)
      ∗ (bigSep Finset.univ fun c : Dev nD => bigSep Finset.univ fun i : Fin 8 => bigSep Finset.univ fun κ : Kind => at0 c i κ)
      ∗ (bigSep Finset.univ fun c : Dev nD => bigSep Finset.univ fun i => pays c i)
      ∗ (bigSep Finset.univ fun c : Dev nD => bigSep Finset.univ fun i => iprop((bigSep Finset.univ fun p => piece m i (chip (peer p c)) c) ∗ piece m i (chip c) c))
      ∗ bigSep Finset.univ fun c : Dev nD => bigSep Finset.univ fun i => writes c i) ⊢ bigSep Finset.univ (mine m) := by
    rw [show mine m = fun c => mine m c from rfl]
    unfold mine
    rw [bigSep_sep', bigSep_sep', bigSep_sep', bigSep_sep']
  have hG (K : Dev nD × (Fin 8 × Kind) → ℕ) (c : Dev nD) : iprop(records m K ∗ mine m c) ⊢ G' m c := by
    unfold G'; iintro H; iexists K; iexact H
  have hrec (K : Dev nD × (Fin 8 × Kind) → ℕ) : iprop(records m K ∗ bigSep Finset.univ (mine m)) ⊢ bigSep Finset.univ (G' m) :=
    bigSep_with_persistent fun c _ => hG K c
  iintro H
  ihave H := (dealt_split m) $$ H
  icases H with ⟨HI, Hat, #HR, Htok, Hl, Hp, Ho⟩
  ihave HK := (BI.bigSep_exists_pi Finset.univ (fun (y : Dev nD × (Fin 8 × Kind)) (κ : ℕ) => (cellInv ER (Rd m) κ (cell y.1 y.2) : sProp 𝕄))) $$ HI
  icases HK with ⟨%K, #HI⟩
  ihave Htk := (Entails.of_eq (toks_around (F := F))) $$ Htok
  ihave Hw := (slots_around (F := F)) $$ Ho
  iapply (hrec K)
  isplitr
  · unfold records; isplitr; · iexact HI
    iexact HR
  · iapply hmine
    isplitl [Hl]; · iexact Hl
    isplitl [Hat]; · iexact Hat
    isplitl [Htk]; · iexact Htk
    isplitl [Hp]; · iexact Hp
    iexact Hw

omit [FloatOps F] in
/-- The global step. -/
theorem glob : (bigSep Finset.univ fun c => iprop(Pipeline.ownSems0 osem c ∗ unscopedBufs c (fun b => m ((c.tc : Thread nD τ).loc b)) ∗ G m c) : sProp 𝕄)
    ⊢ |={Set.univ}=> bigSep Finset.univ (G' m) :=
  ((bigSep_mono fun c _ => core_alloc m c).trans (bigSep_fupd _ _)).trans (BI.fupd_mono (regroup m))

/-! ## The launch element -/

/-- The launch element of the ghost state: nothing for the pipeline, the kernel's cells and their tokens. -/
def u₀ : UU nD τ :=
  (1, initOf (Pipeline.ownCells cfgs (0 : Fin 1) ownSemFacts) (Pipeline.ownToksOf cfgs (0 : Fin 1) ownSemFacts duties))

omit [FloatOps F] in
theorem ownU_split (a b : URn nD τ) : (ownU (a, b) : sProp 𝕄) ⊢ iprop(BI.own (EP a) ∗ BI.own (ER b)) :=
  BI.own_op_elim ((uEmb (nD := nD) (sig := sig) (Ix := Unit) (Val := Elt F) (Name := ℕ) (U := UU nD τ) (Lvl := ℕ)).toEmb.op_of_mem
    (Prod.mk_mem_op (URA.mem_op_one a) (URA.mem_one_op b)))

omit [FloatOps F] in
/-- It is every device's ghost state. -/
theorem fund : (ownU u₀ : sProp 𝕄) ⊢ |={Set.univ}=> bigSep Finset.univ (G m) := by
  have hG : iprop((bigSep Finset.univ fun c : Dev nD => Pipeline.ownGhost cfgs (0 : Fin 1) ownSemFacts ER (Rd m) c)
      ∗ bigSep Finset.univ fun c : Dev nD => bigSep (duties c) fun x => (dutyTok ER (((c : Dev nD) : Thread nD τ), osem x.1) x.2.1 x.2.2 : sProp 𝕄))
      ⊢ bigSep Finset.univ (G m) := by
    rw [bigSep_congr (s := Finset.univ) fun (c : Dev nD) _ => toks_eq (F := F) c, ← bigSep_sep']
    exact BI.Entails.refl _
  unfold u₀
  iintro Hu
  ihave H := (ownU_split _ _) $$ Hu
  icases H with ⟨-, HX⟩
  imod (Pipeline.fund_own cfgs (0 : Fin 1) ownSemFacts ER (Rd m) (Pipeline.ownToksOf cfgs (0 : Fin 1) ownSemFacts duties)) $$ HX with ⟨Hx, Htok⟩
  ihave Htk := (Entails.of_eq (Pipeline.bigSep_ownToksOf cfgs (0 : Fin 1) ownSemFacts ER duties)) $$ Htok
  imodintro
  iapply hG
  isplitl [Hx] <;> iassumption

/-! ## The credits -/

/-- A device's due to a cell it receives a transfer at is one of its own transfers'. -/
theorem dcell_eq (d c : Dev nD) (i : Fin 8) (t : T) (x : Fin 8 × T) : cell c (i, .rcv t) = dcell d x ↔ (i, t) = x ∧ d = peer t.to c := by
  constructor
  · intro he
    have h2 := Prod.mk.inj (sem_inj (SemLoc.dma.inj (Prod.mk.inj he).2))
    have h3 : t = x.2 := Sum.inl.inj (Sum.inr.inj h2.2)
    have h4 : c = peer x.2.to d := (Prod.mk.inj (Prod.mk.inj he).1).1
    exact ⟨Prod.ext h2.1 h3, by rw [h4, h3, peer_peer]⟩
  · rintro ⟨rfl, rfl⟩
    show cell c (i, .rcv t) = cell (peer t.to (peer t.to c)) (i, .rcv t)
    rw [peer_peer]

/-- Of transfers that are not to come it owes nothing; -/
theorem owed_other (d c : Dev nD) (i : Fin 8) (t : T) (l : List (Fin 8 × T)) (h : (i, t) ∉ l) : owed d l (cell c (i, .rcv t)) () = 0 := by
  induction l with
  | nil => rfl
  | cons x l ih =>
    have hx : ¬ (i, t) = x ∧ (i, t) ∉ l := ⟨fun e => h (e ▸ List.mem_cons_self), fun e => h (List.mem_cons_of_mem _ e)⟩
    unfold owed
    rw [Pi.add_apply, Finsupp.add_apply, tallyAt_apply, ih hx.2, if_neg (fun e : cell c (i, .rcv t) = dcell d x ∧ () = () => hx.1 ((dcell_eq d c i t x).mp e.1).1)]

/-- of one that is, its credit, if device `d` sends it. -/
theorem owed_rcv (d c : Dev nD) (i : Fin 8) (t : T) (l : List (Fin 8 × T)) (hl : l.Nodup) (h : (i, t) ∈ l) :
    owed d l (cell c (i, .rcv t)) () = if d = peer t.to c then N i else 0 := by
  induction l with
  | nil => exact absurd h List.not_mem_nil
  | cons x l ih =>
    have hx := List.nodup_cons.mp hl
    unfold owed
    rw [Pi.add_apply, Finsupp.add_apply, tallyAt_apply]
    rcases List.mem_cons.mp h with e | hm
    · subst e
      rw [owed_other d c i t l hx.1, Nat.zero_add]
      exact if_congr ⟨fun e => ((dcell_eq d c i t _).mp e.1).2, fun e => ⟨(dcell_eq d c i t _).mpr ⟨rfl, e⟩, rfl⟩⟩ rfl rfl
    · rw [ih hx.2 hm, if_neg (fun e : cell c (i, .rcv t) = dcell d x ∧ () = () => hx.1 (((dcell_eq d c i t x).mp e.1).1 ▸ hm)), Nat.add_zero]

theorem all_nodup : (items.flatMap pushes ++ items.flatMap relaysOf).Nodup := by decide +kernel
theorem all_mem (i : Fin 8) (t : T) : (i, t) ∈ items.flatMap pushes ++ items.flatMap relaysOf := by
  have hi : i ∈ items := by revert i; decide
  rcases t with p | j
  · have hp : p ∈ ([3, 0, 1, 2] : List (Fin 4)) := by revert p; decide
    exact List.mem_append_left _ (List.mem_flatMap.mpr ⟨i, hi, List.mem_map.mpr ⟨p, hp, rfl⟩⟩)
  · have hj : j ∈ chips := by revert j; decide
    exact List.mem_append_right _ (List.mem_flatMap.mpr ⟨i, hi, List.mem_map.mpr ⟨j, hj, rfl⟩⟩)

omit [FloatOps F] in
/-- A cell a device receives at is owed its transfer's credit. -/
theorem launch_rcv (c : Dev nD) (i : Fin 8) (t : T) :
    tallyOn (cell c (i, .rcv t)) (launchCredit (Pipeline.owing O₀) 0 (cell c (i, .rcv t)))
      = (tallyAt (cell c (i, .rcv t)) () (N i) : CellTallies nD τ sig Unit) := by
  unfold tallyAt; refine congrArg _ (Finsupp.ext fun u => ?_); cases u
  rw [Pipeline.launchCredit_owing, Finsupp.single_eq_same,
    Finset.sum_congr rfl fun d _ => owed_rcv d c i t _ all_nodup (all_mem i t),
    Finset.sum_ite_eq' Finset.univ (peer t.to c) fun _ => N i, if_pos (Finset.mem_univ _)]

omit [FloatOps F] in
/-- So a device's launch credit holds the credits it waits for its arrivals with. -/
theorem creds (c : Dev nD) :
    (Pipeline.launchCred O₀ c : sProp 𝕄) ⊢ bigSep Finset.univ fun i : Fin 8 => bigSep Finset.univ fun t : T => sndCred c i (.rcv t) := by
  have hinj : Function.Injective fun y : Fin 8 × T => osem (y.1, .rcv y.2) := fun y z h => by
    have h2 := Prod.mk.inj (osem_inj h)
    exact Prod.ext h2.1 (Sum.inl.inj (Sum.inr.inj h2.2))
  have e : (bigSep Finset.univ fun i : Fin 8 => bigSep Finset.univ fun t : T => (sndCred c i (.rcv t) : sProp 𝕄))
      = bigSep (Finset.univ.map ⟨_, hinj⟩) fun sm : SemLoc sig =>
          cred (tallyOn ((c.tc : Thread nD τ), sm) (launchCredit (Pipeline.owing O₀) 0 ((c.tc : Thread nD τ), sm))) := by
    rw [bigSep_map, bigSep_univ_prod]
    exact bigSep_congr fun i _ => bigSep_congr fun t _ => congrArg cred (launch_rcv c i t).symm
  rw [e]
  unfold Pipeline.launchCred
  exact BI.bigSep_subset (Finset.subset_univ _)

end Cert.KernelIdeal.Grads

end
-- ==== Proof.Run.lean ====
/-
  The run: the call's proof data, its body obligation, and the launch theorem applied. What it says of the final memory
  holds over any carrier of the elements.
-/
module

public import proofs.«01_k».proof.Proof.Deal

@[expose] public section

set_option maxRecDepth 16384
set_option Elab.async false

noncomputable section

namespace Cert.KernelIdeal.Grads

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf OwnSemFacts)

variable {F : FTy → Type} [FloatOps F]

local notation "𝕄" => MT nD τ sig Unit (Elt F) ℕ (UU nD τ) ℕ

variable (m : (ℓ : Loc nD τ sig) → Buf (Elt F) ℓ)

/-! ## The call's proof data -/

/-- What a device starts its body with, -/
def Φ₀ (c : Dev nD) : sProp 𝕄 :=
  iprop(∃ K, recs m K ∗ (bigSep Finset.univ fun i => itemIn m c i) ∗ bigSep Finset.univ fun i => srcPts m fullShare.left i c)
/-- and what it ends it with. -/
def Φ₁ (c : Dev nD) : sProp 𝕄 := iprop(YY m c ∗ Pipeline.ownSems0 osem c)

def dats : (p : Fin 1) → (c : Dev nD) → Dat τ (Elt F) Unit ℕ (UU nD τ) ℕ (cfgs p) c := fun _ c => {
  A := fun w => w.elim0
  after := fun w => w.elim0
  Φ := fun | ⟨0, _⟩ => Φ₀ m c | ⟨_ + 1, _⟩ => Φ₁ m c
  q := fun _ => fullShare
  owed := fun | ⟨0, _⟩ => O₀ c | ⟨_ + 1, _⟩ => 0 }

omit [FloatOps F] in
/-- From the global step's share and the credits, what the body starts with. -/
theorem phi0_intro (c : Dev nD) : iprop(levAts L lv ∗ Pipeline.launchCred O₀ c ∗ G' m c) ⊢ Φ₀ m c := by
  have hitems : iprop((bigSep Finset.univ fun i : Fin 8 => bigSep Finset.univ fun κ : Kind => at0 c i κ)
      ∗ (bigSep Finset.univ fun i => pays c i)
      ∗ (bigSep Finset.univ fun i : Fin 8 => bigSep Finset.univ fun t : T => sndCred c i (.rcv t))
      ∗ (bigSep Finset.univ fun i => writes c i)
      ∗ bigSep Finset.univ fun i => iprop((bigSep Finset.univ fun p => piece m i (chip (peer p c)) c) ∗ piece m i (chip c) c))
      ⊢ bigSep Finset.univ fun i => itemIn m c i := by
    have h (i : Fin 8) : iprop((bigSep Finset.univ fun κ : Kind => at0 c i κ) ∗ pays c i ∗ (bigSep Finset.univ fun t : T => sndCred c i (.rcv t))
        ∗ writes c i ∗ (bigSep Finset.univ fun p => piece m i (chip (peer p c)) c) ∗ piece m i (chip c) c) ⊢ itemIn m c i := by
      unfold pays writes itemIn
      iintro ⟨H1, ⟨H2, H3, H4⟩, H5, ⟨H6, H7⟩, H8⟩
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    rw [← bigSep_sep', ← bigSep_sep', ← bigSep_sep', ← bigSep_sep']
    exact bigSep_mono fun i _ => h i
  unfold G' Φ₀ recs mine
  iintro ⟨Hlev, Hcr, ⟨%K, HR, Hl, Hat, Hpay, Hp, Hw⟩⟩
  ihave Hc := (creds (F := F) c) $$ Hcr
  iexists K
  isplitl [HR Hlev]; · isplitl [HR] <;> iassumption
  isplitr [Hl]
  · iapply hitems
    isplitl [Hat]; · iexact Hat
    isplitl [Hpay]; · iexact Hpay
    isplitl [Hc]; · iexact Hc
    isplitl [Hw]; · iexact Hw
    iexact Hp
  · iexact Hl

/-- Every cell's one round consumed, the cells close: their counters at zero are the device's again. -/
theorem close_cells (K : Dev nD × (Fin 8 × Kind) → ℕ) (c : Dev nD) :
    iprop(recs m K ∗ bigSep Finset.univ fun i : Fin 8 => bigSep Finset.univ fun κ : Kind => at1 c i κ)
      ⊢ |={Set.univ}=> (Pipeline.ownSems0 osem c : sProp 𝕄) := by
  have hcl (x : Fin 8 × Kind) : iprop(recs m K ∗ atPos ER (cell c x) 1 ∅ 0) ⊢ |={Set.univ}=> (semVal (cell c x) 0 : sProp 𝕄) :=
    (sep_mono_left (recs_inv m K c x)).trans (Rounds.cell_close ER (Rd m) (Set.mem_univ (K (c, x))) (fun h => h) (R := 1) (duties_later m (cell c x)))
  rw [← bigSep_univ_prod (fun x : Fin 8 × Kind => (atPos ER (cell c x) 1 ∅ 0 : sProp 𝕄))]
  exact (bigSep_with_persistent (R := recs m K) fun x _ => hcl x).trans (bigSep_fupd _ _)

/-- What a device ends the call with, from what its loops end with. -/
theorem finish (K : Dev nD × (Fin 8 × Kind) → ℕ) (c : Dev nD) :
    iprop(recs m K ∗ (bigSep Finset.univ fun i => itemOut m c i) ∗ bigSep Finset.univ fun i => srcPts m fullShare.left i c)
      ⊢ |={Set.univ}=> Φ₁ m c := by
  have hout : (bigSep Finset.univ fun i => itemOut m c i)
      ⊢ iprop((bigSep Finset.univ fun i : Fin 8 => bigSep Finset.univ fun κ : Kind => at1 c i κ)
        ∗ bigSep Finset.univ fun x : Fin 8 × Dev nD => slotHas m fullShare.left x.1 x.2 c) := by
    unfold itemOut
    rw [bigSep_sep', ← bigSep_univ_prod (fun x : Fin 8 × Dev nD => slotHas m fullShare.left x.1 x.2 c)]
  unfold Φ₁ YY
  iintro ⟨#HR, Ho, Hl⟩
  ihave Ho := hout $$ Ho
  icases Ho with ⟨Hat, Hs⟩
  imod (close_cells m K c) $$ [Hat] with Hz
  · isplitr; · iexact HR
    iexact Hat
  imodintro
  isplitr [Hz]
  · isplitl [Hl] <;> iassumption
  · iexact Hz

/-- The body, from what a device starts with to what it ends with. -/
theorem sound_body (c : Dev nD) :
    iprop(Φ₀ m c ∗ ∃ W, owes (c : Thread nD τ) (O₀ c) W)
      ⊢ WP c (prog F) fun _ => iprop(Φ₁ m c ∗ ∃ W, owes (c : Thread nD τ) (0 : CellTallies nD τ sig Unit) W) := by
  refine .trans ?_ (wp_fupd _ _ _ _ _)
  unfold Φ₀
  iintro ⟨⟨%K, #HR, Hin, Hl⟩, HO⟩
  iapply (wp_prog m c K)
  unfold St
  isplitl [HO]
  · isplitr; · iexact HR
    iexact HO
  isplitl [Hin]; · iexact Hin
  iintro ⟨⟨-, HO⟩, Hout⟩
  imod (finish m K c) $$ [Hout Hl] with HΦ
  · isplitr; · iexact HR
    isplitl [Hout] <;> iassumption
  imodintro
  isplitl [HΦ]; · iexact HΦ
  iexact HO

/-- The call's body obligation. -/
theorem body_obligation (c : Dev nD) : BodyObligation (dats (F := F) m 0 c) (defs₀ (F := F)) 𝒱₀ () Set.univ := fun t => by
  obtain rfl := fin_N0 t
  have hpre : iprop(Φ₀ m c ∗ (dats (F := F) m 0 c).owesAt () (Fin.castSucc t0_0)) ⊢ iprop(Φ₀ m c ∗ ∃ W, owes (c : Thread nD τ) (O₀ c) W) := by
    refine sep_mono_right ?_
    unfold Dat.owesAt Pipeline.owesWithin
    iintro ⟨%W, -, H⟩
    iexists W; iexact H
  have hpost : iprop(Φ₁ m c ∗ ∃ W, owes (c : Thread nD τ) (0 : CellTallies nD τ sig Unit) W)
      ⊢ iprop(Φ₁ m c ∗ (dats (F := F) m 0 c).owesAt () (Fin.succ t0_0) ∗ BI.emp) := by
    refine sep_mono_right ?_
    unfold Dat.owesAt Pipeline.owesWithin
    iintro ⟨%W, H⟩
    isplitl [H]
    · iexists W
      isplitr
      · ipureintro; exact fun _ _ => Or.inl trivial
      · iexact H
    · iempintro
  have hb : (defs₀ (F := F)) .tc cfg0.body (cfg0.bodyArgs t0_0 (cfg0.slots t0_0)) = prog F := body_eq
  show iprop(Φ₀ m c ∗ (dats (F := F) m 0 c).owesAt () (Fin.castSucc t0_0) ∗ _)
    ⊢ wp frame (wpE (defs₀ (F := F)) 𝒱₀ (c : Thread nD τ) none) Set.univ ((defs₀ (F := F)) .tc cfg0.body (cfg0.bodyArgs t0_0 (cfg0.slots t0_0)))
      (fun _ => iprop(Φ₁ m c ∗ (dats (F := F) m 0 c).owesAt () (Fin.succ t0_0) ∗ _))
  rw [hb]
  refine .trans (sep_mono_right sep_elim_left) (hpre.trans ((sound_body m c).trans ?_))
  refine wp_mono _ _ _ fun _ => hpost.trans (sep_mono_right (sep_mono_right (Entails.of_eq (no_windows _).symm)))

/-! ## The run -/

/-- THE RUN, over any carrier: every execution ends, with every device's slots at the pieces gathered, its arrays as they
    were, and every semaphore at zero. -/
theorem run_main (ρ : Dev nD → PrngReg) :
    θ_run (defs (F := F)) (onTc (τ := τ) (main (F := F))) ⟨m, fun _ => 0, ρ⟩
      (fun r => (∀ c, QY m c r.2) ∧ r.2.sem = fun _ => 0) :=
  θ_run_dealt m ρ O₀ L lv (dats m) (body_obligation m) (fun _ => rfl) (fun _ => rfl) L_of_ne (G m) (G' m) u₀ (fund m) (glob m)
    (phi0_intro m) (YY m) (fun _ => BI.Entails.refl _) (QY m) (YY_read m) (fun _ h h0 => ⟨h, h0⟩)

end Cert.KernelIdeal.Grads

end
-- ==== Proof.Values.lean ====
/-
  What the gathered arrays hold. Each device's result is read off its slots (`result_read`), and where the devices'
  blocks are the eight row blocks of one whole array, it is the device's part of that array reshaped to eight blocks
  (`result_cols`, `result_rows`).
-/
module

public import proofs.«01_k».proof.Proof.Buffers
public import Idealize.ShloMosaic.Lib.Layout

@[expose] public section

set_option maxRecDepth 16384

noncomputable section

namespace Cert.KernelIdeal.Grads

open Cert.KernelIdeal.Gen
open Idealize.ShloMosaic Idealize.ShloMosaic.TcCoe
open Idealize.SL Idealize.SL.Sem

/-! ## Parts of a reshaped array -/

/-- A device's coordinates on the first two axes of the mesh name its chip. -/
theorem lin_chip : ∀ c : Fin 8, Layout.meshLin [2, 2, 2] c.val [0, 1] = c.val / 2 := by decide

/-- A device's part, cut by columns, of an array reshaped to eight blocks: at `(e, a, b)`, block `e` of the array at
    `(a, chip · w + b)`. -/
theorem part_cols {α : Type} {n R W r w : ℕ} (hr : r = R) (v : (sh2 n W).Idx → α) (hc : (sh2 n W).ShapeCasts (sh3 8 R W))
    (hb : Layout.Tiles (sh2 R W) (sh2 n W) 0 8)
    (hN : Layout.TilesN (sh3 8 r w) (sh3 8 R W) (fun b => Layout.cutSize [2, 2, 2] ((![[], [], [0, 1]] : Fin 3 → List ℕ) b)))
    (c e : Fin 8) (y : (sh3 8 r w).Idx) (x : (sh2 R W).Idx)
    (he : (y 0).val = e.val) (h0 : (x 0).val = (y 1).val) (h1 : (x 1).val = c.val / 2 * w + (y 2).val) :
    Layout.blockN (sh3 8 r w) (sh3 8 R W) (Layout.meshBlock [2, 2, 2] ![[], [], [0, 1]] c) (shapeCast (sh3 8 R W) v hc) hN y
      = Layout.block (sh2 R W) (sh2 n W) 0 8 e v hb x := by
  subst hr
  show v _ = v _
  congr 1
  refine Shape.reshapeEquiv_eq_of_rowMajor _ ?_
  rw [Shape.rowMajor_val_two, Shape.rowMajor_val_three]
  have m : Layout.meshLin [2, 2, 2] c.val [0, 1] = c.val / 2 := lin_chip c
  show (e.val * r + (x 0).val) * W + (x 1).val
    = ((0 * 8 + (y 0).val) * r + (0 * r + (y 1).val)) * W + (Layout.meshLin [2, 2, 2] c.val [0, 1] * w + (y 2).val)
  rw [m, he, h0, h1]; simp

/-- The same, cut by rows: block `e` of the array at `(chip · r + a, b)`. -/
theorem part_rows {α : Type} {n R W r w : ℕ} (hw : w = W) (v : (sh2 n W).Idx → α) (hc : (sh2 n W).ShapeCasts (sh3 8 R W))
    (hb : Layout.Tiles (sh2 R W) (sh2 n W) 0 8)
    (hN : Layout.TilesN (sh3 8 r w) (sh3 8 R W) (fun b => Layout.cutSize [2, 2, 2] ((![[], [0, 1], []] : Fin 3 → List ℕ) b)))
    (c e : Fin 8) (y : (sh3 8 r w).Idx) (x : (sh2 R W).Idx)
    (he : (y 0).val = e.val) (h0 : (x 0).val = c.val / 2 * r + (y 1).val) (h1 : (x 1).val = (y 2).val) :
    Layout.blockN (sh3 8 r w) (sh3 8 R W) (Layout.meshBlock [2, 2, 2] ![[], [0, 1], []] c) (shapeCast (sh3 8 R W) v hc) hN y
      = Layout.block (sh2 R W) (sh2 n W) 0 8 e v hb x := by
  subst hw
  show v _ = v _
  congr 1
  refine Shape.reshapeEquiv_eq_of_rowMajor _ ?_
  rw [Shape.rowMajor_val_two, Shape.rowMajor_val_three]
  have m : Layout.meshLin [2, 2, 2] c.val [0, 1] = c.val / 2 := lin_chip c
  show (e.val * R + (x 0).val) * w + (x 1).val
    = ((0 * 8 + (y 0).val) * R + (Layout.meshLin [2, 2, 2] c.val [0, 1] * r + (y 1).val)) * w + (0 * w + (y 2).val)
  rw [m, he, h0, h1]; simp

/-! ## A result, read off its slots -/

variable {F : FTy → Type} [FloatOps F]

variable (m : (ℓ : Loc nD τ sig) → Buf (Elt F) ℓ)

/-- The index of slot `e` for the index `y` of the result. -/
abbrev inSlot (i : Fin 8) (y : (sh3 8 (item i).r (item i).w).Idx) : (sh2 (item i).r (item i).w).Idx := Shape.pair (y 1) (y 2)

/-- Slot `y 0` at `inSlot i y` is the result at `y`. -/
theorem slot_emb (i : Fin 8) (y : (sh3 8 (item i).r (item i).w).Idx) :
    (Rect.unit (s := sh3 8 (item i).r (item i).w) (slotOff (y 0)) (sh3 1 (item i).r (item i).w).size (slot_inb (item i) (y 0))).emb
      (Shape.reshapeEquiv (item i).sq.numel_eq (inSlot i y)) = y := by
  have e : Shape.reshapeEquiv (item i).sq.numel_eq (inSlot i y) = (Fin.cons ⟨0, Nat.one_pos⟩ (inSlot i y) : (sh3 1 (item i).r (item i).w).Idx) :=
    Shape.reshapeEquiv_cons_one (d := ![(item i).r, (item i).w]) _ _
  rw [e]
  funext a
  apply Fin.ext
  fin_cases a
  · show (y 0).val + 1 * 0 = (y 0).val
    omega
  · show 0 + 1 * (y 1).val = (y 1).val
    omega
  · show 0 + 1 * (y 2).val = (y 2).val
    omega

/-- Device `c`'s result at `y`: device `y 0`'s block, at `inSlot i y` in the piece of `c`'s chip. -/
theorem result_read {c : Dev nD} {s : MemSt nD τ sig (Elt F)} (h : QY m c s) (i : Fin 8) (y : (sh3 8 (item i).r (item i).w).Idx) :
    (item i).out.view.read (Elt F) (s.mem ((item i).out.view.loc (c : Thread nD τ))) y
      = (item i).src.view.read (Elt F) (m ((item i).src.view.loc (Dev.tc (y 0) : Thread nD τ)))
          ((Rect.unit (s := sh2 (item i).R (item i).W) (pieceOff i (chip c)) (sh2 (item i).r (item i).w).size (piece_inb i (chip c))).emb (inSlot i y)) := by
  have e := congrFun (h.1 i (y 0)) (inSlot i y)
  refine Eq.trans ?_ (e.trans rfl)
  show _ = (item i).out.view.read (Elt F) (s.mem ((item i).out.view.loc (c : Thread nD τ))) ((Rect.unit (s := sh3 8 (item i).r (item i).w) (slotOff (y 0)) (sh3 1 (item i).r (item i).w).size (slot_inb (item i) (y 0))).emb
      (Shape.reshapeEquiv (item i).sq.numel_eq (inSlot i y)))
  rw [slot_emb]

/-- An array cut by columns: where the devices' blocks are the row blocks of `v`, the result is the device's part of `v`
    reshaped to eight blocks. -/
theorem result_cols {c : Dev nD} {s : MemSt nD τ sig (Elt F)} (h : QY m c s) (i : Fin 8) (hi : byCol i = true) {n : ℕ}
    (v : (sh2 n (item i).W).Idx → Elt F .bf16) (hr : (item i).r = (item i).R)
    (hv : ∀ e : Dev nD, ∃ hb, (item i).src.view.read (Elt F) (m ((item i).src.view.loc (e : Thread nD τ)))
      = Layout.block (sh2 (item i).R (item i).W) (sh2 n (item i).W) 0 8 e v hb)
    (hc : (sh2 n (item i).W).ShapeCasts (sh3 8 (item i).R (item i).W))
    (hN : Layout.TilesN (sh3 8 (item i).r (item i).w) (sh3 8 (item i).R (item i).W) (fun b => Layout.cutSize [2, 2, 2] ((![[], [], [0, 1]] : Fin 3 → List ℕ) b))) :
    (item i).out.view.read (Elt F) (s.mem ((item i).out.view.loc (c : Thread nD τ)))
      = Layout.blockN (sh3 8 (item i).r (item i).w) (sh3 8 (item i).R (item i).W) (Layout.meshBlock [2, 2, 2] ![[], [], [0, 1]] c)
          (shapeCast (sh3 8 (item i).R (item i).W) v hc) hN := by
  funext y
  obtain ⟨hb, e⟩ := hv (y 0)
  rw [result_read m h i y, e]
  refine (part_cols hr v hc hb hN c (y 0) y _ rfl ?_ ?_).symm
  · show pieceOff i (chip c) 0 + 1 * (y 1).val = _
    simp [pieceOff, hi]
  · show pieceOff i (chip c) 1 + 1 * (y 2).val = _
    simp [pieceOff, hi, chip]

/-- The same for an array cut by rows. -/
theorem result_rows {c : Dev nD} {s : MemSt nD τ sig (Elt F)} (h : QY m c s) (i : Fin 8) (hi : byCol i = false) {n : ℕ}
    (v : (sh2 n (item i).W).Idx → Elt F .bf16) (hw : (item i).w = (item i).W)
    (hv : ∀ e : Dev nD, ∃ hb, (item i).src.view.read (Elt F) (m ((item i).src.view.loc (e : Thread nD τ)))
      = Layout.block (sh2 (item i).R (item i).W) (sh2 n (item i).W) 0 8 e v hb)
    (hc : (sh2 n (item i).W).ShapeCasts (sh3 8 (item i).R (item i).W))
    (hN : Layout.TilesN (sh3 8 (item i).r (item i).w) (sh3 8 (item i).R (item i).W) (fun b => Layout.cutSize [2, 2, 2] ((![[], [0, 1], []] : Fin 3 → List ℕ) b))) :
    (item i).out.view.read (Elt F) (s.mem ((item i).out.view.loc (c : Thread nD τ)))
      = Layout.blockN (sh3 8 (item i).r (item i).w) (sh3 8 (item i).R (item i).W) (Layout.meshBlock [2, 2, 2] ![[], [0, 1], []] c)
          (shapeCast (sh3 8 (item i).R (item i).W) v hc) hN := by
  funext y
  obtain ⟨hb, e⟩ := hv (y 0)
  rw [result_read m h i y, e]
  refine (part_rows hw v hc hb hN c (y 0) y _ rfl ?_ ?_).symm
  · show pieceOff i (chip c) 0 + 1 * (y 1).val = _
    simp [pieceOff, hi, chip]
  · show pieceOff i (chip c) 1 + 1 * (y 2).val = _
    simp [pieceOff, hi]

end Cert.KernelIdeal.Grads

end
-- ==== Proof.Gathered.lean ====
/-
  The gather, read as a statement about whole arrays: where every device's argument blocks are the row blocks of eight
  whole arrays, every device's results end as its part of those arrays reshaped to eight blocks.
-/
module

public import proofs.«01_k».proof.Proof.Run
public import proofs.«01_k».proof.Proof.Values

@[expose] public section

set_option maxRecDepth 16384

noncomputable section

namespace Cert.KernelIdeal.Grads

open Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- On any device, the arguments end as they started. -/
theorem args_kept {c : Dev nD} {s : MemSt nD τ sig (Elt F)} (h : QY m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7) :=
  ⟨h.2 0, h.2 1, h.2 2, h.2 3, h.2 4, h.2 5, h.2 6, h.2 7⟩

/-- Every execution ends, from any memory, with the arguments as they were and every semaphore at zero. -/
theorem run_quiet (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => args_kept m (h.1 c), h.2⟩) (run_main m ρ)

/-- Where the arguments are the row blocks of eight whole arrays, every execution ends with every device's results its
    part of the arrays reshaped, and the arguments as they were. -/
theorem run_gathered (ρ : Dev nD → PrngReg)
    (v0 : (sh2 16384 6144).Idx → Elt F .bf16)
    (v1 : (sh2 16384 2048).Idx → Elt F .bf16)
    (v2 : (sh2 16384 2048).Idx → Elt F .bf16)
    (v3 : (sh2 16384 2048).Idx → Elt F .bf16)
    (v4 : (sh2 16384 2048).Idx → Elt F .bf16)
    (v5 : (sh2 16384 2048).Idx → Elt F .bf16)
    (v6 : (sh2 16384 11264).Idx → Elt F .bf16)
    (v7 : (sh2 45056 2048).Idx → Elt F .bf16)
    (hv : ∀ c : Dev nD,
      m ((c.tc : Thread nD τ).loc main_arg0) = Layout.block ⟨2, ![2048, 6144]⟩ ⟨2, ![16384, 6144]⟩ 0 8 c v0
      ∧ m ((c.tc : Thread nD τ).loc main_arg1) = Layout.block ⟨2, ![2048, 2048]⟩ ⟨2, ![16384, 2048]⟩ 0 8 c v1
      ∧ m ((c.tc : Thread nD τ).loc main_arg2) = Layout.block ⟨2, ![2048, 2048]⟩ ⟨2, ![16384, 2048]⟩ 0 8 c v2
      ∧ m ((c.tc : Thread nD τ).loc main_arg3) = Layout.block ⟨2, ![2048, 2048]⟩ ⟨2, ![16384, 2048]⟩ 0 8 c v3
      ∧ m ((c.tc : Thread nD τ).loc main_arg4) = Layout.block ⟨2, ![2048, 2048]⟩ ⟨2, ![16384, 2048]⟩ 0 8 c v4
      ∧ m ((c.tc : Thread nD τ).loc main_arg5) = Layout.block ⟨2, ![2048, 2048]⟩ ⟨2, ![16384, 2048]⟩ 0 8 c v5
      ∧ m ((c.tc : Thread nD τ).loc main_arg6) = Layout.block ⟨2, ![2048, 11264]⟩ ⟨2, ![16384, 11264]⟩ 0 8 c v6
      ∧ m ((c.tc : Thread nD τ).loc main_arg7) = Layout.block ⟨2, ![5632, 2048]⟩ ⟨2, ![45056, 2048]⟩ 0 8 c v7)
    (hc0 : (sh2 16384 6144).ShapeCasts (sh3 8 2048 6144))
    (hc1 : (sh2 16384 2048).ShapeCasts (sh3 8 2048 2048))
    (hc2 : (sh2 16384 2048).ShapeCasts (sh3 8 2048 2048))
    (hc3 : (sh2 16384 2048).ShapeCasts (sh3 8 2048 2048))
    (hc4 : (sh2 16384 2048).ShapeCasts (sh3 8 2048 2048))
    (hc5 : (sh2 16384 2048).ShapeCasts (sh3 8 2048 2048))
    (hc6 : (sh2 16384 11264).ShapeCasts (sh3 8 2048 11264))
    (hc7 : (sh2 45056 2048).ShapeCasts (sh3 8 5632 2048)) :
    θ_run (defs (F := F)) (onTc (τ := τ) (main (F := F))) ⟨m, fun _ => 0, ρ⟩ (fun r => ∀ c : Dev nD,
      r.2.mem ((c.tc : Thread nD τ).loc main_v1_0)
          = Layout.blockN ⟨3, ![8, 2048, 1536]⟩ ⟨3, ![8, 2048, 6144]⟩ (Layout.meshBlock [2, 2, 2] ![[], [], [0, 1]] c) (shapeCast ⟨3, ![8, 2048, 6144]⟩ v0 hc0)
      ∧ r.2.mem ((c.tc : Thread nD τ).loc main_v1_1)
          = Layout.blockN ⟨3, ![8, 512, 2048]⟩ ⟨3, ![8, 2048, 2048]⟩ (Layout.meshBlock [2, 2, 2] ![[], [0, 1], []] c) (shapeCast ⟨3, ![8, 2048, 2048]⟩ v1 hc1)
      ∧ r.2.mem ((c.tc : Thread nD τ).loc main_v1_2)
          = Layout.blockN ⟨3, ![8, 512, 2048]⟩ ⟨3, ![8, 2048, 2048]⟩ (Layout.meshBlock [2, 2, 2] ![[], [0, 1], []] c) (shapeCast ⟨3, ![8, 2048, 2048]⟩ v2 hc2)
      ∧ r.2.mem ((c.tc : Thread nD τ).loc main_v1_3)
          = Layout.blockN ⟨3, ![8, 512, 2048]⟩ ⟨3, ![8, 2048, 2048]⟩ (Layout.meshBlock [2, 2, 2] ![[], [0, 1], []] c) (shapeCast ⟨3, ![8, 2048, 2048]⟩ v3 hc3)
      ∧ r.2.mem ((c.tc : Thread nD τ).loc main_v1_4)
          = Layout.blockN ⟨3, ![8, 512, 2048]⟩ ⟨3, ![8, 2048, 2048]⟩ (Layout.meshBlock [2, 2, 2] ![[], [0, 1], []] c) (shapeCast ⟨3, ![8, 2048, 2048]⟩ v4 hc4)
      ∧ r.2.mem ((c.tc : Thread nD τ).loc main_v1_5)
          = Layout.blockN ⟨3, ![8, 512, 2048]⟩ ⟨3, ![8, 2048, 2048]⟩ (Layout.meshBlock [2, 2, 2] ![[], [0, 1], []] c) (shapeCast ⟨3, ![8, 2048, 2048]⟩ v5 hc5)
      ∧ r.2.mem ((c.tc : Thread nD τ).loc main_v1_6)
          = Layout.blockN ⟨3, ![8, 2048, 2816]⟩ ⟨3, ![8, 2048, 11264]⟩ (Layout.meshBlock [2, 2, 2] ![[], [], [0, 1]] c) (shapeCast ⟨3, ![8, 2048, 11264]⟩ v6 hc6)
      ∧ r.2.mem ((c.tc : Thread nD τ).loc main_v1_7)
          = Layout.blockN ⟨3, ![8, 1408, 2048]⟩ ⟨3, ![8, 5632, 2048]⟩ (Layout.meshBlock [2, 2, 2] ![[], [0, 1], []] c) (shapeCast ⟨3, ![8, 5632, 2048]⟩ v7 hc7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨result_cols m (h.1 c) 0 rfl v0 rfl (fun e => ⟨_, (hv e).1⟩) hc0 _,
      result_rows m (h.1 c) 1 rfl v1 rfl (fun e => ⟨_, (hv e).2.1⟩) hc1 _,
      result_rows m (h.1 c) 2 rfl v2 rfl (fun e => ⟨_, (hv e).2.2.1⟩) hc2 _,
      result_rows m (h.1 c) 3 rfl v3 rfl (fun e => ⟨_, (hv e).2.2.2.1⟩) hc3 _,
      result_rows m (h.1 c) 4 rfl v4 rfl (fun e => ⟨_, (hv e).2.2.2.2.1⟩) hc4 _,
      result_rows m (h.1 c) 5 rfl v5 rfl (fun e => ⟨_, (hv e).2.2.2.2.2.1⟩) hc5 _,
      result_cols m (h.1 c) 6 rfl v6 rfl (fun e => ⟨_, (hv e).2.2.2.2.2.2.1⟩) hc6 _,
      result_rows m (h.1 c) 7 rfl v7 rfl (fun e => ⟨_, (hv e).2.2.2.2.2.2.2⟩) hc7 _,
      args_kept m (h.1 c)⟩) (run_main m ρ)

end Cert.KernelIdeal.Grads

end
-- ==== Proof.WeightsTable.lean ====
/-
  The gather of the weights: its arrays, views, devices and semaphores as TABLES over the ten arrays. Array `a` is a
  shard `src` of `r` rows and `w` columns on every device, the same on both devices of a chip, and a result `out` of `R`
  rows and `W` columns, the four chips' shards side by side along the columns or the rows. Eight of the arrays (`.inl`)
  are sent in halves of `p` rows, each device of a chip sending one; the last two (`.inr`) are small and sent whole.
  Device `d` names its three peers on other chips `d ^ 4`, `d ^ 2`, `d ^ 6` and its sibling, the other core of its chip,
  `d ^ 1`.
-/
module

public import proofs.«01_k».proof.Proof.Gen.WeightsIdeal.Frame
public import proofs.«01_k».proof.Proof.Gen.WeightsIdeal.Skeleton

@[expose] public section

set_option maxRecDepth 16384

noncomputable section

namespace Cert.WeightsIdeal.Shards

open Cert.WeightsIdeal.Gen
open Idealize.ShloMosaic Idealize.ShloMosaic.TcCoe
open Idealize.SL Idealize.SL.Sem

variable {F : FTy → Type} [FloatOps F]

/-! ## The arrays -/

abbrev sh2 (a b : ℕ) : Shape := ⟨2, ![a, b]⟩

/-- The arrays: eight sent in halves, two sent whole. -/
abbrev A := Fin 8 ⊕ Fin 2

/-- One gathered array: the extents of result, shard and sent part, the device's shard, the result. -/
structure Item where
  R : ℕ
  W : ℕ
  r : ℕ
  w : ℕ
  p : ℕ
  ty : EltTy
  src : Memref sig .tc .hbm (sh2 r w) ty
  out : Memref sig .tc .hbm (sh2 R W) ty
  hsrc : src.IsWhole
  hout : out.IsWhole

/-- The ten arrays. -/
def item : A → Item
  | .inl 0 => ⟨2048, 6144, 2048, 1536, 1024, .bf16, Memref.whole main_arg0, Memref.whole main_v1_0, Memref.isWhole_whole _, Memref.isWhole_whole _⟩
  | .inl 1 => ⟨2048, 2048, 512, 2048, 256, .bf16, Memref.whole main_arg1, Memref.whole main_v1_1, Memref.isWhole_whole _, Memref.isWhole_whole _⟩
  | .inl 2 => ⟨2048, 2048, 512, 2048, 256, .bf16, Memref.whole main_arg2, Memref.whole main_v1_2, Memref.isWhole_whole _, Memref.isWhole_whole _⟩
  | .inl 3 => ⟨2048, 2048, 512, 2048, 256, .bf16, Memref.whole main_arg3, Memref.whole main_v1_3, Memref.isWhole_whole _, Memref.isWhole_whole _⟩
  | .inl 4 => ⟨2048, 2048, 512, 2048, 256, .bf16, Memref.whole main_arg4, Memref.whole main_v1_4, Memref.isWhole_whole _, Memref.isWhole_whole _⟩
  | .inl 5 => ⟨2048, 2048, 512, 2048, 256, .bf16, Memref.whole main_arg5, Memref.whole main_v1_5, Memref.isWhole_whole _, Memref.isWhole_whole _⟩
  | .inl 6 => ⟨2048, 11264, 2048, 2816, 1024, .bf16, Memref.whole main_arg6, Memref.whole main_v1_6, Memref.isWhole_whole _, Memref.isWhole_whole _⟩
  | .inl 7 => ⟨5632, 2048, 1408, 2048, 704, .bf16, Memref.whole main_arg7, Memref.whole main_v1_7, Memref.isWhole_whole _, Memref.isWhole_whole _⟩
  | .inr 0 => ⟨4, 1024, 4, 256, 4, .f32, Memref.whole main_arg8, Memref.whole main_v1_8, Memref.isWhole_whole _, Memref.isWhole_whole _⟩
  | .inr 1 => ⟨3, 11264, 3, 2816, 3, .f32, Memref.whole main_arg9, Memref.whole main_v1_9, Memref.isWhole_whole _, Memref.isWhole_whole _⟩

/-- The part of a shard at offsets `o`; -/
abbrev halfAt (I : Item) (o : Fin 2 → ℕ) (h : ∀ a, o a + (sh2 I.p I.w).size a ≤ (sh2 I.r I.w).size a) : Memref sig .tc .hbm (sh2 I.p I.w) I.ty :=
  I.src.slice (Rect.unit (s := sh2 I.r I.w) o (sh2 I.p I.w).size h) (fun _ => rfl)
/-- the place of such a part in a result, -/
abbrev slotAt (I : Item) (o : Fin 2 → ℕ) (h : ∀ a, o a + (sh2 I.p I.w).size a ≤ (sh2 I.R I.W).size a) : Memref sig .tc .hbm (sh2 I.p I.w) I.ty :=
  I.out.slice (Rect.unit (s := sh2 I.R I.W) o (sh2 I.p I.w).size h) (fun _ => rfl)
/-- and of a shard. -/
abbrev shardAt (I : Item) (o : Fin 2 → ℕ) (h : ∀ a, o a + (sh2 I.r I.w).size a ≤ (sh2 I.R I.W).size a) : Memref sig .tc .hbm (sh2 I.r I.w) I.ty :=
  I.out.slice (Rect.unit (s := sh2 I.R I.W) o (sh2 I.r I.w).size h) (fun _ => rfl)

/-! ## Offsets and devices, as the kernel computes them -/

/-- The offsets, in device `d`'s result, of its own shard, -/
def offW (a : A) (d : Dev nD) : Fin 2 → ℕ :=
  match a with
  | .inl 0 => k0_off1 d | .inl 1 => k0_off2 d | .inl 2 => k0_off2 d | .inl 3 => k0_off2 d | .inl 4 => k0_off2 d | .inl 5 => k0_off2 d
  | .inl 6 => k0_off3 d | .inl 7 => k0_off4 d | .inr 0 => k0_off5 d | .inr 1 => k0_off6 d

/-- of the part it sends, -/
def offM (a : A) (d : Dev nD) : Fin 2 → ℕ :=
  match a with
  | .inl 0 => k0_off7 d | .inl 1 => k0_off9 d | .inl 2 => k0_off9 d | .inl 3 => k0_off9 d | .inl 4 => k0_off9 d | .inl 5 => k0_off9 d
  | .inl 6 => k0_off11 d | .inl 7 => k0_off13 d | .inr 0 => k0_off5 d | .inr 1 => k0_off6 d

/-- of the part the peer on chip `j` sends, -/
def offF (a : A) (j : Fin 3) (d : Dev nD) : Fin 2 → ℕ :=
  match a, j with
  | .inl 0, 0 => k0_off15 d | .inl 0, 1 => k0_off16 d | .inl 0, 2 => k0_off17 d
  | .inl 1, 0 => k0_off18 d | .inl 1, 1 => k0_off19 d | .inl 1, 2 => k0_off20 d
  | .inl 2, 0 => k0_off18 d | .inl 2, 1 => k0_off19 d | .inl 2, 2 => k0_off20 d
  | .inl 3, 0 => k0_off18 d | .inl 3, 1 => k0_off19 d | .inl 3, 2 => k0_off20 d
  | .inl 4, 0 => k0_off18 d | .inl 4, 1 => k0_off19 d | .inl 4, 2 => k0_off20 d
  | .inl 5, 0 => k0_off18 d | .inl 5, 1 => k0_off19 d | .inl 5, 2 => k0_off20 d
  | .inl 6, 0 => k0_off21 d | .inl 6, 1 => k0_off22 d | .inl 6, 2 => k0_off23 d
  | .inl 7, 0 => k0_off24 d | .inl 7, 1 => k0_off25 d | .inl 7, 2 => k0_off26 d
  | .inr 0, 0 => k0_off27 d | .inr 0, 1 => k0_off28 d | .inr 0, 2 => k0_off29 d
  | .inr 1, 0 => k0_off30 d | .inr 1, 1 => k0_off31 d | .inr 1, 2 => k0_off32 d

/-- and of the part that peer's sibling sends; -/
def offG (i : Fin 8) (j : Fin 3) (d : Dev nD) : Fin 2 → ℕ :=
  match i, j with
  | 0, 0 => k0_off33 d | 0, 1 => k0_off34 d | 0, 2 => k0_off35 d
  | 1, 0 => k0_off36 d | 1, 1 => k0_off37 d | 1, 2 => k0_off38 d
  | 2, 0 => k0_off36 d | 2, 1 => k0_off37 d | 2, 2 => k0_off38 d
  | 3, 0 => k0_off36 d | 3, 1 => k0_off37 d | 3, 2 => k0_off38 d
  | 4, 0 => k0_off36 d | 4, 1 => k0_off37 d | 4, 2 => k0_off38 d
  | 5, 0 => k0_off36 d | 5, 1 => k0_off37 d | 5, 2 => k0_off38 d
  | 6, 0 => k0_off39 d | 6, 1 => k0_off40 d | 6, 2 => k0_off41 d
  | 7, 0 => k0_off42 d | 7, 1 => k0_off43 d | 7, 2 => k0_off44 d

/-- the offsets, in its shard, of the half it sends. -/
def offH (i : Fin 8) (d : Dev nD) : Fin 2 → ℕ :=
  match i with
  | 0 => k0_off8 d | 1 => k0_off10 d | 2 => k0_off10 d | 3 => k0_off10 d | 4 => k0_off10 d | 5 => k0_off10 d | 6 => k0_off12 d | 7 => k0_off14 d

/-- The device peer `k` of device `d` is (the kernel computes it anew for each array by the same words). -/
def dev (k : Fin 4) (d : Dev nD) : Dev nD :=
  match k with
  | 0 => ⟨k0_dev1 d, k0_dev1_lt d⟩ | 1 => ⟨k0_dev2 d, k0_dev2_lt d⟩ | 2 => ⟨k0_dev3 d, k0_dev3_lt d⟩ | 3 => ⟨k0_dev31 d, k0_dev31_lt d⟩

/-! ### Their closed forms -/

/-- Peer `k` of device `d`: the peers on the other three chips, then the sibling. -/
abbrev pxor : Fin 4 → ℕ := ![4, 2, 6, 1]

def peer (k : Fin 4) (d : Dev nD) : Dev nD := ⟨(d.val ^^^ pxor k) % 8, Nat.mod_lt _ (by decide)⟩

theorem peer_peer (k : Fin 4) (d : Dev nD) : peer k (peer k d) = d := by revert k d; decide
theorem peer_comm (k k' : Fin 4) (d : Dev nD) : peer k (peer k' d) = peer k' (peer k d) := by revert k k' d; decide

/-- The chip of device `d`. -/
def chip (d : Dev nD) : Fin 4 := ⟨d.val / 2, by have : d.val < 8 := d.isLt; omega⟩

theorem chip_sib (d : Dev nD) : chip (peer 3 d) = chip d := by revert d; decide

/-- Where array `a`'s shards lie side by side along the columns (`true`) or the rows. -/
abbrev byCol : A → Bool := Sum.elim ![true, false, false, false, false, false, true, false] fun _ => true

/-- The row of its shard at which the part device `s` sends begins. -/
abbrev halfRow (a : A) (s : Dev nD) : ℕ := if a.isLeft then s.val % 2 * (item a).p else 0

/-- The offsets of chip `x`'s shard in a result, -/
abbrev shardOff (a : A) (x : Fin 4) : Fin 2 → ℕ := if byCol a then ![0, x.val * (item a).w] else ![x.val * (item a).r, 0]
/-- and of the part device `s` sends. -/
abbrev slotOff (a : A) (s : Dev nD) : Fin 2 → ℕ := ![shardOff a (chip s) 0 + halfRow a s, shardOff a (chip s) 1]

theorem dev_eq (k : Fin 4) (d : Dev nD) : dev k d = peer k d := by revert k d; decide +kernel
theorem offW_eq (a : A) (d : Dev nD) : offW a d = shardOff a (chip d) := by revert a d; decide +kernel
theorem offM_eq (a : A) (d : Dev nD) : offM a d = slotOff a d := by revert a d; decide +kernel
theorem offF_eq (a : A) (j : Fin 3) (d : Dev nD) : offF a j d = slotOff a (peer j.castSucc d) := by revert a j d; decide +kernel
theorem offG_eq (i : Fin 8) (j : Fin 3) (d : Dev nD) : offG i j d = slotOff (.inl i) (peer j.castSucc (peer 3 d)) := by revert i j d; decide +kernel
theorem offH_eq (i : Fin 8) (d : Dev nD) : offH i d = ![halfRow (.inl i) d, 0] := by revert i d; decide +kernel

theorem shard_inb (a : A) (x : Fin 4) : ∀ b, shardOff a x b + (sh2 (item a).r (item a).w).size b ≤ (sh2 (item a).R (item a).W).size b := by
  revert a x; decide +kernel
theorem slot_inb (a : A) (s : Dev nD) : ∀ b, slotOff a s b + (sh2 (item a).p (item a).w).size b ≤ (sh2 (item a).R (item a).W).size b := by
  revert a s; decide +kernel
theorem half_inb (a : A) (s : Dev nD) : ∀ b, (![halfRow a s, 0] : Fin 2 → ℕ) b + (sh2 (item a).p (item a).w).size b ≤ (sh2 (item a).r (item a).w).size b := by
  revert a s; decide +kernel

theorem shard_words (a : A) (x : Fin 4) :
    (Rect.unit (s := sh2 (item a).R (item a).W) (shardOff a x) (sh2 (item a).r (item a).w).size (shard_inb a x)).WholeWords (item a).ty.packing := by
  revert a x; decide +kernel
theorem slot_words (a : A) (s : Dev nD) :
    (Rect.unit (s := sh2 (item a).R (item a).W) (slotOff a s) (sh2 (item a).p (item a).w).size (slot_inb a s)).WholeWords (item a).ty.packing := by
  revert a s; decide +kernel
theorem half_words (a : A) (s : Dev nD) :
    (Rect.unit (s := sh2 (item a).r (item a).w) ![halfRow a s, 0] (sh2 (item a).p (item a).w).size (half_inb a s)).WholeWords (item a).ty.packing := by
  revert a s; decide +kernel

end Cert.WeightsIdeal.Shards

end
-- ==== Proof.WeightsProgram.lean ====
/-
  The body of the gather of the weights is eight loops (`body_eq`): the copies on the device; the pushes to the peers on
  other chips; the halves' arrivals, each forwarded to the sibling; the small arrays' arrivals; the arrivals from the
  sibling; the waits for the device's own sends, of halves and of small arrays; the waits for the copies.
-/
module

public import proofs.«01_k».proof.Proof.WeightsTable

@[expose] public section

set_option maxRecDepth 16384

noncomputable section

namespace Cert.WeightsIdeal.Shards

open Cert.WeightsIdeal.Gen
open Idealize.ShloMosaic Idealize.ShloMosaic.TcCoe Idealize.ShloMosaic.Tactic
open Idealize.SL Idealize.SL.Sem

variable {F : FTy → Type} [FloatOps F]

/-! ## Views -/

/-- Chip `x`'s shard in result `a`, -/
def shardM (a : A) (x : Fin 4) : Memref sig .tc .hbm (sh2 (item a).r (item a).w) (item a).ty := shardAt (item a) (shardOff a x) (shard_inb a x)
/-- the part device `s` sends, in the result: slot `s`; -/
def slotM (a : A) (s : Dev nD) : Memref sig .tc .hbm (sh2 (item a).p (item a).w) (item a).ty := slotAt (item a) (slotOff a s) (slot_inb a s)
/-- and the same part in a shard. -/
def halfM (a : A) (s : Dev nD) : Memref sig .tc .hbm (sh2 (item a).p (item a).w) (item a).ty :=
  match a with
  | .inl i => halfAt (item (.inl i)) ![halfRow (.inl i) s, 0] (half_inb (.inl i) s)
  | .inr 0 => (item (.inr 0)).src
  | .inr 1 => (item (.inr 1)).src

theorem shardM_words (a : A) (x : Fin 4) : (shardM a x).view.WordExact := (item a).hout.wordExact_slice rfl _ (shard_words a x)
theorem slotM_words (a : A) (s : Dev nD) : (slotM a s).view.WordExact := (item a).hout.wordExact_slice rfl _ (slot_words a s)
theorem halfM_words (a : A) (s : Dev nD) : (halfM a s).view.WordExact := by
  match a with
  | .inl i => exact (item (.inl i)).hsrc.wordExact_slice rfl _ (half_words (.inl i) s)
  | .inr 0 => exact (item (.inr 0)).hsrc.wordExact
  | .inr 1 => exact (item (.inr 1)).hsrc.wordExact

theorem offW_inb (a : A) (d : Dev nD) : ∀ b, offW a d b + (sh2 (item a).r (item a).w).size b ≤ (sh2 (item a).R (item a).W).size b := by
  rw [offW_eq]; exact shard_inb _ _
theorem offM_inb (a : A) (d : Dev nD) : ∀ b, offM a d b + (sh2 (item a).p (item a).w).size b ≤ (sh2 (item a).R (item a).W).size b := by
  rw [offM_eq]; exact slot_inb _ _
theorem offF_inb (a : A) (j : Fin 3) (d : Dev nD) : ∀ b, offF a j d b + (sh2 (item a).p (item a).w).size b ≤ (sh2 (item a).R (item a).W).size b := by
  rw [offF_eq]; exact slot_inb _ _
theorem offG_inb (i : Fin 8) (j : Fin 3) (d : Dev nD) :
    ∀ b, offG i j d b + (sh2 (item (.inl i)).p (item (.inl i)).w).size b ≤ (sh2 (item (.inl i)).R (item (.inl i)).W).size b := by
  rw [offG_eq]; exact slot_inb _ _
theorem offH_inb (i : Fin 8) (d : Dev nD) :
    ∀ b, offH i d b + (sh2 (item (.inl i)).p (item (.inl i)).w).size b ≤ (sh2 (item (.inl i)).r (item (.inl i)).w).size b := by
  rw [offH_eq]; exact half_inb _ _

/-- The same views at the offsets as the kernel computes them. -/
def shardT (a : A) (d : Dev nD) : Memref sig .tc .hbm (sh2 (item a).r (item a).w) (item a).ty := shardAt (item a) (offW a d) (offW_inb a d)
def slotT (a : A) (o : Fin 2 → ℕ) (h : ∀ b, o b + (sh2 (item a).p (item a).w).size b ≤ (sh2 (item a).R (item a).W).size b) :
    Memref sig .tc .hbm (sh2 (item a).p (item a).w) (item a).ty := slotAt (item a) o h
def halfT (a : A) (d : Dev nD) : Memref sig .tc .hbm (sh2 (item a).p (item a).w) (item a).ty :=
  match a with
  | .inl i => halfAt (item (.inl i)) (offH i d) (offH_inb i d)
  | .inr 0 => (item (.inr 0)).src
  | .inr 1 => (item (.inr 1)).src

theorem shardT_eq (a : A) (d : Dev nD) : shardT a d = shardM a (chip d) := Memref.slice_unit_congr _ (offW_eq a d) _ _ (fun _ => rfl) (fun _ => rfl)
theorem slotT_eq (a : A) {o : Fin 2 → ℕ} (s : Dev nD) (e : o = slotOff a s) (h) : slotT a o h = slotM a s := by subst e; rfl
theorem halfT_eq (a : A) (d : Dev nD) : halfT a d = halfM a d := by
  match a with
  | .inl i => exact Memref.slice_unit_congr _ (offH_eq i d) _ _ (fun _ => rfl) (fun _ => rfl)
  | .inr 0 => rfl
  | .inr 1 => rfl

theorem shardT_words (a : A) (d : Dev nD) : (shardT a d).view.WordExact := by rw [shardT_eq]; exact shardM_words _ _
theorem slotT_words (a : A) {o : Fin 2 → ℕ} (s : Dev nD) (e : o = slotOff a s) (h) : (slotT a o h).view.WordExact := by
  rw [slotT_eq a s e]; exact slotM_words _ _
theorem halfT_words (a : A) (d : Dev nD) : (halfT a d).view.WordExact := by rw [halfT_eq]; exact halfM_words _ _

/-! ## Semaphores -/

/-- The transfers to other devices: of every array a push to each of the three peers on other chips, and of the arrays
    sent in halves the relay to the sibling of what each of those peers sent. -/
abbrev T := (A × Fin 3) ⊕ (Fin 8 × Fin 3)

/-- What a semaphore counts: a transfer sent, its arrival, the copy of an array on the device. -/
abbrev Kind := T ⊕ T ⊕ A

instance : DecidableEq T := inferInstance
instance : DecidableEq Kind := inferInstance

abbrev Kind.snd (t : T) : Kind := .inl t
abbrev Kind.rcv (t : T) : Kind := .inr (.inl t)
abbrev Kind.lcl (a : A) : Kind := .inr (.inr a)

/-- The array of a transfer. -/
def T.arr : T → A := Sum.elim Prod.fst fun x => .inl x.1

/-- The number of an array. -/
abbrev arrNo : A → ℕ := Sum.elim (fun i => i.val) fun u => 8 + u.val

/-- The number of a semaphore. -/
def semNo : Kind → ℕ
  | .inl (.inl x) => 3 * arrNo x.1 + x.2.val
  | .inr (.inl (.inl x)) => 30 + (3 * arrNo x.1 + x.2.val)
  | .inl (.inr x) => 60 + (3 * x.1.val + x.2.val)
  | .inr (.inl (.inr x)) => 90 + (3 * x.1.val + x.2.val)
  | .inr (.inr a) => 120 + arrNo a

theorem semNo_lt (κ : Kind) : semNo κ < sig.nDmaSem := by revert κ; decide +kernel

/-- The semaphore of a kind. -/
def sem (κ : Kind) : DmaSem sig := ⟨semNo κ, semNo_lt κ⟩

set_option synthInstance.maxHeartbeats 400000 in
set_option synthInstance.maxSize 4096 in
theorem semNo_inj : ∀ κ κ' : Kind, semNo κ = semNo κ' → κ = κ' := by decide +kernel
theorem sem_inj {κ κ' : Kind} (h : sem κ = sem κ') : κ = κ' := semNo_inj κ κ' (congrArg Fin.val h)

/-! ## Steps -/

section Steps

variable (F)

/-- A program of the kernel. -/
abbrev KProg := Prog (TpuEff nD τ sig (Elt F) Λ₀ .tc) PUnit

variable {F}
variable {s : Shape} {e : EltTy} (src dst : Memref sig .tc .hbm s e)

/-- Start a copy on the device. -/
def localS (q : DmaSem sig) (h₁ : src.view.WordExact) (h₂ : dst.view.WordExact) (k : KProg F) : KProg F :=
  .op (.enqueueDma src (.here dst) (.dma q) h₁ h₂ ⟨Or.inl rfl, trivial⟩) fun _ => k
/-- Start a copy to device `n`. -/
def sendS (n : Dev nD) (qS qR : DmaSem sig) (h₁ : src.view.WordExact) (h₂ : dst.view.WordExact) (k : KProg F) : KProg F :=
  .op (.enqueueDma src (.remote (Dev.tc n) dst (.dma qS)) (.dma qR) h₁ h₂ ⟨⟨rfl, Or.inl rfl⟩, trivial⟩) fun _ => k
/-- Wait for a copy. -/
def waitS (q : DmaSem sig) (h₁ : src.view.WordExact) (h₂ : dst.view.WordExact) (k : KProg F) : KProg F :=
  .op (.waitDma2 q src dst h₁ h₂) fun _ => k

end Steps

variable (d : Dev nD)

/-- The start of array `a`'s copy on the device, -/
def copy (a : A) : KProg F → KProg F :=
  localS (item a).src (shardT a d) (sem (.lcl a)) (item a).hsrc.wordExact (shardT_words a d)
/-- of a send to a peer. -/
def push (x : A × Fin 3) : KProg F → KProg F :=
  sendS (halfT x.1 d) (slotT x.1 (offM x.1 d) (offM_inb x.1 d)) (dev x.2.castSucc d) (sem (.snd (.inl x))) (sem (.rcv (.inl x)))
    (halfT_words x.1 d) (slotT_words x.1 d (offM_eq x.1 d) _)
/-- The arrival of what a peer sent, -/
def take (x : A × Fin 3) : KProg F → KProg F :=
  waitS (halfT x.1 d) (slotT x.1 (offF x.1 x.2 d) (offF_inb x.1 x.2 d)) (sem (.rcv (.inl x))) (halfT_words x.1 d) (slotT_words x.1 _ (offF_eq x.1 x.2 d) _)
/-- and its forwarding. -/
def relay (x : Fin 8 × Fin 3) (k : KProg F) : KProg F :=
  take d (.inl x.1, x.2) <|
  sendS (slotT (.inl x.1) (offF (.inl x.1) x.2 d) (offF_inb (.inl x.1) x.2 d)) (slotT (.inl x.1) (offF (.inl x.1) x.2 d) (offF_inb (.inl x.1) x.2 d))
    (dev 3 d) (sem (.snd (.inr x))) (sem (.rcv (.inr x))) (slotT_words (.inl x.1) _ (offF_eq (.inl x.1) x.2 d) _) (slotT_words (.inl x.1) _ (offF_eq (.inl x.1) x.2 d) _) k
/-- The arrival of what the sibling forwards. -/
def arrive (x : Fin 8 × Fin 3) : KProg F → KProg F :=
  waitS (slotT (.inl x.1) (offG x.1 x.2 d) (offG_inb x.1 x.2 d)) (slotT (.inl x.1) (offG x.1 x.2 d) (offG_inb x.1 x.2 d)) (sem (.rcv (.inr x)))
    (slotT_words (.inl x.1) _ (offG_eq x.1 x.2 d) _) (slotT_words (.inl x.1) _ (offG_eq x.1 x.2 d) _)
/-- The wait for a send to a peer, -/
def sent (x : A × Fin 3) : KProg F → KProg F :=
  waitS (slotT x.1 (offM x.1 d) (offM_inb x.1 d)) (halfT x.1 d) (sem (.snd (.inl x))) (slotT_words x.1 d (offM_eq x.1 d) _) (halfT_words x.1 d)
/-- with the wait for the forwarding of what that peer sent. -/
def drain (x : Fin 8 × Fin 3) (k : KProg F) : KProg F :=
  sent d (.inl x.1, x.2) <|
  waitS (slotT (.inl x.1) (offF (.inl x.1) x.2 d) (offF_inb (.inl x.1) x.2 d)) (slotT (.inl x.1) (offF (.inl x.1) x.2 d) (offF_inb (.inl x.1) x.2 d))
    (sem (.snd (.inr x))) (slotT_words (.inl x.1) _ (offF_eq (.inl x.1) x.2 d) _) (slotT_words (.inl x.1) _ (offF_eq (.inl x.1) x.2 d) _) k
/-- The wait for a copy on the device. -/
def copied (a : A) : KProg F → KProg F :=
  waitS (item a).src (shardT a d) (sem (.lcl a)) (item a).hsrc.wordExact (shardT_words a d)

/-- The kernel's orders: the arrays; the pushes; the halves' transfers; the small arrays'. -/
abbrev arrays : List A := [.inl 0, .inl 1, .inl 2, .inl 3, .inl 4, .inl 5, .inl 6, .inl 7, .inr 0, .inr 1]
abbrev pushL : List (A × Fin 3) := arrays.flatMap fun a => [(a, 0), (a, 1), (a, 2)]
abbrev halfL : List (Fin 8 × Fin 3) := [0, 1, 2, 3, 4, 5, 6, 7].flatMap fun i => [(i, 0), (i, 1), (i, 2)]
abbrev smallL : List (Fin 2 × Fin 3) := [0, 1].flatMap fun u => [(u, 0), (u, 1), (u, 2)]

variable (F) in
/-- The body. -/
def prog : KProg F :=
  .op .deviceId fun d => arrays.foldr (copy d) <| pushL.foldr (push d) <| halfL.foldr (relay d) <| smallL.foldr (fun x => take d (.inr x.1, x.2)) <|
    halfL.foldr (arrive d) <| halfL.foldr (drain d) <| smallL.foldr (fun x => sent d (.inr x.1, x.2)) <| arrays.foldr (copied d) (.ret ⟨⟩)

/-- The body the kernel runs is these eight loops. -/
theorem body_eq :
    cc0_gather_weights (F := F) (Memref.whole main_arg0) (Memref.isWhole_whole _) (Memref.whole main_arg1) (Memref.isWhole_whole _)
      (Memref.whole main_arg2) (Memref.isWhole_whole _) (Memref.whole main_arg3) (Memref.isWhole_whole _) (Memref.whole main_arg4) (Memref.isWhole_whole _)
      (Memref.whole main_arg5) (Memref.isWhole_whole _) (Memref.whole main_arg6) (Memref.isWhole_whole _) (Memref.whole main_arg7) (Memref.isWhole_whole _)
      (Memref.whole main_arg8) (Memref.isWhole_whole _) (Memref.whole main_arg9) (Memref.isWhole_whole _)
      (Memref.whole main_v1_0) (Memref.isWhole_whole _) (Memref.whole main_v1_1) (Memref.isWhole_whole _) (Memref.whole main_v1_2) (Memref.isWhole_whole _)
      (Memref.whole main_v1_3) (Memref.isWhole_whole _) (Memref.whole main_v1_4) (Memref.isWhole_whole _) (Memref.whole main_v1_5) (Memref.isWhole_whole _)
      (Memref.whole main_v1_6) (Memref.isWhole_whole _) (Memref.whole main_v1_7) (Memref.isWhole_whole _) (Memref.whole main_v1_8) (Memref.isWhole_whole _)
      (Memref.whole main_v1_9) (Memref.isWhole_whole _)
      cc0_scratch0 cc0_scratch1 cc0_scratch2 cc0_scratch3 cc0_scratch4 = prog F := by
  chain_rfl

end Cert.WeightsIdeal.Shards

end
-- ==== Proof.WeightsSchedule.lean ====
/-
  The protocol of the 118 semaphores of the gather of the weights per device. Each is a cell of the rounds library with
  one round of one duty: its transfer's. An arrival hands its device the slot written, at the part the sender's chip
  holds; a sent transfer hands back nothing (a part is read under a share that is not needed again, a relayed slot
  likewise); a copy on the device hands it the shard written. What each device owes at launch: its transfers' credits.
  Levels: the arrivals from the sibling's relays above everything else, since a device waits for its other arrivals while
  it owes its relays, and for everything else owing nothing.
-/
module

public import proofs.«01_k».proof.Proof.WeightsProgram

@[expose] public section

set_option maxRecDepth 16384

noncomputable section

namespace Cert.WeightsIdeal.Shards

open Cert.WeightsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds and the kernel's -/

abbrev URn (nD : Nat) (τ : Topo) : Type := URounds (GSem nD τ sig) Unit
abbrev UU (nD : Nat) (τ : Topo) : Type := URn nD τ × URn nD τ

local notation "𝕄" => MT nD τ sig Unit (Elt F) ℕ (UU nD τ) ℕ

def EP : Emb (URn nD τ) (MT nD τ sig Unit (Elt F) ℕ (UU nD τ) ℕ) :=
  (Emb.inl : Emb (URn nD τ) (UU nD τ)).trans (uEmb (nD := nD) (sig := sig) (Ix := Unit) (Val := Elt F) (Name := ℕ) (U := UU nD τ) (Lvl := ℕ)).toEmb
def ER : Emb (URn nD τ) (MT nD τ sig Unit (Elt F) ℕ (UU nD τ) ℕ) :=
  (Emb.inr : Emb (URn nD τ) (UU nD τ)).trans (uEmb (nD := nD) (sig := sig) (Ix := Unit) (Val := Elt F) (Name := ℕ) (U := UU nD τ) (Lvl := ℕ)).toEmb

instance EP_landsIn : (EP : Emb (URn nD τ) 𝕄).LandsIn (upEmb : UEmb _ 𝕄) := by unfold EP; infer_instance
instance ER_landsIn : (ER : Emb (URn nD τ) 𝕄).LandsIn (upEmb : UEmb _ 𝕄) := by unfold ER; infer_instance

variable (m : (ℓ : Loc nD τ sig) → Buf (Elt F) ℓ)

/-! ## Transfers -/

/-- The peer a transfer goes to (and comes from: peers are mutual), -/
def T.to : T → Fin 4 := Sum.elim (fun x => x.2.castSucc) fun _ => 3
/-- the slot device `c` writes with it, -/
def sslot (t : T) (c : Dev nD) : Dev nD := t.elim (fun _ => c) fun x => peer x.2.castSucc c
/-- and the slot device `c` receives with it. -/
def rslot (t : T) (c : Dev nD) : Dev nD := sslot t (peer t.to c)

theorem rslot_peer (t : T) (c : Dev nD) : rslot t (peer t.to c) = sslot t c := by unfold rslot; rw [peer_peer]

/-- The cell of a device's semaphore. -/
abbrev cell (c : Dev nD) (κ : Kind) : GSem nD τ sig := ((c : Thread nD τ), .dma (sem κ))

/-- What a transfer of a part of array `a` credits, -/
abbrev NP (a : A) : ℕ := (slotM a 0).view.dmaCredit
/-- and what each semaphore is credited. -/
def N : Kind → ℕ
  | .inl t => NP t.arr
  | .inr (.inl t) => NP t.arr
  | .inr (.inr a) => (shardM a 0).view.dmaCredit

theorem N_half (a : A) (s : Dev nD) : (halfM a s).view.dmaCredit = NP a := by rcases a with i | u <;> [fin_cases i; fin_cases u] <;> rfl
theorem NP_pos (a : A) : 0 < NP a := View.dmaCredit_pos _ (by rcases a with i | u <;> [fin_cases i; fin_cases u] <;> decide)
theorem N_pos (κ : Kind) : 0 < N κ := by
  rcases κ with t | t | a
  · exact NP_pos _
  · exact NP_pos _
  · exact View.dmaCredit_pos _ (by rcases a with i | u <;> [fin_cases i; fin_cases u] <;> decide)

/-! ## Contents -/

/-- The part device `s` sends of array `a`: what slot `s` of every device's result ends holding. -/
def val (a : A) (s : Dev nD) : (sh2 (item a).p (item a).w).Idx → Elt F (item a).ty :=
  (halfM a s).view.read (Elt F) (m ((halfM a s).view.loc (s : Thread nD τ)))
/-- Device `c`'s shard. -/
def shard (a : A) (c : Dev nD) : (sh2 (item a).r (item a).w).Idx → Elt F (item a).ty :=
  (item a).src.view.read (Elt F) (m ((item a).src.view.loc (c : Thread nD τ)))

/-- Array `a` of device `c` at its launch contents, under a share; -/
def srcPts (q : PosShare TreeShare) (a : A) (c : Dev nD) : sProp 𝕄 :=
  (item a).src.view.loc (c : Thread nD τ) ↦{q} m ((item a).src.view.loc (c : Thread nD τ))
/-- the part it sends, under some share. -/
def half (a : A) (c : Dev nD) : sProp 𝕄 :=
  iprop(∃ q, (halfM a c).view.loc (c : Thread nD τ) ↦[(halfM a c).view.set]{q} m ((halfM a c).view.loc (c : Thread nD τ)))
/-- A view of device `c` at anything, -/
def viewAny {s : Shape} {e : EltTy} (v : Memref sig .tc .hbm s e) (c : Dev nD) : sProp 𝕄 :=
  iprop(∃ f, v.view.loc (c : Thread nD τ) ↦[v.view.set]{fullShare} f)
/-- and a share of it reading `y`. -/
def viewHas (q : PosShare TreeShare) {s : Shape} {e : EltTy} (v : Memref sig .tc .hbm s e) (y : s.Idx → Elt F e) (c : Dev nD) : sProp 𝕄 :=
  iprop(∃ f, ⌜v.view.read (Elt F) f = y⌝ ∗ v.view.loc (c : Thread nD τ) ↦[v.view.set]{q} f)

/-- Device `c`'s slot `s` at anything, at the part gathered; its own shard's place at its shard. -/
abbrev slotAny (a : A) (s c : Dev nD) : sProp 𝕄 := viewAny (slotM a s) c
abbrev slotHas (q : PosShare TreeShare) (a : A) (s c : Dev nD) : sProp 𝕄 := viewHas q (slotM a s) (val m a s) c
abbrev ownHas (q : PosShare TreeShare) (a : A) (c : Dev nD) : sProp 𝕄 := viewHas q (shardM a (chip c)) (shard m a c) c

omit [FloatOps F] in
theorem viewHas_split {s : Shape} {e : EltTy} (v : Memref sig .tc .hbm s e) (y : s.Idx → Elt F e) (c : Dev nD) :
    (viewHas fullShare v y c : sProp 𝕄) ⊢ iprop(viewHas fullShare.left v y c ∗ viewHas fullShare.right v y c) := by
  unfold viewHas
  iintro ⟨%f, %hf, H⟩
  ihave H2 := (pointsTo_share (PosShare.mem_left_op_right fullShare)).1 $$ H
  icases H2 with ⟨H1, H2⟩
  isplitl [H1]
  · iexists f; isplitr; · (ipureintro; exact hf)
    iexact H1
  · iexists f; isplitr; · (ipureintro; exact hf)
    iexact H2

/-! ## The schedule -/

/-- What a cell's one duty hands its device. -/
def pay (c : Dev nD) : Kind → sProp 𝕄
  | .inl _ => iprop(emp)
  | .inr (.inl t) => slotHas m fullShare t.arr (rslot t c) c
  | .inr (.inr a) => ownHas m fullShare a c

instance pay_storable (c : Dev nD) (κ : Kind) : BI.Storable (upEmb : UEmb _ 𝕄) (pay (F := F) m c κ) := by
  obtain (_ | _ | _) := κ <;> unfold pay <;> (try unfold slotHas viewHas) <;> (try unfold ownHas viewHas) <;> infer_instance

/-- The kind of a semaphore. -/
def dec (q : DmaSem sig) : Kind := Function.invFun sem q

theorem dec_sem (κ : Kind) : dec (sem κ) = κ := Function.leftInverse_invFun (f := sem) (fun _ _ h => sem_inj h) κ

def amountAt : SemLoc sig → ℕ
  | .dma q => N (dec q)
  | _ => 1
def payAt (c : Dev nD) : SemLoc sig → sProp 𝕄
  | .dma q => pay m c (dec q)
  | _ => iprop(emp)

instance payAt_storable (c : Dev nD) (l : SemLoc sig) : BI.Storable (upEmb : UEmb _ 𝕄) (payAt (F := F) m c l) := by
  unfold payAt; split <;> infer_instance

/-- The kernel's schedule: one round of one duty on every cell of a TensorCore. -/
def Rd : Rounds.Schedule (GSem nD τ sig) Unit 𝕄 where
  duties g r := if r = 0 ∧ g.1.2 = .tc then {()} else ∅
  unitless _ := False
  amount g _ _ := amountAt g.2
  payload g _ _ := payAt m g.1.1 g.2
  amount_pos g _ _ _ := by
    show 0 < amountAt g.2
    unfold amountAt; split
    · exact N_pos _
    · exact Nat.one_pos

instance Rd_storable (g : GSem nD τ sig) (r : ℕ) (d : Unit) : BI.Storable (upEmb : UEmb _ 𝕄) ((Rd (F := F) m).payload g r d) :=
  payAt_storable m g.1.1 g.2

section Sched
variable (c : Dev nD) (κ : Kind)

omit [FloatOps F] in
theorem duties_cell : (Rd (F := F) m).duties (cell c κ) 0 = {()} := by dsimp only [Rd]; exact if_pos ⟨rfl, rfl⟩
omit [FloatOps F] in
theorem duties_later (g : GSem nD τ sig) : ∀ r, 1 ≤ r → (Rd (F := F) m).duties g r = ∅ :=
  fun r hr => by dsimp only [Rd]; exact if_neg fun h => by omega
omit [FloatOps F] in
theorem amount_cell (u : Unit) : (Rd (F := F) m).amount (cell c κ) 0 u = N κ := by
  show N (dec (sem κ)) = _; rw [dec_sem]
omit [FloatOps F] in
theorem payload_cell (u : Unit) : (Rd (F := F) m).payload (cell c κ) 0 u = pay m c κ := by
  show pay m c (dec (sem κ)) = _; rw [dec_sem]
omit [FloatOps F] in
theorem expect_cell : (Rd (F := F) m).expect (cell c κ) 0 = N κ := by
  unfold Schedule.expect Schedule.amountOf; rw [duties_cell, Finset.sum_singleton, amount_cell]
omit [FloatOps F] in
theorem rest_cell : bigSep ((Rd (F := F) m).duties (cell c κ) 0 \ ∅) (fun u => (Rd (F := F) m).payload (cell c κ) 0 u) = pay m c κ := by
  rw [Finset.sdiff_empty, duties_cell, bigSep_singleton, payload_cell]

end Sched

/-! ## What each device owes, and the levels -/

/-- The cell transfer `t` from device `c` arrives at. -/
abbrev dcell (c : Dev nD) (t : T) : GSem nD τ sig := cell (peer t.to c) (.rcv t)

/-- What device `c` owes while the transfers `l` are to come. -/
def owed (c : Dev nD) : List T → CellTallies nD τ sig Unit
  | [] => 0
  | t :: l => owed c l + tallyAt (dcell c t) () (N (.rcv t))

/-- All transfers, in the kernel's order, once `l` of the pushes are to come: these, then the relays. -/
abbrev pushesOf (l : List (A × Fin 3)) : List T := l.map .inl
abbrev relaysOf (l : List (Fin 8 × Fin 3)) : List T := l.map .inr

/-- What device `c` owes at launch. -/
abbrev O₀ (c : Dev nD) : CellTallies nD τ sig Unit := owed c (pushesOf pushL ++ relaysOf halfL)

/-- The relays' arrivals are above every other cell. -/
def high : SemLoc sig → Bool
  | .dma q => decide (90 ≤ q.val) && decide (q.val < 120)
  | _ => false

def L (g : GSem nD τ sig) : Finset Unit := if g.1.2 = .tc then {()} else ∅
def lv (g : GSem nD τ sig) (_ : Unit) : ℕ := if high g.2 then 1 else 0

theorem L_of_ne (g : GSem nD τ sig) (h : g.1.2 ≠ .tc) : L g = ∅ := if_neg h
theorem L_tc (c : Dev nD) (sm : SemLoc sig) : L ((c : Thread nD τ), sm) = {()} := if_pos rfl

theorem high_relay (x : Fin 8 × Fin 3) : high (.dma (sem (.rcv (.inr x)))) = true := by revert x; decide +kernel
theorem high_push (x : A × Fin 3) : high (.dma (sem (.rcv (.inl x)))) = false := by revert x; decide +kernel

/-- What a device owes it owes to the cells its transfers arrive at. -/
theorem owed_pos (c : Dev nD) (l : List T) {g : GSem nD τ sig} {u : Unit} (h : 0 < owed c l g u) : ∃ t ∈ l, g = dcell c t := by
  induction l with
  | nil => exact absurd h (Nat.lt_irrefl 0)
  | cons t l ih =>
    unfold owed at h
    rw [Pi.add_apply, Finsupp.add_apply, tallyAt_apply] at h
    by_cases hg : g = dcell c t ∧ u = ()
    · exact ⟨t, List.mem_cons_self, hg.1⟩
    · rw [if_neg hg, Nat.add_zero] at h
      obtain ⟨y, hy, e⟩ := ih h
      exact ⟨y, List.mem_cons_of_mem _ hy, e⟩

omit [FloatOps F] in
/-- A device may wait for an arrival that is no relay's while it owes relays only. -/
theorem mayWait_push (c : Dev nD) (x : A × Fin 3) (l : List (Fin 8 × Fin 3)) :
    (levAts L lv : sProp 𝕄) ⊢ MayWait (c : Thread nD τ) (.dma (sem (.rcv (.inl x)))) () (owed c (relaysOf l)) :=
  MayOwe.of_cut (L := L) (lev := lv) 0 (fun q hq => by rw [Finset.mem_singleton.mp hq, L_tc]; exact Finset.mem_singleton_self _)
    (fun g u hg => by obtain ⟨x, -, rfl⟩ := owed_pos c _ hg; rw [L_tc]; exact Finset.mem_singleton_self _)
    (fun q hq => by rw [Finset.mem_singleton.mp hq]; dsimp only [lv]; rw [high_push]; decide)
    (fun g u hg => by
      obtain ⟨t, ht, rfl⟩ := owed_pos c _ hg
      obtain ⟨y, -, rfl⟩ := List.mem_map.mp ht
      show 0 < if high (.dma (sem (.rcv (.inr y)))) = true then 1 else 0
      rw [if_pos (high_relay y)]; exact Nat.one_pos)

end Cert.WeightsIdeal.Shards

end
-- ==== Proof.WeightsSteps.lean ====
/-
  One rule per step of the gather of the weights, at a device and a transfer that are variables: the copy on the device,
  a transfer to a peer, a wait. And the rule for a loop over a list that names every element of a type.
-/
module

public import proofs.«01_k».proof.Proof.WeightsSchedule

@[expose] public section

set_option maxRecDepth 16384

noncomputable section

namespace Cert.WeightsIdeal.Shards

open Cert.WeightsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

/-! ## What is known throughout -/

/-- Every cell's invariant, and that it has reached round 0. -/
def records (K : Dev nD × Kind → ℕ) : sProp 𝕄 :=
  iprop((bigSep Finset.univ fun y : Dev nD × Kind => cellInv ER (Rd m) (K y) (cell y.1 y.2))
    ∗ bigSep Finset.univ fun y : Dev nD × Kind => reached ER (cell y.1 y.2) 0)
/-- The same with the levels. -/
def recs (K : Dev nD × Kind → ℕ) : sProp 𝕄 := iprop(records m K ∗ levAts L lv)

instance records_persistent (K : Dev nD × Kind → ℕ) : BI.Persistent (records (F := F) m K) := by unfold records; infer_instance
instance recs_persistent (K : Dev nD × Kind → ℕ) : BI.Persistent (recs (F := F) m K) := by unfold recs; infer_instance

theorem recs_inv (K : Dev nD × Kind → ℕ) (c : Dev nD) (κ : Kind) : recs (F := F) m K ⊢ cellInv ER (Rd m) (K (c, κ)) (cell c κ) := by
  have e : (bigSep Finset.univ fun y : Dev nD × Kind => (cellInv ER (Rd m) (K y) (cell y.1 y.2) : sProp 𝕄))
      ⊢ cellInv ER (Rd m) (K (c, κ)) (cell c κ) := bigSep_elim (Finset.mem_univ (c, κ))
  unfold recs records
  iintro ⟨⟨H, -⟩, -⟩
  iapply e $$ H
theorem recs_reached (K : Dev nD × Kind → ℕ) (c : Dev nD) (κ : Kind) : recs (F := F) m K ⊢ reached ER (cell c κ) 0 := by
  have e : (bigSep Finset.univ fun y : Dev nD × Kind => (reached ER (cell y.1 y.2) 0 : sProp 𝕄)) ⊢ reached ER (cell c κ) 0 :=
    bigSep_elim (Finset.mem_univ (c, κ))
  unfold recs records
  iintro ⟨⟨-, H⟩, -⟩
  iapply e $$ H
theorem recs_lev (K : Dev nD × Kind → ℕ) : recs (F := F) m K ⊢ (levAts L lv : sProp 𝕄) := by
  unfold recs
  iintro ⟨-, H⟩
  iexact H

abbrev 𝒱₀ : Variants := Variants.none
/-- The weakest precondition of a program of device `c`'s TensorCore. -/
abbrev WP (c : Dev nD) (p : KProg F) (Q : PUnit.{1} → sProp 𝕄) : sProp 𝕄 :=
  wp frame (wpE (defs₀ (F := F)) 𝒱₀ (c : Thread nD τ) none) Set.univ p Q

/-! ## The steps -/

section Steps
variable (K : Dev nD × Kind → ℕ) (c : Dev nD) {k : KProg F}

/-- The credit of a semaphore's transfer, its device's position before and after its round, and the token of its duty. -/
abbrev kcred (κ : Kind) : sProp 𝕄 := cred (tallyAt (cell c κ) () (N κ))
abbrev at0 (κ : Kind) : sProp 𝕄 := atPos ER (cell c κ) 0 ∅ 0
abbrev at1 (κ : Kind) : sProp 𝕄 := atPos ER (cell c κ) 1 ∅ 0
abbrev tok (κ : Kind) : sProp 𝕄 := dutyTok ER (cell c κ) 0 ()

/-- What a wait takes and what it gives. -/
def waitIn (κ : Kind) : sProp 𝕄 := iprop(kcred c κ ∗ at0 c κ)
def waitOut (κ : Kind) : sProp 𝕄 := iprop(at1 c κ ∗ pay m c κ)

/-- A wait on a cell whose wait the levels allow. -/
theorem wp_waitS {s : Shape} {e : EltTy} {src dst : Memref sig .tc .hbm s e} {h₁ : src.view.WordExact} {h₂ : dst.view.WordExact}
    (κ : Kind) (hN : dst.view.dmaCredit = N κ) (l : List T) (W : Waits sig Unit)
    {Q : PUnit → sProp 𝕄} (hw : (levAts L lv : sProp 𝕄) ⊢ MayWait (c : Thread nD τ) (.dma (sem κ)) () (owed c l)) :
    iprop(recs m K ∗ waitIn c κ ∗ owes (c : Thread nD τ) (owed c l) W
        ∗ (∀ W', waitOut m c κ ∗ owes (c : Thread nD τ) (owed c l) W' -∗ WP c k Q))
      ⊢ WP c (waitS src dst (sem κ) h₁ h₂ k) Q := by
  unfold waitS waitIn waitOut
  iintro ⟨#HR, ⟨Hc, Hat⟩, HO, Hk⟩
  ihave #HI := (recs_inv m K c κ) $$ HR
  ihave #Hl := (recs_lev m K) $$ HR
  iapply (Rounds.wp_wait_rest_token 𝒱₀ ER (Rd m) (c : Thread nD τ) none (κ := K (c, κ))
      (wpE_waitDma2_eq 𝒱₀ (c : Thread nD τ) none Set.univ) (Set.mem_univ _) () (O := owed c l) (W := W) (R := 0) (m := 0) (T := ∅)
      (by rw [Nat.zero_add, hN]; exact (expect_cell m c κ).symm)) $$ [Hc HO Hat]
  · isplitr; · iexact HI
    isplitl [Hc]; · (rw [hN]; iexact Hc)
    isplitl [HO]; · iexact HO
    isplitr; · (iapply hw $$ Hl)
    iexact Hat
  iintro ⟨HO, Hat, -, Hpay⟩
  ihave Hp := (Entails.of_eq (rest_cell m c κ)) $$ Hpay
  iapply Hk $$ %_ [Hat Hp HO]
  isplitl [Hat Hp]
  · isplitl [Hat]
    · iexact Hat
    · iexact Hp
  · iexact HO

/-- A transfer to a peer: the part (or the relayed slot) read under a share that stays behind, the peer's slot written. -/
theorem wp_sendS {Q : PUnit → sProp 𝕄} (t : T) {n : Dev nD} (hn : n = peer t.to c)
    {src dst : Memref sig .tc .hbm (sh2 (item t.arr).p (item t.arr).w) (item t.arr).ty} {h₁ : src.view.WordExact} {h₂ : dst.view.WordExact}
    {src' : Memref sig .tc .hbm (sh2 (item t.arr).p (item t.arr).w) (item t.arr).ty} (hs : src = src')
    (hd : dst = slotM t.arr (sslot t c)) (q : PosShare TreeShare) (fs : Buf (Elt F) (src'.view.loc (c : Thread nD τ)))
    (hv : src'.view.read (Elt F) fs = val m t.arr (sslot t c)) (l : List T) (W : Waits sig Unit) :
    iprop(recs m K ∗ (src'.view.loc (c : Thread nD τ) ↦[src'.view.set]{q} fs) ∗ slotAny t.arr (sslot t c) (peer t.to c)
        ∗ tok c (.snd t) ∗ dutyTok ER (dcell c t) 0 ()
        ∗ owes (c : Thread nD τ) (owed c (t :: l)) W
        ∗ (kcred c (.snd t) ∗ owes (c : Thread nD τ) (owed c l) W -∗ WP c k Q))
      ⊢ WP c (sendS src dst n (sem (.snd t)) (sem (.rcv t)) h₁ h₂ k) Q := by
  subst hn hs hd
  unfold sendS slotAny viewAny
  iintro ⟨#HR, Hs, ⟨%fd, Hd⟩, Ht, Ht', HO, Hk⟩
  ihave #HI := (recs_inv m K c (.snd t)) $$ HR
  ihave #HI' := (recs_inv m K (peer t.to c) (.rcv t)) $$ HR
  ihave #Hr := (recs_reached m K c (.snd t)) $$ HR
  ihave #Hr' := (recs_reached m K (peer t.to c) (.rcv t)) $$ HR
  iapply (Rounds.wp_send_pointsTo 𝒱₀ ER (Rd m) (c : Thread nD τ) none (κ₁ := K (c, .snd t)) (κ₂ := K (peer t.to c, .rcv t))
    (r₁ := 0) (r₂ := 0) (d₁ := ()) (d₂ := ()) (fd := fd) (q := q) (fs := fs)
    (by rw [duties_cell m c (.snd t)]; exact Finset.mem_singleton_self _)
    (by rw [duties_cell m (peer t.to c) (.rcv t)]; exact Finset.mem_singleton_self _)
    () () (NP t.arr) rfl (amount_cell m c (.snd t) ()) (amount_cell m (peer t.to c) (.rcv t) ()) (owed c l) rfl (W := W)
    (by rw [payload_cell m c (.snd t)]; unfold pay; iintro -; iempintro)
    (by
      rw [payload_cell m (peer t.to c) (.rcv t)]
      show _ ⊢ slotHas m fullShare t.arr (rslot t (peer t.to c)) (peer t.to c)
      rw [rslot_peer]
      unfold slotHas viewHas
      iintro H
      iexists ((slotM t.arr (sslot t c)).view.write (Elt F) fd (src.view.read (Elt F) fs) Finset.univ)
      isplitr
      · ipureintro; rw [View.read_write_univ]; exact hv
      · iexact H)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iexact Hk

/-- The copy of a device's own shard to its own place. -/
theorem wp_localS {Q : PUnit → sProp 𝕄} (a : A) {dst : Memref sig .tc .hbm (sh2 (item a).r (item a).w) (item a).ty}
    {h₁ : (item a).src.view.WordExact} {h₂ : dst.view.WordExact} (hd : dst = shardM a (chip c)) (q : PosShare TreeShare) :
    iprop(recs m K ∗ srcPts m q a c ∗ viewAny (shardM a (chip c)) c ∗ tok c (.lcl a) ∗ (kcred c (.lcl a) -∗ WP c k Q))
      ⊢ WP c (localS (item a).src dst (sem (.lcl a)) h₁ h₂ k) Q := by
  subst hd
  have hset : (srcPts m q a c : sProp 𝕄) = ((item a).src.view.loc (c : Thread nD τ) ↦[(item a).src.view.set]{q} m ((item a).src.view.loc (c : Thread nD τ))) := by
    unfold srcPts; rw [(item a).hsrc.set_eq_univ]
  rw [hset]
  unfold localS viewAny
  iintro ⟨#HR, Hs, ⟨%fd, Hd⟩, Ht, Hk⟩
  ihave #HI := (recs_inv m K c (.lcl a)) $$ HR
  ihave #Hr := (recs_reached m K c (.lcl a)) $$ HR
  iapply (Rounds.wp_copy_pointsTo 𝒱₀ ER (Rd m) (c : Thread nD τ) none (κ := K (c, .lcl a))
    (r := 0) (d := ()) (fd := fd) (q := q)
    (by rw [duties_cell m c (.lcl a)]; exact Finset.mem_singleton_self _)
    () (N (.lcl a)) rfl (amount_cell m c (.lcl a) ())
    (by
      rw [payload_cell m c (.lcl a)]
      unfold pay ownHas viewHas
      iintro ⟨H, -⟩
      iexists ((shardM a (chip c)).view.write (Elt F) fd (shard m a c) Finset.univ)
      isplitr
      · ipureintro; exact View.read_write_univ _ _
      · iexact H)) $$ [Hs Hd Ht]
  · isplitr; · iexact HI
    isplitl [Hs]; · iexact Hs
    isplitl [Hd]; · iexact Hd
    isplitl [Ht]; · iexact Ht
    iexact Hr
  iexact Hk

end Steps

/-! ## Loops -/

/-- The separating conjunction over a list. -/
def sepL {I : Type} (l : List I) (P : I → sProp 𝕄) : sProp 𝕄 := l.foldr (fun a r => iprop(P a ∗ r)) iprop(emp)

omit [FloatOps F] in
/-- Over a list naming every element of a type once, it is the one over the type. -/
theorem bigSep_sepL {I : Type} [Fintype I] [DecidableEq I] (l : List I) (hl : l.Nodup) (hm : ∀ i, i ∈ l) (P : I → sProp 𝕄) :
    bigSep Finset.univ P = sepL l P := by
  have h (l : List I) (hl : l.Nodup) : bigSep l.toFinset P = sepL l P := by
    induction l with
    | nil => rfl
    | cons i l ih =>
      obtain ⟨hi, hl⟩ := List.nodup_cons.mp hl
      rw [List.toFinset_cons, bigSep_insert (fun h => hi (List.mem_toFinset.mp h)), ih hl]
      rfl
  rw [← h l hl, Finset.eq_univ_of_forall fun i => List.mem_toFinset.mpr (hm i)]

/-- A loop whose step at `a` turns `P a` into `R a` and the state `J (a :: l)` into `J l`. -/
theorem wp_loopL {I : Type} (c : Dev nD) (s : I → KProg F → KProg F) (P R : I → sProp 𝕄) (J : List I → sProp 𝕄) {Q : PUnit → sProp 𝕄}
    (step : ∀ a l k, iprop(P a ∗ J (a :: l) ∗ (R a ∗ J l -∗ WP c k Q)) ⊢ WP c (s a k) Q) (l : List I) (k : KProg F) :
    iprop(sepL l P ∗ J l ∗ (sepL l R ∗ J [] -∗ WP c k Q)) ⊢ WP c (l.foldr s k) Q := by
  induction l with
  | nil =>
    iintro ⟨-, HJ, Hk⟩
    iapply Hk
    isplitr
    · (unfold sepL; iempintro)
    · iexact HJ
  | cons a l ih =>
    show iprop(iprop(P a ∗ sepL l P) ∗ J (a :: l) ∗ (iprop(R a ∗ sepL l R) ∗ J [] -∗ WP c k Q)) ⊢ WP c (s a (l.foldr s k)) Q
    iintro ⟨⟨Ha, Hl⟩, HJ, Hk⟩
    iapply (step a l _)
    isplitl [Ha]; · iexact Ha
    isplitl [HJ]; · iexact HJ
    iintro ⟨Hb, HJ⟩
    iapply ih
    isplitl [Hl]; · iexact Hl
    isplitl [HJ]; · iexact HJ
    iintro ⟨HR, HJ⟩
    iapply Hk
    isplitl [Hb HR]
    · isplitl [Hb]
      · iexact Hb
      · iexact HR
    · iexact HJ

/-- The same over a list naming every element of a type once. -/
theorem wp_loop {I : Type} [Fintype I] [DecidableEq I] (c : Dev nD) (l : List I) (hl : l.Nodup) (hm : ∀ i, i ∈ l) (s : I → KProg F → KProg F)
    (P R : I → sProp 𝕄) (J : List I → sProp 𝕄) {Q : PUnit → sProp 𝕄}
    (step : ∀ a l k, iprop(P a ∗ J (a :: l) ∗ (R a ∗ J l -∗ WP c k Q)) ⊢ WP c (s a k) Q) (k : KProg F) :
    iprop(bigSep Finset.univ P ∗ J l ∗ (bigSep Finset.univ R ∗ J [] -∗ WP c k Q)) ⊢ WP c (l.foldr s k) Q := by
  rw [bigSep_sepL l hl hm, bigSep_sepL l hl hm]
  exact wp_loopL c s P R J step l k

end Cert.WeightsIdeal.Shards

end
-- ==== Proof.WeightsBody.lean ====
/-
  The body of one device of the gather of the weights: its eight loops from what the device starts with to every cell
  consumed, every slot of its results holding its part and the device's own place in each its shard.
-/
module

public import proofs.«01_k».proof.Proof.WeightsSteps

@[expose] public section

set_option maxRecDepth 16384

noncomputable section

namespace Cert.WeightsIdeal.Shards

open Cert.WeightsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

/-! ## The steps of the loops -/

section Loops
variable (K : Dev nD × Kind → ℕ) (c : Dev nD)

/-- What is known, and what the device still owes. -/
def St (l : List T) : sProp 𝕄 := iprop(recs m K ∗ ∃ W, owes (c : Thread nD τ) (owed c l) W)

/-- A push of half `x` (as a push is named) of an array sent in halves, and of a small one. -/
abbrev inHalf (x : Fin 8 × Fin 3) : A × Fin 3 := (.inl x.1, x.2)
abbrev inSmall (x : Fin 2 × Fin 3) : A × Fin 3 := (.inr x.1, x.2)

/-- A copy on the device: the array under some share, its place in the result, its token. -/
def copyIn (a : A) : sProp 𝕄 := iprop((∃ q, srcPts m q a c) ∗ viewAny (shardM a (chip c)) c ∗ tok c (.lcl a))
/-- A push: its part, the peer's slot, its two tokens. -/
def pushIn (x : A × Fin 3) : sProp 𝕄 :=
  iprop(half m x.1 c ∗ slotAny x.1 c (peer x.2.castSucc c) ∗ tok c (.snd (.inl x)) ∗ dutyTok ER (dcell c (.inl x)) 0 ())
/-- A relay: its wait, the sibling's slot, its two tokens; the slot relayed comes of the wait. -/
def relayIn (x : Fin 8 × Fin 3) : sProp 𝕄 :=
  iprop(waitIn c (.rcv (.inl (inHalf x))) ∗ slotAny (.inl x.1) (peer x.2.castSucc c) (peer 3 c) ∗ tok c (.snd (.inr x)) ∗ dutyTok ER (dcell c (.inr x)) 0 ())
def relayOut (x : Fin 8 × Fin 3) : sProp 𝕄 :=
  iprop(kcred c (.snd (.inr x)) ∗ at1 c (.rcv (.inl (inHalf x))) ∗ slotHas m fullShare.left (.inl x.1) (peer x.2.castSucc c) c)

theorem wp_copy {Q : PUnit → sProp 𝕄} (l : List T) (a : A) (k : KProg F) :
    iprop(copyIn m c a ∗ St m K c l ∗ (kcred c (.lcl a) ∗ St m K c l -∗ WP c k Q)) ⊢ WP c (copy c a k) Q := by
  unfold copyIn St copy
  iintro ⟨⟨⟨%q, Hs⟩, Hd, Ht⟩, ⟨#HR, HO⟩, Hk⟩
  iapply (wp_localS m K c a (shardT_eq a c) q)
  isplitr; · iexact HR
  isplitl [Hs]; · iexact Hs
  isplitl [Hd]; · iexact Hd
  isplitl [Ht]; · iexact Ht
  iintro Hc
  iapply Hk
  isplitl [Hc]; · iexact Hc
  isplitr; · iexact HR
  iexact HO

theorem wp_push {Q : PUnit → sProp 𝕄} (l : List T) (x : A × Fin 3) (k : KProg F) :
    iprop(pushIn m c x ∗ St m K c (.inl x :: l) ∗ (kcred c (.snd (.inl x)) ∗ St m K c l -∗ WP c k Q)) ⊢ WP c (push c x k) Q := by
  unfold pushIn St half push
  iintro ⟨⟨⟨%q, Hp⟩, Hs, Ht, Ht'⟩, ⟨#HR, ⟨%W, HO⟩⟩, Hk⟩
  iapply (wp_sendS m K c (.inl x) (dev_eq x.2.castSucc c) (halfT_eq x.1 c) (slotT_eq x.1 c (offM_eq x.1 c) _) q _ rfl l W)
  isplitr; · iexact HR
  isplitl [Hp]; · iexact Hp
  isplitl [Hs]; · iexact Hs
  isplitl [Ht]; · iexact Ht
  isplitl [Ht']; · iexact Ht'
  isplitl [HO]; · iexact HO
  iintro ⟨Hc, HO⟩
  iapply Hk
  isplitl [Hc]; · iexact Hc
  isplitr; · iexact HR
  iexists W; iexact HO

theorem wp_relay {Q : PUnit → sProp 𝕄} (x : Fin 8 × Fin 3) (l : List (Fin 8 × Fin 3)) (k : KProg F) :
    iprop(relayIn c x ∗ St m K c (relaysOf (x :: l)) ∗ (relayOut m c x ∗ St m K c (relaysOf l) -∗ WP c k Q)) ⊢ WP c (relay c x k) Q := by
  unfold relayIn relayOut St relay take
  iintro ⟨⟨Hw, Hs, Ht, Ht'⟩, ⟨#HR, ⟨%W, HO⟩⟩, Hk⟩
  iapply (wp_waitS m K c (.rcv (.inl (inHalf x))) (by rw [slotT_eq (.inl x.1) _ (offF_eq (.inl x.1) x.2 c)]; rfl) (relaysOf (x :: l)) W
    (mayWait_push c (inHalf x) (x :: l)))
  isplitr; · iexact HR
  isplitl [Hw]; · iexact Hw
  isplitl [HO]; · iexact HO
  iintro %W' ⟨Hw, HO⟩
  ihave Hw := (show waitOut m c (.rcv (.inl (inHalf x))) ⊢
      iprop(at1 c (.rcv (.inl (inHalf x))) ∗ slotHas m fullShare (.inl x.1) (peer x.2.castSucc c) c) from BI.Entails.refl _) $$ Hw
  icases Hw with ⟨Hat, Hh⟩
  ihave Hh := (viewHas_split _ _ c) $$ Hh
  icases Hh with ⟨Hl, Hr⟩
  ihave Hr := (show slotHas m fullShare.right (.inl x.1) (peer x.2.castSucc c) c ⊢ iprop(∃ f,
      ⌜(slotM (.inl x.1) (peer x.2.castSucc c)).view.read (Elt F) f = val m (.inl x.1) (peer x.2.castSucc c)⌝
        ∗ (slotM (.inl x.1) (peer x.2.castSucc c)).view.loc (c : Thread nD τ) ↦[(slotM (.inl x.1) (peer x.2.castSucc c)).view.set]{fullShare.right} f) from BI.Entails.refl _) $$ Hr
  icases Hr with ⟨%f, %hf, Hr⟩
  iapply (wp_sendS m K c (.inr x) (dev_eq 3 c) (slotT_eq (.inl x.1) _ (offF_eq (.inl x.1) x.2 c) _) (slotT_eq (.inl x.1) _ (offF_eq (.inl x.1) x.2 c) _)
    fullShare.right f hf (relaysOf l) W')
  isplitr; · iexact HR
  isplitl [Hr]; · iexact Hr
  isplitl [Hs]; · iexact Hs
  isplitl [Ht]; · iexact Ht
  isplitl [Ht']; · iexact Ht'
  isplitl [HO]; · iexact HO
  iintro ⟨Hc, HO⟩
  iapply Hk
  isplitl [Hc Hat Hl]
  · isplitl [Hc]; · iexact Hc
    isplitl [Hat]; · iexact Hat
    iexact Hl
  isplitr; · iexact HR
  iexists W'; iexact HO

/-- A wait of a device that owes nothing. -/
theorem wp_waitS0 {Q : PUnit → sProp 𝕄} (κ : Kind) {s : Shape} {e : EltTy} {src dst : Memref sig .tc .hbm s e}
    {h₁ : src.view.WordExact} {h₂ : dst.view.WordExact} {k : KProg F} (hN : dst.view.dmaCredit = N κ) :
    iprop(waitIn c κ ∗ St m K c [] ∗ (waitOut m c κ ∗ St m K c [] -∗ WP c k Q)) ⊢ WP c (waitS src dst (sem κ) h₁ h₂ k) Q := by
  unfold St
  iintro ⟨Hw, ⟨#HR, ⟨%W, HO⟩⟩, Hk⟩
  iapply (wp_waitS m K c κ hN [] W (by show _ ⊢ MayWait _ _ _ 0; rw [MayWait_zero]; iintro -; iempintro))
  isplitr; · iexact HR
  isplitl [Hw]; · iexact Hw
  isplitl [HO]; · iexact HO
  iintro %W' ⟨Hw, HO⟩
  iapply Hk
  isplitl [Hw]; · iexact Hw
  isplitr; · iexact HR
  iexists W'; iexact HO

theorem wp_take {Q : PUnit → sProp 𝕄} (x : A × Fin 3) (k : KProg F) :
    iprop(waitIn c (.rcv (.inl x)) ∗ St m K c [] ∗ (waitOut m c (.rcv (.inl x)) ∗ St m K c [] -∗ WP c k Q)) ⊢ WP c (take c x k) Q :=
  wp_waitS0 m K c (.rcv (.inl x)) (by rw [slotT_eq x.1 _ (offF_eq x.1 x.2 c)]; rfl)
theorem wp_arrive {Q : PUnit → sProp 𝕄} (x : Fin 8 × Fin 3) (k : KProg F) :
    iprop(waitIn c (.rcv (.inr x)) ∗ St m K c [] ∗ (waitOut m c (.rcv (.inr x)) ∗ St m K c [] -∗ WP c k Q)) ⊢ WP c (arrive c x k) Q :=
  wp_waitS0 m K c (.rcv (.inr x)) (by rw [slotT_eq (.inl x.1) _ (offG_eq x.1 x.2 c)]; rfl)
theorem wp_sent {Q : PUnit → sProp 𝕄} (x : A × Fin 3) (k : KProg F) :
    iprop(waitIn c (.snd (.inl x)) ∗ St m K c [] ∗ (waitOut m c (.snd (.inl x)) ∗ St m K c [] -∗ WP c k Q)) ⊢ WP c (sent c x k) Q :=
  wp_waitS0 m K c (.snd (.inl x)) (by rw [halfT_eq, N_half]; rfl)
theorem wp_copied {Q : PUnit → sProp 𝕄} (a : A) (k : KProg F) :
    iprop(waitIn c (.lcl a) ∗ St m K c [] ∗ (waitOut m c (.lcl a) ∗ St m K c [] -∗ WP c k Q)) ⊢ WP c (copied c a k) Q :=
  wp_waitS0 m K c (.lcl a) (by rw [shardT_eq]; rfl)

theorem wp_drain {Q : PUnit → sProp 𝕄} (x : Fin 8 × Fin 3) (k : KProg F) :
    iprop(iprop(waitIn c (.snd (.inl (inHalf x))) ∗ waitIn c (.snd (.inr x))) ∗ St m K c []
        ∗ (iprop(waitOut m c (.snd (.inl (inHalf x))) ∗ waitOut m c (.snd (.inr x))) ∗ St m K c [] -∗ WP c k Q))
      ⊢ WP c (drain c x k) Q := by
  unfold drain
  iintro ⟨⟨Hw, Hw'⟩, HJ, Hk⟩
  iapply (wp_sent m K c (inHalf x))
  isplitl [Hw]; · iexact Hw
  isplitl [HJ]; · iexact HJ
  iintro ⟨Hw, HJ⟩
  iapply (wp_waitS0 m K c (.snd (.inr x)) (by rw [slotT_eq (.inl x.1) _ (offF_eq (.inl x.1) x.2 c)]; rfl))
  isplitl [Hw']; · iexact Hw'
  isplitl [HJ]; · iexact HJ
  iintro ⟨Hw', HJ⟩
  iapply Hk
  isplitl [Hw Hw']
  · isplitl [Hw]; · iexact Hw
    iexact Hw'
  · iexact HJ

end Loops

/-! ## The whole body -/

section Whole
variable (c : Dev nD)

omit [FloatOps F] in
/-- The pushes are of halves or of small arrays; -/
theorem bigSep_push (Φ : A × Fin 3 → sProp 𝕄) :
    bigSep Finset.univ Φ = iprop((bigSep Finset.univ fun x => Φ (inHalf x)) ∗ bigSep Finset.univ fun x => Φ (inSmall x)) := by
  rw [bigSep_univ_prod, bigSep_univ_sum (α := Fin 8) (β := Fin 2), ← bigSep_univ_prod (fun x : Fin 8 × Fin 3 => Φ (inHalf x)),
    ← bigSep_univ_prod (fun x : Fin 2 × Fin 3 => Φ (inSmall x))]
  rfl
omit [FloatOps F] in
/-- the transfers are those and the relays; -/
theorem bigSep_T (Φ : T → sProp 𝕄) : bigSep Finset.univ Φ
    = iprop(((bigSep Finset.univ fun x => Φ (.inl (inHalf x))) ∗ bigSep Finset.univ fun x => Φ (.inl (inSmall x))) ∗ bigSep Finset.univ fun x => Φ (.inr x)) := by
  rw [bigSep_univ_sum (α := A × Fin 3) (β := Fin 8 × Fin 3), bigSep_push fun x => Φ (.inl x)]
  rfl
omit [FloatOps F] in
theorem bigSep_kind (Φ : Kind → sProp 𝕄) :
    bigSep Finset.univ Φ = iprop((bigSep Finset.univ fun t => Φ (.snd t)) ∗ (bigSep Finset.univ fun t => Φ (.rcv t)) ∗ bigSep Finset.univ fun a => Φ (.lcl a)) := by
  rw [bigSep_univ_sum (α := T) (β := T ⊕ A), bigSep_univ_sum (α := T) (β := A) (fun b => Φ (.inr b))]
  rfl

/-- What device `c` starts with. -/
def devIn : sProp 𝕄 :=
  iprop((bigSep Finset.univ fun κ : Kind => at0 c κ)
    ∗ (bigSep Finset.univ fun t : T => tok c (.snd t))
    ∗ (bigSep Finset.univ fun t : T => dutyTok ER (dcell c t) 0 ())
    ∗ (bigSep Finset.univ fun a : A => tok c (.lcl a))
    ∗ (bigSep Finset.univ fun t : T => kcred c (.rcv t))
    ∗ (bigSep Finset.univ fun t : T => slotAny t.arr (sslot t c) (peer t.to c))
    ∗ (bigSep Finset.univ fun a : A => viewAny (shardM a (chip c)) c)
    ∗ (bigSep Finset.univ fun x : A × Fin 3 => half m x.1 c)
    ∗ bigSep Finset.univ fun a : A => iprop(∃ q, srcPts m q a c))
/-- What it ends with: every cell consumed, every slot at its part, its own place at its shard. -/
def devOut : sProp 𝕄 :=
  iprop((bigSep Finset.univ fun κ : Kind => at1 c κ)
    ∗ (bigSep Finset.univ fun t : T => slotHas m fullShare.left t.arr (rslot t c) c)
    ∗ bigSep Finset.univ fun a : A => ownHas m fullShare.left a c)

/-- What each loop starts with; the waits for the device's own transfers have their credits from the loops before. -/
theorem devIn_split : devIn m c ⊢ iprop((bigSep Finset.univ fun a => copyIn m c a) ∗ (bigSep Finset.univ fun x => pushIn m c x)
    ∗ (bigSep Finset.univ fun x => relayIn (F := F) c x) ∗ (bigSep Finset.univ fun x => waitIn c (.rcv (.inl (inSmall x))))
    ∗ (bigSep Finset.univ fun x => waitIn c (.rcv (.inr x))) ∗ (bigSep Finset.univ fun t : T => at0 c (.snd t)) ∗ bigSep Finset.univ fun a : A => at0 c (.lcl a)) := by
  unfold devIn copyIn pushIn relayIn waitIn
  simp only [bigSep_kind, bigSep_T, bigSep_push, bigSep_sep']
  iintro ⟨⟨⟨⟨Ah, As⟩, Ar⟩, ⟨⟨Bh, Bs⟩, Br⟩, Al⟩, ⟨⟨Th, Ts⟩, Tr⟩, ⟨⟨Uh, Us⟩, Ur⟩, Tl, ⟨⟨Ch, Cs⟩, Cr⟩, ⟨⟨Sh, Ss⟩, Sr⟩, So, ⟨Ph, Ps⟩, Pl⟩
  isplitl [Pl So Tl]
  · isplitl [Pl]; · iexact Pl
    isplitl [So]; · iexact So
    iexact Tl
  isplitl [Ph Ps Sh Ss Th Ts Uh Us]
  · isplitl [Ph Ps]
    · isplitl [Ph]; · iexact Ph
      iexact Ps
    isplitl [Sh Ss]
    · isplitl [Sh]; · iexact Sh
      iexact Ss
    isplitl [Th Ts]
    · isplitl [Th]; · iexact Th
      iexact Ts
    isplitl [Uh]; · iexact Uh
    iexact Us
  isplitl [Ch Bh Sr Tr Ur]
  · isplitl [Ch Bh]
    · isplitl [Ch]; · iexact Ch
      iexact Bh
    isplitl [Sr]; · iexact Sr
    isplitl [Tr]; · iexact Tr
    iexact Ur
  isplitl [Cs Bs]
  · isplitl [Cs]; · iexact Cs
    iexact Bs
  isplitl [Cr Br]
  · isplitl [Cr]; · iexact Cr
    iexact Br
  isplitr [Al]
  · isplitl [Ah As]
    · isplitl [Ah]; · iexact Ah
      iexact As
    iexact Ar
  · iexact Al

/-- What the last loops start with. -/
theorem drain_split : iprop(((bigSep Finset.univ fun t : T => at0 c (.snd t)) ∗ bigSep Finset.univ fun a : A => at0 c (.lcl a))
      ∗ (bigSep Finset.univ fun a : A => kcred (F := F) c (.lcl a)) ∗ (bigSep Finset.univ fun x : A × Fin 3 => kcred c (.snd (.inl x)))
      ∗ bigSep Finset.univ fun x => relayOut m c x)
    ⊢ iprop((bigSep Finset.univ fun x => iprop(waitIn c (.snd (.inl (inHalf x))) ∗ waitIn c (.snd (.inr x)))) ∗ (bigSep Finset.univ fun x => waitIn c (.snd (.inl (inSmall x))))
      ∗ (bigSep Finset.univ fun a => waitIn c (.lcl a))
      ∗ (bigSep Finset.univ fun x => at1 c (.rcv (.inl (inHalf x)))) ∗ bigSep Finset.univ fun x : Fin 8 × Fin 3 => slotHas m fullShare.left (.inl x.1) (peer x.2.castSucc c) c) := by
  unfold relayOut waitIn
  simp only [bigSep_T, bigSep_push, bigSep_sep']
  iintro ⟨⟨⟨⟨Ah, As⟩, Ar⟩, Al⟩, Cl, ⟨Ch, Cs⟩, Cr, B, H⟩
  isplitl [Ah Ch Ar Cr]
  · isplitl [Ah Ch]
    · isplitl [Ch]; · iexact Ch
      iexact Ah
    isplitl [Cr]; · iexact Cr
    iexact Ar
  isplitl [As Cs]
  · isplitl [Cs]; · iexact Cs
    iexact As
  isplitl [Al Cl]
  · isplitl [Cl]; · iexact Cl
    iexact Al
  isplitl [B]; · iexact B
  iexact H

/-- What the loops end with. -/
theorem devOut_of : iprop(((bigSep Finset.univ fun x => at1 c (.rcv (.inl (inHalf x)))) ∗ bigSep Finset.univ fun x : Fin 8 × Fin 3 => slotHas m fullShare.left (.inl x.1) (peer x.2.castSucc c) c)
      ∗ (bigSep Finset.univ fun x => waitOut m c (.rcv (.inl (inSmall x)))) ∗ (bigSep Finset.univ fun x => waitOut m c (.rcv (.inr x)))
      ∗ (bigSep Finset.univ fun x => iprop(waitOut m c (.snd (.inl (inHalf x))) ∗ waitOut m c (.snd (.inr x))))
      ∗ (bigSep Finset.univ fun x => waitOut m c (.snd (.inl (inSmall x)))) ∗ bigSep Finset.univ fun a => waitOut m c (.lcl a)) ⊢ devOut m c := by
  have hl {s : Shape} {e : EltTy} (v : Memref sig .tc .hbm s e) (y : s.Idx → Elt F e) : viewHas fullShare v y c ⊢ viewHas fullShare.left v y c :=
    (viewHas_split v y c).trans sep_elim_left
  have h1 : (bigSep Finset.univ fun x : Fin 2 × Fin 3 => pay m c (.rcv (.inl (inSmall x))))
      ⊢ bigSep Finset.univ fun x : Fin 2 × Fin 3 => slotHas m fullShare.left (T.arr (.inl (inSmall x))) (rslot (.inl (inSmall x)) c) c := bigSep_mono fun x _ => hl _ _
  have h2 : (bigSep Finset.univ fun x : Fin 8 × Fin 3 => pay m c (.rcv (.inr x)))
      ⊢ bigSep Finset.univ fun x : Fin 8 × Fin 3 => slotHas m fullShare.left (T.arr (.inr x)) (rslot (.inr x) c) c := bigSep_mono fun x _ => hl _ _
  have h3 : (bigSep Finset.univ fun a : A => pay m c (.lcl a)) ⊢ bigSep Finset.univ fun a : A => ownHas m fullShare.left a c := bigSep_mono fun a _ => hl _ _
  unfold devOut waitOut
  simp only [bigSep_kind, bigSep_T, bigSep_sep']
  iintro ⟨⟨Bh, Hh⟩, ⟨Bs, Hs⟩, ⟨Br, Hr⟩, ⟨⟨Ah, -⟩, Ar, -⟩, ⟨As, -⟩, Al, Hl⟩
  isplitr [Hh Hs Hr Hl]
  · isplitl [Ah As Ar]
    · isplitl [Ah As]
      · isplitl [Ah]; · iexact Ah
        iexact As
      iexact Ar
    isplitl [Bh Bs Br]
    · isplitl [Bh Bs]
      · isplitl [Bh]; · iexact Bh
        iexact Bs
      iexact Br
    iexact Al
  isplitr [Hl]
  · isplitl [Hh Hs]
    · isplitl [Hh]; · iexact Hh
      iapply h1 $$ Hs
    iapply h2 $$ Hr
  · iapply h3 $$ Hl

variable (K : Dev nD × Kind → ℕ)

theorem arrays_nodup : arrays.Nodup := by decide +kernel
theorem arrays_mem (a : A) : a ∈ arrays := List.mem_toFinset.mp (by revert a; decide +kernel)
theorem pushL_nodup : pushL.Nodup := by decide +kernel
theorem pushL_mem (x : A × Fin 3) : x ∈ pushL := List.mem_toFinset.mp (by revert x; decide +kernel)
theorem halfL_nodup : halfL.Nodup := by decide +kernel
theorem halfL_mem : ∀ x, x ∈ halfL := by decide +kernel
theorem smallL_nodup : smallL.Nodup := by decide +kernel
theorem smallL_mem : ∀ x, x ∈ smallL := by decide +kernel

/-- The body of device `c`. -/
theorem wp_prog {Q : PUnit → sProp 𝕄} :
    iprop(St m K c (pushesOf pushL ++ relaysOf halfL) ∗ devIn m c ∗ (St m K c [] ∗ devOut m c -∗ Q ⟨⟩)) ⊢ WP c (prog F) Q := by
  unfold prog WP
  rw [wp_deviceId]
  iintro ⟨HJ, Hin, Hk⟩
  ihave Hin := (devIn_split m c) $$ Hin
  icases Hin with ⟨H1, H2, H3, H4, H5, H0⟩
  iapply (wp_loop c arrays arrays_nodup arrays_mem (copy c) (copyIn m c) (fun a => kcred c (.lcl a)) (fun _ => St m K c (pushesOf pushL ++ relaysOf halfL))
    (fun a _ k => wp_copy m K c _ a k))
  isplitl [H1]; · iexact H1
  isplitl [HJ]; · iexact HJ
  iintro ⟨H1, HJ⟩
  iapply (wp_loop c pushL pushL_nodup pushL_mem (push c) (pushIn m c) (fun x => kcred c (.snd (.inl x))) (fun l => St m K c (pushesOf l ++ relaysOf halfL))
    (fun x _ k => wp_push m K c _ x k))
  isplitl [H2]; · iexact H2
  isplitl [HJ]; · iexact HJ
  iintro ⟨H2, HJ⟩
  iapply (wp_loop c halfL halfL_nodup halfL_mem (relay c) (relayIn c) (relayOut m c) (fun l => St m K c (relaysOf l)) (fun x l k => wp_relay m K c x l k))
  isplitl [H3]; · iexact H3
  isplitl [HJ]; · iexact HJ
  iintro ⟨H3, HJ⟩
  iapply (wp_loop c smallL smallL_nodup smallL_mem (fun x => take c (inSmall x)) (fun x => waitIn c (.rcv (.inl (inSmall x))))
    (fun x => waitOut m c (.rcv (.inl (inSmall x)))) (fun _ => St m K c []) (fun x _ k => wp_take m K c (inSmall x) k))
  isplitl [H4]; · iexact H4
  isplitl [HJ]; · iexact HJ
  iintro ⟨H4, HJ⟩
  iapply (wp_loop c halfL halfL_nodup halfL_mem (arrive c) (fun x => waitIn c (.rcv (.inr x))) (fun x => waitOut m c (.rcv (.inr x)))
    (fun _ => St m K c []) (fun x _ k => wp_arrive m K c x k))
  isplitl [H5]; · iexact H5
  isplitl [HJ]; · iexact HJ
  iintro ⟨H5, HJ⟩
  ihave H := (drain_split m c) $$ [H0 H1 H2 H3]
  · isplitl [H0]; · iexact H0
    isplitl [H1]; · iexact H1
    isplitl [H2]; · iexact H2
    iexact H3
  icases H with ⟨H6, H7, H8, H9⟩
  iapply (wp_loop c halfL halfL_nodup halfL_mem (drain c) (fun x => iprop(waitIn c (.snd (.inl (inHalf x))) ∗ waitIn c (.snd (.inr x))))
    (fun x => iprop(waitOut m c (.snd (.inl (inHalf x))) ∗ waitOut m c (.snd (.inr x)))) (fun _ => St m K c []) (fun x _ k => wp_drain m K c x k))
  isplitl [H6]; · iexact H6
  isplitl [HJ]; · iexact HJ
  iintro ⟨H6, HJ⟩
  iapply (wp_loop c smallL smallL_nodup smallL_mem (fun x => sent c (inSmall x)) (fun x => waitIn c (.snd (.inl (inSmall x))))
    (fun x => waitOut m c (.snd (.inl (inSmall x)))) (fun _ => St m K c []) (fun x _ k => wp_sent m K c (inSmall x) k))
  isplitl [H7]; · iexact H7
  isplitl [HJ]; · iexact HJ
  iintro ⟨H7, HJ⟩
  iapply (wp_loop c arrays arrays_nodup arrays_mem (copied c) (fun a => waitIn c (.lcl a)) (fun a => waitOut m c (.lcl a))
    (fun _ => St m K c []) (fun a _ k => wp_copied m K c a k))
  isplitl [H8]; · iexact H8
  isplitl [HJ]; · iexact HJ
  iintro ⟨H8, HJ⟩
  ihave Hout := (devOut_of m c) $$ [H9 H4 H5 H6 H7 H8]
  · isplitl [H9]; · iexact H9
    isplitl [H4]; · iexact H4
    isplitl [H5]; · iexact H5
    isplitl [H6]; · iexact H6
    isplitl [H7]; · iexact H7
    iexact H8
  unfold WP; rw [wp_ret]; imodintro
  iapply Hk
  isplitl [HJ]; · iexact HJ
  iexact Hout

end Whole

end Cert.WeightsIdeal.Shards

end
-- ==== Proof.WeightsLaunch.lean ====
/-
  The launch: from the machine at rest to every device at the start of its body, and from every device at the end of its
  body to what the final memory holds.

  A device writes into the results of its peers from its first instruction on, with no handshake before: its peers' slots
  are its own from the launch. The launch theorem here therefore hands ALL devices' buffers to one global step, beside the
  kernel's semaphores and its ghost state, and every device starts from what that step deals it.
-/
module

public import proofs.«01_k».proof.Proof.WeightsBody
public import proofs.«01_k».proof.Proof.Gen.WeightsIdeal.Launch
public import Idealize.ShloMosaic.Lib.Pipeline.Launch

@[expose] public section

set_option maxRecDepth 16384
set_option Elab.async false

noncomputable section

namespace Cert.WeightsIdeal.Shards

open Cert.WeightsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf OwnSemFacts)

variable {F : FTy → Type} [FloatOps F]

local notation "𝕄" => MT nD τ sig Unit (Elt F) ℕ (UU nD τ) ℕ

/-- The kernel's own semaphores, by what they count. -/
def osem : Kind → SemLoc sig := fun κ => .dma (sem κ)

theorem osem_inj : Function.Injective osem := fun x y h => by
  have h' : sem x = sem y := by unfold osem at h; exact SemLoc.dma.inj h
  exact sem_inj h'

/-- They are scoped and pairwise distinct; no window is staged, so none is a staging semaphore. -/
theorem ownSemFacts : OwnSemFacts cfg0.spec osem where
  isScoped := by decide +kernel
  inj := osem_inj
  disj := fun _ w => w.elim0

/-- No window: a separating product over the windows is nothing. -/
theorem no_windows (Φ : Fin 0 → sProp 𝕄) : bigSep Finset.univ Φ = (BI.emp : sProp 𝕄) := by
  rw [Finset.univ_eq_empty, BI.bigSep_empty]

section Launch
variable (m : (ℓ : Loc nD τ sig) → Buf (Elt F) ℓ) (ρ : Dev nD → PrngReg)
variable (O₀ : Dev nD → CellTallies nD τ sig Unit) (L : GSem nD τ sig → Finset Unit) (lv : GSem nD τ sig → Unit → ℕ)

/-- The levels of every cell, assigned once for the machine. -/
theorem levels_assign (hL : ∀ g : GSem nD τ sig, g.1.2 ≠ .tc → L g = ∅) :
    (bigSep Finset.univ fun c : Dev nD => levels0 (Ix := Unit) (Val := Elt F) (Name := ℕ) (U := UU nD τ) (Lvl := ℕ) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have hsc (d : Dev nD) : (bigSep (Finset.univ.erase Proc.tc) fun p => (coreLevAts ((d, p) : Thread nD τ) L lv : sProp 𝕄)) = BI.emp := by
    rw [bigSep_congr (Ψ := fun _ : Proc τ => (BI.emp : sProp 𝕄)) fun p hp => by
      unfold coreLevAts
      rw [bigSep_congr (Ψ := fun _ : SemLoc sig => (BI.emp : sProp 𝕄)) fun sm _ => by
        rw [hL (((d, p) : Thread nD τ), sm) (Finset.ne_of_mem_erase hp), BI.bigSep_empty], BI.bigSep_emp_const]]
    exact BI.bigSep_emp_const _
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv)]
  have hinner : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun p => (coreLevAts ((d, p) : Thread nD τ) L lv : sProp 𝕄)) := by
    rw [bigSep_congr (Ψ := fun _ : Dev nD => (BI.emp : sProp 𝕄)) fun d _ => hsc d, BI.bigSep_emp_const, bigSep_sep']
    iintro ⟨-, H⟩
    isplitl [H]; · iexact H
    iempintro
  exact hinner

/-- What a core keeps of its launch holdings through the dealing: its scoped buffers, the semaphores nothing uses, what it
    owes and the credits on its cells. -/
def kept (c : Dev nD) : sProp 𝕄 :=
  iprop(scopedBufs (c.tc : Thread nD τ) ∗ Pipeline.idleSems0 cfgs cellOf_inj (0 : Fin 1) ownSemFacts c ∗ owes (c.tc : Thread nD τ) (O₀ c) ∅ ∗ Pipeline.launchCred O₀ c)

/-- A core's holdings at launch: its scoped buffers, the kernel's semaphores, the semaphores nothing uses, its arrays, what
    it owes, the rights to its cells' levels and the credits on its cells. -/
theorem core_start (c : Dev nD) :
    coreInit (Ix := Unit) (Name := ℕ) (U := UU nD τ) (Lvl := ℕ) (Pipeline.owing O₀) 0 (⟨m, fun _ => 0, ρ⟩ : MemSt nD τ sig (Elt F)) (c.tc : Thread nD τ)
      ⊢ iprop(kept O₀ c ∗ (Pipeline.ownSems0 osem c ∗ unscopedBufs c (fun b => m ((c.tc : Thread nD τ).loc b))) ∗ levels0 c : sProp 𝕄) := by
  refine (Pipeline.coreInit_boundary_owing O₀ m ρ c).trans ?_
  unfold boundary kept
  rw [Pipeline.scopedSems0_split cfgs cellOf_inj (0 : Fin 1) winFacts0.to₀ ownSemFacts (Ix := Unit) (Val := Elt F) (Name := ℕ) (U := UU nD τ) (Lvl := ℕ) c]
  iintro ⟨⟨Hsc, ⟨⟨-, Hos⟩, Hidle⟩, -⟩, Hub, -, HL, Hlv, -, Hcr⟩
  isplitl [Hsc Hidle HL Hcr]
  · isplitl [Hsc]; · iexact Hsc
    isplitl [Hidle]; · iexact Hidle
    isplitl [HL] <;> iassumption
  isplitl [Hos Hub]
  · isplitl [Hos] <;> iassumption
  iexact Hlv

variable (dats : (p : Fin 1) → (c : Dev nD) → Dat τ (Elt F) Unit ℕ (UU nD τ) ℕ (cfgs p) c)

/-- A core's run of `main`: the call, from what the core keeps and what it is dealt, to what the body ends with. -/
theorem core_run (c : Dev nD)
    (hbody : BodyObligation (dats 0 c) (defs₀ (F := F)) 𝒱₀ () Set.univ)
    (howed₀ : (dats 0 c).owed 0 = O₀ c) (howedN : (dats 0 c).owed (Fin.last _) = 0)
    (G' : Dev nD → sProp 𝕄)
    (hin : iprop(levAts L lv ∗ Pipeline.launchCred O₀ c ∗ G' c) ⊢ (dats 0 c).Φ 0)
    (Y : Dev nD → sProp 𝕄)
    (hout : (dats 0 c).Φ (Fin.last _) ⊢ iprop(Y c ∗ Pipeline.ownSems0 osem c)) :
    iprop(kept O₀ c ∗ levAts L lv ∗ G' c)
      ⊢ wp frame (wpE (defs (F := F)) (Variants.lift 𝒱₀) (c.tc : Thread nD τ) none) Set.univ (main c)
          (fun _ => post (liftTc (fun c => iprop(Y c ∗ scopedSems0 (c.tc : Thread nD τ))) BI.emp) (c.tc : Thread nD τ)) := by
  have hsb := Pipeline.scopedBufs_split cfgs (0 : Fin 1) winFacts0.to₀.stage_scoped winFacts0.to₀.stage_inj stage_whole0
    (nD := nD) (τ := τ) (Ix := Unit) (Val := Elt F) (Name := ℕ) (U := UU nD τ) (Lvl := ℕ) c
  have hss := Pipeline.scopedSems0_split cfgs cellOf_inj (0 : Fin 1) winFacts0.to₀ ownSemFacts (Ix := Unit) (Val := Elt F) (Name := ℕ) (U := UU nD τ) (Lvl := ℕ) c
  have hsr := scopedRest0_eq (Ix := Unit) (Val := Elt F) (Name := ℕ) (U := UU nD τ) (Lvl := ℕ) c
  have hin' : iprop(iprop(levAts L lv ∗ Pipeline.launchCred O₀ c ∗ G' c) ∗ Pipeline.prefHeld (pcfgs (F := F) 0).pre c (fun _ => fullShare.right) ((cfgs 0).toPCfg_adm (Val := Elt F)).1
      ∗ Pipeline.scopedRest cfg0.spec c) ⊢ (dats 0 c).Φ 0 :=
    sep_elim_left.trans hin
  have hout' : iprop((dats 0 c).Φ (Fin.last _) ∗ Pipeline.cellsSems0 cfgs (0 : Fin 1) c ∗ Dat.staging cfg0 c ∗ Pipeline.idleSems0 cfgs cellOf_inj (0 : Fin 1) ownSemFacts c)
      ⊢ iprop(Y c ∗ scopedSems0 (c.tc : Thread nD τ) ∗ scopedBufs (c.tc : Thread nD τ)) := by
    rw [hss, hsb, hsr]
    iintro ⟨HΦ, Hcells, Hst, Hidle⟩
    ihave H := hout $$ HΦ
    icases H with ⟨HY, Hos⟩
    isplitl [HY]; · iexact HY
    isplitl [Hcells Hos Hidle]
    · isplitl [Hcells Hos]; · isplitl [Hcells] <;> iassumption
      iexact Hidle
    isplitl [Hst]; · iexact Hst
    iempintro
  have hpost : Pipeline.EntryPost cfgs dats () (0 : Fin 1) c
      ⊢ iprop(∃ W, owes (c.tc : Thread nD τ) (0 : CellTallies nD τ sig Unit) W) := by
    refine sep_elim_right.trans ?_
    show (dats 0 c).owesAt () (Fin.last _) ⊢ _
    unfold Dat.owesAt Pipeline.owesWithin
    rw [howedN]
    iintro ⟨%W, -, HW⟩
    iexists W; iexact HW
  have hpre : owes (c.tc : Thread nD τ) (O₀ c) ∅ ⊢ Pipeline.EntryPre cfgs dats () EP (fun _ => 0) (0 : Fin 1) c := by
    refine .trans ?_ (show iprop(BI.emp ∗ (dats 0 c).owesAt () 0 ∗ BI.emp ∗ BI.emp ∗ BI.emp) ⊢ Pipeline.EntryPre cfgs dats () EP (fun _ => 0) (0 : Fin 1) c from
      BI.sep_mono (Entails.of_eq (no_windows _).symm) (BI.sep_mono (BI.Entails.refl _) (BI.sep_mono (Entails.of_eq (no_windows _).symm)
        (BI.sep_mono (Entails.of_eq (no_windows _).symm) (Entails.of_eq (no_windows _).symm)))))
    unfold Dat.owesAt Pipeline.owesWithin
    rw [howed₀]
    iintro H
    isplitr; · iempintro
    isplitl [H]
    · iexists ∅
      isplitr; · ipureintro; rw [Finset.coe_empty]; exact Set.empty_subset _
      iexact H
    isplitr; · iempintro
    isplitr <;> iempintro
  have hpf : (BI.emp : sProp 𝕄) ⊢ Pipeline.prefHeld (pcfgs (F := F) 0).pre c (fun _ => fullShare.right) ((cfgs 0).toPCfg_adm (Val := Elt F)).1 :=
    Entails.of_eq (no_windows _).symm
  have key := Pipeline.wp_customCall_entry_frame (pcfgs (F := F)) (fun p => (cfgs p).toPCfg_adm) dats () EP (fun _ => 0) cellOf_inj (0 : Fin 1) (defs₀ (F := F)) 𝒱₀
      (fun _ => fullShare.right) c Set.univ (fun _ _ => Set.mem_univ _)
      hbody.loose (fun w => w.elim0) none (fun u h => nomatch h) (X := iprop(levAts L lv ∗ Pipeline.launchCred O₀ c ∗ G' c)) (Y := Y c)
      (R := Pipeline.scopedRest cfg0.spec c) (I := Pipeline.idleSems0 cfgs cellOf_inj (0 : Fin 1) ownSemFacts c)
      (Entails.of_eq hsb) hin' hout'
      (α := PUnit) (k := fun _ => .ret PUnit.unit) (Q := fun _ => post (liftTc (fun c => iprop(Y c ∗ scopedSems0 (c.tc : Thread nD τ))) BI.emp) (c.tc : Thread nD τ))
  refine .trans ?_ (show _ ⊢ wp frame (wpE (Pipeline.defs (pcfgs (F := F)) (defs₀ (F := F))) (Variants.lift 𝒱₀) (c.tc : Thread nD τ) none) Set.univ
    (.op (.customCall (Pipeline.entry 0) ()) fun _ => .ret PUnit.unit) _ from BI.Entails.refl _)
  unfold kept
  iintro ⟨⟨Hsc, Hidle, HL, Hcr⟩, Hla, HG⟩
  iapply key $$ [Hsc Hidle HL Hcr Hla HG]
  · isplitl [HL]; · iapply hpre; iexact HL
    isplitr; · iapply hpf; iempintro
    isplitl [Hla Hcr HG]
    · isplitl [Hla]; · iexact Hla
      isplitl [Hcr] <;> iassumption
    isplitl [Hidle]; · iexact Hidle
    iexact Hsc
  iintro ⟨Hpost, HY, Hss2, -⟩
  rw [wp_ret]; imodintro
  unfold post; simp only [liftTc_tc]
  ihave HW := hpost $$ Hpost
  isplitr [HW]
  · isplitl [HY] <;> iassumption
  · iexact HW

/-- THE LAUNCH. From per-device proof data of the one call: the machine's ghost state funded (`hu₀`), ONE global step over
    all devices' semaphores, buffers and ghost state (`hglob`), every device's body from what the step deals it, its
    levels and its credits (`hin`) to its final holdings and its semaphores at zero (`hout`), and the final holdings read
    against the final memory (`hY`): every run ends with what the reading says. -/
theorem θ_run_dealt
    (hbody : ∀ c, BodyObligation (dats 0 c) (defs₀ (F := F)) 𝒱₀ () Set.univ)
    (howed₀ : ∀ c, (dats 0 c).owed 0 = O₀ c) (howedN : ∀ c, (dats 0 c).owed (Fin.last _) = 0)
    (hL : ∀ g : GSem nD τ sig, g.1.2 ≠ .tc → L g = ∅)
    (G G' : Dev nD → sProp 𝕄) (u₀ : UU nD τ)
    (hu₀ : (ownU u₀ : sProp 𝕄) ⊢ |={Set.univ}=> bigSep Finset.univ G)
    (hglob : (bigSep Finset.univ fun c => iprop(Pipeline.ownSems0 osem c ∗ unscopedBufs c (fun b => m ((c.tc : Thread nD τ).loc b)) ∗ G c) : sProp 𝕄)
      ⊢ |={Set.univ}=> bigSep Finset.univ G')
    (hin : ∀ c, iprop(levAts L lv ∗ Pipeline.launchCred O₀ c ∗ G' c) ⊢ (dats 0 c).Φ 0)
    (Y : Dev nD → sProp 𝕄)
    (hout : ∀ c, (dats 0 c).Φ (Fin.last _) ⊢ iprop(Y c ∗ Pipeline.ownSems0 osem c))
    (QY : Dev nD → MemSt nD τ sig (Elt F) → Prop)
    (hY : ∀ c (s' : Phys nD τ sig (Elt F)), iprop(Y c ∗ SI s') ⊢ |={Set.univ}=> iprop(⌜QY c s'.mem⌝ ∗ SI s'))
    {Q : PUnit × MemSt nD τ sig (Elt F) → Prop}
    (hQ : ∀ s : MemSt nD τ sig (Elt F), (∀ c : Dev nD, QY c s) → s.sem = (fun _ => 0) → Q (⟨⟩, s)) :
    θ_run (defs (F := F)) (onTc (τ := τ) (main (F := F))) ⟨m, fun _ => 0, ρ⟩ Q := by
  classical
  let pre : Dev nD → sProp 𝕄 := fun c => iprop(kept O₀ c ∗ levAts L lv ∗ G' c)
  let fin : Dev nD → sProp 𝕄 := fun c => iprop(Y c ∗ scopedSems0 (c.tc : Thread nD τ))
  refine (θ_run (defs (F := F)) _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sem_eq_zero_of_scoped (by decide) (sems_of_reads (fun c => (hr.1 c).2) hr.2)))
    (adequate_tpu (defs (F := F)) _ _ _
    (reflect_intro_fupd_tc_sems (X := Unit) (Variants.lift 𝒱₀) (Pipeline.owing O₀) 0 (noBookings fun _ => le_rfl) (Pipeline.owing_of_ne O₀) u₀ (fun _ => pre) (fun _ => fin)
      (fun _ => iprop(emp)) Set.univ ?_ (fun _ c => ?_) fun _ => ?_))
  · -- the launch
    have hcores : (bigSep Finset.univ fun d : Dev nD =>
          coreInit (Ix := Unit) (Name := ℕ) (U := UU nD τ) (Lvl := ℕ) (Pipeline.owing O₀) 0 (⟨m, fun _ => 0, ρ⟩ : MemSt nD τ sig (Elt F)) (d.tc : Thread nD τ))
        ⊢ iprop((bigSep Finset.univ fun c : Dev nD => kept O₀ c)
          ∗ (bigSep Finset.univ fun c : Dev nD => iprop(Pipeline.ownSems0 osem c ∗ unscopedBufs c (fun b => m ((c.tc : Thread nD τ).loc b))))
          ∗ bigSep Finset.univ fun c : Dev nD => levels0 c : sProp 𝕄) := by
      rw [← bigSep_sep', ← bigSep_sep']
      exact bigSep_mono fun c _ => core_start m ρ O₀ c
    iintro ⟨Hcores, Hu⟩
    ihave Hc := hcores $$ Hcores
    icases Hc with ⟨Hcore, Hglob, Hlv⟩
    imod (levels_assign L lv hL) $$ Hlv with Hla
    imod hu₀ $$ Hu with HG
    imod hglob $$ [Hglob HG] with HG'
    · simp only [bigSep_sep']
      icases Hglob with ⟨H1, H2⟩
      isplitl [H1]; · iexact H1
      isplitl [H2] <;> iassumption
    imodintro
    iexists ()
    isplitr []
    · have hpre : iprop((bigSep Finset.univ fun c : Dev nD => kept O₀ c) ∗ (bigSep Finset.univ fun _ : Dev nD => (levAts L lv : sProp 𝕄)) ∗ bigSep Finset.univ G')
          ⊢ bigSep Finset.univ pre := by
        rw [← bigSep_sep', ← bigSep_sep']
      iapply hpre
      isplitl [Hcore]; · iexact Hcore
      isplitl [Hla]; · iapply (BI.bigSep_intro_persistent (S := Finset.univ) fun (c : Dev nD) _ => (BI.Entails.refl (levAts L lv : sProp 𝕄))); iexact Hla
      iexact HG'
    · iempintro
  · exact core_run O₀ L lv dats c (hbody c) (howed₀ c) (howedN c) G' (hin c) Y (hout c)
  · -- the final memory
    have hcore (c : Dev nD) (s' : Phys nD τ sig (Elt F)) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Launch

end Cert.WeightsIdeal.Shards

end
-- ==== Proof.WeightsBuffers.lean ====
/-
  The buffers of a device in the gather of the weights: its arrays shared among the parts it sends, its results cut into
  the chips' shards and these into slots, and what its holdings at the end say of the memory.
-/
module

public import proofs.«01_k».proof.Proof.WeightsLaunch
public import Idealize.ShloMosaic.Lib.Ring

@[expose] public section

set_option maxRecDepth 16384
set_option Elab.async false

noncomputable section

namespace Cert.WeightsIdeal.Shards

open Cert.WeightsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf OwnSemFacts)

variable {F : FTy → Type} [FloatOps F]

local notation "𝕄" => MT nD τ sig Unit (Elt F) ℕ (UU nD τ) ℕ

variable (m : (ℓ : Loc nD τ sig) → Buf (Elt F) ℓ)

/-! ## The arrays of a device -/

/-- Result `a` of device `c` at its launch contents. -/
def outPts (a : A) (c : Dev nD) : sProp 𝕄 :=
  (item a).out.view.loc (c : Thread nD τ) ↦{fullShare} m ((item a).out.view.loc (c : Thread nD τ))

omit [FloatOps F] in
/-- A separating product over the arrays, listed. -/
theorem bigSep_arrays (Φ : A → sProp 𝕄) : bigSep Finset.univ Φ = iprop(Φ (.inl 0) ∗ Φ (.inl 1) ∗ Φ (.inl 2) ∗ Φ (.inl 3) ∗ Φ (.inl 4)
    ∗ Φ (.inl 5) ∗ Φ (.inl 6) ∗ Φ (.inl 7) ∗ Φ (.inr 0) ∗ Φ (.inr 1)) :=
  bigSep_univ_eq_bigSepL arrays (by decide +kernel) arrays_nodup Φ

omit [FloatOps F] in
/-- A device's buffers are its ten arrays and its ten results. -/
theorem bufs_split (c : Dev nD) :
    (unscopedBufs c (fun b => m ((c : Thread nD τ).loc b)) : sProp 𝕄)
      ⊢ iprop((bigSep Finset.univ fun a => srcPts m fullShare a c) ∗ bigSep Finset.univ fun a => outPts m a c) := by
  rw [Pipeline.unscopedBufs_split cfgs (0 : Fin 1) winFacts0.to₀.arr_unscoped winFacts0.arr_inj c, unscopedRest0_eq]
  refine sep_elim_right.trans ?_
  rw [bigSep_arrays, bigSep_arrays]
  unfold srcPts outPts
  iintro ⟨A0, A1, A2, A3, A4, A5, A6, A7, A8, A9, R⟩
  isplitr [R]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  · iexact R

/-! ## A result in shards, a shard in slots -/

/-- How a result's extents are made of a shard's, and a shard's of a part's. -/
theorem ext_col (a : A) : byCol a = true → (item a).r = (item a).R ∧ 4 * (item a).w = (item a).W := by revert a; decide +kernel
theorem ext_row (a : A) : byCol a = false → (item a).w = (item a).W ∧ 4 * (item a).r = (item a).R := by revert a; decide +kernel
theorem ext_half (i : Fin 8) : 2 * (item (.inl i)).p = (item (.inl i)).r := by revert i; decide +kernel
theorem ext_small (u : Fin 2) : (item (.inr u)).p = (item (.inr u)).r := by revert u; decide +kernel

/-- The elements of a chip's shard within the result, -/
abbrev shardRect (a : A) (x : Fin 4) : Rect (sh2 (item a).R (item a).W) :=
  Rect.unit (s := sh2 (item a).R (item a).W) (shardOff a x) (sh2 (item a).r (item a).w).size (shard_inb a x)
/-- and of a slot. -/
abbrev slotRect (a : A) (s : Dev nD) : Rect (sh2 (item a).R (item a).W) :=
  Rect.unit (s := sh2 (item a).R (item a).W) (slotOff a s) (sh2 (item a).p (item a).w).size (slot_inb a s)

def shardSet (a : A) (x : Fin 4) : Finset (item a).out.view.ty.Idx := (shardM a x).view.set
def slotSet (a : A) (s : Dev nD) : Finset (item a).out.view.ty.Idx := (slotM a s).view.set

theorem shardSet_eq (a : A) (x : Fin 4) : shardSet a x = (shardRect a x).set.map (item a).out.view.emb := View.set_slice _ _
theorem slotSet_eq (a : A) (s : Dev nD) : slotSet a s = (slotRect a s).set.map (item a).out.view.emb := View.set_slice _ _

theorem shardRect_disjoint (a : A) (x x' : Fin 4) (h : x ≠ x') : Disjoint (shardRect a x).set (shardRect a x').set := by
  cases hb : byCol a with
  | true =>
    exact Ring.lead_disjoint (s := sh2 (item a).R (item a).W) (NB := 4) 1 (item a).w (fun x => shardOff a x) _ (shard_inb a)
      (fun b => by simp [shardOff, hb, Nat.mul_comm]) rfl x x' h
  | false =>
    exact Ring.lead_disjoint (s := sh2 (item a).R (item a).W) (NB := 4) 0 (item a).r (fun x => shardOff a x) _ (shard_inb a)
      (fun b => by simp [shardOff, hb, Nat.mul_comm]) rfl x x' h

theorem shardRect_cover (a : A) : Finset.univ.biUnion (fun x => (shardRect a x).set) = Finset.univ := by
  cases hb : byCol a with
  | true =>
    have e := ext_col a hb
    have h0 (b : Fin 4) : shardOff a b 0 = 0 := by simp [shardOff, hb]
    exact Ring.lead_cover (s := sh2 (item a).R (item a).W) (NB := 4) 1 (item a).w (fun x => shardOff a x) _ (shard_inb a)
      (fun b => by simp [shardOff, hb, Nat.mul_comm]) (fun b k hk => by fin_cases k; exacts [h0 b, absurd rfl hk]) rfl (fun k hk => by fin_cases k <;> simp_all)
      e.2
  | false =>
    have e := ext_row a hb
    have h0 (b : Fin 4) : shardOff a b 1 = 0 := by simp [shardOff, hb]
    exact Ring.lead_cover (s := sh2 (item a).R (item a).W) (NB := 4) 0 (item a).r (fun x => shardOff a x) _ (shard_inb a)
      (fun b => by simp [shardOff, hb, Nat.mul_comm]) (fun b k hk => by fin_cases k; exacts [absurd rfl hk, h0 b]) rfl (fun k hk => by fin_cases k <;> simp_all)
      e.2

/-- A shard sent in halves is the two slots of its chip's devices, -/
theorem mem_halves (i : Fin 8) (s : Dev nD) (y : (sh2 (item (.inl i)).R (item (.inl i)).W).Idx) :
    y ∈ (shardRect (.inl i) (chip s)).set ↔ y ∈ (slotRect (.inl i) s).set ∨ y ∈ (slotRect (.inl i) (peer 3 s)).set := by
  have e := ext_half i
  have h : s.val % 2 = 0 ∧ (peer 3 s).val % 2 = 1 ∨ s.val % 2 = 1 ∧ (peer 3 s).val % 2 = 0 := by revert s; decide
  rw [Rect.mem_set_unit, Rect.mem_set_unit, Rect.mem_set_unit, Fin.forall_fin_two, Fin.forall_fin_two, Fin.forall_fin_two]
  simp only [slotOff, halfRow, chip_sib, Sum.isLeft_inl, if_true, Matrix.cons_val_zero, Matrix.cons_val_one]
  generalize shardOff (.inl i) (chip s) 0 = o
  generalize shardOff (.inl i) (chip s) 1 = o'
  rcases h with ⟨h, h'⟩ | ⟨h, h'⟩ <;> rw [h, h'] <;> omega

/-- which do not meet; -/
theorem halves_disjoint (i : Fin 8) (s : Dev nD) : Disjoint (slotRect (.inl i) s).set (slotRect (.inl i) (peer 3 s)).set := by
  have h : s.val % 2 = 0 ∧ (peer 3 s).val % 2 = 1 ∨ s.val % 2 = 1 ∧ (peer 3 s).val % 2 = 0 := by revert s; decide
  rw [Finset.disjoint_left]
  intro y
  rw [Rect.mem_set_unit, Rect.mem_set_unit, Fin.forall_fin_two, Fin.forall_fin_two]
  simp only [slotOff, halfRow, chip_sib, Sum.isLeft_inl, if_true, Matrix.cons_val_zero, Matrix.cons_val_one]
  generalize shardOff (.inl i) (chip s) 0 = o
  generalize shardOff (.inl i) (chip s) 1 = o'
  rcases h with ⟨h, h'⟩ | ⟨h, h'⟩ <;> rw [h, h'] <;> omega

/-- one sent whole is one slot. -/
theorem mem_whole (u : Fin 2) (s : Dev nD) (y : (sh2 (item (.inr u)).R (item (.inr u)).W).Idx) :
    y ∈ (shardRect (.inr u) (chip s)).set ↔ y ∈ (slotRect (.inr u) s).set := by
  have e := ext_small u
  rw [Rect.mem_set_unit, Rect.mem_set_unit, Fin.forall_fin_two, Fin.forall_fin_two]
  simp only [slotOff, halfRow, Sum.isLeft_inr, Matrix.cons_val_zero, Matrix.cons_val_one]
  generalize shardOff (.inr u) (chip s) 0 = o
  generalize shardOff (.inr u) (chip s) 1 = o'
  simp only [Bool.false_eq_true, if_false]
  omega

theorem shards_disjoint (a : A) (x x' : Fin 4) (h : x ≠ x') : Disjoint (shardSet a x) (shardSet a x') := by
  rw [shardSet_eq, shardSet_eq, Finset.disjoint_map]
  exact shardRect_disjoint a x x' h

/-- Every index of a result is in some shard. -/
theorem shards_cover (a : A) : Finset.univ.biUnion (shardSet a) = Finset.univ := by
  refine Finset.eq_univ_of_forall fun y => ?_
  have hy : y ∈ (item a).out.view.set := by rw [(item a).hout.set_eq_univ]; exact Finset.mem_univ _
  obtain ⟨z, -, rfl⟩ := Finset.mem_map.1 hy
  obtain ⟨x, hx, hz⟩ := Finset.mem_biUnion.1 ((shardRect_cover a).symm ▸ Finset.mem_univ z : z ∈ Finset.univ.biUnion (fun x => (shardRect a x).set))
  refine Finset.mem_biUnion.2 ⟨x, hx, ?_⟩
  rw [shardSet_eq]
  exact Finset.mem_map_of_mem _ hz

omit [FloatOps F] in
/-- A result held whole is its four shards' places, each at anything. -/
theorem out_shards (a : A) (c : Dev nD) : outPts m a c ⊢ (bigSep Finset.univ fun x => viewAny (F := F) (shardM a x) c) := by
  have e : outPts m a c = (bigSep Finset.univ fun x => (item a).out.view.loc (c : Thread nD τ) ↦[shardSet a x]{fullShare} m ((item a).out.view.loc (c : Thread nD τ)) : sProp 𝕄) := by
    rw [← pointsTo_biUnion (ℓ := (item a).out.view.loc (c : Thread nD τ)) Finset.univ (shardSet a) (fun x _ x' _ h => shards_disjoint a x x' h)]
    unfold outPts
    exact congrArg (fun S => ((item a).out.view.loc (c : Thread nD τ) ↦[S]{fullShare} m ((item a).out.view.loc (c : Thread nD τ)) : sProp 𝕄)) (shards_cover a).symm
  rw [e]
  refine bigSep_mono fun x _ => ?_
  show ((shardM a x).view.loc (c : Thread nD τ) ↦[(shardM a x).view.set]{fullShare} m ((shardM a x).view.loc (c : Thread nD τ)) : sProp 𝕄) ⊢ viewAny (shardM a x) c
  unfold viewAny
  iintro H
  iexists _
  iexact H

omit [FloatOps F] in
/-- A product over the chips: device `c`'s own, and its three peers'. -/
theorem bigSep_chips (c : Dev nD) (Φ : Fin 4 → sProp 𝕄) :
    bigSep Finset.univ Φ = iprop(Φ (chip c) ∗ bigSep Finset.univ fun j : Fin 3 => Φ (chip (peer j.castSucc c))) := by
  rw [bigSep_univ_eq_bigSepL [chip c, chip (peer 0 c), chip (peer 1 c), chip (peer 2 c)] (by revert c; decide) (by revert c; decide) Φ,
    bigSep_univ_eq_bigSepL [(0 : Fin 3), 1, 2] (by decide) (by decide)]
  rfl

omit [FloatOps F] in
/-- A shard's place held is its two slots, each at anything, -/
theorem shard_halves (i : Fin 8) (s c : Dev nD) :
    (viewAny (shardM (.inl i) (chip s)) c : sProp 𝕄) ⊢ iprop(slotAny (.inl i) s c ∗ slotAny (.inl i) (peer 3 s) c) := by
  have hu : slotSet (.inl i) s ∪ slotSet (.inl i) (peer 3 s) = shardSet (.inl i) (chip s) := by
    rw [slotSet_eq, slotSet_eq, shardSet_eq, ← Finset.map_union]
    refine congrArg _ (Finset.ext fun y => ?_)
    rw [Finset.mem_union, mem_halves]
  have hd : Disjoint (slotSet (.inl i) s) (slotSet (.inl i) (peer 3 s)) := by
    rw [slotSet_eq, slotSet_eq, Finset.disjoint_map]; exact halves_disjoint i s
  have hr : shardSet (.inl i) (chip s) \ slotSet (.inl i) s = slotSet (.inl i) (peer 3 s) := by
    rw [← hu, Finset.union_sdiff_cancel_left hd]
  have hp (f : Buf (Elt F) ((item (.inl i)).out.view.loc (c : Thread nD τ))) :
      ((shardM (.inl i) (chip s)).view.loc (c : Thread nD τ) ↦[(shardM (.inl i) (chip s)).view.set]{fullShare} f : sProp 𝕄)
        ⊢ iprop(((slotM (.inl i) s).view.loc (c : Thread nD τ) ↦[(slotM (.inl i) s).view.set]{fullShare} f)
          ∗ ((slotM (.inl i) (peer 3 s)).view.loc (c : Thread nD τ) ↦[(slotM (.inl i) (peer 3 s)).view.set]{fullShare} f)) := by
    have hsub : slotSet (.inl i) s ⊆ shardSet (.inl i) (chip s) := hu ▸ Finset.subset_union_left
    have h : ((item (.inl i)).out.view.loc (c : Thread nD τ) ↦[shardSet (.inl i) (chip s)]{fullShare} f : sProp 𝕄)
        ⊢ iprop(((item (.inl i)).out.view.loc (c : Thread nD τ) ↦[slotSet (.inl i) s]{fullShare} f)
          ∗ ((item (.inl i)).out.view.loc (c : Thread nD τ) ↦[shardSet (.inl i) (chip s) \ slotSet (.inl i) s]{fullShare} f)) :=
      (pointsTo_split_subset hsub).1
    rw [hr] at h
    exact h
  unfold slotAny viewAny
  iintro ⟨%f, H⟩
  ihave H := (hp f) $$ H
  icases H with ⟨H1, H2⟩
  isplitl [H1]
  · iexists f; iexact H1
  · iexists f; iexact H2

omit [FloatOps F] in
/-- or the one. -/
theorem shard_whole (u : Fin 2) (s c : Dev nD) : (viewAny (shardM (.inr u) (chip s)) c : sProp 𝕄) ⊢ slotAny (.inr u) s c := by
  have e : shardSet (.inr u) (chip s) = slotSet (.inr u) s := by
    rw [slotSet_eq, shardSet_eq]
    exact congrArg _ (Finset.ext fun y => mem_whole u s y)
  have hp (f : Buf (Elt F) ((item (.inr u)).out.view.loc (c : Thread nD τ))) :
      ((shardM (.inr u) (chip s)).view.loc (c : Thread nD τ) ↦[(shardM (.inr u) (chip s)).view.set]{fullShare} f : sProp 𝕄)
        ⊢ ((slotM (.inr u) s).view.loc (c : Thread nD τ) ↦[(slotM (.inr u) s).view.set]{fullShare} f) :=
    Entails.of_eq (congrArg (fun S => ((item (.inr u)).out.view.loc (c : Thread nD τ) ↦[S]{fullShare} f : sProp 𝕄)) e)
  unfold slotAny viewAny
  iintro ⟨%f, H⟩
  iexists f
  iapply (hp f) $$ H

omit [FloatOps F] in
/-- A device's results are the slots it receives with each transfer, and its own shards' places. -/
theorem outs_slots (c : Dev nD) : (bigSep Finset.univ fun a => outPts m a c)
    ⊢ iprop((bigSep Finset.univ fun t : T => slotAny (F := F) t.arr (rslot t c) c) ∗ bigSep Finset.univ fun a => viewAny (F := F) (shardM a (chip c)) c) := by
  have hx : (bigSep Finset.univ fun a => outPts m a c) ⊢ iprop((bigSep Finset.univ fun a => viewAny (F := F) (shardM a (chip c)) c)
      ∗ bigSep Finset.univ fun a : A => bigSep Finset.univ fun j : Fin 3 => viewAny (F := F) (shardM a (chip (peer j.castSucc c))) c) := by
    rw [← bigSep_sep']
    exact bigSep_mono fun a _ => (out_shards m a c).trans (Entails.of_eq (bigSep_chips c _))
  have hh : (bigSep Finset.univ fun x : Fin 8 × Fin 3 => viewAny (F := F) (shardM (.inl x.1) (chip (peer x.2.castSucc c))) c : sProp 𝕄)
      ⊢ iprop((bigSep Finset.univ fun x : Fin 8 × Fin 3 => slotAny (F := F) (.inl x.1) (peer x.2.castSucc c) c)
        ∗ bigSep Finset.univ fun x : Fin 8 × Fin 3 => slotAny (F := F) (.inl x.1) (peer x.2.castSucc (peer 3 c)) c) := by
    rw [← bigSep_sep']
    refine bigSep_mono fun x _ => ?_
    rw [peer_comm x.2.castSucc 3 c]
    exact shard_halves x.1 _ c
  have hw : (bigSep Finset.univ fun x : Fin 2 × Fin 3 => viewAny (F := F) (shardM (.inr x.1) (chip (peer x.2.castSucc c))) c : sProp 𝕄)
      ⊢ bigSep Finset.univ fun x : Fin 2 × Fin 3 => slotAny (F := F) (.inr x.1) (peer x.2.castSucc c) c :=
    bigSep_mono fun x _ => shard_whole x.1 _ c
  refine hx.trans ?_
  rw [bigSep_T, ← bigSep_univ_prod (fun x : A × Fin 3 => viewAny (F := F) (shardM x.1 (chip (peer x.2.castSucc c))) c), bigSep_push]
  iintro ⟨Ho, Hl, Hr⟩
  ihave Hl := hh $$ Hl
  icases Hl with ⟨H1, H2⟩
  ihave Hr := hw $$ Hr
  isplitr [Ho]
  · isplitr [H2]
    · isplitl [H1]; · iexact H1
      iexact Hr
    · iexact H2
  · iexact Ho

/-! ## An array in shares -/

omit [FloatOps F] in
/-- A share of an array holds the part of it that is sent. -/
theorem src_half (q : PosShare TreeShare) (a : A) (c : Dev nD) : srcPts m q a c ⊢ half m a c := by
  have e : ((halfM a c).view.loc (c : Thread nD τ) ↦{q} m ((halfM a c).view.loc (c : Thread nD τ)) : sProp 𝕄) = srcPts m q a c := by
    unfold srcPts
    match a with
    | .inl i => rfl
    | .inr 0 => rfl
    | .inr 1 => rfl
  rw [← e]
  unfold half
  refine ((pointsTo_split_subset (Finset.subset_univ (halfM a c).view.set)).1).trans ?_
  iintro ⟨H, -⟩
  iexists q
  iexact H

omit [FloatOps F] in
theorem src_share (q : PosShare TreeShare) (a : A) (c : Dev nD) : srcPts m q a c ⊢ iprop(srcPts m q.left a c ∗ srcPts m q.right a c) :=
  (pointsTo_share (PosShare.mem_left_op_right q)).1

omit [FloatOps F] in
/-- An array held whole: half of it kept to be read at the end, the other half shared among the three sends and the copy. -/
theorem src_parts (a : A) (c : Dev nD) :
    srcPts m fullShare a c ⊢ iprop(srcPts m fullShare.left a c ∗ (bigSep Finset.univ fun _ : Fin 3 => half m a c) ∗ ∃ q, srcPts m q a c) := by
  rw [bigSep_univ_eq_bigSepL [(0 : Fin 3), 1, 2] (by decide) (by decide)]
  refine (show _ ⊢ iprop(srcPts m fullShare.left a c ∗ (half m a c ∗ half m a c ∗ half m a c) ∗ ∃ q, srcPts m q a c) from ?_)
  iintro H
  ihave H := (src_share m fullShare a c) $$ H
  icases H with ⟨H0, H⟩
  ihave H := (src_share m _ a c) $$ H
  icases H with ⟨H1, H⟩
  ihave H := (src_share m _ a c) $$ H
  icases H with ⟨H2, H⟩
  ihave H := (src_share m _ a c) $$ H
  icases H with ⟨H3, H4⟩
  isplitl [H0]; · iexact H0
  isplitr [H4]
  · isplitl [H1]; · (iapply (src_half m _ a c) $$ H1)
    isplitl [H2]; · (iapply (src_half m _ a c) $$ H2)
    iapply (src_half m _ a c) $$ H3
  · iexists _; iexact H4

/-- What a device sends and copies from: parts of its arrays for the sends, its arrays for the copies. -/
def sources (c : Dev nD) : sProp 𝕄 :=
  iprop((bigSep Finset.univ fun x : A × Fin 3 => half m x.1 c) ∗ bigSep Finset.univ fun a => iprop(∃ q, srcPts m q a c))

omit [FloatOps F] in
/-- All arrays shared out. -/
theorem srcs_parts (c : Dev nD) : (bigSep Finset.univ fun a => srcPts m fullShare a c)
    ⊢ iprop((bigSep Finset.univ fun a => srcPts m fullShare.left a c) ∗ sources m c) := by
  unfold sources
  rw [bigSep_univ_prod (fun x : A × Fin 3 => half m x.1 c), ← bigSep_sep', ← bigSep_sep']
  exact bigSep_mono fun a _ => src_parts m a c

/-! ## Reading at the end -/

omit [FloatOps F] in
/-- A view held reading `y` reads `y` in memory. -/
theorem view_read {s : Shape} {e : EltTy} (v : Memref sig .tc .hbm s e) (y : s.Idx → Elt F e) (c : Dev nD) (s' : Phys nD τ sig (Elt F)) :
    iprop(viewHas fullShare.left v y c ∗ SI s') ⊢ iprop(⌜v.view.read (Elt F) (s'.mem.mem (v.view.loc (c : Thread nD τ))) = y⌝ ∗ SI s') := by
  unfold viewHas
  iintro ⟨⟨%f, %hf, H⟩, HSI⟩
  icombine HSI H gives %h
  isplitr
  · ipureintro
    rw [← hf]
    exact View.read_congr h
  · iexact HSI

omit [FloatOps F] in
/-- A family of views, read at once. -/
theorem views_read {I : Type} [DecidableEq I] {s : I → Shape} {e : I → EltTy} (v : ∀ i, Memref sig .tc .hbm (s i) (e i))
    (y : ∀ i, (s i).Idx → Elt F (e i)) (c : Dev nD) (s' : Phys nD τ sig (Elt F)) (S : Finset I) :
    iprop((bigSep S fun i => viewHas fullShare.left (v i) (y i) c) ∗ SI s')
      ⊢ iprop(⌜∀ i ∈ S, (v i).view.read (Elt F) (s'.mem.mem ((v i).view.loc (c : Thread nD τ))) = y i⌝ ∗ SI s') := by
  induction S using Finset.induction_on with
  | empty =>
    iintro ⟨-, HSI⟩
    isplitr; · ipureintro; simp
    iexact HSI
  | insert i S hi ih =>
    rw [bigSep_insert hi]
    refine (show iprop((viewHas fullShare.left (v i) (y i) c ∗ bigSep S fun i => viewHas fullShare.left (v i) (y i) c) ∗ SI s') ⊢ _ from ?_)
    iintro ⟨⟨Hi, HS⟩, HSI⟩
    ihave H := (view_read (v i) (y i) c s') $$ [Hi HSI]
    · isplitl [Hi] <;> iassumption
    icases H with ⟨%hi', HSI⟩
    ihave H := ih $$ [HS HSI]
    · isplitl [HS] <;> iassumption
    icases H with ⟨%hS, HSI⟩
    isplitr
    · ipureintro
      intro j hj
      rcases Finset.mem_insert.mp hj with rfl | hj
      exacts [hi', hS j hj]
    · iexact HSI

/-- What device `c`'s part of a memory is at the end: every slot received at its part, its own shards in place, the arrays as
    they were. -/
def QY (c : Dev nD) (s : MemSt nD τ sig (Elt F)) : Prop :=
  (∀ t : T, (slotM t.arr (rslot t c)).view.read (Elt F) (s.mem ((slotM t.arr (rslot t c)).view.loc (c : Thread nD τ))) = val m t.arr (rslot t c))
    ∧ (∀ a, (shardM a (chip c)).view.read (Elt F) (s.mem ((shardM a (chip c)).view.loc (c : Thread nD τ))) = shard m a c)
    ∧ ∀ a, s.mem ((item a).src.view.loc (c : Thread nD τ)) = m ((item a).src.view.loc (c : Thread nD τ))

/-- What device `c` ends with. -/
def YY (c : Dev nD) : sProp 𝕄 :=
  iprop((bigSep Finset.univ fun a => srcPts m fullShare.left a c) ∗ (bigSep Finset.univ fun t : T => slotHas m fullShare.left t.arr (rslot t c) c)
    ∗ bigSep Finset.univ fun a => ownHas m fullShare.left a c)

omit [FloatOps F] in
/-- It says that of the memory. -/
theorem YY_read (c : Dev nD) (s' : Phys nD τ sig (Elt F)) : iprop(YY m c ∗ SI s') ⊢ |={Set.univ}=> iprop(⌜QY m c s'.mem⌝ ∗ SI s') := by
  unfold YY
  iintro ⟨⟨Ha, Hs, Ho⟩, HSI⟩
  ihave H := (views_read (fun t : T => slotM t.arr (rslot t c)) (fun t => val m t.arr (rslot t c)) c s' Finset.univ) $$ [Hs HSI]
  · isplitl [Hs] <;> iassumption
  icases H with ⟨%hs, HSI⟩
  ihave H := (views_read (fun a : A => shardM a (chip c)) (fun a => shard m a c) c s' Finset.univ) $$ [Ho HSI]
  · isplitl [Ho] <;> iassumption
  icases H with ⟨%ho, HSI⟩
  ihave H := (pointsTo_read_all Finset.univ (fun a : A => (item a).src.view.loc (c : Thread nD τ)) (fun a => m ((item a).src.view.loc (c : Thread nD τ))) s' fullShare.left) $$ [Ha HSI]
  · isplitl [Ha]; · unfold srcPts; iexact Ha
    iexact HSI
  icases H with ⟨%ha, HSI⟩
  imodintro
  isplitr
  · ipureintro
    exact ⟨fun t => hs t (Finset.mem_univ _), fun a => ho a (Finset.mem_univ _), fun a => ha a (Finset.mem_univ _)⟩
  · iexact HSI

end Cert.WeightsIdeal.Shards

end
-- ==== Proof.WeightsDeal.lean ====
/-
  The dealing at launch of the gather of the weights: the cells allocated on every device, then tokens and slots handed to
  the devices that use them, the parts a device sends shared out of its arrays; and the credits a device waits for its
  arrivals with.
-/
module

public import proofs.«01_k».proof.Proof.WeightsBuffers

@[expose] public section

set_option maxRecDepth 16384
set_option Elab.async false

noncomputable section

namespace Cert.WeightsIdeal.Shards

open Cert.WeightsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf OwnSemFacts)

variable {F : FTy → Type} [FloatOps F]

local notation "𝕄" => MT nD τ sig Unit (Elt F) ℕ (UU nD τ) ℕ

variable (m : (ℓ : Loc nD τ sig) → Buf (Elt F) ℓ)

/-! ## Around the mesh

What a device holds of a transfer to it goes to the device the transfer comes from: peers are mutual. -/

/-- A device and its peer. -/
def peerE (k : Fin 4) : Dev nD ≃ Dev nD := ⟨peer k, peer k, peer_peer k, peer_peer k⟩

omit [FloatOps F] in
/-- A resource of every device and transfer, handed to the transfer's peer. -/
theorem around (Φ : T → Dev nD → sProp 𝕄) :
    (bigSep Finset.univ fun c : Dev nD => bigSep Finset.univ fun t : T => Φ t c)
      = bigSep Finset.univ fun c : Dev nD => bigSep Finset.univ fun t : T => Φ t (peer t.to c) := by
  rw [BI.bigSep_univ_comm (fun (c : Dev nD) (t : T) => Φ t c), BI.bigSep_univ_comm (fun (c : Dev nD) (t : T) => Φ t (peer t.to c))]
  exact bigSep_congr fun t _ => bigSep_univ_equiv (peerE t.to) (Φ t)

/-! ## The duty tokens -/

/-- The duties on a device's cells: one on each, of round 0. -/
def duties (_ : Dev nD) : Finset (Kind × ℕ × Unit) :=
  Finset.univ.map ⟨fun κ : Kind => (κ, 0, ()), fun _ _ h => (Prod.mk.inj h).1⟩

/-- The tokens of the duties on a device's own cells, -/
def toks (c : Dev nD) : sProp 𝕄 := bigSep Finset.univ fun κ : Kind => tok c κ
/-- and of the duties it pays. -/
def pays (c : Dev nD) : sProp 𝕄 :=
  iprop((bigSep Finset.univ fun t : T => tok c (.snd t)) ∗ (bigSep Finset.univ fun t : T => dutyTok ER (dcell c t) 0 ())
    ∗ bigSep Finset.univ fun a : A => tok c (.lcl a))

omit [FloatOps F] in
theorem toks_eq (c : Dev nD) :
    (bigSep (duties c) fun x => (dutyTok ER (((c : Dev nD) : Thread nD τ), osem x.1) x.2.1 x.2.2 : sProp 𝕄)) = toks c := by
  unfold duties toks; rw [bigSep_map]; rfl

omit [FloatOps F] in
/-- Every device gets the tokens of the duties it pays. -/
theorem toks_around : (bigSep Finset.univ fun c : Dev nD => (toks c : sProp 𝕄)) = bigSep Finset.univ fun c : Dev nD => pays c := by
  unfold toks pays
  simp only [bigSep_kind, bigSep_sep']
  rw [around (F := F) (fun t c => tok c (.rcv t))]

/-! ## The slots -/

/-- The places a device writes: slots of its peers, and its own shards'. -/
def writes (c : Dev nD) : sProp 𝕄 :=
  iprop((bigSep Finset.univ fun t : T => slotAny t.arr (sslot t c) (peer t.to c)) ∗ bigSep Finset.univ fun a : A => viewAny (shardM a (chip c)) c)

/-- The places of its results: the slots it receives with each transfer, and its own shards'. -/
def places (c : Dev nD) : sProp 𝕄 :=
  iprop((bigSep Finset.univ fun t : T => slotAny t.arr (rslot t c) c) ∗ bigSep Finset.univ fun a : A => viewAny (shardM a (chip c)) c)

omit [FloatOps F] in
/-- Every device gets the places it writes. -/
theorem slots_around : (bigSep Finset.univ fun c : Dev nD => (places c : sProp 𝕄)) = bigSep Finset.univ fun c : Dev nD => writes c := by
  unfold places writes
  rw [bigSep_sep', bigSep_sep', around (F := F) (fun t c => slotAny t.arr (rslot t c) c)]
  simp only [rslot_peer]

/-! ## The global step -/

/-- What the launch gives device `c` of the ghost state: its cells' round states, positions and marks, and their tokens. -/
def G (c : Dev nD) : sProp 𝕄 := iprop(Pipeline.ownGhost cfgs (0 : Fin 1) ownSemFacts ER (Rd m) c ∗ toks c)

/-- What a device is dealt, linear: its arrays' kept halves, its positions, the tokens it pays with, what it sends and
    copies from, the places it writes. -/
def mine (c : Dev nD) : sProp 𝕄 :=
  iprop((bigSep Finset.univ fun a => srcPts m fullShare.left a c)
    ∗ (bigSep Finset.univ fun κ : Kind => at0 c κ)
    ∗ pays c
    ∗ sources m c
    ∗ writes c)

/-- What a device is dealt: the records, at some names, and that. -/
def G' (c : Dev nD) : sProp 𝕄 := iprop(∃ K, records m K ∗ mine m c)

/-- One device's cells allocated. -/
def dealt (c : Dev nD) : sProp 𝕄 :=
  iprop((bigSep Finset.univ fun κ : Kind => iprop(∃ k : ℕ, cellInv ER (Rd m) k (cell c κ)))
    ∗ (bigSep Finset.univ fun κ : Kind => atPos ER (cell c κ) 0 ∅ 0)
    ∗ (bigSep Finset.univ fun κ : Kind => reached ER (cell c κ) 0)
    ∗ toks c
    ∗ (bigSep Finset.univ fun a => srcPts m fullShare.left a c)
    ∗ sources m c
    ∗ places c)

omit [FloatOps F] in
/-- On one device: its cells' invariants from their counters at zero and round states; its arrays halved and shared out;
    its results cut into places. -/
theorem core_alloc (c : Dev nD) :
    iprop(Pipeline.ownSems0 osem c ∗ unscopedBufs c (fun b => m ((c.tc : Thread nD τ).loc b)) ∗ G m c) ⊢ |={Set.univ}=> dealt m c := by
  have hat : (bigSep Finset.univ fun κ : Kind => iprop(atPos ER (Pipeline.ownCellOn cfgs (0 : Fin 1) ownSemFacts c κ) 0 ∅ 0
        ∗ reached ER (Pipeline.ownCellOn cfgs (0 : Fin 1) ownSemFacts c κ) 0) : sProp 𝕄)
      ⊢ iprop((bigSep Finset.univ fun κ : Kind => atPos ER (cell c κ) 0 ∅ 0) ∗ bigSep Finset.univ fun κ : Kind => reached ER (cell c κ) 0) :=
    Entails.of_eq (bigSep_sep' _ _ _)
  unfold G dealt
  rw [Pipeline.ownGhost_eq]
  iintro ⟨Hos, Hub, ⟨Hst, Hat⟩, Htok⟩
  imod (Pipeline.ownCells_alloc cfgs (0 : Fin 1) ownSemFacts ER (Rd m) c) $$ [Hos Hst] with Hinv
  · isplitl [Hos] <;> iassumption
  ihave Hb := (bufs_split m c) $$ Hub
  icases Hb with ⟨Hs, Ho⟩
  ihave Hs := (srcs_parts m c) $$ Hs
  icases Hs with ⟨Hl, Hp⟩
  ihave Ho := (outs_slots m c) $$ Ho
  ihave Hat := hat $$ Hat
  icases Hat with ⟨Hat, Hr⟩
  imodintro
  isplitl [Hinv]; · iexact Hinv
  isplitl [Hat]; · iexact Hat
  isplitl [Hr]; · iexact Hr
  isplitl [Htok]; · iexact Htok
  isplitl [Hl]; · iexact Hl
  isplitl [Hp]; · iexact Hp
  unfold places
  iexact Ho

omit [FloatOps F] in
/-- A persistent assertion beside a separating product serves every factor. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- What all devices hold once their cells are allocated, by kind of resource. -/
theorem dealt_split : (bigSep Finset.univ fun c : Dev nD => dealt m c)
    ⊢ iprop((bigSep Finset.univ fun y : Dev nD × Kind => iprop(∃ κ : ℕ, cellInv ER (Rd m) κ (cell y.1 y.2)))
      ∗ (bigSep Finset.univ fun c : Dev nD => bigSep Finset.univ fun κ : Kind => at0 c κ)
      ∗ (bigSep Finset.univ fun y : Dev nD × Kind => reached ER (cell y.1 y.2) 0)
      ∗ (bigSep Finset.univ fun c : Dev nD => toks c)
      ∗ (bigSep Finset.univ fun c : Dev nD => bigSep Finset.univ fun a => srcPts m fullShare.left a c)
      ∗ (bigSep Finset.univ fun c : Dev nD => sources m c)
      ∗ bigSep Finset.univ fun c : Dev nD => places c) := by
  unfold dealt
  rw [bigSep_sep', bigSep_sep', bigSep_sep', bigSep_sep', bigSep_sep', bigSep_sep',
    ← bigSep_univ_prod (fun y : Dev nD × Kind => iprop(∃ κ : ℕ, cellInv ER (Rd m) κ (cell y.1 y.2))),
    ← bigSep_univ_prod (fun y : Dev nD × Kind => (reached ER (cell y.1 y.2) 0 : sProp 𝕄))]

omit [FloatOps F] in
/-- All of it dealt: one map of names for the mesh, the records copied to every device, tokens and places to the devices that
    use them. -/
theorem regroup : (bigSep Finset.univ fun c : Dev nD => dealt m c) ⊢ bigSep Finset.univ (G' m) := by
  have hmine : iprop((bigSep Finset.univ fun c : Dev nD => bigSep Finset.univ fun a => srcPts m fullShare.left a c)
      ∗ (bigSep Finset.univ fun c : Dev nD => bigSep Finset.univ fun κ : Kind => at0 c κ)
      ∗ (bigSep Finset.univ fun c : Dev nD => pays c)
      ∗ (bigSep Finset.univ fun c : Dev nD => sources m c)
      ∗ bigSep Finset.univ fun c : Dev nD => writes c) ⊢ bigSep Finset.univ (mine m) := by
    rw [show mine m = fun c => mine m c from rfl]
    unfold mine
    rw [bigSep_sep', bigSep_sep', bigSep_sep', bigSep_sep']
  have hG (K : Dev nD × Kind → ℕ) (c : Dev nD) : iprop(records m K ∗ mine m c) ⊢ G' m c := by
    unfold G'; iintro H; iexists K; iexact H
  have hrec (K : Dev nD × Kind → ℕ) : iprop(records m K ∗ bigSep Finset.univ (mine m)) ⊢ bigSep Finset.univ (G' m) :=
    bigSep_with_persistent fun c _ => hG K c
  iintro H
  ihave H := (dealt_split m) $$ H
  icases H with ⟨HI, Hat, #HR, Htok, Hl, Hp, Ho⟩
  ihave HK := (BI.bigSep_exists_pi Finset.univ (fun (y : Dev nD × Kind) (κ : ℕ) => (cellInv ER (Rd m) κ (cell y.1 y.2) : sProp 𝕄))) $$ HI
  icases HK with ⟨%K, #HI⟩
  ihave Htk := (Entails.of_eq (toks_around (F := F))) $$ Htok
  ihave Hw := (Entails.of_eq (slots_around (F := F))) $$ Ho
  iapply (hrec K)
  isplitr
  · unfold records; isplitr; · iexact HI
    iexact HR
  · iapply hmine
    isplitl [Hl]; · iexact Hl
    isplitl [Hat]; · iexact Hat
    isplitl [Htk]; · iexact Htk
    isplitl [Hp]; · iexact Hp
    iexact Hw

omit [FloatOps F] in
/-- The global step. -/
theorem glob : (bigSep Finset.univ fun c => iprop(Pipeline.ownSems0 osem c ∗ unscopedBufs c (fun b => m ((c.tc : Thread nD τ).loc b)) ∗ G m c) : sProp 𝕄)
    ⊢ |={Set.univ}=> bigSep Finset.univ (G' m) :=
  ((bigSep_mono fun c _ => core_alloc m c).trans (bigSep_fupd _ _)).trans (BI.fupd_mono (regroup m))

/-! ## The launch element -/

/-- The launch element of the ghost state: nothing for the pipeline, the kernel's cells and their tokens. -/
def u₀ : UU nD τ :=
  (1, initOf (Pipeline.ownCells cfgs (0 : Fin 1) ownSemFacts) (Pipeline.ownToksOf cfgs (0 : Fin 1) ownSemFacts duties))

omit [FloatOps F] in
theorem ownU_split (a b : URn nD τ) : (ownU (a, b) : sProp 𝕄) ⊢ iprop(BI.own (EP a) ∗ BI.own (ER b)) :=
  BI.own_op_elim ((uEmb (nD := nD) (sig := sig) (Ix := Unit) (Val := Elt F) (Name := ℕ) (U := UU nD τ) (Lvl := ℕ)).toEmb.op_of_mem
    (Prod.mk_mem_op (URA.mem_op_one a) (URA.mem_one_op b)))

omit [FloatOps F] in
/-- It is every device's ghost state. -/
theorem fund : (ownU u₀ : sProp 𝕄) ⊢ |={Set.univ}=> bigSep Finset.univ (G m) := by
  have hG : iprop((bigSep Finset.univ fun c : Dev nD => Pipeline.ownGhost cfgs (0 : Fin 1) ownSemFacts ER (Rd m) c)
      ∗ bigSep Finset.univ fun c : Dev nD => bigSep (duties c) fun x => (dutyTok ER (((c : Dev nD) : Thread nD τ), osem x.1) x.2.1 x.2.2 : sProp 𝕄))
      ⊢ bigSep Finset.univ (G m) := by
    rw [bigSep_congr (s := Finset.univ) fun (c : Dev nD) _ => toks_eq (F := F) c, ← bigSep_sep']
    exact BI.Entails.refl _
  unfold u₀
  iintro Hu
  ihave H := (ownU_split _ _) $$ Hu
  icases H with ⟨-, HX⟩
  imod (Pipeline.fund_own cfgs (0 : Fin 1) ownSemFacts ER (Rd m) (Pipeline.ownToksOf cfgs (0 : Fin 1) ownSemFacts duties)) $$ HX with ⟨Hx, Htok⟩
  ihave Htk := (Entails.of_eq (Pipeline.bigSep_ownToksOf cfgs (0 : Fin 1) ownSemFacts ER duties)) $$ Htok
  imodintro
  iapply hG
  isplitl [Hx] <;> iassumption

/-! ## The credits -/

/-- A device's due to a cell it receives a transfer at is one of its own transfers'. -/
theorem dcell_eq (d c : Dev nD) (t t' : T) : cell c (.rcv t) = dcell d t' ↔ t = t' ∧ d = peer t.to c := by
  constructor
  · intro he
    have h3 : t = t' := Sum.inl.inj (Sum.inr.inj (sem_inj (SemLoc.dma.inj (Prod.mk.inj he).2)))
    have h4 : c = peer t'.to d := (Prod.mk.inj (Prod.mk.inj he).1).1
    exact ⟨h3, by rw [h4, h3, peer_peer]⟩
  · rintro ⟨rfl, rfl⟩
    show cell c (.rcv t) = cell (peer t.to (peer t.to c)) (.rcv t)
    rw [peer_peer]

/-- Of transfers that are not to come it owes nothing; -/
theorem owed_other (d c : Dev nD) (t : T) (l : List T) (h : t ∉ l) : owed d l (cell c (.rcv t)) () = 0 := by
  induction l with
  | nil => rfl
  | cons x l ih =>
    have hx : ¬ t = x ∧ t ∉ l := ⟨fun e => h (e ▸ List.mem_cons_self), fun e => h (List.mem_cons_of_mem _ e)⟩
    unfold owed
    rw [Pi.add_apply, Finsupp.add_apply, tallyAt_apply, ih hx.2, if_neg (fun e : cell c (.rcv t) = dcell d x ∧ () = () => hx.1 ((dcell_eq d c t x).mp e.1).1)]

/-- of one that is, its credit, if device `d` sends it. -/
theorem owed_rcv (d c : Dev nD) (t : T) (l : List T) (hl : l.Nodup) (h : t ∈ l) :
    owed d l (cell c (.rcv t)) () = if d = peer t.to c then N (.rcv t) else 0 := by
  induction l with
  | nil => exact absurd h List.not_mem_nil
  | cons x l ih =>
    have hx := List.nodup_cons.mp hl
    unfold owed
    rw [Pi.add_apply, Finsupp.add_apply, tallyAt_apply]
    rcases List.mem_cons.mp h with e | hm
    · subst e
      rw [owed_other d c t l hx.1, Nat.zero_add]
      exact if_congr ⟨fun e => ((dcell_eq d c t _).mp e.1).2, fun e => ⟨(dcell_eq d c t _).mpr ⟨rfl, e⟩, rfl⟩⟩ rfl rfl
    · rw [ih hx.2 hm, if_neg (fun e : cell c (.rcv t) = dcell d x ∧ () = () => hx.1 (((dcell_eq d c t x).mp e.1).1 ▸ hm)), Nat.add_zero]

theorem all_nodup : (pushesOf pushL ++ relaysOf halfL).Nodup := by decide +kernel
theorem all_mem (t : T) : t ∈ pushesOf pushL ++ relaysOf halfL := by
  rcases t with x | x
  · exact List.mem_append_left _ (List.mem_map.mpr ⟨x, pushL_mem x, rfl⟩)
  · exact List.mem_append_right _ (List.mem_map.mpr ⟨x, halfL_mem x, rfl⟩)

omit [FloatOps F] in
/-- A cell a device receives at is owed its transfer's credit. -/
theorem launch_rcv (c : Dev nD) (t : T) :
    tallyOn (cell c (.rcv t)) (launchCredit (Pipeline.owing O₀) 0 (cell c (.rcv t)))
      = (tallyAt (cell c (.rcv t)) () (N (.rcv t)) : CellTallies nD τ sig Unit) := by
  unfold tallyAt; refine congrArg _ (Finsupp.ext fun u => ?_); cases u
  rw [Pipeline.launchCredit_owing, Finsupp.single_eq_same,
    Finset.sum_congr rfl fun d _ => owed_rcv d c t _ all_nodup (all_mem t),
    Finset.sum_ite_eq' Finset.univ (peer t.to c) fun _ => N (.rcv t), if_pos (Finset.mem_univ _)]

omit [FloatOps F] in
/-- So a device's launch credit holds the credits it waits for its arrivals with. -/
theorem creds (c : Dev nD) : (Pipeline.launchCred O₀ c : sProp 𝕄) ⊢ bigSep Finset.univ fun t : T => kcred c (.rcv t) := by
  have hinj : Function.Injective fun t : T => osem (.rcv t) := fun y z h => Sum.inl.inj (Sum.inr.inj (osem_inj h))
  have e : (bigSep Finset.univ fun t : T => (kcred c (.rcv t) : sProp 𝕄))
      = bigSep (Finset.univ.map ⟨_, hinj⟩) fun sm : SemLoc sig =>
          cred (tallyOn ((c.tc : Thread nD τ), sm) (launchCredit (Pipeline.owing O₀) 0 ((c.tc : Thread nD τ), sm))) := by
    rw [bigSep_map]
    exact bigSep_congr fun t _ => congrArg cred (launch_rcv c t).symm
  rw [e]
  unfold Pipeline.launchCred
  exact BI.bigSep_subset (Finset.subset_univ _)

end Cert.WeightsIdeal.Shards

end
-- ==== Proof.WeightsRun.lean ====
/-
  The run of the gather of the weights: the call's proof data, its body obligation, and the launch theorem applied. What it
  says of the final memory holds over any carrier of the elements.
-/
module

public import proofs.«01_k».proof.Proof.WeightsDeal

@[expose] public section

set_option maxRecDepth 16384
set_option Elab.async false

noncomputable section

namespace Cert.WeightsIdeal.Shards

open Cert.WeightsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf OwnSemFacts)

variable {F : FTy → Type} [FloatOps F]

local notation "𝕄" => MT nD τ sig Unit (Elt F) ℕ (UU nD τ) ℕ

variable (m : (ℓ : Loc nD τ sig) → Buf (Elt F) ℓ)

/-! ## The call's proof data -/

/-- What a device starts its body with, -/
def Φ₀ (c : Dev nD) : sProp 𝕄 :=
  iprop(∃ K, recs m K ∗ devIn m c ∗ bigSep Finset.univ fun a => srcPts m fullShare.left a c)
/-- and what it ends it with. -/
def Φ₁ (c : Dev nD) : sProp 𝕄 := iprop(YY m c ∗ Pipeline.ownSems0 osem c)

def dats : (p : Fin 1) → (c : Dev nD) → Dat τ (Elt F) Unit ℕ (UU nD τ) ℕ (cfgs p) c := fun _ c => {
  A := fun w => w.elim0
  after := fun w => w.elim0
  Φ := fun | ⟨0, _⟩ => Φ₀ m c | ⟨_ + 1, _⟩ => Φ₁ m c
  q := fun _ => fullShare
  owed := fun | ⟨0, _⟩ => O₀ c | ⟨_ + 1, _⟩ => 0 }

omit [FloatOps F] in
/-- From the global step's share and the credits, what the body starts with. -/
theorem phi0_intro (c : Dev nD) : iprop(levAts L lv ∗ Pipeline.launchCred O₀ c ∗ G' m c) ⊢ Φ₀ m c := by
  unfold G' Φ₀ recs mine devIn pays sources writes
  iintro ⟨Hlev, Hcr, ⟨%K, HR, Hl, Hat, ⟨Hts, Htd, Htl⟩, ⟨Hh, Hp⟩, ⟨Hw, Ho⟩⟩⟩
  ihave Hc := (creds (F := F) c) $$ Hcr
  iexists K
  isplitl [HR Hlev]; · isplitl [HR] <;> iassumption
  isplitr [Hl]
  · isplitl [Hat]; · iexact Hat
    isplitl [Hts]; · iexact Hts
    isplitl [Htd]; · iexact Htd
    isplitl [Htl]; · iexact Htl
    isplitl [Hc]; · iexact Hc
    isplitl [Hw]; · iexact Hw
    isplitl [Ho]; · iexact Ho
    isplitl [Hh]; · iexact Hh
    iexact Hp
  · iexact Hl

/-- Every cell's one round consumed, the cells close: their counters at zero are the device's again. -/
theorem close_cells (K : Dev nD × Kind → ℕ) (c : Dev nD) :
    iprop(recs m K ∗ bigSep Finset.univ fun κ : Kind => at1 c κ)
      ⊢ |={Set.univ}=> (Pipeline.ownSems0 osem c : sProp 𝕄) := by
  have hcl (κ : Kind) : iprop(recs m K ∗ at1 c κ) ⊢ |={Set.univ}=> (semVal (cell c κ) 0 : sProp 𝕄) :=
    (sep_mono_left (recs_inv m K c κ)).trans (Rounds.cell_close ER (Rd m) (Set.mem_univ (K (c, κ))) (fun h => h) (R := 1) (duties_later m (cell c κ)))
  exact (bigSep_with_persistent (R := recs m K) fun κ _ => hcl κ).trans (bigSep_fupd _ _)

/-- What a device ends the call with, from what its loops end with. -/
theorem finish (K : Dev nD × Kind → ℕ) (c : Dev nD) :
    iprop(recs m K ∗ devOut m c ∗ bigSep Finset.univ fun a => srcPts m fullShare.left a c)
      ⊢ |={Set.univ}=> Φ₁ m c := by
  unfold Φ₁ YY devOut
  iintro ⟨#HR, ⟨Hat, Hs, Ho⟩, Hl⟩
  imod (close_cells m K c) $$ [Hat] with Hz
  · isplitr; · iexact HR
    iexact Hat
  imodintro
  isplitr [Hz]
  · isplitl [Hl]; · iexact Hl
    isplitl [Hs] <;> iassumption
  · iexact Hz

/-- The body, from what a device starts with to what it ends with. -/
theorem sound_body (c : Dev nD) :
    iprop(Φ₀ m c ∗ ∃ W, owes (c : Thread nD τ) (O₀ c) W)
      ⊢ WP c (prog F) fun _ => iprop(Φ₁ m c ∗ ∃ W, owes (c : Thread nD τ) (0 : CellTallies nD τ sig Unit) W) := by
  refine .trans ?_ (wp_fupd _ _ _ _ _)
  unfold Φ₀
  iintro ⟨⟨%K, #HR, Hin, Hl⟩, HO⟩
  iapply (wp_prog m c K)
  unfold St
  isplitl [HO]
  · isplitr; · iexact HR
    iexact HO
  isplitl [Hin]; · iexact Hin
  iintro ⟨⟨-, HO⟩, Hout⟩
  imod (finish m K c) $$ [Hout Hl] with HΦ
  · isplitr; · iexact HR
    isplitl [Hout] <;> iassumption
  imodintro
  isplitl [HΦ]; · iexact HΦ
  iexact HO

/-- The call's body obligation. -/
theorem body_obligation (c : Dev nD) : BodyObligation (dats (F := F) m 0 c) (defs₀ (F := F)) 𝒱₀ () Set.univ := fun t => by
  obtain rfl := fin_N0 t
  have hpre : iprop(Φ₀ m c ∗ (dats (F := F) m 0 c).owesAt () (Fin.castSucc t0_0)) ⊢ iprop(Φ₀ m c ∗ ∃ W, owes (c : Thread nD τ) (O₀ c) W) := by
    refine sep_mono_right ?_
    unfold Dat.owesAt Pipeline.owesWithin
    iintro ⟨%W, -, H⟩
    iexists W; iexact H
  have hpost : iprop(Φ₁ m c ∗ ∃ W, owes (c : Thread nD τ) (0 : CellTallies nD τ sig Unit) W)
      ⊢ iprop(Φ₁ m c ∗ (dats (F := F) m 0 c).owesAt () (Fin.succ t0_0) ∗ BI.emp) := by
    refine sep_mono_right ?_
    unfold Dat.owesAt Pipeline.owesWithin
    iintro ⟨%W, H⟩
    isplitl [H]
    · iexists W
      isplitr
      · ipureintro; exact fun _ _ => Or.inl trivial
      · iexact H
    · iempintro
  have hb : (defs₀ (F := F)) .tc cfg0.body (cfg0.bodyArgs t0_0 (cfg0.slots t0_0)) = prog F := body_eq
  show iprop(Φ₀ m c ∗ (dats (F := F) m 0 c).owesAt () (Fin.castSucc t0_0) ∗ _)
    ⊢ wp frame (wpE (defs₀ (F := F)) 𝒱₀ (c : Thread nD τ) none) Set.univ ((defs₀ (F := F)) .tc cfg0.body (cfg0.bodyArgs t0_0 (cfg0.slots t0_0)))
      (fun _ => iprop(Φ₁ m c ∗ (dats (F := F) m 0 c).owesAt () (Fin.succ t0_0) ∗ _))
  rw [hb]
  refine .trans (sep_mono_right sep_elim_left) (hpre.trans ((sound_body m c).trans ?_))
  refine wp_mono _ _ _ fun _ => hpost.trans (sep_mono_right (sep_mono_right (Entails.of_eq (no_windows _).symm)))

/-! ## The run -/

/-- THE RUN, over any carrier: every execution ends, with every device's slots at the parts gathered, its own
    shards in place, its arrays as they were, and every semaphore at zero. -/
theorem run_main (ρ : Dev nD → PrngReg) :
    θ_run (defs (F := F)) (onTc (τ := τ) (main (F := F))) ⟨m, fun _ => 0, ρ⟩
      (fun r => (∀ c, QY m c r.2) ∧ r.2.sem = fun _ => 0) :=
  θ_run_dealt m ρ O₀ L lv (dats m) (body_obligation m) (fun _ => rfl) (fun _ => rfl) L_of_ne (G m) (G' m) u₀ (fund m) (glob m)
    (phi0_intro m) (YY m) (fun _ => BI.Entails.refl _) (QY m) (YY_read m) (fun _ h h0 => ⟨h, h0⟩)

end Cert.WeightsIdeal.Shards

end
-- ==== Proof.WeightsValues.lean ====
/-
  What the gathered weights hold. Where the devices' shards are the chips' parts of one whole array, every device's result
  is that array (`result_whole`): each index lies in the device's own shard or in a slot it received.
-/
module

public import proofs.«01_k».proof.Proof.WeightsBuffers
public import Idealize.ShloMosaic.Lib.Layout

@[expose] public section

set_option maxRecDepth 16384

noncomputable section

namespace Cert.WeightsIdeal.Shards

open Cert.WeightsIdeal.Gen
open Idealize.ShloMosaic Idealize.ShloMosaic.TcCoe
open Idealize.SL Idealize.SL.Sem

variable {F : FTy → Type} [FloatOps F]

variable (m : (ℓ : Loc nD τ sig) → Buf (Elt F) ℓ)

/-- The devices' shards of array `a` are the chips' parts of `v`. -/
def Whole (a : A) (v : (sh2 (item a).R (item a).W).Idx → Elt F (item a).ty) : Prop :=
  ∀ (e : Dev nD) (z : (sh2 (item a).r (item a).w).Idx), shard m a e z = v ((shardRect a (chip e)).emb z)

/-- A device's coordinates on the first two axes of the mesh name its chip. -/
theorem lin_chip : ∀ c : Fin 8, Layout.meshLin [2, 2, 2] c.val [0, 1] = c.val / 2 := by decide

/-- They are where the parts are cut by columns over those axes, -/
theorem whole_cols (a : A) (ha : byCol a = true) (v : (sh2 (item a).R (item a).W).Idx → Elt F (item a).ty)
    (h : ∀ e : Dev nD, ∃ hN, shard m a e
      = Layout.blockN (sh2 (item a).r (item a).w) (sh2 (item a).R (item a).W) (Layout.meshBlock [2, 2, 2] ![[], [0, 1]] e) v hN) : Whole m a v := by
  intro e z
  obtain ⟨hN, h⟩ := h e
  rw [h]
  refine congrArg v (funext fun k => Fin.ext ?_)
  have l : Layout.meshLin [2, 2, 2] e.val [0, 1] = e.val / 2 := lin_chip e
  fin_cases k
  · show 0 * (item a).r + (z 0).val = shardOff a (chip e) 0 + 1 * (z 0).val
    simp [shardOff, ha]
  · show Layout.meshLin [2, 2, 2] e.val [0, 1] * (item a).w + (z 1).val = shardOff a (chip e) 1 + 1 * (z 1).val
    rw [l]
    simp [shardOff, ha, chip]

/-- or by rows. -/
theorem whole_rows (a : A) (ha : byCol a = false) (v : (sh2 (item a).R (item a).W).Idx → Elt F (item a).ty)
    (h : ∀ e : Dev nD, ∃ hN, shard m a e
      = Layout.blockN (sh2 (item a).r (item a).w) (sh2 (item a).R (item a).W) (Layout.meshBlock [2, 2, 2] ![[0, 1], []] e) v hN) : Whole m a v := by
  intro e z
  obtain ⟨hN, h⟩ := h e
  rw [h]
  refine congrArg v (funext fun k => Fin.ext ?_)
  have l : Layout.meshLin [2, 2, 2] e.val [0, 1] = e.val / 2 := lin_chip e
  fin_cases k
  · show Layout.meshLin [2, 2, 2] e.val [0, 1] * (item a).r + (z 0).val = shardOff a (chip e) 0 + 1 * (z 0).val
    rw [l]
    simp [shardOff, ha, chip]
  · show 0 * (item a).w + (z 1).val = shardOff a (chip e) 1 + 1 * (z 1).val
    simp [shardOff, ha]

/-- The part a device sends is then `v`'s at its slot. -/
theorem val_whole {a : A} {v : (sh2 (item a).R (item a).W).Idx → Elt F (item a).ty} (hv : Whole m a v) (s : Dev nD)
    (z : (sh2 (item a).p (item a).w).Idx) : val m a s z = v ((slotRect a s).emb z) := by
  match a, v, hv, z with
  | .inl i, v, hv, z =>
    refine (hv s ((Rect.unit (s := sh2 (item (.inl i)).r (item (.inl i)).w) ![halfRow (.inl i) s, 0] (sh2 (item (.inl i)).p (item (.inl i)).w).size (half_inb (.inl i) s)).emb z)).trans
      (congrArg v (funext fun k => Fin.ext ?_))
    fin_cases k
    · show shardOff (.inl i) (chip s) 0 + 1 * (halfRow (.inl i) s + 1 * (z 0).val) = shardOff (.inl i) (chip s) 0 + halfRow (.inl i) s + 1 * (z 0).val
      omega
    · show shardOff (.inl i) (chip s) 1 + 1 * (0 + 1 * (z 1).val) = shardOff (.inl i) (chip s) 1 + 1 * (z 1).val
      omega
  | .inr 0, v, hv, z => exact (hv s z).trans (congrArg v (funext fun k => by fin_cases k <;> rfl))
  | .inr 1, v, hv, z => exact (hv s z).trans (congrArg v (funext fun k => by fin_cases k <;> rfl))

/-- Every slot of another chip is received: of an array sent whole, those of the devices on the same side. -/
theorem slot_received (a : A) (c s : Dev nD) (h : chip s ≠ chip c) (hs : a.isRight → s.val % 2 = c.val % 2) :
    ∃ t : T, t.arr = a ∧ rslot t c = s := by
  have hj : (s.val % 2 = c.val % 2 → ∃ j : Fin 3, peer j.castSucc c = s) ∧ (s.val % 2 ≠ c.val % 2 → ∃ j : Fin 3, peer j.castSucc (peer 3 c) = s) := by
    clear hs; revert c s; decide
  by_cases e : s.val % 2 = c.val % 2
  · obtain ⟨j, hj⟩ := hj.1 e
    exact ⟨.inl (a, j), rfl, hj⟩
  · obtain ⟨j, hj⟩ := hj.2 e
    match a, hs with
    | .inl i, _ => exact ⟨.inr (i, j), rfl, hj⟩
    | .inr u, hs => exact absurd (hs rfl) e

/-- Every index of a result is in the device's own shard's place, or in such a slot. -/
theorem index_cases (a : A) (c : Dev nD) (y : (sh2 (item a).R (item a).W).Idx) : y ∈ (shardRect a (chip c)).set
    ∨ ∃ s : Dev nD, chip s ≠ chip c ∧ (a.isRight → s.val % 2 = c.val % 2) ∧ y ∈ (slotRect a s).set := by
  obtain ⟨x, -, hx⟩ := Finset.mem_biUnion.1 ((shardRect_cover a).symm ▸ Finset.mem_univ y : y ∈ Finset.univ.biUnion (fun x => (shardRect a x).set))
  by_cases hc : x = chip c
  · exact .inl (hc ▸ hx)
  · have hs : ∀ (c : Dev nD) (x : Fin 4), ∃ s : Dev nD, chip s = x ∧ s.val % 2 = c.val % 2 := by decide
    obtain ⟨s, rfl, hp⟩ := hs c x
    match a, y, hx with
    | .inl i, y, hx =>
      rcases (mem_halves i s y).1 hx with h | h
      · exact .inr ⟨s, hc, fun _ => hp, h⟩
      · exact .inr ⟨peer 3 s, (chip_sib s).symm ▸ hc, fun h => absurd h (by simp), h⟩
    | .inr u, y, hx => exact .inr ⟨s, hc, fun _ => hp, (mem_whole u s y).1 hx⟩

/-- Every device's result is the whole array. -/
theorem result_whole {c : Dev nD} {s : MemSt nD τ sig (Elt F)} (h : QY m c s) (a : A) (v : (sh2 (item a).R (item a).W).Idx → Elt F (item a).ty)
    (hv : Whole m a v) : (item a).out.view.read (Elt F) (s.mem ((item a).out.view.loc (c : Thread nD τ))) = v := by
  funext y
  rcases index_cases a c y with hy | ⟨d, hd, hp, hy⟩
  · rw [← Rect.map_emb_univ] at hy
    obtain ⟨z, -, rfl⟩ := Finset.mem_map.1 hy
    exact (congrFun (h.2.1 a) z).trans (hv c z)
  · rw [← Rect.map_emb_univ] at hy
    obtain ⟨z, -, rfl⟩ := Finset.mem_map.1 hy
    obtain ⟨t, rfl, rfl⟩ := slot_received a c d hd hp
    exact (congrFun (h.1 t) z).trans (val_whole m hv _ z)

end Cert.WeightsIdeal.Shards

end
-- ==== Proof.WeightsGathered.lean ====
/-
  The gather of the weights, read as a statement about whole arrays: where every device's arguments are its chip's shards of
  ten whole arrays, every device ends with the ten arrays whole.
-/
module

public import proofs.«01_k».proof.Proof.WeightsRun
public import proofs.«01_k».proof.Proof.WeightsValues

@[expose] public section

set_option maxRecDepth 16384

noncomputable section

namespace Cert.WeightsIdeal.Shards

open Cert.WeightsIdeal.Gen
open Idealize.ShloMosaic Idealize.ShloMosaic.TcCoe
open Idealize.SL Idealize.SL.Sem

variable {F : FTy → Type} [FloatOps F]

variable (m : (ℓ : Loc nD τ sig) → Buf (Elt F) ℓ)

/-- On any device, the arguments end as they started. -/
theorem args_kept {c : Dev nD} {s : MemSt nD τ sig (Elt F)} (h : QY m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9) :=
  ⟨h.2.2 (.inl 0), h.2.2 (.inl 1), h.2.2 (.inl 2), h.2.2 (.inl 3), h.2.2 (.inl 4), h.2.2 (.inl 5), h.2.2 (.inl 6), h.2.2 (.inl 7), h.2.2 (.inr 0), h.2.2 (.inr 1)⟩

/-- Every execution ends, from any memory, with the arguments as they were and every semaphore at zero. -/
theorem run_quiet (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨fun c => args_kept m (h.1 c), h.2⟩) (run_main m ρ)

/-- Where the arguments are the chips' shards of ten whole arrays, every execution ends with every device's results those
    arrays, and the arguments as they were. -/
theorem run_gathered (ρ : Dev nD → PrngReg)
    (v0 : (sh2 2048 6144).Idx → Elt F .bf16)
    (v1 : (sh2 2048 2048).Idx → Elt F .bf16)
    (v2 : (sh2 2048 2048).Idx → Elt F .bf16)
    (v3 : (sh2 2048 2048).Idx → Elt F .bf16)
    (v4 : (sh2 2048 2048).Idx → Elt F .bf16)
    (v5 : (sh2 2048 2048).Idx → Elt F .bf16)
    (v6 : (sh2 2048 11264).Idx → Elt F .bf16)
    (v7 : (sh2 5632 2048).Idx → Elt F .bf16)
    (v8 : (sh2 4 1024).Idx → Elt F .f32)
    (v9 : (sh2 3 11264).Idx → Elt F .f32)
    (hv : ∀ c : Dev nD,
      m ((c.tc : Thread nD τ).loc main_arg0) = Layout.blockN ⟨2, ![2048, 1536]⟩ ⟨2, ![2048, 6144]⟩ (Layout.meshBlock [2, 2, 2] ![[], [0, 1]] c) v0
      ∧ m ((c.tc : Thread nD τ).loc main_arg1) = Layout.blockN ⟨2, ![512, 2048]⟩ ⟨2, ![2048, 2048]⟩ (Layout.meshBlock [2, 2, 2] ![[0, 1], []] c) v1
      ∧ m ((c.tc : Thread nD τ).loc main_arg2) = Layout.blockN ⟨2, ![512, 2048]⟩ ⟨2, ![2048, 2048]⟩ (Layout.meshBlock [2, 2, 2] ![[0, 1], []] c) v2
      ∧ m ((c.tc : Thread nD τ).loc main_arg3) = Layout.blockN ⟨2, ![512, 2048]⟩ ⟨2, ![2048, 2048]⟩ (Layout.meshBlock [2, 2, 2] ![[0, 1], []] c) v3
      ∧ m ((c.tc : Thread nD τ).loc main_arg4) = Layout.blockN ⟨2, ![512, 2048]⟩ ⟨2, ![2048, 2048]⟩ (Layout.meshBlock [2, 2, 2] ![[0, 1], []] c) v4
      ∧ m ((c.tc : Thread nD τ).loc main_arg5) = Layout.blockN ⟨2, ![512, 2048]⟩ ⟨2, ![2048, 2048]⟩ (Layout.meshBlock [2, 2, 2] ![[0, 1], []] c) v5
      ∧ m ((c.tc : Thread nD τ).loc main_arg6) = Layout.blockN ⟨2, ![2048, 2816]⟩ ⟨2, ![2048, 11264]⟩ (Layout.meshBlock [2, 2, 2] ![[], [0, 1]] c) v6
      ∧ m ((c.tc : Thread nD τ).loc main_arg7) = Layout.blockN ⟨2, ![1408, 2048]⟩ ⟨2, ![5632, 2048]⟩ (Layout.meshBlock [2, 2, 2] ![[0, 1], []] c) v7
      ∧ m ((c.tc : Thread nD τ).loc main_arg8) = Layout.blockN ⟨2, ![4, 256]⟩ ⟨2, ![4, 1024]⟩ (Layout.meshBlock [2, 2, 2] ![[], [0, 1]] c) v8
      ∧ m ((c.tc : Thread nD τ).loc main_arg9) = Layout.blockN ⟨2, ![3, 2816]⟩ ⟨2, ![3, 11264]⟩ (Layout.meshBlock [2, 2, 2] ![[], [0, 1]] c) v9) :
    θ_run (defs (F := F)) (onTc (τ := τ) (main (F := F))) ⟨m, fun _ => 0, ρ⟩ (fun r => ∀ c : Dev nD,
      r.2.mem ((c.tc : Thread nD τ).loc main_v1_0) = v0
      ∧ r.2.mem ((c.tc : Thread nD τ).loc main_v1_1) = v1
      ∧ r.2.mem ((c.tc : Thread nD τ).loc main_v1_2) = v2
      ∧ r.2.mem ((c.tc : Thread nD τ).loc main_v1_3) = v3
      ∧ r.2.mem ((c.tc : Thread nD τ).loc main_v1_4) = v4
      ∧ r.2.mem ((c.tc : Thread nD τ).loc main_v1_5) = v5
      ∧ r.2.mem ((c.tc : Thread nD τ).loc main_v1_6) = v6
      ∧ r.2.mem ((c.tc : Thread nD τ).loc main_v1_7) = v7
      ∧ r.2.mem ((c.tc : Thread nD τ).loc main_v1_8) = v8
      ∧ r.2.mem ((c.tc : Thread nD τ).loc main_v1_9) = v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨result_whole m (h.1 c) (.inl 0) v0 (whole_cols m _ rfl _ fun e => ⟨_, (hv e).1⟩),
      result_whole m (h.1 c) (.inl 1) v1 (whole_rows m _ rfl _ fun e => ⟨_, (hv e).2.1⟩),
      result_whole m (h.1 c) (.inl 2) v2 (whole_rows m _ rfl _ fun e => ⟨_, (hv e).2.2.1⟩),
      result_whole m (h.1 c) (.inl 3) v3 (whole_rows m _ rfl _ fun e => ⟨_, (hv e).2.2.2.1⟩),
      result_whole m (h.1 c) (.inl 4) v4 (whole_rows m _ rfl _ fun e => ⟨_, (hv e).2.2.2.2.1⟩),
      result_whole m (h.1 c) (.inl 5) v5 (whole_rows m _ rfl _ fun e => ⟨_, (hv e).2.2.2.2.2.1⟩),
      result_whole m (h.1 c) (.inl 6) v6 (whole_cols m _ rfl _ fun e => ⟨_, (hv e).2.2.2.2.2.2.1⟩),
      result_whole m (h.1 c) (.inl 7) v7 (whole_rows m _ rfl _ fun e => ⟨_, (hv e).2.2.2.2.2.2.2.1⟩),
      result_whole m (h.1 c) (.inr 0) v8 (whole_cols m _ rfl _ fun e => ⟨_, (hv e).2.2.2.2.2.2.2.2.1⟩),
      result_whole m (h.1 c) (.inr 1) v9 (whole_cols m _ rfl _ fun e => ⟨_, (hv e).2.2.2.2.2.2.2.2.2⟩),
      args_kept m (h.1 c)⟩) (run_main m ρ)

end Cert.WeightsIdeal.Shards

end
-- ==== Proof.Adam.lean ====
/-
  One AdamW step at one element, as the kernel and its reference compute it: the sum of the eight devices' contributions to
  the gradient, the two moments, and the change of the weight. The kernel adds the contributions one after the other; the
  reference sums along an axis. Over the extended reals the two are one sum (`hostGrad`).
-/
module

public import Idealize.ShloMosaic.Lib.Pipeline.Value
public import Idealize.ShloMosaic.Lib.IdealHost
public import Idealize.ShloMosaic.Lib.Pointwise.Reduce

@[expose] public section

noncomputable section

namespace Cert.Adam

open Idealize.ShloMosaic

variable {F : FTy → Type} [FloatOps F]

/-- A bf16 number as an f32 one. -/
abbrev wide (x : F .bf16) : F .f32 := FloatOps.extf .f32 (by decide) x

/-- The sum of the eight contributions, the first device's first. -/
abbrev sum8 (p : Fin 8 → F .bf16) : F .f32 :=
  FloatOps.addf (FloatOps.addf (FloatOps.addf (FloatOps.addf (FloatOps.addf (FloatOps.addf (FloatOps.addf
    (wide (p 0)) (wide (p 1))) (wide (p 2))) (wide (p 3))) (wide (p 4))) (wide (p 5))) (wide (p 6))) (wide (p 7))

/-- The first moment: nine tenths of the old one and a tenth of the gradient. -/
abbrev first (m g : F .f32) : F .f32 :=
  FloatOps.addf (FloatOps.mulf (Scalar.ofBits .f32 0x3F666666#32) m) (FloatOps.mulf (Scalar.ofBits .f32 0x3DCCCCCD#32) g)

/-- The second moment: 0.999 of the old one and 0.001 of the gradient's square. -/
abbrev second (v g : F .f32) : F .f32 :=
  FloatOps.addf (FloatOps.mulf (Scalar.ofBits .f32 0x3F7FBE77#32) v)
    (FloatOps.mulf (Scalar.ofBits .f32 0x3A83126F#32) (FloatOps.mulf g g))

/-- The change of the weight `w`, from the new moments `m` and `v`. -/
abbrev change (w m v : F .f32) : F .f32 :=
  FloatOps.mulf (Scalar.ofBits .f32 0xBA83126F#32)
    (FloatOps.addf
      (FloatOps.divf (FloatOps.divf m (Scalar.ofBits .f32 0x3F26BD02#32))
        (FloatOps.addf (FloatOps.sqrt (FloatOps.divf v (Scalar.ofBits .f32 0x3C231ACC#32))) (Scalar.ofBits .f32 0x322BCC77#32)))
      (FloatOps.mulf (Scalar.ofBits .f32 0x3C23D70A#32) w))

/-- The arrays of a weight with `R` rows and `C` columns, and of its eight contributions. -/
abbrev Whole (R C : Nat) : Shape := ⟨2, ![R, C]⟩
abbrev Parts (R C : Nat) : Shape := ⟨3, ![8, R, C]⟩

variable {R C : Nat}

theorem zeros : (![0, 0] : Fin 2 → Nat) = fun _ => 0 := funext fun a => by fin_cases a <;> rfl

/-- Element `i` of contribution `k`. -/
abbrev at3 (k : Fin 8) (i : (Whole R C).Idx) : (Parts R C).Idx := ix3 k (i 0) (i 1)

/-- The gradient, the new moments and the change of a whole weight, from the old ones `w`, `m`, `v` and the contributions `p`. -/
abbrev gradOf (p : (Parts R C).Idx → F .bf16) : (Whole R C).Idx → F .f32 := fun i => sum8 fun k => p (at3 k i)
abbrev firstOf (m : (Whole R C).Idx → F .f32) (p : (Parts R C).Idx → F .bf16) : (Whole R C).Idx → F .f32 :=
  fun i => first (m i) (gradOf p i)
abbrev secondOf (v : (Whole R C).Idx → F .f32) (p : (Parts R C).Idx → F .bf16) : (Whole R C).Idx → F .f32 :=
  fun i => second (v i) (gradOf p i)
abbrev changeOf (w m v : (Whole R C).Idx → F .f32) (p : (Parts R C).Idx → F .bf16) : (Whole R C).Idx → F .f32 :=
  fun i => change (w i) (firstOf m p i) (secondOf v p i)

/-- Contribution `k` of a block of contributions, at row `z 1` and column `z 2`. -/
theorem read_part {Val : EltTy → Type} {e : EltTy} (x : (Parts R C).Idx → Val e) (k : Fin 8)
    (inb : ∀ a, (![(k : Nat), 0, 0] : Fin 3 → Nat) a + (![1, R, C] : Fin 3 → Nat) a ≤ (Parts R C).size a)
    (z : (⟨3, ![1, R, C]⟩ : Shape).Idx) (y : (Whole R C).Idx) (h0 : (z 1 : Nat) = y 0) (h1 : (z 2 : Nat) = y 1) :
    View.ld x (Rect.unit (s := Parts R C) ![(k : Nat), 0, 0] ![1, R, C] inb) z = x (at3 k y) :=
  congrArg x (funext fun a => Fin.ext (match a with
    | ⟨0, _⟩ => by
      have : (z 0 : Nat) < 1 := (z 0).isLt
      show (k : Nat) + 1 * (z 0 : Nat) = k
      omega
    | ⟨1, _⟩ => by show 0 + 1 * (z 1 : Nat) = y 0; omega
    | ⟨2, _⟩ => by show 0 + 1 * (z 2 : Nat) = y 1; omega))

/-- An element lies in the block of `B` whole rows that begins at the last multiple of `B` not above its row. -/
theorem mem_rows {B : Nat} (hB : 0 < B) (i : (Whole R C).Idx) {off size : Fin 2 → Nat} {inb : ∀ a, off a + size a ≤ (Whole R C).size a}
    (o0 : off 0 = (i 0 : Nat) / B * B) (o1 : off 1 = 0) (s0 : size 0 = B) (s1 : size 1 = C) :
    i ∈ (Rect.unit (s := Whole R C) off size inb).set := by
  have hC : (i 1 : Nat) < C := (i 1).isLt
  rw [Rect.mem_set_unit]
  intro a
  match a with
  | ⟨0, _⟩ =>
    show off 0 ≤ (i 0 : Nat) ∧ (i 0 : Nat) < off 0 + size 0
    rw [o0, s0]
    exact ⟨Nat.div_mul_le_self .., Nat.lt_div_mul_add hB⟩
  | ⟨1, _⟩ =>
    show off 1 ≤ (i 1 : Nat) ∧ (i 1 : Nat) < off 1 + size 1
    omega

/-! ## A block of rows: the step taken on the block is the block of the step taken on the whole weight -/

section Rows
variable {B : Nat} (place : (Whole B C).Idx → (Whole R C).Idx) {p : (Parts B C).Idx → F .bf16} {P : (Parts R C).Idx → F .bf16}
  (hp : ∀ k y, p (at3 k y) = P (at3 k (place y)))
include hp

theorem rows_grad (y : (Whole B C).Idx) : gradOf p y = gradOf P (place y) :=
  congrArg sum8 (funext fun k => hp k y)

theorem rows_first (m : (Whole R C).Idx → F .f32) (y : (Whole B C).Idx) :
    firstOf (fun y => m (place y)) p y = firstOf m P (place y) :=
  congrArg (first (m (place y))) (rows_grad place hp y)

theorem rows_second (v : (Whole R C).Idx → F .f32) (y : (Whole B C).Idx) :
    secondOf (fun y => v (place y)) p y = secondOf v P (place y) :=
  congrArg (second (v (place y))) (rows_grad place hp y)

theorem rows_change (w m v : (Whole R C).Idx → F .f32) (y : (Whole B C).Idx) :
    changeOf (fun y => w (place y)) (fun y => m (place y)) (fun y => v (place y)) p y = changeOf w m v P (place y) :=
  congrArg₂ (change (w (place y))) (rows_first place hp m y) (rows_second place hp v y)

end Rows

/-! ## The reference's sum, over the extended reals -/

/-- The sum along the axis of the devices is the sum of the eight contributions. -/
theorem hostGrad (p : FVec Ideal (Parts R C) .bf16) (hb : FTy.bits .bf16 < FTy.bits .f32)
    (h : (Parts R C).ReducesTo [0] (Whole R C)) (hu : 0 < (⟨0, ![]⟩ : Shape).numel) :
    Host.reduceAdd (extf .f32 p hb) (constant ⟨0, ![]⟩ .f32 0x00000000#32) h hu = gradOf (F := Ideal) p := by
  funext i
  rw [ValueIdx.hostReduceAdd_apply, Ideal.hostReduceAdd_r3_a0]
  show Ideal.ofBits .f32 0x00000000#32 + _ = _
  rw [Ideal.ofBits_zero_f32, zero_add, Fin.sum_univ_eight]
  rfl

end Cert.Adam

end
-- ==== Proof.AdamIn.lean ====
/-
  The AdamW step of the weight `w_in`, whose shard has 2048 rows and 1536 columns: each grid point takes 64 rows of the weight,
  of its moments and of its eight contributions, and writes the same rows of the gradient, the change and the new moments. So
  each result array, whole, is the step taken element by element, and so is the reference's (`algebraic`).
-/
module

public import proofs.«01_k».proof.Defs
public import proofs.«01_k».proof.Proof.Gen.UpdateInIdeal.Value
public import proofs.«01_k».proof.Proof.Gen.UpdateInRefIdeal.Run
public import proofs.«01_k».proof.Proof.Adam

@[expose] public section

noncomputable section

namespace Cert.UpdateInIdeal.Step

open Cert.UpdateInIdeal Cert.UpdateInIdeal.Gen Cert.Adam Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The weight, its moments and its contributions, as device `c` holds them at the start. -/
abbrev W : (Whole 2048 1536).Idx → F .f32 := m ((c : Thread nD τ).loc main_arg0)
abbrev M : (Whole 2048 1536).Idx → F .f32 := m ((c : Thread nD τ).loc main_arg1)
abbrev V : (Whole 2048 1536).Idx → F .f32 := m ((c : Thread nD τ).loc main_arg2)
abbrev P : (Parts 2048 1536).Idx → F .bf16 := m ((c : Thread nD τ).loc main_arg3)

/-- The sum that the body computes, of the block of contributions `x3`. -/
theorem body_sum (x0 x1 x2 : Vec F S64x1536 .f32) (x3 : Vec F S8x64x1536 .bf16) :
    k0_pay5 x0 x1 x2 x3 = gradOf (R := 64) (C := 1536) x3 := by
  funext y
  have h := Value.canon4_eq (View.ld x3 r0_0) (View.ld x3 r0_1) (View.ld x3 r0_2) (View.ld x3 r0_3) (View.ld x3 r0_4)
    (View.ld x3 r0_5) (View.ld x3 r0_6) (View.ld x3 r0_7) y
  rw [View.canon_unit_zero zeros] at h
  have inb : ∀ (k : Fin 8) (a : Fin 3), (![(k : Nat), 0, 0] : Fin 3 → Nat) a + S1x64x1536.size a ≤ S8x64x1536.size a := by
    decide
  exact h.trans (congrArg sum8
    (a₁ := fun k : Fin 8 => View.ld x3 (Rect.unit ![(k : Nat), 0, 0] S1x64x1536.size (inb k)) (Value.ix4_0 y))
    (funext fun k : Fin 8 => read_part x3 k (inb k) _ y rfl rfl))

/-- Where element `y` of the rows of grid point `t` lies in the whole array. -/
abbrev place (t : Fin cfg0.N) (y : (Whole 64 1536).Idx) : (Whole 2048 1536).Idx := (win0_4.blk t).view.emb y

/-- The contributions that grid point `t` takes are those of its rows. -/
theorem rows (t : Fin cfg0.N) (k : Fin 8) (y : (Whole 64 1536).Idx) :
    iblk m c 3 t (at3 k y) = P m c (at3 k (place t y)) :=
  congrArg (P m c) (funext fun a => Fin.ext (match a with
    | ⟨0, _⟩ => by show 0 * 8 + 1 * (k : Nat) = k; omega
    | ⟨1, _⟩ => rfl
    | ⟨2, _⟩ => rfl))

/-- Every element lies in the rows of one grid point. -/
theorem in_rows (i : (Whole 2048 1536).Idx) : ∃ t : Fin cfg0.N, i ∈ (win0_4.blk t).view.set := by
  have h0 : (i 0 : Nat) < 2048 := (i 0).isLt
  have hN : cfg0.N = 32 := N_0
  have e : ∀ t : Fin cfg0.N, win0_4.index t 0 = t.val := by decide +kernel
  have ht : (i 0 : Nat) / 64 < cfg0.N := by omega
  refine ⟨⟨(i 0 : Nat) / 64, ht⟩, ?_⟩
  rw [show (win0_4.blk ⟨(i 0 : Nat) / 64, ht⟩).view.set = (win0_4.rect ⟨(i 0 : Nat) / 64, ht⟩).set from View.set_slice_whole ..]
  exact mem_rows (B := 64) (by decide) i (congrArg (· * 64) (e ⟨_, ht⟩)) (Nat.zero_mul 1536) rfl rfl

/-! The four result arrays: the gradient, the change, the first moment and the second. -/

theorem final_grad : (dats m 0 c).arrAt 4 cfg0.N = gradOf (P m c) :=
  (dats m 0 c).arrAt_eq_of_cover 4 _ (fun t _ => by
    rw [Value.flushed4]; unfold out0_4
    rw [View.canon_unit_zero zeros, body_sum]
    exact funext (rows_grad (place t) (rows m c t))) fun i => (in_rows i).imp fun t h => ⟨flush0_4 t, h⟩

theorem final_change : (dats m 0 c).arrAt 5 cfg0.N = changeOf (W m c) (M m c) (V m c) (P m c) :=
  (dats m 0 c).arrAt_eq_of_cover 5 _ (fun t _ => by
    rw [Value.flushed5]; unfold out0_5
    rw [View.canon_unit_zero zeros, View.ld_unit_zero zeros, View.ld_unit_zero zeros, View.ld_unit_zero zeros, body_sum]
    exact funext (rows_change (place t) (rows m c t) (W m c) (M m c) (V m c))) fun i => (in_rows i).imp fun t h => ⟨flush0_5 t, h⟩

theorem final_first : (dats m 0 c).arrAt 6 cfg0.N = firstOf (M m c) (P m c) :=
  (dats m 0 c).arrAt_eq_of_cover 6 _ (fun t _ => by
    rw [Value.flushed6]; unfold out0_6
    rw [View.canon_unit_zero zeros, View.ld_unit_zero zeros, body_sum]
    exact funext (rows_first (place t) (rows m c t) (M m c))) fun i => (in_rows i).imp fun t h => ⟨flush0_6 t, h⟩

theorem final_second : (dats m 0 c).arrAt 7 cfg0.N = secondOf (V m c) (P m c) :=
  (dats m 0 c).arrAt_eq_of_cover 7 _ (fun t _ => by
    rw [Value.flushed7]; unfold out0_7
    rw [View.canon_unit_zero zeros, View.ld_unit_zero zeros, body_sum]
    exact funext (rows_second (place t) (rows m c t) (V m c))) fun i => (in_rows i).imp fun t h => ⟨flush0_7 t, h⟩

/-- Over the extended reals the kernel and its reference compute the same four arrays. -/
theorem algebraic : Cert.algebraic_UpdateInIdeal_UpdateInRefIdeal := by
  intro m ρ m' ρ' _ he
  refine ⟨fun c => gradOf (F := Ideal) (P m c), fun c => changeOf (F := Ideal) (W m c) (M m c) (V m c) (P m c),
    fun c => firstOf (F := Ideal) (M m c) (P m c), fun c => secondOf (F := Ideal) (V m c) (P m c),
    (θ_run _ _ _).mono (fun _ h c => ?_) (Value.run_blocks m ρ),
    (θ_run _ _ _).mono (fun _ h c => ?_) (Cert.UpdateInRefIdeal.Value.run m' ρ')⟩
  · obtain ⟨h0, h1, h2, h3, kept⟩ := h c
    exact ⟨h0.trans (final_grad m c), h1.trans (final_change m c), h2.trans (final_first m c), h3.trans (final_second m c), kept⟩
  · obtain ⟨h0, h1, h2, h3, kept⟩ := h c
    obtain ⟨e0, e1, e2, e3⟩ := he c
    rw [hostGrad] at h0 h1 h2 h3
    rw [e3] at h0
    rw [e0, e1, e2, e3] at h1
    rw [e1, e3] at h2
    rw [e2, e3] at h3
    exact ⟨h0, h1, h2, h3, kept⟩

end Cert.UpdateInIdeal.Step

end
-- ==== Proof.AdamSquare.lean ====
/-
  The AdamW step of the weights `w_out`, `xa_wq`, `xa_wk`, `xa_wv` and `xa_wo`, whose shards have 512 rows and 2048 columns:
  each grid point takes 64 rows of the weight, of its moments and of its eight contributions, and writes the same rows of the
  gradient, the change and the new moments. So each result array, whole, is the step taken element by element, and so is the
  reference's (`algebraic`).
-/
module

public import proofs.«01_k».proof.Defs
public import proofs.«01_k».proof.Proof.Gen.UpdateSquareIdeal.Value
public import proofs.«01_k».proof.Proof.Gen.UpdateSquareRefIdeal.Run
public import proofs.«01_k».proof.Proof.Adam

@[expose] public section

noncomputable section

namespace Cert.UpdateSquareIdeal.Step

open Cert.UpdateSquareIdeal Cert.UpdateSquareIdeal.Gen Cert.Adam Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The weight, its moments and its contributions, as device `c` holds them at the start. -/
abbrev W : (Whole 512 2048).Idx → F .f32 := m ((c : Thread nD τ).loc main_arg0)
abbrev M : (Whole 512 2048).Idx → F .f32 := m ((c : Thread nD τ).loc main_arg1)
abbrev V : (Whole 512 2048).Idx → F .f32 := m ((c : Thread nD τ).loc main_arg2)
abbrev P : (Parts 512 2048).Idx → F .bf16 := m ((c : Thread nD τ).loc main_arg3)

/-- The sum that the body computes, of the block of contributions `x3`. -/
theorem body_sum (x0 x1 x2 : Vec F S64x2048 .f32) (x3 : Vec F S8x64x2048 .bf16) :
    k0_pay5 x0 x1 x2 x3 = gradOf (R := 64) (C := 2048) x3 := by
  funext y
  have h := Value.canon4_eq (View.ld x3 r0_0) (View.ld x3 r0_1) (View.ld x3 r0_2) (View.ld x3 r0_3) (View.ld x3 r0_4)
    (View.ld x3 r0_5) (View.ld x3 r0_6) (View.ld x3 r0_7) y
  rw [View.canon_unit_zero zeros] at h
  have inb : ∀ (k : Fin 8) (a : Fin 3), (![(k : Nat), 0, 0] : Fin 3 → Nat) a + S1x64x2048.size a ≤ S8x64x2048.size a := by
    decide
  exact h.trans (congrArg sum8
    (a₁ := fun k : Fin 8 => View.ld x3 (Rect.unit ![(k : Nat), 0, 0] S1x64x2048.size (inb k)) (Value.ix4_0 y))
    (funext fun k : Fin 8 => read_part x3 k (inb k) _ y rfl rfl))

/-- Where element `y` of the rows of grid point `t` lies in the whole array. -/
abbrev place (t : Fin cfg0.N) (y : (Whole 64 2048).Idx) : (Whole 512 2048).Idx := (win0_4.blk t).view.emb y

/-- The contributions that grid point `t` takes are those of its rows. -/
theorem rows (t : Fin cfg0.N) (k : Fin 8) (y : (Whole 64 2048).Idx) :
    iblk m c 3 t (at3 k y) = P m c (at3 k (place t y)) :=
  congrArg (P m c) (funext fun a => Fin.ext (match a with
    | ⟨0, _⟩ => by show 0 * 8 + 1 * (k : Nat) = k; omega
    | ⟨1, _⟩ => rfl
    | ⟨2, _⟩ => rfl))

/-- Every element lies in the rows of one grid point. -/
theorem in_rows (i : (Whole 512 2048).Idx) : ∃ t : Fin cfg0.N, i ∈ (win0_4.blk t).view.set := by
  have h0 : (i 0 : Nat) < 512 := (i 0).isLt
  have hN : cfg0.N = 8 := N_0
  have e : ∀ t : Fin cfg0.N, win0_4.index t 0 = t.val := by decide +kernel
  have ht : (i 0 : Nat) / 64 < cfg0.N := by omega
  refine ⟨⟨(i 0 : Nat) / 64, ht⟩, ?_⟩
  rw [show (win0_4.blk ⟨(i 0 : Nat) / 64, ht⟩).view.set = (win0_4.rect ⟨(i 0 : Nat) / 64, ht⟩).set from View.set_slice_whole ..]
  exact mem_rows (B := 64) (by decide) i (congrArg (· * 64) (e ⟨_, ht⟩)) (Nat.zero_mul 2048) rfl rfl

/-! The four result arrays: the gradient, the change, the first moment and the second. -/

theorem final_grad : (dats m 0 c).arrAt 4 cfg0.N = gradOf (P m c) :=
  (dats m 0 c).arrAt_eq_of_cover 4 _ (fun t _ => by
    rw [Value.flushed4]; unfold out0_4
    rw [View.canon_unit_zero zeros, body_sum]
    exact funext (rows_grad (place t) (rows m c t))) fun i => (in_rows i).imp fun t h => ⟨flush0_4 t, h⟩

theorem final_change : (dats m 0 c).arrAt 5 cfg0.N = changeOf (W m c) (M m c) (V m c) (P m c) :=
  (dats m 0 c).arrAt_eq_of_cover 5 _ (fun t _ => by
    rw [Value.flushed5]; unfold out0_5
    rw [View.canon_unit_zero zeros, View.ld_unit_zero zeros, View.ld_unit_zero zeros, View.ld_unit_zero zeros, body_sum]
    exact funext (rows_change (place t) (rows m c t) (W m c) (M m c) (V m c))) fun i => (in_rows i).imp fun t h => ⟨flush0_5 t, h⟩

theorem final_first : (dats m 0 c).arrAt 6 cfg0.N = firstOf (M m c) (P m c) :=
  (dats m 0 c).arrAt_eq_of_cover 6 _ (fun t _ => by
    rw [Value.flushed6]; unfold out0_6
    rw [View.canon_unit_zero zeros, View.ld_unit_zero zeros, body_sum]
    exact funext (rows_first (place t) (rows m c t) (M m c))) fun i => (in_rows i).imp fun t h => ⟨flush0_6 t, h⟩

theorem final_second : (dats m 0 c).arrAt 7 cfg0.N = secondOf (V m c) (P m c) :=
  (dats m 0 c).arrAt_eq_of_cover 7 _ (fun t _ => by
    rw [Value.flushed7]; unfold out0_7
    rw [View.canon_unit_zero zeros, View.ld_unit_zero zeros, body_sum]
    exact funext (rows_second (place t) (rows m c t) (V m c))) fun i => (in_rows i).imp fun t h => ⟨flush0_7 t, h⟩

/-- Over the extended reals the kernel and its reference compute the same four arrays. -/
theorem algebraic : Cert.algebraic_UpdateSquareIdeal_UpdateSquareRefIdeal := by
  intro m ρ m' ρ' _ he
  refine ⟨fun c => gradOf (F := Ideal) (P m c), fun c => changeOf (F := Ideal) (W m c) (M m c) (V m c) (P m c),
    fun c => firstOf (F := Ideal) (M m c) (P m c), fun c => secondOf (F := Ideal) (V m c) (P m c),
    (θ_run _ _ _).mono (fun _ h c => ?_) (Value.run_blocks m ρ),
    (θ_run _ _ _).mono (fun _ h c => ?_) (Cert.UpdateSquareRefIdeal.Value.run m' ρ')⟩
  · obtain ⟨h0, h1, h2, h3, kept⟩ := h c
    exact ⟨h0.trans (final_grad m c), h1.trans (final_change m c), h2.trans (final_first m c), h3.trans (final_second m c), kept⟩
  · obtain ⟨h0, h1, h2, h3, kept⟩ := h c
    obtain ⟨e0, e1, e2, e3⟩ := he c
    rw [hostGrad] at h0 h1 h2 h3
    rw [e3] at h0
    rw [e0, e1, e2, e3] at h1
    rw [e1, e3] at h2
    rw [e2, e3] at h3
    exact ⟨h0, h1, h2, h3, kept⟩

end Cert.UpdateSquareIdeal.Step

end
-- ==== Proof.AdamUp.lean ====
/-
  The AdamW step of the weight `ffn_w_up`, whose shard has 2048 rows and 2816 columns: each grid point takes 32 rows of the weight,
  of its moments and of its eight contributions, and writes the same rows of the gradient, the change and the new moments. So
  each result array, whole, is the step taken element by element, and so is the reference's (`algebraic`).
-/
module

public import proofs.«01_k».proof.Defs
public import proofs.«01_k».proof.Proof.Gen.UpdateUpIdeal.Value
public import proofs.«01_k».proof.Proof.Gen.UpdateUpRefIdeal.Run
public import proofs.«01_k».proof.Proof.Adam

@[expose] public section

noncomputable section

namespace Cert.UpdateUpIdeal.Step

open Cert.UpdateUpIdeal Cert.UpdateUpIdeal.Gen Cert.Adam Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The weight, its moments and its contributions, as device `c` holds them at the start. -/
abbrev W : (Whole 2048 2816).Idx → F .f32 := m ((c : Thread nD τ).loc main_arg0)
abbrev M : (Whole 2048 2816).Idx → F .f32 := m ((c : Thread nD τ).loc main_arg1)
abbrev V : (Whole 2048 2816).Idx → F .f32 := m ((c : Thread nD τ).loc main_arg2)
abbrev P : (Parts 2048 2816).Idx → F .bf16 := m ((c : Thread nD τ).loc main_arg3)

/-- The sum that the body computes, of the block of contributions `x3`. -/
theorem body_sum (x0 x1 x2 : Vec F S32x2816 .f32) (x3 : Vec F S8x32x2816 .bf16) :
    k0_pay5 x0 x1 x2 x3 = gradOf (R := 32) (C := 2816) x3 := by
  funext y
  have h := Value.canon4_eq (View.ld x3 r0_0) (View.ld x3 r0_1) (View.ld x3 r0_2) (View.ld x3 r0_3) (View.ld x3 r0_4)
    (View.ld x3 r0_5) (View.ld x3 r0_6) (View.ld x3 r0_7) y
  rw [View.canon_unit_zero zeros] at h
  have inb : ∀ (k : Fin 8) (a : Fin 3), (![(k : Nat), 0, 0] : Fin 3 → Nat) a + S1x32x2816.size a ≤ S8x32x2816.size a := by
    decide
  exact h.trans (congrArg sum8
    (a₁ := fun k : Fin 8 => View.ld x3 (Rect.unit ![(k : Nat), 0, 0] S1x32x2816.size (inb k)) (Value.ix4_0 y))
    (funext fun k : Fin 8 => read_part x3 k (inb k) _ y rfl rfl))

/-- Where element `y` of the rows of grid point `t` lies in the whole array. -/
abbrev place (t : Fin cfg0.N) (y : (Whole 32 2816).Idx) : (Whole 2048 2816).Idx := (win0_4.blk t).view.emb y

/-- The contributions that grid point `t` takes are those of its rows. -/
theorem rows (t : Fin cfg0.N) (k : Fin 8) (y : (Whole 32 2816).Idx) :
    iblk m c 3 t (at3 k y) = P m c (at3 k (place t y)) :=
  congrArg (P m c) (funext fun a => Fin.ext (match a with
    | ⟨0, _⟩ => by show 0 * 8 + 1 * (k : Nat) = k; omega
    | ⟨1, _⟩ => rfl
    | ⟨2, _⟩ => rfl))

/-- Every element lies in the rows of one grid point. -/
theorem in_rows (i : (Whole 2048 2816).Idx) : ∃ t : Fin cfg0.N, i ∈ (win0_4.blk t).view.set := by
  have h0 : (i 0 : Nat) < 2048 := (i 0).isLt
  have hN : cfg0.N = 64 := N_0
  have e : ∀ t : Fin cfg0.N, win0_4.index t 0 = t.val := by decide +kernel
  have ht : (i 0 : Nat) / 32 < cfg0.N := by omega
  refine ⟨⟨(i 0 : Nat) / 32, ht⟩, ?_⟩
  rw [show (win0_4.blk ⟨(i 0 : Nat) / 32, ht⟩).view.set = (win0_4.rect ⟨(i 0 : Nat) / 32, ht⟩).set from View.set_slice_whole ..]
  exact mem_rows (B := 32) (by decide) i (congrArg (· * 32) (e ⟨_, ht⟩)) (Nat.zero_mul 2816) rfl rfl

/-! The four result arrays: the gradient, the change, the first moment and the second. -/

theorem final_grad : (dats m 0 c).arrAt 4 cfg0.N = gradOf (P m c) :=
  (dats m 0 c).arrAt_eq_of_cover 4 _ (fun t _ => by
    rw [Value.flushed4]; unfold out0_4
    rw [View.canon_unit_zero zeros, body_sum]
    exact funext (rows_grad (place t) (rows m c t))) fun i => (in_rows i).imp fun t h => ⟨flush0_4 t, h⟩

theorem final_change : (dats m 0 c).arrAt 5 cfg0.N = changeOf (W m c) (M m c) (V m c) (P m c) :=
  (dats m 0 c).arrAt_eq_of_cover 5 _ (fun t _ => by
    rw [Value.flushed5]; unfold out0_5
    rw [View.canon_unit_zero zeros, View.ld_unit_zero zeros, View.ld_unit_zero zeros, View.ld_unit_zero zeros, body_sum]
    exact funext (rows_change (place t) (rows m c t) (W m c) (M m c) (V m c))) fun i => (in_rows i).imp fun t h => ⟨flush0_5 t, h⟩

theorem final_first : (dats m 0 c).arrAt 6 cfg0.N = firstOf (M m c) (P m c) :=
  (dats m 0 c).arrAt_eq_of_cover 6 _ (fun t _ => by
    rw [Value.flushed6]; unfold out0_6
    rw [View.canon_unit_zero zeros, View.ld_unit_zero zeros, body_sum]
    exact funext (rows_first (place t) (rows m c t) (M m c))) fun i => (in_rows i).imp fun t h => ⟨flush0_6 t, h⟩

theorem final_second : (dats m 0 c).arrAt 7 cfg0.N = secondOf (V m c) (P m c) :=
  (dats m 0 c).arrAt_eq_of_cover 7 _ (fun t _ => by
    rw [Value.flushed7]; unfold out0_7
    rw [View.canon_unit_zero zeros, View.ld_unit_zero zeros, body_sum]
    exact funext (rows_second (place t) (rows m c t) (V m c))) fun i => (in_rows i).imp fun t h => ⟨flush0_7 t, h⟩

/-- Over the extended reals the kernel and its reference compute the same four arrays. -/
theorem algebraic : Cert.algebraic_UpdateUpIdeal_UpdateUpRefIdeal := by
  intro m ρ m' ρ' _ he
  refine ⟨fun c => gradOf (F := Ideal) (P m c), fun c => changeOf (F := Ideal) (W m c) (M m c) (V m c) (P m c),
    fun c => firstOf (F := Ideal) (M m c) (P m c), fun c => secondOf (F := Ideal) (V m c) (P m c),
    (θ_run _ _ _).mono (fun _ h c => ?_) (Value.run_blocks m ρ),
    (θ_run _ _ _).mono (fun _ h c => ?_) (Cert.UpdateUpRefIdeal.Value.run m' ρ')⟩
  · obtain ⟨h0, h1, h2, h3, kept⟩ := h c
    exact ⟨h0.trans (final_grad m c), h1.trans (final_change m c), h2.trans (final_first m c), h3.trans (final_second m c), kept⟩
  · obtain ⟨h0, h1, h2, h3, kept⟩ := h c
    obtain ⟨e0, e1, e2, e3⟩ := he c
    rw [hostGrad] at h0 h1 h2 h3
    rw [e3] at h0
    rw [e0, e1, e2, e3] at h1
    rw [e1, e3] at h2
    rw [e2, e3] at h3
    exact ⟨h0, h1, h2, h3, kept⟩

end Cert.UpdateUpIdeal.Step

end
-- ==== Proof.AdamDown.lean ====
/-
  The AdamW step of the weight `ffn_w_down`, whose shard has 1408 rows and 2048 columns: each grid point takes 64 rows of the weight,
  of its moments and of its eight contributions, and writes the same rows of the gradient, the change and the new moments. So
  each result array, whole, is the step taken element by element, and so is the reference's (`algebraic`).
-/
module

public import proofs.«01_k».proof.Defs
public import proofs.«01_k».proof.Proof.Gen.UpdateDownIdeal.Value
public import proofs.«01_k».proof.Proof.Gen.UpdateDownRefIdeal.Run
public import proofs.«01_k».proof.Proof.Adam

@[expose] public section

noncomputable section

namespace Cert.UpdateDownIdeal.Step

open Cert.UpdateDownIdeal Cert.UpdateDownIdeal.Gen Cert.Adam Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The weight, its moments and its contributions, as device `c` holds them at the start. -/
abbrev W : (Whole 1408 2048).Idx → F .f32 := m ((c : Thread nD τ).loc main_arg0)
abbrev M : (Whole 1408 2048).Idx → F .f32 := m ((c : Thread nD τ).loc main_arg1)
abbrev V : (Whole 1408 2048).Idx → F .f32 := m ((c : Thread nD τ).loc main_arg2)
abbrev P : (Parts 1408 2048).Idx → F .bf16 := m ((c : Thread nD τ).loc main_arg3)

/-- The sum that the body computes, of the block of contributions `x3`. -/
theorem body_sum (x0 x1 x2 : Vec F S64x2048 .f32) (x3 : Vec F S8x64x2048 .bf16) :
    k0_pay5 x0 x1 x2 x3 = gradOf (R := 64) (C := 2048) x3 := by
  funext y
  have h := Value.canon4_eq (View.ld x3 r0_0) (View.ld x3 r0_1) (View.ld x3 r0_2) (View.ld x3 r0_3) (View.ld x3 r0_4)
    (View.ld x3 r0_5) (View.ld x3 r0_6) (View.ld x3 r0_7) y
  rw [View.canon_unit_zero zeros] at h
  have inb : ∀ (k : Fin 8) (a : Fin 3), (![(k : Nat), 0, 0] : Fin 3 → Nat) a + S1x64x2048.size a ≤ S8x64x2048.size a := by
    decide
  exact h.trans (congrArg sum8
    (a₁ := fun k : Fin 8 => View.ld x3 (Rect.unit ![(k : Nat), 0, 0] S1x64x2048.size (inb k)) (Value.ix4_0 y))
    (funext fun k : Fin 8 => read_part x3 k (inb k) _ y rfl rfl))

/-- Where element `y` of the rows of grid point `t` lies in the whole array. -/
abbrev place (t : Fin cfg0.N) (y : (Whole 64 2048).Idx) : (Whole 1408 2048).Idx := (win0_4.blk t).view.emb y

/-- The contributions that grid point `t` takes are those of its rows. -/
theorem rows (t : Fin cfg0.N) (k : Fin 8) (y : (Whole 64 2048).Idx) :
    iblk m c 3 t (at3 k y) = P m c (at3 k (place t y)) :=
  congrArg (P m c) (funext fun a => Fin.ext (match a with
    | ⟨0, _⟩ => by show 0 * 8 + 1 * (k : Nat) = k; omega
    | ⟨1, _⟩ => rfl
    | ⟨2, _⟩ => rfl))

/-- Every element lies in the rows of one grid point. -/
theorem in_rows (i : (Whole 1408 2048).Idx) : ∃ t : Fin cfg0.N, i ∈ (win0_4.blk t).view.set := by
  have h0 : (i 0 : Nat) < 1408 := (i 0).isLt
  have hN : cfg0.N = 22 := N_0
  have e : ∀ t : Fin cfg0.N, win0_4.index t 0 = t.val := by decide +kernel
  have ht : (i 0 : Nat) / 64 < cfg0.N := by omega
  refine ⟨⟨(i 0 : Nat) / 64, ht⟩, ?_⟩
  rw [show (win0_4.blk ⟨(i 0 : Nat) / 64, ht⟩).view.set = (win0_4.rect ⟨(i 0 : Nat) / 64, ht⟩).set from View.set_slice_whole ..]
  exact mem_rows (B := 64) (by decide) i (congrArg (· * 64) (e ⟨_, ht⟩)) (Nat.zero_mul 2048) rfl rfl

/-! The four result arrays: the gradient, the change, the first moment and the second. -/

theorem final_grad : (dats m 0 c).arrAt 4 cfg0.N = gradOf (P m c) :=
  (dats m 0 c).arrAt_eq_of_cover 4 _ (fun t _ => by
    rw [Value.flushed4]; unfold out0_4
    rw [View.canon_unit_zero zeros, body_sum]
    exact funext (rows_grad (place t) (rows m c t))) fun i => (in_rows i).imp fun t h => ⟨flush0_4 t, h⟩

theorem final_change : (dats m 0 c).arrAt 5 cfg0.N = changeOf (W m c) (M m c) (V m c) (P m c) :=
  (dats m 0 c).arrAt_eq_of_cover 5 _ (fun t _ => by
    rw [Value.flushed5]; unfold out0_5
    rw [View.canon_unit_zero zeros, View.ld_unit_zero zeros, View.ld_unit_zero zeros, View.ld_unit_zero zeros, body_sum]
    exact funext (rows_change (place t) (rows m c t) (W m c) (M m c) (V m c))) fun i => (in_rows i).imp fun t h => ⟨flush0_5 t, h⟩

theorem final_first : (dats m 0 c).arrAt 6 cfg0.N = firstOf (M m c) (P m c) :=
  (dats m 0 c).arrAt_eq_of_cover 6 _ (fun t _ => by
    rw [Value.flushed6]; unfold out0_6
    rw [View.canon_unit_zero zeros, View.ld_unit_zero zeros, body_sum]
    exact funext (rows_first (place t) (rows m c t) (M m c))) fun i => (in_rows i).imp fun t h => ⟨flush0_6 t, h⟩

theorem final_second : (dats m 0 c).arrAt 7 cfg0.N = secondOf (V m c) (P m c) :=
  (dats m 0 c).arrAt_eq_of_cover 7 _ (fun t _ => by
    rw [Value.flushed7]; unfold out0_7
    rw [View.canon_unit_zero zeros, View.ld_unit_zero zeros, body_sum]
    exact funext (rows_second (place t) (rows m c t) (V m c))) fun i => (in_rows i).imp fun t h => ⟨flush0_7 t, h⟩

/-- Over the extended reals the kernel and its reference compute the same four arrays. -/
theorem algebraic : Cert.algebraic_UpdateDownIdeal_UpdateDownRefIdeal := by
  intro m ρ m' ρ' _ he
  refine ⟨fun c => gradOf (F := Ideal) (P m c), fun c => changeOf (F := Ideal) (W m c) (M m c) (V m c) (P m c),
    fun c => firstOf (F := Ideal) (M m c) (P m c), fun c => secondOf (F := Ideal) (V m c) (P m c),
    (θ_run _ _ _).mono (fun _ h c => ?_) (Value.run_blocks m ρ),
    (θ_run _ _ _).mono (fun _ h c => ?_) (Cert.UpdateDownRefIdeal.Value.run m' ρ')⟩
  · obtain ⟨h0, h1, h2, h3, kept⟩ := h c
    exact ⟨h0.trans (final_grad m c), h1.trans (final_change m c), h2.trans (final_first m c), h3.trans (final_second m c), kept⟩
  · obtain ⟨h0, h1, h2, h3, kept⟩ := h c
    obtain ⟨e0, e1, e2, e3⟩ := he c
    rw [hostGrad] at h0 h1 h2 h3
    rw [e3] at h0
    rw [e0, e1, e2, e3] at h1
    rw [e1, e3] at h2
    rw [e2, e3] at h3
    exact ⟨h0, h1, h2, h3, kept⟩

end Cert.UpdateDownIdeal.Step

end
-- ==== Proof.AdamSmall.lean ====
/-
  The AdamW step of the packed small weights, an array of 2560 rows and 128 columns, whose gradient comes as one contribution
  that is already the sum: each grid point takes 512 rows of the weight, of its moments and of the contribution, and writes
  the same rows of the gradient, the change and the new moments. So each result array, whole, is the step taken element by
  element, and so is the reference's (`algebraic`).
-/
module

public import proofs.«01_k».proof.Defs
public import proofs.«01_k».proof.Proof.Gen.UpdateSmallIdeal.Value
public import proofs.«01_k».proof.Proof.Gen.UpdateSmallRefIdeal.Run
public import proofs.«01_k».proof.Proof.Adam

@[expose] public section

noncomputable section

namespace Cert.UpdateSmallIdeal.Step

open Cert.UpdateSmallIdeal Cert.UpdateSmallIdeal.Gen Cert.Adam Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The weight, its moments and its one contribution, as device `c` holds them at the start. -/
abbrev W : (Whole 2560 128).Idx → F .f32 := m ((c : Thread nD τ).loc main_arg0)
abbrev M : (Whole 2560 128).Idx → F .f32 := m ((c : Thread nD τ).loc main_arg1)
abbrev V : (Whole 2560 128).Idx → F .f32 := m ((c : Thread nD τ).loc main_arg2)
abbrev P : S1x2560x128.Idx → F .f32 := m ((c : Thread nD τ).loc main_arg3)

/-- The gradient: the one contribution. -/
abbrev grad (p : S1x2560x128.Idx → F .f32) : (Whole 2560 128).Idx → F .f32 := fun i => p (ix3 0 (i 0) (i 1))

/-- Where element `y` of the rows of grid point `t` lies in the whole array. -/
abbrev place (t : Fin cfg0.N) (y : (Whole 512 128).Idx) : (Whole 2560 128).Idx := (win0_4.blk t).view.emb y

/-- The contribution that grid point `t` takes is that of its rows. -/
theorem rows (t : Fin cfg0.N) (y : (Whole 512 128).Idx) : iblk m c 3 t (Value.ix4_0 y) = grad (P m c) (place t y) :=
  congrArg (P m c) (funext fun a => Fin.ext (match a with
    | ⟨0, _⟩ => rfl
    | ⟨1, _⟩ => rfl
    | ⟨2, _⟩ => rfl))

/-- An element of a block of rows, written out by its coordinates. -/
theorem self (y : (Whole 512 128).Idx) : Value.ix5_0 y = y :=
  funext fun a => match a with
    | ⟨0, _⟩ => rfl
    | ⟨1, _⟩ => rfl

theorem zeros3 : (![0, 0, 0] : Fin 3 → Nat) = fun _ => 0 := funext fun a => by fin_cases a <;> rfl

/-- Every element lies in the rows of one grid point. -/
theorem in_rows (i : (Whole 2560 128).Idx) : ∃ t : Fin cfg0.N, i ∈ (win0_4.blk t).view.set := by
  have h0 : (i 0 : Nat) < 2560 := (i 0).isLt
  have hN : cfg0.N = 5 := N_0
  have e : ∀ t : Fin cfg0.N, win0_4.index t 0 = t.val := by decide +kernel
  have ht : (i 0 : Nat) / 512 < cfg0.N := by omega
  refine ⟨⟨(i 0 : Nat) / 512, ht⟩, ?_⟩
  rw [show (win0_4.blk ⟨(i 0 : Nat) / 512, ht⟩).view.set = (win0_4.rect ⟨(i 0 : Nat) / 512, ht⟩).set from View.set_slice_whole ..]
  exact mem_rows (B := 512) (by decide) i (congrArg (· * 512) (e ⟨_, ht⟩)) (Nat.zero_mul 128) rfl rfl

/-! The four result arrays: the gradient, the change, the first moment and the second. -/

theorem final_grad : (dats m 0 c).arrAt 4 cfg0.N = grad (P m c) :=
  (dats m 0 c).arrAt_eq_of_cover 4 _ (fun t _ => by
    rw [Value.flushed4]; unfold out0_4
    rw [View.ld_unit_zero zeros3]
    exact funext fun y => (Value.canon4_eq _ y).trans (rows m c t y)) fun i => (in_rows i).imp fun t h => ⟨flush0_4 t, h⟩

theorem final_change : (dats m 0 c).arrAt 5 cfg0.N
    = fun i => change (W m c i) (first (M m c i) (grad (P m c) i)) (second (V m c i) (grad (P m c) i)) :=
  (dats m 0 c).arrAt_eq_of_cover 5 _ (fun t _ => by
    rw [Value.flushed5]; unfold out0_5
    rw [View.ld_unit_zero zeros3, View.ld_unit_zero zeros, View.ld_unit_zero zeros, View.ld_unit_zero zeros]
    refine funext fun y => (Value.canon5_eq _ _ _ _ y).trans ?_
    show change (iblk m c 0 t (Value.ix5_0 y)) (first (iblk m c 1 t (Value.ix5_0 y)) (iblk m c 3 t (Value.ix4_0 y)))
      (second (iblk m c 2 t (Value.ix5_0 y)) (iblk m c 3 t (Value.ix4_0 y))) = _
    rw [rows, self]
    rfl) fun i => (in_rows i).imp fun t h => ⟨flush0_5 t, h⟩

theorem final_first : (dats m 0 c).arrAt 6 cfg0.N = fun i => first (M m c i) (grad (P m c) i) :=
  (dats m 0 c).arrAt_eq_of_cover 6 _ (fun t _ => by
    rw [Value.flushed6]; unfold out0_6
    rw [View.ld_unit_zero zeros3, View.ld_unit_zero zeros]
    refine funext fun y => (Value.canon6_eq _ _ y).trans ?_
    show first (iblk m c 1 t (Value.ix5_0 y)) (iblk m c 3 t (Value.ix4_0 y)) = _
    rw [rows, self]
    rfl) fun i => (in_rows i).imp fun t h => ⟨flush0_6 t, h⟩

theorem final_second : (dats m 0 c).arrAt 7 cfg0.N = fun i => second (V m c i) (grad (P m c) i) :=
  (dats m 0 c).arrAt_eq_of_cover 7 _ (fun t _ => by
    rw [Value.flushed7]; unfold out0_7
    rw [View.ld_unit_zero zeros3, View.ld_unit_zero zeros]
    refine funext fun y => (Value.canon7_eq _ _ y).trans ?_
    show second (iblk m c 2 t (Value.ix5_0 y)) (iblk m c 3 t (Value.ix4_0 y)) = _
    rw [rows, self]
    rfl) fun i => (in_rows i).imp fun t h => ⟨flush0_7 t, h⟩

/-- The reference sums the one contribution along its axis of length one. -/
theorem host_grad (p : FVec Ideal S1x2560x128 .f32) (h : S1x2560x128.ReducesTo [0] (Whole 2560 128))
    (hu : 0 < (⟨0, ![]⟩ : Shape).numel) : Host.reduceAdd p (constant ⟨0, ![]⟩ .f32 0x00000000#32) h hu = grad (F := Ideal) p := by
  funext i
  rw [ValueIdx.hostReduceAdd_apply, Ideal.hostReduceAdd_r3_a0]
  show Ideal.ofBits .f32 0x00000000#32 + _ = _
  rw [Ideal.ofBits_zero_f32, zero_add, Fin.sum_univ_one]
  rfl

/-- Over the extended reals the kernel and its reference compute the same four arrays. -/
theorem algebraic : Cert.algebraic_UpdateSmallIdeal_UpdateSmallRefIdeal := by
  intro m ρ m' ρ' _ he
  refine ⟨fun c => grad (F := Ideal) (P m c),
    fun c i => change (F := Ideal) (W m c i) (first (M m c i) (grad (P m c) i)) (second (V m c i) (grad (P m c) i)),
    fun c i => first (F := Ideal) (M m c i) (grad (P m c) i), fun c i => second (F := Ideal) (V m c i) (grad (P m c) i),
    (θ_run _ _ _).mono (fun _ h c => ?_) (Value.run_blocks m ρ),
    (θ_run _ _ _).mono (fun _ h c => ?_) (Cert.UpdateSmallRefIdeal.Value.run m' ρ')⟩
  · obtain ⟨h0, h1, h2, h3, kept⟩ := h c
    exact ⟨h0.trans (final_grad m c), h1.trans (final_change m c), h2.trans (final_first m c), h3.trans (final_second m c), kept⟩
  · obtain ⟨h0, h1, h2, h3, kept⟩ := h c
    obtain ⟨e0, e1, e2, e3⟩ := he c
    rw [host_grad] at h0 h1 h2 h3
    rw [e3] at h0
    rw [e0, e1, e2, e3] at h1
    rw [e1, e3] at h2
    rw [e2, e3] at h3
    exact ⟨h0, h1, h2, h3, kept⟩

end Cert.UpdateSmallIdeal.Step

end
-- ==== Proof.Product.lean ====
/-
  Products of two arrays over the extended reals, element by element (`prod`, and `prodN` and `prodT` with the right or the
  left array transposed): a block of a product is the product of the rows and columns that the block lies in (`prod_block`),
  or the sum of such products over stretches of the numbers multiplied (`prod_stretches`).
-/
module

public import Idealize.ShloMosaic.Lib.Pipeline.Value
public import Idealize.ShloMosaic.Lib.IdealHost
public import Idealize.ShloMosaic.Lib.Pointwise
public import Idealize.ShloMosaic.Lib.Pipeline.ValueKit
public import Idealize.ShloMosaic.Lib.Pipeline.ReadBack

@[expose] public section

noncomputable section

namespace Cert.Product

open Idealize.ShloMosaic

/-- An array with `R` rows and `C` columns. -/
abbrev Whole (R C : Nat) : Shape := ⟨2, ![R, C]⟩

variable {M K N : Nat}

/-- The product `a b`. -/
def prod (a : (Whole M K).Idx → EReal) (b : (Whole K N).Idx → EReal) : (Whole M N).Idx → EReal :=
  fun i => ∑ k : Fin K, a (ix2 (i 0) k) * b (ix2 k (i 1))

/-- The product of `a` transposed and `b`. -/
def prodT (a : (Whole K M).Idx → EReal) (b : (Whole K N).Idx → EReal) : (Whole M N).Idx → EReal :=
  fun i => ∑ k : Fin K, a (ix2 k (i 0)) * b (ix2 k (i 1))

/-- The two arrays, added. -/
def added (x p : (Whole M N).Idx → EReal) : (Whole M N).Idx → EReal := fun i => x i + p i

/-- The product of `a` and `b` transposed. -/
def prodN (a : (Whole M K).Idx → EReal) (b : (Whole N K).Idx → EReal) : (Whole M N).Idx → EReal :=
  fun i => ∑ k : Fin K, a (ix2 (i 0) k) * b (ix2 (i 1) k)

/-- Block element `y` is element `z` of the product of `A` and `B`: the rows of `A` and the columns of `B` that lie at `z` make it. -/
theorem prod_block {m n : Nat} {x : (Whole m K).Idx → EReal} {w : (Whole K n).Idx → EReal} {A : (Whole M K).Idx → EReal}
    {B : (Whole K N).Idx → EReal} (y : (Whole m n).Idx) (z : (Whole M N).Idx) (hx : ∀ k, x (ix2 (y 0) k) = A (ix2 (z 0) k))
    (hw : ∀ k, w (ix2 k (y 1)) = B (ix2 k (z 1))) : prod x w y = prod A B z :=
  Finset.sum_congr rfl fun k _ => congrArg₂ (· * ·) (hx k) (hw k)

theorem prodN_block {m n : Nat} {x : (Whole m K).Idx → EReal} {w : (Whole n K).Idx → EReal} {A : (Whole M K).Idx → EReal}
    {B : (Whole N K).Idx → EReal} (y : (Whole m n).Idx) (z : (Whole M N).Idx) (hx : ∀ k, x (ix2 (y 0) k) = A (ix2 (z 0) k))
    (hw : ∀ k, w (ix2 (y 1) k) = B (ix2 (z 1) k)) : prodN x w y = prodN A B z :=
  Finset.sum_congr rfl fun k _ => congrArg₂ (· * ·) (hx k) (hw k)

theorem prodT_block {m n : Nat} {x : (Whole K m).Idx → EReal} {w : (Whole K n).Idx → EReal} {A : (Whole K M).Idx → EReal}
    {B : (Whole K N).Idx → EReal} (y : (Whole m n).Idx) (z : (Whole M N).Idx) (hx : ∀ k, x (ix2 k (y 0)) = A (ix2 k (z 0)))
    (hw : ∀ k, w (ix2 k (y 1)) = B (ix2 k (z 1))) : prodT x w y = prodT A B z :=
  Finset.sum_congr rfl fun k _ => congrArg₂ (· * ·) (hx k) (hw k)

/-- The same for a product summed over `S` stretches of `K` numbers of the rows or columns multiplied. -/
theorem prod_stretches {m n S : Nat} {x : Fin S → (Whole m K).Idx → EReal} {w : Fin S → (Whole K n).Idx → EReal} {L : Nat}
    {A : (Whole M L).Idx → EReal} {B : (Whole L N).Idx → EReal} (y : (Whole m n).Idx) (z : (Whole M N).Idx)
    (hL : L = S * K) (hx : ∀ s k (h : s.val * K + k.val < L), x s (ix2 (y 0) k) = A (ix2 (z 0) ⟨s.val * K + k.val, h⟩))
    (hw : ∀ s k (h : s.val * K + k.val < L), w s (ix2 k (y 1)) = B (ix2 ⟨s.val * K + k.val, h⟩ (z 1))) :
    ∑ s : Fin S, prod (x s) (w s) y = prod A B z :=
  Fin.sum_mul_add_congr (fun s k h => congrArg₂ (· * ·) (hx s k h) (hw s k h)) hL

theorem prodN_stretches {m n S : Nat} {x : Fin S → (Whole m K).Idx → EReal} {w : Fin S → (Whole n K).Idx → EReal} {L : Nat}
    {A : (Whole M L).Idx → EReal} {B : (Whole N L).Idx → EReal} (y : (Whole m n).Idx) (z : (Whole M N).Idx)
    (hL : L = S * K) (hx : ∀ s k (h : s.val * K + k.val < L), x s (ix2 (y 0) k) = A (ix2 (z 0) ⟨s.val * K + k.val, h⟩))
    (hw : ∀ s k (h : s.val * K + k.val < L), w s (ix2 (y 1) k) = B (ix2 (z 1) ⟨s.val * K + k.val, h⟩)) :
    ∑ s : Fin S, prodN (x s) (w s) y = prodN A B z :=
  Fin.sum_mul_add_congr (fun s k h => congrArg₂ (· * ·) (hx s k h) (hw s k h)) hL

theorem prodT_stretches {m n S : Nat} {x : Fin S → (Whole K m).Idx → EReal} {w : Fin S → (Whole K n).Idx → EReal} {L : Nat}
    {A : (Whole L M).Idx → EReal} {B : (Whole L N).Idx → EReal} (y : (Whole m n).Idx) (z : (Whole M N).Idx)
    (hL : L = S * K) (hx : ∀ s k (h : s.val * K + k.val < L), x s (ix2 k (y 0)) = A (ix2 ⟨s.val * K + k.val, h⟩ (z 0)))
    (hw : ∀ s k (h : s.val * K + k.val < L), w s (ix2 k (y 1)) = B (ix2 ⟨s.val * K + k.val, h⟩ (z 1))) :
    ∑ s : Fin S, prodT (x s) (w s) y = prodT A B z :=
  Fin.sum_mul_add_congr (fun s k h => congrArg₂ (· * ·) (hx s k h) (hw s k h)) hL

/-- Two places of an array whose coordinates are equal are one. -/
theorem ext2 {R C : Nat} {i j : (Whole R C).Idx} (h0 : (i 0 : Nat) = j 0) (h1 : (i 1 : Nat) = j 1) : i = j :=
  funext fun a => Fin.ext (match a with | ⟨0, _⟩ => h0 | ⟨1, _⟩ => h1)

end Cert.Product

end
-- ==== Proof.Forward.lean ====
/-
  The products of the forward pass that one grid point computes block by block in one go: the input projection (`In`), the
  two halves of the feed-forward layer's first product (`Up`), the queries (`Query`) and the keys and values (`Key`). Each
  block of a result is the product of its rows of the left array and its columns of the right one, so each result, whole, is
  the product of the whole arrays, and so is the reference's.
-/
module

public import proofs.«01_k».proof.Defs
public import proofs.«01_k».proof.Proof.Gen.InIdeal.Value
public import proofs.«01_k».proof.Proof.Gen.InRefIdeal.Run
public import proofs.«01_k».proof.Proof.Gen.UpIdeal.Value
public import proofs.«01_k».proof.Proof.Gen.UpRefIdeal.Run
public import proofs.«01_k».proof.Proof.Gen.QueryIdeal.Value
public import proofs.«01_k».proof.Proof.Gen.QueryRefIdeal.Run
public import proofs.«01_k».proof.Proof.Gen.KeyIdeal.Value
public import proofs.«01_k».proof.Proof.Gen.KeyRefIdeal.Run
public import proofs.«01_k».proof.Proof.Product

@[expose] public section

noncomputable section

namespace Cert.InIdeal.Step

open Cert.InIdeal Cert.InIdeal.Gen Cert.Product Idealize.ShloMosaic Idealize.ShloMosaic.TcCoe Idealize.SL.Sem

theorem index_facts : ∀ t : Fin cfg0.N, win0_0.index t = ![(grid0.coords t 0).val, 0]
    ∧ win0_1.index t = ![0, (grid0.coords t 1).val]
    ∧ win0_2.index t = ![(grid0.coords t 0).val, (grid0.coords t 1).val] := by decide +kernel

theorem final (m : (ℓ : Loc nD τ sig) → Buf (Elt Ideal) ℓ) (c : Dev nD) : (dats m 0 c).arrAt 2 cfg0.N
    = prod (M := 8192) (K := 2048) (N := 6144) (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans (b := prod (M := 1024) (K := 2048) (N := 1024) (iblk m c 0 t) (iblk m c 1 t) y) (by pointwise [k0_pay1, prod]) ?_
  exact prod_block y _ (fun k => by blk_ext [iblk, V, index_facts t]) (fun k => by blk_ext [iblk, V, index_facts t])

theorem algebraic : Cert.algebraic_InIdeal_InRefIdeal := by
  intro m ρ m' ρ' _ he
  refine ⟨fun c => prod (M := 8192) (K := 2048) (N := 6144) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ?_) (Cert.InRefIdeal.Value.run m' ρ')⟩
  obtain ⟨h0, kept⟩ := h c
  rw [(he c).1, (he c).2] at h0
  exact ⟨h0.trans (funext fun y => by pointwise [prod]), kept⟩

end Cert.InIdeal.Step

namespace Cert.UpIdeal.Step

open Cert.UpIdeal Cert.UpIdeal.Gen Cert.Product Idealize.ShloMosaic Idealize.ShloMosaic.TcCoe Idealize.SL.Sem

theorem index_facts : ∀ t : Fin cfg0.N, win0_0.index t = ![(grid0.coords t 0).val, 0]
    ∧ win0_1.index t = ![0, (grid0.coords t 1).val]
    ∧ win0_2.index t = ![(grid0.coords t 0).val, (grid0.coords t 1).val] := by decide +kernel

theorem final (m : (ℓ : Loc nD τ sig) → Buf (Elt Ideal) ℓ) (c : Dev nD) : (dats m 0 c).arrAt 2 cfg0.N
    = prod (M := 8192) (K := 2048) (N := 11264) (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans (b := prod (M := 1024) (K := 2048) (N := 1024) (iblk m c 0 t) (iblk m c 1 t) y) (by pointwise [k0_pay1, prod]) ?_
  exact prod_block y _ (fun k => by blk_ext [iblk, V, index_facts t]) (fun k => by blk_ext [iblk, V, index_facts t])

theorem algebraic : Cert.algebraic_UpIdeal_UpRefIdeal := by
  intro m ρ m' ρ' _ he
  refine ⟨fun c => prod (M := 8192) (K := 2048) (N := 11264) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ?_) (Cert.UpRefIdeal.Value.run m' ρ')⟩
  obtain ⟨h0, kept⟩ := h c
  rw [(he c).1, (he c).2] at h0
  exact ⟨h0.trans (funext fun y => by pointwise [prod]), kept⟩

end Cert.UpIdeal.Step

namespace Cert.QueryIdeal.Step

open Cert.QueryIdeal Cert.QueryIdeal.Gen Cert.Product Idealize.ShloMosaic Idealize.ShloMosaic.TcCoe Idealize.SL.Sem

theorem index_facts : ∀ t : Fin cfg0.N, win0_0.index t = ![(grid0.coords t 0).val, 0]
    ∧ win0_1.index t = ![0, (grid0.coords t 1).val]
    ∧ win0_2.index t = ![(grid0.coords t 0).val, (grid0.coords t 1).val] := by decide +kernel

theorem final (m : (ℓ : Loc nD τ sig) → Buf (Elt Ideal) ℓ) (c : Dev nD) : (dats m 0 c).arrAt 2 cfg0.N
    = prod (M := 8192) (K := 2048) (N := 2048) (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans (b := prod (M := 1024) (K := 2048) (N := 1024) (iblk m c 0 t) (iblk m c 1 t) y) (by pointwise [k0_pay1, prod]) ?_
  exact prod_block y _ (fun k => by blk_ext [iblk, V, index_facts t]) (fun k => by blk_ext [iblk, V, index_facts t])

theorem algebraic : Cert.algebraic_QueryIdeal_QueryRefIdeal := by
  intro m ρ m' ρ' _ he
  refine ⟨fun c => prod (M := 8192) (K := 2048) (N := 2048) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ?_) (Cert.QueryRefIdeal.Value.run m' ρ')⟩
  obtain ⟨h0, kept⟩ := h c
  rw [(he c).1, (he c).2] at h0
  exact ⟨h0.trans (funext fun y => by pointwise [prod]), kept⟩

end Cert.QueryIdeal.Step

namespace Cert.KeyIdeal.Step

open Cert.KeyIdeal Cert.KeyIdeal.Gen Cert.Product Idealize.ShloMosaic Idealize.ShloMosaic.TcCoe Idealize.SL.Sem

theorem index_facts : ∀ t : Fin cfg0.N, win0_0.index t = ![(grid0.coords t 0).val, 0]
    ∧ win0_1.index t = ![0, (grid0.coords t 1).val]
    ∧ win0_2.index t = ![(grid0.coords t 0).val, (grid0.coords t 1).val] := by decide +kernel

theorem final (m : (ℓ : Loc nD τ sig) → Buf (Elt Ideal) ℓ) (c : Dev nD) : (dats m 0 c).arrAt 2 cfg0.N
    = prod (M := 256) (K := 2048) (N := 2048) (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans (b := prod (M := 256) (K := 2048) (N := 1024) (iblk m c 0 t) (iblk m c 1 t) y) (by pointwise [k0_pay1, prod]) ?_
  exact prod_block y _ (fun k => by blk_ext [iblk, V, index_facts t]) (fun k => by blk_ext [iblk, V, index_facts t])

theorem algebraic : Cert.algebraic_KeyIdeal_KeyRefIdeal := by
  intro m ρ m' ρ' _ he
  refine ⟨fun c => prod (M := 256) (K := 2048) (N := 2048) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ?_) (Cert.KeyRefIdeal.Value.run m' ρ')⟩
  obtain ⟨h0, kept⟩ := h c
  rw [(he c).1, (he c).2] at h0
  exact ⟨h0.trans (funext fun y => by pointwise [prod]), kept⟩

end Cert.KeyIdeal.Step

end
-- ==== Proof.Halves.lean ====
/-
  Products of 8192 rows of 5632 or 6144 numbers with a weight: the last product of the forward pass (`Down`), and the cotangents
  of the normed rows in the backward pass (`BackIn`, `BackUpLeft`, `BackUpRight`). Two grid points in a row compute one block
  of the result, each taking half of the numbers: the first starts a sum, the second adds to it and writes it out. The two
  halves together are all the numbers, so the result, whole, is the product of the whole arrays, and so is the reference's.
-/
module

public import proofs.«01_k».proof.Defs
public import proofs.«01_k».proof.Proof.Gen.DownIdeal.Value
public import proofs.«01_k».proof.Proof.Gen.DownRefIdeal.Run
public import proofs.«01_k».proof.Proof.Gen.BackInIdeal.Value
public import proofs.«01_k».proof.Proof.Gen.BackInRefIdeal.Run
public import proofs.«01_k».proof.Proof.Gen.BackUpLeftIdeal.Value
public import proofs.«01_k».proof.Proof.Gen.BackUpLeftRefIdeal.Run
public import proofs.«01_k».proof.Proof.Gen.BackUpRightIdeal.Value
public import proofs.«01_k».proof.Proof.Gen.BackUpRightRefIdeal.Run
public import proofs.«01_k».proof.Proof.Product

@[expose] public section

noncomputable section

namespace Cert.Product

open Idealize.ShloMosaic

/-- The 5632 columns of a weight from column `o` on. -/
def cols (o : Fin 5633) (w : (Whole 2048 11264).Idx → EReal) : (Whole 2048 5632).Idx → EReal :=
  fun i => w (ix2 (i 0) ⟨o.val + (i 1 : Nat), Nat.lt_of_lt_of_le (Nat.add_lt_add_left (i 1).isLt _)
    (Nat.add_le_add_right (Nat.le_of_lt_succ o.isLt) _)⟩)

end Cert.Product

namespace Cert.DownIdeal.Step

open Cert.DownIdeal Cert.DownIdeal.Gen Cert.Product Idealize.ShloMosaic Idealize.ShloMosaic.TcCoe Idealize.SL.Sem

variable (m : (ℓ : Loc nD τ sig) → Buf (Elt Ideal) ℓ) (c : Dev nD)

/-- The product of the blocks of grid point `t`. -/
abbrev part (t : Fin cfg0.N) : (Whole 1024 1024).Idx → EReal :=
  prod (M := 1024) (K := 2816) (N := 1024) (iblk m c 0 t) (iblk m c 1 t)

/-- The array of the third argument, with the product of the first two, whole, added. -/
abbrev whole : (Whole 8192 2048).Idx → EReal :=
  added (m ((c : Thread nD τ).loc main_arg2))
    (prod (M := 8192) (K := 5632) (N := 2048) (m ((c : Thread nD τ).loc main_arg0)) (m ((c : Thread nD τ).loc main_arg1)))

theorem pay_next (a : Vec Ideal S1024x2816 .bf16) (b : Vec Ideal S2816x1024 .bf16) (x : Vec Ideal S1024x1024 .f32)
    (y : (Whole 1024 1024).Idx) : k0_pay3 a b x y = x y + prod (M := 1024) (K := 2816) (N := 1024) a b y := by
  pointwise [k0_pay3, k0_pay1, prod]

/-- The first of the two grid points of a block of the result starts the sum; -/
theorem acc_first (t : Fin cfg0.N) (h0 : t.val % 2 = 0) (y : (Whole 1024 1024).Idx) :
    (outsAt0 m c t.val t.isLt).2 y = (fun _ => 0 : (Whole 1024 1024).Idx → EReal) y + part m c t y := by
  rw [outsAt0_A m c t h0 (by omega) (by omega), zero_add]
  frame_out
  pointwise [k0_pay2, k0_pay1, part, prod]

/-- the second adds to it -/
theorem acc_next (t : Fin cfg0.N) (h0 : ¬ t.val % 2 = 0) (y : (Whole 1024 1024).Idx) : (outsAt0 m c t.val t.isLt).2 y
    = (outsAt0 m c (t.val - 1) (Nat.lt_of_le_of_lt (Nat.sub_le _ _) t.isLt)).2 y + part m c t y := by
  rw [outsAt0_B m c t h0 (by omega) (by omega)]
  frame_out
  rw [read_unread_whole, pay_next]

/-- and writes it out, with the third argument's block added. -/
theorem acc_last (t : Fin cfg0.N) (h2 : t.val % 2 = 1) (y : (Whole 1024 1024).Idx) : (outsAt0 m c t.val t.isLt).1 y
    = (show EReal from iblk m c 2 t y) + ∑ s : Fin 2, part m c ⟨2 * (t.val / 2) + s.val, Pipeline.run_point_lt_of_flush t h2 s⟩ y := by
  have h : (outsAt0 m c t.val t.isLt).1 y = (show EReal from iblk m c 2 t y) + (outsAt0 m c t.val t.isLt).2 y := by
    rw [outsAt0_B m c t (by omega) h2 h2]
    frame_out
    exact add_comm _ _
  rw [h, Pipeline.eq_sum_fin_of_reset_step_apply_of_flush (fun n h => (outsAt0 m c n h).2) 2 (fun _ => 0) (part m c)
    (acc_first m c) (acc_next m c) t h2 y]
  exact congrArg _ (zero_add _)

theorem index_facts : ∀ (t : Fin cfg0.N) (s : Fin 2) (u : Fin cfg0.N), u.val = 2 * (t.val / 2) + s.val →
    win0_0.index u = ![(grid0.coords t 0).val, s.val] ∧ win0_1.index u = ![s.val, (grid0.coords t 1).val]
    ∧ win0_2.index t = ![(grid0.coords t 0).val, (grid0.coords t 1).val]
    ∧ win0_3.index t = ![(grid0.coords t 0).val, (grid0.coords t 1).val] := by decide +kernel

theorem final : (dats m 0 c).arrAt 3 cfg0.N = whole m c := by
  refine (dats m 0 c).arrAt_eq_of_covers 3 _ (by decide +kernel) fun t hf y => ?_
  have h2 := (flush0_3 t).mp hf
  blk_simp; rw [after0_3]
  refine (acc_last m c t h2 y).trans (congrArg₂ (· + ·) (by blk_ext [iblk, V, index_facts t 1 t (by simp; omega)]) ?_)
  exact prod_stretches (K := 2816) (S := 2) y _ (by decide)
    (fun s k h => by blk_ext [iblk, V, index_facts t s ⟨_, Pipeline.run_point_lt_of_flush t h2 s⟩ rfl])
    (fun s k h => by blk_ext [iblk, V, index_facts t s ⟨_, Pipeline.run_point_lt_of_flush t h2 s⟩ rfl])

theorem algebraic : Cert.algebraic_DownIdeal_DownRefIdeal := by
  intro m ρ m' ρ' _ he
  refine ⟨whole m, (θ_run _ _ _).mono (fun _ h c => ⟨(h c).1.trans (final m c), (h c).2⟩) (Value.run_blocks m ρ),
    (θ_run _ _ _).mono (fun _ h c => ?_) (Cert.DownRefIdeal.Value.run m' ρ')⟩
  obtain ⟨h0, kept⟩ := h c
  rw [(he c).1, (he c).2.1, (he c).2.2] at h0
  exact ⟨h0.trans (funext fun y => by pointwise [added, prod]), kept⟩

end Cert.DownIdeal.Step

namespace Cert.BackInIdeal.Step

open Cert.BackInIdeal Cert.BackInIdeal.Gen Cert.Product Idealize.ShloMosaic Idealize.ShloMosaic.TcCoe Idealize.SL.Sem

variable (m : (ℓ : Loc nD τ sig) → Buf (Elt Ideal) ℓ) (c : Dev nD)

/-- The product of the blocks of grid point `t`. -/
abbrev part (t : Fin cfg0.N) : (Whole 1024 1024).Idx → EReal :=
  prodN (M := 1024) (K := 3072) (N := 1024) (iblk m c 0 t) (iblk m c 1 t)

/-- The arguments' product, whole. -/
abbrev whole : (Whole 8192 2048).Idx → EReal :=
  prodN (M := 8192) (K := 6144) (N := 2048) (m ((c : Thread nD τ).loc main_arg0)) (m ((c : Thread nD τ).loc main_arg1))

theorem pay_next (a : Vec Ideal S1024x3072 .bf16) (b : Vec Ideal S1024x3072 .bf16) (x : Vec Ideal S1024x1024 .f32)
    (y : (Whole 1024 1024).Idx) : k0_pay3 a b x y = x y + prodN (M := 1024) (K := 3072) (N := 1024) a b y := by
  pointwise [k0_pay3, k0_pay1, prodN]

/-- The first of the two grid points of a block of the result starts the sum; -/
theorem acc_first (t : Fin cfg0.N) (h0 : t.val % 2 = 0) (y : (Whole 1024 1024).Idx) :
    (outsAt0 m c t.val t.isLt).2 y = (fun _ => 0 : (Whole 1024 1024).Idx → EReal) y + part m c t y := by
  rw [outsAt0_A m c t h0 (by omega) (by omega), zero_add]
  frame_out
  pointwise [k0_pay2, k0_pay1, part, prodN]

/-- the second adds to it -/
theorem acc_next (t : Fin cfg0.N) (h0 : ¬ t.val % 2 = 0) (y : (Whole 1024 1024).Idx) : (outsAt0 m c t.val t.isLt).2 y
    = (outsAt0 m c (t.val - 1) (Nat.lt_of_le_of_lt (Nat.sub_le _ _) t.isLt)).2 y + part m c t y := by
  rw [outsAt0_B m c t h0 (by omega) (by omega)]
  frame_out
  rw [read_unread_whole, pay_next]

/-- and writes it out. -/
theorem acc_last (t : Fin cfg0.N) (h2 : t.val % 2 = 1) (y : (Whole 1024 1024).Idx) : (outsAt0 m c t.val t.isLt).1 y
    = ∑ s : Fin 2, part m c ⟨2 * (t.val / 2) + s.val, Pipeline.run_point_lt_of_flush t h2 s⟩ y := by
  have h : (outsAt0 m c t.val t.isLt).1 y = (outsAt0 m c t.val t.isLt).2 y := by
    rw [outsAt0_B m c t (by omega) h2 h2]
    frame_out
  rw [h, Pipeline.eq_sum_fin_of_reset_step_apply_of_flush (fun n h => (outsAt0 m c n h).2) 2 (fun _ => 0) (part m c)
    (acc_first m c) (acc_next m c) t h2 y]
  exact zero_add _

theorem index_facts : ∀ (t : Fin cfg0.N) (s : Fin 2) (u : Fin cfg0.N), u.val = 2 * (t.val / 2) + s.val →
    win0_0.index u = ![(grid0.coords t 0).val, s.val] ∧ win0_1.index u = ![(grid0.coords t 1).val, s.val]
    ∧ win0_2.index t = ![(grid0.coords t 0).val, (grid0.coords t 1).val] := by decide +kernel

theorem final : (dats m 0 c).arrAt 2 cfg0.N = whole m c := by
  refine (dats m 0 c).arrAt_eq_of_covers 2 _ (by decide +kernel) fun t hf y => ?_
  have h2 := (flush0_2 t).mp hf
  blk_simp; rw [after0_2]
  refine (acc_last m c t h2 y).trans ?_
  exact prodN_stretches (K := 3072) (S := 2) y _ (by decide)
    (fun s k h => by blk_ext [iblk, V, index_facts t s ⟨_, Pipeline.run_point_lt_of_flush t h2 s⟩ rfl])
    (fun s k h => by blk_ext [iblk, V, index_facts t s ⟨_, Pipeline.run_point_lt_of_flush t h2 s⟩ rfl])

theorem algebraic : Cert.algebraic_BackInIdeal_BackInRefIdeal := by
  intro m ρ m' ρ' _ he
  refine ⟨whole m, (θ_run _ _ _).mono (fun _ h c => ⟨(h c).1.trans (final m c), (h c).2⟩) (Value.run_blocks m ρ),
    (θ_run _ _ _).mono (fun _ h c => ?_) (Cert.BackInRefIdeal.Value.run m' ρ')⟩
  obtain ⟨h0, kept⟩ := h c
  rw [(he c).1, (he c).2] at h0
  exact ⟨h0.trans (funext fun y => by pointwise [prodN]), kept⟩

end Cert.BackInIdeal.Step

namespace Cert.BackUpLeftIdeal.Step

open Cert.BackUpLeftIdeal Cert.BackUpLeftIdeal.Gen Cert.Product Idealize.ShloMosaic Idealize.ShloMosaic.TcCoe Idealize.SL.Sem

variable (m : (ℓ : Loc nD τ sig) → Buf (Elt Ideal) ℓ) (c : Dev nD)

/-- The product of the blocks of grid point `t`. -/
abbrev part (t : Fin cfg0.N) : (Whole 1024 1024).Idx → EReal :=
  prodN (M := 1024) (K := 2816) (N := 1024) (iblk m c 0 t) (iblk m c 1 t)

/-- The product with the left half of the columns of the weight. -/
abbrev whole : (Whole 8192 2048).Idx → EReal :=
  prodN (M := 8192) (K := 5632) (N := 2048) (m ((c : Thread nD τ).loc main_arg0)) (cols 0 (m ((c : Thread nD τ).loc main_arg1)))

theorem pay_next (a : Vec Ideal S1024x2816 .bf16) (b : Vec Ideal S1024x2816 .bf16) (x : Vec Ideal S1024x1024 .f32)
    (y : (Whole 1024 1024).Idx) : k0_pay3 a b x y = x y + prodN (M := 1024) (K := 2816) (N := 1024) a b y := by
  pointwise [k0_pay3, k0_pay1, prodN]

/-- The first of the two grid points of a block of the result starts the sum; -/
theorem acc_first (t : Fin cfg0.N) (h0 : t.val % 2 = 0) (y : (Whole 1024 1024).Idx) :
    (outsAt0 m c t.val t.isLt).2 y = (fun _ => 0 : (Whole 1024 1024).Idx → EReal) y + part m c t y := by
  rw [outsAt0_A m c t h0 (by omega) (by omega), zero_add]
  frame_out
  pointwise [k0_pay2, k0_pay1, part, prodN]

/-- the second adds to it -/
theorem acc_next (t : Fin cfg0.N) (h0 : ¬ t.val % 2 = 0) (y : (Whole 1024 1024).Idx) : (outsAt0 m c t.val t.isLt).2 y
    = (outsAt0 m c (t.val - 1) (Nat.lt_of_le_of_lt (Nat.sub_le _ _) t.isLt)).2 y + part m c t y := by
  rw [outsAt0_B m c t h0 (by omega) (by omega)]
  frame_out
  rw [read_unread_whole, pay_next]

/-- and writes it out. -/
theorem acc_last (t : Fin cfg0.N) (h2 : t.val % 2 = 1) (y : (Whole 1024 1024).Idx) : (outsAt0 m c t.val t.isLt).1 y
    = ∑ s : Fin 2, part m c ⟨2 * (t.val / 2) + s.val, Pipeline.run_point_lt_of_flush t h2 s⟩ y := by
  have h : (outsAt0 m c t.val t.isLt).1 y = (outsAt0 m c t.val t.isLt).2 y := by
    rw [outsAt0_B m c t (by omega) h2 h2]
    frame_out
  rw [h, Pipeline.eq_sum_fin_of_reset_step_apply_of_flush (fun n h => (outsAt0 m c n h).2) 2 (fun _ => 0) (part m c)
    (acc_first m c) (acc_next m c) t h2 y]
  exact zero_add _

theorem index_facts : ∀ (t : Fin cfg0.N) (s : Fin 2) (u : Fin cfg0.N), u.val = 2 * (t.val / 2) + s.val →
    win0_0.index u = ![(grid0.coords t 0).val, s.val] ∧ win0_1.index u = ![(grid0.coords t 1).val, s.val]
    ∧ win0_2.index t = ![(grid0.coords t 0).val, (grid0.coords t 1).val] := by decide +kernel

theorem final : (dats m 0 c).arrAt 2 cfg0.N = whole m c := by
  refine (dats m 0 c).arrAt_eq_of_covers 2 _ (by decide +kernel) fun t hf y => ?_
  have h2 := (flush0_2 t).mp hf
  blk_simp; rw [after0_2]
  refine (acc_last m c t h2 y).trans ?_
  exact prodN_stretches (K := 2816) (S := 2) y _ (by decide)
    (fun s k h => by blk_ext [iblk, V, index_facts t s ⟨_, Pipeline.run_point_lt_of_flush t h2 s⟩ rfl])
    (fun s k h => by blk_ext [iblk, V, cols, index_facts t s ⟨_, Pipeline.run_point_lt_of_flush t h2 s⟩ rfl])

theorem algebraic : Cert.algebraic_BackUpLeftIdeal_BackUpLeftRefIdeal := by
  intro m ρ m' ρ' _ he
  refine ⟨whole m, (θ_run _ _ _).mono (fun _ h c => ⟨(h c).1.trans (final m c), (h c).2⟩) (Value.run_blocks m ρ),
    (θ_run _ _ _).mono (fun _ h c => ?_) (Cert.BackUpLeftRefIdeal.Value.run m' ρ')⟩
  obtain ⟨h0, kept⟩ := h c
  rw [(he c).1, (he c).2] at h0
  exact ⟨h0.trans (funext fun y => by pointwise [cols, prodN]), kept⟩

end Cert.BackUpLeftIdeal.Step

namespace Cert.BackUpRightIdeal.Step

open Cert.BackUpRightIdeal Cert.BackUpRightIdeal.Gen Cert.Product Idealize.ShloMosaic Idealize.ShloMosaic.TcCoe Idealize.SL.Sem

variable (m : (ℓ : Loc nD τ sig) → Buf (Elt Ideal) ℓ) (c : Dev nD)

/-- The product of the blocks of grid point `t`. -/
abbrev part (t : Fin cfg0.N) : (Whole 1024 1024).Idx → EReal :=
  prodN (M := 1024) (K := 2816) (N := 1024) (iblk m c 0 t) (iblk m c 1 t)

/-- The product with the right half of the columns of the weight, added to the array of the third argument. -/
abbrev whole : (Whole 8192 2048).Idx → EReal :=
  added (m ((c : Thread nD τ).loc main_arg2))
    (prodN (M := 8192) (K := 5632) (N := 2048) (m ((c : Thread nD τ).loc main_arg0)) (cols 5632 (m ((c : Thread nD τ).loc main_arg1))))

theorem pay_next (a : Vec Ideal S1024x2816 .bf16) (b : Vec Ideal S1024x2816 .bf16) (x : Vec Ideal S1024x1024 .f32)
    (y : (Whole 1024 1024).Idx) : k0_pay3 a b x y = x y + prodN (M := 1024) (K := 2816) (N := 1024) a b y := by
  pointwise [k0_pay3, k0_pay1, prodN]

/-- The first of the two grid points of a block of the result starts the sum; -/
theorem acc_first (t : Fin cfg0.N) (h0 : t.val % 2 = 0) (y : (Whole 1024 1024).Idx) :
    (outsAt0 m c t.val t.isLt).2 y = (fun _ => 0 : (Whole 1024 1024).Idx → EReal) y + part m c t y := by
  rw [outsAt0_A m c t h0 (by omega) (by omega), zero_add]
  frame_out
  pointwise [k0_pay2, k0_pay1, part, prodN]

/-- the second adds to it -/
theorem acc_next (t : Fin cfg0.N) (h0 : ¬ t.val % 2 = 0) (y : (Whole 1024 1024).Idx) : (outsAt0 m c t.val t.isLt).2 y
    = (outsAt0 m c (t.val - 1) (Nat.lt_of_le_of_lt (Nat.sub_le _ _) t.isLt)).2 y + part m c t y := by
  rw [outsAt0_B m c t h0 (by omega) (by omega)]
  frame_out
  rw [read_unread_whole, pay_next]

/-- and writes it out, with the third argument's block added. -/
theorem acc_last (t : Fin cfg0.N) (h2 : t.val % 2 = 1) (y : (Whole 1024 1024).Idx) : (outsAt0 m c t.val t.isLt).1 y
    = (show EReal from iblk m c 2 t y) + ∑ s : Fin 2, part m c ⟨2 * (t.val / 2) + s.val, Pipeline.run_point_lt_of_flush t h2 s⟩ y := by
  have h : (outsAt0 m c t.val t.isLt).1 y = (show EReal from iblk m c 2 t y) + (outsAt0 m c t.val t.isLt).2 y := by
    rw [outsAt0_B m c t (by omega) h2 h2]
    frame_out
    exact add_comm _ _
  rw [h, Pipeline.eq_sum_fin_of_reset_step_apply_of_flush (fun n h => (outsAt0 m c n h).2) 2 (fun _ => 0) (part m c)
    (acc_first m c) (acc_next m c) t h2 y]
  exact congrArg _ (zero_add _)

theorem index_facts : ∀ (t : Fin cfg0.N) (s : Fin 2) (u : Fin cfg0.N), u.val = 2 * (t.val / 2) + s.val →
    win0_0.index u = ![(grid0.coords t 0).val, s.val] ∧ win0_1.index u = ![(grid0.coords t 1).val, 2 + s.val]
    ∧ win0_2.index t = ![(grid0.coords t 0).val, (grid0.coords t 1).val]
    ∧ win0_3.index t = ![(grid0.coords t 0).val, (grid0.coords t 1).val] := by decide +kernel

theorem final : (dats m 0 c).arrAt 3 cfg0.N = whole m c := by
  refine (dats m 0 c).arrAt_eq_of_covers 3 _ (by decide +kernel) fun t hf y => ?_
  have h2 := (flush0_3 t).mp hf
  blk_simp; rw [after0_3]
  refine (acc_last m c t h2 y).trans (congrArg₂ (· + ·) (by blk_ext [iblk, V, index_facts t 1 t (by simp; omega)]) ?_)
  exact prodN_stretches (K := 2816) (S := 2) y _ (by decide)
    (fun s k h => by blk_ext [iblk, V, index_facts t s ⟨_, Pipeline.run_point_lt_of_flush t h2 s⟩ rfl])
    (fun s k h => by blk_ext [iblk, V, cols, index_facts t s ⟨_, Pipeline.run_point_lt_of_flush t h2 s⟩ rfl])

theorem algebraic : Cert.algebraic_BackUpRightIdeal_BackUpRightRefIdeal := by
  intro m ρ m' ρ' _ he
  refine ⟨whole m, (θ_run _ _ _).mono (fun _ h c => ⟨(h c).1.trans (final m c), (h c).2⟩) (Value.run_blocks m ρ),
    (θ_run _ _ _).mono (fun _ h c => ?_) (Cert.BackUpRightRefIdeal.Value.run m' ρ')⟩
  obtain ⟨h0, kept⟩ := h c
  rw [(he c).1, (he c).2.1, (he c).2.2] at h0
  exact ⟨h0.trans (funext fun y => by pointwise [added, cols, prodN]), kept⟩

end Cert.BackUpRightIdeal.Step

end
-- ==== Proof.Backward.lean ====
/-
  The products of the backward pass that one grid point computes block by block in one go: of an array of cotangents with a
  weight transposed (`BackDown`, `BackSquare`, `BackHeads`, `BackKey`, and `BackValue`, which adds to an array), and of the
  normed memory transposed with cotangents (`GradKey`). Each block of a result is the product of the rows or columns that it
  lies in, so each result, whole, is the product of the whole arrays, and so is the reference's.
-/
module

public import proofs.«01_k».proof.Defs
public import proofs.«01_k».proof.Proof.Gen.BackDownIdeal.Value
public import proofs.«01_k».proof.Proof.Gen.BackDownRefIdeal.Run
public import proofs.«01_k».proof.Proof.Gen.BackSquareIdeal.Value
public import proofs.«01_k».proof.Proof.Gen.BackSquareRefIdeal.Run
public import proofs.«01_k».proof.Proof.Gen.BackHeadsIdeal.Value
public import proofs.«01_k».proof.Proof.Gen.BackHeadsRefIdeal.Run
public import proofs.«01_k».proof.Proof.Gen.BackKeyIdeal.Value
public import proofs.«01_k».proof.Proof.Gen.BackKeyRefIdeal.Run
public import proofs.«01_k».proof.Proof.Gen.GradKeyIdeal.Value
public import proofs.«01_k».proof.Proof.Gen.GradKeyRefIdeal.Run
public import proofs.«01_k».proof.Proof.Gen.BackValueIdeal.Value
public import proofs.«01_k».proof.Proof.Gen.BackValueRefIdeal.Run
public import proofs.«01_k».proof.Proof.Product

@[expose] public section

noncomputable section

namespace Cert.BackDownIdeal.Step

open Cert.BackDownIdeal Cert.BackDownIdeal.Gen Cert.Product Idealize.ShloMosaic Idealize.ShloMosaic.TcCoe Idealize.SL.Sem

theorem index_facts : ∀ t : Fin cfg0.N, win0_0.index t = ![(grid0.coords t 0).val, 0]
    ∧ win0_1.index t = ![(grid0.coords t 1).val, 0]
    ∧ win0_2.index t = ![(grid0.coords t 0).val, (grid0.coords t 1).val] := by decide +kernel

theorem final (m : (ℓ : Loc nD τ sig) → Buf (Elt Ideal) ℓ) (c : Dev nD) : (dats m 0 c).arrAt 2 cfg0.N
    = prodN (M := 8192) (K := 2048) (N := 5632) (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans (b := prodN (M := 1024) (K := 2048) (N := 512) (iblk m c 0 t) (iblk m c 1 t) y) (by pointwise [k0_pay1, prodN]) ?_
  exact prodN_block y _ (fun k => by blk_ext [iblk, V, index_facts t]) (fun k => by blk_ext [iblk, V, index_facts t])

theorem algebraic : Cert.algebraic_BackDownIdeal_BackDownRefIdeal := by
  intro m ρ m' ρ' _ he
  refine ⟨fun c => prodN (M := 8192) (K := 2048) (N := 5632) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ?_) (Cert.BackDownRefIdeal.Value.run m' ρ')⟩
  obtain ⟨h0, kept⟩ := h c
  rw [(he c).1, (he c).2] at h0
  exact ⟨h0.trans (funext fun y => by pointwise [prodN]), kept⟩

end Cert.BackDownIdeal.Step

namespace Cert.BackSquareIdeal.Step

open Cert.BackSquareIdeal Cert.BackSquareIdeal.Gen Cert.Product Idealize.ShloMosaic Idealize.ShloMosaic.TcCoe Idealize.SL.Sem

theorem index_facts : ∀ t : Fin cfg0.N, win0_0.index t = ![(grid0.coords t 0).val, 0]
    ∧ win0_1.index t = ![(grid0.coords t 1).val, 0]
    ∧ win0_2.index t = ![(grid0.coords t 0).val, (grid0.coords t 1).val] := by decide +kernel

theorem final (m : (ℓ : Loc nD τ sig) → Buf (Elt Ideal) ℓ) (c : Dev nD) : (dats m 0 c).arrAt 2 cfg0.N
    = prodN (M := 8192) (K := 2048) (N := 2048) (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans (b := prodN (M := 1024) (K := 2048) (N := 1024) (iblk m c 0 t) (iblk m c 1 t) y) (by pointwise [k0_pay1, prodN]) ?_
  exact prodN_block y _ (fun k => by blk_ext [iblk, V, index_facts t]) (fun k => by blk_ext [iblk, V, index_facts t])

theorem algebraic : Cert.algebraic_BackSquareIdeal_BackSquareRefIdeal := by
  intro m ρ m' ρ' _ he
  refine ⟨fun c => prodN (M := 8192) (K := 2048) (N := 2048) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ?_) (Cert.BackSquareRefIdeal.Value.run m' ρ')⟩
  obtain ⟨h0, kept⟩ := h c
  rw [(he c).1, (he c).2] at h0
  exact ⟨h0.trans (funext fun y => by pointwise [prodN]), kept⟩

end Cert.BackSquareIdeal.Step

namespace Cert.BackHeadsIdeal.Step

open Cert.BackHeadsIdeal Cert.BackHeadsIdeal.Gen Cert.Product Idealize.ShloMosaic Idealize.ShloMosaic.TcCoe Idealize.SL.Sem

theorem index_facts : ∀ t : Fin cfg0.N, win0_0.index t = ![(grid0.coords t 0).val, 0]
    ∧ win0_1.index t = ![(grid0.coords t 1).val, 0]
    ∧ win0_2.index t = ![(grid0.coords t 0).val, (grid0.coords t 1).val] := by decide +kernel

theorem final (m : (ℓ : Loc nD τ sig) → Buf (Elt Ideal) ℓ) (c : Dev nD) : (dats m 0 c).arrAt 2 cfg0.N
    = prodN (M := 8192) (K := 2048) (N := 2048) (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans (b := prodN (M := 1024) (K := 2048) (N := 1024) (iblk m c 0 t) (iblk m c 1 t) y) (by pointwise [k0_pay1, prodN]) ?_
  exact prodN_block y _ (fun k => by blk_ext [iblk, V, index_facts t]) (fun k => by blk_ext [iblk, V, index_facts t])

theorem algebraic : Cert.algebraic_BackHeadsIdeal_BackHeadsRefIdeal := by
  intro m ρ m' ρ' _ he
  refine ⟨fun c => prodN (M := 8192) (K := 2048) (N := 2048) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ?_) (Cert.BackHeadsRefIdeal.Value.run m' ρ')⟩
  obtain ⟨h0, kept⟩ := h c
  rw [(he c).1, (he c).2] at h0
  exact ⟨h0.trans (funext fun y => by pointwise [prodN]), kept⟩

end Cert.BackHeadsIdeal.Step

namespace Cert.BackKeyIdeal.Step

open Cert.BackKeyIdeal Cert.BackKeyIdeal.Gen Cert.Product Idealize.ShloMosaic Idealize.ShloMosaic.TcCoe Idealize.SL.Sem

theorem index_facts : ∀ t : Fin cfg0.N, win0_0.index t = ![(grid0.coords t 0).val, 0]
    ∧ win0_1.index t = ![(grid0.coords t 1).val, 0]
    ∧ win0_2.index t = ![(grid0.coords t 0).val, (grid0.coords t 1).val] := by decide +kernel

theorem final (m : (ℓ : Loc nD τ sig) → Buf (Elt Ideal) ℓ) (c : Dev nD) : (dats m 0 c).arrAt 2 cfg0.N
    = prodN (M := 256) (K := 2048) (N := 2048) (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans (b := prodN (M := 256) (K := 2048) (N := 1024) (iblk m c 0 t) (iblk m c 1 t) y) (by pointwise [k0_pay1, prodN]) ?_
  exact prodN_block y _ (fun k => by blk_ext [iblk, V, index_facts t]) (fun k => by blk_ext [iblk, V, index_facts t])

theorem algebraic : Cert.algebraic_BackKeyIdeal_BackKeyRefIdeal := by
  intro m ρ m' ρ' _ he
  refine ⟨fun c => prodN (M := 256) (K := 2048) (N := 2048) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ?_) (Cert.BackKeyRefIdeal.Value.run m' ρ')⟩
  obtain ⟨h0, kept⟩ := h c
  rw [(he c).1, (he c).2] at h0
  exact ⟨h0.trans (funext fun y => by pointwise [prodN]), kept⟩

end Cert.BackKeyIdeal.Step

namespace Cert.GradKeyIdeal.Step

open Cert.GradKeyIdeal Cert.GradKeyIdeal.Gen Cert.Product Idealize.ShloMosaic Idealize.ShloMosaic.TcCoe Idealize.SL.Sem

theorem index_facts : ∀ t : Fin cfg0.N, win0_0.index t = ![0, (grid0.coords t 0).val]
    ∧ win0_1.index t = ![0, (grid0.coords t 1).val]
    ∧ win0_2.index t = ![(grid0.coords t 0).val, (grid0.coords t 1).val] := by decide +kernel

theorem final (m : (ℓ : Loc nD τ sig) → Buf (Elt Ideal) ℓ) (c : Dev nD) : (dats m 0 c).arrAt 2 cfg0.N
    = prodT (M := 2048) (K := 256) (N := 2048) (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans (b := prodT (M := 1024) (K := 256) (N := 1024) (iblk m c 0 t) (iblk m c 1 t) y) (by pointwise [k0_pay1, prodT]) ?_
  exact prodT_block y _ (fun k => by blk_ext [iblk, V, index_facts t]) (fun k => by blk_ext [iblk, V, index_facts t])

theorem algebraic : Cert.algebraic_GradKeyIdeal_GradKeyRefIdeal := by
  intro m ρ m' ρ' _ he
  refine ⟨fun c => prodT (M := 2048) (K := 256) (N := 2048) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ?_) (Cert.GradKeyRefIdeal.Value.run m' ρ')⟩
  obtain ⟨h0, kept⟩ := h c
  rw [(he c).1, (he c).2] at h0
  exact ⟨h0.trans (funext fun y => by pointwise [prodT]), kept⟩

end Cert.GradKeyIdeal.Step

namespace Cert.BackValueIdeal.Step

open Cert.BackValueIdeal Cert.BackValueIdeal.Gen Cert.Product Idealize.ShloMosaic Idealize.ShloMosaic.TcCoe Idealize.SL.Sem

/-- The array `x`, with the product added. -/
abbrev sum (d : (Whole 256 2048).Idx → EReal) (w : (Whole 2048 2048).Idx → EReal) (x : (Whole 256 2048).Idx → EReal) :
    (Whole 256 2048).Idx → EReal := fun i => x i + prodN d w i

theorem index_facts : ∀ t : Fin cfg0.N, win0_0.index t = ![(grid0.coords t 0).val, 0]
    ∧ win0_1.index t = ![(grid0.coords t 1).val, 0]
    ∧ win0_2.index t = ![(grid0.coords t 0).val, (grid0.coords t 1).val]
    ∧ win0_3.index t = ![(grid0.coords t 0).val, (grid0.coords t 1).val] := by decide +kernel

theorem final (m : (ℓ : Loc nD τ sig) → Buf (Elt Ideal) ℓ) (c : Dev nD) : (dats m 0 c).arrAt 3 cfg0.N
    = sum (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  refine Eq.trans (b := (show EReal from iblk m c 2 t y) + prodN (M := 256) (K := 2048) (N := 1024) (iblk m c 0 t) (iblk m c 1 t) y)
    (by pointwise [k0_pay1, prodN]; exact add_comm _ _) (congrArg₂ (· + ·) (by blk_ext [iblk, V, index_facts t]) ?_)
  exact prodN_block y _ (fun k => by blk_ext [iblk, V, index_facts t]) (fun k => by blk_ext [iblk, V, index_facts t])

theorem algebraic : Cert.algebraic_BackValueIdeal_BackValueRefIdeal := by
  intro m ρ m' ρ' _ he
  refine ⟨fun c => sum (m ((c : Thread nD τ).loc main_arg0)) (m ((c : Thread nD τ).loc main_arg1)) (m ((c : Thread nD τ).loc main_arg2)),
    (θ_run _ _ _).mono (fun _ h c => ⟨(h c).1.trans (final m c), (h c).2⟩) (Value.run_blocks m ρ),
    (θ_run _ _ _).mono (fun _ h c => ?_) (Cert.BackValueRefIdeal.Value.run m' ρ')⟩
  obtain ⟨h0, kept⟩ := h c
  rw [(he c).1, (he c).2.1, (he c).2.2] at h0
  exact ⟨h0.trans (funext fun y => by pointwise [sum, prodN]), kept⟩

end Cert.BackValueIdeal.Step

end
-- ==== Proof.Grad.lean ====
/-
  The gradients of the weights: an array of rows transposed times an array of cotangents, both of 8192 rows. Four grid points
  in a row compute one block of the result, each taking 2048 of the rows of both arrays; the first starts a sum, each later
  one adds to it, and the last one writes it out. The four stretches of rows together are all the rows, so the result, whole,
  is the product of the whole arrays, and so is the reference's.
-/
module

public import proofs.«01_k».proof.Defs
public import proofs.«01_k».proof.Proof.Gen.GradSquareIdeal.Value
public import proofs.«01_k».proof.Proof.Gen.GradSquareRefIdeal.Run
public import proofs.«01_k».proof.Proof.Gen.GradInIdeal.Value
public import proofs.«01_k».proof.Proof.Gen.GradInRefIdeal.Run
public import proofs.«01_k».proof.Proof.Gen.GradDownIdeal.Value
public import proofs.«01_k».proof.Proof.Gen.GradDownRefIdeal.Run
public import proofs.«01_k».proof.Proof.Gen.GradUpLeftIdeal.Value
public import proofs.«01_k».proof.Proof.Gen.GradUpLeftRefIdeal.Run
public import proofs.«01_k».proof.Proof.Product

@[expose] public section

noncomputable section

namespace Cert.GradSquareIdeal.Step

open Cert.GradSquareIdeal Cert.GradSquareIdeal.Gen Cert.Product Idealize.ShloMosaic Idealize.ShloMosaic.TcCoe Idealize.SL.Sem

variable (m : (ℓ : Loc nD τ sig) → Buf (Elt Ideal) ℓ) (c : Dev nD)

/-- The product of the blocks of grid point `t`. -/
abbrev part (t : Fin cfg0.N) : (Whole 1024 1024).Idx → EReal :=
  prodT (M := 1024) (K := 2048) (N := 1024) (iblk m c 0 t) (iblk m c 1 t)

/-- The arguments' product, whole. -/
abbrev whole : (Whole 2048 2048).Idx → EReal :=
  prodT (M := 2048) (K := 8192) (N := 2048) (m ((c : Thread nD τ).loc main_arg0)) (m ((c : Thread nD τ).loc main_arg1))

theorem pay_next (a : Vec Ideal S2048x1024 .bf16) (b : Vec Ideal S2048x1024 .bf16) (x : Vec Ideal S1024x1024 .f32)
    (y : (Whole 1024 1024).Idx) : k0_pay3 a b x y = x y + prodT (M := 1024) (K := 2048) (N := 1024) a b y := by
  pointwise [k0_pay3, k0_pay1, prodT]

/-- The first of the four grid points of a block of the result starts the sum; -/
theorem acc_first (t : Fin cfg0.N) (h0 : t.val % 4 = 0) (y : (Whole 1024 1024).Idx) :
    (outsAt0 m c t.val t.isLt).2 y = (fun _ => 0 : (Whole 1024 1024).Idx → EReal) y + part m c t y := by
  rw [outsAt0_A m c t h0 (by omega) (by omega), zero_add]
  frame_out
  pointwise [k0_pay2, k0_pay1, part, prodT]

/-- each later one adds to it; -/
theorem acc_next (t : Fin cfg0.N) (h0 : ¬ t.val % 4 = 0) (y : (Whole 1024 1024).Idx) : (outsAt0 m c t.val t.isLt).2 y
    = (outsAt0 m c (t.val - 1) (Nat.lt_of_le_of_lt (Nat.sub_le _ _) t.isLt)).2 y + part m c t y := by
  by_cases h2 : t.val % 4 = 3
  · rw [outsAt0_C m c t h0 (by omega) h2]
    frame_out
    rw [read_unread_whole, pay_next]
  · rw [outsAt0_B m c t h0 (by omega) h2]
    frame_out
    rw [read_unread_whole, pay_next]

/-- and the last one writes it out. -/
theorem acc_last (t : Fin cfg0.N) (h2 : t.val % 4 = 3) (y : (Whole 1024 1024).Idx) :
    (outsAt0 m c t.val t.isLt).1 y = ∑ s : Fin 4, part m c ⟨4 * (t.val / 4) + s.val, Pipeline.run_point_lt_of_flush t h2 s⟩ y := by
  have h : (outsAt0 m c t.val t.isLt).1 y = (outsAt0 m c t.val t.isLt).2 y := by
    rw [outsAt0_C m c t (by omega) (by omega) h2]
    frame_out
    rfl
  rw [h, Pipeline.eq_sum_fin_of_reset_step_apply_of_flush (fun n h => (outsAt0 m c n h).2) 4 (fun _ => 0) (part m c)
    (acc_first m c) (acc_next m c) t h2 y]
  exact zero_add _

theorem index_facts : ∀ (t : Fin cfg0.N) (s : Fin 4) (u : Fin cfg0.N), u.val = 4 * (t.val / 4) + s.val →
    win0_0.index u = ![s.val, (grid0.coords t 0).val] ∧ win0_1.index u = ![s.val, (grid0.coords t 1).val]
    ∧ win0_2.index t = ![(grid0.coords t 0).val, (grid0.coords t 1).val] := by decide +kernel

theorem final : (dats m 0 c).arrAt 2 cfg0.N = whole m c := by
  refine (dats m 0 c).arrAt_eq_of_covers 2 _ (by decide +kernel) fun t hf y => ?_
  have h2 := (flush0_2 t).mp hf
  blk_simp; rw [after0_2]
  exact (acc_last m c t h2 y).trans (prodT_stretches (K := 2048) (S := 4) y _ (by decide)
    (fun s k h => by blk_ext [iblk, V, index_facts t s ⟨_, Pipeline.run_point_lt_of_flush t h2 s⟩ rfl])
    (fun s k h => by blk_ext [iblk, V, index_facts t s ⟨_, Pipeline.run_point_lt_of_flush t h2 s⟩ rfl]))

theorem algebraic : Cert.algebraic_GradSquareIdeal_GradSquareRefIdeal := by
  intro m ρ m' ρ' _ he
  refine ⟨whole m, (θ_run _ _ _).mono (fun _ h c => ⟨(h c).1.trans (final m c), (h c).2⟩) (Value.run_blocks m ρ),
    (θ_run _ _ _).mono (fun _ h c => ?_) (Cert.GradSquareRefIdeal.Value.run m' ρ')⟩
  obtain ⟨h0, kept⟩ := h c
  rw [(he c).1, (he c).2] at h0
  exact ⟨h0.trans (funext fun y => by pointwise [prodT]), kept⟩

end Cert.GradSquareIdeal.Step

namespace Cert.GradInIdeal.Step

open Cert.GradInIdeal Cert.GradInIdeal.Gen Cert.Product Idealize.ShloMosaic Idealize.ShloMosaic.TcCoe Idealize.SL.Sem

variable (m : (ℓ : Loc nD τ sig) → Buf (Elt Ideal) ℓ) (c : Dev nD)

/-- The product of the blocks of grid point `t`. -/
abbrev part (t : Fin cfg0.N) : (Whole 1024 1024).Idx → EReal :=
  prodT (M := 1024) (K := 2048) (N := 1024) (iblk m c 0 t) (iblk m c 1 t)

/-- The arguments' product, whole. -/
abbrev whole : (Whole 2048 6144).Idx → EReal :=
  prodT (M := 2048) (K := 8192) (N := 6144) (m ((c : Thread nD τ).loc main_arg0)) (m ((c : Thread nD τ).loc main_arg1))

theorem pay_next (a : Vec Ideal S2048x1024 .bf16) (b : Vec Ideal S2048x1024 .bf16) (x : Vec Ideal S1024x1024 .f32)
    (y : (Whole 1024 1024).Idx) : k0_pay3 a b x y = x y + prodT (M := 1024) (K := 2048) (N := 1024) a b y := by
  pointwise [k0_pay3, k0_pay1, prodT]

/-- The first of the four grid points of a block of the result starts the sum; -/
theorem acc_first (t : Fin cfg0.N) (h0 : t.val % 4 = 0) (y : (Whole 1024 1024).Idx) :
    (outsAt0 m c t.val t.isLt).2 y = (fun _ => 0 : (Whole 1024 1024).Idx → EReal) y + part m c t y := by
  rw [outsAt0_A m c t h0 (by omega) (by omega), zero_add]
  frame_out
  pointwise [k0_pay2, k0_pay1, part, prodT]

/-- each later one adds to it; -/
theorem acc_next (t : Fin cfg0.N) (h0 : ¬ t.val % 4 = 0) (y : (Whole 1024 1024).Idx) : (outsAt0 m c t.val t.isLt).2 y
    = (outsAt0 m c (t.val - 1) (Nat.lt_of_le_of_lt (Nat.sub_le _ _) t.isLt)).2 y + part m c t y := by
  by_cases h2 : t.val % 4 = 3
  · rw [outsAt0_C m c t h0 (by omega) h2]
    frame_out
    rw [read_unread_whole, pay_next]
  · rw [outsAt0_B m c t h0 (by omega) h2]
    frame_out
    rw [read_unread_whole, pay_next]

/-- and the last one writes it out. -/
theorem acc_last (t : Fin cfg0.N) (h2 : t.val % 4 = 3) (y : (Whole 1024 1024).Idx) :
    (outsAt0 m c t.val t.isLt).1 y = ∑ s : Fin 4, part m c ⟨4 * (t.val / 4) + s.val, Pipeline.run_point_lt_of_flush t h2 s⟩ y := by
  have h : (outsAt0 m c t.val t.isLt).1 y = (outsAt0 m c t.val t.isLt).2 y := by
    rw [outsAt0_C m c t (by omega) (by omega) h2]
    frame_out
    rfl
  rw [h, Pipeline.eq_sum_fin_of_reset_step_apply_of_flush (fun n h => (outsAt0 m c n h).2) 4 (fun _ => 0) (part m c)
    (acc_first m c) (acc_next m c) t h2 y]
  exact zero_add _

theorem index_facts : ∀ (t : Fin cfg0.N) (s : Fin 4) (u : Fin cfg0.N), u.val = 4 * (t.val / 4) + s.val →
    win0_0.index u = ![s.val, (grid0.coords t 0).val] ∧ win0_1.index u = ![s.val, (grid0.coords t 1).val]
    ∧ win0_2.index t = ![(grid0.coords t 0).val, (grid0.coords t 1).val] := by decide +kernel

theorem final : (dats m 0 c).arrAt 2 cfg0.N = whole m c := by
  refine (dats m 0 c).arrAt_eq_of_covers 2 _ (by decide +kernel) fun t hf y => ?_
  have h2 := (flush0_2 t).mp hf
  blk_simp; rw [after0_2]
  exact (acc_last m c t h2 y).trans (prodT_stretches (K := 2048) (S := 4) y _ (by decide)
    (fun s k h => by blk_ext [iblk, V, index_facts t s ⟨_, Pipeline.run_point_lt_of_flush t h2 s⟩ rfl])
    (fun s k h => by blk_ext [iblk, V, index_facts t s ⟨_, Pipeline.run_point_lt_of_flush t h2 s⟩ rfl]))

theorem algebraic : Cert.algebraic_GradInIdeal_GradInRefIdeal := by
  intro m ρ m' ρ' _ he
  refine ⟨whole m, (θ_run _ _ _).mono (fun _ h c => ⟨(h c).1.trans (final m c), (h c).2⟩) (Value.run_blocks m ρ),
    (θ_run _ _ _).mono (fun _ h c => ?_) (Cert.GradInRefIdeal.Value.run m' ρ')⟩
  obtain ⟨h0, kept⟩ := h c
  rw [(he c).1, (he c).2] at h0
  exact ⟨h0.trans (funext fun y => by pointwise [prodT]), kept⟩

end Cert.GradInIdeal.Step

namespace Cert.GradDownIdeal.Step

open Cert.GradDownIdeal Cert.GradDownIdeal.Gen Cert.Product Idealize.ShloMosaic Idealize.ShloMosaic.TcCoe Idealize.SL.Sem

variable (m : (ℓ : Loc nD τ sig) → Buf (Elt Ideal) ℓ) (c : Dev nD)

/-- The product of the blocks of grid point `t`. -/
abbrev part (t : Fin cfg0.N) : (Whole 512 1024).Idx → EReal :=
  prodT (M := 512) (K := 2048) (N := 1024) (iblk m c 0 t) (iblk m c 1 t)

/-- The arguments' product, whole. -/
abbrev whole : (Whole 5632 2048).Idx → EReal :=
  prodT (M := 5632) (K := 8192) (N := 2048) (m ((c : Thread nD τ).loc main_arg0)) (m ((c : Thread nD τ).loc main_arg1))

theorem pay_next (a : Vec Ideal S2048x512 .bf16) (b : Vec Ideal S2048x1024 .bf16) (x : Vec Ideal S512x1024 .f32)
    (y : (Whole 512 1024).Idx) : k0_pay3 a b x y = x y + prodT (M := 512) (K := 2048) (N := 1024) a b y := by
  pointwise [k0_pay3, k0_pay1, prodT]

/-- The first of the four grid points of a block of the result starts the sum; -/
theorem acc_first (t : Fin cfg0.N) (h0 : t.val % 4 = 0) (y : (Whole 512 1024).Idx) :
    (outsAt0 m c t.val t.isLt).2 y = (fun _ => 0 : (Whole 512 1024).Idx → EReal) y + part m c t y := by
  rw [outsAt0_A m c t h0 (by omega) (by omega), zero_add]
  frame_out
  pointwise [k0_pay2, k0_pay1, part, prodT]

/-- each later one adds to it; -/
theorem acc_next (t : Fin cfg0.N) (h0 : ¬ t.val % 4 = 0) (y : (Whole 512 1024).Idx) : (outsAt0 m c t.val t.isLt).2 y
    = (outsAt0 m c (t.val - 1) (Nat.lt_of_le_of_lt (Nat.sub_le _ _) t.isLt)).2 y + part m c t y := by
  by_cases h2 : t.val % 4 = 3
  · rw [outsAt0_C m c t h0 (by omega) h2]
    frame_out
    rw [read_unread_whole, pay_next]
  · rw [outsAt0_B m c t h0 (by omega) h2]
    frame_out
    rw [read_unread_whole, pay_next]

/-- and the last one writes it out. -/
theorem acc_last (t : Fin cfg0.N) (h2 : t.val % 4 = 3) (y : (Whole 512 1024).Idx) :
    (outsAt0 m c t.val t.isLt).1 y = ∑ s : Fin 4, part m c ⟨4 * (t.val / 4) + s.val, Pipeline.run_point_lt_of_flush t h2 s⟩ y := by
  have h : (outsAt0 m c t.val t.isLt).1 y = (outsAt0 m c t.val t.isLt).2 y := by
    rw [outsAt0_C m c t (by omega) (by omega) h2]
    frame_out
    rfl
  rw [h, Pipeline.eq_sum_fin_of_reset_step_apply_of_flush (fun n h => (outsAt0 m c n h).2) 4 (fun _ => 0) (part m c)
    (acc_first m c) (acc_next m c) t h2 y]
  exact zero_add _

theorem index_facts : ∀ (t : Fin cfg0.N) (s : Fin 4) (u : Fin cfg0.N), u.val = 4 * (t.val / 4) + s.val →
    win0_0.index u = ![s.val, (grid0.coords t 0).val] ∧ win0_1.index u = ![s.val, (grid0.coords t 1).val]
    ∧ win0_2.index t = ![(grid0.coords t 0).val, (grid0.coords t 1).val] := by decide +kernel

theorem final : (dats m 0 c).arrAt 2 cfg0.N = whole m c := by
  refine (dats m 0 c).arrAt_eq_of_covers 2 _ (by decide +kernel) fun t hf y => ?_
  have h2 := (flush0_2 t).mp hf
  blk_simp; rw [after0_2]
  exact (acc_last m c t h2 y).trans (prodT_stretches (K := 2048) (S := 4) y _ (by decide)
    (fun s k h => by blk_ext [iblk, V, index_facts t s ⟨_, Pipeline.run_point_lt_of_flush t h2 s⟩ rfl])
    (fun s k h => by blk_ext [iblk, V, index_facts t s ⟨_, Pipeline.run_point_lt_of_flush t h2 s⟩ rfl]))

theorem algebraic : Cert.algebraic_GradDownIdeal_GradDownRefIdeal := by
  intro m ρ m' ρ' _ he
  refine ⟨whole m, (θ_run _ _ _).mono (fun _ h c => ⟨(h c).1.trans (final m c), (h c).2⟩) (Value.run_blocks m ρ),
    (θ_run _ _ _).mono (fun _ h c => ?_) (Cert.GradDownRefIdeal.Value.run m' ρ')⟩
  obtain ⟨h0, kept⟩ := h c
  rw [(he c).1, (he c).2] at h0
  exact ⟨h0.trans (funext fun y => by pointwise [prodT]), kept⟩

end Cert.GradDownIdeal.Step

namespace Cert.GradUpLeftIdeal.Step

open Cert.GradUpLeftIdeal Cert.GradUpLeftIdeal.Gen Cert.Product Idealize.ShloMosaic Idealize.ShloMosaic.TcCoe Idealize.SL.Sem

variable (m : (ℓ : Loc nD τ sig) → Buf (Elt Ideal) ℓ) (c : Dev nD)

/-- The product of the blocks of grid point `t`. -/
abbrev part (t : Fin cfg0.N) : (Whole 1024 512).Idx → EReal :=
  prodT (M := 1024) (K := 2048) (N := 512) (iblk m c 0 t) (iblk m c 1 t)

/-- The arguments' product, whole. -/
abbrev whole : (Whole 2048 5632).Idx → EReal :=
  prodT (M := 2048) (K := 8192) (N := 5632) (m ((c : Thread nD τ).loc main_arg0)) (m ((c : Thread nD τ).loc main_arg1))

theorem pay_next (a : Vec Ideal S2048x1024 .bf16) (b : Vec Ideal S2048x512 .bf16) (x : Vec Ideal S1024x512 .f32)
    (y : (Whole 1024 512).Idx) : k0_pay3 a b x y = x y + prodT (M := 1024) (K := 2048) (N := 512) a b y := by
  pointwise [k0_pay3, k0_pay1, prodT]

/-- The first of the four grid points of a block of the result starts the sum; -/
theorem acc_first (t : Fin cfg0.N) (h0 : t.val % 4 = 0) (y : (Whole 1024 512).Idx) :
    (outsAt0 m c t.val t.isLt).2 y = (fun _ => 0 : (Whole 1024 512).Idx → EReal) y + part m c t y := by
  rw [outsAt0_A m c t h0 (by omega) (by omega), zero_add]
  frame_out
  pointwise [k0_pay2, k0_pay1, part, prodT]

/-- each later one adds to it; -/
theorem acc_next (t : Fin cfg0.N) (h0 : ¬ t.val % 4 = 0) (y : (Whole 1024 512).Idx) : (outsAt0 m c t.val t.isLt).2 y
    = (outsAt0 m c (t.val - 1) (Nat.lt_of_le_of_lt (Nat.sub_le _ _) t.isLt)).2 y + part m c t y := by
  by_cases h2 : t.val % 4 = 3
  · rw [outsAt0_C m c t h0 (by omega) h2]
    frame_out
    rw [read_unread_whole, pay_next]
  · rw [outsAt0_B m c t h0 (by omega) h2]
    frame_out
    rw [read_unread_whole, pay_next]

/-- and the last one writes it out. -/
theorem acc_last (t : Fin cfg0.N) (h2 : t.val % 4 = 3) (y : (Whole 1024 512).Idx) :
    (outsAt0 m c t.val t.isLt).1 y = ∑ s : Fin 4, part m c ⟨4 * (t.val / 4) + s.val, Pipeline.run_point_lt_of_flush t h2 s⟩ y := by
  have h : (outsAt0 m c t.val t.isLt).1 y = (outsAt0 m c t.val t.isLt).2 y := by
    rw [outsAt0_C m c t (by omega) (by omega) h2]
    frame_out
    rfl
  rw [h, Pipeline.eq_sum_fin_of_reset_step_apply_of_flush (fun n h => (outsAt0 m c n h).2) 4 (fun _ => 0) (part m c)
    (acc_first m c) (acc_next m c) t h2 y]
  exact zero_add _

theorem index_facts : ∀ (t : Fin cfg0.N) (s : Fin 4) (u : Fin cfg0.N), u.val = 4 * (t.val / 4) + s.val →
    win0_0.index u = ![s.val, (grid0.coords t 0).val] ∧ win0_1.index u = ![s.val, (grid0.coords t 1).val]
    ∧ win0_2.index t = ![(grid0.coords t 0).val, (grid0.coords t 1).val] := by decide +kernel

theorem final : (dats m 0 c).arrAt 2 cfg0.N = whole m c := by
  refine (dats m 0 c).arrAt_eq_of_covers 2 _ (by decide +kernel) fun t hf y => ?_
  have h2 := (flush0_2 t).mp hf
  blk_simp; rw [after0_2]
  exact (acc_last m c t h2 y).trans (prodT_stretches (K := 2048) (S := 4) y _ (by decide)
    (fun s k h => by blk_ext [iblk, V, index_facts t s ⟨_, Pipeline.run_point_lt_of_flush t h2 s⟩ rfl])
    (fun s k h => by blk_ext [iblk, V, index_facts t s ⟨_, Pipeline.run_point_lt_of_flush t h2 s⟩ rfl]))

theorem algebraic : Cert.algebraic_GradUpLeftIdeal_GradUpLeftRefIdeal := by
  intro m ρ m' ρ' _ he
  refine ⟨whole m, (θ_run _ _ _).mono (fun _ h c => ⟨(h c).1.trans (final m c), (h c).2⟩) (Value.run_blocks m ρ),
    (θ_run _ _ _).mono (fun _ h c => ?_) (Cert.GradUpLeftRefIdeal.Value.run m' ρ')⟩
  obtain ⟨h0, kept⟩ := h c
  rw [(he c).1, (he c).2] at h0
  exact ⟨h0.trans (funext fun y => by pointwise [prodT]), kept⟩

end Cert.GradUpLeftIdeal.Step

end
-- ==== Proof.GradRight.lean ====
/-
  The second half of the gradient of the feed-forward layer's first weight (`GradUpRight`). The blocks are computed as the
  other gradients are (Grad.lean), each by four grid points in a row, and written over the right half of an array given as an
  argument; its left half stays. So the result, whole, is the argument's left half beside the product of the whole arrays,
  and so is the reference's.
-/
module

public import proofs.«01_k».proof.Defs
public import proofs.«01_k».proof.Proof.Gen.GradUpRightIdeal.Value
public import proofs.«01_k».proof.Proof.Gen.GradUpRightRefIdeal.Run
public import proofs.«01_k».proof.Proof.Product

@[expose] public section

noncomputable section

namespace Cert.GradUpRightIdeal.Step

open Cert.GradUpRightIdeal Cert.GradUpRightIdeal.Gen Cert.Product Idealize.ShloMosaic Idealize.ShloMosaic.TcCoe Idealize.SL.Sem

variable (m : (ℓ : Loc nD τ sig) → Buf (Elt Ideal) ℓ) (c : Dev nD)

/-- The product of the blocks of grid point `t`. -/
abbrev part (t : Fin cfg0.N) : (Whole 1024 512).Idx → EReal :=
  prodT (M := 1024) (K := 2048) (N := 512) (iblk m c 0 t) (iblk m c 1 t)

/-- The arguments' product, whole. -/
abbrev whole : (Whole 2048 5632).Idx → EReal :=
  prodT (M := 2048) (K := 8192) (N := 5632) (m ((c : Thread nD τ).loc main_arg0)) (m ((c : Thread nD τ).loc main_arg1))

theorem pay_next (a : Vec Ideal S2048x1024 .bf16) (b : Vec Ideal S2048x512 .bf16) (x : Vec Ideal S1024x512 .f32)
    (y : (Whole 1024 512).Idx) : k0_pay3 a b x y = x y + prodT (M := 1024) (K := 2048) (N := 512) a b y := by
  pointwise [k0_pay3, k0_pay1, prodT]

/-- The first of the four grid points of a block of the result starts the sum; -/
theorem acc_first (t : Fin cfg0.N) (h0 : t.val % 4 = 0) (y : (Whole 1024 512).Idx) :
    (outsAt0 m c t.val t.isLt).2 y = (fun _ => 0 : (Whole 1024 512).Idx → EReal) y + part m c t y := by
  rw [outsAt0_A m c t h0 (by omega) (by omega), zero_add]
  frame_out
  pointwise [k0_pay2, k0_pay1, part, prodT]

/-- each later one adds to it; -/
theorem acc_next (t : Fin cfg0.N) (h0 : ¬ t.val % 4 = 0) (y : (Whole 1024 512).Idx) : (outsAt0 m c t.val t.isLt).2 y
    = (outsAt0 m c (t.val - 1) (Nat.lt_of_le_of_lt (Nat.sub_le _ _) t.isLt)).2 y + part m c t y := by
  by_cases h2 : t.val % 4 = 3
  · rw [outsAt0_C m c t h0 (by omega) h2]
    frame_out
    rw [read_unread_whole, pay_next]
  · rw [outsAt0_B m c t h0 (by omega) h2]
    frame_out
    rw [read_unread_whole, pay_next]

/-- and the last one writes it out. -/
theorem acc_last (t : Fin cfg0.N) (h2 : t.val % 4 = 3) (y : (Whole 1024 512).Idx) :
    (outsAt0 m c t.val t.isLt).1 y = ∑ s : Fin 4, part m c ⟨4 * (t.val / 4) + s.val, Pipeline.run_point_lt_of_flush t h2 s⟩ y := by
  have h : (outsAt0 m c t.val t.isLt).1 y = (outsAt0 m c t.val t.isLt).2 y := by
    rw [outsAt0_C m c t (by omega) (by omega) h2]
    frame_out
    rfl
  rw [h, Pipeline.eq_sum_fin_of_reset_step_apply_of_flush (fun n h => (outsAt0 m c n h).2) 4 (fun _ => 0) (part m c)
    (acc_first m c) (acc_next m c) t h2 y]
  exact zero_add _

theorem index_facts : ∀ (t : Fin cfg0.N) (s : Fin 4) (u : Fin cfg0.N), u.val = 4 * (t.val / 4) + s.val →
    win0_0.index u = ![s.val, (grid0.coords t 0).val] ∧ win0_1.index u = ![s.val, (grid0.coords t 1).val]
    ∧ win0_2.index t = ![(grid0.coords t 0).val, 11 + (grid0.coords t 1).val] := by decide +kernel

/-- A block of the sum, where it lies in the product. -/
theorem acc_whole (t : Fin cfg0.N) (h2 : t.val % 4 = 3) (y : (Whole 1024 512).Idx) (z : (Whole 2048 5632).Idx)
    (h0 : (z 0).val = (grid0.coords t 0).val * 1024 + (y 0).val) (h1 : (z 1).val = (grid0.coords t 1).val * 512 + (y 1).val) :
    (outsAt0 m c t.val t.isLt).1 y = whole m c z :=
  (acc_last m c t h2 y).trans (prodT_stretches (K := 2048) (S := 4) y z (by decide)
    (fun s k h => by blk_ext [iblk, V, h0, index_facts t s ⟨_, Pipeline.run_point_lt_of_flush t h2 s⟩ rfl])
    (fun s k h => by blk_ext [iblk, V, h1, index_facts t s ⟨_, Pipeline.run_point_lt_of_flush t h2 s⟩ rfl]))

/-- The given array, with its right half of the columns replaced by the product. -/
abbrev joined : (Whole 2048 11264).Idx → EReal := fun i =>
  if h : (i 1).val < 5632 then m ((c : Thread nD τ).loc main_arg2) i
  else whole m c (ix2 (i 0) ⟨(i 1).val - 5632, by have := (i 1).isLt; change (i 1).val < 11264 at this; omega⟩)

theorem joined_left (i : (Whole 2048 11264).Idx) (h : (i 1).val < 5632) :
    joined m c i = m ((c : Thread nD τ).loc main_arg2) i := dif_pos h

theorem joined_right (t : Fin cfg0.N) (h2 : t.val % 4 = 3) (y : (Whole 1024 512).Idx) (i : (Whole 2048 11264).Idx)
    (h0 : (i 0).val = (grid0.coords t 0).val * 1024 + (y 0).val)
    (h1 : (i 1).val = (11 + (grid0.coords t 1).val) * 512 + (y 1).val) :
    (outsAt0 m c t.val t.isLt).1 y = joined m c i := by
  have h : ¬ (i 1).val < 5632 := by omega
  refine Eq.trans ?_ (dif_neg h).symm
  exact acc_whole m c t h2 y (ix2 (i 0) ⟨(i 1).val - 5632, _⟩) h0 (by show (i 1).val - 5632 = _; omega)

theorem final : (dats m 0 c).arrAt 2 cfg0.N = joined m c := by
  rw [(dats m 0 c).arrAt_eq_of_coversWhere 2 (joined m c) (P := fun i => 5632 ≤ (i 1).val) (fun β => 11 ≤ β 1)
    (by decide +kernel) (fun t hf y => ?_) (fun j => by blk_simp [Pipeline.Window.cell_apply]; omega)]
  · funext i
    split
    · rfl
    · rename_i h
      rw [A_eq]
      have h' : (i 1).val < 5632 := Nat.lt_of_not_le h
      exact (show V m c main_v0 i = m ((c : Thread nD τ).loc main_arg2) i by entry_read; rfl).trans
        (joined_left m c i h').symm
  · have h2 := (flush0_2 t).mp hf
    have e := index_facts t 0 ⟨_, Pipeline.run_point_lt_of_flush t h2 0⟩ rfl
    have h0 : ((win0_2.blk t).view.emb y 0).val = (grid0.coords t 0).val * 1024 + (y 0).val := by blk_simp [e]
    have h1 : ((win0_2.blk t).view.emb y 1).val = (11 + (grid0.coords t 1).val) * 512 + (y 1).val := by blk_simp [e]
    blk_simp; rw [after0_2]
    exact joined_right m c t h2 y _ h0 h1

theorem algebraic : Cert.algebraic_GradUpRightIdeal_GradUpRightRefIdeal := by
  intro m ρ m' ρ' _ he
  refine ⟨joined m, (θ_run _ _ _).mono (fun _ h c => ⟨(h c).1.trans (final m c), (h c).2⟩) (Value.run_blocks m ρ),
    (θ_run _ _ _).mono (fun _ h c => ?_) (Cert.GradUpRightRefIdeal.Value.run m' ρ')⟩
  obtain ⟨h0, kept⟩ := h c
  rw [(he c).1, (he c).2.1, (he c).2.2] at h0
  exact ⟨h0.trans (funext fun y => by pointwise [joined, prodT]), kept⟩

end Cert.GradUpRightIdeal.Step

end
-- ==== Proof.Norm.lean ====
/-
  The calls that take the rows of their arrays block by block: the RMS norm of the layer's rows (`Norm`) and of the memory's
  (`NormMem`), the rows that attention gives times a weight, added to the layer's rows, with the norm of the sum (`Out`), and
  the cosines and sines of the angles of the rotary embedding (`Rope`). A row lies in one block, so each result, whole, is the
  same function of the whole arrays, and so is the reference's.
-/
module

public import proofs.«01_k».proof.Defs
public import proofs.«01_k».proof.Proof.Gen.NormIdeal.Value
public import proofs.«01_k».proof.Proof.Gen.NormRefIdeal.Run
public import proofs.«01_k».proof.Proof.Gen.NormMemIdeal.Value
public import proofs.«01_k».proof.Proof.Gen.NormMemRefIdeal.Run
public import proofs.«01_k».proof.Proof.Gen.OutIdeal.Value
public import proofs.«01_k».proof.Proof.Gen.OutRefIdeal.Run
public import proofs.«01_k».proof.Proof.Gen.RopeIdeal.Frame
public import proofs.«01_k».proof.Proof.Gen.RopeRefIdeal.Run
public import proofs.«01_k».proof.Proof.Product

@[expose] public section

noncomputable section

namespace Cert.Product

open Idealize.ShloMosaic Idealize.ShloMosaic.TcCoe

variable {R r : Nat}

/-- One over the root of the mean of a row's squares, a little added to the mean. -/
def scale (x : Fin 2048 → EReal) : EReal :=
  Ideal.rsqrt (Ideal.div (∑ k, x k * x k) (Ideal.ofBits .f32 0x45000000#32) + Ideal.ofBits .f32 0x358637BD#32)

/-- The norm of the rows of `x`, with gains `g`. -/
def rmsNorm (x : (Whole R 2048).Idx → EReal) (g : (Whole 1 2048).Idx → EReal) : (Whole R 2048).Idx → EReal :=
  fun i => x i * scale (fun k => x (ix2 (i 0) k)) * g (ix2 0 (i 1))

/-- Rows of `X` have the norm that they have in `X`. -/
theorem norm_block {x : (Whole r 2048).Idx → EReal} {g G : (Whole 1 2048).Idx → EReal} {X : (Whole R 2048).Idx → EReal}
    (y : (Whole r 2048).Idx) (z : (Whole R 2048).Idx) (hx : ∀ k, x (ix2 (y 0) k) = X (ix2 (z 0) k)) (hz : z 1 = y 1)
    (hg : ∀ k, g (ix2 0 k) = G (ix2 0 k)) : rmsNorm x g y = rmsNorm X G z :=
  have hz' : ((y 1).val : Nat) = (z 1).val := (congrArg Fin.val hz).symm
  have hX : X (ix2 (z 0) (y 1)) = X z := congrArg X (ext2 rfl hz')
  have hx' : x y = x (ix2 (y 0) (y 1)) := congrArg x (ext2 rfl rfl)
  have hG : G (ix2 0 (y 1)) = G (ix2 0 (z 1)) := congrArg G (ext2 rfl hz')
  congrArg₂ (· * ·) (congrArg₂ (· * ·) (hx'.trans ((hx (y 1)).trans hX)) (congrArg scale (funext hx))) ((hg (y 1)).trans hG)

end Cert.Product

namespace Cert.NormIdeal.Step

open Cert.NormIdeal Cert.NormIdeal.Gen Cert.Product Idealize.ShloMosaic Idealize.ShloMosaic.TcCoe Idealize.SL.Sem

theorem index_facts : ∀ t : Fin cfg0.N, win0_0.index t = ![(grid0.coords t 0).val, 0] ∧ win0_1.index t = ![0, 0]
    ∧ win0_2.index t = ![(grid0.coords t 0).val, 0] := by decide +kernel

theorem final (m : (ℓ : Loc nD τ sig) → Buf (Elt Ideal) ℓ) (c : Dev nD) : (dats m 0 c).arrAt 2 cfg0.N
    = rmsNorm (R := 8192) (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans (b := rmsNorm (R := 512) (iblk m c 0 t) (iblk m c 1 t) y) (by pointwise [k0_pay1, rmsNorm, scale]) ?_
  exact norm_block y _ (fun k => by blk_ext [iblk, V, index_facts t]) (Fin.ext (by blk_simp [index_facts t]))
    (fun k => by blk_ext [iblk, V, index_facts t])

theorem algebraic : Cert.algebraic_NormIdeal_NormRefIdeal := by
  intro m ρ m' ρ' _ he
  refine ⟨fun c => rmsNorm (R := 8192) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ?_) (Cert.NormRefIdeal.Value.run m' ρ')⟩
  obtain ⟨h0, kept⟩ := h c
  rw [(he c).1, (he c).2] at h0
  exact ⟨h0.trans (funext fun y => by pointwise [rmsNorm, scale]), kept⟩

end Cert.NormIdeal.Step

namespace Cert.NormMemIdeal.Step

open Cert.NormMemIdeal Cert.NormMemIdeal.Gen Cert.Product Idealize.ShloMosaic Idealize.ShloMosaic.TcCoe Idealize.SL.Sem

theorem index_facts : ∀ t : Fin cfg0.N, win0_0.index t = ![0, 0] ∧ win0_1.index t = ![0, 0]
    ∧ win0_2.index t = ![0, 0] := by decide +kernel

theorem final (m : (ℓ : Loc nD τ sig) → Buf (Elt Ideal) ℓ) (c : Dev nD) : (dats m 0 c).arrAt 2 cfg0.N
    = rmsNorm (R := 256) (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans (b := rmsNorm (R := 256) (iblk m c 0 t) (iblk m c 1 t) y) (by pointwise [k0_pay1, rmsNorm, scale]) ?_
  exact norm_block y _ (fun k => by blk_ext [iblk, V, index_facts t]) (Fin.ext (by blk_simp [index_facts t]))
    (fun k => by blk_ext [iblk, V, index_facts t])

theorem algebraic : Cert.algebraic_NormMemIdeal_NormMemRefIdeal := by
  intro m ρ m' ρ' _ he
  refine ⟨fun c => rmsNorm (R := 256) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ?_) (Cert.NormMemRefIdeal.Value.run m' ρ')⟩
  obtain ⟨h0, kept⟩ := h c
  rw [(he c).1, (he c).2] at h0
  exact ⟨h0.trans (funext fun y => by pointwise [rmsNorm, scale]), kept⟩

end Cert.NormMemIdeal.Step

namespace Cert.OutIdeal.Step

open Cert.OutIdeal Cert.OutIdeal.Gen Cert.Product Idealize.ShloMosaic Idealize.ShloMosaic.TcCoe Idealize.SL.Sem

variable (m : (ℓ : Loc nD τ sig) → Buf (Elt Ideal) ℓ) (c : Dev nD)

theorem index_facts : ∀ t : Fin cfg0.N, win0_0.index t = ![(grid0.coords t 0).val, 0] ∧ win0_1.index t = ![0, 0]
    ∧ win0_2.index t = ![(grid0.coords t 0).val, 0] ∧ win0_3.index t = ![0, 0]
    ∧ win0_4.index t = ![(grid0.coords t 0).val, 0] ∧ win0_5.index t = ![(grid0.coords t 0).val, 0] := by decide +kernel

/-- The layer's rows, with the product added: whole, -/
abbrev sum : (Whole 8192 2048).Idx → EReal := added (m ((c : Thread nD τ).loc main_arg2))
  (prod (M := 8192) (K := 2048) (N := 2048) (m ((c : Thread nD τ).loc main_arg0)) (m ((c : Thread nD τ).loc main_arg1)))

/-- and the rows of grid point `t`. -/
abbrev rows (t : Fin cfg0.N) : (Whole 512 2048).Idx → EReal := added (iblk m c 2 t)
  (prod (M := 512) (K := 2048) (N := 2048) (iblk m c 0 t) (iblk m c 1 t))

theorem rows_eq (t : Fin cfg0.N) (y : (Whole 512 2048).Idx) (z : (Whole 8192 2048).Idx)
    (h0 : (z 0).val = (grid0.coords t 0).val * 512 + (y 0).val) (h1 : (z 1).val = (y 1).val) : rows m c t y = sum m c z :=
  congrArg₂ (· + ·) (by blk_ext [iblk, V, index_facts t, h0, h1])
    (prod_block y z (fun k => by blk_ext [iblk, V, index_facts t, h0]) (fun k => by blk_ext [iblk, V, index_facts t, h1]))

theorem pay_eq (t : Fin cfg0.N) (y : (Whole 512 2048).Idx) (z : (Whole 8192 2048).Idx)
    (h0 : (z 0).val = (grid0.coords t 0).val * 512 + (y 0).val) (h1 : (z 1).val = (y 1).val) :
    k0_pay1 (iblk m c 0 t) (iblk m c 1 t) (iblk m c 2 t) y = sum m c z := by
  refine Eq.trans (b := rows m c t y) ?_ (rows_eq m c t y z h0 h1)
  pointwise [k0_pay1, rows, added, prod]
  exact add_comm _ _

theorem final_sum : (dats m 0 c).arrAt 4 cfg0.N = sum m c := by
  refine (dats m 0 c).arrAt_eq_of_covers 4 _ (by decide +kernel) fun t hf y => ?_
  blk_simp; rw [after0_4]; frame_out
  exact pay_eq m c t y _ (by blk_simp [index_facts t]) (by blk_simp [index_facts t])

theorem final_norm : (dats m 0 c).arrAt 5 cfg0.N = rmsNorm (sum m c) (m ((c : Thread nD τ).loc main_arg3)) := by
  refine (dats m 0 c).arrAt_eq_of_covers 5 _ (by decide +kernel) fun t hf y => ?_
  blk_simp; rw [after0_5]; frame_out
  refine Eq.trans (b := rmsNorm (R := 512) (k0_pay1 (iblk m c 0 t) (iblk m c 1 t) (iblk m c 2 t)) (iblk m c 3 t) y)
    (by pointwise [k0_pay2, rmsNorm, scale]) ?_
  exact norm_block y _ (fun k => pay_eq m c t _ _ (by blk_simp [index_facts t]) rfl) (Fin.ext (by blk_simp [index_facts t]))
    (fun k => by blk_ext [iblk, V, index_facts t])

theorem algebraic : Cert.algebraic_OutIdeal_OutRefIdeal := by
  intro m ρ m' ρ' _ he
  refine ⟨sum m, fun c => rmsNorm (sum m c) (m ((c : Thread nD τ).loc main_arg3)),
    (θ_run _ _ _).mono (fun _ h c => ⟨(h c).1.trans (final_sum m c), (h c).2.1.trans (final_norm m c), (h c).2.2⟩)
      (Value.run_blocks m ρ),
    (θ_run _ _ _).mono (fun _ h c => ?_) (Cert.OutRefIdeal.Value.run m' ρ')⟩
  obtain ⟨h0, h1, kept⟩ := h c
  rw [(he c).1, (he c).2.1, (he c).2.2.1] at h0
  rw [(he c).1, (he c).2.1, (he c).2.2.1, (he c).2.2.2] at h1
  exact ⟨h0.trans (funext fun y => by pointwise [sum, added, prod]),
    h1.trans (funext fun y => by pointwise [rmsNorm, scale, sum, added, prod]), kept⟩

end Cert.OutIdeal.Step

namespace Cert.RopeIdeal.Step

open Cert.RopeIdeal Cert.RopeIdeal.Gen Cert.Product Idealize.ShloMosaic Idealize.ShloMosaic.TcCoe Idealize.SL.Sem

variable (m : (ℓ : Loc nD τ sig) → Buf (Elt Ideal) ℓ) (c : Dev nD)

theorem index_facts : ∀ t : Fin cfg0.N, win0_0.index t = ![(grid0.coords t 0).val, 0] ∧ win0_1.index t = ![0, 0]
    ∧ win0_2.index t = ![(grid0.coords t 0).val, 0] ∧ win0_3.index t = ![(grid0.coords t 0).val, 0] := by decide +kernel

/-- The angles: a row's position times a column's frequency. -/
def angle {R : Nat} (p : (Whole R 1).Idx → BitVec 32) (f : (Whole 1 128).Idx → EReal) : (Whole R 128).Idx → EReal :=
  fun i => FloatOps.sitofp (F := Ideal) .f32 (p (ix2 (i 0) 0)) * f (ix2 0 (i 1))

theorem angle_eq (t : Fin cfg0.N) (y : (Whole 1024 128).Idx) (z : (Whole 8192 128).Idx)
    (h0 : (z 0).val = (grid0.coords t 0).val * 1024 + (y 0).val) (h1 : (z 1).val = (y 1).val) :
    angle (R := 1024) (iblk m c 0 t) (iblk m c 1 t) y
      = angle (R := 8192) (m ((c : Thread nD τ).loc main_arg0)) (m ((c : Thread nD τ).loc main_arg1)) z :=
  congrArg₂ (· * ·) (congrArg _ (by blk_ext [iblk, V, index_facts t, h0])) (by blk_ext [iblk, V, index_facts t, h1])

/-- The cosines and the sines of the angles. -/
abbrev cosines : (Whole 8192 128).Idx → EReal := fun i => Ideal.cos
  (angle (R := 8192) (m ((c : Thread nD τ).loc main_arg0)) (m ((c : Thread nD τ).loc main_arg1)) i)
abbrev sines : (Whole 8192 128).Idx → EReal := fun i => Ideal.sin
  (angle (R := 8192) (m ((c : Thread nD τ).loc main_arg0)) (m ((c : Thread nD τ).loc main_arg1)) i)

theorem final_cos : (dats m 0 c).arrAt 2 cfg0.N = cosines m c := by
  refine (dats m 0 c).arrAt_eq_of_covers 2 _ (by decide +kernel) fun t hf y => ?_
  blk_simp; rw [after0_2]; frame_out
  refine Eq.trans (b := Ideal.cos (angle (R := 1024) (iblk m c 0 t) (iblk m c 1 t) y))
    (by pointwise [k0_pay2, k0_pay1, angle]) (congrArg Ideal.cos ?_)
  exact angle_eq m c t y _ (by blk_simp [index_facts t]) (by blk_simp [index_facts t])

theorem final_sin : (dats m 0 c).arrAt 3 cfg0.N = sines m c := by
  refine (dats m 0 c).arrAt_eq_of_covers 3 _ (by decide +kernel) fun t hf y => ?_
  blk_simp; rw [after0_3]; frame_out
  refine Eq.trans (b := Ideal.sin (angle (R := 1024) (iblk m c 0 t) (iblk m c 1 t) y))
    (by pointwise [k0_pay3, k0_pay1, angle]) (congrArg Ideal.sin ?_)
  exact angle_eq m c t y _ (by blk_simp [index_facts t]) (by blk_simp [index_facts t])

/-- The run ends with the cosines, the sines and the arguments. -/
theorem run (ρ : Dev nD → PrngReg) : θ_run defs (onTc (τ := τ) (main (F := Ideal))) ⟨m, fun _ => 0, ρ⟩ fun r => ∀ c : Dev nD,
    r.2.mem ((c : Thread nD τ).loc main_v0_0) = cosines m c ∧ r.2.mem ((c : Thread nD τ).loc main_v0_1) = sines m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final_cos m c), ((h c).1 3).trans (final_sin m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

theorem algebraic : Cert.algebraic_RopeIdeal_RopeRefIdeal := by
  intro m ρ m' ρ' _ he
  refine ⟨cosines m, sines m, run m ρ, (θ_run _ _ _).mono (fun _ h c => ?_) (Cert.RopeRefIdeal.Value.run m' ρ')⟩
  obtain ⟨h0, h1, kept⟩ := h c
  rw [(he c).1, (he c).2] at h0 h1
  exact ⟨h0.trans (funext fun y => by pointwise [cosines, angle]), h1.trans (funext fun y => by pointwise [sines, angle]), kept⟩

end Cert.RopeIdeal.Step

end
-- ==== Proof.Attend.lean ====
/-
  The attention to the memory (`Attend`): 8192 queries, 256 keys and values, four heads of 512 columns. Each grid point takes
  512 queries and, head by head, weighs the values by the softmax of the scaled products of its queries with the keys. A
  number of the result depends on one query, on the keys' columns of its head and on one column of the values (`head`), so
  the result, whole, is one function of the whole arrays (`attend`). The reference has the heads as an axis, and is opened
  operation by operation.
-/
module

public import proofs.«01_k».proof.Defs
public import proofs.«01_k».proof.Proof.Gen.AttendIdeal.Frame
public import proofs.«01_k».proof.Proof.Gen.AttendRefIdeal.Run
public import proofs.«01_k».proof.Proof.Product

@[expose] public section

noncomputable section

namespace Cert.AttendIdeal.Step

open Cert.AttendIdeal Cert.AttendIdeal.Gen Cert.Product Idealize.ShloMosaic Idealize.ShloMosaic.TcCoe Idealize.SL.Sem

/-- The greatest of 256 scores. -/
def top (s : Fin 256 → EReal) : EReal := Finset.fold max (Ideal.ofBits .f32 0xFF800000#32) s Finset.univ

/-- The softmax of 256 scores. -/
def soft (s : Fin 256 → EReal) (j : Fin 256) : EReal :=
  Ideal.div (Ideal.exp (s j - top s)) (∑ k, Ideal.exp (s k - top s))

/-- The score of a query at a key. -/
def score (q k : Fin 512 → EReal) : EReal := (∑ d, q d * k d) * Ideal.ofBits .f32 0x3D3504F3#32

/-- One number of a head's result: a query, the keys, and a column of the values. -/
def head (q : Fin 512 → EReal) (k : Fin 256 → Fin 512 → EReal) (v : Fin 256 → EReal) : EReal :=
  ∑ j, soft (fun j => score q (k j)) j * v j

/-- Each of the four payloads is one head, element by element. -/
theorem pay2 (q : Vec Ideal S512x512 .bf16) (k v : Vec Ideal S256x512 .bf16) (y : (Whole 512 512).Idx) :
    k0_pay2 q k v y = head (fun d => q (ix2 (y 0) d)) (fun j d => k (ix2 j d)) (fun j => v (ix2 j (y 1))) := by
  pointwise [k0_pay2, head, soft, score, top]

theorem pay5 (q : Vec Ideal S512x512 .bf16) (k v : Vec Ideal S256x512 .bf16) : k0_pay5 q k v = k0_pay2 q k v := rfl
theorem pay4 (q : Vec Ideal S512x512 .bf16) (k v : Vec Ideal S256x512 .bf16) : k0_pay4 v (k0_pay3 q k) = k0_pay2 q k v := rfl
theorem pay1 (q : Vec Ideal S512x512 .bf16) (k v : Vec Ideal S256x512 .bf16) :
    k0_pay1 (k0_pay6 q k) (k0_pay7 q k) v = k0_pay2 q k v := rfl

/-- Column `d` of the head that `i` lies in. -/
def col {R : Nat} (i : (Whole R 2048).Idx) (d : Fin 512) : Fin 2048 :=
  ⟨(i 1).val / 512 * 512 + d.val, by have := (i 1).isLt; change (i 1).val < 2048 at this; omega⟩

/-- The attention, whole. -/
def attend {R : Nat} (Q : (Whole R 2048).Idx → EReal) (K V : (Whole 256 2048).Idx → EReal) : (Whole R 2048).Idx → EReal :=
  fun i => head (fun d => Q (ix2 (i 0) (col i d))) (fun j d => K (ix2 j (col i d))) (fun j => V (ix2 j (i 1)))

theorem head_congr {q q' : Fin 512 → EReal} {k k' : Fin 256 → Fin 512 → EReal} {v v' : Fin 256 → EReal}
    (hq : ∀ d, q d = q' d) (hk : ∀ j d, k j d = k' j d) (hv : ∀ j, v j = v' j) : head q k v = head q' k' v' := by
  rw [funext hq, funext fun j => funext (hk j), funext hv]

/-- The block that a grid point writes is the attention of its queries. -/
theorem block (q : Vec Ideal S512x2048 .bf16) (k v : Vec Ideal S256x2048 .bf16) (y : (Whole 512 2048).Idx) :
    out0_3 q k v y = attend (R := 512) q k v y := by
  unfold out0_3
  rw [pay1, pay5, pay4]
  canon_tiles x h
  all_goals
    rw [pay2]
    refine head_congr (fun d => View.ld_unit_apply_of _ _ _ _ _ _ fun a => ?_)
      (fun j d => View.ld_unit_apply_of _ _ _ _ _ _ fun a => ?_) (fun j => View.ld_unit_apply_of _ _ _ _ _ _ fun a => ?_)
    all_goals
      match a with
      | 0 => simp [h0]
      | 1 => simp [col, h1] <;> omega

/-- A maximum with the start once more is the same. -/
theorem top_eq (s : Fin 256 → EReal) : max (Ideal.ofBits .f32 0xFF800000#32) (top s) = top s :=
  max_eq_right ((Finset.le_fold_max _).mpr (Or.inl le_rfl))

end Cert.AttendIdeal.Step

namespace Cert.AttendRefIdeal.Step

open Cert.AttendRefIdeal Cert.AttendRefIdeal.Gen Cert.Product Cert.AttendIdeal.Step Idealize.ShloMosaic Idealize.ShloMosaic.TcCoe Idealize.SL.Sem

/-- Column `d` of head `h` is one of the 2048. -/
theorem cols (h : Fin 4) (d : Fin 512) : h.val * 512 + d.val < 2048 := by omega

/-- The reference's scores, all heads. -/
def scores (q : FVec Ideal S8192x2048 .bf16) (k : FVec Ideal S256x2048 .bf16) : FVec Ideal S4x8192x256 .f32 :=
  mulf (Host.dotGeneral dot_S8192x4x512_S256x4x512_S4x8192x256_2_2_0_0_1_1 none (shapeCast _ (extf .f32 q bitsLt_bf16_f32) shapeCasts_S8192x2048_S8192x4x512) (shapeCast _ (extf .f32 k bitsLt_bf16_f32) shapeCasts_S256x2048_S256x4x512)) (broadcastInDim S4x8192x256 ![] bcast_S_S4x8192x256 (constant S_ .f32 0x3D3504F3#32))

/-- Each query's greatest score. -/
def tops (s : FVec Ideal S4x8192x256 .f32) : FVec Ideal S4x8192 .f32 :=
  Host.reduce FloatOps.maximumf s (constant S_ .f32 0xFF800000#32) reducesTo_S4x8192x256_S4x8192_d2 h_S_

/-- A maximum along the last of three axes. -/
theorem max_last {a b c : Nat} {u : Shape} (s : FVec Ideal ⟨3, ![a, b, c]⟩ .f32) (z : FVec Ideal u .f32)
    (h : (⟨3, ![a, b, c]⟩ : Shape).ReducesTo [2] ⟨2, ![a, b]⟩) (hu : 0 < u.numel) (j : (⟨2, ![a, b]⟩ : Shape).Idx) :
    Host.reduce FloatOps.maximumf s z h hu j
      = Finset.fold max (z (Shape.Idx.first hu)) (fun x => s (ix3 (j 0) (j 1) x)) Finset.univ := by
  rw [Host.reduce_eq_fold]
  exact h.fold_fiber_r3_a2 j max (z (Shape.Idx.first hu)) s

theorem tops_at (s : FVec Ideal S4x8192x256 .f32) (a : Fin 4) (b : Fin 8192) :
    tops s (ix2 a b) = top (fun x => s (ix3 a b x)) :=
  max_last s _ _ _ _

/-- The exponentials of the scores, less their greatest. -/
def exps (s : FVec Ideal S4x8192x256 .f32) (t : FVec Ideal S4x8192 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) t))))

theorem scores_at (q : FVec Ideal S8192x2048 .bf16) (k : FVec Ideal S256x2048 .bf16) (y : S4x8192x256.Idx) :
    scores q k y = score (fun d => q (ix2 (y 1) ⟨(y 0).val * 512 + d.val, cols (y 0) d⟩))
      (fun d => k (ix2 (y 2) ⟨(y 0).val * 512 + d.val, cols (y 0) d⟩)) := by
  pointwise [scores, score]

theorem exps_at (s : FVec Ideal S4x8192x256 .f32) (t : FVec Ideal S4x8192 .f32) (y : S4x8192x256.Idx) :
    exps s t y = Ideal.exp (s y - max (Ideal.ofBits .f32 0xFF800000#32) (t (ix2 (y 0) (y 1)))) := by
  pointwise [exps]

/-- The exponentials over their sum. -/
def shares (e : FVec Ideal S4x8192x256 .f32) : FVec Ideal S4x8192x256 .f32 :=
  Host.divf e (broadcastInDim S4x8192x256 ![0, 1, 2] bcast_S4x8192x1_S4x8192x256_0_1_2 (broadcastInDim S4x8192x1 ![0, 1] bcast_S4x8192_S4x8192x1_0_1 (Host.reduceAdd e (constant S_ .f32 0x00000000#32) reducesTo_S4x8192x256_S4x8192_d2 h_S_)))

theorem shares_at (s : FVec Ideal S4x8192x256 .f32) (y : S4x8192x256.Idx) : shares s y = Ideal.div (s y) (∑ x, s (ix3 (y 0) (y 1) x)) := by
  pointwise [shares]

/-- The values weighed by the shares. -/
def weighed (v : FVec Ideal S256x2048 .bf16) (p : FVec Ideal S4x8192x256 .f32) : FVec Ideal S8192x2048 .bf16 :=
  truncf .bf16 (shapeCast _ (transpose S8192x4x512 [2, 0, 1] (Host.dotGeneral dot_S256x4x512_S4x8192x256_S4x512x8192_0_2_2_1_1_0 none (shapeCast _ (extf .f32 v bitsLt_bf16_f32) shapeCasts_S256x2048_S256x4x512) p) transposes_S4x512x8192_S8192x4x512_2_0_1) shapeCasts_S8192x4x512_S8192x2048) bitsLt_bf16_f32

theorem weighed_at (v : FVec Ideal S256x2048 .bf16) (p : FVec Ideal S4x8192x256 .f32) (y : S8192x2048.Idx) :
    weighed v p y = ∑ x, v (ix2 x (y 1)) * p (ix3 ⟨(y 1).val / 512, by have := (y 1).isLt; change (y 1).val < 2048 at this; omega⟩ (y 0) x) := by
  pointwise [weighed]

theorem exps_tops (s : FVec Ideal S4x8192x256 .f32) (a : Fin 4) (b : Fin 8192) (x : Fin 256) :
    exps s (tops s) (ix3 a b x) = Ideal.exp (s (ix3 a b x) - top (fun x => s (ix3 a b x))) := by
  rw [exps_at]
  refine congrArg (fun e => Ideal.exp (s (ix3 a b x) - e)) ((congrArg _ (tops_at s a b)).trans (top_eq _))

theorem shares_exps (s : FVec Ideal S4x8192x256 .f32) (a : Fin 4) (b : Fin 8192) (x : Fin 256) :
    shares (exps s (tops s)) (ix3 a b x) = soft (fun j => s (ix3 a b j)) x :=
  (shares_at _ _).trans (congrArg₂ Ideal.div (exps_tops s a b x) (Finset.sum_congr rfl fun z _ => exps_tops s a b z))

/-- The reference's operations give the attention. -/
theorem host (q : FVec Ideal S8192x2048 .bf16) (k v : FVec Ideal S256x2048 .bf16) :
    weighed v (shares (exps (scores q k) (tops (scores q k)))) = attend (R := 8192) q k v := by
  funext y
  refine (weighed_at v _ y).trans ?_
  rw [attend, head]
  refine Finset.sum_congr rfl fun x _ => (mul_comm _ _).trans ?_
  refine congrArg (· * v (ix2 x (y 1))) ((shares_exps _ _ _ _).trans ?_)
  exact congrArg (fun f => soft f x) (funext fun j => scores_at q k (ix3 _ _ j))

end Cert.AttendRefIdeal.Step

namespace Cert.AttendIdeal.Step

open Cert.AttendIdeal Cert.AttendIdeal.Gen Cert.Product Idealize.ShloMosaic Idealize.ShloMosaic.TcCoe Idealize.SL.Sem

variable (m : (ℓ : Loc nD τ sig) → Buf (Elt Ideal) ℓ) (c : Dev nD)

theorem index_facts : ∀ t : Fin cfg0.N, win0_0.index t = ![(grid0.coords t 0).val, 0] ∧ win0_1.index t = ![0, 0]
    ∧ win0_2.index t = ![0, 0] ∧ win0_3.index t = ![(grid0.coords t 0).val, 0] := by decide +kernel

theorem final : (dats m 0 c).arrAt 3 cfg0.N = attend (R := 8192) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp; rw [after0_3]
  refine (block _ _ _ _).trans (head_congr (fun d => ?_) (fun j d => ?_) (fun j => ?_)) <;> blk_ext [iblk, V, index_facts t, col]

/-- The run ends with the attention and the arguments. -/
theorem run (ρ : Dev nD → PrngReg) : θ_run defs (onTc (τ := τ) (main (F := Ideal))) ⟨m, fun _ => 0, ρ⟩ fun r => ∀ c : Dev nD,
    r.2.mem ((c : Thread nD τ).loc main_v0) = attend (R := 8192) (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

theorem algebraic : Cert.algebraic_AttendIdeal_AttendRefIdeal := by
  intro m ρ m' ρ' _ he
  refine ⟨_, run m ρ, (θ_run _ _ _).mono (fun _ h c => ?_) (Cert.AttendRefIdeal.Value.run m' ρ')⟩
  obtain ⟨h0, kept⟩ := h c
  rw [(he c).1, (he c).2.1, (he c).2.2] at h0
  exact ⟨h0.trans (Cert.AttendRefIdeal.Step.host _ _ _), kept⟩

end Cert.AttendIdeal.Step

end
-- ==== Proof.NormBack.lean ====
/-
  The backward pass of the RMS norm: what is passed back to the rows, and to the gains. `NormBack` and `NormBackIn` take
  256 of 8192 rows at a grid point, add an array to what the rows get, and add up over the grid points what the gains get;
  `NormBack` writes the rows a second time, in bf16. `NormBackMem` takes its 256 rows at its one grid point and adds nothing.

  The reference passes back to a row through its mean square: once for each factor of a square, by a half of the derivative
  of one over the root, which it writes as the quotient of one over the root and the mean square. The kernel does it once, by
  the cube of one over the root. The two are equal for any rows, the mean square, with a little added, being positive
  (`rsqrt_div`, `halves`, `through_scale`).
-/
module

public import proofs.«01_k».proof.Defs
public import proofs.«01_k».proof.Proof.Gen.NormBackIdeal.Frame
public import proofs.«01_k».proof.Proof.Gen.NormBackRefIdeal.Run
public import proofs.«01_k».proof.Proof.Gen.NormBackInIdeal.Frame
public import proofs.«01_k».proof.Proof.Gen.NormBackInRefIdeal.Run
public import proofs.«01_k».proof.Proof.Gen.NormBackMemIdeal.Frame
public import proofs.«01_k».proof.Proof.Gen.NormBackMemRefIdeal.Run
public import proofs.«01_k».proof.Proof.Norm

@[expose] public section

noncomputable section

namespace Cert.Product

open Idealize.ShloMosaic Idealize.ShloMosaic.TcCoe

variable {R r : Nat}

/-- The mean of a row's squares, a little added. -/
def meanSquare (x : Fin 2048 → EReal) : EReal :=
  Ideal.div (∑ k, x k * x k) (Ideal.ofBits .f32 0x45000000#32) + Ideal.ofBits .f32 0x358637BD#32

theorem width : Ideal.ofBits .f32 0x45000000#32 = ((2048 : ℝ) : EReal) := by
  simp [Ideal.ofBits, Ideal.ieee, -EReal.coe_mul]; norm_num

theorem minus_half : Ideal.ofBits .f32 0xBF000000#32 = ((-(1 / 2) : ℝ) : EReal) := by
  simp [Ideal.ofBits, Ideal.ieee, -EReal.coe_mul]; norm_num

theorem mul_self_nonneg (x : EReal) : 0 ≤ x * x := by
  induction x with
  | bot => simp
  | top => simp
  | coe a => exact_mod_cast _root_.mul_self_nonneg a

theorem meanSquare_pos (x : Fin 2048 → EReal) : 0 < meanSquare x := by
  have h1 : (0 : EReal) < Ideal.ofBits .f32 0x358637BD#32 := by
    simp [Ideal.ofBits, Ideal.ieee, -EReal.coe_mul]
  have h2 : (0 : EReal) ≤ Ideal.div (∑ k, x k * x k) (Ideal.ofBits .f32 0x45000000#32) := by
    rw [width, Ideal.div_coe (by norm_num)]
    exact mul_nonneg (Finset.sum_nonneg fun k _ => mul_self_nonneg (x k)) (by exact_mod_cast (by norm_num : (0 : ℝ) ≤ 1 / 2048))
  exact lt_of_lt_of_le h1 (le_add_of_nonneg_left h2)

/-- One over the root, over the number itself, is the cube of one over the root. -/
theorem rsqrt_div {x : EReal} (h : 0 < x) : Ideal.div (Ideal.rsqrt x) x = Ideal.rsqrt x * Ideal.rsqrt x * Ideal.rsqrt x := by
  induction x with
  | bot => simp at h
  | top => simp [Ideal.zero_div]
  | coe a =>
    have ha : 0 < a := by exact_mod_cast h
    rw [Ideal.div_coe ha.ne', Ideal.rsqrt_coe, if_neg (not_lt.mpr ha.le), if_neg ha.ne']
    norm_cast
    rw [mul_assoc, ← mul_inv, Real.mul_self_sqrt ha.le, one_div]

theorem halves (w : EReal) : ((-(1 / 2) : ℝ) : EReal) * w + ((-(1 / 2) : ℝ) : EReal) * w = -w := by
  induction w with
  | bot => rw [EReal.coe_mul_bot_of_neg (by norm_num)]; simp
  | top => rw [EReal.coe_mul_top_of_neg (by norm_num)]; simp
  | coe a => norm_cast; ring_nf

/-- What a row's element `x` passes back through the scale, `P` being the row's sum: twice a half. -/
theorem through_scale (a x P s : EReal) (v : EReal) (h : 0 < v) (hs : s = Ideal.rsqrt v) :
    a + x * Ideal.div (P * (Ideal.ofBits .f32 0xBF000000#32 * Ideal.div s v)) (Ideal.ofBits .f32 0x45000000#32)
      + Ideal.div (P * (Ideal.ofBits .f32 0xBF000000#32 * Ideal.div s v)) (Ideal.ofBits .f32 0x45000000#32) * x
      = a - x * (s * s * s) * Ideal.div P (Ideal.ofBits .f32 0x45000000#32) := by
  subst hs
  rw [rsqrt_div h, minus_half, width, Ideal.div_coe (by norm_num), Ideal.div_coe (by norm_num)]
  generalize Ideal.rsqrt v * Ideal.rsqrt v * Ideal.rsqrt v = q
  generalize ((1 / 2048 : ℝ) : EReal) = n
  rw [sub_eq_add_neg, ← halves, add_assoc]
  congr 2 <;> ac_rfl

/-- What the norm of the rows of `x` with gains `g` passes back, `d` being passed back to it: to the rows, -/
def normBack (x d : (Whole R 2048).Idx → EReal) (g : (Whole 1 2048).Idx → EReal) : (Whole R 2048).Idx → EReal := fun i =>
  scale (fun k => x (ix2 (i 0) k)) * (d i * g (ix2 0 (i 1)))
    - x i * (scale (fun k => x (ix2 (i 0) k)) * scale (fun k => x (ix2 (i 0) k)) * scale (fun k => x (ix2 (i 0) k)))
      * Ideal.div (∑ k, x (ix2 (i 0) k) * (d (ix2 (i 0) k) * g (ix2 0 k))) (Ideal.ofBits .f32 0x45000000#32)

/-- and to the gains. -/
def gainBack (x d : (Whole R 2048).Idx → EReal) : (Whole 1 2048).Idx → EReal := fun i =>
  ∑ k : Fin R, d (ix2 k (i 1)) * x (ix2 k (i 1)) * scale (fun l => x (ix2 k l))

/-- The same, each of the two factors of a square passing back a half. -/
theorem normBack_eq (x d : (Whole R 2048).Idx → EReal) (g : (Whole 1 2048).Idx → EReal) (i : (Whole R 2048).Idx) :
    normBack x d g i = d i * g (ix2 0 (i 1)) * scale (fun k => x (ix2 (i 0) k))
      + x i * Ideal.div ((∑ k, x (ix2 (i 0) k) * (d (ix2 (i 0) k) * g (ix2 0 k))) * (Ideal.ofBits .f32 0xBF000000#32
        * Ideal.div (scale fun k => x (ix2 (i 0) k)) (meanSquare fun k => x (ix2 (i 0) k)))) (Ideal.ofBits .f32 0x45000000#32)
      + Ideal.div ((∑ k, x (ix2 (i 0) k) * (d (ix2 (i 0) k) * g (ix2 0 k))) * (Ideal.ofBits .f32 0xBF000000#32
        * Ideal.div (scale fun k => x (ix2 (i 0) k)) (meanSquare fun k => x (ix2 (i 0) k)))) (Ideal.ofBits .f32 0x45000000#32) * x i := by
  unfold normBack
  rw [mul_comm (scale _) (d i * _)]
  exact (through_scale _ _ _ _ _ (meanSquare_pos _) rfl).symm

/-- Rows of `X` and `D` are passed back what they are passed in `X` and `D`. -/
theorem normBack_block {x d : (Whole r 2048).Idx → EReal} {g G : (Whole 1 2048).Idx → EReal} {X D : (Whole R 2048).Idx → EReal}
    (y : (Whole r 2048).Idx) (z : (Whole R 2048).Idx) (hx : ∀ k, x (ix2 (y 0) k) = X (ix2 (z 0) k))
    (hd : ∀ k, d (ix2 (y 0) k) = D (ix2 (z 0) k)) (hz : z 1 = y 1)
    (hg : ∀ k, g (ix2 0 k) = G (ix2 0 k)) : normBack x d g y = normBack X D G z := by
  have e (f : (Whole r 2048).Idx → EReal) : f y = f (ix2 (y 0) (y 1)) := congrArg f (ext2 rfl rfl)
  have e' (f : (Whole R 2048).Idx → EReal) : f z = f (ix2 (z 0) (y 1)) := congrArg f (ext2 rfl (congrArg Fin.val hz))
  have h0 : x (ix2 (y 0) (y 1)) = X (ix2 (z 0) (y 1)) := hx (y 1)
  have h1 : d (ix2 (y 0) (y 1)) = D (ix2 (z 0) (y 1)) := hd (y 1)
  have h2 : g (ix2 0 (y 1)) = G (ix2 0 (y 1)) := hg (y 1)
  unfold normBack
  rw [e x, e d, e' X, e' D, hz, h0, h1, h2]
  simp only [hx, hd, hg]

theorem gainBack_comm (x d : (Whole R 2048).Idx → EReal) : gainBack x d = fun i =>
    ∑ k : Fin R, x (ix2 k (i 1)) * scale (fun l => x (ix2 k l)) * d (ix2 k (i 1)) :=
  funext fun _ => Finset.sum_congr rfl fun _ _ => by ac_rfl

/-- The gains get the sum of what the stretches of rows give them. -/
theorem gainBack_stretches {K S : Nat} {x d : Fin S → (Whole K 2048).Idx → EReal} {X D : (Whole R 2048).Idx → EReal}
    (y z : (Whole 1 2048).Idx) (hz : z 1 = y 1) (hR : R = S * K)
    (hx : ∀ s k l (h : s.val * K + k.val < R), x s (ix2 k l) = X (ix2 ⟨s.val * K + k.val, h⟩ l))
    (hd : ∀ s k l (h : s.val * K + k.val < R), d s (ix2 k l) = D (ix2 ⟨s.val * K + k.val, h⟩ l)) :
    ∑ s : Fin S, gainBack (x s) (d s) y = gainBack X D z :=
  Fin.sum_mul_add_congr (fun s k h => congrArg₂ (· * ·) (congrArg₂ (· * ·)
    ((hd s k (y 1) h).trans (by rw [hz])) ((hx s k (y 1) h).trans (by rw [hz]))) (congrArg scale (funext fun l => hx s k l h))) hR

end Cert.Product

namespace Cert.NormBackIdeal.Step

open Cert.NormBackIdeal Cert.NormBackIdeal.Gen Cert.Product Idealize.ShloMosaic Idealize.ShloMosaic.TcCoe Idealize.SL.Sem

variable (m : (ℓ : Loc nD τ sig) → Buf (Elt Ideal) ℓ) (c : Dev nD)

theorem index_facts : ∀ t : Fin cfg0.N, win0_0.index t = ![t.val, 0] ∧ win0_1.index t = ![t.val, 0]
    ∧ win0_2.index t = ![0, 0] ∧ win0_3.index t = ![t.val, 0] ∧ win0_4.index t = ![t.val, 0]
    ∧ win0_5.index t = ![0, 0] ∧ win0_6.index t = ![t.val, 0] := by decide +kernel

/-- What the rows get, with the third argument added, and what the gains get. -/
abbrev rows : (Whole 8192 2048).Idx → EReal := added (normBack (R := 8192) (m ((c : Thread nD τ).loc main_arg0))
  (m ((c : Thread nD τ).loc main_arg1)) (m ((c : Thread nD τ).loc main_arg2))) (m ((c : Thread nD τ).loc main_arg3))
abbrev gains : (Whole 1 2048).Idx → EReal :=
  gainBack (R := 8192) (m ((c : Thread nD τ).loc main_arg0)) (m ((c : Thread nD τ).loc main_arg1))

theorem pay_rows (x d e : Vec Ideal S256x2048 .f32) (g : Vec Ideal S1x2048 .f32) (y : (Whole 256 2048).Idx) :
    k0_pay3 x d g e y = added (normBack (R := 256) x d g) e y := by
  pointwise [k0_pay3, k0_pay2, added, normBack, scale]

theorem pay_gains (x d : Vec Ideal S256x2048 .f32) (y : (Whole 1 2048).Idx) : k0_pay5 x d y = gainBack (R := 256) x d y := by
  pointwise [k0_pay5, k0_pay2, gainBack, scale]

theorem out_rows (t : Fin cfg0.N) : (outsAt0 m c t.val t.isLt).1 = k0_pay3 (iblk m c 0 t) (iblk m c 1 t) (iblk m c 2 t) (iblk m c 3 t)
    ∧ (outsAt0 m c t.val t.isLt).2.2 = k0_pay4 (iblk m c 0 t) (iblk m c 1 t) (iblk m c 2 t) (iblk m c 3 t) := by
  have hN : t.val < 32 := lt_of_lt_of_eq t.isLt N_0
  by_cases h : t.val = 0
  · rw [outsAt0_A m c t (by omega) (by omega)]
    constructor <;> frame_out
  · rw [outsAt0_B m c t (by omega) (by omega)]
    constructor <;> frame_out

theorem rows_eq (t : Fin cfg0.N) (y : (Whole 256 2048).Idx) (z : (Whole 8192 2048).Idx) (h0 : (z 0).val = t.val * 256 + (y 0).val)
    (h1 : (z 1).val = (y 1).val) : added (normBack (R := 256) (iblk m c 0 t) (iblk m c 1 t) (iblk m c 2 t)) (iblk m c 3 t) y = rows m c z :=
  congrArg₂ (· + ·) (normBack_block y z (fun k => by blk_ext [iblk, V, index_facts t, h0])
    (fun k => by blk_ext [iblk, V, index_facts t, h0]) (Fin.ext h1) (fun k => by blk_ext [iblk, V, index_facts t]))
    (by blk_ext [iblk, V, index_facts t, h0, h1])

theorem final_rows : (dats m 0 c).arrAt 4 cfg0.N = rows m c := by
  refine (dats m 0 c).arrAt_eq_of_covers 4 _ (by decide +kernel) fun t hf y => ?_
  blk_simp; rw [after0_4, (out_rows m c t).1, pay_rows]
  exact rows_eq m c t y _ (by blk_simp [index_facts t]) (by blk_simp [index_facts t])

theorem final_rounded : (dats m 0 c).arrAt 6 cfg0.N = rows m c := by
  refine (dats m 0 c).arrAt_eq_of_covers 6 _ (by decide +kernel) fun t hf y => ?_
  blk_simp; rw [after0_6, (out_rows m c t).2]
  refine Eq.trans (b := k0_pay3 (iblk m c 0 t) (iblk m c 1 t) (iblk m c 2 t) (iblk m c 3 t) y) (by pointwise [k0_pay4]) ?_
  rw [pay_rows]
  exact rows_eq m c t y _ (by blk_simp [index_facts t]) (by blk_simp [index_facts t])

/-- What the rows of grid point `t` give to the gains. -/
abbrev part (t : Fin cfg0.N) : (Whole 1 2048).Idx → EReal := gainBack (R := 256) (iblk m c 0 t) (iblk m c 1 t)

theorem acc_first (t : Fin cfg0.N) (h0 : t.val % 32 = 0) (y : (Whole 1 2048).Idx) :
    (outsAt0 m c t.val t.isLt).2.1 y = (fun _ => 0 : (Whole 1 2048).Idx → EReal) y + part m c t y := by
  have hN : t.val < 32 := lt_of_lt_of_eq t.isLt N_0
  rw [outsAt0_A m c t h0 (by omega), zero_add]
  frame_out
  exact pay_gains _ _ y

theorem acc_next (t : Fin cfg0.N) (h0 : ¬ t.val % 32 = 0) (y : (Whole 1 2048).Idx) : (outsAt0 m c t.val t.isLt).2.1 y
    = (outsAt0 m c (t.val - 1) (Nat.lt_of_le_of_lt (Nat.sub_le _ _) t.isLt)).2.1 y + part m c t y := by
  rw [outsAt0_B m c t h0 (by omega)]
  frame_out
  refine Eq.trans ?_ (congrArg (_ + ·) (pay_gains _ _ y))
  pointwise [k0_pay1]

theorem final_gains : (dats m 0 c).arrAt 5 cfg0.N = gains m c := by
  refine (dats m 0 c).arrAt_eq_of_covers 5 _ (by decide +kernel) fun t hf y => ?_
  have h := (flush0_5 t).mp hf
  have hN : t.val < 32 := lt_of_lt_of_eq t.isLt N_0
  blk_simp; rw [after0_5, Pipeline.eq_sum_fin_of_reset_step_apply_of_flush (fun n h => (outsAt0 m c n h).2.1) 32 (fun _ => 0) (part m c)
    (acc_first m c) (acc_next m c) t h y, zero_add]
  exact gainBack_stretches (K := 256) (S := 32) y _ (Fin.ext (by blk_simp [index_facts t])) (by decide)
    (fun s k l h => by
      have e : 32 * (t.val / 32) + s.val = s.val := by omega
      blk_ext [iblk, V, index_facts, e])
    (fun s k l h => by
      have e : 32 * (t.val / 32) + s.val = s.val := by omega
      blk_ext [iblk, V, index_facts, e])

/-- The run ends with what the rows and the gains get, and with the arguments. -/
theorem run (ρ : Dev nD → PrngReg) : θ_run defs (onTc (τ := τ) (main (F := Ideal))) ⟨m, fun _ => 0, ρ⟩ fun r => ∀ c : Dev nD,
    r.2.mem ((c : Thread nD τ).loc main_v0_0) = rows m c ∧ r.2.mem ((c : Thread nD τ).loc main_v0_1) = gains m c
      ∧ r.2.mem ((c : Thread nD τ).loc main_v0_2) = rows m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final_rows m c), ((h c).1 5).trans (final_gains m c),
    ((h c).1 6).trans (final_rounded m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩) (run_main m ρ)

theorem algebraic : Cert.algebraic_NormBackIdeal_NormBackRefIdeal := by
  intro m ρ m' ρ' _ he
  refine ⟨rows m, gains m, rows m, run m ρ, (θ_run _ _ _).mono (fun _ h c => ?_) (Cert.NormBackRefIdeal.Value.run m' ρ')⟩
  obtain ⟨h0, h1, h2, kept⟩ := h c
  rw [(he c).1, (he c).2.1, (he c).2.2.1, (he c).2.2.2] at h0 h2
  rw [(he c).1, (he c).2.1] at h1
  refine ⟨h0.trans (funext fun y => ?_), h1.trans (funext fun y => ?_), h2.trans (funext fun y => ?_), kept⟩
  · refine Eq.trans ?_ (congrArg (· + _) (normBack_eq _ _ _ y)).symm
    pointwise [scale, meanSquare, Fin.sum_univ_one]
  · rw [gains, gainBack_comm]
    pointwise [scale]
  · refine Eq.trans ?_ (congrArg (· + _) (normBack_eq _ _ _ y)).symm
    pointwise [scale, meanSquare, Fin.sum_univ_one]

end Cert.NormBackIdeal.Step

namespace Cert.NormBackInIdeal.Step

open Cert.NormBackInIdeal Cert.NormBackInIdeal.Gen Cert.Product Idealize.ShloMosaic Idealize.ShloMosaic.TcCoe Idealize.SL.Sem

variable (m : (ℓ : Loc nD τ sig) → Buf (Elt Ideal) ℓ) (c : Dev nD)

theorem index_facts : ∀ t : Fin cfg0.N, win0_0.index t = ![t.val, 0] ∧ win0_1.index t = ![t.val, 0]
    ∧ win0_2.index t = ![0, 0] ∧ win0_3.index t = ![t.val, 0] ∧ win0_4.index t = ![t.val, 0]
    ∧ win0_5.index t = ![0, 0] := by decide +kernel

/-- What the rows get, with the third argument added, and what the gains get. -/
abbrev rows : (Whole 8192 2048).Idx → EReal := added (normBack (R := 8192) (m ((c : Thread nD τ).loc main_arg0))
  (m ((c : Thread nD τ).loc main_arg1)) (m ((c : Thread nD τ).loc main_arg2))) (m ((c : Thread nD τ).loc main_arg3))
abbrev gains : (Whole 1 2048).Idx → EReal :=
  gainBack (R := 8192) (m ((c : Thread nD τ).loc main_arg0)) (m ((c : Thread nD τ).loc main_arg1))

theorem pay_rows (x d e : Vec Ideal S256x2048 .f32) (g : Vec Ideal S1x2048 .f32) (y : (Whole 256 2048).Idx) :
    k0_pay3 x d g e y = added (normBack (R := 256) x d g) e y := by
  pointwise [k0_pay3, k0_pay2, added, normBack, scale]

theorem pay_gains (x d : Vec Ideal S256x2048 .f32) (y : (Whole 1 2048).Idx) : k0_pay4 x d y = gainBack (R := 256) x d y := by
  pointwise [k0_pay4, k0_pay2, gainBack, scale]

theorem out_rows (t : Fin cfg0.N) : (outsAt0 m c t.val t.isLt).1 = k0_pay3 (iblk m c 0 t) (iblk m c 1 t) (iblk m c 2 t) (iblk m c 3 t) := by
  have hN : t.val < 32 := lt_of_lt_of_eq t.isLt N_0
  by_cases h : t.val = 0
  · rw [outsAt0_A m c t (by omega) (by omega)]
    frame_out
  · rw [outsAt0_B m c t (by omega) (by omega)]
    frame_out

theorem rows_eq (t : Fin cfg0.N) (y : (Whole 256 2048).Idx) (z : (Whole 8192 2048).Idx) (h0 : (z 0).val = t.val * 256 + (y 0).val)
    (h1 : (z 1).val = (y 1).val) : added (normBack (R := 256) (iblk m c 0 t) (iblk m c 1 t) (iblk m c 2 t)) (iblk m c 3 t) y = rows m c z :=
  congrArg₂ (· + ·) (normBack_block y z (fun k => by blk_ext [iblk, V, index_facts t, h0])
    (fun k => by blk_ext [iblk, V, index_facts t, h0]) (Fin.ext h1) (fun k => by blk_ext [iblk, V, index_facts t]))
    (by blk_ext [iblk, V, index_facts t, h0, h1])

theorem final_rows : (dats m 0 c).arrAt 4 cfg0.N = rows m c := by
  refine (dats m 0 c).arrAt_eq_of_covers 4 _ (by decide +kernel) fun t hf y => ?_
  blk_simp; rw [after0_4, out_rows m c t, pay_rows]
  exact rows_eq m c t y _ (by blk_simp [index_facts t]) (by blk_simp [index_facts t])

/-- What the rows of grid point `t` give to the gains. -/
abbrev part (t : Fin cfg0.N) : (Whole 1 2048).Idx → EReal := gainBack (R := 256) (iblk m c 0 t) (iblk m c 1 t)

theorem acc_first (t : Fin cfg0.N) (h0 : t.val % 32 = 0) (y : (Whole 1 2048).Idx) :
    (outsAt0 m c t.val t.isLt).2 y = (fun _ => 0 : (Whole 1 2048).Idx → EReal) y + part m c t y := by
  have hN : t.val < 32 := lt_of_lt_of_eq t.isLt N_0
  rw [outsAt0_A m c t h0 (by omega), zero_add]
  frame_out
  exact pay_gains _ _ y

theorem acc_next (t : Fin cfg0.N) (h0 : ¬ t.val % 32 = 0) (y : (Whole 1 2048).Idx) : (outsAt0 m c t.val t.isLt).2 y
    = (outsAt0 m c (t.val - 1) (Nat.lt_of_le_of_lt (Nat.sub_le _ _) t.isLt)).2 y + part m c t y := by
  rw [outsAt0_B m c t h0 (by omega)]
  frame_out
  refine Eq.trans ?_ (congrArg (_ + ·) (pay_gains _ _ y))
  pointwise [k0_pay1]

theorem final_gains : (dats m 0 c).arrAt 5 cfg0.N = gains m c := by
  refine (dats m 0 c).arrAt_eq_of_covers 5 _ (by decide +kernel) fun t hf y => ?_
  have h := (flush0_5 t).mp hf
  have hN : t.val < 32 := lt_of_lt_of_eq t.isLt N_0
  blk_simp; rw [after0_5, Pipeline.eq_sum_fin_of_reset_step_apply_of_flush (fun n h => (outsAt0 m c n h).2) 32 (fun _ => 0) (part m c)
    (acc_first m c) (acc_next m c) t h y, zero_add]
  exact gainBack_stretches (K := 256) (S := 32) y _ (Fin.ext (by blk_simp [index_facts t])) (by decide)
    (fun s k l h => by
      have e : 32 * (t.val / 32) + s.val = s.val := by omega
      blk_ext [iblk, V, index_facts, e])
    (fun s k l h => by
      have e : 32 * (t.val / 32) + s.val = s.val := by omega
      blk_ext [iblk, V, index_facts, e])

/-- The run ends with what the rows and the gains get, and with the arguments. -/
theorem run (ρ : Dev nD → PrngReg) : θ_run defs (onTc (τ := τ) (main (F := Ideal))) ⟨m, fun _ => 0, ρ⟩ fun r => ∀ c : Dev nD,
    r.2.mem ((c : Thread nD τ).loc main_v0_0) = rows m c ∧ r.2.mem ((c : Thread nD τ).loc main_v0_1) = gains m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final_rows m c), ((h c).1 5).trans (final_gains m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩) (run_main m ρ)

theorem algebraic : Cert.algebraic_NormBackInIdeal_NormBackInRefIdeal := by
  intro m ρ m' ρ' _ he
  refine ⟨rows m, gains m, run m ρ, (θ_run _ _ _).mono (fun _ h c => ?_) (Cert.NormBackInRefIdeal.Value.run m' ρ')⟩
  obtain ⟨h0, h1, kept⟩ := h c
  rw [(he c).1, (he c).2.1, (he c).2.2.1, (he c).2.2.2] at h0
  rw [(he c).1, (he c).2.1] at h1
  refine ⟨h0.trans (funext fun y => ?_), h1.trans (funext fun y => ?_), kept⟩
  · refine Eq.trans ?_ (congrArg (· + _) (normBack_eq _ _ _ y)).symm
    pointwise [scale, meanSquare, Fin.sum_univ_one]
  · rw [gains, gainBack_comm]
    pointwise [scale]

end Cert.NormBackInIdeal.Step

namespace Cert.NormBackMemIdeal.Step

open Cert.NormBackMemIdeal Cert.NormBackMemIdeal.Gen Cert.Product Idealize.ShloMosaic Idealize.ShloMosaic.TcCoe Idealize.SL.Sem

variable (m : (ℓ : Loc nD τ sig) → Buf (Elt Ideal) ℓ) (c : Dev nD)

theorem index_facts : ∀ t : Fin cfg0.N, win0_0.index t = ![0, 0] ∧ win0_1.index t = ![0, 0]
    ∧ win0_2.index t = ![0, 0] ∧ win0_3.index t = ![0, 0] ∧ win0_4.index t = ![0, 0] := by decide +kernel

/-- What the rows get and what the gains get. -/
abbrev rows : (Whole 256 2048).Idx → EReal := normBack (R := 256) (m ((c : Thread nD τ).loc main_arg0))
  (m ((c : Thread nD τ).loc main_arg1)) (m ((c : Thread nD τ).loc main_arg2))
abbrev gains : (Whole 1 2048).Idx → EReal :=
  gainBack (R := 256) (m ((c : Thread nD τ).loc main_arg0)) (m ((c : Thread nD τ).loc main_arg1))

theorem pay_rows (x d : Vec Ideal S256x2048 .f32) (g : Vec Ideal S1x2048 .f32) (y : (Whole 256 2048).Idx) :
    k0_pay3 x d g y = normBack (R := 256) x d g y := by
  pointwise [k0_pay3, k0_pay2, normBack, scale]

theorem pay_gains (x d : Vec Ideal S256x2048 .f32) (y : (Whole 1 2048).Idx) : k0_pay4 x d y = gainBack (R := 256) x d y := by
  pointwise [k0_pay4, k0_pay2, gainBack, scale]

theorem out_rows (t : Fin cfg0.N) : (outsAt0 m c t).1 = k0_pay3 (iblk m c 0 t) (iblk m c 1 t) (iblk m c 2 t) := by
  unfold outsAt0
  frame_out

theorem out_gains (t : Fin cfg0.N) : (outsAt0 m c t).2 = k0_pay4 (iblk m c 0 t) (iblk m c 1 t) := by
  unfold outsAt0
  frame_out

theorem final_rows : (dats m 0 c).arrAt 3 cfg0.N = rows m c := by
  refine (dats m 0 c).arrAt_eq_of_covers 3 _ (by decide +kernel) fun t hf y => ?_
  blk_simp; rw [after0_3, out_rows m c t, pay_rows]
  exact normBack_block y _ (fun k => by blk_ext [iblk, V, index_facts t]) (fun k => by blk_ext [iblk, V, index_facts t])
    (Fin.ext (by blk_simp [index_facts t])) (fun k => by blk_ext [iblk, V, index_facts t])

theorem final_gains : (dats m 0 c).arrAt 4 cfg0.N = gains m c := by
  refine (dats m 0 c).arrAt_eq_of_covers 4 _ (by decide +kernel) fun t hf y => ?_
  blk_simp; rw [after0_4, out_gains m c t, pay_gains]
  have hx : iblk m c 0 t = m ((c : Thread nD τ).loc main_arg0) := funext fun z => by blk_ext [iblk, V, index_facts t]
  have hd : iblk m c 1 t = m ((c : Thread nD τ).loc main_arg1) := funext fun z => by blk_ext [iblk, V, index_facts t]
  refine (congrArg₂ (fun a b => gainBack (R := 256) a b y) hx hd).trans (congrArg (gains m c) ?_)
  exact ext2 (by blk_simp [index_facts t]) (by blk_simp [index_facts t])

/-- The run ends with what the rows and the gains get, and with the arguments. -/
theorem run (ρ : Dev nD → PrngReg) : θ_run defs (onTc (τ := τ) (main (F := Ideal))) ⟨m, fun _ => 0, ρ⟩ fun r => ∀ c : Dev nD,
    r.2.mem ((c : Thread nD τ).loc main_v0_0) = rows m c ∧ r.2.mem ((c : Thread nD τ).loc main_v0_1) = gains m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final_rows m c), ((h c).1 4).trans (final_gains m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

theorem algebraic : Cert.algebraic_NormBackMemIdeal_NormBackMemRefIdeal := by
  intro m ρ m' ρ' _ he
  refine ⟨rows m, gains m, run m ρ, (θ_run _ _ _).mono (fun _ h c => ?_) (Cert.NormBackMemRefIdeal.Value.run m' ρ')⟩
  obtain ⟨h0, h1, kept⟩ := h c
  rw [(he c).1, (he c).2.1, (he c).2.2] at h0
  rw [(he c).1, (he c).2.1] at h1
  refine ⟨h0.trans (funext fun y => ?_), h1.trans (funext fun y => ?_), kept⟩
  · refine Eq.trans ?_ (normBack_eq _ _ _ y).symm
    pointwise [scale, meanSquare, Fin.sum_univ_one]
  · rw [gains, gainBack_comm]
    pointwise [scale]

end Cert.NormBackMemIdeal.Step

end
-- ==== Proof.Loss.lean ====
/-
  The loss — half the sum, over the rows, of the mean of the squared errors of the rows' norms — and what it passes
  back. The kernel takes 256 rows at a grid point; it writes what it passes back to them, in f32 and in bf16, and adds
  up over the grid points the loss and what is passed back to the gains. `Loss` reads its reference and its kernel.

  The reference passes an error back twice, once for each factor of its square, and halves it; the kernel passes it
  back once (`errorBack_eq`). The rest of the way back is that of the norm, in Proof/NormBack.lean.
-/
module

public import proofs.«01_k».proof.Defs
public import proofs.«01_k».proof.Proof.Gen.LossIdeal.Frame
public import proofs.«01_k».proof.Proof.Gen.LossRefIdeal.Run
public import proofs.«01_k».proof.Proof.NormBack

@[expose] public section

noncomputable section

namespace Cert.Product

open Idealize.ShloMosaic Idealize.ShloMosaic.TcCoe

variable {R r : Nat}

/-- How far the norms of the rows of `x`, with gains `g`, are from `t`. -/
def error (x t : (Whole R 2048).Idx → EReal) (g : (Whole 1 2048).Idx → EReal) : (Whole R 2048).Idx → EReal := fun i =>
  x i * scale (fun k => x (ix2 (i 0) k)) * g (ix2 0 (i 1)) - t i

/-- What the loss passes back to the norms: the error, over the width of a row. -/
def errorBack (x t : (Whole R 2048).Idx → EReal) (g : (Whole 1 2048).Idx → EReal) : (Whole R 2048).Idx → EReal := fun i =>
  error x t g i * Ideal.ofBits .f32 0x3A000000#32

/-- Half the sum of the rows' mean squared errors. -/
def loss (x t : (Whole R 2048).Idx → EReal) (g : (Whole 1 2048).Idx → EReal) : EReal := Ideal.ofBits .f32 0x3F000000#32
  * ∑ k : Fin R, Ideal.div (∑ l : Fin 2048, error x t g (ix2 k l) * error x t g (ix2 k l)) (Ideal.ofBits .f32 0x45000000#32)

theorem half : Ideal.ofBits .f32 0x3F000000#32 = ((1 / 2 : ℝ) : EReal) := by
  simp [Ideal.ofBits, Ideal.ieee, -EReal.coe_mul]; norm_num

theorem errorBack_eq (x t : (Whole R 2048).Idx → EReal) (g : (Whole 1 2048).Idx → EReal) : errorBack x t g = fun i =>
    Ideal.div (Ideal.ofBits .f32 0x3F000000#32 * Ideal.ofBits .f32 0x3F800000#32) (Ideal.ofBits .f32 0x45000000#32)
      * (Ideal.ofBits .f32 0x40000000#32 * error x t g i) := by
  have h1 : Ideal.ofBits .f32 0x3F800000#32 = ((1 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x3A000000#32 = ((1 / 2048 : ℝ) : EReal) := by
    simp [Ideal.ofBits, Ideal.ieee, -EReal.coe_mul]; norm_num
  funext i
  rw [errorBack, half, width, h1, h2, h3, Ideal.div_coe (by norm_num), ← mul_assoc, mul_comm]
  congr 1
  norm_cast
  norm_num

/-- Rows of `X` and `T` have the errors they have in `X` and `T`. -/
theorem error_block {x t : (Whole r 2048).Idx → EReal} {g G : (Whole 1 2048).Idx → EReal} {X T : (Whole R 2048).Idx → EReal}
    {a : Fin r} {b : Fin R} (hx : ∀ k, x (ix2 a k) = X (ix2 b k)) (ht : ∀ k, t (ix2 a k) = T (ix2 b k))
    (hg : ∀ k, g (ix2 0 k) = G (ix2 0 k)) (l : Fin 2048) : error x t g (ix2 a l) = error X T G (ix2 b l) :=
  congrArg₂ (· - ·) (congrArg₂ (· * ·) (congrArg₂ (· * ·) (hx l) (congrArg scale (funext hx))) (hg l)) (ht l)

theorem half_sum {ι : Type} [Fintype ι] (f : ι → EReal) : Ideal.ofBits .f32 0x3F000000#32 * ∑ i, f i
    = ∑ i, Ideal.ofBits .f32 0x3F000000#32 * f i := by
  classical
  rw [half]
  refine Finset.induction_on Finset.univ (by simp) fun i s hi h => ?_
  rw [Finset.sum_insert hi, Finset.sum_insert hi, ← h]
  exact EReal.left_distrib_of_nonneg_of_ne_top (by exact_mod_cast (by norm_num : (0 : ℝ) ≤ 1 / 2)) (EReal.coe_ne_top _) _ _

/-- The loss is the sum of the losses of the stretches of rows. -/
theorem loss_stretches {K S : Nat} {x t : Fin S → (Whole K 2048).Idx → EReal} {g : Fin S → (Whole 1 2048).Idx → EReal}
    {X T : (Whole R 2048).Idx → EReal} {G : (Whole 1 2048).Idx → EReal} (hR : R = S * K)
    (hx : ∀ s k l (h : s.val * K + k.val < R), x s (ix2 k l) = X (ix2 ⟨s.val * K + k.val, h⟩ l))
    (ht : ∀ s k l (h : s.val * K + k.val < R), t s (ix2 k l) = T (ix2 ⟨s.val * K + k.val, h⟩ l))
    (hg : ∀ s k, g s (ix2 0 k) = G (ix2 0 k)) : ∑ s : Fin S, loss (x s) (t s) (g s) = loss X T G := by
  unfold loss
  rw [← half_sum]
  refine congrArg (_ * ·) (Fin.sum_mul_add_congr (fun s k h => ?_) hR)
  exact congrArg (Ideal.div · _) (Finset.sum_congr rfl fun l _ =>
    congrArg₂ (· * ·) (error_block (hx s k · h) (ht s k · h) (hg s) l) (error_block (hx s k · h) (ht s k · h) (hg s) l))

end Cert.Product

namespace Cert.LossIdeal.Step

open Cert.LossIdeal Cert.LossIdeal.Gen Cert.Product Idealize.ShloMosaic Idealize.ShloMosaic.TcCoe Idealize.SL.Sem

variable (m : (ℓ : Loc nD τ sig) → Buf (Elt Ideal) ℓ) (c : Dev nD)

theorem index_facts : ∀ t : Fin cfg0.N, win0_0.index t = ![t.val, 0] ∧ win0_1.index t = ![t.val, 0]
    ∧ win0_2.index t = ![0, 0] ∧ win0_3.index t = ![t.val, 0] ∧ win0_4.index t = ![0, 0]
    ∧ win0_5.index t = ![0, 0] ∧ win0_6.index t = ![t.val, 0] := by decide +kernel

/-- What the rows get, what the gains get, and the loss, in all of its array. -/
abbrev rows : (Whole 8192 2048).Idx → EReal := normBack (R := 8192) (m ((c : Thread nD τ).loc main_arg0))
  (errorBack (m ((c : Thread nD τ).loc main_arg0)) (m ((c : Thread nD τ).loc main_arg1)) (m ((c : Thread nD τ).loc main_arg2)))
  (m ((c : Thread nD τ).loc main_arg2))
abbrev gains : (Whole 1 2048).Idx → EReal := gainBack (R := 8192) (m ((c : Thread nD τ).loc main_arg0))
  (errorBack (m ((c : Thread nD τ).loc main_arg0)) (m ((c : Thread nD τ).loc main_arg1)) (m ((c : Thread nD τ).loc main_arg2)))
abbrev value : (Whole 8 128).Idx → EReal := fun _ => loss (R := 8192) (m ((c : Thread nD τ).loc main_arg0))
  (m ((c : Thread nD τ).loc main_arg1)) (m ((c : Thread nD τ).loc main_arg2))

theorem pay_rows (x t : Vec Ideal S256x2048 .f32) (g : Vec Ideal S1x2048 .f32) (y : (Whole 256 2048).Idx) :
    k0_pay10 x g t y = normBack (R := 256) x (errorBack x t g) g y := by
  pointwise [k0_pay10, k0_pay9, k0_pay7, k0_pay6, normBack, errorBack, error, scale]

theorem pay_gains (x t : Vec Ideal S256x2048 .f32) (g : Vec Ideal S1x2048 .f32) (y : (Whole 1 2048).Idx) :
    k0_pay2 x (k0_pay6 x) (k0_pay9 x g t) y = gainBack (R := 256) x (errorBack x t g) y := by
  pointwise [k0_pay2, k0_pay9, k0_pay7, k0_pay6, gainBack, errorBack, error, scale]

theorem pay_loss (x t : Vec Ideal S256x2048 .f32) (g : Vec Ideal S1x2048 .f32) (y : (Whole 8 128).Idx) :
    k0_pay3 (k0_pay8 x g t) y = loss (R := 256) x t g := by
  pointwise [k0_pay3, k0_pay8, k0_pay7, k0_pay6, loss, error, scale]

theorem out_rows (t : Fin cfg0.N) : (outsAt0 m c t.val t.isLt).1 = k0_pay10 (iblk m c 0 t) (iblk m c 2 t) (iblk m c 1 t)
    ∧ (outsAt0 m c t.val t.isLt).2.2.2 = k0_pay1 (k0_pay10 (iblk m c 0 t) (iblk m c 2 t) (iblk m c 1 t)) := by
  have hN : t.val < 32 := lt_of_lt_of_eq t.isLt N_0
  by_cases h : t.val = 0
  · rw [outsAt0_A m c t (by omega) (by omega)]
    constructor <;> frame_out
  · rw [outsAt0_B m c t (by omega) (by omega)]
    constructor <;> frame_out

theorem rows_eq (t : Fin cfg0.N) (y : (Whole 256 2048).Idx) (z : (Whole 8192 2048).Idx) (h0 : (z 0).val = t.val * 256 + (y 0).val)
    (h1 : (z 1).val = (y 1).val) : k0_pay10 (iblk m c 0 t) (iblk m c 2 t) (iblk m c 1 t) y = rows m c z := by
  have hx : ∀ k, iblk m c 0 t (ix2 (y 0) k) = m ((c : Thread nD τ).loc main_arg0) (ix2 (z 0) k) :=
    fun k => by blk_ext [iblk, V, index_facts t, h0]
  have hg : ∀ k, iblk m c 2 t (ix2 0 k) = m ((c : Thread nD τ).loc main_arg2) (ix2 0 k) := fun k => by blk_ext [iblk, V, index_facts t]
  rw [pay_rows]
  exact normBack_block y z hx (fun k => congrArg (· * _) (error_block hx (fun k => by blk_ext [iblk, V, index_facts t, h0]) hg k))
    (Fin.ext h1) hg

theorem final_rows : (dats m 0 c).arrAt 3 cfg0.N = rows m c := by
  refine (dats m 0 c).arrAt_eq_of_covers 3 _ (by decide +kernel) fun t hf y => ?_
  blk_simp; rw [after0_3, (out_rows m c t).1]
  exact rows_eq m c t y _ (by blk_simp [index_facts t]) (by blk_simp [index_facts t])

theorem final_rounded : (dats m 0 c).arrAt 6 cfg0.N = rows m c := by
  refine (dats m 0 c).arrAt_eq_of_covers 6 _ (by decide +kernel) fun t hf y => ?_
  blk_simp; rw [after0_6, (out_rows m c t).2]
  exact rows_eq m c t y _ (by blk_simp [index_facts t]) (by blk_simp [index_facts t])

/-- What the rows of grid point `t` give to the gains and to the loss. -/
abbrev part (t : Fin cfg0.N) : (Whole 1 2048).Idx → EReal :=
  gainBack (R := 256) (iblk m c 0 t) (errorBack (iblk m c 0 t) (iblk m c 1 t) (iblk m c 2 t))
abbrev share (t : Fin cfg0.N) : (Whole 8 128).Idx → EReal := fun _ => loss (R := 256) (iblk m c 0 t) (iblk m c 1 t) (iblk m c 2 t)

theorem acc_first (t : Fin cfg0.N) (h0 : t.val % 32 = 0) :
    (∀ y : (Whole 1 2048).Idx, (outsAt0 m c t.val t.isLt).2.1 y = (fun _ => 0 : (Whole 1 2048).Idx → EReal) y + part m c t y)
    ∧ ∀ y : (Whole 8 128).Idx, (outsAt0 m c t.val t.isLt).2.2.1 y = (fun _ => 0 : (Whole 8 128).Idx → EReal) y + share m c t y := by
  have hN : t.val < 32 := lt_of_lt_of_eq t.isLt N_0
  rw [outsAt0_A m c t h0 (by omega)]
  constructor <;> intro y <;> rw [zero_add] <;> frame_out
  · exact pay_gains _ _ _ y
  · exact pay_loss _ _ _ y

theorem acc_next (t : Fin cfg0.N) (h0 : ¬ t.val % 32 = 0) :
    (∀ y : (Whole 1 2048).Idx, (outsAt0 m c t.val t.isLt).2.1 y
      = (outsAt0 m c (t.val - 1) (Nat.lt_of_le_of_lt (Nat.sub_le _ _) t.isLt)).2.1 y + part m c t y)
    ∧ ∀ y : (Whole 8 128).Idx, (outsAt0 m c t.val t.isLt).2.2.1 y
      = (outsAt0 m c (t.val - 1) (Nat.lt_of_le_of_lt (Nat.sub_le _ _) t.isLt)).2.2.1 y + share m c t y := by
  rw [outsAt0_B m c t h0 (by omega)]
  constructor <;> intro y <;> frame_out
  · refine Eq.trans ?_ (congrArg (_ + ·) (pay_gains _ _ _ y))
    pointwise [k0_pay4]
  · refine Eq.trans ?_ (congrArg (_ + ·) (pay_loss _ _ _ y))
    pointwise [k0_pay5]

theorem final_gains : (dats m 0 c).arrAt 4 cfg0.N = gains m c := by
  refine (dats m 0 c).arrAt_eq_of_covers 4 _ (by decide +kernel) fun t hf y => ?_
  have h := (flush0_4 t).mp hf
  have hN : t.val < 32 := lt_of_lt_of_eq t.isLt N_0
  blk_simp; rw [after0_4, Pipeline.eq_sum_fin_of_reset_step_apply_of_flush (fun n h => (outsAt0 m c n h).2.1) 32 (fun _ => 0) (part m c)
    (fun t h => (acc_first m c t h).1) (fun t h => (acc_next m c t h).1) t h y, zero_add]
  have hx : ∀ (s : Fin 32) (k : Fin 256) (l : Fin 2048) (hs : 32 * (t.val / 32) + s.val < cfg0.N) (h : s.val * 256 + k.val < 8192),
      iblk m c 0 ⟨32 * (t.val / 32) + s.val, hs⟩ (ix2 k l) = m ((c : Thread nD τ).loc main_arg0) (ix2 ⟨s.val * 256 + k.val, h⟩ l) :=
    fun s k l hs h => by
      have e : 32 * (t.val / 32) + s.val = s.val := by omega
      blk_ext [iblk, V, index_facts, e]
  refine gainBack_stretches (K := 256) (S := 32) y _ (Fin.ext (by blk_simp [index_facts t])) (by decide) (fun s k l h => hx s k l _ h)
    (fun s k l h => congrArg (· * _) (error_block (fun k' => hx s k k' _ h) (fun k' => ?_) (fun k' => ?_) l))
  · have e : 32 * (t.val / 32) + s.val = s.val := by omega
    blk_ext [iblk, V, index_facts, e]
  · blk_ext [iblk, V, index_facts]

theorem final_loss : (dats m 0 c).arrAt 5 cfg0.N = value m c := by
  refine (dats m 0 c).arrAt_eq_of_covers 5 _ (by decide +kernel) fun t hf y => ?_
  have h := (flush0_5 t).mp hf
  have hN : t.val < 32 := lt_of_lt_of_eq t.isLt N_0
  blk_simp; rw [after0_5, Pipeline.eq_sum_fin_of_reset_step_apply_of_flush (fun n h => (outsAt0 m c n h).2.2.1) 32 (fun _ => 0) (share m c)
    (fun t h => (acc_first m c t h).2) (fun t h => (acc_next m c t h).2) t h y, zero_add]
  exact loss_stretches (K := 256) (S := 32) (by decide)
    (fun s k l h => by
      have e : 32 * (t.val / 32) + s.val = s.val := by omega
      blk_ext [iblk, V, index_facts, e])
    (fun s k l h => by
      have e : 32 * (t.val / 32) + s.val = s.val := by omega
      blk_ext [iblk, V, index_facts, e])
    (fun s k => by blk_ext [iblk, V, index_facts])

/-- The run ends with what the rows and the gains get, the loss, and the arguments. -/
theorem run (ρ : Dev nD → PrngReg) : θ_run defs (onTc (τ := τ) (main (F := Ideal))) ⟨m, fun _ => 0, ρ⟩ fun r => ∀ c : Dev nD,
    r.2.mem ((c : Thread nD τ).loc main_v0_0) = rows m c ∧ r.2.mem ((c : Thread nD τ).loc main_v0_1) = gains m c
      ∧ r.2.mem ((c : Thread nD τ).loc main_v0_2) = value m c ∧ r.2.mem ((c : Thread nD τ).loc main_v0_3) = rows m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final_rows m c), ((h c).1 4).trans (final_gains m c),
    ((h c).1 5).trans (final_loss m c), ((h c).1 6).trans (final_rounded m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

theorem algebraic : Cert.algebraic_LossIdeal_LossRefIdeal := by
  intro m ρ m' ρ' _ he
  refine ⟨rows m, gains m, value m, rows m, run m ρ, (θ_run _ _ _).mono (fun _ h c => ?_) (Cert.LossRefIdeal.Value.run m' ρ')⟩
  obtain ⟨h0, h1, h2, h3, kept⟩ := h c
  rw [Cert.LossRefIdeal.Value.res_main_v48] at h0
  rw [Cert.LossRefIdeal.Value.res_main_v50] at h3
  rw [(he c).1, (he c).2.1, (he c).2.2] at h0 h1 h2 h3
  refine ⟨h0.trans (funext fun y => ?_), h1.trans (funext fun y => ?_), h2.trans (funext fun y => ?_), h3.trans (funext fun y => ?_), kept⟩
  · refine Eq.trans ?_ (normBack_eq _ _ _ y).symm
    rw [errorBack_eq]
    pointwise [error, scale, meanSquare, Fin.sum_univ_one]
  · rw [gains, gainBack_comm, errorBack_eq]
    pointwise [error, scale]
  · pointwise [loss, error, scale]
  · refine Eq.trans ?_ (normBack_eq _ _ _ y).symm
    rw [errorBack_eq]
    pointwise [error, scale, meanSquare, Fin.sum_univ_one]

end Cert.LossIdeal.Step

end
-- ==== Proof.Gate.lean ====
/-
  The gated convolution of the feed-forward's halves: each column is convolved with its three weights over the row and the
  two rows before it, and the left half's sigmoid-weighted values multiply the right half's.

  A grid point takes 512 rows of 512 columns of either half. The rows before its first come from a kept copy of the last
  eight rows of the grid point before, or are zero at the top.
-/
module

public import proofs.«01_k».proof.Defs
public import proofs.«01_k».proof.Proof.Gen.GateIdeal.Frame
public import proofs.«01_k».proof.Proof.Gen.GateRefIdeal.Run
public import proofs.«01_k».proof.Proof.Product

@[expose] public section

noncomputable section

namespace Cert.Product

open Idealize.ShloMosaic Idealize.ShloMosaic.TcCoe

variable {S N R n : Nat}

/-- The rows `k` above, the eight rows of `t` lying above those of `x`. -/
def above (t : (Whole 8 n).Idx → EReal) (x : (Whole R n).Idx → EReal) (k : Nat) : (Whole R n).Idx → EReal := fun i =>
  if (i 0).val < k then t (ix2 ⟨((i 0).val + 8 - k) % 8, Nat.mod_lt _ (by decide)⟩ (i 1))
  else x (ix2 ⟨(i 0).val - k, (Nat.sub_le _ _).trans_lt (i 0).isLt⟩ (i 1))

/-- The convolution of each column with its three weights, and its bias. -/
def conv (t : (Whole 8 n).Idx → EReal) (x : (Whole R n).Idx → EReal) (w : (Whole 3 n).Idx → EReal) (b : (Whole 1 n).Idx → EReal) :
    (Whole R n).Idx → EReal := fun i =>
  b (ix2 0 (i 1)) + w (ix2 0 (i 1)) * above t x 2 i + w (ix2 1 (i 1)) * above t x 1 i + w (ix2 2 (i 1)) * x i

theorem above_zero (t : (Whole 8 n).Idx → EReal) (x : (Whole R n).Idx → EReal) : above t x 0 = x :=
  funext fun i => congrArg x (ext2 rfl rfl)

theorem conv_comm (t : (Whole 8 n).Idx → EReal) (x : (Whole R n).Idx → EReal) (w : (Whole 3 n).Idx → EReal) (b : (Whole 1 n).Idx → EReal) :
    conv t x w b = fun i => w (ix2 0 (i 1)) * above t x 2 i + w (ix2 1 (i 1)) * above t x 1 i + w (ix2 2 (i 1)) * above t x 0 i + b (ix2 0 (i 1)) :=
  funext fun i => by rw [above_zero]; unfold conv; ac_rfl

/-- The sigmoid-weighted `a`, times `b`. -/
def gate (a b : EReal) : EReal := a * Ideal.div 1 (1 + Ideal.exp (-a)) * b

/-- The rows above those of a stretch of rows, of which there are none above the first stretch. -/
theorem above_block {q k : Nat} {t : (Whole 8 n).Idx → EReal} {x : (Whole R n).Idx → EReal} {X : (Whole S N).Idx → EReal}
    (hR : 8 ≤ R) (hk : k ≤ 8) (y : (Whole R n).Idx) (z : (Whole S N).Idx) (hz : (z 0).val = q * R + (y 0).val)
    (hx : ∀ r s, s.val = q * R + r.val → x (ix2 r (y 1)) = X (ix2 s (z 1)))
    (h0 : q = 0 → ∀ r, t (ix2 r (y 1)) = 0)
    (ht : q ≠ 0 → ∀ r s, s.val + 8 = q * R + r.val → t (ix2 r (y 1)) = X (ix2 s (z 1))) :
    above t x k y = above (fun _ => 0) X k z := by
  unfold above
  by_cases h : (y 0).val < k
  · rw [if_pos h]
    by_cases hq : q = 0
    · rw [if_pos (by rw [hz, hq]; omega)]
      exact h0 hq _
    · have hl : R ≤ q * R := Nat.le_mul_of_pos_left _ (Nat.pos_of_ne_zero hq)
      rw [if_neg (by omega)]
      exact ht hq _ _ (show (z 0).val - k + 8 = q * R + ((y 0).val + 8 - k) % 8 by omega)
  · rw [if_neg h, if_neg (by omega)]
    exact hx _ _ (show (z 0).val - k = q * R + ((y 0).val - k) by omega)

end Cert.Product

namespace Cert.GateIdeal.Step

open Cert.GateIdeal Cert.GateIdeal.Gen Cert.Product Idealize.ShloMosaic Idealize.ShloMosaic.TcCoe Idealize.SL.Sem

variable (m : (ℓ : Loc nD τ sig) → Buf (Elt Ideal) ℓ) (c : Dev nD)

theorem index_facts : ∀ t : Fin cfg0.N, win0_0.index t = ![t.val % 16, t.val / 16] ∧ win0_1.index t = ![t.val % 16, t.val / 16 + 11]
    ∧ win0_2.index t = ![0, t.val / 16] ∧ win0_3.index t = ![0, t.val / 16 + 11] ∧ win0_4.index t = ![0, t.val / 16]
    ∧ win0_5.index t = ![0, t.val / 16 + 11] ∧ win0_6.index t = ![t.val % 16, t.val / 16] := by decide +kernel

/-- The convolution of all columns, and what the right half of a row gets from the left. -/
abbrev columns : (Whole 8192 11264).Idx → EReal := conv (R := 8192) (fun _ => 0) (m ((c : Thread nD τ).loc main_arg0))
  (m ((c : Thread nD τ).loc main_arg1)) (m ((c : Thread nD τ).loc main_arg2))
abbrev left (l : Fin 5632) : Fin 11264 := ⟨l.val, by omega⟩
abbrev right (l : Fin 5632) : Fin 11264 := ⟨5632 + l.val, by omega⟩
abbrev gated : (Whole 8192 5632).Idx → EReal := fun i =>
  gate (columns m c (ix2 (i 0) (left (i 1)))) (columns m c (ix2 (i 0) (right (i 1))))

theorem one_above : ∀ r : Fin 8, IntOp.cmpi .slt (BitVec.ofNat 32 r.val) 1#32 = if r.val < 1 then 1#1 else 0#1 := by decide
theorem two_above : ∀ r : Fin 8, IntOp.cmpi .slt (BitVec.ofNat 32 r.val) 2#32 = if r.val < 2 then 1#1 else 0#1 := by decide

/-- The rows above, as the kernel rotates them into place. -/
theorem above_eq (t : (Whole 8 512).Idx → EReal) (x : (Whole 512 512).Idx → EReal) (k : Nat) (b : BitVec 32) (hk : 0 < k) (hk8 : k < 8)
    (hb : ∀ r : Fin 8, IntOp.cmpi .slt (BitVec.ofNat 32 r.val) b = if r.val < k then 1#1 else 0#1) (y : (Whole 512 512).Idx) :
    (if h : (y 0).val < 8 then
      Scalar.select (IntOp.cmpi .slt (BitVec.ofNat 32 (y 0).val) b) (t (ix2 ⟨((y 0).val + 8 - k) % 8, Nat.mod_lt _ (by decide)⟩ (y 1)))
        (x (ix2 ⟨((y 0).val + 512 - k) % 512, Nat.mod_lt _ (by decide)⟩ (y 1)))
    else x (ix2 ⟨(8 + ((y 0).val - 8) + 512 - k) % 512, Nat.mod_lt _ (by decide)⟩ (y 1))) = above t x k y := by
  have hy : (y 0).val < 512 := (y 0).isLt
  unfold above
  by_cases h : (y 0).val < 8
  · rw [dif_pos h, hb ⟨_, h⟩]
    by_cases h' : (y 0).val < k
    · rw [if_pos h', if_pos h']; rfl
    · rw [if_neg h', if_neg h']
      exact congrArg x (ext2 (show ((y 0).val + 512 - k) % 512 = (y 0).val - k by omega) rfl)
  · rw [dif_neg h, if_neg (by omega)]
    exact congrArg x (ext2 (show (8 + ((y 0).val - 8) + 512 - k) % 512 = (y 0).val - k by omega) rfl)

theorem pay_left (x : Vec Ideal S512x512 .f32) (t : Vec Ideal S8x512 .f32) (w : Vec Ideal S3x512 .f32) (b : Vec Ideal S1x512 .f32)
    (y : (Whole 512 512).Idx) :
    k0_pay6 x (k0_pay5 x t b (View.ld w (Rect.unit ![0, 0] ![1, 512] inb_S3x512_S1x512_0_0))
        (View.ld w (Rect.unit ![1, 0] ![1, 512] inb_S3x512_S1x512_1_0))) (View.ld w (Rect.unit ![2, 0] ![1, 512] inb_S3x512_S1x512_2_0)) y
      = conv (R := 512) t x w b y := by
  unfold conv
  rw [← above_eq t x 2 _ (by decide) (by decide) two_above, ← above_eq t x 1 _ (by decide) (by decide) one_above]
  pointwise [k0_pay6, k0_pay5]

theorem pay_right (x : Vec Ideal S512x512 .f32) (t : Vec Ideal S8x512 .f32) (w : Vec Ideal S3x512 .f32) (b : Vec Ideal S1x512 .f32)
    (y : (Whole 512 512).Idx) :
    k0_pay7 x t b (View.ld w (Rect.unit ![0, 0] ![1, 512] inb_S3x512_S1x512_0_0))
        (View.ld w (Rect.unit ![1, 0] ![1, 512] inb_S3x512_S1x512_1_0)) (View.ld w (Rect.unit ![2, 0] ![1, 512] inb_S3x512_S1x512_2_0)) y
      = conv (R := 512) t x w b y := by
  unfold conv
  rw [← above_eq t x 2 _ (by decide) (by decide) two_above, ← above_eq t x 1 _ (by decide) (by decide) one_above]
  pointwise [k0_pay7]

theorem pay_gate (a b : Vec Ideal S512x512 .f32) (y : (Whole 512 512).Idx) : k0_pay2 (F := Ideal) a b y = gate (a y) (b y) := by
  pointwise [k0_pay2, gate]
  rw [zero_sub]

/-- The rows kept for the grid point after `t`. -/
theorem kept (t : Fin cfg0.N) : (outsAt0 m c t.val t.isLt).2.1 = k0_pay8 (iblk m c 0 t)
    ∧ (outsAt0 m c t.val t.isLt).2.2 = k0_pay8 (iblk m c 1 t) := by
  by_cases h : t.val % 16 = 0
  · rw [outsAt0_A m c t h]
    constructor <;> frame_out
    rfl
  · rw [outsAt0_B m c t h]
    constructor <;> frame_out
    rfl

theorem conv_left (t : Fin cfg0.N) (s : (Whole 8 512).Idx → EReal) (y : (Whole 512 512).Idx) (z : (Whole 8192 11264).Idx)
    (h0 : (z 0).val = t.val % 16 * 512 + (y 0).val) (h1 : (z 1).val = t.val / 16 * 512 + (y 1).val)
    (hs : t.val % 16 = 0 → ∀ r, s (ix2 r (y 1)) = 0)
    (hs' : t.val % 16 ≠ 0 → s = k0_pay8 (iblk m c 0 ⟨t.val - 1, (Nat.sub_le _ _).trans_lt t.isLt⟩)) :
    conv (R := 512) s (iblk m c 0 t) (iblk m c 2 t) (iblk m c 4 t) y = columns m c z := by
  have ha (k : Nat) (hk : k ≤ 8) : above (R := 512) s (iblk m c 0 t) k y = above (R := 8192) (fun _ => 0) (m ((c : Thread nD τ).loc main_arg0)) k z :=
    above_block (R := 512) (q := t.val % 16) (by decide) hk y z h0 (fun r s e => by blk_ext [iblk, V, index_facts t, h1, e]) hs fun hq r s e => by
      rw [hs' hq]
      refine Eq.trans (b := iblk m c 0 ⟨t.val - 1, (Nat.sub_le _ _).trans_lt t.isLt⟩ (ix2 ⟨504 + r.val, by omega⟩ (y 1))) (by pointwise [k0_pay8]) ?_
      have e0 : s.val = (t.val - 1) % 16 * 512 + (504 + r.val) := by omega
      have e1 : (t.val - 1) / 16 = t.val / 16 := by omega
      blk_ext [iblk, V, index_facts, h1, e0, e1]
  unfold columns conv
  rw [ha 2 (by decide), ha 1 (by decide)]
  refine congrArg₂ (· + ·) (congrArg₂ (· + ·) (congrArg₂ (· + ·) ?_ (congrArg (· * _) ?_)) (congrArg (· * _) ?_)) (congrArg₂ (· * ·) ?_ ?_)
  all_goals blk_ext [iblk, V, index_facts t, h0, h1]

theorem conv_right (t : Fin cfg0.N) (s : (Whole 8 512).Idx → EReal) (y : (Whole 512 512).Idx) (z : (Whole 8192 11264).Idx)
    (h0 : (z 0).val = t.val % 16 * 512 + (y 0).val) (h1 : (z 1).val = (t.val / 16 + 11) * 512 + (y 1).val)
    (hs : t.val % 16 = 0 → ∀ r, s (ix2 r (y 1)) = 0)
    (hs' : t.val % 16 ≠ 0 → s = k0_pay8 (iblk m c 1 ⟨t.val - 1, (Nat.sub_le _ _).trans_lt t.isLt⟩)) :
    conv (R := 512) s (iblk m c 1 t) (iblk m c 3 t) (iblk m c 5 t) y = columns m c z := by
  have ha (k : Nat) (hk : k ≤ 8) : above (R := 512) s (iblk m c 1 t) k y = above (R := 8192) (fun _ => 0) (m ((c : Thread nD τ).loc main_arg0)) k z :=
    above_block (R := 512) (q := t.val % 16) (by decide) hk y z h0 (fun r s e => by blk_ext [iblk, V, index_facts t, h1, e]) hs fun hq r s e => by
      rw [hs' hq]
      refine Eq.trans (b := iblk m c 1 ⟨t.val - 1, (Nat.sub_le _ _).trans_lt t.isLt⟩ (ix2 ⟨504 + r.val, by omega⟩ (y 1))) (by pointwise [k0_pay8]) ?_
      have e0 : s.val = (t.val - 1) % 16 * 512 + (504 + r.val) := by omega
      have e1 : (t.val - 1) / 16 = t.val / 16 := by omega
      blk_ext [iblk, V, index_facts, h1, e0, e1]
  unfold columns conv
  rw [ha 2 (by decide), ha 1 (by decide)]
  refine congrArg₂ (· + ·) (congrArg₂ (· + ·) (congrArg₂ (· + ·) ?_ (congrArg (· * _) ?_)) (congrArg (· * _) ?_)) (congrArg₂ (· * ·) ?_ ?_)
  all_goals blk_ext [iblk, V, index_facts t, h0, h1]

theorem final : (dats m 0 c).arrAt 6 cfg0.N = gated m c := by
  refine (dats m 0 c).arrAt_eq_of_covers 6 _ (by decide +kernel) fun t hf y => ?_
  have hN : t.val < 176 := lt_of_lt_of_eq t.isLt N_0
  have hy : (y 1).val < 512 := (y 1).isLt
  blk_simp; rw [after0_6]
  by_cases h : t.val % 16 = 0
  · rw [outsAt0_A m c t h]
    frame_out
    rw [pay_gate, pay_left, pay_right]
    refine congrArg₂ gate (conv_left m c t _ y _ ?_ ?_ (fun _ r => by pointwise [k0_pay3]) (fun h' => absurd h h'))
      (conv_right m c t _ y _ ?_ ?_ (fun _ r => by pointwise [k0_pay4]) (fun h' => absurd h h'))
    all_goals blk_simp [index_facts t, left, right]
    show 5632 + (t.val / 16 * 512 + (y 1).val) = (t.val / 16 + 11) * 512 + (y 1).val
    omega
  · rw [outsAt0_B m c t h]
    frame_out
    rw [read_unread_whole, read_unread_whole, pay_gate, pay_left, pay_right]
    refine congrArg₂ gate (conv_left m c t _ y _ ?_ ?_ (fun h' => absurd h' h) (fun _ => (kept m c ⟨t.val - 1, _⟩).1))
      (conv_right m c t _ y _ ?_ ?_ (fun h' => absurd h' h) (fun _ => (kept m c ⟨t.val - 1, _⟩).2))
    all_goals blk_simp [index_facts t, left, right]
    show 5632 + (t.val / 16 * 512 + (y 1).val) = (t.val / 16 + 11) * 512 + (y 1).val
    omega

/-- The run ends with the gated convolution, and with the arguments. -/
theorem run (ρ : Dev nD → PrngReg) : θ_run defs (onTc (τ := τ) (main (F := Ideal))) ⟨m, fun _ => 0, ρ⟩ fun r => ∀ c : Dev nD,
    r.2.mem ((c : Thread nD τ).loc main_v0) = gated m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 6).trans (final m c),
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).1 4).trans (((dats m 0 c).arrAt_in 4 rfl _).trans ((A_eq m c 4).trans (V_main_arg2 m c)))⟩) (run_main m ρ)

/-- The rows above, as the reference cuts them from the padded rows. -/
theorem above_pad (x : Vec Ideal Cert.GateRefIdeal.S8192x11264 .f32) (o k : Nat) (hk : o + k = 2)
    (hp : Cert.GateRefIdeal.S8192x11264.Pads (![2, 0] : Fin 2 → Nat) ![0, 0] ![0, 0] Cert.GateRefIdeal.S8194x11264)
    (hu : 0 < Cert.GateRefIdeal.S_.numel) (hs : Cert.GateRefIdeal.S8194x11264.Slices ![o, 0] Cert.GateRefIdeal.S8192x11264) :
    extractStridedSlice Cert.GateRefIdeal.S8192x11264 ![o, 0] (pad Cert.GateRefIdeal.S8194x11264 ![2, 0] ![0, 0] ![0, 0] x
      (sitofp (F := Ideal) .f32 (constantI Cert.GateRefIdeal.S_ 32 0#32)) hp hu) hs
      = above (R := 8192) (fun _ => 0) x k := funext fun y => by
  unfold above
  have hy : (y 0).val < 8192 := (y 0).isLt
  by_cases h : (y 0).val < k
  · rw [if_pos h]
    pointwise
    rw [dif_neg (by omega)]
    simp [FloatOps.sitofp]
  · rw [if_neg h]
    pointwise
    rw [dif_pos (by omega)]
    exact congrArg x (ext2 (show o + (y 0).val - 2 = (y 0).val - k by omega) rfl)

theorem algebraic : Cert.algebraic_GateIdeal_GateRefIdeal := by
  intro m ρ m' ρ' _ he
  refine ⟨gated m, run m ρ, (θ_run _ _ _).mono (fun _ h c => ?_) (Cert.GateRefIdeal.Value.run m' ρ')⟩
  obtain ⟨h0, kept⟩ := h c
  rw [Cert.GateRefIdeal.Value.res_main_v31, (he c).1, (he c).2.1, (he c).2.2, above_pad _ 0 2 rfl, above_pad _ 1 1 rfl,
    above_pad _ 2 0 rfl] at h0
  refine ⟨h0.trans (funext fun y => ?_), kept⟩
  unfold gated columns
  rw [conv_comm]
  pointwise [gate]

end Cert.GateIdeal.Step

end
-- ==== Proof.lean ====
/-
  The certificate's claims. The eight-device gather of the gradients is proved once, over any float values
  (proofs.«01_k».proof.Proof.Gathered); the two programs of the kernel differ in nothing, so each claim about either is
  that one run. The reference's runs are its eight reshapes. The gather of the weights likewise
  (proofs.«01_k».proof.Proof.WeightsGathered); its reference computes nothing, its results being its arguments. The AdamW
  updates run on one device, block by block (proofs.«01_k».proof.Proof.Adam and, for each shape of shard, AdamIn, AdamSquare,
  AdamUp, AdamDown and AdamSmall). So do the other calls: products, norms and their backward passes, the rotary embedding's table, the
  attention to the memory, the gated convolution and the loss, each with a reference of its own (proofs.«01_k».proof.Proof.Forward,
  Backward, Halves, Grad, GradRight, Norm, Attend, NormBack, Loss and Gate, over proofs.«01_k».proof.Proof.Product).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gathered
public import proofs.«01_k».proof.Proof.Gen.Weights
public import proofs.«01_k».proof.Proof.Gen.Weights.Skeleton
public import proofs.«01_k».proof.Proof.Gen.Weights.Launch
public import proofs.«01_k».proof.Proof.Gen.Weights.Points
public import proofs.«01_k».proof.Proof.Gen.Weights.Frame
public import proofs.«01_k».proof.Proof.Gen.WeightsIdeal
public import proofs.«01_k».proof.Proof.Gen.WeightsIdeal.Skeleton
public import proofs.«01_k».proof.Proof.Gen.WeightsIdeal.Launch
public import proofs.«01_k».proof.Proof.Gen.WeightsIdeal.Points
public import proofs.«01_k».proof.Proof.Gen.WeightsIdeal.Frame
public import proofs.«01_k».proof.Proof.Gen.WeightsRefIdeal
public import proofs.«01_k».proof.Proof.Gen.WeightsRef
public import proofs.«01_k».proof.Proof.WeightsGathered
public import proofs.«01_k».proof.Proof.Gen.UpdateIn
public import proofs.«01_k».proof.Proof.Gen.UpdateIn.Frame
public import proofs.«01_k».proof.Proof.Gen.UpdateInIdeal
public import proofs.«01_k».proof.Proof.Gen.UpdateInIdeal.Frame
public import proofs.«01_k».proof.Proof.Gen.UpdateInIdeal.Value
public import proofs.«01_k».proof.Proof.Gen.UpdateInRefIdeal
public import proofs.«01_k».proof.Proof.Gen.UpdateInRefIdeal.Run
public import proofs.«01_k».proof.Proof.Gen.UpdateSquare
public import proofs.«01_k».proof.Proof.Gen.UpdateSquare.Frame
public import proofs.«01_k».proof.Proof.Gen.UpdateSquareIdeal
public import proofs.«01_k».proof.Proof.Gen.UpdateSquareIdeal.Frame
public import proofs.«01_k».proof.Proof.Gen.UpdateSquareIdeal.Value
public import proofs.«01_k».proof.Proof.Gen.UpdateSquareRefIdeal
public import proofs.«01_k».proof.Proof.Gen.UpdateSquareRefIdeal.Run
public import proofs.«01_k».proof.Proof.Gen.UpdateUp
public import proofs.«01_k».proof.Proof.Gen.UpdateUp.Frame
public import proofs.«01_k».proof.Proof.Gen.UpdateUpIdeal
public import proofs.«01_k».proof.Proof.Gen.UpdateUpIdeal.Frame
public import proofs.«01_k».proof.Proof.Gen.UpdateUpIdeal.Value
public import proofs.«01_k».proof.Proof.Gen.UpdateUpRefIdeal
public import proofs.«01_k».proof.Proof.Gen.UpdateUpRefIdeal.Run
public import proofs.«01_k».proof.Proof.Gen.UpdateDown
public import proofs.«01_k».proof.Proof.Gen.UpdateDown.Frame
public import proofs.«01_k».proof.Proof.Gen.UpdateDownIdeal
public import proofs.«01_k».proof.Proof.Gen.UpdateDownIdeal.Frame
public import proofs.«01_k».proof.Proof.Gen.UpdateDownIdeal.Value
public import proofs.«01_k».proof.Proof.Gen.UpdateDownRefIdeal
public import proofs.«01_k».proof.Proof.Gen.UpdateDownRefIdeal.Run
public import proofs.«01_k».proof.Proof.Gen.UpdateSmall
public import proofs.«01_k».proof.Proof.Gen.UpdateSmall.Frame
public import proofs.«01_k».proof.Proof.Gen.UpdateSmallIdeal
public import proofs.«01_k».proof.Proof.Gen.UpdateSmallIdeal.Frame
public import proofs.«01_k».proof.Proof.Gen.UpdateSmallIdeal.Value
public import proofs.«01_k».proof.Proof.Gen.UpdateSmallRefIdeal
public import proofs.«01_k».proof.Proof.Gen.UpdateSmallRefIdeal.Run
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryIdeal.Value
public import proofs.«01_k».proof.Proof.Gen.QueryRefIdeal
public import proofs.«01_k».proof.Proof.Gen.QueryRefIdeal.Run
public import proofs.«01_k».proof.Proof.Gen.GradSquare
public import proofs.«01_k».proof.Proof.Gen.GradSquare.Frame
public import proofs.«01_k».proof.Proof.Gen.GradSquareIdeal
public import proofs.«01_k».proof.Proof.Gen.GradSquareIdeal.Frame
public import proofs.«01_k».proof.Proof.Gen.GradSquareIdeal.Value
public import proofs.«01_k».proof.Proof.Gen.GradSquareRefIdeal
public import proofs.«01_k».proof.Proof.Gen.GradSquareRefIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormMem
public import proofs.«01_k».proof.Proof.Gen.NormMem.Frame
public import proofs.«01_k».proof.Proof.Gen.NormMemIdeal
public import proofs.«01_k».proof.Proof.Gen.NormMemIdeal.Frame
public import proofs.«01_k».proof.Proof.Gen.NormMemIdeal.Value
public import proofs.«01_k».proof.Proof.Gen.NormMemRefIdeal
public import proofs.«01_k».proof.Proof.Gen.NormMemRefIdeal.Run
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Key
public import proofs.«01_k».proof.Proof.Gen.Key.Frame
public import proofs.«01_k».proof.Proof.Gen.KeyIdeal
public import proofs.«01_k».proof.Proof.Gen.KeyIdeal.Frame
public import proofs.«01_k».proof.Proof.Gen.KeyIdeal.Value
public import proofs.«01_k».proof.Proof.Gen.KeyRefIdeal
public import proofs.«01_k».proof.Proof.Gen.KeyRefIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.BackDown
public import proofs.«01_k».proof.Proof.Gen.BackDown.Frame
public import proofs.«01_k».proof.Proof.Gen.BackDownIdeal
public import proofs.«01_k».proof.Proof.Gen.BackDownIdeal.Frame
public import proofs.«01_k».proof.Proof.Gen.BackDownIdeal.Value
public import proofs.«01_k».proof.Proof.Gen.BackDownRefIdeal
public import proofs.«01_k».proof.Proof.Gen.BackDownRefIdeal.Run
public import proofs.«01_k».proof.Proof.Gen.BackSquare
public import proofs.«01_k».proof.Proof.Gen.BackSquare.Frame
public import proofs.«01_k».proof.Proof.Gen.BackSquareIdeal
public import proofs.«01_k».proof.Proof.Gen.BackSquareIdeal.Frame
public import proofs.«01_k».proof.Proof.Gen.BackSquareIdeal.Value
public import proofs.«01_k».proof.Proof.Gen.BackSquareRefIdeal
public import proofs.«01_k».proof.Proof.Gen.BackSquareRefIdeal.Run
public import proofs.«01_k».proof.Proof.Gen.BackHeads
public import proofs.«01_k».proof.Proof.Gen.BackHeads.Frame
public import proofs.«01_k».proof.Proof.Gen.BackHeadsIdeal
public import proofs.«01_k».proof.Proof.Gen.BackHeadsIdeal.Frame
public import proofs.«01_k».proof.Proof.Gen.BackHeadsIdeal.Value
public import proofs.«01_k».proof.Proof.Gen.BackHeadsRefIdeal
public import proofs.«01_k».proof.Proof.Gen.BackHeadsRefIdeal.Run
public import proofs.«01_k».proof.Proof.Gen.BackKey
public import proofs.«01_k».proof.Proof.Gen.BackKey.Frame
public import proofs.«01_k».proof.Proof.Gen.BackKeyIdeal
public import proofs.«01_k».proof.Proof.Gen.BackKeyIdeal.Frame
public import proofs.«01_k».proof.Proof.Gen.BackKeyIdeal.Value
public import proofs.«01_k».proof.Proof.Gen.BackKeyRefIdeal
public import proofs.«01_k».proof.Proof.Gen.BackKeyRefIdeal.Run
public import proofs.«01_k».proof.Proof.Gen.BackValue
public import proofs.«01_k».proof.Proof.Gen.BackValue.Frame
public import proofs.«01_k».proof.Proof.Gen.BackValueIdeal
public import proofs.«01_k».proof.Proof.Gen.BackValueIdeal.Frame
public import proofs.«01_k».proof.Proof.Gen.BackValueIdeal.Value
public import proofs.«01_k».proof.Proof.Gen.BackValueRefIdeal
public import proofs.«01_k».proof.Proof.Gen.BackValueRefIdeal.Run
public import proofs.«01_k».proof.Proof.Gen.BackIn
public import proofs.«01_k».proof.Proof.Gen.BackIn.Frame
public import proofs.«01_k».proof.Proof.Gen.BackInIdeal
public import proofs.«01_k».proof.Proof.Gen.BackInIdeal.Frame
public import proofs.«01_k».proof.Proof.Gen.BackInIdeal.Value
public import proofs.«01_k».proof.Proof.Gen.BackInRefIdeal
public import proofs.«01_k».proof.Proof.Gen.BackInRefIdeal.Run
public import proofs.«01_k».proof.Proof.Gen.GradKey
public import proofs.«01_k».proof.Proof.Gen.GradKey.Frame
public import proofs.«01_k».proof.Proof.Gen.GradKeyIdeal
public import proofs.«01_k».proof.Proof.Gen.GradKeyIdeal.Frame
public import proofs.«01_k».proof.Proof.Gen.GradKeyIdeal.Value
public import proofs.«01_k».proof.Proof.Gen.GradKeyRefIdeal
public import proofs.«01_k».proof.Proof.Gen.GradKeyRefIdeal.Run
public import proofs.«01_k».proof.Proof.Gen.GradIn
public import proofs.«01_k».proof.Proof.Gen.GradIn.Frame
public import proofs.«01_k».proof.Proof.Gen.GradInIdeal
public import proofs.«01_k».proof.Proof.Gen.GradInIdeal.Frame
public import proofs.«01_k».proof.Proof.Gen.GradInIdeal.Value
public import proofs.«01_k».proof.Proof.Gen.GradInRefIdeal
public import proofs.«01_k».proof.Proof.Gen.GradInRefIdeal.Run
public import proofs.«01_k».proof.Proof.Gen.GradDown
public import proofs.«01_k».proof.Proof.Gen.GradDown.Frame
public import proofs.«01_k».proof.Proof.Gen.GradDownIdeal
public import proofs.«01_k».proof.Proof.Gen.GradDownIdeal.Frame
public import proofs.«01_k».proof.Proof.Gen.GradDownIdeal.Value
public import proofs.«01_k».proof.Proof.Gen.GradDownRefIdeal
public import proofs.«01_k».proof.Proof.Gen.GradDownRefIdeal.Run
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeRefIdeal
public import proofs.«01_k».proof.Proof.Gen.RopeRefIdeal.Run
public import proofs.«01_k».proof.Proof.Gen.Attend
public import proofs.«01_k».proof.Proof.Gen.Attend.Frame
public import proofs.«01_k».proof.Proof.Gen.AttendIdeal
public import proofs.«01_k».proof.Proof.Gen.AttendIdeal.Frame
public import proofs.«01_k».proof.Proof.Gen.AttendRefIdeal
public import proofs.«01_k».proof.Proof.Gen.AttendRefIdeal.Run
public import proofs.«01_k».proof.Proof.Gen.NormBack
public import proofs.«01_k».proof.Proof.Gen.NormBack.Frame
public import proofs.«01_k».proof.Proof.Gen.NormBackIdeal
public import proofs.«01_k».proof.Proof.Gen.NormBackIdeal.Frame
public import proofs.«01_k».proof.Proof.Gen.NormBackRefIdeal
public import proofs.«01_k».proof.Proof.Gen.NormBackRefIdeal.Run
public import proofs.«01_k».proof.Proof.Gen.NormBackIn
public import proofs.«01_k».proof.Proof.Gen.NormBackIn.Frame
public import proofs.«01_k».proof.Proof.Gen.NormBackInIdeal
public import proofs.«01_k».proof.Proof.Gen.NormBackInIdeal.Frame
public import proofs.«01_k».proof.Proof.Gen.NormBackInRefIdeal
public import proofs.«01_k».proof.Proof.Gen.NormBackInRefIdeal.Run
public import proofs.«01_k».proof.Proof.Gen.NormBackMem
public import proofs.«01_k».proof.Proof.Gen.NormBackMem.Frame
public import proofs.«01_k».proof.Proof.Gen.NormBackMemIdeal
public import proofs.«01_k».proof.Proof.Gen.NormBackMemIdeal.Frame
public import proofs.«01_k».proof.Proof.Gen.NormBackMemRefIdeal
public import proofs.«01_k».proof.Proof.Gen.NormBackMemRefIdeal.Run
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossRefIdeal
public import proofs.«01_k».proof.Proof.Gen.LossRefIdeal.Run
public import proofs.«01_k».proof.Proof.Gen.BackUpLeft
public import proofs.«01_k».proof.Proof.Gen.BackUpLeft.Frame
public import proofs.«01_k».proof.Proof.Gen.BackUpLeftIdeal
public import proofs.«01_k».proof.Proof.Gen.BackUpLeftIdeal.Frame
public import proofs.«01_k».proof.Proof.Gen.BackUpLeftIdeal.Value
public import proofs.«01_k».proof.Proof.Gen.BackUpLeftRefIdeal
public import proofs.«01_k».proof.Proof.Gen.BackUpLeftRefIdeal.Run
public import proofs.«01_k».proof.Proof.Gen.BackUpRight
public import proofs.«01_k».proof.Proof.Gen.BackUpRight.Frame
public import proofs.«01_k».proof.Proof.Gen.BackUpRightIdeal
public import proofs.«01_k».proof.Proof.Gen.BackUpRightIdeal.Frame
public import proofs.«01_k».proof.Proof.Gen.BackUpRightIdeal.Value
public import proofs.«01_k».proof.Proof.Gen.BackUpRightRefIdeal
public import proofs.«01_k».proof.Proof.Gen.BackUpRightRefIdeal.Run
public import proofs.«01_k».proof.Proof.Gen.GradUpLeft
public import proofs.«01_k».proof.Proof.Gen.GradUpLeft.Frame
public import proofs.«01_k».proof.Proof.Gen.GradUpLeftIdeal
public import proofs.«01_k».proof.Proof.Gen.GradUpLeftIdeal.Frame
public import proofs.«01_k».proof.Proof.Gen.GradUpLeftIdeal.Value
public import proofs.«01_k».proof.Proof.Gen.GradUpLeftRefIdeal
public import proofs.«01_k».proof.Proof.Gen.GradUpLeftRefIdeal.Run
public import proofs.«01_k».proof.Proof.Gen.GradUpRight
public import proofs.«01_k».proof.Proof.Gen.GradUpRight.Frame
public import proofs.«01_k».proof.Proof.Gen.GradUpRightIdeal
public import proofs.«01_k».proof.Proof.Gen.GradUpRightIdeal.Frame
public import proofs.«01_k».proof.Proof.Gen.GradUpRightIdeal.Value
public import proofs.«01_k».proof.Proof.Gen.GradUpRightRefIdeal
public import proofs.«01_k».proof.Proof.Gen.GradUpRightRefIdeal.Run
public import proofs.«01_k».proof.Proof.AdamIn
public import proofs.«01_k».proof.Proof.AdamSquare
public import proofs.«01_k».proof.Proof.AdamUp
public import proofs.«01_k».proof.Proof.AdamDown
public import proofs.«01_k».proof.Proof.AdamSmall
public import proofs.«01_k».proof.Proof.Forward
public import proofs.«01_k».proof.Proof.Halves
public import proofs.«01_k».proof.Proof.Backward
public import proofs.«01_k».proof.Proof.Grad
public import proofs.«01_k».proof.Proof.GradRight
public import proofs.«01_k».proof.Proof.Norm
public import proofs.«01_k».proof.Proof.Attend
public import Idealize.ShloMosaic.Lib.StableHlo.Run
public import Idealize.ShloMosaic.Adequacy
public import Idealize.ShloMosaic.Init
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateRefIdeal
public import proofs.«01_k».proof.Proof.Gen.GateRefIdeal.Run
public import proofs.«01_k».proof.Proof.NormBack
public import proofs.«01_k».proof.Proof.Loss
public import proofs.«01_k».proof.Proof.Gate

@[expose] public section

set_option maxRecDepth 16384

noncomputable section

namespace Cert.Proof

open Idealize.ShloMosaic Idealize.SL.Sem

/-- The kernel ends, from any memory, with its arguments as they were and every semaphore at zero; -/
theorem frame_kernel : Cert.quiescent_Kernel := fun m ρ _ =>
  Cert.KernelIdeal.Grads.run_quiet (F := Bits) m ρ

/-- so does it over the extended reals; -/
theorem frame_kernelIdeal : Cert.quiescent_KernelIdeal := fun m ρ _ =>
  Cert.KernelIdeal.Grads.run_quiet (F := Ideal) m ρ

/-- so does the reference over the extended reals, -/
theorem frame_referenceIdeal : Cert.quiescent_ReferenceIdeal := fun m ρ _ =>
  (θ_run Cert.ReferenceIdeal.defs _ _).mono (fun r h => ⟨fun c => (h c).2.2.2.2.2.2.2.2, sem_eq_zero_of_no_sems (by decide) r.2⟩)
    (Cert.ReferenceIdeal.Value.run (F := Ideal) m ρ)

/-- and over bits. -/
theorem frame_reference : Cert.quiescent_Reference := fun m ρ _ =>
  (θ_run Cert.Reference.defs _ _).mono (fun r h => ⟨fun c => (h c).2.2.2.2.2.2.2.2, sem_eq_zero_of_no_sems (by decide) r.2⟩)
    (Cert.Reference.Value.run (F := Bits) m ρ)

/-- Over the extended reals, every device's results are its parts of the reference's; -/
theorem algebraic_kernel : Cert.algebraic_KernelIdeal_ReferenceIdeal := fun m ρ m' ρ' _ hm =>
  ⟨_, _, _, _, _, _, _, _,
    Cert.KernelIdeal.Grads.run_gathered (F := Ideal) m ρ _ _ _ _ _ _ _ _ hm _ _ _ _ _ _ _ _,
    (θ_run Cert.ReferenceIdeal.defs _ _).mono (fun _ h => h 0) (Cert.ReferenceIdeal.Value.run (F := Ideal) m' ρ')⟩

/-- and over bits. -/
theorem bitexact_kernel : Cert.bitexact_Kernel_Reference := fun m ρ m' ρ' _ hm =>
  ⟨_, _, _, _, _, _, _, _,
    Cert.KernelIdeal.Grads.run_gathered (F := Bits) m ρ _ _ _ _ _ _ _ _ hm _ _ _ _ _ _ _ _,
    (θ_run Cert.Reference.defs _ _).mono (fun _ h => h 0) (Cert.Reference.Value.run (F := Bits) m' ρ')⟩

/-! ## The gather of the weights -/

/-- The gather of the weights ends, from any memory, with its arguments as they were and every semaphore at zero; -/
theorem frame_weights : Cert.quiescent_Weights := fun m ρ _ =>
  Cert.WeightsIdeal.Shards.run_quiet (F := Bits) m ρ

/-- so does it over the extended reals. -/
theorem frame_weightsIdeal : Cert.quiescent_WeightsIdeal := fun m ρ _ =>
  Cert.WeightsIdeal.Shards.run_quiet (F := Ideal) m ρ

/-- Its reference, which has no operation, leaves every buffer as it was, over any float values. -/
theorem run_weightsRef {F : FTy → Type} [FloatOps F]
    (m : (ℓ : Loc Cert.WeightsRefIdeal.nD Cert.WeightsRefIdeal.τ Cert.WeightsRefIdeal.sig) → Buf (Elt F) ℓ) (ρ : Dev Cert.WeightsRefIdeal.nD → PrngReg) :
    θ_run (Cert.WeightsRefIdeal.defs (F := F)) (onTc (τ := Cert.WeightsRefIdeal.τ) (Cert.WeightsRefIdeal.main (F := F))) ⟨m, fun _ => 0, ρ⟩
      (fun r => ∀ (c : Dev Cert.WeightsRefIdeal.nD) (b : Ref Cert.WeightsRefIdeal.sig .tc),
        r.2.mem ((c.tc : Thread Cert.WeightsRefIdeal.nD Cert.WeightsRefIdeal.τ).loc b) = m ((c.tc : Thread Cert.WeightsRefIdeal.nD Cert.WeightsRefIdeal.τ).loc b)) :=
  StableHlo.run_seq (by decide) (by decide) Cert.WeightsRefIdeal.defs Cert.WeightsRefIdeal.main (fun _ => []) (fun _ => rfl) (fun _ => trivial) m ρ

/-- The reference ends, from any memory, with its arguments as they were and every semaphore at zero, -/
theorem frame_weightsRefIdeal : Cert.quiescent_WeightsRefIdeal := fun m ρ _ =>
  (θ_run Cert.WeightsRefIdeal.defs _ _).mono (fun r h => ⟨fun c => ⟨h c Cert.WeightsRefIdeal.main_arg0, h c Cert.WeightsRefIdeal.main_arg1, h c Cert.WeightsRefIdeal.main_arg2, h c Cert.WeightsRefIdeal.main_arg3, h c Cert.WeightsRefIdeal.main_arg4, h c Cert.WeightsRefIdeal.main_arg5, h c Cert.WeightsRefIdeal.main_arg6, h c Cert.WeightsRefIdeal.main_arg7, h c Cert.WeightsRefIdeal.main_arg8, h c Cert.WeightsRefIdeal.main_arg9⟩, sem_eq_zero_of_no_sems (by decide) r.2⟩)
    (run_weightsRef (F := Ideal) m ρ)

/-- and over bits. -/
theorem frame_weightsRef : Cert.quiescent_WeightsRef := fun m ρ _ =>
  (θ_run Cert.WeightsRef.defs _ _).mono (fun r h => ⟨fun c => ⟨h c Cert.WeightsRefIdeal.main_arg0, h c Cert.WeightsRefIdeal.main_arg1, h c Cert.WeightsRefIdeal.main_arg2, h c Cert.WeightsRefIdeal.main_arg3, h c Cert.WeightsRefIdeal.main_arg4, h c Cert.WeightsRefIdeal.main_arg5, h c Cert.WeightsRefIdeal.main_arg6, h c Cert.WeightsRefIdeal.main_arg7, h c Cert.WeightsRefIdeal.main_arg8, h c Cert.WeightsRefIdeal.main_arg9⟩, sem_eq_zero_of_no_sems (by decide) r.2⟩)
    (run_weightsRef (F := Bits) m ρ)

/-- Over the extended reals, every device's results are the reference's; -/
theorem algebraic_weights : Cert.algebraic_WeightsIdeal_WeightsRefIdeal := fun m ρ m' ρ' _ hm =>
  ⟨_, _, _, _, _, _, _, _, _, _,
    Cert.WeightsIdeal.Shards.run_gathered (F := Ideal) m ρ _ _ _ _ _ _ _ _ _ _ hm,
    (θ_run Cert.WeightsRefIdeal.defs _ _).mono (fun _ h => ⟨h 0 Cert.WeightsRefIdeal.main_arg0, h 0 Cert.WeightsRefIdeal.main_arg1, h 0 Cert.WeightsRefIdeal.main_arg2, h 0 Cert.WeightsRefIdeal.main_arg3, h 0 Cert.WeightsRefIdeal.main_arg4, h 0 Cert.WeightsRefIdeal.main_arg5, h 0 Cert.WeightsRefIdeal.main_arg6, h 0 Cert.WeightsRefIdeal.main_arg7, h 0 Cert.WeightsRefIdeal.main_arg8, h 0 Cert.WeightsRefIdeal.main_arg9, h 0 Cert.WeightsRefIdeal.main_arg0, h 0 Cert.WeightsRefIdeal.main_arg1, h 0 Cert.WeightsRefIdeal.main_arg2, h 0 Cert.WeightsRefIdeal.main_arg3, h 0 Cert.WeightsRefIdeal.main_arg4, h 0 Cert.WeightsRefIdeal.main_arg5, h 0 Cert.WeightsRefIdeal.main_arg6, h 0 Cert.WeightsRefIdeal.main_arg7, h 0 Cert.WeightsRefIdeal.main_arg8, h 0 Cert.WeightsRefIdeal.main_arg9⟩)
      (run_weightsRef (F := Ideal) m' ρ')⟩

/-- and over bits. -/
theorem bitexact_weights : Cert.bitexact_Weights_WeightsRef := fun m ρ m' ρ' _ hm =>
  ⟨_, _, _, _, _, _, _, _, _, _,
    Cert.WeightsIdeal.Shards.run_gathered (F := Bits) m ρ _ _ _ _ _ _ _ _ _ _ hm,
    (θ_run Cert.WeightsRef.defs _ _).mono (fun _ h => ⟨h 0 Cert.WeightsRefIdeal.main_arg0, h 0 Cert.WeightsRefIdeal.main_arg1, h 0 Cert.WeightsRefIdeal.main_arg2, h 0 Cert.WeightsRefIdeal.main_arg3, h 0 Cert.WeightsRefIdeal.main_arg4, h 0 Cert.WeightsRefIdeal.main_arg5, h 0 Cert.WeightsRefIdeal.main_arg6, h 0 Cert.WeightsRefIdeal.main_arg7, h 0 Cert.WeightsRefIdeal.main_arg8, h 0 Cert.WeightsRefIdeal.main_arg9, h 0 Cert.WeightsRefIdeal.main_arg0, h 0 Cert.WeightsRefIdeal.main_arg1, h 0 Cert.WeightsRefIdeal.main_arg2, h 0 Cert.WeightsRefIdeal.main_arg3, h 0 Cert.WeightsRefIdeal.main_arg4, h 0 Cert.WeightsRefIdeal.main_arg5, h 0 Cert.WeightsRefIdeal.main_arg6, h 0 Cert.WeightsRefIdeal.main_arg7, h 0 Cert.WeightsRefIdeal.main_arg8, h 0 Cert.WeightsRefIdeal.main_arg9⟩)
      (run_weightsRef (F := Bits) m' ρ')⟩

/-! ## The updates: the generated runs give the frames of the kernels; the references have no semaphores -/

theorem frame_updateInRef : Cert.quiescent_UpdateInRefIdeal := fun m ρ _ =>
  (θ_run Cert.UpdateInRefIdeal.defs _ _).mono (fun r h => ⟨fun c => (h c).2.2.2.2, sem_eq_zero_of_no_sems (by decide) r.2⟩)
    (Cert.UpdateInRefIdeal.Value.run (F := Ideal) m ρ)

theorem frame_updateSquareRef : Cert.quiescent_UpdateSquareRefIdeal := fun m ρ _ =>
  (θ_run Cert.UpdateSquareRefIdeal.defs _ _).mono (fun r h => ⟨fun c => (h c).2.2.2.2, sem_eq_zero_of_no_sems (by decide) r.2⟩)
    (Cert.UpdateSquareRefIdeal.Value.run (F := Ideal) m ρ)

theorem frame_updateUpRef : Cert.quiescent_UpdateUpRefIdeal := fun m ρ _ =>
  (θ_run Cert.UpdateUpRefIdeal.defs _ _).mono (fun r h => ⟨fun c => (h c).2.2.2.2, sem_eq_zero_of_no_sems (by decide) r.2⟩)
    (Cert.UpdateUpRefIdeal.Value.run (F := Ideal) m ρ)

theorem frame_updateDownRef : Cert.quiescent_UpdateDownRefIdeal := fun m ρ _ =>
  (θ_run Cert.UpdateDownRefIdeal.defs _ _).mono (fun r h => ⟨fun c => (h c).2.2.2.2, sem_eq_zero_of_no_sems (by decide) r.2⟩)
    (Cert.UpdateDownRefIdeal.Value.run (F := Ideal) m ρ)

/-! ## The other calls on one device: likewise -/

theorem frame_updateSmallRef : Cert.quiescent_UpdateSmallRefIdeal := fun m ρ _ =>
  (θ_run Cert.UpdateSmallRefIdeal.defs _ _).mono (fun r h => ⟨fun c => (h c).2.2.2.2, sem_eq_zero_of_no_sems (by decide) r.2⟩)
    (Cert.UpdateSmallRefIdeal.Value.run (F := Ideal) m ρ)

theorem frame_normRef : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

theorem frame_normMemRef : Cert.quiescent_NormMemRefIdeal := fun m ρ _ =>
  (θ_run Cert.NormMemRefIdeal.defs _ _).mono (fun r h => ⟨fun c => (h c).2, sem_eq_zero_of_no_sems (by decide) r.2⟩)
    (Cert.NormMemRefIdeal.Value.run (F := Ideal) m ρ)

theorem frame_inRef : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

theorem frame_upRef : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem frame_queryRef : Cert.quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

theorem frame_keyRef : Cert.quiescent_KeyRefIdeal := fun m ρ _ =>
  (θ_run Cert.KeyRefIdeal.defs _ _).mono (fun r h => ⟨fun c => (h c).2, sem_eq_zero_of_no_sems (by decide) r.2⟩)
    (Cert.KeyRefIdeal.Value.run (F := Ideal) m ρ)

theorem frame_outRef : Cert.quiescent_OutRefIdeal := fun m ρ _ =>
  (θ_run Cert.OutRefIdeal.defs _ _).mono (fun r h => ⟨fun c => (h c).2.2, sem_eq_zero_of_no_sems (by decide) r.2⟩)
    (Cert.OutRefIdeal.Value.run (F := Ideal) m ρ)

theorem frame_downRef : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem frame_backDownRef : Cert.quiescent_BackDownRefIdeal := fun m ρ _ =>
  (θ_run Cert.BackDownRefIdeal.defs _ _).mono (fun r h => ⟨fun c => (h c).2, sem_eq_zero_of_no_sems (by decide) r.2⟩)
    (Cert.BackDownRefIdeal.Value.run (F := Ideal) m ρ)

theorem frame_backSquareRef : Cert.quiescent_BackSquareRefIdeal := fun m ρ _ =>
  (θ_run Cert.BackSquareRefIdeal.defs _ _).mono (fun r h => ⟨fun c => (h c).2, sem_eq_zero_of_no_sems (by decide) r.2⟩)
    (Cert.BackSquareRefIdeal.Value.run (F := Ideal) m ρ)

theorem frame_backHeadsRef : Cert.quiescent_BackHeadsRefIdeal := fun m ρ _ =>
  (θ_run Cert.BackHeadsRefIdeal.defs _ _).mono (fun r h => ⟨fun c => (h c).2, sem_eq_zero_of_no_sems (by decide) r.2⟩)
    (Cert.BackHeadsRefIdeal.Value.run (F := Ideal) m ρ)

theorem frame_backKeyRef : Cert.quiescent_BackKeyRefIdeal := fun m ρ _ =>
  (θ_run Cert.BackKeyRefIdeal.defs _ _).mono (fun r h => ⟨fun c => (h c).2, sem_eq_zero_of_no_sems (by decide) r.2⟩)
    (Cert.BackKeyRefIdeal.Value.run (F := Ideal) m ρ)

theorem frame_backValueRef : Cert.quiescent_BackValueRefIdeal := fun m ρ _ =>
  (θ_run Cert.BackValueRefIdeal.defs _ _).mono (fun r h => ⟨fun c => (h c).2, sem_eq_zero_of_no_sems (by decide) r.2⟩)
    (Cert.BackValueRefIdeal.Value.run (F := Ideal) m ρ)

theorem frame_backInRef : Cert.quiescent_BackInRefIdeal := fun m ρ _ =>
  (θ_run Cert.BackInRefIdeal.defs _ _).mono (fun r h => ⟨fun c => (h c).2, sem_eq_zero_of_no_sems (by decide) r.2⟩)
    (Cert.BackInRefIdeal.Value.run (F := Ideal) m ρ)

theorem frame_backUpLeftRef : Cert.quiescent_BackUpLeftRefIdeal := fun m ρ _ =>
  (θ_run Cert.BackUpLeftRefIdeal.defs _ _).mono (fun r h => ⟨fun c => (h c).2, sem_eq_zero_of_no_sems (by decide) r.2⟩)
    (Cert.BackUpLeftRefIdeal.Value.run (F := Ideal) m ρ)

theorem frame_backUpRightRef : Cert.quiescent_BackUpRightRefIdeal := fun m ρ _ =>
  (θ_run Cert.BackUpRightRefIdeal.defs _ _).mono (fun r h => ⟨fun c => (h c).2, sem_eq_zero_of_no_sems (by decide) r.2⟩)
    (Cert.BackUpRightRefIdeal.Value.run (F := Ideal) m ρ)

theorem frame_gradSquareRef : Cert.quiescent_GradSquareRefIdeal := fun m ρ _ =>
  (θ_run Cert.GradSquareRefIdeal.defs _ _).mono (fun r h => ⟨fun c => (h c).2, sem_eq_zero_of_no_sems (by decide) r.2⟩)
    (Cert.GradSquareRefIdeal.Value.run (F := Ideal) m ρ)

theorem frame_gradKeyRef : Cert.quiescent_GradKeyRefIdeal := fun m ρ _ =>
  (θ_run Cert.GradKeyRefIdeal.defs _ _).mono (fun r h => ⟨fun c => (h c).2, sem_eq_zero_of_no_sems (by decide) r.2⟩)
    (Cert.GradKeyRefIdeal.Value.run (F := Ideal) m ρ)

theorem frame_gradInRef : Cert.quiescent_GradInRefIdeal := fun m ρ _ =>
  (θ_run Cert.GradInRefIdeal.defs _ _).mono (fun r h => ⟨fun c => (h c).2, sem_eq_zero_of_no_sems (by decide) r.2⟩)
    (Cert.GradInRefIdeal.Value.run (F := Ideal) m ρ)

theorem frame_gradDownRef : Cert.quiescent_GradDownRefIdeal := fun m ρ _ =>
  (θ_run Cert.GradDownRefIdeal.defs _ _).mono (fun r h => ⟨fun c => (h c).2, sem_eq_zero_of_no_sems (by decide) r.2⟩)
    (Cert.GradDownRefIdeal.Value.run (F := Ideal) m ρ)

theorem frame_gradUpLeftRef : Cert.quiescent_GradUpLeftRefIdeal := fun m ρ _ =>
  (θ_run Cert.GradUpLeftRefIdeal.defs _ _).mono (fun r h => ⟨fun c => (h c).2, sem_eq_zero_of_no_sems (by decide) r.2⟩)
    (Cert.GradUpLeftRefIdeal.Value.run (F := Ideal) m ρ)

theorem frame_gradUpRightRef : Cert.quiescent_GradUpRightRefIdeal := fun m ρ _ =>
  (θ_run Cert.GradUpRightRefIdeal.defs _ _).mono (fun r h => ⟨fun c => (h c).2, sem_eq_zero_of_no_sems (by decide) r.2⟩)
    (Cert.GradUpRightRefIdeal.Value.run (F := Ideal) m ρ)

theorem frame_ropeRef : Cert.quiescent_RopeRefIdeal := fun m ρ _ =>
  (θ_run Cert.RopeRefIdeal.defs _ _).mono (fun r h => ⟨fun c => (h c).2.2, sem_eq_zero_of_no_sems (by decide) r.2⟩)
    (Cert.RopeRefIdeal.Value.run (F := Ideal) m ρ)

theorem frame_attendRef : Cert.quiescent_AttendRefIdeal := fun m ρ _ =>
  (θ_run Cert.AttendRefIdeal.defs _ _).mono (fun r h => ⟨fun c => (h c).2, sem_eq_zero_of_no_sems (by decide) r.2⟩)
    (Cert.AttendRefIdeal.Value.run (F := Ideal) m ρ)

theorem frame_normBackRef : Cert.quiescent_NormBackRefIdeal := fun m ρ _ =>
  (θ_run Cert.NormBackRefIdeal.defs _ _).mono (fun r h => ⟨fun c => (h c).2.2.2, sem_eq_zero_of_no_sems (by decide) r.2⟩)
    (Cert.NormBackRefIdeal.Value.run (F := Ideal) m ρ)

theorem frame_normBackInRef : Cert.quiescent_NormBackInRefIdeal := fun m ρ _ =>
  (θ_run Cert.NormBackInRefIdeal.defs _ _).mono (fun r h => ⟨fun c => (h c).2.2, sem_eq_zero_of_no_sems (by decide) r.2⟩)
    (Cert.NormBackInRefIdeal.Value.run (F := Ideal) m ρ)

theorem frame_normBackMemRef : Cert.quiescent_NormBackMemRefIdeal := fun m ρ _ =>
  (θ_run Cert.NormBackMemRefIdeal.defs _ _).mono (fun r h => ⟨fun c => (h c).2.2, sem_eq_zero_of_no_sems (by decide) r.2⟩)
    (Cert.NormBackMemRefIdeal.Value.run (F := Ideal) m ρ)

theorem frame_lossRef : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

theorem frame_gateRef : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

/-- The certificate. -/
theorem claim : Cert.Claim :=
  ⟨Cert.Kernel.Gen.facts, Cert.KernelIdeal.Gen.facts, Cert.ReferenceIdeal.Gen.facts, Cert.Reference.Gen.facts,
    Cert.Weights.Gen.facts, Cert.WeightsIdeal.Gen.facts, Cert.WeightsRefIdeal.Gen.facts, Cert.WeightsRef.Gen.facts,
    Cert.UpdateIn.Gen.facts, Cert.UpdateInIdeal.Gen.facts, Cert.UpdateInRefIdeal.Gen.facts,
    Cert.UpdateSquare.Gen.facts, Cert.UpdateSquareIdeal.Gen.facts, Cert.UpdateSquareRefIdeal.Gen.facts,
    Cert.UpdateUp.Gen.facts, Cert.UpdateUpIdeal.Gen.facts, Cert.UpdateUpRefIdeal.Gen.facts,
    Cert.UpdateDown.Gen.facts, Cert.UpdateDownIdeal.Gen.facts, Cert.UpdateDownRefIdeal.Gen.facts,
    Cert.UpdateSmall.Gen.facts, Cert.UpdateSmallIdeal.Gen.facts, Cert.UpdateSmallRefIdeal.Gen.facts,
    Cert.Norm.Gen.facts, Cert.NormIdeal.Gen.facts, Cert.NormRefIdeal.Gen.facts,
    Cert.NormMem.Gen.facts, Cert.NormMemIdeal.Gen.facts, Cert.NormMemRefIdeal.Gen.facts,
    Cert.In.Gen.facts, Cert.InIdeal.Gen.facts, Cert.InRefIdeal.Gen.facts,
    Cert.Up.Gen.facts, Cert.UpIdeal.Gen.facts, Cert.UpRefIdeal.Gen.facts,
    Cert.Query.Gen.facts, Cert.QueryIdeal.Gen.facts, Cert.QueryRefIdeal.Gen.facts,
    Cert.Key.Gen.facts, Cert.KeyIdeal.Gen.facts, Cert.KeyRefIdeal.Gen.facts,
    Cert.Out.Gen.facts, Cert.OutIdeal.Gen.facts, Cert.OutRefIdeal.Gen.facts,
    Cert.Down.Gen.facts, Cert.DownIdeal.Gen.facts, Cert.DownRefIdeal.Gen.facts,
    Cert.BackDown.Gen.facts, Cert.BackDownIdeal.Gen.facts, Cert.BackDownRefIdeal.Gen.facts,
    Cert.BackSquare.Gen.facts, Cert.BackSquareIdeal.Gen.facts, Cert.BackSquareRefIdeal.Gen.facts,
    Cert.BackHeads.Gen.facts, Cert.BackHeadsIdeal.Gen.facts, Cert.BackHeadsRefIdeal.Gen.facts,
    Cert.BackKey.Gen.facts, Cert.BackKeyIdeal.Gen.facts, Cert.BackKeyRefIdeal.Gen.facts,
    Cert.BackValue.Gen.facts, Cert.BackValueIdeal.Gen.facts, Cert.BackValueRefIdeal.Gen.facts,
    Cert.BackIn.Gen.facts, Cert.BackInIdeal.Gen.facts, Cert.BackInRefIdeal.Gen.facts,
    Cert.BackUpLeft.Gen.facts, Cert.BackUpLeftIdeal.Gen.facts, Cert.BackUpLeftRefIdeal.Gen.facts,
    Cert.BackUpRight.Gen.facts, Cert.BackUpRightIdeal.Gen.facts, Cert.BackUpRightRefIdeal.Gen.facts,
    Cert.GradSquare.Gen.facts, Cert.GradSquareIdeal.Gen.facts, Cert.GradSquareRefIdeal.Gen.facts,
    Cert.GradKey.Gen.facts, Cert.GradKeyIdeal.Gen.facts, Cert.GradKeyRefIdeal.Gen.facts,
    Cert.GradIn.Gen.facts, Cert.GradInIdeal.Gen.facts, Cert.GradInRefIdeal.Gen.facts,
    Cert.GradDown.Gen.facts, Cert.GradDownIdeal.Gen.facts, Cert.GradDownRefIdeal.Gen.facts,
    Cert.GradUpLeft.Gen.facts, Cert.GradUpLeftIdeal.Gen.facts, Cert.GradUpLeftRefIdeal.Gen.facts,
    Cert.GradUpRight.Gen.facts, Cert.GradUpRightIdeal.Gen.facts, Cert.GradUpRightRefIdeal.Gen.facts,
    Cert.Rope.Gen.facts, Cert.RopeIdeal.Gen.facts, Cert.RopeRefIdeal.Gen.facts,
    Cert.Attend.Gen.facts, Cert.AttendIdeal.Gen.facts, Cert.AttendRefIdeal.Gen.facts,
    Cert.NormBack.Gen.facts, Cert.NormBackIdeal.Gen.facts, Cert.NormBackRefIdeal.Gen.facts,
    Cert.NormBackIn.Gen.facts, Cert.NormBackInIdeal.Gen.facts, Cert.NormBackInRefIdeal.Gen.facts,
    Cert.NormBackMem.Gen.facts, Cert.NormBackMemIdeal.Gen.facts, Cert.NormBackMemRefIdeal.Gen.facts,
    Cert.Loss.Gen.facts, Cert.LossIdeal.Gen.facts, Cert.LossRefIdeal.Gen.facts,
    Cert.Gate.Gen.facts, Cert.GateIdeal.Gen.facts, Cert.GateRefIdeal.Gen.facts,
    frame_kernel, frame_kernelIdeal, frame_referenceIdeal, frame_reference,
    frame_weights, frame_weightsIdeal, frame_weightsRefIdeal, frame_weightsRef,
    fun m ρ _ => Cert.UpdateIn.Gen.frame m ρ, fun m ρ _ => Cert.UpdateInIdeal.Gen.frame m ρ, frame_updateInRef,
    fun m ρ _ => Cert.UpdateSquare.Gen.frame m ρ, fun m ρ _ => Cert.UpdateSquareIdeal.Gen.frame m ρ, frame_updateSquareRef,
    fun m ρ _ => Cert.UpdateUp.Gen.frame m ρ, fun m ρ _ => Cert.UpdateUpIdeal.Gen.frame m ρ, frame_updateUpRef,
    fun m ρ _ => Cert.UpdateDown.Gen.frame m ρ, fun m ρ _ => Cert.UpdateDownIdeal.Gen.frame m ρ, frame_updateDownRef,
    fun m ρ _ => Cert.UpdateSmall.Gen.frame m ρ, fun m ρ _ => Cert.UpdateSmallIdeal.Gen.frame m ρ, frame_updateSmallRef,
    fun m ρ _ => Cert.Norm.Gen.frame m ρ, fun m ρ _ => Cert.NormIdeal.Gen.frame m ρ, frame_normRef,
    fun m ρ _ => Cert.NormMem.Gen.frame m ρ, fun m ρ _ => Cert.NormMemIdeal.Gen.frame m ρ, frame_normMemRef,
    fun m ρ _ => Cert.In.Gen.frame m ρ, fun m ρ _ => Cert.InIdeal.Gen.frame m ρ, frame_inRef,
    fun m ρ _ => Cert.Up.Gen.frame m ρ, fun m ρ _ => Cert.UpIdeal.Gen.frame m ρ, frame_upRef,
    fun m ρ _ => Cert.Query.Gen.frame m ρ, fun m ρ _ => Cert.QueryIdeal.Gen.frame m ρ, frame_queryRef,
    fun m ρ _ => Cert.Key.Gen.frame m ρ, fun m ρ _ => Cert.KeyIdeal.Gen.frame m ρ, frame_keyRef,
    fun m ρ _ => Cert.Out.Gen.frame m ρ, fun m ρ _ => Cert.OutIdeal.Gen.frame m ρ, frame_outRef,
    fun m ρ _ => Cert.Down.Gen.frame m ρ, fun m ρ _ => Cert.DownIdeal.Gen.frame m ρ, frame_downRef,
    fun m ρ _ => Cert.BackDown.Gen.frame m ρ, fun m ρ _ => Cert.BackDownIdeal.Gen.frame m ρ, frame_backDownRef,
    fun m ρ _ => Cert.BackSquare.Gen.frame m ρ, fun m ρ _ => Cert.BackSquareIdeal.Gen.frame m ρ, frame_backSquareRef,
    fun m ρ _ => Cert.BackHeads.Gen.frame m ρ, fun m ρ _ => Cert.BackHeadsIdeal.Gen.frame m ρ, frame_backHeadsRef,
    fun m ρ _ => Cert.BackKey.Gen.frame m ρ, fun m ρ _ => Cert.BackKeyIdeal.Gen.frame m ρ, frame_backKeyRef,
    fun m ρ _ => Cert.BackValue.Gen.frame m ρ, fun m ρ _ => Cert.BackValueIdeal.Gen.frame m ρ, frame_backValueRef,
    fun m ρ _ => Cert.BackIn.Gen.frame m ρ, fun m ρ _ => Cert.BackInIdeal.Gen.frame m ρ, frame_backInRef,
    fun m ρ _ => Cert.BackUpLeft.Gen.frame m ρ, fun m ρ _ => Cert.BackUpLeftIdeal.Gen.frame m ρ, frame_backUpLeftRef,
    fun m ρ _ => Cert.BackUpRight.Gen.frame m ρ, fun m ρ _ => Cert.BackUpRightIdeal.Gen.frame m ρ, frame_backUpRightRef,
    fun m ρ _ => Cert.GradSquare.Gen.frame m ρ, fun m ρ _ => Cert.GradSquareIdeal.Gen.frame m ρ, frame_gradSquareRef,
    fun m ρ _ => Cert.GradKey.Gen.frame m ρ, fun m ρ _ => Cert.GradKeyIdeal.Gen.frame m ρ, frame_gradKeyRef,
    fun m ρ _ => Cert.GradIn.Gen.frame m ρ, fun m ρ _ => Cert.GradInIdeal.Gen.frame m ρ, frame_gradInRef,
    fun m ρ _ => Cert.GradDown.Gen.frame m ρ, fun m ρ _ => Cert.GradDownIdeal.Gen.frame m ρ, frame_gradDownRef,
    fun m ρ _ => Cert.GradUpLeft.Gen.frame m ρ, fun m ρ _ => Cert.GradUpLeftIdeal.Gen.frame m ρ, frame_gradUpLeftRef,
    fun m ρ _ => Cert.GradUpRight.Gen.frame m ρ, fun m ρ _ => Cert.GradUpRightIdeal.Gen.frame m ρ, frame_gradUpRightRef,
    fun m ρ _ => Cert.Rope.Gen.frame m ρ, fun m ρ _ => Cert.RopeIdeal.Gen.frame m ρ, frame_ropeRef,
    fun m ρ _ => Cert.Attend.Gen.frame m ρ, fun m ρ _ => Cert.AttendIdeal.Gen.frame m ρ, frame_attendRef,
    fun m ρ _ => Cert.NormBack.Gen.frame m ρ, fun m ρ _ => Cert.NormBackIdeal.Gen.frame m ρ, frame_normBackRef,
    fun m ρ _ => Cert.NormBackIn.Gen.frame m ρ, fun m ρ _ => Cert.NormBackInIdeal.Gen.frame m ρ, frame_normBackInRef,
    fun m ρ _ => Cert.NormBackMem.Gen.frame m ρ, fun m ρ _ => Cert.NormBackMemIdeal.Gen.frame m ρ, frame_normBackMemRef,
    fun m ρ _ => Cert.Loss.Gen.frame m ρ, fun m ρ _ => Cert.LossIdeal.Gen.frame m ρ, frame_lossRef,
    fun m ρ _ => Cert.Gate.Gen.frame m ρ, fun m ρ _ => Cert.GateIdeal.Gen.frame m ρ, frame_gateRef,
    trivial, algebraic_kernel, bitexact_kernel, trivial, algebraic_weights, bitexact_weights,
    trivial, Cert.UpdateInIdeal.Step.algebraic,
    trivial, Cert.UpdateSquareIdeal.Step.algebraic,
    trivial, Cert.UpdateUpIdeal.Step.algebraic,
    trivial, Cert.UpdateDownIdeal.Step.algebraic,
    trivial, Cert.UpdateSmallIdeal.Step.algebraic,
    trivial, Cert.NormIdeal.Step.algebraic,
    trivial, Cert.NormMemIdeal.Step.algebraic,
    trivial, Cert.InIdeal.Step.algebraic,
    trivial, Cert.UpIdeal.Step.algebraic,
    trivial, Cert.QueryIdeal.Step.algebraic,
    trivial, Cert.KeyIdeal.Step.algebraic,
    trivial, Cert.OutIdeal.Step.algebraic,
    trivial, Cert.DownIdeal.Step.algebraic,
    trivial, Cert.BackDownIdeal.Step.algebraic,
    trivial, Cert.BackSquareIdeal.Step.algebraic,
    trivial, Cert.BackHeadsIdeal.Step.algebraic,
    trivial, Cert.BackKeyIdeal.Step.algebraic,
    trivial, Cert.BackValueIdeal.Step.algebraic,
    trivial, Cert.BackInIdeal.Step.algebraic,
    trivial, Cert.BackUpLeftIdeal.Step.algebraic,
    trivial, Cert.BackUpRightIdeal.Step.algebraic,
    trivial, Cert.GradSquareIdeal.Step.algebraic,
    trivial, Cert.GradKeyIdeal.Step.algebraic,
    trivial, Cert.GradInIdeal.Step.algebraic,
    trivial, Cert.GradDownIdeal.Step.algebraic,
    trivial, Cert.GradUpLeftIdeal.Step.algebraic,
    trivial, Cert.GradUpRightIdeal.Step.algebraic,
    trivial, Cert.RopeIdeal.Step.algebraic,
    trivial, Cert.AttendIdeal.Step.algebraic,
    trivial, Cert.NormBackIdeal.Step.algebraic,
    trivial, Cert.NormBackInIdeal.Step.algebraic,
    trivial, Cert.NormBackMemIdeal.Step.algebraic,
    trivial, Cert.LossIdeal.Step.algebraic,
    trivial, Cert.GateIdeal.Step.algebraic⟩

end Cert.Proof

end
